-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 128, 4096]⟩ ⟨3, ![2, 2048, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 4096]⟩ ⟨3, ![2, 2048, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S256x512 : Shape := ⟨2, ![256, 512]⟩
abbrev S512x256 : Shape := ⟨2, ![512, 256]⟩
abbrev S2x128x4096 : Shape := ⟨3, ![2, 128, 4096]⟩
abbrev S_ : Shape := ⟨0, ![]⟩

class Facts : Prop where
  bcast_S_S256x512 : S_.BroadcastsInDim S256x512 (![] : Fin 0 → Fin S256x512.rank)
  bcast_S_S512x256 : S_.BroadcastsInDim S512x256 (![] : Fin 0 → Fin S512x256.rank)
  bcast_S_S2x128x4096 : S_.BroadcastsInDim S2x128x4096 (![] : Fin 0 → Fin S2x128x4096.rank)

variable [Facts]

def fn {F : FTy → Type} [FloatOps F] (main_arg0 : FVec F S256x512 .f32) (main_arg1 : FVec F S512x256 .f32) (main_arg2 : FVec F S2x128x4096 .f32) (main_arg3 : FVec F S2x128x4096 .f32) (main_arg4 : FVec F S256x512 .f32) : IVec S256x512 1 × IVec S512x256 1 × IVec S2x128x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4096 .f32 := Host.absf main_arg2
  let main_cst_1 : FVec F S_ .f32 := constant S_ .f32 0x7F800000#32
  let main_v7 : FVec F S2x128x4096 .f32 := broadcastInDim S2x128x4096 ![] bcast_S_S2x128x4096 main_cst_1
  let main_v8 : IVec S2x128x4096 1 := cmpf .olt main_v6 main_v7
  (main_v2, main_v5, main_v8)
-- ==== Pre_finite_scores_ReferenceIdeal.lean ====
abbrev S256x512 : Shape := ⟨2, ![256, 512]⟩
abbrev S512x4096 : Shape := ⟨2, ![512, 4096]⟩
abbrev S2x2048x4096 : Shape := ⟨3, ![2, 2048, 4096]⟩
abbrev S4096x512 : Shape := ⟨2, ![4096, 512]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)
  bcast_S_S2x2048x4096 : S_.BroadcastsInDim S2x2048x4096 (![] : Fin 0 → Fin S2x2048x4096.rank)

variable [Facts]

def fn {F : FTy → Type} [FloatOps F] (main_arg0 : FVec F S256x512 .f32) (main_arg1 : FVec F S512x4096 .f32) (main_arg2 : FVec F S2x2048x4096 .f32) (main_arg3 : FVec F S2x2048x4096 .f32) (main_arg4 : FVec F S4096x512 .f32) : IVec S256x512 1 × IVec S512x4096 1 × IVec S2x2048x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_v6 : FVec F S2x2048x4096 .f32 := Host.absf main_arg2
  let main_cst_1 : FVec F S_ .f32 := constant S_ .f32 0x7F800000#32
  let main_v7 : FVec F S2x2048x4096 .f32 := broadcastInDim S2x2048x4096 ![] bcast_S_S2x2048x4096 main_cst_1
  let main_v8 : IVec S2x2048x4096 1 := cmpf .olt main_v6 main_v7
  (main_v2, main_v5, main_v8)
-- ==== Kernel.lean ====
abbrev S256x512 : Shape := ⟨2, ![256, 512]⟩
abbrev S512x256 : Shape := ⟨2, ![512, 256]⟩
abbrev S2x128x4096 : Shape := ⟨3, ![2, 128, 4096]⟩
abbrev S16x4x128x256 : Shape := ⟨4, ![16, 4, 128, 256]⟩
abbrev S4x2048x256 : Shape := ⟨3, ![4, 2048, 256]⟩
abbrev S256x256 : Shape := ⟨2, ![256, 256]⟩
abbrev S16x512 : Shape := ⟨2, ![16, 512]⟩
abbrev S16x16x512 : Shape := ⟨3, ![16, 16, 512]⟩
abbrev S16x2 : Shape := ⟨2, ![16, 2]⟩
abbrev S16 : Shape := ⟨1, ![16]⟩
abbrev S_ : Shape := ⟨0, ![]⟩
abbrev S2x128x256 : Shape := ⟨3, ![2, 128, 256]⟩
abbrev S1x2x128x256 : Shape := ⟨4, ![1, 2, 128, 256]⟩
abbrev S1x4x128x256 : Shape := ⟨4, ![1, 4, 128, 256]⟩
abbrev S4x128x256 : Shape := ⟨3, ![4, 128, 256]⟩
abbrev S1x1 : Shape := ⟨2, ![1, 1]⟩
abbrev S4x64x256 : Shape := ⟨3, ![4, 64, 256]⟩
abbrev S1x4x64x256 : Shape := ⟨4, ![1, 4, 64, 256]⟩
abbrev S1x2048 : Shape := ⟨2, ![1, 2048]⟩
abbrev S128x1 : Shape := ⟨2, ![128, 1]⟩
abbrev S128x2048 : Shape := ⟨2, ![128, 2048]⟩
abbrev S2048x1 : Shape := ⟨2, ![2048, 1]⟩
abbrev S128x64 : Shape := ⟨2, ![128, 64]⟩
abbrev S1x1024x64 : Shape := ⟨3, ![1, 1024, 64]⟩
abbrev S1024x64 : Shape := ⟨2, ![1024, 64]⟩
abbrev S1024x1 : Shape := ⟨2, ![1024, 1]⟩
abbrev S128x1024 : Shape := ⟨2, ![128, 1024]⟩
abbrev S128 : Shape := ⟨1, ![128]⟩
abbrev S1 : Shape := ⟨1, ![1]⟩
abbrev S1x16x512 : Shape := ⟨3, ![1, 16, 512]⟩

abbrev nBuf : Space → Nat
  | .hbm => 6
  | .vmem => 13
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .hbm, ⟨2, _⟩ => ⟨S2x128x4096, .f32⟩
  | .hbm, ⟨3, _⟩ => ⟨S2x128x4096, .f32⟩
  | .hbm, ⟨4, _⟩ => ⟨S256x512, .f32⟩
  | .hbm, ⟨5, _⟩ => ⟨S256x512, .f32⟩
  | .local _ .vmem, ⟨0, _⟩ => ⟨S256x512, .f32⟩
  | .local _ .vmem, ⟨1, _⟩ => ⟨S512x256, .f32⟩
  | .local _ .vmem, ⟨2, _⟩ => ⟨S2x128x4096, .f32⟩
  | .local _ .vmem, ⟨3, _⟩ => ⟨S2x128x4096, .f32⟩
  | .local _ .vmem, ⟨4, _⟩ => ⟨S256x512, .f32⟩
  | .local _ .vmem, ⟨5, _⟩ => ⟨S256x512, .f32⟩
  | .local _ .vmem, ⟨6, _⟩ => ⟨S16x4x128x256, .bf16⟩
  | .local _ .vmem, ⟨7, _⟩ => ⟨S4x2048x256, .bf16⟩
  | .local _ .vmem, ⟨8, _⟩ => ⟨S256x256, .f32⟩
  | .local _ .vmem, ⟨9, _⟩ => ⟨S256x512, .bf16⟩
  | .local _ .vmem, ⟨10, _⟩ => ⟨S16x512, .bf16⟩
  | .local _ .vmem, ⟨11, _⟩ => ⟨S256x512, .bf16⟩
  | .local _ .vmem, ⟨12, _⟩ => ⟨S16x16x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v391 : Index := Scalar.indexCast v2
  let c0_329 : Index := 0#32
  let c0_330 : Index := 0#32
  let c0_331 : Index := 0#32
  ![v391.toNat, 0, 0, 0]
def k0_cond1 (d0 : Dev nD) : BitVec 1 :=
  let c2_i32_342 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v408 : BitVec 32 := Scalar.muli c2_i32_342 v2
  let c0_i32_343 : BitVec 32 := 0#32
  let v409 : BitVec 32 := Scalar.addi v408 c0_i32_343
  let c2_i32_344 : BitVec 32 := 2#32
  let v410 : BitVec 1 := Scalar.cmpi .slt v409 c2_i32_344
  let c3_i32_345 : BitVec 32 := 3#32
  let c0_i32_346 : BitVec 32 := 0#32
  let v411 : BitVec 1 := Scalar.cmpi .eq c3_i32_345 c0_i32_346
  let c1_i32_347 : BitVec 32 := 1#32
  let v412 : BitVec 32 := Scalar.select v411 c1_i32_347 c3_i32_345
  let v413 : BitVec 32 := Scalar.remsi v409 v412
  let c0_i32_349 : BitVec 32 := 0#32
  let v415 : BitVec 1 := Scalar.cmpi .slt v413 c0_i32_349
  let c0_i32_350 : BitVec 32 := 0#32
  let v416 : BitVec 1 := Scalar.cmpi .slt v412 c0_i32_350
  let v417 : BitVec 1 := Scalar.xori v415 v416
  let c0_i32_348 : BitVec 32 := 0#32
  let v414 : BitVec 1 := Scalar.cmpi .ne v413 c0_i32_348
  let v418 : BitVec 1 := Scalar.andi v417 v414
  let v419 : BitVec 32 := Scalar.addi v413 v412
  let v420 : BitVec 32 := Scalar.select v418 v419 v413
  let c1_i32_351 : BitVec 32 := 1#32
  let v421 : BitVec 1 := Scalar.cmpi .ne v420 c1_i32_351
  let v422 : BitVec 1 := Scalar.ori v410 v421
  let v423 : BitVec 32 := Scalar.extui v422
  let c0_i32_356 : BitVec 32 := 0#32
  let v424 : BitVec 1 := Scalar.cmpi .ne v423 c0_i32_356
  v424

def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v397 : BitVec 32 := Scalar.addi v2 c1_i32_335
  let c16_i32_336 : BitVec 32 := 16#32
  let c0_i32_337 : BitVec 32 := 0#32
  let v398 : BitVec 1 := Scalar.cmpi .eq c16_i32_336 c0_i32_337
  let c1_i32_338 : BitVec 32 := 1#32
  let v399 : BitVec 32 := Scalar.select v398 c1_i32_338 c16_i32_336
  let v400 : BitVec 32 := Scalar.remsi v397 v399
  let c0_i32_340 : BitVec 32 := 0#32
  let v402 : BitVec 1 := Scalar.cmpi .slt v400 c0_i32_340
  let c0_i32_341 : BitVec 32 := 0#32
  let v403 : BitVec 1 := Scalar.cmpi .slt v399 c0_i32_341
  let v404 : BitVec 1 := Scalar.xori v402 v403
  let c0_i32_339 : BitVec 32 := 0#32
  let v401 : BitVec 1 := Scalar.cmpi .ne v400 c0_i32_339
  let v405 : BitVec 1 := Scalar.andi v404 v401
  let v406 : BitVec 32 := Scalar.addi v400 v399
  let v407 : BitVec 32 := Scalar.select v405 v406 v400
  let c0_i32_3333 : BitVec 32 := 0#32
  let c0_i32_3334 : BitVec 32 := 0#32
  let c0_i32_3335 : BitVec 32 := 0#32
  ![v407.toNat, 0, 0, 0]
def k0_dev16 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v397 : BitVec 32 := Scalar.addi v2 c1_i32_335
  let c16_i32_336 : BitVec 32 := 16#32
  let c0_i32_337 : BitVec 32 := 0#32
  let v398 : BitVec 1 := Scalar.cmpi .eq c16_i32_336 c0_i32_337
  let c1_i32_338 : BitVec 32 := 1#32
  let v399 : BitVec 32 := Scalar.select v398 c1_i32_338 c16_i32_336
  let v400 : BitVec 32 := Scalar.remsi v397 v399
  let c0_i32_340 : BitVec 32 := 0#32
  let v402 : BitVec 1 := Scalar.cmpi .slt v400 c0_i32_340
  let c0_i32_341 : BitVec 32 := 0#32
  let v403 : BitVec 1 := Scalar.cmpi .slt v399 c0_i32_341
  let v404 : BitVec 1 := Scalar.xori v402 v403
  let c0_i32_339 : BitVec 32 := 0#32
  let v401 : BitVec 1 := Scalar.cmpi .ne v400 c0_i32_339
  let v405 : BitVec 1 := Scalar.andi v404 v401
  let v406 : BitVec 32 := Scalar.addi v400 v399
  let v407 : BitVec 32 := Scalar.select v405 v406 v400
  let c1_i32_3328 : BitVec 32 := 1#32
  let v4420 : BitVec 32 := Scalar.muli v407 c1_i32_3328
  let v4421 : BitVec 32 := Scalar.addi c0_i32_3329 v4420
  v4421.toNat
def k0_cond2 (d0 : Dev nD) : BitVec 1 :=
  let c2_i32_357 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v425 : BitVec 32 := Scalar.muli c2_i32_357 v2
  let c1_i32_358 : BitVec 32 := 1#32
  let v426 : BitVec 32 := Scalar.addi v425 c1_i32_358
  let c2_i32_359 : BitVec 32 := 2#32
  let v427 : BitVec 1 := Scalar.cmpi .slt v426 c2_i32_359
  let c3_i32_360 : BitVec 32 := 3#32
  let c0_i32_361 : BitVec 32 := 0#32
  let v428 : BitVec 1 := Scalar.cmpi .eq c3_i32_360 c0_i32_361
  let c1_i32_362 : BitVec 32 := 1#32
  let v429 : BitVec 32 := Scalar.select v428 c1_i32_362 c3_i32_360
  let v430 : BitVec 32 := Scalar.remsi v426 v429
  let c0_i32_364 : BitVec 32 := 0#32
  let v432 : BitVec 1 := Scalar.cmpi .slt v430 c0_i32_364
  let c0_i32_365 : BitVec 32 := 0#32
  let v433 : BitVec 1 := Scalar.cmpi .slt v429 c0_i32_365
  let v434 : BitVec 1 := Scalar.xori v432 v433
  let c0_i32_363 : BitVec 32 := 0#32
  let v431 : BitVec 1 := Scalar.cmpi .ne v430 c0_i32_363
  let v435 : BitVec 1 := Scalar.andi v434 v431
  let v436 : BitVec 32 := Scalar.addi v430 v429
  let v437 : BitVec 32 := Scalar.select v435 v436 v430
  let c1_i32_366 : BitVec 32 := 1#32
  let v438 : BitVec 1 := Scalar.cmpi .ne v437 c1_i32_366
  let v439 : BitVec 1 := Scalar.ori v427 v438
  let v440 : BitVec 32 := Scalar.extui v439
  let c0_i32_371 : BitVec 32 := 0#32
  let v441 : BitVec 1 := Scalar.cmpi .ne v440 c0_i32_371
  v441

def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v397 : BitVec 32 := Scalar.addi v2 c1_i32_335
  let c16_i32_336 : BitVec 32 := 16#32
  let c0_i32_337 : BitVec 32 := 0#32
  let v398 : BitVec 1 := Scalar.cmpi .eq c16_i32_336 c0_i32_337
  let c1_i32_338 : BitVec 32 := 1#32
  let v399 : BitVec 32 := Scalar.select v398 c1_i32_338 c16_i32_336
  let v400 : BitVec 32 := Scalar.remsi v397 v399
  let c0_i32_340 : BitVec 32 := 0#32
  let v402 : BitVec 1 := Scalar.cmpi .slt v400 c0_i32_340
  let c0_i32_341 : BitVec 32 := 0#32
  let v403 : BitVec 1 := Scalar.cmpi .slt v399 c0_i32_341
  let v404 : BitVec 1 := Scalar.xori v402 v403
  let c0_i32_339 : BitVec 32 := 0#32
  let v401 : BitVec 1 := Scalar.cmpi .ne v400 c0_i32_339
  let v405 : BitVec 1 := Scalar.andi v404 v401
  let v406 : BitVec 32 := Scalar.addi v400 v399
  let v407 : BitVec 32 := Scalar.select v405 v406 v400
  let c0_i32_3332 : BitVec 32 := 0#32
  let c64_i32_3333 : BitVec 32 := 64#32
  let c0_i32_3334 : BitVec 32 := 0#32
  ![v407.toNat, 0, 64, 0]
def k0_dev17 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v397 : BitVec 32 := Scalar.addi v2 c1_i32_335
  let c16_i32_336 : BitVec 32 := 16#32
  let c0_i32_337 : BitVec 32 := 0#32
  let v398 : BitVec 1 := Scalar.cmpi .eq c16_i32_336 c0_i32_337
  let c1_i32_338 : BitVec 32 := 1#32
  let v399 : BitVec 32 := Scalar.select v398 c1_i32_338 c16_i32_336
  let v400 : BitVec 32 := Scalar.remsi v397 v399
  let c0_i32_340 : BitVec 32 := 0#32
  let v402 : BitVec 1 := Scalar.cmpi .slt v400 c0_i32_340
  let c0_i32_341 : BitVec 32 := 0#32
  let v403 : BitVec 1 := Scalar.cmpi .slt v399 c0_i32_341
  let v404 : BitVec 1 := Scalar.xori v402 v403
  let c0_i32_339 : BitVec 32 := 0#32
  let v401 : BitVec 1 := Scalar.cmpi .ne v400 c0_i32_339
  let v405 : BitVec 1 := Scalar.andi v404 v401
  let v406 : BitVec 32 := Scalar.addi v400 v399
  let v407 : BitVec 32 := Scalar.select v405 v406 v400
  let c1_i32_3328 : BitVec 32 := 1#32
  let v4420 : BitVec 32 := Scalar.muli v407 c1_i32_3328
  let v4421 : BitVec 32 := Scalar.addi c0_i32_3329 v4420
  v4421.toNat
def k0_cond3 (d0 : Dev nD) : BitVec 1 :=
  let c2_i32_379 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v453 : BitVec 32 := Scalar.muli c2_i32_379 v2
  let c0_i32_380 : BitVec 32 := 0#32
  let v454 : BitVec 32 := Scalar.addi v453 c0_i32_380
  let c2_i32_381 : BitVec 32 := 2#32
  let v455 : BitVec 1 := Scalar.cmpi .slt v454 c2_i32_381
  let c3_i32_382 : BitVec 32 := 3#32
  let c0_i32_383 : BitVec 32 := 0#32
  let v456 : BitVec 1 := Scalar.cmpi .eq c3_i32_382 c0_i32_383
  let c1_i32_384 : BitVec 32 := 1#32
  let v457 : BitVec 32 := Scalar.select v456 c1_i32_384 c3_i32_382
  let v458 : BitVec 32 := Scalar.remsi v454 v457
  let c0_i32_386 : BitVec 32 := 0#32
  let v460 : BitVec 1 := Scalar.cmpi .slt v458 c0_i32_386
  let c0_i32_387 : BitVec 32 := 0#32
  let v461 : BitVec 1 := Scalar.cmpi .slt v457 c0_i32_387
  let v462 : BitVec 1 := Scalar.xori v460 v461
  let c0_i32_385 : BitVec 32 := 0#32
  let v459 : BitVec 1 := Scalar.cmpi .ne v458 c0_i32_385
  let v463 : BitVec 1 := Scalar.andi v462 v459
  let v464 : BitVec 32 := Scalar.addi v458 v457
  let v465 : BitVec 32 := Scalar.select v463 v464 v458
  let c1_i32_388 : BitVec 32 := 1#32
  let v466 : BitVec 1 := Scalar.cmpi .ne v465 c1_i32_388
  let v467 : BitVec 1 := Scalar.ori v455 v466
  let v468 : BitVec 32 := Scalar.extui v467
  let c0_i32_393 : BitVec 32 := 0#32
  let v469 : BitVec 1 := Scalar.cmpi .ne v468 c0_i32_393
  v469

def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_372 : BitVec 32 := 2#32
  let v442 : BitVec 32 := Scalar.addi v2 c2_i32_372
  let c16_i32_373 : BitVec 32 := 16#32
  let c0_i32_374 : BitVec 32 := 0#32
  let v443 : BitVec 1 := Scalar.cmpi .eq c16_i32_373 c0_i32_374
  let c1_i32_375 : BitVec 32 := 1#32
  let v444 : BitVec 32 := Scalar.select v443 c1_i32_375 c16_i32_373
  let v445 : BitVec 32 := Scalar.remsi v442 v444
  let c0_i32_377 : BitVec 32 := 0#32
  let v447 : BitVec 1 := Scalar.cmpi .slt v445 c0_i32_377
  let c0_i32_378 : BitVec 32 := 0#32
  let v448 : BitVec 1 := Scalar.cmpi .slt v444 c0_i32_378
  let v449 : BitVec 1 := Scalar.xori v447 v448
  let c0_i32_376 : BitVec 32 := 0#32
  let v446 : BitVec 1 := Scalar.cmpi .ne v445 c0_i32_376
  let v450 : BitVec 1 := Scalar.andi v449 v446
  let v451 : BitVec 32 := Scalar.addi v445 v444
  let v452 : BitVec 32 := Scalar.select v450 v451 v445
  let c0_i32_3332 : BitVec 32 := 0#32
  let c0_i32_3333 : BitVec 32 := 0#32
  let c0_i32_3334 : BitVec 32 := 0#32
  ![v452.toNat, 0, 0, 0]
def k0_dev18 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_372 : BitVec 32 := 2#32
  let v442 : BitVec 32 := Scalar.addi v2 c2_i32_372
  let c16_i32_373 : BitVec 32 := 16#32
  let c0_i32_374 : BitVec 32 := 0#32
  let v443 : BitVec 1 := Scalar.cmpi .eq c16_i32_373 c0_i32_374
  let c1_i32_375 : BitVec 32 := 1#32
  let v444 : BitVec 32 := Scalar.select v443 c1_i32_375 c16_i32_373
  let v445 : BitVec 32 := Scalar.remsi v442 v444
  let c0_i32_377 : BitVec 32 := 0#32
  let v447 : BitVec 1 := Scalar.cmpi .slt v445 c0_i32_377
  let c0_i32_378 : BitVec 32 := 0#32
  let v448 : BitVec 1 := Scalar.cmpi .slt v444 c0_i32_378
  let v449 : BitVec 1 := Scalar.xori v447 v448
  let c0_i32_376 : BitVec 32 := 0#32
  let v446 : BitVec 1 := Scalar.cmpi .ne v445 c0_i32_376
  let v450 : BitVec 1 := Scalar.andi v449 v446
  let v451 : BitVec 32 := Scalar.addi v445 v444
  let v452 : BitVec 32 := Scalar.select v450 v451 v445
  let c1_i32_3328 : BitVec 32 := 1#32
  let v4420 : BitVec 32 := Scalar.muli v452 c1_i32_3328
  let v4421 : BitVec 32 := Scalar.addi c0_i32_3329 v4420
  v4421.toNat
def k0_cond4 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v470 : BitVec 32 := Scalar.muli c2_i32_394 v2
  let c1_i32_395 : BitVec 32 := 1#32
  let v471 : BitVec 32 := Scalar.addi v470 c1_i32_395
  let c2_i32_396 : BitVec 32 := 2#32
  let v472 : BitVec 1 := Scalar.cmpi .slt v471 c2_i32_396
  let c3_i32_397 : BitVec 32 := 3#32
  let c0_i32_398 : BitVec 32 := 0#32
  let v473 : BitVec 1 := Scalar.cmpi .eq c3_i32_397 c0_i32_398
  let c1_i32_399 : BitVec 32 := 1#32
  let v474 : BitVec 32 := Scalar.select v473 c1_i32_399 c3_i32_397
  let v475 : BitVec 32 := Scalar.remsi v471 v474
  let c0_i32_401 : BitVec 32 := 0#32
  let v477 : BitVec 1 := Scalar.cmpi .slt v475 c0_i32_401
  let c0_i32_402 : BitVec 32 := 0#32
  let v478 : BitVec 1 := Scalar.cmpi .slt v474 c0_i32_402
  let v479 : BitVec 1 := Scalar.xori v477 v478
  let c0_i32_400 : BitVec 32 := 0#32
  let v476 : BitVec 1 := Scalar.cmpi .ne v475 c0_i32_400
  let v480 : BitVec 1 := Scalar.andi v479 v476
  let v481 : BitVec 32 := Scalar.addi v475 v474
  let v482 : BitVec 32 := Scalar.select v480 v481 v475
  let c1_i32_403 : BitVec 32 := 1#32
  let v483 : BitVec 1 := Scalar.cmpi .ne v482 c1_i32_403
  let v484 : BitVec 1 := Scalar.ori v472 v483
  let v485 : BitVec 32 := Scalar.extui v484
  let c0_i32_408 : BitVec 32 := 0#32
  let v486 : BitVec 1 := Scalar.cmpi .ne v485 c0_i32_408
  v486

def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_372 : BitVec 32 := 2#32
  let v442 : BitVec 32 := Scalar.addi v2 c2_i32_372
  let c16_i32_373 : BitVec 32 := 16#32
  let c0_i32_374 : BitVec 32 := 0#32
  let v443 : BitVec 1 := Scalar.cmpi .eq c16_i32_373 c0_i32_374
  let c1_i32_375 : BitVec 32 := 1#32
  let v444 : BitVec 32 := Scalar.select v443 c1_i32_375 c16_i32_373
  let v445 : BitVec 32 := Scalar.remsi v442 v444
  let c0_i32_377 : BitVec 32 := 0#32
  let v447 : BitVec 1 := Scalar.cmpi .slt v445 c0_i32_377
  let c0_i32_378 : BitVec 32 := 0#32
  let v448 : BitVec 1 := Scalar.cmpi .slt v444 c0_i32_378
  let v449 : BitVec 1 := Scalar.xori v447 v448
  let c0_i32_376 : BitVec 32 := 0#32
  let v446 : BitVec 1 := Scalar.cmpi .ne v445 c0_i32_376
  let v450 : BitVec 1 := Scalar.andi v449 v446
  let v451 : BitVec 32 := Scalar.addi v445 v444
  let v452 : BitVec 32 := Scalar.select v450 v451 v445
  let c0_i32_3332 : BitVec 32 := 0#32
  let c64_i32_3333 : BitVec 32 := 64#32
  let c0_i32_3334 : BitVec 32 := 0#32
  ![v452.toNat, 0, 64, 0]
def k0_dev19 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_372 : BitVec 32 := 2#32
  let v442 : BitVec 32 := Scalar.addi v2 c2_i32_372
  let c16_i32_373 : BitVec 32 := 16#32
  let c0_i32_374 : BitVec 32 := 0#32
  let v443 : BitVec 1 := Scalar.cmpi .eq c16_i32_373 c0_i32_374
  let c1_i32_375 : BitVec 32 := 1#32
  let v444 : BitVec 32 := Scalar.select v443 c1_i32_375 c16_i32_373
  let v445 : BitVec 32 := Scalar.remsi v442 v444
  let c0_i32_377 : BitVec 32 := 0#32
  let v447 : BitVec 1 := Scalar.cmpi .slt v445 c0_i32_377
  let c0_i32_378 : BitVec 32 := 0#32
  let v448 : BitVec 1 := Scalar.cmpi .slt v444 c0_i32_378
  let v449 : BitVec 1 := Scalar.xori v447 v448
  let c0_i32_376 : BitVec 32 := 0#32
  let v446 : BitVec 1 := Scalar.cmpi .ne v445 c0_i32_376
  let v450 : BitVec 1 := Scalar.andi v449 v446
  let v451 : BitVec 32 := Scalar.addi v445 v444
  let v452 : BitVec 32 := Scalar.select v450 v451 v445
  let c1_i32_3328 : BitVec 32 := 1#32
  let v4420 : BitVec 32 := Scalar.muli v452 c1_i32_3328
  let v4421 : BitVec 32 := Scalar.addi c0_i32_3329 v4420
  v4421.toNat
def k0_cond5 (d0 : Dev nD) : BitVec 1 :=
  let c2_i32_416 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v498 : BitVec 32 := Scalar.muli c2_i32_416 v2
  let c0_i32_417 : BitVec 32 := 0#32
  let v499 : BitVec 32 := Scalar.addi v498 c0_i32_417
  let c2_i32_418 : BitVec 32 := 2#32
  let v500 : BitVec 1 := Scalar.cmpi .slt v499 c2_i32_418
  let c3_i32_419 : BitVec 32 := 3#32
  let c0_i32_420 : BitVec 32 := 0#32
  let v501 : BitVec 1 := Scalar.cmpi .eq c3_i32_419 c0_i32_420
  let c1_i32_421 : BitVec 32 := 1#32
  let v502 : BitVec 32 := Scalar.select v501 c1_i32_421 c3_i32_419
  let v503 : BitVec 32 := Scalar.remsi v499 v502
  let c0_i32_423 : BitVec 32 := 0#32
  let v505 : BitVec 1 := Scalar.cmpi .slt v503 c0_i32_423
  let c0_i32_424 : BitVec 32 := 0#32
  let v506 : BitVec 1 := Scalar.cmpi .slt v502 c0_i32_424
  let v507 : BitVec 1 := Scalar.xori v505 v506
  let c0_i32_422 : BitVec 32 := 0#32
  let v504 : BitVec 1 := Scalar.cmpi .ne v503 c0_i32_422
  let v508 : BitVec 1 := Scalar.andi v507 v504
  let v509 : BitVec 32 := Scalar.addi v503 v502
  let v510 : BitVec 32 := Scalar.select v508 v509 v503
  let c1_i32_425 : BitVec 32 := 1#32
  let v511 : BitVec 1 := Scalar.cmpi .ne v510 c1_i32_425
  let v512 : BitVec 1 := Scalar.ori v500 v511
  let v513 : BitVec 32 := Scalar.extui v512
  let c0_i32_430 : BitVec 32 := 0#32
  let v514 : BitVec 1 := Scalar.cmpi .ne v513 c0_i32_430
  v514

def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v487 : BitVec 32 := Scalar.addi v2 c3_i32_409
  let c16_i32_410 : BitVec 32 := 16#32
  let c0_i32_411 : BitVec 32 := 0#32
  let v488 : BitVec 1 := Scalar.cmpi .eq c16_i32_410 c0_i32_411
  let c1_i32_412 : BitVec 32 := 1#32
  let v489 : BitVec 32 := Scalar.select v488 c1_i32_412 c16_i32_410
  let v490 : BitVec 32 := Scalar.remsi v487 v489
  let c0_i32_414 : BitVec 32 := 0#32
  let v492 : BitVec 1 := Scalar.cmpi .slt v490 c0_i32_414
  let c0_i32_415 : BitVec 32 := 0#32
  let v493 : BitVec 1 := Scalar.cmpi .slt v489 c0_i32_415
  let v494 : BitVec 1 := Scalar.xori v492 v493
  let c0_i32_413 : BitVec 32 := 0#32
  let v491 : BitVec 1 := Scalar.cmpi .ne v490 c0_i32_413
  let v495 : BitVec 1 := Scalar.andi v494 v491
  let v496 : BitVec 32 := Scalar.addi v490 v489
  let v497 : BitVec 32 := Scalar.select v495 v496 v490
  let c0_i32_3332 : BitVec 32 := 0#32
  let c0_i32_3333 : BitVec 32 := 0#32
  let c0_i32_3334 : BitVec 32 := 0#32
  ![v497.toNat, 0, 0, 0]
def k0_dev20 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v487 : BitVec 32 := Scalar.addi v2 c3_i32_409
  let c16_i32_410 : BitVec 32 := 16#32
  let c0_i32_411 : BitVec 32 := 0#32
  let v488 : BitVec 1 := Scalar.cmpi .eq c16_i32_410 c0_i32_411
  let c1_i32_412 : BitVec 32 := 1#32
  let v489 : BitVec 32 := Scalar.select v488 c1_i32_412 c16_i32_410
  let v490 : BitVec 32 := Scalar.remsi v487 v489
  let c0_i32_414 : BitVec 32 := 0#32
  let v492 : BitVec 1 := Scalar.cmpi .slt v490 c0_i32_414
  let c0_i32_415 : BitVec 32 := 0#32
  let v493 : BitVec 1 := Scalar.cmpi .slt v489 c0_i32_415
  let v494 : BitVec 1 := Scalar.xori v492 v493
  let c0_i32_413 : BitVec 32 := 0#32
  let v491 : BitVec 1 := Scalar.cmpi .ne v490 c0_i32_413
  let v495 : BitVec 1 := Scalar.andi v494 v491
  let v496 : BitVec 32 := Scalar.addi v490 v489
  let v497 : BitVec 32 := Scalar.select v495 v496 v490
  let c1_i32_3328 : BitVec 32 := 1#32
  let v4420 : BitVec 32 := Scalar.muli v497 c1_i32_3328
  let v4421 : BitVec 32 := Scalar.addi c0_i32_3329 v4420
  v4421.toNat
def k0_cond6 (d0 : Dev nD) : BitVec 1 :=
  let c2_i32_431 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v515 : BitVec 32 := Scalar.muli c2_i32_431 v2
  let c1_i32_432 : BitVec 32 := 1#32
  let v516 : BitVec 32 := Scalar.addi v515 c1_i32_432
  let c2_i32_433 : BitVec 32 := 2#32
  let v517 : BitVec 1 := Scalar.cmpi .slt v516 c2_i32_433
  let c3_i32_434 : BitVec 32 := 3#32
  let c0_i32_435 : BitVec 32 := 0#32
  let v518 : BitVec 1 := Scalar.cmpi .eq c3_i32_434 c0_i32_435
  let c1_i32_436 : BitVec 32 := 1#32
  let v519 : BitVec 32 := Scalar.select v518 c1_i32_436 c3_i32_434
  let v520 : BitVec 32 := Scalar.remsi v516 v519
  let c0_i32_438 : BitVec 32 := 0#32
  let v522 : BitVec 1 := Scalar.cmpi .slt v520 c0_i32_438
  let c0_i32_439 : BitVec 32 := 0#32
  let v523 : BitVec 1 := Scalar.cmpi .slt v519 c0_i32_439
  let v524 : BitVec 1 := Scalar.xori v522 v523
  let c0_i32_437 : BitVec 32 := 0#32
  let v521 : BitVec 1 := Scalar.cmpi .ne v520 c0_i32_437
  let v525 : BitVec 1 := Scalar.andi v524 v521
  let v526 : BitVec 32 := Scalar.addi v520 v519
  let v527 : BitVec 32 := Scalar.select v525 v526 v520
  let c1_i32_440 : BitVec 32 := 1#32
  let v528 : BitVec 1 := Scalar.cmpi .ne v527 c1_i32_440
  let v529 : BitVec 1 := Scalar.ori v517 v528
  let v530 : BitVec 32 := Scalar.extui v529
  let c0_i32_445 : BitVec 32 := 0#32
  let v531 : BitVec 1 := Scalar.cmpi .ne v530 c0_i32_445
  v531

def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v487 : BitVec 32 := Scalar.addi v2 c3_i32_409
  let c16_i32_410 : BitVec 32 := 16#32
  let c0_i32_411 : BitVec 32 := 0#32
  let v488 : BitVec 1 := Scalar.cmpi .eq c16_i32_410 c0_i32_411
  let c1_i32_412 : BitVec 32 := 1#32
  let v489 : BitVec 32 := Scalar.select v488 c1_i32_412 c16_i32_410
  let v490 : BitVec 32 := Scalar.remsi v487 v489
  let c0_i32_414 : BitVec 32 := 0#32
  let v492 : BitVec 1 := Scalar.cmpi .slt v490 c0_i32_414
  let c0_i32_415 : BitVec 32 := 0#32
  let v493 : BitVec 1 := Scalar.cmpi .slt v489 c0_i32_415
  let v494 : BitVec 1 := Scalar.xori v492 v493
  let c0_i32_413 : BitVec 32 := 0#32
  let v491 : BitVec 1 := Scalar.cmpi .ne v490 c0_i32_413
  let v495 : BitVec 1 := Scalar.andi v494 v491
  let v496 : BitVec 32 := Scalar.addi v490 v489
  let v497 : BitVec 32 := Scalar.select v495 v496 v490
  let c0_i32_3332 : BitVec 32 := 0#32
  let c64_i32_3333 : BitVec 32 := 64#32
  let c0_i32_3334 : BitVec 32 := 0#32
  ![v497.toNat, 0, 64, 0]
def k0_dev21 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v487 : BitVec 32 := Scalar.addi v2 c3_i32_409
  let c16_i32_410 : BitVec 32 := 16#32
  let c0_i32_411 : BitVec 32 := 0#32
  let v488 : BitVec 1 := Scalar.cmpi .eq c16_i32_410 c0_i32_411
  let c1_i32_412 : BitVec 32 := 1#32
  let v489 : BitVec 32 := Scalar.select v488 c1_i32_412 c16_i32_410
  let v490 : BitVec 32 := Scalar.remsi v487 v489
  let c0_i32_414 : BitVec 32 := 0#32
  let v492 : BitVec 1 := Scalar.cmpi .slt v490 c0_i32_414
  let c0_i32_415 : BitVec 32 := 0#32
  let v493 : BitVec 1 := Scalar.cmpi .slt v489 c0_i32_415
  let v494 : BitVec 1 := Scalar.xori v492 v493
  let c0_i32_413 : BitVec 32 := 0#32
  let v491 : BitVec 1 := Scalar.cmpi .ne v490 c0_i32_413
  let v495 : BitVec 1 := Scalar.andi v494 v491
  let v496 : BitVec 32 := Scalar.addi v490 v489
  let v497 : BitVec 32 := Scalar.select v495 v496 v490
  let c1_i32_3328 : BitVec 32 := 1#32
  let v4420 : BitVec 32 := Scalar.muli v497 c1_i32_3328
  let v4421 : BitVec 32 := Scalar.addi c0_i32_3329 v4420
  v4421.toNat
def k0_cond7 (d0 : Dev nD) : BitVec 1 :=
  let c2_i32_453 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v543 : BitVec 32 := Scalar.muli c2_i32_453 v2
  let c0_i32_454 : BitVec 32 := 0#32
  let v544 : BitVec 32 := Scalar.addi v543 c0_i32_454
  let c2_i32_455 : BitVec 32 := 2#32
  let v545 : BitVec 1 := Scalar.cmpi .slt v544 c2_i32_455
  let c3_i32_456 : BitVec 32 := 3#32
  let c0_i32_457 : BitVec 32 := 0#32
  let v546 : BitVec 1 := Scalar.cmpi .eq c3_i32_456 c0_i32_457
  let c1_i32_458 : BitVec 32 := 1#32
  let v547 : BitVec 32 := Scalar.select v546 c1_i32_458 c3_i32_456
  let v548 : BitVec 32 := Scalar.remsi v544 v547
  let c0_i32_460 : BitVec 32 := 0#32
  let v550 : BitVec 1 := Scalar.cmpi .slt v548 c0_i32_460
  let c0_i32_461 : BitVec 32 := 0#32
  let v551 : BitVec 1 := Scalar.cmpi .slt v547 c0_i32_461
  let v552 : BitVec 1 := Scalar.xori v550 v551
  let c0_i32_459 : BitVec 32 := 0#32
  let v549 : BitVec 1 := Scalar.cmpi .ne v548 c0_i32_459
  let v553 : BitVec 1 := Scalar.andi v552 v549
  let v554 : BitVec 32 := Scalar.addi v548 v547
  let v555 : BitVec 32 := Scalar.select v553 v554 v548
  let c1_i32_462 : BitVec 32 := 1#32
  let v556 : BitVec 1 := Scalar.cmpi .ne v555 c1_i32_462
  let v557 : BitVec 1 := Scalar.ori v545 v556
  let v558 : BitVec 32 := Scalar.extui v557
  let c0_i32_467 : BitVec 32 := 0#32
  let v559 : BitVec 1 := Scalar.cmpi .ne v558 c0_i32_467
  v559

def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_446 : BitVec 32 := 4#32
  let v532 : BitVec 32 := Scalar.addi v2 c4_i32_446
  let c16_i32_447 : BitVec 32 := 16#32
  let c0_i32_448 : BitVec 32 := 0#32
  let v533 : BitVec 1 := Scalar.cmpi .eq c16_i32_447 c0_i32_448
  let c1_i32_449 : BitVec 32 := 1#32
  let v534 : BitVec 32 := Scalar.select v533 c1_i32_449 c16_i32_447
  let v535 : BitVec 32 := Scalar.remsi v532 v534
  let c0_i32_451 : BitVec 32 := 0#32
  let v537 : BitVec 1 := Scalar.cmpi .slt v535 c0_i32_451
  let c0_i32_452 : BitVec 32 := 0#32
  let v538 : BitVec 1 := Scalar.cmpi .slt v534 c0_i32_452
  let v539 : BitVec 1 := Scalar.xori v537 v538
  let c0_i32_450 : BitVec 32 := 0#32
  let v536 : BitVec 1 := Scalar.cmpi .ne v535 c0_i32_450
  let v540 : BitVec 1 := Scalar.andi v539 v536
  let v541 : BitVec 32 := Scalar.addi v535 v534
  let v542 : BitVec 32 := Scalar.select v540 v541 v535
  let c0_i32_3332 : BitVec 32 := 0#32
  let c0_i32_3333 : BitVec 32 := 0#32
  let c0_i32_3334 : BitVec 32 := 0#32
  ![v542.toNat, 0, 0, 0]
def k0_dev22 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_446 : BitVec 32 := 4#32
  let v532 : BitVec 32 := Scalar.addi v2 c4_i32_446
  let c16_i32_447 : BitVec 32 := 16#32
  let c0_i32_448 : BitVec 32 := 0#32
  let v533 : BitVec 1 := Scalar.cmpi .eq c16_i32_447 c0_i32_448
  let c1_i32_449 : BitVec 32 := 1#32
  let v534 : BitVec 32 := Scalar.select v533 c1_i32_449 c16_i32_447
  let v535 : BitVec 32 := Scalar.remsi v532 v534
  let c0_i32_451 : BitVec 32 := 0#32
  let v537 : BitVec 1 := Scalar.cmpi .slt v535 c0_i32_451
  let c0_i32_452 : BitVec 32 := 0#32
  let v538 : BitVec 1 := Scalar.cmpi .slt v534 c0_i32_452
  let v539 : BitVec 1 := Scalar.xori v537 v538
  let c0_i32_450 : BitVec 32 := 0#32
  let v536 : BitVec 1 := Scalar.cmpi .ne v535 c0_i32_450
  let v540 : BitVec 1 := Scalar.andi v539 v536
  let v541 : BitVec 32 := Scalar.addi v535 v534
  let v542 : BitVec 32 := Scalar.select v540 v541 v535
  let c1_i32_3328 : BitVec 32 := 1#32
  let v4420 : BitVec 32 := Scalar.muli v542 c1_i32_3328
  let v4421 : BitVec 32 := Scalar.addi c0_i32_3329 v4420
  v4421.toNat
def k0_cond8 (d0 : Dev nD) : BitVec 1 :=
  let c2_i32_468 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v560 : BitVec 32 := Scalar.muli c2_i32_468 v2
  let c1_i32_469 : BitVec 32 := 1#32
  let v561 : BitVec 32 := Scalar.addi v560 c1_i32_469
  let c2_i32_470 : BitVec 32 := 2#32
  let v562 : BitVec 1 := Scalar.cmpi .slt v561 c2_i32_470
  let c3_i32_471 : BitVec 32 := 3#32
  let c0_i32_472 : BitVec 32 := 0#32
  let v563 : BitVec 1 := Scalar.cmpi .eq c3_i32_471 c0_i32_472
  let c1_i32_473 : BitVec 32 := 1#32
  let v564 : BitVec 32 := Scalar.select v563 c1_i32_473 c3_i32_471
  let v565 : BitVec 32 := Scalar.remsi v561 v564
  let c0_i32_475 : BitVec 32 := 0#32
  let v567 : BitVec 1 := Scalar.cmpi .slt v565 c0_i32_475
  let c0_i32_476 : BitVec 32 := 0#32
  let v568 : BitVec 1 := Scalar.cmpi .slt v564 c0_i32_476
  let v569 : BitVec 1 := Scalar.xori v567 v568
  let c0_i32_474 : BitVec 32 := 0#32
  let v566 : BitVec 1 := Scalar.cmpi .ne v565 c0_i32_474
  let v570 : BitVec 1 := Scalar.andi v569 v566
  let v571 : BitVec 32 := Scalar.addi v565 v564
  let v572 : BitVec 32 := Scalar.select v570 v571 v565
  let c1_i32_477 : BitVec 32 := 1#32
  let v573 : BitVec 1 := Scalar.cmpi .ne v572 c1_i32_477
  let v574 : BitVec 1 := Scalar.ori v562 v573
  let v575 : BitVec 32 := Scalar.extui v574
  let c0_i32_482 : BitVec 32 := 0#32
  let v576 : BitVec 1 := Scalar.cmpi .ne v575 c0_i32_482
  v576

def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_446 : BitVec 32 := 4#32
  let v532 : BitVec 32 := Scalar.addi v2 c4_i32_446
  let c16_i32_447 : BitVec 32 := 16#32
  let c0_i32_448 : BitVec 32 := 0#32
  let v533 : BitVec 1 := Scalar.cmpi .eq c16_i32_447 c0_i32_448
  let c1_i32_449 : BitVec 32 := 1#32
  let v534 : BitVec 32 := Scalar.select v533 c1_i32_449 c16_i32_447
  let v535 : BitVec 32 := Scalar.remsi v532 v534
  let c0_i32_451 : BitVec 32 := 0#32
  let v537 : BitVec 1 := Scalar.cmpi .slt v535 c0_i32_451
  let c0_i32_452 : BitVec 32 := 0#32
  let v538 : BitVec 1 := Scalar.cmpi .slt v534 c0_i32_452
  let v539 : BitVec 1 := Scalar.xori v537 v538
  let c0_i32_450 : BitVec 32 := 0#32
  let v536 : BitVec 1 := Scalar.cmpi .ne v535 c0_i32_450
  let v540 : BitVec 1 := Scalar.andi v539 v536
  let v541 : BitVec 32 := Scalar.addi v535 v534
  let v542 : BitVec 32 := Scalar.select v540 v541 v535
  let c0_i32_3332 : BitVec 32 := 0#32
  let c64_i32_3333 : BitVec 32 := 64#32
  let c0_i32_3334 : BitVec 32 := 0#32
  ![v542.toNat, 0, 64, 0]
def k0_dev23 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_446 : BitVec 32 := 4#32
  let v532 : BitVec 32 := Scalar.addi v2 c4_i32_446
  let c16_i32_447 : BitVec 32 := 16#32
  let c0_i32_448 : BitVec 32 := 0#32
  let v533 : BitVec 1 := Scalar.cmpi .eq c16_i32_447 c0_i32_448
  let c1_i32_449 : BitVec 32 := 1#32
  let v534 : BitVec 32 := Scalar.select v533 c1_i32_449 c16_i32_447
  let v535 : BitVec 32 := Scalar.remsi v532 v534
  let c0_i32_451 : BitVec 32 := 0#32
  let v537 : BitVec 1 := Scalar.cmpi .slt v535 c0_i32_451
  let c0_i32_452 : BitVec 32 := 0#32
  let v538 : BitVec 1 := Scalar.cmpi .slt v534 c0_i32_452
  let v539 : BitVec 1 := Scalar.xori v537 v538
  let c0_i32_450 : BitVec 32 := 0#32
  let v536 : BitVec 1 := Scalar.cmpi .ne v535 c0_i32_450
  let v540 : BitVec 1 := Scalar.andi v539 v536
  let v541 : BitVec 32 := Scalar.addi v535 v534
  let v542 : BitVec 32 := Scalar.select v540 v541 v535
  let c1_i32_3328 : BitVec 32 := 1#32
  let v4420 : BitVec 32 := Scalar.muli v542 c1_i32_3328
  let v4421 : BitVec 32 := Scalar.addi c0_i32_3329 v4420
  v4421.toNat
def k0_cond9 (d0 : Dev nD) : BitVec 1 :=
  let c2_i32_490 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v588 : BitVec 32 := Scalar.muli c2_i32_490 v2
  let c0_i32_491 : BitVec 32 := 0#32
  let v589 : BitVec 32 := Scalar.addi v588 c0_i32_491
  let c2_i32_492 : BitVec 32 := 2#32
  let v590 : BitVec 1 := Scalar.cmpi .slt v589 c2_i32_492
  let c3_i32_493 : BitVec 32 := 3#32
  let c0_i32_494 : BitVec 32 := 0#32
  let v591 : BitVec 1 := Scalar.cmpi .eq c3_i32_493 c0_i32_494
  let c1_i32_495 : BitVec 32 := 1#32
  let v592 : BitVec 32 := Scalar.select v591 c1_i32_495 c3_i32_493
  let v593 : BitVec 32 := Scalar.remsi v589 v592
  let c0_i32_497 : BitVec 32 := 0#32
  let v595 : BitVec 1 := Scalar.cmpi .slt v593 c0_i32_497
  let c0_i32_498 : BitVec 32 := 0#32
  let v596 : BitVec 1 := Scalar.cmpi .slt v592 c0_i32_498
  let v597 : BitVec 1 := Scalar.xori v595 v596
  let c0_i32_496 : BitVec 32 := 0#32
  let v594 : BitVec 1 := Scalar.cmpi .ne v593 c0_i32_496
  let v598 : BitVec 1 := Scalar.andi v597 v594
  let v599 : BitVec 32 := Scalar.addi v593 v592
  let v600 : BitVec 32 := Scalar.select v598 v599 v593
  let c1_i32_499 : BitVec 32 := 1#32
  let v601 : BitVec 1 := Scalar.cmpi .ne v600 c1_i32_499
  let v602 : BitVec 1 := Scalar.ori v590 v601
  let v603 : BitVec 32 := Scalar.extui v602
  let c0_i32_504 : BitVec 32 := 0#32
  let v604 : BitVec 1 := Scalar.cmpi .ne v603 c0_i32_504
  v604

def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v577 : BitVec 32 := Scalar.addi v2 c5_i32_483
  let c16_i32_484 : BitVec 32 := 16#32
  let c0_i32_485 : BitVec 32 := 0#32
  let v578 : BitVec 1 := Scalar.cmpi .eq c16_i32_484 c0_i32_485
  let c1_i32_486 : BitVec 32 := 1#32
  let v579 : BitVec 32 := Scalar.select v578 c1_i32_486 c16_i32_484
  let v580 : BitVec 32 := Scalar.remsi v577 v579
  let c0_i32_488 : BitVec 32 := 0#32
  let v582 : BitVec 1 := Scalar.cmpi .slt v580 c0_i32_488
  let c0_i32_489 : BitVec 32 := 0#32
  let v583 : BitVec 1 := Scalar.cmpi .slt v579 c0_i32_489
  let v584 : BitVec 1 := Scalar.xori v582 v583
  let c0_i32_487 : BitVec 32 := 0#32
  let v581 : BitVec 1 := Scalar.cmpi .ne v580 c0_i32_487
  let v585 : BitVec 1 := Scalar.andi v584 v581
  let v586 : BitVec 32 := Scalar.addi v580 v579
  let v587 : BitVec 32 := Scalar.select v585 v586 v580
  let c0_i32_3332 : BitVec 32 := 0#32
  let c0_i32_3333 : BitVec 32 := 0#32
  let c0_i32_3334 : BitVec 32 := 0#32
  ![v587.toNat, 0, 0, 0]
def k0_dev24 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v577 : BitVec 32 := Scalar.addi v2 c5_i32_483
  let c16_i32_484 : BitVec 32 := 16#32
  let c0_i32_485 : BitVec 32 := 0#32
  let v578 : BitVec 1 := Scalar.cmpi .eq c16_i32_484 c0_i32_485
  let c1_i32_486 : BitVec 32 := 1#32
  let v579 : BitVec 32 := Scalar.select v578 c1_i32_486 c16_i32_484
  let v580 : BitVec 32 := Scalar.remsi v577 v579
  let c0_i32_488 : BitVec 32 := 0#32
  let v582 : BitVec 1 := Scalar.cmpi .slt v580 c0_i32_488
  let c0_i32_489 : BitVec 32 := 0#32
  let v583 : BitVec 1 := Scalar.cmpi .slt v579 c0_i32_489
  let v584 : BitVec 1 := Scalar.xori v582 v583
  let c0_i32_487 : BitVec 32 := 0#32
  let v581 : BitVec 1 := Scalar.cmpi .ne v580 c0_i32_487
  let v585 : BitVec 1 := Scalar.andi v584 v581
  let v586 : BitVec 32 := Scalar.addi v580 v579
  let v587 : BitVec 32 := Scalar.select v585 v586 v580
  let c1_i32_3328 : BitVec 32 := 1#32
  let v4420 : BitVec 32 := Scalar.muli v587 c1_i32_3328
  let v4421 : BitVec 32 := Scalar.addi c0_i32_3329 v4420
  v4421.toNat
def k0_cond10 (d0 : Dev nD) : BitVec 1 :=
  let c2_i32_505 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v605 : BitVec 32 := Scalar.muli c2_i32_505 v2
  let c1_i32_506 : BitVec 32 := 1#32
  let v606 : BitVec 32 := Scalar.addi v605 c1_i32_506
  let c2_i32_507 : BitVec 32 := 2#32
  let v607 : BitVec 1 := Scalar.cmpi .slt v606 c2_i32_507
  let c3_i32_508 : BitVec 32 := 3#32
  let c0_i32_509 : BitVec 32 := 0#32
  let v608 : BitVec 1 := Scalar.cmpi .eq c3_i32_508 c0_i32_509
  let c1_i32_510 : BitVec 32 := 1#32
  let v609 : BitVec 32 := Scalar.select v608 c1_i32_510 c3_i32_508
  let v610 : BitVec 32 := Scalar.remsi v606 v609
  let c0_i32_512 : BitVec 32 := 0#32
  let v612 : BitVec 1 := Scalar.cmpi .slt v610 c0_i32_512
  let c0_i32_513 : BitVec 32 := 0#32
  let v613 : BitVec 1 := Scalar.cmpi .slt v609 c0_i32_513
  let v614 : BitVec 1 := Scalar.xori v612 v613
  let c0_i32_511 : BitVec 32 := 0#32
  let v611 : BitVec 1 := Scalar.cmpi .ne v610 c0_i32_511
  let v615 : BitVec 1 := Scalar.andi v614 v611
  let v616 : BitVec 32 := Scalar.addi v610 v609
  let v617 : BitVec 32 := Scalar.select v615 v616 v610
  let c1_i32_514 : BitVec 32 := 1#32
  let v618 : BitVec 1 := Scalar.cmpi .ne v617 c1_i32_514
  let v619 : BitVec 1 := Scalar.ori v607 v618
  let v620 : BitVec 32 := Scalar.extui v619
  let c0_i32_519 : BitVec 32 := 0#32
  let v621 : BitVec 1 := Scalar.cmpi .ne v620 c0_i32_519
  v621

def k0_off11 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v577 : BitVec 32 := Scalar.addi v2 c5_i32_483
  let c16_i32_484 : BitVec 32 := 16#32
  let c0_i32_485 : BitVec 32 := 0#32
  let v578 : BitVec 1 := Scalar.cmpi .eq c16_i32_484 c0_i32_485
  let c1_i32_486 : BitVec 32 := 1#32
  let v579 : BitVec 32 := Scalar.select v578 c1_i32_486 c16_i32_484
  let v580 : BitVec 32 := Scalar.remsi v577 v579
  let c0_i32_488 : BitVec 32 := 0#32
  let v582 : BitVec 1 := Scalar.cmpi .slt v580 c0_i32_488
  let c0_i32_489 : BitVec 32 := 0#32
  let v583 : BitVec 1 := Scalar.cmpi .slt v579 c0_i32_489
  let v584 : BitVec 1 := Scalar.xori v582 v583
  let c0_i32_487 : BitVec 32 := 0#32
  let v581 : BitVec 1 := Scalar.cmpi .ne v580 c0_i32_487
  let v585 : BitVec 1 := Scalar.andi v584 v581
  let v586 : BitVec 32 := Scalar.addi v580 v579
  let v587 : BitVec 32 := Scalar.select v585 v586 v580
  let c0_i32_3332 : BitVec 32 := 0#32
  let c64_i32_3333 : BitVec 32 := 64#32
  let c0_i32_3334 : BitVec 32 := 0#32
  ![v587.toNat, 0, 64, 0]
def k0_dev25 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v577 : BitVec 32 := Scalar.addi v2 c5_i32_483
  let c16_i32_484 : BitVec 32 := 16#32
  let c0_i32_485 : BitVec 32 := 0#32
  let v578 : BitVec 1 := Scalar.cmpi .eq c16_i32_484 c0_i32_485
  let c1_i32_486 : BitVec 32 := 1#32
  let v579 : BitVec 32 := Scalar.select v578 c1_i32_486 c16_i32_484
  let v580 : BitVec 32 := Scalar.remsi v577 v579
  let c0_i32_488 : BitVec 32 := 0#32
  let v582 : BitVec 1 := Scalar.cmpi .slt v580 c0_i32_488
  let c0_i32_489 : BitVec 32 := 0#32
  let v583 : BitVec 1 := Scalar.cmpi .slt v579 c0_i32_489
  let v584 : BitVec 1 := Scalar.xori v582 v583
  let c0_i32_487 : BitVec 32 := 0#32
  let v581 : BitVec 1 := Scalar.cmpi .ne v580 c0_i32_487
  let v585 : BitVec 1 := Scalar.andi v584 v581
  let v586 : BitVec 32 := Scalar.addi v580 v579
  let v587 : BitVec 32 := Scalar.select v585 v586 v580
  let c1_i32_3328 : BitVec 32 := 1#32
  let v4420 : BitVec 32 := Scalar.muli v587 c1_i32_3328
  let v4421 : BitVec 32 := Scalar.addi c0_i32_3329 v4420
  v4421.toNat
def k0_cond11 (d0 : Dev nD) : BitVec 1 :=
  let c2_i32_527 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v633 : BitVec 32 := Scalar.muli c2_i32_527 v2
  let c0_i32_528 : BitVec 32 := 0#32
  let v634 : BitVec 32 := Scalar.addi v633 c0_i32_528
  let c2_i32_529 : BitVec 32 := 2#32
  let v635 : BitVec 1 := Scalar.cmpi .slt v634 c2_i32_529
  let c3_i32_530 : BitVec 32 := 3#32
  let c0_i32_531 : BitVec 32 := 0#32
  let v636 : BitVec 1 := Scalar.cmpi .eq c3_i32_530 c0_i32_531
  let c1_i32_532 : BitVec 32 := 1#32
  let v637 : BitVec 32 := Scalar.select v636 c1_i32_532 c3_i32_530
  let v638 : BitVec 32 := Scalar.remsi v634 v637
  let c0_i32_534 : BitVec 32 := 0#32
  let v640 : BitVec 1 := Scalar.cmpi .slt v638 c0_i32_534
  let c0_i32_535 : BitVec 32 := 0#32
  let v641 : BitVec 1 := Scalar.cmpi .slt v637 c0_i32_535
  let v642 : BitVec 1 := Scalar.xori v640 v641
  let c0_i32_533 : BitVec 32 := 0#32
  let v639 : BitVec 1 := Scalar.cmpi .ne v638 c0_i32_533
  let v643 : BitVec 1 := Scalar.andi v642 v639
  let v644 : BitVec 32 := Scalar.addi v638 v637
  let v645 : BitVec 32 := Scalar.select v643 v644 v638
  let c1_i32_536 : BitVec 32 := 1#32
  let v646 : BitVec 1 := Scalar.cmpi .ne v645 c1_i32_536
  let v647 : BitVec 1 := Scalar.ori v635 v646
  let v648 : BitVec 32 := Scalar.extui v647
  let c0_i32_541 : BitVec 32 := 0#32
  let v649 : BitVec 1 := Scalar.cmpi .ne v648 c0_i32_541
  v649

def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_520 : BitVec 32 := 6#32
  let v622 : BitVec 32 := Scalar.addi v2 c6_i32_520
  let c16_i32_521 : BitVec 32 := 16#32
  let c0_i32_522 : BitVec 32 := 0#32
  let v623 : BitVec 1 := Scalar.cmpi .eq c16_i32_521 c0_i32_522
  let c1_i32_523 : BitVec 32 := 1#32
  let v624 : BitVec 32 := Scalar.select v623 c1_i32_523 c16_i32_521
  let v625 : BitVec 32 := Scalar.remsi v622 v624
  let c0_i32_525 : BitVec 32 := 0#32
  let v627 : BitVec 1 := Scalar.cmpi .slt v625 c0_i32_525
  let c0_i32_526 : BitVec 32 := 0#32
  let v628 : BitVec 1 := Scalar.cmpi .slt v624 c0_i32_526
  let v629 : BitVec 1 := Scalar.xori v627 v628
  let c0_i32_524 : BitVec 32 := 0#32
  let v626 : BitVec 1 := Scalar.cmpi .ne v625 c0_i32_524
  let v630 : BitVec 1 := Scalar.andi v629 v626
  let v631 : BitVec 32 := Scalar.addi v625 v624
  let v632 : BitVec 32 := Scalar.select v630 v631 v625
  let c0_i32_3332 : BitVec 32 := 0#32
  let c0_i32_3333 : BitVec 32 := 0#32
  let c0_i32_3334 : BitVec 32 := 0#32
  ![v632.toNat, 0, 0, 0]
def k0_dev26 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_520 : BitVec 32 := 6#32
  let v622 : BitVec 32 := Scalar.addi v2 c6_i32_520
  let c16_i32_521 : BitVec 32 := 16#32
  let c0_i32_522 : BitVec 32 := 0#32
  let v623 : BitVec 1 := Scalar.cmpi .eq c16_i32_521 c0_i32_522
  let c1_i32_523 : BitVec 32 := 1#32
  let v624 : BitVec 32 := Scalar.select v623 c1_i32_523 c16_i32_521
  let v625 : BitVec 32 := Scalar.remsi v622 v624
  let c0_i32_525 : BitVec 32 := 0#32
  let v627 : BitVec 1 := Scalar.cmpi .slt v625 c0_i32_525
  let c0_i32_526 : BitVec 32 := 0#32
  let v628 : BitVec 1 := Scalar.cmpi .slt v624 c0_i32_526
  let v629 : BitVec 1 := Scalar.xori v627 v628
  let c0_i32_524 : BitVec 32 := 0#32
  let v626 : BitVec 1 := Scalar.cmpi .ne v625 c0_i32_524
  let v630 : BitVec 1 := Scalar.andi v629 v626
  let v631 : BitVec 32 := Scalar.addi v625 v624
  let v632 : BitVec 32 := Scalar.select v630 v631 v625
  let c1_i32_3328 : BitVec 32 := 1#32
  let v4420 : BitVec 32 := Scalar.muli v632 c1_i32_3328
  let v4421 : BitVec 32 := Scalar.addi c0_i32_3329 v4420
  v4421.toNat
def k0_cond12 (d0 : Dev nD) : BitVec 1 :=
  let c2_i32_542 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v650 : BitVec 32 := Scalar.muli c2_i32_542 v2
  let c1_i32_543 : BitVec 32 := 1#32
  let v651 : BitVec 32 := Scalar.addi v650 c1_i32_543
  let c2_i32_544 : BitVec 32 := 2#32
  let v652 : BitVec 1 := Scalar.cmpi .slt v651 c2_i32_544
  let c3_i32_545 : BitVec 32 := 3#32
  let c0_i32_546 : BitVec 32 := 0#32
  let v653 : BitVec 1 := Scalar.cmpi .eq c3_i32_545 c0_i32_546
  let c1_i32_547 : BitVec 32 := 1#32
  let v654 : BitVec 32 := Scalar.select v653 c1_i32_547 c3_i32_545
  let v655 : BitVec 32 := Scalar.remsi v651 v654
  let c0_i32_549 : BitVec 32 := 0#32
  let v657 : BitVec 1 := Scalar.cmpi .slt v655 c0_i32_549
  let c0_i32_550 : BitVec 32 := 0#32
  let v658 : BitVec 1 := Scalar.cmpi .slt v654 c0_i32_550
  let v659 : BitVec 1 := Scalar.xori v657 v658
  let c0_i32_548 : BitVec 32 := 0#32
  let v656 : BitVec 1 := Scalar.cmpi .ne v655 c0_i32_548
  let v660 : BitVec 1 := Scalar.andi v659 v656
  let v661 : BitVec 32 := Scalar.addi v655 v654
  let v662 : BitVec 32 := Scalar.select v660 v661 v655
  let c1_i32_551 : BitVec 32 := 1#32
  let v663 : BitVec 1 := Scalar.cmpi .ne v662 c1_i32_551
  let v664 : BitVec 1 := Scalar.ori v652 v663
  let v665 : BitVec 32 := Scalar.extui v664
  let c0_i32_556 : BitVec 32 := 0#32
  let v666 : BitVec 1 := Scalar.cmpi .ne v665 c0_i32_556
  v666

def k0_off13 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_520 : BitVec 32 := 6#32
  let v622 : BitVec 32 := Scalar.addi v2 c6_i32_520
  let c16_i32_521 : BitVec 32 := 16#32
  let c0_i32_522 : BitVec 32 := 0#32
  let v623 : BitVec 1 := Scalar.cmpi .eq c16_i32_521 c0_i32_522
  let c1_i32_523 : BitVec 32 := 1#32
  let v624 : BitVec 32 := Scalar.select v623 c1_i32_523 c16_i32_521
  let v625 : BitVec 32 := Scalar.remsi v622 v624
  let c0_i32_525 : BitVec 32 := 0#32
  let v627 : BitVec 1 := Scalar.cmpi .slt v625 c0_i32_525
  let c0_i32_526 : BitVec 32 := 0#32
  let v628 : BitVec 1 := Scalar.cmpi .slt v624 c0_i32_526
  let v629 : BitVec 1 := Scalar.xori v627 v628
  let c0_i32_524 : BitVec 32 := 0#32
  let v626 : BitVec 1 := Scalar.cmpi .ne v625 c0_i32_524
  let v630 : BitVec 1 := Scalar.andi v629 v626
  let v631 : BitVec 32 := Scalar.addi v625 v624
  let v632 : BitVec 32 := Scalar.select v630 v631 v625
  let c0_i32_3332 : BitVec 32 := 0#32
  let c64_i32_3333 : BitVec 32 := 64#32
  let c0_i32_3334 : BitVec 32 := 0#32
  ![v632.toNat, 0, 64, 0]
def k0_dev27 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_520 : BitVec 32 := 6#32
  let v622 : BitVec 32 := Scalar.addi v2 c6_i32_520
  let c16_i32_521 : BitVec 32 := 16#32
  let c0_i32_522 : BitVec 32 := 0#32
  let v623 : BitVec 1 := Scalar.cmpi .eq c16_i32_521 c0_i32_522
  let c1_i32_523 : BitVec 32 := 1#32
  let v624 : BitVec 32 := Scalar.select v623 c1_i32_523 c16_i32_521
  let v625 : BitVec 32 := Scalar.remsi v622 v624
  let c0_i32_525 : BitVec 32 := 0#32
  let v627 : BitVec 1 := Scalar.cmpi .slt v625 c0_i32_525
  let c0_i32_526 : BitVec 32 := 0#32
  let v628 : BitVec 1 := Scalar.cmpi .slt v624 c0_i32_526
  let v629 : BitVec 1 := Scalar.xori v627 v628
  let c0_i32_524 : BitVec 32 := 0#32
  let v626 : BitVec 1 := Scalar.cmpi .ne v625 c0_i32_524
  let v630 : BitVec 1 := Scalar.andi v629 v626
  let v631 : BitVec 32 := Scalar.addi v625 v624
  let v632 : BitVec 32 := Scalar.select v630 v631 v625
  let c1_i32_3328 : BitVec 32 := 1#32
  let v4420 : BitVec 32 := Scalar.muli v632 c1_i32_3328
  let v4421 : BitVec 32 := Scalar.addi c0_i32_3329 v4420
  v4421.toNat
def k0_cond13 (d0 : Dev nD) : BitVec 1 :=
  let c2_i32_564 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v678 : BitVec 32 := Scalar.muli c2_i32_564 v2
  let c0_i32_565 : BitVec 32 := 0#32
  let v679 : BitVec 32 := Scalar.addi v678 c0_i32_565
  let c2_i32_566 : BitVec 32 := 2#32
  let v680 : BitVec 1 := Scalar.cmpi .slt v679 c2_i32_566
  let c3_i32_567 : BitVec 32 := 3#32
  let c0_i32_568 : BitVec 32 := 0#32
  let v681 : BitVec 1 := Scalar.cmpi .eq c3_i32_567 c0_i32_568
  let c1_i32_569 : BitVec 32 := 1#32
  let v682 : BitVec 32 := Scalar.select v681 c1_i32_569 c3_i32_567
  let v683 : BitVec 32 := Scalar.remsi v679 v682
  let c0_i32_571 : BitVec 32 := 0#32
  let v685 : BitVec 1 := Scalar.cmpi .slt v683 c0_i32_571
  let c0_i32_572 : BitVec 32 := 0#32
  let v686 : BitVec 1 := Scalar.cmpi .slt v682 c0_i32_572
  let v687 : BitVec 1 := Scalar.xori v685 v686
  let c0_i32_570 : BitVec 32 := 0#32
  let v684 : BitVec 1 := Scalar.cmpi .ne v683 c0_i32_570
  let v688 : BitVec 1 := Scalar.andi v687 v684
  let v689 : BitVec 32 := Scalar.addi v683 v682
  let v690 : BitVec 32 := Scalar.select v688 v689 v683
  let c1_i32_573 : BitVec 32 := 1#32
  let v691 : BitVec 1 := Scalar.cmpi .ne v690 c1_i32_573
  let v692 : BitVec 1 := Scalar.ori v680 v691
  let v693 : BitVec 32 := Scalar.extui v692
  let c0_i32_578 : BitVec 32 := 0#32
  let v694 : BitVec 1 := Scalar.cmpi .ne v693 c0_i32_578
  v694

def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_557 : BitVec 32 := 7#32
  let v667 : BitVec 32 := Scalar.addi v2 c7_i32_557
  let c16_i32_558 : BitVec 32 := 16#32
  let c0_i32_559 : BitVec 32 := 0#32
  let v668 : BitVec 1 := Scalar.cmpi .eq c16_i32_558 c0_i32_559
  let c1_i32_560 : BitVec 32 := 1#32
  let v669 : BitVec 32 := Scalar.select v668 c1_i32_560 c16_i32_558
  let v670 : BitVec 32 := Scalar.remsi v667 v669
  let c0_i32_562 : BitVec 32 := 0#32
  let v672 : BitVec 1 := Scalar.cmpi .slt v670 c0_i32_562
  let c0_i32_563 : BitVec 32 := 0#32
  let v673 : BitVec 1 := Scalar.cmpi .slt v669 c0_i32_563
  let v674 : BitVec 1 := Scalar.xori v672 v673
  let c0_i32_561 : BitVec 32 := 0#32
  let v671 : BitVec 1 := Scalar.cmpi .ne v670 c0_i32_561
  let v675 : BitVec 1 := Scalar.andi v674 v671
  let v676 : BitVec 32 := Scalar.addi v670 v669
  let v677 : BitVec 32 := Scalar.select v675 v676 v670
  let c0_i32_3332 : BitVec 32 := 0#32
  let c0_i32_3333 : BitVec 32 := 0#32
  let c0_i32_3334 : BitVec 32 := 0#32
  ![v677.toNat, 0, 0, 0]
def k0_dev28 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_557 : BitVec 32 := 7#32
  let v667 : BitVec 32 := Scalar.addi v2 c7_i32_557
  let c16_i32_558 : BitVec 32 := 16#32
  let c0_i32_559 : BitVec 32 := 0#32
  let v668 : BitVec 1 := Scalar.cmpi .eq c16_i32_558 c0_i32_559
  let c1_i32_560 : BitVec 32 := 1#32
  let v669 : BitVec 32 := Scalar.select v668 c1_i32_560 c16_i32_558
  let v670 : BitVec 32 := Scalar.remsi v667 v669
  let c0_i32_562 : BitVec 32 := 0#32
  let v672 : BitVec 1 := Scalar.cmpi .slt v670 c0_i32_562
  let c0_i32_563 : BitVec 32 := 0#32
  let v673 : BitVec 1 := Scalar.cmpi .slt v669 c0_i32_563
  let v674 : BitVec 1 := Scalar.xori v672 v673
  let c0_i32_561 : BitVec 32 := 0#32
  let v671 : BitVec 1 := Scalar.cmpi .ne v670 c0_i32_561
  let v675 : BitVec 1 := Scalar.andi v674 v671
  let v676 : BitVec 32 := Scalar.addi v670 v669
  let v677 : BitVec 32 := Scalar.select v675 v676 v670
  let c1_i32_3328 : BitVec 32 := 1#32
  let v4420 : BitVec 32 := Scalar.muli v677 c1_i32_3328
  let v4421 : BitVec 32 := Scalar.addi c0_i32_3329 v4420
  v4421.toNat
def k0_cond14 (d0 : Dev nD) : BitVec 1 :=
  let c2_i32_579 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v695 : BitVec 32 := Scalar.muli c2_i32_579 v2
  let c1_i32_580 : BitVec 32 := 1#32
  let v696 : BitVec 32 := Scalar.addi v695 c1_i32_580
  let c2_i32_581 : BitVec 32 := 2#32
  let v697 : BitVec 1 := Scalar.cmpi .slt v696 c2_i32_581
  let c3_i32_582 : BitVec 32 := 3#32
  let c0_i32_583 : BitVec 32 := 0#32
  let v698 : BitVec 1 := Scalar.cmpi .eq c3_i32_582 c0_i32_583
  let c1_i32_584 : BitVec 32 := 1#32
  let v699 : BitVec 32 := Scalar.select v698 c1_i32_584 c3_i32_582
  let v700 : BitVec 32 := Scalar.remsi v696 v699
  let c0_i32_586 : BitVec 32 := 0#32
  let v702 : BitVec 1 := Scalar.cmpi .slt v700 c0_i32_586
  let c0_i32_587 : BitVec 32 := 0#32
  let v703 : BitVec 1 := Scalar.cmpi .slt v699 c0_i32_587
  let v704 : BitVec 1 := Scalar.xori v702 v703
  let c0_i32_585 : BitVec 32 := 0#32
  let v701 : BitVec 1 := Scalar.cmpi .ne v700 c0_i32_585
  let v705 : BitVec 1 := Scalar.andi v704 v701
  let v706 : BitVec 32 := Scalar.addi v700 v699
  let v707 : BitVec 32 := Scalar.select v705 v706 v700
  let c1_i32_588 : BitVec 32 := 1#32
  let v708 : BitVec 1 := Scalar.cmpi .ne v707 c1_i32_588
  let v709 : BitVec 1 := Scalar.ori v697 v708
  let v710 : BitVec 32 := Scalar.extui v709
  let c0_i32_593 : BitVec 32 := 0#32
  let v711 : BitVec 1 := Scalar.cmpi .ne v710 c0_i32_593
  v711

def k0_off15 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_557 : BitVec 32 := 7#32
  let v667 : BitVec 32 := Scalar.addi v2 c7_i32_557
  let c16_i32_558 : BitVec 32 := 16#32
  let c0_i32_559 : BitVec 32 := 0#32
  let v668 : BitVec 1 := Scalar.cmpi .eq c16_i32_558 c0_i32_559
  let c1_i32_560 : BitVec 32 := 1#32
  let v669 : BitVec 32 := Scalar.select v668 c1_i32_560 c16_i32_558
  let v670 : BitVec 32 := Scalar.remsi v667 v669
  let c0_i32_562 : BitVec 32 := 0#32
  let v672 : BitVec 1 := Scalar.cmpi .slt v670 c0_i32_562
  let c0_i32_563 : BitVec 32 := 0#32
  let v673 : BitVec 1 := Scalar.cmpi .slt v669 c0_i32_563
  let v674 : BitVec 1 := Scalar.xori v672 v673
  let c0_i32_561 : BitVec 32 := 0#32
  let v671 : BitVec 1 := Scalar.cmpi .ne v670 c0_i32_561
  let v675 : BitVec 1 := Scalar.andi v674 v671
  let v676 : BitVec 32 := Scalar.addi v670 v669
  let v677 : BitVec 32 := Scalar.select v675 v676 v670
  let c0_i32_3332 : BitVec 32 := 0#32
  let c64_i32_3333 : BitVec 32 := 64#32
  let c0_i32_3334 : BitVec 32 := 0#32
  ![v677.toNat, 0, 64, 0]
def k0_dev29 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_557 : BitVec 32 := 7#32
  let v667 : BitVec 32 := Scalar.addi v2 c7_i32_557
  let c16_i32_558 : BitVec 32 := 16#32
  let c0_i32_559 : BitVec 32 := 0#32
  let v668 : BitVec 1 := Scalar.cmpi .eq c16_i32_558 c0_i32_559
  let c1_i32_560 : BitVec 32 := 1#32
  let v669 : BitVec 32 := Scalar.select v668 c1_i32_560 c16_i32_558
  let v670 : BitVec 32 := Scalar.remsi v667 v669
  let c0_i32_562 : BitVec 32 := 0#32
  let v672 : BitVec 1 := Scalar.cmpi .slt v670 c0_i32_562
  let c0_i32_563 : BitVec 32 := 0#32
  let v673 : BitVec 1 := Scalar.cmpi .slt v669 c0_i32_563
  let v674 : BitVec 1 := Scalar.xori v672 v673
  let c0_i32_561 : BitVec 32 := 0#32
  let v671 : BitVec 1 := Scalar.cmpi .ne v670 c0_i32_561
  let v675 : BitVec 1 := Scalar.andi v674 v671
  let v676 : BitVec 32 := Scalar.addi v670 v669
  let v677 : BitVec 32 := Scalar.select v675 v676 v670
  let c1_i32_3328 : BitVec 32 := 1#32
  let v4420 : BitVec 32 := Scalar.muli v677 c1_i32_3328
  let v4421 : BitVec 32 := Scalar.addi c0_i32_3329 v4420
  v4421.toNat
def k0_cond15 (d0 : Dev nD) : BitVec 1 :=
  let c2_i32_601 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v723 : BitVec 32 := Scalar.muli c2_i32_601 v2
  let c0_i32_602 : BitVec 32 := 0#32
  let v724 : BitVec 32 := Scalar.addi v723 c0_i32_602
  let c2_i32_603 : BitVec 32 := 2#32
  let v725 : BitVec 1 := Scalar.cmpi .slt v724 c2_i32_603
  let c3_i32_604 : BitVec 32 := 3#32
  let c0_i32_605 : BitVec 32 := 0#32
  let v726 : BitVec 1 := Scalar.cmpi .eq c3_i32_604 c0_i32_605
  let c1_i32_606 : BitVec 32 := 1#32
  let v727 : BitVec 32 := Scalar.select v726 c1_i32_606 c3_i32_604
  let v728 : BitVec 32 := Scalar.remsi v724 v727
  let c0_i32_608 : BitVec 32 := 0#32
  let v730 : BitVec 1 := Scalar.cmpi .slt v728 c0_i32_608
  let c0_i32_609 : BitVec 32 := 0#32
  let v731 : BitVec 1 := Scalar.cmpi .slt v727 c0_i32_609
  let v732 : BitVec 1 := Scalar.xori v730 v731
  let c0_i32_607 : BitVec 32 := 0#32
  let v729 : BitVec 1 := Scalar.cmpi .ne v728 c0_i32_607
  let v733 : BitVec 1 := Scalar.andi v732 v729
  let v734 : BitVec 32 := Scalar.addi v728 v727
  let v735 : BitVec 32 := Scalar.select v733 v734 v728
  let c1_i32_610 : BitVec 32 := 1#32
  let v736 : BitVec 1 := Scalar.cmpi .ne v735 c1_i32_610
  let v737 : BitVec 1 := Scalar.ori v725 v736
  let v738 : BitVec 32 := Scalar.extui v737
  let c0_i32_615 : BitVec 32 := 0#32
  let v739 : BitVec 1 := Scalar.cmpi .ne v738 c0_i32_615
  v739

def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v712 : BitVec 32 := Scalar.addi v2 c8_i32_594
  let c16_i32_595 : BitVec 32 := 16#32
  let c0_i32_596 : BitVec 32 := 0#32
  let v713 : BitVec 1 := Scalar.cmpi .eq c16_i32_595 c0_i32_596
  let c1_i32_597 : BitVec 32 := 1#32
  let v714 : BitVec 32 := Scalar.select v713 c1_i32_597 c16_i32_595
  let v715 : BitVec 32 := Scalar.remsi v712 v714
  let c0_i32_599 : BitVec 32 := 0#32
  let v717 : BitVec 1 := Scalar.cmpi .slt v715 c0_i32_599
  let c0_i32_600 : BitVec 32 := 0#32
  let v718 : BitVec 1 := Scalar.cmpi .slt v714 c0_i32_600
  let v719 : BitVec 1 := Scalar.xori v717 v718
  let c0_i32_598 : BitVec 32 := 0#32
  let v716 : BitVec 1 := Scalar.cmpi .ne v715 c0_i32_598
  let v720 : BitVec 1 := Scalar.andi v719 v716
  let v721 : BitVec 32 := Scalar.addi v715 v714
  let v722 : BitVec 32 := Scalar.select v720 v721 v715
  let c0_i32_3332 : BitVec 32 := 0#32
  let c0_i32_3333 : BitVec 32 := 0#32
  let c0_i32_3334 : BitVec 32 := 0#32
  ![v722.toNat, 0, 0, 0]
def k0_dev30 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v712 : BitVec 32 := Scalar.addi v2 c8_i32_594
  let c16_i32_595 : BitVec 32 := 16#32
  let c0_i32_596 : BitVec 32 := 0#32
  let v713 : BitVec 1 := Scalar.cmpi .eq c16_i32_595 c0_i32_596
  let c1_i32_597 : BitVec 32 := 1#32
  let v714 : BitVec 32 := Scalar.select v713 c1_i32_597 c16_i32_595
  let v715 : BitVec 32 := Scalar.remsi v712 v714
  let c0_i32_599 : BitVec 32 := 0#32
  let v717 : BitVec 1 := Scalar.cmpi .slt v715 c0_i32_599
  let c0_i32_600 : BitVec 32 := 0#32
  let v718 : BitVec 1 := Scalar.cmpi .slt v714 c0_i32_600
  let v719 : BitVec 1 := Scalar.xori v717 v718
  let c0_i32_598 : BitVec 32 := 0#32
  let v716 : BitVec 1 := Scalar.cmpi .ne v715 c0_i32_598
  let v720 : BitVec 1 := Scalar.andi v719 v716
  let v721 : BitVec 32 := Scalar.addi v715 v714
  let v722 : BitVec 32 := Scalar.select v720 v721 v715
  let c1_i32_3328 : BitVec 32 := 1#32
  let v4420 : BitVec 32 := Scalar.muli v722 c1_i32_3328
  let v4421 : BitVec 32 := Scalar.addi c0_i32_3329 v4420
  v4421.toNat
def k0_cond16 (d0 : Dev nD) : BitVec 1 :=
  let c2_i32_616 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v740 : BitVec 32 := Scalar.muli c2_i32_616 v2
  let c1_i32_617 : BitVec 32 := 1#32
  let v741 : BitVec 32 := Scalar.addi v740 c1_i32_617
  let c2_i32_618 : BitVec 32 := 2#32
  let v742 : BitVec 1 := Scalar.cmpi .slt v741 c2_i32_618
  let c3_i32_619 : BitVec 32 := 3#32
  let c0_i32_620 : BitVec 32 := 0#32
  let v743 : BitVec 1 := Scalar.cmpi .eq c3_i32_619 c0_i32_620
  let c1_i32_621 : BitVec 32 := 1#32
  let v744 : BitVec 32 := Scalar.select v743 c1_i32_621 c3_i32_619
  let v745 : BitVec 32 := Scalar.remsi v741 v744
  let c0_i32_623 : BitVec 32 := 0#32
  let v747 : BitVec 1 := Scalar.cmpi .slt v745 c0_i32_623
  let c0_i32_624 : BitVec 32 := 0#32
  let v748 : BitVec 1 := Scalar.cmpi .slt v744 c0_i32_624
  let v749 : BitVec 1 := Scalar.xori v747 v748
  let c0_i32_622 : BitVec 32 := 0#32
  let v746 : BitVec 1 := Scalar.cmpi .ne v745 c0_i32_622
  let v750 : BitVec 1 := Scalar.andi v749 v746
  let v751 : BitVec 32 := Scalar.addi v745 v744
  let v752 : BitVec 32 := Scalar.select v750 v751 v745
  let c1_i32_625 : BitVec 32 := 1#32
  let v753 : BitVec 1 := Scalar.cmpi .ne v752 c1_i32_625
  let v754 : BitVec 1 := Scalar.ori v742 v753
  let v755 : BitVec 32 := Scalar.extui v754
  let c0_i32_630 : BitVec 32 := 0#32
  let v756 : BitVec 1 := Scalar.cmpi .ne v755 c0_i32_630
  v756

def k0_off17 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v712 : BitVec 32 := Scalar.addi v2 c8_i32_594
  let c16_i32_595 : BitVec 32 := 16#32
  let c0_i32_596 : BitVec 32 := 0#32
  let v713 : BitVec 1 := Scalar.cmpi .eq c16_i32_595 c0_i32_596
  let c1_i32_597 : BitVec 32 := 1#32
  let v714 : BitVec 32 := Scalar.select v713 c1_i32_597 c16_i32_595
  let v715 : BitVec 32 := Scalar.remsi v712 v714
  let c0_i32_599 : BitVec 32 := 0#32
  let v717 : BitVec 1 := Scalar.cmpi .slt v715 c0_i32_599
  let c0_i32_600 : BitVec 32 := 0#32
  let v718 : BitVec 1 := Scalar.cmpi .slt v714 c0_i32_600
  let v719 : BitVec 1 := Scalar.xori v717 v718
  let c0_i32_598 : BitVec 32 := 0#32
  let v716 : BitVec 1 := Scalar.cmpi .ne v715 c0_i32_598
  let v720 : BitVec 1 := Scalar.andi v719 v716
  let v721 : BitVec 32 := Scalar.addi v715 v714
  let v722 : BitVec 32 := Scalar.select v720 v721 v715
  let c0_i32_3332 : BitVec 32 := 0#32
  let c64_i32_3333 : BitVec 32 := 64#32
  let c0_i32_3334 : BitVec 32 := 0#32
  ![v722.toNat, 0, 64, 0]
def k0_dev31 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v712 : BitVec 32 := Scalar.addi v2 c8_i32_594
  let c16_i32_595 : BitVec 32 := 16#32
  let c0_i32_596 : BitVec 32 := 0#32
  let v713 : BitVec 1 := Scalar.cmpi .eq c16_i32_595 c0_i32_596
  let c1_i32_597 : BitVec 32 := 1#32
  let v714 : BitVec 32 := Scalar.select v713 c1_i32_597 c16_i32_595
  let v715 : BitVec 32 := Scalar.remsi v712 v714
  let c0_i32_599 : BitVec 32 := 0#32
  let v717 : BitVec 1 := Scalar.cmpi .slt v715 c0_i32_599
  let c0_i32_600 : BitVec 32 := 0#32
  let v718 : BitVec 1 := Scalar.cmpi .slt v714 c0_i32_600
  let v719 : BitVec 1 := Scalar.xori v717 v718
  let c0_i32_598 : BitVec 32 := 0#32
  let v716 : BitVec 1 := Scalar.cmpi .ne v715 c0_i32_598
  let v720 : BitVec 1 := Scalar.andi v719 v716
  let v721 : BitVec 32 := Scalar.addi v715 v714
  let v722 : BitVec 32 := Scalar.select v720 v721 v715
  let c1_i32_3328 : BitVec 32 := 1#32
  let v4420 : BitVec 32 := Scalar.muli v722 c1_i32_3328
  let v4421 : BitVec 32 := Scalar.addi c0_i32_3329 v4420
  v4421.toNat
def k0_cond17 (d0 : Dev nD) : BitVec 1 :=
  let c2_i32_638 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v768 : BitVec 32 := Scalar.muli c2_i32_638 v2
  let c0_i32_639 : BitVec 32 := 0#32
  let v769 : BitVec 32 := Scalar.addi v768 c0_i32_639
  let c2_i32_640 : BitVec 32 := 2#32
  let v770 : BitVec 1 := Scalar.cmpi .slt v769 c2_i32_640
  let c3_i32_641 : BitVec 32 := 3#32
  let c0_i32_642 : BitVec 32 := 0#32
  let v771 : BitVec 1 := Scalar.cmpi .eq c3_i32_641 c0_i32_642
  let c1_i32_643 : BitVec 32 := 1#32
  let v772 : BitVec 32 := Scalar.select v771 c1_i32_643 c3_i32_641
  let v773 : BitVec 32 := Scalar.remsi v769 v772
  let c0_i32_645 : BitVec 32 := 0#32
  let v775 : BitVec 1 := Scalar.cmpi .slt v773 c0_i32_645
  let c0_i32_646 : BitVec 32 := 0#32
  let v776 : BitVec 1 := Scalar.cmpi .slt v772 c0_i32_646
  let v777 : BitVec 1 := Scalar.xori v775 v776
  let c0_i32_644 : BitVec 32 := 0#32
  let v774 : BitVec 1 := Scalar.cmpi .ne v773 c0_i32_644
  let v778 : BitVec 1 := Scalar.andi v777 v774
  let v779 : BitVec 32 := Scalar.addi v773 v772
  let v780 : BitVec 32 := Scalar.select v778 v779 v773
  let c1_i32_647 : BitVec 32 := 1#32
  let v781 : BitVec 1 := Scalar.cmpi .ne v780 c1_i32_647
  let v782 : BitVec 1 := Scalar.ori v770 v781
  let v783 : BitVec 32 := Scalar.extui v782
  let c0_i32_652 : BitVec 32 := 0#32
  let v784 : BitVec 1 := Scalar.cmpi .ne v783 c0_i32_652
  v784

def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v757 : BitVec 32 := Scalar.addi v2 c9_i32_631
  let c16_i32_632 : BitVec 32 := 16#32
  let c0_i32_633 : BitVec 32 := 0#32
  let v758 : BitVec 1 := Scalar.cmpi .eq c16_i32_632 c0_i32_633
  let c1_i32_634 : BitVec 32 := 1#32
  let v759 : BitVec 32 := Scalar.select v758 c1_i32_634 c16_i32_632
  let v760 : BitVec 32 := Scalar.remsi v757 v759
  let c0_i32_636 : BitVec 32 := 0#32
  let v762 : BitVec 1 := Scalar.cmpi .slt v760 c0_i32_636
  let c0_i32_637 : BitVec 32 := 0#32
  let v763 : BitVec 1 := Scalar.cmpi .slt v759 c0_i32_637
  let v764 : BitVec 1 := Scalar.xori v762 v763
  let c0_i32_635 : BitVec 32 := 0#32
  let v761 : BitVec 1 := Scalar.cmpi .ne v760 c0_i32_635
  let v765 : BitVec 1 := Scalar.andi v764 v761
  let v766 : BitVec 32 := Scalar.addi v760 v759
  let v767 : BitVec 32 := Scalar.select v765 v766 v760
  let c0_i32_3332 : BitVec 32 := 0#32
  let c0_i32_3333 : BitVec 32 := 0#32
  let c0_i32_3334 : BitVec 32 := 0#32
  ![v767.toNat, 0, 0, 0]
def k0_dev32 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v757 : BitVec 32 := Scalar.addi v2 c9_i32_631
  let c16_i32_632 : BitVec 32 := 16#32
  let c0_i32_633 : BitVec 32 := 0#32
  let v758 : BitVec 1 := Scalar.cmpi .eq c16_i32_632 c0_i32_633
  let c1_i32_634 : BitVec 32 := 1#32
  let v759 : BitVec 32 := Scalar.select v758 c1_i32_634 c16_i32_632
  let v760 : BitVec 32 := Scalar.remsi v757 v759
  let c0_i32_636 : BitVec 32 := 0#32
  let v762 : BitVec 1 := Scalar.cmpi .slt v760 c0_i32_636
  let c0_i32_637 : BitVec 32 := 0#32
  let v763 : BitVec 1 := Scalar.cmpi .slt v759 c0_i32_637
  let v764 : BitVec 1 := Scalar.xori v762 v763
  let c0_i32_635 : BitVec 32 := 0#32
  let v761 : BitVec 1 := Scalar.cmpi .ne v760 c0_i32_635
  let v765 : BitVec 1 := Scalar.andi v764 v761
  let v766 : BitVec 32 := Scalar.addi v760 v759
  let v767 : BitVec 32 := Scalar.select v765 v766 v760
  let c1_i32_3328 : BitVec 32 := 1#32
  let v4420 : BitVec 32 := Scalar.muli v767 c1_i32_3328
  let v4421 : BitVec 32 := Scalar.addi c0_i32_3329 v4420
  v4421.toNat
def k0_cond18 (d0 : Dev nD) : BitVec 1 :=
  let c2_i32_653 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v785 : BitVec 32 := Scalar.muli c2_i32_653 v2
  let c1_i32_654 : BitVec 32 := 1#32
  let v786 : BitVec 32 := Scalar.addi v785 c1_i32_654
  let c2_i32_655 : BitVec 32 := 2#32
  let v787 : BitVec 1 := Scalar.cmpi .slt v786 c2_i32_655
  let c3_i32_656 : BitVec 32 := 3#32
  let c0_i32_657 : BitVec 32 := 0#32
  let v788 : BitVec 1 := Scalar.cmpi .eq c3_i32_656 c0_i32_657
  let c1_i32_658 : BitVec 32 := 1#32
  let v789 : BitVec 32 := Scalar.select v788 c1_i32_658 c3_i32_656
  let v790 : BitVec 32 := Scalar.remsi v786 v789
  let c0_i32_660 : BitVec 32 := 0#32
  let v792 : BitVec 1 := Scalar.cmpi .slt v790 c0_i32_660
  let c0_i32_661 : BitVec 32 := 0#32
  let v793 : BitVec 1 := Scalar.cmpi .slt v789 c0_i32_661
  let v794 : BitVec 1 := Scalar.xori v792 v793
  let c0_i32_659 : BitVec 32 := 0#32
  let v791 : BitVec 1 := Scalar.cmpi .ne v790 c0_i32_659
  let v795 : BitVec 1 := Scalar.andi v794 v791
  let v796 : BitVec 32 := Scalar.addi v790 v789
  let v797 : BitVec 32 := Scalar.select v795 v796 v790
  let c1_i32_662 : BitVec 32 := 1#32
  let v798 : BitVec 1 := Scalar.cmpi .ne v797 c1_i32_662
  let v799 : BitVec 1 := Scalar.ori v787 v798
  let v800 : BitVec 32 := Scalar.extui v799
  let c0_i32_667 : BitVec 32 := 0#32
  let v801 : BitVec 1 := Scalar.cmpi .ne v800 c0_i32_667
  v801

def k0_off19 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v757 : BitVec 32 := Scalar.addi v2 c9_i32_631
  let c16_i32_632 : BitVec 32 := 16#32
  let c0_i32_633 : BitVec 32 := 0#32
  let v758 : BitVec 1 := Scalar.cmpi .eq c16_i32_632 c0_i32_633
  let c1_i32_634 : BitVec 32 := 1#32
  let v759 : BitVec 32 := Scalar.select v758 c1_i32_634 c16_i32_632
  let v760 : BitVec 32 := Scalar.remsi v757 v759
  let c0_i32_636 : BitVec 32 := 0#32
  let v762 : BitVec 1 := Scalar.cmpi .slt v760 c0_i32_636
  let c0_i32_637 : BitVec 32 := 0#32
  let v763 : BitVec 1 := Scalar.cmpi .slt v759 c0_i32_637
  let v764 : BitVec 1 := Scalar.xori v762 v763
  let c0_i32_635 : BitVec 32 := 0#32
  let v761 : BitVec 1 := Scalar.cmpi .ne v760 c0_i32_635
  let v765 : BitVec 1 := Scalar.andi v764 v761
  let v766 : BitVec 32 := Scalar.addi v760 v759
  let v767 : BitVec 32 := Scalar.select v765 v766 v760
  let c0_i32_3332 : BitVec 32 := 0#32
  let c64_i32_3333 : BitVec 32 := 64#32
  let c0_i32_3334 : BitVec 32 := 0#32
  ![v767.toNat, 0, 64, 0]
def k0_dev33 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v757 : BitVec 32 := Scalar.addi v2 c9_i32_631
  let c16_i32_632 : BitVec 32 := 16#32
  let c0_i32_633 : BitVec 32 := 0#32
  let v758 : BitVec 1 := Scalar.cmpi .eq c16_i32_632 c0_i32_633
  let c1_i32_634 : BitVec 32 := 1#32
  let v759 : BitVec 32 := Scalar.select v758 c1_i32_634 c16_i32_632
  let v760 : BitVec 32 := Scalar.remsi v757 v759
  let c0_i32_636 : BitVec 32 := 0#32
  let v762 : BitVec 1 := Scalar.cmpi .slt v760 c0_i32_636
  let c0_i32_637 : BitVec 32 := 0#32
  let v763 : BitVec 1 := Scalar.cmpi .slt v759 c0_i32_637
  let v764 : BitVec 1 := Scalar.xori v762 v763
  let c0_i32_635 : BitVec 32 := 0#32
  let v761 : BitVec 1 := Scalar.cmpi .ne v760 c0_i32_635
  let v765 : BitVec 1 := Scalar.andi v764 v761
  let v766 : BitVec 32 := Scalar.addi v760 v759
  let v767 : BitVec 32 := Scalar.select v765 v766 v760
  let c1_i32_3328 : BitVec 32 := 1#32
  let v4420 : BitVec 32 := Scalar.muli v767 c1_i32_3328
  let v4421 : BitVec 32 := Scalar.addi c0_i32_3329 v4420
  v4421.toNat
def k0_cond19 (d0 : Dev nD) : BitVec 1 :=
  let c2_i32_675 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v813 : BitVec 32 := Scalar.muli c2_i32_675 v2
  let c0_i32_676 : BitVec 32 := 0#32
  let v814 : BitVec 32 := Scalar.addi v813 c0_i32_676
  let c2_i32_677 : BitVec 32 := 2#32
  let v815 : BitVec 1 := Scalar.cmpi .slt v814 c2_i32_677
  let c3_i32_678 : BitVec 32 := 3#32
  let c0_i32_679 : BitVec 32 := 0#32
  let v816 : BitVec 1 := Scalar.cmpi .eq c3_i32_678 c0_i32_679
  let c1_i32_680 : BitVec 32 := 1#32
  let v817 : BitVec 32 := Scalar.select v816 c1_i32_680 c3_i32_678
  let v818 : BitVec 32 := Scalar.remsi v814 v817
  let c0_i32_682 : BitVec 32 := 0#32
  let v820 : BitVec 1 := Scalar.cmpi .slt v818 c0_i32_682
  let c0_i32_683 : BitVec 32 := 0#32
  let v821 : BitVec 1 := Scalar.cmpi .slt v817 c0_i32_683
  let v822 : BitVec 1 := Scalar.xori v820 v821
  let c0_i32_681 : BitVec 32 := 0#32
  let v819 : BitVec 1 := Scalar.cmpi .ne v818 c0_i32_681
  let v823 : BitVec 1 := Scalar.andi v822 v819
  let v824 : BitVec 32 := Scalar.addi v818 v817
  let v825 : BitVec 32 := Scalar.select v823 v824 v818
  let c1_i32_684 : BitVec 32 := 1#32
  let v826 : BitVec 1 := Scalar.cmpi .ne v825 c1_i32_684
  let v827 : BitVec 1 := Scalar.ori v815 v826
  let v828 : BitVec 32 := Scalar.extui v827
  let c0_i32_689 : BitVec 32 := 0#32
  let v829 : BitVec 1 := Scalar.cmpi .ne v828 c0_i32_689
  v829

def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_668 : BitVec 32 := 10#32
  let v802 : BitVec 32 := Scalar.addi v2 c10_i32_668
  let c16_i32_669 : BitVec 32 := 16#32
  let c0_i32_670 : BitVec 32 := 0#32
  let v803 : BitVec 1 := Scalar.cmpi .eq c16_i32_669 c0_i32_670
  let c1_i32_671 : BitVec 32 := 1#32
  let v804 : BitVec 32 := Scalar.select v803 c1_i32_671 c16_i32_669
  let v805 : BitVec 32 := Scalar.remsi v802 v804
  let c0_i32_673 : BitVec 32 := 0#32
  let v807 : BitVec 1 := Scalar.cmpi .slt v805 c0_i32_673
  let c0_i32_674 : BitVec 32 := 0#32
  let v808 : BitVec 1 := Scalar.cmpi .slt v804 c0_i32_674
  let v809 : BitVec 1 := Scalar.xori v807 v808
  let c0_i32_672 : BitVec 32 := 0#32
  let v806 : BitVec 1 := Scalar.cmpi .ne v805 c0_i32_672
  let v810 : BitVec 1 := Scalar.andi v809 v806
  let v811 : BitVec 32 := Scalar.addi v805 v804
  let v812 : BitVec 32 := Scalar.select v810 v811 v805
  let c0_i32_3332 : BitVec 32 := 0#32
  let c0_i32_3333 : BitVec 32 := 0#32
  let c0_i32_3334 : BitVec 32 := 0#32
  ![v812.toNat, 0, 0, 0]
def k0_dev34 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_668 : BitVec 32 := 10#32
  let v802 : BitVec 32 := Scalar.addi v2 c10_i32_668
  let c16_i32_669 : BitVec 32 := 16#32
  let c0_i32_670 : BitVec 32 := 0#32
  let v803 : BitVec 1 := Scalar.cmpi .eq c16_i32_669 c0_i32_670
  let c1_i32_671 : BitVec 32 := 1#32
  let v804 : BitVec 32 := Scalar.select v803 c1_i32_671 c16_i32_669
  let v805 : BitVec 32 := Scalar.remsi v802 v804
  let c0_i32_673 : BitVec 32 := 0#32
  let v807 : BitVec 1 := Scalar.cmpi .slt v805 c0_i32_673
  let c0_i32_674 : BitVec 32 := 0#32
  let v808 : BitVec 1 := Scalar.cmpi .slt v804 c0_i32_674
  let v809 : BitVec 1 := Scalar.xori v807 v808
  let c0_i32_672 : BitVec 32 := 0#32
  let v806 : BitVec 1 := Scalar.cmpi .ne v805 c0_i32_672
  let v810 : BitVec 1 := Scalar.andi v809 v806
  let v811 : BitVec 32 := Scalar.addi v805 v804
  let v812 : BitVec 32 := Scalar.select v810 v811 v805
  let c1_i32_3328 : BitVec 32 := 1#32
  let v4420 : BitVec 32 := Scalar.muli v812 c1_i32_3328
  let v4421 : BitVec 32 := Scalar.addi c0_i32_3329 v4420
  v4421.toNat
def k0_cond20 (d0 : Dev nD) : BitVec 1 :=
  let c2_i32_690 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v830 : BitVec 32 := Scalar.muli c2_i32_690 v2
  let c1_i32_691 : BitVec 32 := 1#32
  let v831 : BitVec 32 := Scalar.addi v830 c1_i32_691
  let c2_i32_692 : BitVec 32 := 2#32
  let v832 : BitVec 1 := Scalar.cmpi .slt v831 c2_i32_692
  let c3_i32_693 : BitVec 32 := 3#32
  let c0_i32_694 : BitVec 32 := 0#32
  let v833 : BitVec 1 := Scalar.cmpi .eq c3_i32_693 c0_i32_694
  let c1_i32_695 : BitVec 32 := 1#32
  let v834 : BitVec 32 := Scalar.select v833 c1_i32_695 c3_i32_693
  let v835 : BitVec 32 := Scalar.remsi v831 v834
  let c0_i32_697 : BitVec 32 := 0#32
  let v837 : BitVec 1 := Scalar.cmpi .slt v835 c0_i32_697
  let c0_i32_698 : BitVec 32 := 0#32
  let v838 : BitVec 1 := Scalar.cmpi .slt v834 c0_i32_698
  let v839 : BitVec 1 := Scalar.xori v837 v838
  let c0_i32_696 : BitVec 32 := 0#32
  let v836 : BitVec 1 := Scalar.cmpi .ne v835 c0_i32_696
  let v840 : BitVec 1 := Scalar.andi v839 v836
  let v841 : BitVec 32 := Scalar.addi v835 v834
  let v842 : BitVec 32 := Scalar.select v840 v841 v835
  let c1_i32_699 : BitVec 32 := 1#32
  let v843 : BitVec 1 := Scalar.cmpi .ne v842 c1_i32_699
  let v844 : BitVec 1 := Scalar.ori v832 v843
  let v845 : BitVec 32 := Scalar.extui v844
  let c0_i32_704 : BitVec 32 := 0#32
  let v846 : BitVec 1 := Scalar.cmpi .ne v845 c0_i32_704
  v846

def k0_off21 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_668 : BitVec 32 := 10#32
  let v802 : BitVec 32 := Scalar.addi v2 c10_i32_668
  let c16_i32_669 : BitVec 32 := 16#32
  let c0_i32_670 : BitVec 32 := 0#32
  let v803 : BitVec 1 := Scalar.cmpi .eq c16_i32_669 c0_i32_670
  let c1_i32_671 : BitVec 32 := 1#32
  let v804 : BitVec 32 := Scalar.select v803 c1_i32_671 c16_i32_669
  let v805 : BitVec 32 := Scalar.remsi v802 v804
  let c0_i32_673 : BitVec 32 := 0#32
  let v807 : BitVec 1 := Scalar.cmpi .slt v805 c0_i32_673
  let c0_i32_674 : BitVec 32 := 0#32
  let v808 : BitVec 1 := Scalar.cmpi .slt v804 c0_i32_674
  let v809 : BitVec 1 := Scalar.xori v807 v808
  let c0_i32_672 : BitVec 32 := 0#32
  let v806 : BitVec 1 := Scalar.cmpi .ne v805 c0_i32_672
  let v810 : BitVec 1 := Scalar.andi v809 v806
  let v811 : BitVec 32 := Scalar.addi v805 v804
  let v812 : BitVec 32 := Scalar.select v810 v811 v805
  let c0_i32_3332 : BitVec 32 := 0#32
  let c64_i32_3333 : BitVec 32 := 64#32
  let c0_i32_3334 : BitVec 32 := 0#32
  ![v812.toNat, 0, 64, 0]
def k0_dev35 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_668 : BitVec 32 := 10#32
  let v802 : BitVec 32 := Scalar.addi v2 c10_i32_668
  let c16_i32_669 : BitVec 32 := 16#32
  let c0_i32_670 : BitVec 32 := 0#32
  let v803 : BitVec 1 := Scalar.cmpi .eq c16_i32_669 c0_i32_670
  let c1_i32_671 : BitVec 32 := 1#32
  let v804 : BitVec 32 := Scalar.select v803 c1_i32_671 c16_i32_669
  let v805 : BitVec 32 := Scalar.remsi v802 v804
  let c0_i32_673 : BitVec 32 := 0#32
  let v807 : BitVec 1 := Scalar.cmpi .slt v805 c0_i32_673
  let c0_i32_674 : BitVec 32 := 0#32
  let v808 : BitVec 1 := Scalar.cmpi .slt v804 c0_i32_674
  let v809 : BitVec 1 := Scalar.xori v807 v808
  let c0_i32_672 : BitVec 32 := 0#32
  let v806 : BitVec 1 := Scalar.cmpi .ne v805 c0_i32_672
  let v810 : BitVec 1 := Scalar.andi v809 v806
  let v811 : BitVec 32 := Scalar.addi v805 v804
  let v812 : BitVec 32 := Scalar.select v810 v811 v805
  let c1_i32_3328 : BitVec 32 := 1#32
  let v4420 : BitVec 32 := Scalar.muli v812 c1_i32_3328
  let v4421 : BitVec 32 := Scalar.addi c0_i32_3329 v4420
  v4421.toNat
def k0_cond21 (d0 : Dev nD) : BitVec 1 :=
  let c2_i32_712 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v858 : BitVec 32 := Scalar.muli c2_i32_712 v2
  let c0_i32_713 : BitVec 32 := 0#32
  let v859 : BitVec 32 := Scalar.addi v858 c0_i32_713
  let c2_i32_714 : BitVec 32 := 2#32
  let v860 : BitVec 1 := Scalar.cmpi .slt v859 c2_i32_714
  let c3_i32_715 : BitVec 32 := 3#32
  let c0_i32_716 : BitVec 32 := 0#32
  let v861 : BitVec 1 := Scalar.cmpi .eq c3_i32_715 c0_i32_716
  let c1_i32_717 : BitVec 32 := 1#32
  let v862 : BitVec 32 := Scalar.select v861 c1_i32_717 c3_i32_715
  let v863 : BitVec 32 := Scalar.remsi v859 v862
  let c0_i32_719 : BitVec 32 := 0#32
  let v865 : BitVec 1 := Scalar.cmpi .slt v863 c0_i32_719
  let c0_i32_720 : BitVec 32 := 0#32
  let v866 : BitVec 1 := Scalar.cmpi .slt v862 c0_i32_720
  let v867 : BitVec 1 := Scalar.xori v865 v866
  let c0_i32_718 : BitVec 32 := 0#32
  let v864 : BitVec 1 := Scalar.cmpi .ne v863 c0_i32_718
  let v868 : BitVec 1 := Scalar.andi v867 v864
  let v869 : BitVec 32 := Scalar.addi v863 v862
  let v870 : BitVec 32 := Scalar.select v868 v869 v863
  let c1_i32_721 : BitVec 32 := 1#32
  let v871 : BitVec 1 := Scalar.cmpi .ne v870 c1_i32_721
  let v872 : BitVec 1 := Scalar.ori v860 v871
  let v873 : BitVec 32 := Scalar.extui v872
  let c0_i32_726 : BitVec 32 := 0#32
  let v874 : BitVec 1 := Scalar.cmpi .ne v873 c0_i32_726
  v874

def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v847 : BitVec 32 := Scalar.addi v2 c11_i32_705
  let c16_i32_706 : BitVec 32 := 16#32
  let c0_i32_707 : BitVec 32 := 0#32
  let v848 : BitVec 1 := Scalar.cmpi .eq c16_i32_706 c0_i32_707
  let c1_i32_708 : BitVec 32 := 1#32
  let v849 : BitVec 32 := Scalar.select v848 c1_i32_708 c16_i32_706
  let v850 : BitVec 32 := Scalar.remsi v847 v849
  let c0_i32_710 : BitVec 32 := 0#32
  let v852 : BitVec 1 := Scalar.cmpi .slt v850 c0_i32_710
  let c0_i32_711 : BitVec 32 := 0#32
  let v853 : BitVec 1 := Scalar.cmpi .slt v849 c0_i32_711
  let v854 : BitVec 1 := Scalar.xori v852 v853
  let c0_i32_709 : BitVec 32 := 0#32
  let v851 : BitVec 1 := Scalar.cmpi .ne v850 c0_i32_709
  let v855 : BitVec 1 := Scalar.andi v854 v851
  let v856 : BitVec 32 := Scalar.addi v850 v849
  let v857 : BitVec 32 := Scalar.select v855 v856 v850
  let c0_i32_3332 : BitVec 32 := 0#32
  let c0_i32_3333 : BitVec 32 := 0#32
  let c0_i32_3334 : BitVec 32 := 0#32
  ![v857.toNat, 0, 0, 0]
def k0_dev36 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v847 : BitVec 32 := Scalar.addi v2 c11_i32_705
  let c16_i32_706 : BitVec 32 := 16#32
  let c0_i32_707 : BitVec 32 := 0#32
  let v848 : BitVec 1 := Scalar.cmpi .eq c16_i32_706 c0_i32_707
  let c1_i32_708 : BitVec 32 := 1#32
  let v849 : BitVec 32 := Scalar.select v848 c1_i32_708 c16_i32_706
  let v850 : BitVec 32 := Scalar.remsi v847 v849
  let c0_i32_710 : BitVec 32 := 0#32
  let v852 : BitVec 1 := Scalar.cmpi .slt v850 c0_i32_710
  let c0_i32_711 : BitVec 32 := 0#32
  let v853 : BitVec 1 := Scalar.cmpi .slt v849 c0_i32_711
  let v854 : BitVec 1 := Scalar.xori v852 v853
  let c0_i32_709 : BitVec 32 := 0#32
  let v851 : BitVec 1 := Scalar.cmpi .ne v850 c0_i32_709
  let v855 : BitVec 1 := Scalar.andi v854 v851
  let v856 : BitVec 32 := Scalar.addi v850 v849
  let v857 : BitVec 32 := Scalar.select v855 v856 v850
  let c1_i32_3328 : BitVec 32 := 1#32
  let v4420 : BitVec 32 := Scalar.muli v857 c1_i32_3328
  let v4421 : BitVec 32 := Scalar.addi c0_i32_3329 v4420
  v4421.toNat
def k0_cond22 (d0 : Dev nD) : BitVec 1 :=
  let c2_i32_727 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v875 : BitVec 32 := Scalar.muli c2_i32_727 v2
  let c1_i32_728 : BitVec 32 := 1#32
  let v876 : BitVec 32 := Scalar.addi v875 c1_i32_728
  let c2_i32_729 : BitVec 32 := 2#32
  let v877 : BitVec 1 := Scalar.cmpi .slt v876 c2_i32_729
  let c3_i32_730 : BitVec 32 := 3#32
  let c0_i32_731 : BitVec 32 := 0#32
  let v878 : BitVec 1 := Scalar.cmpi .eq c3_i32_730 c0_i32_731
  let c1_i32_732 : BitVec 32 := 1#32
  let v879 : BitVec 32 := Scalar.select v878 c1_i32_732 c3_i32_730
  let v880 : BitVec 32 := Scalar.remsi v876 v879
  let c0_i32_734 : BitVec 32 := 0#32
  let v882 : BitVec 1 := Scalar.cmpi .slt v880 c0_i32_734
  let c0_i32_735 : BitVec 32 := 0#32
  let v883 : BitVec 1 := Scalar.cmpi .slt v879 c0_i32_735
  let v884 : BitVec 1 := Scalar.xori v882 v883
  let c0_i32_733 : BitVec 32 := 0#32
  let v881 : BitVec 1 := Scalar.cmpi .ne v880 c0_i32_733
  let v885 : BitVec 1 := Scalar.andi v884 v881
  let v886 : BitVec 32 := Scalar.addi v880 v879
  let v887 : BitVec 32 := Scalar.select v885 v886 v880
  let c1_i32_736 : BitVec 32 := 1#32
  let v888 : BitVec 1 := Scalar.cmpi .ne v887 c1_i32_736
  let v889 : BitVec 1 := Scalar.ori v877 v888
  let v890 : BitVec 32 := Scalar.extui v889
  let c0_i32_741 : BitVec 32 := 0#32
  let v891 : BitVec 1 := Scalar.cmpi .ne v890 c0_i32_741
  v891

def k0_off23 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v847 : BitVec 32 := Scalar.addi v2 c11_i32_705
  let c16_i32_706 : BitVec 32 := 16#32
  let c0_i32_707 : BitVec 32 := 0#32
  let v848 : BitVec 1 := Scalar.cmpi .eq c16_i32_706 c0_i32_707
  let c1_i32_708 : BitVec 32 := 1#32
  let v849 : BitVec 32 := Scalar.select v848 c1_i32_708 c16_i32_706
  let v850 : BitVec 32 := Scalar.remsi v847 v849
  let c0_i32_710 : BitVec 32 := 0#32
  let v852 : BitVec 1 := Scalar.cmpi .slt v850 c0_i32_710
  let c0_i32_711 : BitVec 32 := 0#32
  let v853 : BitVec 1 := Scalar.cmpi .slt v849 c0_i32_711
  let v854 : BitVec 1 := Scalar.xori v852 v853
  let c0_i32_709 : BitVec 32 := 0#32
  let v851 : BitVec 1 := Scalar.cmpi .ne v850 c0_i32_709
  let v855 : BitVec 1 := Scalar.andi v854 v851
  let v856 : BitVec 32 := Scalar.addi v850 v849
  let v857 : BitVec 32 := Scalar.select v855 v856 v850
  let c0_i32_3332 : BitVec 32 := 0#32
  let c64_i32_3333 : BitVec 32 := 64#32
  let c0_i32_3334 : BitVec 32 := 0#32
  ![v857.toNat, 0, 64, 0]
def k0_dev37 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v847 : BitVec 32 := Scalar.addi v2 c11_i32_705
  let c16_i32_706 : BitVec 32 := 16#32
  let c0_i32_707 : BitVec 32 := 0#32
  let v848 : BitVec 1 := Scalar.cmpi .eq c16_i32_706 c0_i32_707
  let c1_i32_708 : BitVec 32 := 1#32
  let v849 : BitVec 32 := Scalar.select v848 c1_i32_708 c16_i32_706
  let v850 : BitVec 32 := Scalar.remsi v847 v849
  let c0_i32_710 : BitVec 32 := 0#32
  let v852 : BitVec 1 := Scalar.cmpi .slt v850 c0_i32_710
  let c0_i32_711 : BitVec 32 := 0#32
  let v853 : BitVec 1 := Scalar.cmpi .slt v849 c0_i32_711
  let v854 : BitVec 1 := Scalar.xori v852 v853
  let c0_i32_709 : BitVec 32 := 0#32
  let v851 : BitVec 1 := Scalar.cmpi .ne v850 c0_i32_709
  let v855 : BitVec 1 := Scalar.andi v854 v851
  let v856 : BitVec 32 := Scalar.addi v850 v849
  let v857 : BitVec 32 := Scalar.select v855 v856 v850
  let c1_i32_3328 : BitVec 32 := 1#32
  let v4420 : BitVec 32 := Scalar.muli v857 c1_i32_3328
  let v4421 : BitVec 32 := Scalar.addi c0_i32_3329 v4420
  v4421.toNat
def k0_cond23 (d0 : Dev nD) : BitVec 1 :=
  let c2_i32_749 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v903 : BitVec 32 := Scalar.muli c2_i32_749 v2
  let c0_i32_750 : BitVec 32 := 0#32
  let v904 : BitVec 32 := Scalar.addi v903 c0_i32_750
  let c2_i32_751 : BitVec 32 := 2#32
  let v905 : BitVec 1 := Scalar.cmpi .slt v904 c2_i32_751
  let c3_i32_752 : BitVec 32 := 3#32
  let c0_i32_753 : BitVec 32 := 0#32
  let v906 : BitVec 1 := Scalar.cmpi .eq c3_i32_752 c0_i32_753
  let c1_i32_754 : BitVec 32 := 1#32
  let v907 : BitVec 32 := Scalar.select v906 c1_i32_754 c3_i32_752
  let v908 : BitVec 32 := Scalar.remsi v904 v907
  let c0_i32_756 : BitVec 32 := 0#32
  let v910 : BitVec 1 := Scalar.cmpi .slt v908 c0_i32_756
  let c0_i32_757 : BitVec 32 := 0#32
  let v911 : BitVec 1 := Scalar.cmpi .slt v907 c0_i32_757
  let v912 : BitVec 1 := Scalar.xori v910 v911
  let c0_i32_755 : BitVec 32 := 0#32
  let v909 : BitVec 1 := Scalar.cmpi .ne v908 c0_i32_755
  let v913 : BitVec 1 := Scalar.andi v912 v909
  let v914 : BitVec 32 := Scalar.addi v908 v907
  let v915 : BitVec 32 := Scalar.select v913 v914 v908
  let c1_i32_758 : BitVec 32 := 1#32
  let v916 : BitVec 1 := Scalar.cmpi .ne v915 c1_i32_758
  let v917 : BitVec 1 := Scalar.ori v905 v916
  let v918 : BitVec 32 := Scalar.extui v917
  let c0_i32_763 : BitVec 32 := 0#32
  let v919 : BitVec 1 := Scalar.cmpi .ne v918 c0_i32_763
  v919

def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_742 : BitVec 32 := 12#32
  let v892 : BitVec 32 := Scalar.addi v2 c12_i32_742
  let c16_i32_743 : BitVec 32 := 16#32
  let c0_i32_744 : BitVec 32 := 0#32
  let v893 : BitVec 1 := Scalar.cmpi .eq c16_i32_743 c0_i32_744
  let c1_i32_745 : BitVec 32 := 1#32
  let v894 : BitVec 32 := Scalar.select v893 c1_i32_745 c16_i32_743
  let v895 : BitVec 32 := Scalar.remsi v892 v894
  let c0_i32_747 : BitVec 32 := 0#32
  let v897 : BitVec 1 := Scalar.cmpi .slt v895 c0_i32_747
  let c0_i32_748 : BitVec 32 := 0#32
  let v898 : BitVec 1 := Scalar.cmpi .slt v894 c0_i32_748
  let v899 : BitVec 1 := Scalar.xori v897 v898
  let c0_i32_746 : BitVec 32 := 0#32
  let v896 : BitVec 1 := Scalar.cmpi .ne v895 c0_i32_746
  let v900 : BitVec 1 := Scalar.andi v899 v896
  let v901 : BitVec 32 := Scalar.addi v895 v894
  let v902 : BitVec 32 := Scalar.select v900 v901 v895
  let c0_i32_3332 : BitVec 32 := 0#32
  let c0_i32_3333 : BitVec 32 := 0#32
  let c0_i32_3334 : BitVec 32 := 0#32
  ![v902.toNat, 0, 0, 0]
def k0_dev38 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_742 : BitVec 32 := 12#32
  let v892 : BitVec 32 := Scalar.addi v2 c12_i32_742
  let c16_i32_743 : BitVec 32 := 16#32
  let c0_i32_744 : BitVec 32 := 0#32
  let v893 : BitVec 1 := Scalar.cmpi .eq c16_i32_743 c0_i32_744
  let c1_i32_745 : BitVec 32 := 1#32
  let v894 : BitVec 32 := Scalar.select v893 c1_i32_745 c16_i32_743
  let v895 : BitVec 32 := Scalar.remsi v892 v894
  let c0_i32_747 : BitVec 32 := 0#32
  let v897 : BitVec 1 := Scalar.cmpi .slt v895 c0_i32_747
  let c0_i32_748 : BitVec 32 := 0#32
  let v898 : BitVec 1 := Scalar.cmpi .slt v894 c0_i32_748
  let v899 : BitVec 1 := Scalar.xori v897 v898
  let c0_i32_746 : BitVec 32 := 0#32
  let v896 : BitVec 1 := Scalar.cmpi .ne v895 c0_i32_746
  let v900 : BitVec 1 := Scalar.andi v899 v896
  let v901 : BitVec 32 := Scalar.addi v895 v894
  let v902 : BitVec 32 := Scalar.select v900 v901 v895
  let c1_i32_3328 : BitVec 32 := 1#32
  let v4420 : BitVec 32 := Scalar.muli v902 c1_i32_3328
  let v4421 : BitVec 32 := Scalar.addi c0_i32_3329 v4420
  v4421.toNat
def k0_cond24 (d0 : Dev nD) : BitVec 1 :=
  let c2_i32_764 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v920 : BitVec 32 := Scalar.muli c2_i32_764 v2
  let c1_i32_765 : BitVec 32 := 1#32
  let v921 : BitVec 32 := Scalar.addi v920 c1_i32_765
  let c2_i32_766 : BitVec 32 := 2#32
  let v922 : BitVec 1 := Scalar.cmpi .slt v921 c2_i32_766
  let c3_i32_767 : BitVec 32 := 3#32
  let c0_i32_768 : BitVec 32 := 0#32
  let v923 : BitVec 1 := Scalar.cmpi .eq c3_i32_767 c0_i32_768
  let c1_i32_769 : BitVec 32 := 1#32
  let v924 : BitVec 32 := Scalar.select v923 c1_i32_769 c3_i32_767
  let v925 : BitVec 32 := Scalar.remsi v921 v924
  let c0_i32_771 : BitVec 32 := 0#32
  let v927 : BitVec 1 := Scalar.cmpi .slt v925 c0_i32_771
  let c0_i32_772 : BitVec 32 := 0#32
  let v928 : BitVec 1 := Scalar.cmpi .slt v924 c0_i32_772
  let v929 : BitVec 1 := Scalar.xori v927 v928
  let c0_i32_770 : BitVec 32 := 0#32
  let v926 : BitVec 1 := Scalar.cmpi .ne v925 c0_i32_770
  let v930 : BitVec 1 := Scalar.andi v929 v926
  let v931 : BitVec 32 := Scalar.addi v925 v924
  let v932 : BitVec 32 := Scalar.select v930 v931 v925
  let c1_i32_773 : BitVec 32 := 1#32
  let v933 : BitVec 1 := Scalar.cmpi .ne v932 c1_i32_773
  let v934 : BitVec 1 := Scalar.ori v922 v933
  let v935 : BitVec 32 := Scalar.extui v934
  let c0_i32_778 : BitVec 32 := 0#32
  let v936 : BitVec 1 := Scalar.cmpi .ne v935 c0_i32_778
  v936

def k0_off25 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_742 : BitVec 32 := 12#32
  let v892 : BitVec 32 := Scalar.addi v2 c12_i32_742
  let c16_i32_743 : BitVec 32 := 16#32
  let c0_i32_744 : BitVec 32 := 0#32
  let v893 : BitVec 1 := Scalar.cmpi .eq c16_i32_743 c0_i32_744
  let c1_i32_745 : BitVec 32 := 1#32
  let v894 : BitVec 32 := Scalar.select v893 c1_i32_745 c16_i32_743
  let v895 : BitVec 32 := Scalar.remsi v892 v894
  let c0_i32_747 : BitVec 32 := 0#32
  let v897 : BitVec 1 := Scalar.cmpi .slt v895 c0_i32_747
  let c0_i32_748 : BitVec 32 := 0#32
  let v898 : BitVec 1 := Scalar.cmpi .slt v894 c0_i32_748
  let v899 : BitVec 1 := Scalar.xori v897 v898
  let c0_i32_746 : BitVec 32 := 0#32
  let v896 : BitVec 1 := Scalar.cmpi .ne v895 c0_i32_746
  let v900 : BitVec 1 := Scalar.andi v899 v896
  let v901 : BitVec 32 := Scalar.addi v895 v894
  let v902 : BitVec 32 := Scalar.select v900 v901 v895
  let c0_i32_3332 : BitVec 32 := 0#32
  let c64_i32_3333 : BitVec 32 := 64#32
  let c0_i32_3334 : BitVec 32 := 0#32
  ![v902.toNat, 0, 64, 0]
def k0_dev39 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_742 : BitVec 32 := 12#32
  let v892 : BitVec 32 := Scalar.addi v2 c12_i32_742
  let c16_i32_743 : BitVec 32 := 16#32
  let c0_i32_744 : BitVec 32 := 0#32
  let v893 : BitVec 1 := Scalar.cmpi .eq c16_i32_743 c0_i32_744
  let c1_i32_745 : BitVec 32 := 1#32
  let v894 : BitVec 32 := Scalar.select v893 c1_i32_745 c16_i32_743
  let v895 : BitVec 32 := Scalar.remsi v892 v894
  let c0_i32_747 : BitVec 32 := 0#32
  let v897 : BitVec 1 := Scalar.cmpi .slt v895 c0_i32_747
  let c0_i32_748 : BitVec 32 := 0#32
  let v898 : BitVec 1 := Scalar.cmpi .slt v894 c0_i32_748
  let v899 : BitVec 1 := Scalar.xori v897 v898
  let c0_i32_746 : BitVec 32 := 0#32
  let v896 : BitVec 1 := Scalar.cmpi .ne v895 c0_i32_746
  let v900 : BitVec 1 := Scalar.andi v899 v896
  let v901 : BitVec 32 := Scalar.addi v895 v894
  let v902 : BitVec 32 := Scalar.select v900 v901 v895
  let c1_i32_3328 : BitVec 32 := 1#32
  let v4420 : BitVec 32 := Scalar.muli v902 c1_i32_3328
  let v4421 : BitVec 32 := Scalar.addi c0_i32_3329 v4420
  v4421.toNat
def k0_cond25 (d0 : Dev nD) : BitVec 1 :=
  let c2_i32_786 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v948 : BitVec 32 := Scalar.muli c2_i32_786 v2
  let c0_i32_787 : BitVec 32 := 0#32
  let v949 : BitVec 32 := Scalar.addi v948 c0_i32_787
  let c2_i32_788 : BitVec 32 := 2#32
  let v950 : BitVec 1 := Scalar.cmpi .slt v949 c2_i32_788
  let c3_i32_789 : BitVec 32 := 3#32
  let c0_i32_790 : BitVec 32 := 0#32
  let v951 : BitVec 1 := Scalar.cmpi .eq c3_i32_789 c0_i32_790
  let c1_i32_791 : BitVec 32 := 1#32
  let v952 : BitVec 32 := Scalar.select v951 c1_i32_791 c3_i32_789
  let v953 : BitVec 32 := Scalar.remsi v949 v952
  let c0_i32_793 : BitVec 32 := 0#32
  let v955 : BitVec 1 := Scalar.cmpi .slt v953 c0_i32_793
  let c0_i32_794 : BitVec 32 := 0#32
  let v956 : BitVec 1 := Scalar.cmpi .slt v952 c0_i32_794
  let v957 : BitVec 1 := Scalar.xori v955 v956
  let c0_i32_792 : BitVec 32 := 0#32
  let v954 : BitVec 1 := Scalar.cmpi .ne v953 c0_i32_792
  let v958 : BitVec 1 := Scalar.andi v957 v954
  let v959 : BitVec 32 := Scalar.addi v953 v952
  let v960 : BitVec 32 := Scalar.select v958 v959 v953
  let c1_i32_795 : BitVec 32 := 1#32
  let v961 : BitVec 1 := Scalar.cmpi .ne v960 c1_i32_795
  let v962 : BitVec 1 := Scalar.ori v950 v961
  let v963 : BitVec 32 := Scalar.extui v962
  let c0_i32_800 : BitVec 32 := 0#32
  let v964 : BitVec 1 := Scalar.cmpi .ne v963 c0_i32_800
  v964

def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_779 : BitVec 32 := 13#32
  let v937 : BitVec 32 := Scalar.addi v2 c13_i32_779
  let c16_i32_780 : BitVec 32 := 16#32
  let c0_i32_781 : BitVec 32 := 0#32
  let v938 : BitVec 1 := Scalar.cmpi .eq c16_i32_780 c0_i32_781
  let c1_i32_782 : BitVec 32 := 1#32
  let v939 : BitVec 32 := Scalar.select v938 c1_i32_782 c16_i32_780
  let v940 : BitVec 32 := Scalar.remsi v937 v939
  let c0_i32_784 : BitVec 32 := 0#32
  let v942 : BitVec 1 := Scalar.cmpi .slt v940 c0_i32_784
  let c0_i32_785 : BitVec 32 := 0#32
  let v943 : BitVec 1 := Scalar.cmpi .slt v939 c0_i32_785
  let v944 : BitVec 1 := Scalar.xori v942 v943
  let c0_i32_783 : BitVec 32 := 0#32
  let v941 : BitVec 1 := Scalar.cmpi .ne v940 c0_i32_783
  let v945 : BitVec 1 := Scalar.andi v944 v941
  let v946 : BitVec 32 := Scalar.addi v940 v939
  let v947 : BitVec 32 := Scalar.select v945 v946 v940
  let c0_i32_3332 : BitVec 32 := 0#32
  let c0_i32_3333 : BitVec 32 := 0#32
  let c0_i32_3334 : BitVec 32 := 0#32
  ![v947.toNat, 0, 0, 0]
def k0_dev40 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_779 : BitVec 32 := 13#32
  let v937 : BitVec 32 := Scalar.addi v2 c13_i32_779
  let c16_i32_780 : BitVec 32 := 16#32
  let c0_i32_781 : BitVec 32 := 0#32
  let v938 : BitVec 1 := Scalar.cmpi .eq c16_i32_780 c0_i32_781
  let c1_i32_782 : BitVec 32 := 1#32
  let v939 : BitVec 32 := Scalar.select v938 c1_i32_782 c16_i32_780
  let v940 : BitVec 32 := Scalar.remsi v937 v939
  let c0_i32_784 : BitVec 32 := 0#32
  let v942 : BitVec 1 := Scalar.cmpi .slt v940 c0_i32_784
  let c0_i32_785 : BitVec 32 := 0#32
  let v943 : BitVec 1 := Scalar.cmpi .slt v939 c0_i32_785
  let v944 : BitVec 1 := Scalar.xori v942 v943
  let c0_i32_783 : BitVec 32 := 0#32
  let v941 : BitVec 1 := Scalar.cmpi .ne v940 c0_i32_783
  let v945 : BitVec 1 := Scalar.andi v944 v941
  let v946 : BitVec 32 := Scalar.addi v940 v939
  let v947 : BitVec 32 := Scalar.select v945 v946 v940
  let c1_i32_3328 : BitVec 32 := 1#32
  let v4420 : BitVec 32 := Scalar.muli v947 c1_i32_3328
  let v4421 : BitVec 32 := Scalar.addi c0_i32_3329 v4420
  v4421.toNat
def k0_cond26 (d0 : Dev nD) : BitVec 1 :=
  let c2_i32_801 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v965 : BitVec 32 := Scalar.muli c2_i32_801 v2
  let c1_i32_802 : BitVec 32 := 1#32
  let v966 : BitVec 32 := Scalar.addi v965 c1_i32_802
  let c2_i32_803 : BitVec 32 := 2#32
  let v967 : BitVec 1 := Scalar.cmpi .slt v966 c2_i32_803
  let c3_i32_804 : BitVec 32 := 3#32
  let c0_i32_805 : BitVec 32 := 0#32
  let v968 : BitVec 1 := Scalar.cmpi .eq c3_i32_804 c0_i32_805
  let c1_i32_806 : BitVec 32 := 1#32
  let v969 : BitVec 32 := Scalar.select v968 c1_i32_806 c3_i32_804
  let v970 : BitVec 32 := Scalar.remsi v966 v969
  let c0_i32_808 : BitVec 32 := 0#32
  let v972 : BitVec 1 := Scalar.cmpi .slt v970 c0_i32_808
  let c0_i32_809 : BitVec 32 := 0#32
  let v973 : BitVec 1 := Scalar.cmpi .slt v969 c0_i32_809
  let v974 : BitVec 1 := Scalar.xori v972 v973
  let c0_i32_807 : BitVec 32 := 0#32
  let v971 : BitVec 1 := Scalar.cmpi .ne v970 c0_i32_807
  let v975 : BitVec 1 := Scalar.andi v974 v971
  let v976 : BitVec 32 := Scalar.addi v970 v969
  let v977 : BitVec 32 := Scalar.select v975 v976 v970
  let c1_i32_810 : BitVec 32 := 1#32
  let v978 : BitVec 1 := Scalar.cmpi .ne v977 c1_i32_810
  let v979 : BitVec 1 := Scalar.ori v967 v978
  let v980 : BitVec 32 := Scalar.extui v979
  let c0_i32_815 : BitVec 32 := 0#32
  let v981 : BitVec 1 := Scalar.cmpi .ne v980 c0_i32_815
  v981

def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_779 : BitVec 32 := 13#32
  let v937 : BitVec 32 := Scalar.addi v2 c13_i32_779
  let c16_i32_780 : BitVec 32 := 16#32
  let c0_i32_781 : BitVec 32 := 0#32
  let v938 : BitVec 1 := Scalar.cmpi .eq c16_i32_780 c0_i32_781
  let c1_i32_782 : BitVec 32 := 1#32
  let v939 : BitVec 32 := Scalar.select v938 c1_i32_782 c16_i32_780
  let v940 : BitVec 32 := Scalar.remsi v937 v939
  let c0_i32_784 : BitVec 32 := 0#32
  let v942 : BitVec 1 := Scalar.cmpi .slt v940 c0_i32_784
  let c0_i32_785 : BitVec 32 := 0#32
  let v943 : BitVec 1 := Scalar.cmpi .slt v939 c0_i32_785
  let v944 : BitVec 1 := Scalar.xori v942 v943
  let c0_i32_783 : BitVec 32 := 0#32
  let v941 : BitVec 1 := Scalar.cmpi .ne v940 c0_i32_783
  let v945 : BitVec 1 := Scalar.andi v944 v941
  let v946 : BitVec 32 := Scalar.addi v940 v939
  let v947 : BitVec 32 := Scalar.select v945 v946 v940
  let c0_i32_3332 : BitVec 32 := 0#32
  let c64_i32_3333 : BitVec 32 := 64#32
  let c0_i32_3334 : BitVec 32 := 0#32
  ![v947.toNat, 0, 64, 0]
def k0_dev41 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_779 : BitVec 32 := 13#32
  let v937 : BitVec 32 := Scalar.addi v2 c13_i32_779
  let c16_i32_780 : BitVec 32 := 16#32
  let c0_i32_781 : BitVec 32 := 0#32
  let v938 : BitVec 1 := Scalar.cmpi .eq c16_i32_780 c0_i32_781
  let c1_i32_782 : BitVec 32 := 1#32
  let v939 : BitVec 32 := Scalar.select v938 c1_i32_782 c16_i32_780
  let v940 : BitVec 32 := Scalar.remsi v937 v939
  let c0_i32_784 : BitVec 32 := 0#32
  let v942 : BitVec 1 := Scalar.cmpi .slt v940 c0_i32_784
  let c0_i32_785 : BitVec 32 := 0#32
  let v943 : BitVec 1 := Scalar.cmpi .slt v939 c0_i32_785
  let v944 : BitVec 1 := Scalar.xori v942 v943
  let c0_i32_783 : BitVec 32 := 0#32
  let v941 : BitVec 1 := Scalar.cmpi .ne v940 c0_i32_783
  let v945 : BitVec 1 := Scalar.andi v944 v941
  let v946 : BitVec 32 := Scalar.addi v940 v939
  let v947 : BitVec 32 := Scalar.select v945 v946 v940
  let c1_i32_3328 : BitVec 32 := 1#32
  let v4420 : BitVec 32 := Scalar.muli v947 c1_i32_3328
  let v4421 : BitVec 32 := Scalar.addi c0_i32_3329 v4420
  v4421.toNat
def k0_cond27 (d0 : Dev nD) : BitVec 1 :=
  let c2_i32_823 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v993 : BitVec 32 := Scalar.muli c2_i32_823 v2
  let c0_i32_824 : BitVec 32 := 0#32
  let v994 : BitVec 32 := Scalar.addi v993 c0_i32_824
  let c2_i32_825 : BitVec 32 := 2#32
  let v995 : BitVec 1 := Scalar.cmpi .slt v994 c2_i32_825
  let c3_i32_826 : BitVec 32 := 3#32
  let c0_i32_827 : BitVec 32 := 0#32
  let v996 : BitVec 1 := Scalar.cmpi .eq c3_i32_826 c0_i32_827
  let c1_i32_828 : BitVec 32 := 1#32
  let v997 : BitVec 32 := Scalar.select v996 c1_i32_828 c3_i32_826
  let v998 : BitVec 32 := Scalar.remsi v994 v997
  let c0_i32_830 : BitVec 32 := 0#32
  let v1000 : BitVec 1 := Scalar.cmpi .slt v998 c0_i32_830
  let c0_i32_831 : BitVec 32 := 0#32
  let v1001 : BitVec 1 := Scalar.cmpi .slt v997 c0_i32_831
  let v1002 : BitVec 1 := Scalar.xori v1000 v1001
  let c0_i32_829 : BitVec 32 := 0#32
  let v999 : BitVec 1 := Scalar.cmpi .ne v998 c0_i32_829
  let v1003 : BitVec 1 := Scalar.andi v1002 v999
  let v1004 : BitVec 32 := Scalar.addi v998 v997
  let v1005 : BitVec 32 := Scalar.select v1003 v1004 v998
  let c1_i32_832 : BitVec 32 := 1#32
  let v1006 : BitVec 1 := Scalar.cmpi .ne v1005 c1_i32_832
  let v1007 : BitVec 1 := Scalar.ori v995 v1006
  let v1008 : BitVec 32 := Scalar.extui v1007
  let c0_i32_837 : BitVec 32 := 0#32
  let v1009 : BitVec 1 := Scalar.cmpi .ne v1008 c0_i32_837
  v1009

def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_816 : BitVec 32 := 14#32
  let v982 : BitVec 32 := Scalar.addi v2 c14_i32_816
  let c16_i32_817 : BitVec 32 := 16#32
  let c0_i32_818 : BitVec 32 := 0#32
  let v983 : BitVec 1 := Scalar.cmpi .eq c16_i32_817 c0_i32_818
  let c1_i32_819 : BitVec 32 := 1#32
  let v984 : BitVec 32 := Scalar.select v983 c1_i32_819 c16_i32_817
  let v985 : BitVec 32 := Scalar.remsi v982 v984
  let c0_i32_821 : BitVec 32 := 0#32
  let v987 : BitVec 1 := Scalar.cmpi .slt v985 c0_i32_821
  let c0_i32_822 : BitVec 32 := 0#32
  let v988 : BitVec 1 := Scalar.cmpi .slt v984 c0_i32_822
  let v989 : BitVec 1 := Scalar.xori v987 v988
  let c0_i32_820 : BitVec 32 := 0#32
  let v986 : BitVec 1 := Scalar.cmpi .ne v985 c0_i32_820
  let v990 : BitVec 1 := Scalar.andi v989 v986
  let v991 : BitVec 32 := Scalar.addi v985 v984
  let v992 : BitVec 32 := Scalar.select v990 v991 v985
  let c0_i32_3332 : BitVec 32 := 0#32
  let c0_i32_3333 : BitVec 32 := 0#32
  let c0_i32_3334 : BitVec 32 := 0#32
  ![v992.toNat, 0, 0, 0]
def k0_dev42 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_816 : BitVec 32 := 14#32
  let v982 : BitVec 32 := Scalar.addi v2 c14_i32_816
  let c16_i32_817 : BitVec 32 := 16#32
  let c0_i32_818 : BitVec 32 := 0#32
  let v983 : BitVec 1 := Scalar.cmpi .eq c16_i32_817 c0_i32_818
  let c1_i32_819 : BitVec 32 := 1#32
  let v984 : BitVec 32 := Scalar.select v983 c1_i32_819 c16_i32_817
  let v985 : BitVec 32 := Scalar.remsi v982 v984
  let c0_i32_821 : BitVec 32 := 0#32
  let v987 : BitVec 1 := Scalar.cmpi .slt v985 c0_i32_821
  let c0_i32_822 : BitVec 32 := 0#32
  let v988 : BitVec 1 := Scalar.cmpi .slt v984 c0_i32_822
  let v989 : BitVec 1 := Scalar.xori v987 v988
  let c0_i32_820 : BitVec 32 := 0#32
  let v986 : BitVec 1 := Scalar.cmpi .ne v985 c0_i32_820
  let v990 : BitVec 1 := Scalar.andi v989 v986
  let v991 : BitVec 32 := Scalar.addi v985 v984
  let v992 : BitVec 32 := Scalar.select v990 v991 v985
  let c1_i32_3328 : BitVec 32 := 1#32
  let v4420 : BitVec 32 := Scalar.muli v992 c1_i32_3328
  let v4421 : BitVec 32 := Scalar.addi c0_i32_3329 v4420
  v4421.toNat
def k0_cond28 (d0 : Dev nD) : BitVec 1 :=
  let c2_i32_838 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1010 : BitVec 32 := Scalar.muli c2_i32_838 v2
  let c1_i32_839 : BitVec 32 := 1#32
  let v1011 : BitVec 32 := Scalar.addi v1010 c1_i32_839
  let c2_i32_840 : BitVec 32 := 2#32
  let v1012 : BitVec 1 := Scalar.cmpi .slt v1011 c2_i32_840
  let c3_i32_841 : BitVec 32 := 3#32
  let c0_i32_842 : BitVec 32 := 0#32
  let v1013 : BitVec 1 := Scalar.cmpi .eq c3_i32_841 c0_i32_842
  let c1_i32_843 : BitVec 32 := 1#32
  let v1014 : BitVec 32 := Scalar.select v1013 c1_i32_843 c3_i32_841
  let v1015 : BitVec 32 := Scalar.remsi v1011 v1014
  let c0_i32_845 : BitVec 32 := 0#32
  let v1017 : BitVec 1 := Scalar.cmpi .slt v1015 c0_i32_845
  let c0_i32_846 : BitVec 32 := 0#32
  let v1018 : BitVec 1 := Scalar.cmpi .slt v1014 c0_i32_846
  let v1019 : BitVec 1 := Scalar.xori v1017 v1018
  let c0_i32_844 : BitVec 32 := 0#32
  let v1016 : BitVec 1 := Scalar.cmpi .ne v1015 c0_i32_844
  let v1020 : BitVec 1 := Scalar.andi v1019 v1016
  let v1021 : BitVec 32 := Scalar.addi v1015 v1014
  let v1022 : BitVec 32 := Scalar.select v1020 v1021 v1015
  let c1_i32_847 : BitVec 32 := 1#32
  let v1023 : BitVec 1 := Scalar.cmpi .ne v1022 c1_i32_847
  let v1024 : BitVec 1 := Scalar.ori v1012 v1023
  let v1025 : BitVec 32 := Scalar.extui v1024
  let c0_i32_852 : BitVec 32 := 0#32
  let v1026 : BitVec 1 := Scalar.cmpi .ne v1025 c0_i32_852
  v1026

def k0_off29 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_816 : BitVec 32 := 14#32
  let v982 : BitVec 32 := Scalar.addi v2 c14_i32_816
  let c16_i32_817 : BitVec 32 := 16#32
  let c0_i32_818 : BitVec 32 := 0#32
  let v983 : BitVec 1 := Scalar.cmpi .eq c16_i32_817 c0_i32_818
  let c1_i32_819 : BitVec 32 := 1#32
  let v984 : BitVec 32 := Scalar.select v983 c1_i32_819 c16_i32_817
  let v985 : BitVec 32 := Scalar.remsi v982 v984
  let c0_i32_821 : BitVec 32 := 0#32
  let v987 : BitVec 1 := Scalar.cmpi .slt v985 c0_i32_821
  let c0_i32_822 : BitVec 32 := 0#32
  let v988 : BitVec 1 := Scalar.cmpi .slt v984 c0_i32_822
  let v989 : BitVec 1 := Scalar.xori v987 v988
  let c0_i32_820 : BitVec 32 := 0#32
  let v986 : BitVec 1 := Scalar.cmpi .ne v985 c0_i32_820
  let v990 : BitVec 1 := Scalar.andi v989 v986
  let v991 : BitVec 32 := Scalar.addi v985 v984
  let v992 : BitVec 32 := Scalar.select v990 v991 v985
  let c0_i32_3332 : BitVec 32 := 0#32
  let c64_i32_3333 : BitVec 32 := 64#32
  let c0_i32_3334 : BitVec 32 := 0#32
  ![v992.toNat, 0, 64, 0]
def k0_dev43 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_816 : BitVec 32 := 14#32
  let v982 : BitVec 32 := Scalar.addi v2 c14_i32_816
  let c16_i32_817 : BitVec 32 := 16#32
  let c0_i32_818 : BitVec 32 := 0#32
  let v983 : BitVec 1 := Scalar.cmpi .eq c16_i32_817 c0_i32_818
  let c1_i32_819 : BitVec 32 := 1#32
  let v984 : BitVec 32 := Scalar.select v983 c1_i32_819 c16_i32_817
  let v985 : BitVec 32 := Scalar.remsi v982 v984
  let c0_i32_821 : BitVec 32 := 0#32
  let v987 : BitVec 1 := Scalar.cmpi .slt v985 c0_i32_821
  let c0_i32_822 : BitVec 32 := 0#32
  let v988 : BitVec 1 := Scalar.cmpi .slt v984 c0_i32_822
  let v989 : BitVec 1 := Scalar.xori v987 v988
  let c0_i32_820 : BitVec 32 := 0#32
  let v986 : BitVec 1 := Scalar.cmpi .ne v985 c0_i32_820
  let v990 : BitVec 1 := Scalar.andi v989 v986
  let v991 : BitVec 32 := Scalar.addi v985 v984
  let v992 : BitVec 32 := Scalar.select v990 v991 v985
  let c1_i32_3328 : BitVec 32 := 1#32
  let v4420 : BitVec 32 := Scalar.muli v992 c1_i32_3328
  let v4421 : BitVec 32 := Scalar.addi c0_i32_3329 v4420
  v4421.toNat
def k0_cond29 (d0 : Dev nD) : BitVec 1 :=
  let c2_i32_860 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1038 : BitVec 32 := Scalar.muli c2_i32_860 v2
  let c0_i32_861 : BitVec 32 := 0#32
  let v1039 : BitVec 32 := Scalar.addi v1038 c0_i32_861
  let c2_i32_862 : BitVec 32 := 2#32
  let v1040 : BitVec 1 := Scalar.cmpi .slt v1039 c2_i32_862
  let c3_i32_863 : BitVec 32 := 3#32
  let c0_i32_864 : BitVec 32 := 0#32
  let v1041 : BitVec 1 := Scalar.cmpi .eq c3_i32_863 c0_i32_864
  let c1_i32_865 : BitVec 32 := 1#32
  let v1042 : BitVec 32 := Scalar.select v1041 c1_i32_865 c3_i32_863
  let v1043 : BitVec 32 := Scalar.remsi v1039 v1042
  let c0_i32_867 : BitVec 32 := 0#32
  let v1045 : BitVec 1 := Scalar.cmpi .slt v1043 c0_i32_867
  let c0_i32_868 : BitVec 32 := 0#32
  let v1046 : BitVec 1 := Scalar.cmpi .slt v1042 c0_i32_868
  let v1047 : BitVec 1 := Scalar.xori v1045 v1046
  let c0_i32_866 : BitVec 32 := 0#32
  let v1044 : BitVec 1 := Scalar.cmpi .ne v1043 c0_i32_866
  let v1048 : BitVec 1 := Scalar.andi v1047 v1044
  let v1049 : BitVec 32 := Scalar.addi v1043 v1042
  let v1050 : BitVec 32 := Scalar.select v1048 v1049 v1043
  let c1_i32_869 : BitVec 32 := 1#32
  let v1051 : BitVec 1 := Scalar.cmpi .ne v1050 c1_i32_869
  let v1052 : BitVec 1 := Scalar.ori v1040 v1051
  let v1053 : BitVec 32 := Scalar.extui v1052
  let c0_i32_874 : BitVec 32 := 0#32
  let v1054 : BitVec 1 := Scalar.cmpi .ne v1053 c0_i32_874
  v1054

def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_853 : BitVec 32 := 15#32
  let v1027 : BitVec 32 := Scalar.addi v2 c15_i32_853
  let c16_i32_854 : BitVec 32 := 16#32
  let c0_i32_855 : BitVec 32 := 0#32
  let v1028 : BitVec 1 := Scalar.cmpi .eq c16_i32_854 c0_i32_855
  let c1_i32_856 : BitVec 32 := 1#32
  let v1029 : BitVec 32 := Scalar.select v1028 c1_i32_856 c16_i32_854
  let v1030 : BitVec 32 := Scalar.remsi v1027 v1029
  let c0_i32_858 : BitVec 32 := 0#32
  let v1032 : BitVec 1 := Scalar.cmpi .slt v1030 c0_i32_858
  let c0_i32_859 : BitVec 32 := 0#32
  let v1033 : BitVec 1 := Scalar.cmpi .slt v1029 c0_i32_859
  let v1034 : BitVec 1 := Scalar.xori v1032 v1033
  let c0_i32_857 : BitVec 32 := 0#32
  let v1031 : BitVec 1 := Scalar.cmpi .ne v1030 c0_i32_857
  let v1035 : BitVec 1 := Scalar.andi v1034 v1031
  let v1036 : BitVec 32 := Scalar.addi v1030 v1029
  let v1037 : BitVec 32 := Scalar.select v1035 v1036 v1030
  let c0_i32_3332 : BitVec 32 := 0#32
  let c0_i32_3333 : BitVec 32 := 0#32
  let c0_i32_3334 : BitVec 32 := 0#32
  ![v1037.toNat, 0, 0, 0]
def k0_dev44 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_853 : BitVec 32 := 15#32
  let v1027 : BitVec 32 := Scalar.addi v2 c15_i32_853
  let c16_i32_854 : BitVec 32 := 16#32
  let c0_i32_855 : BitVec 32 := 0#32
  let v1028 : BitVec 1 := Scalar.cmpi .eq c16_i32_854 c0_i32_855
  let c1_i32_856 : BitVec 32 := 1#32
  let v1029 : BitVec 32 := Scalar.select v1028 c1_i32_856 c16_i32_854
  let v1030 : BitVec 32 := Scalar.remsi v1027 v1029
  let c0_i32_858 : BitVec 32 := 0#32
  let v1032 : BitVec 1 := Scalar.cmpi .slt v1030 c0_i32_858
  let c0_i32_859 : BitVec 32 := 0#32
  let v1033 : BitVec 1 := Scalar.cmpi .slt v1029 c0_i32_859
  let v1034 : BitVec 1 := Scalar.xori v1032 v1033
  let c0_i32_857 : BitVec 32 := 0#32
  let v1031 : BitVec 1 := Scalar.cmpi .ne v1030 c0_i32_857
  let v1035 : BitVec 1 := Scalar.andi v1034 v1031
  let v1036 : BitVec 32 := Scalar.addi v1030 v1029
  let v1037 : BitVec 32 := Scalar.select v1035 v1036 v1030
  let c1_i32_3328 : BitVec 32 := 1#32
  let v4420 : BitVec 32 := Scalar.muli v1037 c1_i32_3328
  let v4421 : BitVec 32 := Scalar.addi c0_i32_3329 v4420
  v4421.toNat
def k0_cond30 (d0 : Dev nD) : BitVec 1 :=
  let c2_i32_875 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1055 : BitVec 32 := Scalar.muli c2_i32_875 v2
  let c1_i32_876 : BitVec 32 := 1#32
  let v1056 : BitVec 32 := Scalar.addi v1055 c1_i32_876
  let c2_i32_877 : BitVec 32 := 2#32
  let v1057 : BitVec 1 := Scalar.cmpi .slt v1056 c2_i32_877
  let c3_i32_878 : BitVec 32 := 3#32
  let c0_i32_879 : BitVec 32 := 0#32
  let v1058 : BitVec 1 := Scalar.cmpi .eq c3_i32_878 c0_i32_879
  let c1_i32_880 : BitVec 32 := 1#32
  let v1059 : BitVec 32 := Scalar.select v1058 c1_i32_880 c3_i32_878
  let v1060 : BitVec 32 := Scalar.remsi v1056 v1059
  let c0_i32_882 : BitVec 32 := 0#32
  let v1062 : BitVec 1 := Scalar.cmpi .slt v1060 c0_i32_882
  let c0_i32_883 : BitVec 32 := 0#32
  let v1063 : BitVec 1 := Scalar.cmpi .slt v1059 c0_i32_883
  let v1064 : BitVec 1 := Scalar.xori v1062 v1063
  let c0_i32_881 : BitVec 32 := 0#32
  let v1061 : BitVec 1 := Scalar.cmpi .ne v1060 c0_i32_881
  let v1065 : BitVec 1 := Scalar.andi v1064 v1061
  let v1066 : BitVec 32 := Scalar.addi v1060 v1059
  let v1067 : BitVec 32 := Scalar.select v1065 v1066 v1060
  let c1_i32_884 : BitVec 32 := 1#32
  let v1068 : BitVec 1 := Scalar.cmpi .ne v1067 c1_i32_884
  let v1069 : BitVec 1 := Scalar.ori v1057 v1068
  let v1070 : BitVec 32 := Scalar.extui v1069
  let c0_i32_889 : BitVec 32 := 0#32
  let v1071 : BitVec 1 := Scalar.cmpi .ne v1070 c0_i32_889
  v1071

def k0_off31 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_853 : BitVec 32 := 15#32
  let v1027 : BitVec 32 := Scalar.addi v2 c15_i32_853
  let c16_i32_854 : BitVec 32 := 16#32
  let c0_i32_855 : BitVec 32 := 0#32
  let v1028 : BitVec 1 := Scalar.cmpi .eq c16_i32_854 c0_i32_855
  let c1_i32_856 : BitVec 32 := 1#32
  let v1029 : BitVec 32 := Scalar.select v1028 c1_i32_856 c16_i32_854
  let v1030 : BitVec 32 := Scalar.remsi v1027 v1029
  let c0_i32_858 : BitVec 32 := 0#32
  let v1032 : BitVec 1 := Scalar.cmpi .slt v1030 c0_i32_858
  let c0_i32_859 : BitVec 32 := 0#32
  let v1033 : BitVec 1 := Scalar.cmpi .slt v1029 c0_i32_859
  let v1034 : BitVec 1 := Scalar.xori v1032 v1033
  let c0_i32_857 : BitVec 32 := 0#32
  let v1031 : BitVec 1 := Scalar.cmpi .ne v1030 c0_i32_857
  let v1035 : BitVec 1 := Scalar.andi v1034 v1031
  let v1036 : BitVec 32 := Scalar.addi v1030 v1029
  let v1037 : BitVec 32 := Scalar.select v1035 v1036 v1030
  let c0_i32_3332 : BitVec 32 := 0#32
  let c64_i32_3333 : BitVec 32 := 64#32
  let c0_i32_3334 : BitVec 32 := 0#32
  ![v1037.toNat, 0, 64, 0]
def k0_dev45 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_853 : BitVec 32 := 15#32
  let v1027 : BitVec 32 := Scalar.addi v2 c15_i32_853
  let c16_i32_854 : BitVec 32 := 16#32
  let c0_i32_855 : BitVec 32 := 0#32
  let v1028 : BitVec 1 := Scalar.cmpi .eq c16_i32_854 c0_i32_855
  let c1_i32_856 : BitVec 32 := 1#32
  let v1029 : BitVec 32 := Scalar.select v1028 c1_i32_856 c16_i32_854
  let v1030 : BitVec 32 := Scalar.remsi v1027 v1029
  let c0_i32_858 : BitVec 32 := 0#32
  let v1032 : BitVec 1 := Scalar.cmpi .slt v1030 c0_i32_858
  let c0_i32_859 : BitVec 32 := 0#32
  let v1033 : BitVec 1 := Scalar.cmpi .slt v1029 c0_i32_859
  let v1034 : BitVec 1 := Scalar.xori v1032 v1033
  let c0_i32_857 : BitVec 32 := 0#32
  let v1031 : BitVec 1 := Scalar.cmpi .ne v1030 c0_i32_857
  let v1035 : BitVec 1 := Scalar.andi v1034 v1031
  let v1036 : BitVec 32 := Scalar.addi v1030 v1029
  let v1037 : BitVec 32 := Scalar.select v1035 v1036 v1030
  let c1_i32_3328 : BitVec 32 := 1#32
  let v4420 : BitVec 32 := Scalar.muli v1037 c1_i32_3328
  let v4421 : BitVec 32 := Scalar.addi c0_i32_3329 v4420
  v4421.toNat
def k0_cond31 (d0 : Dev nD) : BitVec 1 :=
  let c2_i32_958 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_951 : BitVec 32 := 1#32
  let v1254 : BitVec 32 := Scalar.subi v2 c1_i32_951
  let c16_i32_952 : BitVec 32 := 16#32
  let c0_i32_953 : BitVec 32 := 0#32
  let v1255 : BitVec 1 := Scalar.cmpi .eq c16_i32_952 c0_i32_953
  let c1_i32_954 : BitVec 32 := 1#32
  let v1256 : BitVec 32 := Scalar.select v1255 c1_i32_954 c16_i32_952
  let v1257 : BitVec 32 := Scalar.remsi v1254 v1256
  let c0_i32_956 : BitVec 32 := 0#32
  let v1259 : BitVec 1 := Scalar.cmpi .slt v1257 c0_i32_956
  let c0_i32_957 : BitVec 32 := 0#32
  let v1260 : BitVec 1 := Scalar.cmpi .slt v1256 c0_i32_957
  let v1261 : BitVec 1 := Scalar.xori v1259 v1260
  let c0_i32_955 : BitVec 32 := 0#32
  let v1258 : BitVec 1 := Scalar.cmpi .ne v1257 c0_i32_955
  let v1262 : BitVec 1 := Scalar.andi v1261 v1258
  let v1263 : BitVec 32 := Scalar.addi v1257 v1256
  let v1264 : BitVec 32 := Scalar.select v1262 v1263 v1257
  let v1265 : BitVec 32 := Scalar.muli c2_i32_958 v1264
  let c0_i32_959 : BitVec 32 := 0#32
  let v1266 : BitVec 32 := Scalar.addi v1265 c0_i32_959
  let c2_i32_960 : BitVec 32 := 2#32
  let v1267 : BitVec 1 := Scalar.cmpi .slt v1266 c2_i32_960
  let c3_i32_961 : BitVec 32 := 3#32
  let c0_i32_962 : BitVec 32 := 0#32
  let v1268 : BitVec 1 := Scalar.cmpi .eq c3_i32_961 c0_i32_962
  let c1_i32_963 : BitVec 32 := 1#32
  let v1269 : BitVec 32 := Scalar.select v1268 c1_i32_963 c3_i32_961
  let v1270 : BitVec 32 := Scalar.remsi v1266 v1269
  let c0_i32_965 : BitVec 32 := 0#32
  let v1272 : BitVec 1 := Scalar.cmpi .slt v1270 c0_i32_965
  let c0_i32_966 : BitVec 32 := 0#32
  let v1273 : BitVec 1 := Scalar.cmpi .slt v1269 c0_i32_966
  let v1274 : BitVec 1 := Scalar.xori v1272 v1273
  let c0_i32_964 : BitVec 32 := 0#32
  let v1271 : BitVec 1 := Scalar.cmpi .ne v1270 c0_i32_964
  let v1275 : BitVec 1 := Scalar.andi v1274 v1271
  let v1276 : BitVec 32 := Scalar.addi v1270 v1269
  let v1277 : BitVec 32 := Scalar.select v1275 v1276 v1270
  let c1_i32_967 : BitVec 32 := 1#32
  let v1278 : BitVec 1 := Scalar.cmpi .ne v1277 c1_i32_967
  let v1279 : BitVec 1 := Scalar.ori v1267 v1278
  let v1280 : BitVec 32 := Scalar.extui v1279
  let c0_i32_972 : BitVec 32 := 0#32
  let v1281 : BitVec 1 := Scalar.cmpi .ne v1280 c0_i32_972
  v1281

def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_944 : BitVec 32 := 1#32
  let v1243 : BitVec 32 := Scalar.addi v2 c1_i32_944
  let c16_i32_945 : BitVec 32 := 16#32
  let c0_i32_946 : BitVec 32 := 0#32
  let v1244 : BitVec 1 := Scalar.cmpi .eq c16_i32_945 c0_i32_946
  let c1_i32_947 : BitVec 32 := 1#32
  let v1245 : BitVec 32 := Scalar.select v1244 c1_i32_947 c16_i32_945
  let v1246 : BitVec 32 := Scalar.remsi v1243 v1245
  let c0_i32_949 : BitVec 32 := 0#32
  let v1248 : BitVec 1 := Scalar.cmpi .slt v1246 c0_i32_949
  let c0_i32_950 : BitVec 32 := 0#32
  let v1249 : BitVec 1 := Scalar.cmpi .slt v1245 c0_i32_950
  let v1250 : BitVec 1 := Scalar.xori v1248 v1249
  let c0_i32_948 : BitVec 32 := 0#32
  let v1247 : BitVec 1 := Scalar.cmpi .ne v1246 c0_i32_948
  let v1251 : BitVec 1 := Scalar.andi v1250 v1247
  let v1252 : BitVec 32 := Scalar.addi v1246 v1245
  let v1253 : BitVec 32 := Scalar.select v1251 v1252 v1246
  let c0_i32_3333 : BitVec 32 := 0#32
  let c0_i32_3334 : BitVec 32 := 0#32
  let c0_i32_3335 : BitVec 32 := 0#32
  ![v1253.toNat, 0, 0, 0]
def k0_cond32 (d0 : Dev nD) : BitVec 1 :=
  let c2_i32_987 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_980 : BitVec 32 := 1#32
  let v1293 : BitVec 32 := Scalar.subi v2 c1_i32_980
  let c16_i32_981 : BitVec 32 := 16#32
  let c0_i32_982 : BitVec 32 := 0#32
  let v1294 : BitVec 1 := Scalar.cmpi .eq c16_i32_981 c0_i32_982
  let c1_i32_983 : BitVec 32 := 1#32
  let v1295 : BitVec 32 := Scalar.select v1294 c1_i32_983 c16_i32_981
  let v1296 : BitVec 32 := Scalar.remsi v1293 v1295
  let c0_i32_985 : BitVec 32 := 0#32
  let v1298 : BitVec 1 := Scalar.cmpi .slt v1296 c0_i32_985
  let c0_i32_986 : BitVec 32 := 0#32
  let v1299 : BitVec 1 := Scalar.cmpi .slt v1295 c0_i32_986
  let v1300 : BitVec 1 := Scalar.xori v1298 v1299
  let c0_i32_984 : BitVec 32 := 0#32
  let v1297 : BitVec 1 := Scalar.cmpi .ne v1296 c0_i32_984
  let v1301 : BitVec 1 := Scalar.andi v1300 v1297
  let v1302 : BitVec 32 := Scalar.addi v1296 v1295
  let v1303 : BitVec 32 := Scalar.select v1301 v1302 v1296
  let v1304 : BitVec 32 := Scalar.muli c2_i32_987 v1303
  let c1_i32_988 : BitVec 32 := 1#32
  let v1305 : BitVec 32 := Scalar.addi v1304 c1_i32_988
  let c2_i32_989 : BitVec 32 := 2#32
  let v1306 : BitVec 1 := Scalar.cmpi .slt v1305 c2_i32_989
  let c3_i32_990 : BitVec 32 := 3#32
  let c0_i32_991 : BitVec 32 := 0#32
  let v1307 : BitVec 1 := Scalar.cmpi .eq c3_i32_990 c0_i32_991
  let c1_i32_992 : BitVec 32 := 1#32
  let v1308 : BitVec 32 := Scalar.select v1307 c1_i32_992 c3_i32_990
  let v1309 : BitVec 32 := Scalar.remsi v1305 v1308
  let c0_i32_994 : BitVec 32 := 0#32
  let v1311 : BitVec 1 := Scalar.cmpi .slt v1309 c0_i32_994
  let c0_i32_995 : BitVec 32 := 0#32
  let v1312 : BitVec 1 := Scalar.cmpi .slt v1308 c0_i32_995
  let v1313 : BitVec 1 := Scalar.xori v1311 v1312
  let c0_i32_993 : BitVec 32 := 0#32
  let v1310 : BitVec 1 := Scalar.cmpi .ne v1309 c0_i32_993
  let v1314 : BitVec 1 := Scalar.andi v1313 v1310
  let v1315 : BitVec 32 := Scalar.addi v1309 v1308
  let v1316 : BitVec 32 := Scalar.select v1314 v1315 v1309
  let c1_i32_996 : BitVec 32 := 1#32
  let v1317 : BitVec 1 := Scalar.cmpi .ne v1316 c1_i32_996
  let v1318 : BitVec 1 := Scalar.ori v1306 v1317
  let v1319 : BitVec 32 := Scalar.extui v1318
  let c0_i32_1001 : BitVec 32 := 0#32
  let v1320 : BitVec 1 := Scalar.cmpi .ne v1319 c0_i32_1001
  v1320

def k0_off33 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_973 : BitVec 32 := 1#32
  let v1282 : BitVec 32 := Scalar.addi v2 c1_i32_973
  let c16_i32_974 : BitVec 32 := 16#32
  let c0_i32_975 : BitVec 32 := 0#32
  let v1283 : BitVec 1 := Scalar.cmpi .eq c16_i32_974 c0_i32_975
  let c1_i32_976 : BitVec 32 := 1#32
  let v1284 : BitVec 32 := Scalar.select v1283 c1_i32_976 c16_i32_974
  let v1285 : BitVec 32 := Scalar.remsi v1282 v1284
  let c0_i32_978 : BitVec 32 := 0#32
  let v1287 : BitVec 1 := Scalar.cmpi .slt v1285 c0_i32_978
  let c0_i32_979 : BitVec 32 := 0#32
  let v1288 : BitVec 1 := Scalar.cmpi .slt v1284 c0_i32_979
  let v1289 : BitVec 1 := Scalar.xori v1287 v1288
  let c0_i32_977 : BitVec 32 := 0#32
  let v1286 : BitVec 1 := Scalar.cmpi .ne v1285 c0_i32_977
  let v1290 : BitVec 1 := Scalar.andi v1289 v1286
  let v1291 : BitVec 32 := Scalar.addi v1285 v1284
  let v1292 : BitVec 32 := Scalar.select v1290 v1291 v1285
  let c0_i32_3332 : BitVec 32 := 0#32
  let c64_i32_3333 : BitVec 32 := 64#32
  let c0_i32_3334 : BitVec 32 := 0#32
  ![v1292.toNat, 0, 64, 0]
def k0_cond33 (d0 : Dev nD) : BitVec 1 :=
  let c2_i32_1016 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1009 : BitVec 32 := 2#32
  let v1332 : BitVec 32 := Scalar.subi v2 c2_i32_1009
  let c16_i32_1010 : BitVec 32 := 16#32
  let c0_i32_1011 : BitVec 32 := 0#32
  let v1333 : BitVec 1 := Scalar.cmpi .eq c16_i32_1010 c0_i32_1011
  let c1_i32_1012 : BitVec 32 := 1#32
  let v1334 : BitVec 32 := Scalar.select v1333 c1_i32_1012 c16_i32_1010
  let v1335 : BitVec 32 := Scalar.remsi v1332 v1334
  let c0_i32_1014 : BitVec 32 := 0#32
  let v1337 : BitVec 1 := Scalar.cmpi .slt v1335 c0_i32_1014
  let c0_i32_1015 : BitVec 32 := 0#32
  let v1338 : BitVec 1 := Scalar.cmpi .slt v1334 c0_i32_1015
  let v1339 : BitVec 1 := Scalar.xori v1337 v1338
  let c0_i32_1013 : BitVec 32 := 0#32
  let v1336 : BitVec 1 := Scalar.cmpi .ne v1335 c0_i32_1013
  let v1340 : BitVec 1 := Scalar.andi v1339 v1336
  let v1341 : BitVec 32 := Scalar.addi v1335 v1334
  let v1342 : BitVec 32 := Scalar.select v1340 v1341 v1335
  let v1343 : BitVec 32 := Scalar.muli c2_i32_1016 v1342
  let c0_i32_1017 : BitVec 32 := 0#32
  let v1344 : BitVec 32 := Scalar.addi v1343 c0_i32_1017
  let c2_i32_1018 : BitVec 32 := 2#32
  let v1345 : BitVec 1 := Scalar.cmpi .slt v1344 c2_i32_1018
  let c3_i32_1019 : BitVec 32 := 3#32
  let c0_i32_1020 : BitVec 32 := 0#32
  let v1346 : BitVec 1 := Scalar.cmpi .eq c3_i32_1019 c0_i32_1020
  let c1_i32_1021 : BitVec 32 := 1#32
  let v1347 : BitVec 32 := Scalar.select v1346 c1_i32_1021 c3_i32_1019
  let v1348 : BitVec 32 := Scalar.remsi v1344 v1347
  let c0_i32_1023 : BitVec 32 := 0#32
  let v1350 : BitVec 1 := Scalar.cmpi .slt v1348 c0_i32_1023
  let c0_i32_1024 : BitVec 32 := 0#32
  let v1351 : BitVec 1 := Scalar.cmpi .slt v1347 c0_i32_1024
  let v1352 : BitVec 1 := Scalar.xori v1350 v1351
  let c0_i32_1022 : BitVec 32 := 0#32
  let v1349 : BitVec 1 := Scalar.cmpi .ne v1348 c0_i32_1022
  let v1353 : BitVec 1 := Scalar.andi v1352 v1349
  let v1354 : BitVec 32 := Scalar.addi v1348 v1347
  let v1355 : BitVec 32 := Scalar.select v1353 v1354 v1348
  let c1_i32_1025 : BitVec 32 := 1#32
  let v1356 : BitVec 1 := Scalar.cmpi .ne v1355 c1_i32_1025
  let v1357 : BitVec 1 := Scalar.ori v1345 v1356
  let v1358 : BitVec 32 := Scalar.extui v1357
  let c0_i32_1030 : BitVec 32 := 0#32
  let v1359 : BitVec 1 := Scalar.cmpi .ne v1358 c0_i32_1030
  v1359

def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1002 : BitVec 32 := 2#32
  let v1321 : BitVec 32 := Scalar.addi v2 c2_i32_1002
  let c16_i32_1003 : BitVec 32 := 16#32
  let c0_i32_1004 : BitVec 32 := 0#32
  let v1322 : BitVec 1 := Scalar.cmpi .eq c16_i32_1003 c0_i32_1004
  let c1_i32_1005 : BitVec 32 := 1#32
  let v1323 : BitVec 32 := Scalar.select v1322 c1_i32_1005 c16_i32_1003
  let v1324 : BitVec 32 := Scalar.remsi v1321 v1323
  let c0_i32_1007 : BitVec 32 := 0#32
  let v1326 : BitVec 1 := Scalar.cmpi .slt v1324 c0_i32_1007
  let c0_i32_1008 : BitVec 32 := 0#32
  let v1327 : BitVec 1 := Scalar.cmpi .slt v1323 c0_i32_1008
  let v1328 : BitVec 1 := Scalar.xori v1326 v1327
  let c0_i32_1006 : BitVec 32 := 0#32
  let v1325 : BitVec 1 := Scalar.cmpi .ne v1324 c0_i32_1006
  let v1329 : BitVec 1 := Scalar.andi v1328 v1325
  let v1330 : BitVec 32 := Scalar.addi v1324 v1323
  let v1331 : BitVec 32 := Scalar.select v1329 v1330 v1324
  let c0_i32_3332 : BitVec 32 := 0#32
  let c0_i32_3333 : BitVec 32 := 0#32
  let c0_i32_3334 : BitVec 32 := 0#32
  ![v1331.toNat, 0, 0, 0]
def k0_cond34 (d0 : Dev nD) : BitVec 1 :=
  let c2_i32_1045 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1038 : BitVec 32 := 2#32
  let v1371 : BitVec 32 := Scalar.subi v2 c2_i32_1038
  let c16_i32_1039 : BitVec 32 := 16#32
  let c0_i32_1040 : BitVec 32 := 0#32
  let v1372 : BitVec 1 := Scalar.cmpi .eq c16_i32_1039 c0_i32_1040
  let c1_i32_1041 : BitVec 32 := 1#32
  let v1373 : BitVec 32 := Scalar.select v1372 c1_i32_1041 c16_i32_1039
  let v1374 : BitVec 32 := Scalar.remsi v1371 v1373
  let c0_i32_1043 : BitVec 32 := 0#32
  let v1376 : BitVec 1 := Scalar.cmpi .slt v1374 c0_i32_1043
  let c0_i32_1044 : BitVec 32 := 0#32
  let v1377 : BitVec 1 := Scalar.cmpi .slt v1373 c0_i32_1044
  let v1378 : BitVec 1 := Scalar.xori v1376 v1377
  let c0_i32_1042 : BitVec 32 := 0#32
  let v1375 : BitVec 1 := Scalar.cmpi .ne v1374 c0_i32_1042
  let v1379 : BitVec 1 := Scalar.andi v1378 v1375
  let v1380 : BitVec 32 := Scalar.addi v1374 v1373
  let v1381 : BitVec 32 := Scalar.select v1379 v1380 v1374
  let v1382 : BitVec 32 := Scalar.muli c2_i32_1045 v1381
  let c1_i32_1046 : BitVec 32 := 1#32
  let v1383 : BitVec 32 := Scalar.addi v1382 c1_i32_1046
  let c2_i32_1047 : BitVec 32 := 2#32
  let v1384 : BitVec 1 := Scalar.cmpi .slt v1383 c2_i32_1047
  let c3_i32_1048 : BitVec 32 := 3#32
  let c0_i32_1049 : BitVec 32 := 0#32
  let v1385 : BitVec 1 := Scalar.cmpi .eq c3_i32_1048 c0_i32_1049
  let c1_i32_1050 : BitVec 32 := 1#32
  let v1386 : BitVec 32 := Scalar.select v1385 c1_i32_1050 c3_i32_1048
  let v1387 : BitVec 32 := Scalar.remsi v1383 v1386
  let c0_i32_1052 : BitVec 32 := 0#32
  let v1389 : BitVec 1 := Scalar.cmpi .slt v1387 c0_i32_1052
  let c0_i32_1053 : BitVec 32 := 0#32
  let v1390 : BitVec 1 := Scalar.cmpi .slt v1386 c0_i32_1053
  let v1391 : BitVec 1 := Scalar.xori v1389 v1390
  let c0_i32_1051 : BitVec 32 := 0#32
  let v1388 : BitVec 1 := Scalar.cmpi .ne v1387 c0_i32_1051
  let v1392 : BitVec 1 := Scalar.andi v1391 v1388
  let v1393 : BitVec 32 := Scalar.addi v1387 v1386
  let v1394 : BitVec 32 := Scalar.select v1392 v1393 v1387
  let c1_i32_1054 : BitVec 32 := 1#32
  let v1395 : BitVec 1 := Scalar.cmpi .ne v1394 c1_i32_1054
  let v1396 : BitVec 1 := Scalar.ori v1384 v1395
  let v1397 : BitVec 32 := Scalar.extui v1396
  let c0_i32_1059 : BitVec 32 := 0#32
  let v1398 : BitVec 1 := Scalar.cmpi .ne v1397 c0_i32_1059
  v1398

def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1031 : BitVec 32 := 2#32
  let v1360 : BitVec 32 := Scalar.addi v2 c2_i32_1031
  let c16_i32_1032 : BitVec 32 := 16#32
  let c0_i32_1033 : BitVec 32 := 0#32
  let v1361 : BitVec 1 := Scalar.cmpi .eq c16_i32_1032 c0_i32_1033
  let c1_i32_1034 : BitVec 32 := 1#32
  let v1362 : BitVec 32 := Scalar.select v1361 c1_i32_1034 c16_i32_1032
  let v1363 : BitVec 32 := Scalar.remsi v1360 v1362
  let c0_i32_1036 : BitVec 32 := 0#32
  let v1365 : BitVec 1 := Scalar.cmpi .slt v1363 c0_i32_1036
  let c0_i32_1037 : BitVec 32 := 0#32
  let v1366 : BitVec 1 := Scalar.cmpi .slt v1362 c0_i32_1037
  let v1367 : BitVec 1 := Scalar.xori v1365 v1366
  let c0_i32_1035 : BitVec 32 := 0#32
  let v1364 : BitVec 1 := Scalar.cmpi .ne v1363 c0_i32_1035
  let v1368 : BitVec 1 := Scalar.andi v1367 v1364
  let v1369 : BitVec 32 := Scalar.addi v1363 v1362
  let v1370 : BitVec 32 := Scalar.select v1368 v1369 v1363
  let c0_i32_3332 : BitVec 32 := 0#32
  let c64_i32_3333 : BitVec 32 := 64#32
  let c0_i32_3334 : BitVec 32 := 0#32
  ![v1370.toNat, 0, 64, 0]
def k0_cond35 (d0 : Dev nD) : BitVec 1 :=
  let c2_i32_1074 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1067 : BitVec 32 := 3#32
  let v1410 : BitVec 32 := Scalar.subi v2 c3_i32_1067
  let c16_i32_1068 : BitVec 32 := 16#32
  let c0_i32_1069 : BitVec 32 := 0#32
  let v1411 : BitVec 1 := Scalar.cmpi .eq c16_i32_1068 c0_i32_1069
  let c1_i32_1070 : BitVec 32 := 1#32
  let v1412 : BitVec 32 := Scalar.select v1411 c1_i32_1070 c16_i32_1068
  let v1413 : BitVec 32 := Scalar.remsi v1410 v1412
  let c0_i32_1072 : BitVec 32 := 0#32
  let v1415 : BitVec 1 := Scalar.cmpi .slt v1413 c0_i32_1072
  let c0_i32_1073 : BitVec 32 := 0#32
  let v1416 : BitVec 1 := Scalar.cmpi .slt v1412 c0_i32_1073
  let v1417 : BitVec 1 := Scalar.xori v1415 v1416
  let c0_i32_1071 : BitVec 32 := 0#32
  let v1414 : BitVec 1 := Scalar.cmpi .ne v1413 c0_i32_1071
  let v1418 : BitVec 1 := Scalar.andi v1417 v1414
  let v1419 : BitVec 32 := Scalar.addi v1413 v1412
  let v1420 : BitVec 32 := Scalar.select v1418 v1419 v1413
  let v1421 : BitVec 32 := Scalar.muli c2_i32_1074 v1420
  let c0_i32_1075 : BitVec 32 := 0#32
  let v1422 : BitVec 32 := Scalar.addi v1421 c0_i32_1075
  let c2_i32_1076 : BitVec 32 := 2#32
  let v1423 : BitVec 1 := Scalar.cmpi .slt v1422 c2_i32_1076
  let c3_i32_1077 : BitVec 32 := 3#32
  let c0_i32_1078 : BitVec 32 := 0#32
  let v1424 : BitVec 1 := Scalar.cmpi .eq c3_i32_1077 c0_i32_1078
  let c1_i32_1079 : BitVec 32 := 1#32
  let v1425 : BitVec 32 := Scalar.select v1424 c1_i32_1079 c3_i32_1077
  let v1426 : BitVec 32 := Scalar.remsi v1422 v1425
  let c0_i32_1081 : BitVec 32 := 0#32
  let v1428 : BitVec 1 := Scalar.cmpi .slt v1426 c0_i32_1081
  let c0_i32_1082 : BitVec 32 := 0#32
  let v1429 : BitVec 1 := Scalar.cmpi .slt v1425 c0_i32_1082
  let v1430 : BitVec 1 := Scalar.xori v1428 v1429
  let c0_i32_1080 : BitVec 32 := 0#32
  let v1427 : BitVec 1 := Scalar.cmpi .ne v1426 c0_i32_1080
  let v1431 : BitVec 1 := Scalar.andi v1430 v1427
  let v1432 : BitVec 32 := Scalar.addi v1426 v1425
  let v1433 : BitVec 32 := Scalar.select v1431 v1432 v1426
  let c1_i32_1083 : BitVec 32 := 1#32
  let v1434 : BitVec 1 := Scalar.cmpi .ne v1433 c1_i32_1083
  let v1435 : BitVec 1 := Scalar.ori v1423 v1434
  let v1436 : BitVec 32 := Scalar.extui v1435
  let c0_i32_1088 : BitVec 32 := 0#32
  let v1437 : BitVec 1 := Scalar.cmpi .ne v1436 c0_i32_1088
  v1437

def k0_off36 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1060 : BitVec 32 := 3#32
  let v1399 : BitVec 32 := Scalar.addi v2 c3_i32_1060
  let c16_i32_1061 : BitVec 32 := 16#32
  let c0_i32_1062 : BitVec 32 := 0#32
  let v1400 : BitVec 1 := Scalar.cmpi .eq c16_i32_1061 c0_i32_1062
  let c1_i32_1063 : BitVec 32 := 1#32
  let v1401 : BitVec 32 := Scalar.select v1400 c1_i32_1063 c16_i32_1061
  let v1402 : BitVec 32 := Scalar.remsi v1399 v1401
  let c0_i32_1065 : BitVec 32 := 0#32
  let v1404 : BitVec 1 := Scalar.cmpi .slt v1402 c0_i32_1065
  let c0_i32_1066 : BitVec 32 := 0#32
  let v1405 : BitVec 1 := Scalar.cmpi .slt v1401 c0_i32_1066
  let v1406 : BitVec 1 := Scalar.xori v1404 v1405
  let c0_i32_1064 : BitVec 32 := 0#32
  let v1403 : BitVec 1 := Scalar.cmpi .ne v1402 c0_i32_1064
  let v1407 : BitVec 1 := Scalar.andi v1406 v1403
  let v1408 : BitVec 32 := Scalar.addi v1402 v1401
  let v1409 : BitVec 32 := Scalar.select v1407 v1408 v1402
  let c0_i32_3332 : BitVec 32 := 0#32
  let c0_i32_3333 : BitVec 32 := 0#32
  let c0_i32_3334 : BitVec 32 := 0#32
  ![v1409.toNat, 0, 0, 0]
def k0_cond36 (d0 : Dev nD) : BitVec 1 :=
  let c2_i32_1103 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1096 : BitVec 32 := 3#32
  let v1449 : BitVec 32 := Scalar.subi v2 c3_i32_1096
  let c16_i32_1097 : BitVec 32 := 16#32
  let c0_i32_1098 : BitVec 32 := 0#32
  let v1450 : BitVec 1 := Scalar.cmpi .eq c16_i32_1097 c0_i32_1098
  let c1_i32_1099 : BitVec 32 := 1#32
  let v1451 : BitVec 32 := Scalar.select v1450 c1_i32_1099 c16_i32_1097
  let v1452 : BitVec 32 := Scalar.remsi v1449 v1451
  let c0_i32_1101 : BitVec 32 := 0#32
  let v1454 : BitVec 1 := Scalar.cmpi .slt v1452 c0_i32_1101
  let c0_i32_1102 : BitVec 32 := 0#32
  let v1455 : BitVec 1 := Scalar.cmpi .slt v1451 c0_i32_1102
  let v1456 : BitVec 1 := Scalar.xori v1454 v1455
  let c0_i32_1100 : BitVec 32 := 0#32
  let v1453 : BitVec 1 := Scalar.cmpi .ne v1452 c0_i32_1100
  let v1457 : BitVec 1 := Scalar.andi v1456 v1453
  let v1458 : BitVec 32 := Scalar.addi v1452 v1451
  let v1459 : BitVec 32 := Scalar.select v1457 v1458 v1452
  let v1460 : BitVec 32 := Scalar.muli c2_i32_1103 v1459
  let c1_i32_1104 : BitVec 32 := 1#32
  let v1461 : BitVec 32 := Scalar.addi v1460 c1_i32_1104
  let c2_i32_1105 : BitVec 32 := 2#32
  let v1462 : BitVec 1 := Scalar.cmpi .slt v1461 c2_i32_1105
  let c3_i32_1106 : BitVec 32 := 3#32
  let c0_i32_1107 : BitVec 32 := 0#32
  let v1463 : BitVec 1 := Scalar.cmpi .eq c3_i32_1106 c0_i32_1107
  let c1_i32_1108 : BitVec 32 := 1#32
  let v1464 : BitVec 32 := Scalar.select v1463 c1_i32_1108 c3_i32_1106
  let v1465 : BitVec 32 := Scalar.remsi v1461 v1464
  let c0_i32_1110 : BitVec 32 := 0#32
  let v1467 : BitVec 1 := Scalar.cmpi .slt v1465 c0_i32_1110
  let c0_i32_1111 : BitVec 32 := 0#32
  let v1468 : BitVec 1 := Scalar.cmpi .slt v1464 c0_i32_1111
  let v1469 : BitVec 1 := Scalar.xori v1467 v1468
  let c0_i32_1109 : BitVec 32 := 0#32
  let v1466 : BitVec 1 := Scalar.cmpi .ne v1465 c0_i32_1109
  let v1470 : BitVec 1 := Scalar.andi v1469 v1466
  let v1471 : BitVec 32 := Scalar.addi v1465 v1464
  let v1472 : BitVec 32 := Scalar.select v1470 v1471 v1465
  let c1_i32_1112 : BitVec 32 := 1#32
  let v1473 : BitVec 1 := Scalar.cmpi .ne v1472 c1_i32_1112
  let v1474 : BitVec 1 := Scalar.ori v1462 v1473
  let v1475 : BitVec 32 := Scalar.extui v1474
  let c0_i32_1117 : BitVec 32 := 0#32
  let v1476 : BitVec 1 := Scalar.cmpi .ne v1475 c0_i32_1117
  v1476

def k0_off37 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1089 : BitVec 32 := 3#32
  let v1438 : BitVec 32 := Scalar.addi v2 c3_i32_1089
  let c16_i32_1090 : BitVec 32 := 16#32
  let c0_i32_1091 : BitVec 32 := 0#32
  let v1439 : BitVec 1 := Scalar.cmpi .eq c16_i32_1090 c0_i32_1091
  let c1_i32_1092 : BitVec 32 := 1#32
  let v1440 : BitVec 32 := Scalar.select v1439 c1_i32_1092 c16_i32_1090
  let v1441 : BitVec 32 := Scalar.remsi v1438 v1440
  let c0_i32_1094 : BitVec 32 := 0#32
  let v1443 : BitVec 1 := Scalar.cmpi .slt v1441 c0_i32_1094
  let c0_i32_1095 : BitVec 32 := 0#32
  let v1444 : BitVec 1 := Scalar.cmpi .slt v1440 c0_i32_1095
  let v1445 : BitVec 1 := Scalar.xori v1443 v1444
  let c0_i32_1093 : BitVec 32 := 0#32
  let v1442 : BitVec 1 := Scalar.cmpi .ne v1441 c0_i32_1093
  let v1446 : BitVec 1 := Scalar.andi v1445 v1442
  let v1447 : BitVec 32 := Scalar.addi v1441 v1440
  let v1448 : BitVec 32 := Scalar.select v1446 v1447 v1441
  let c0_i32_3332 : BitVec 32 := 0#32
  let c64_i32_3333 : BitVec 32 := 64#32
  let c0_i32_3334 : BitVec 32 := 0#32
  ![v1448.toNat, 0, 64, 0]
def k0_cond37 (d0 : Dev nD) : BitVec 1 :=
  let c2_i32_1132 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1125 : BitVec 32 := 4#32
  let v1488 : BitVec 32 := Scalar.subi v2 c4_i32_1125
  let c16_i32_1126 : BitVec 32 := 16#32
  let c0_i32_1127 : BitVec 32 := 0#32
  let v1489 : BitVec 1 := Scalar.cmpi .eq c16_i32_1126 c0_i32_1127
  let c1_i32_1128 : BitVec 32 := 1#32
  let v1490 : BitVec 32 := Scalar.select v1489 c1_i32_1128 c16_i32_1126
  let v1491 : BitVec 32 := Scalar.remsi v1488 v1490
  let c0_i32_1130 : BitVec 32 := 0#32
  let v1493 : BitVec 1 := Scalar.cmpi .slt v1491 c0_i32_1130
  let c0_i32_1131 : BitVec 32 := 0#32
  let v1494 : BitVec 1 := Scalar.cmpi .slt v1490 c0_i32_1131
  let v1495 : BitVec 1 := Scalar.xori v1493 v1494
  let c0_i32_1129 : BitVec 32 := 0#32
  let v1492 : BitVec 1 := Scalar.cmpi .ne v1491 c0_i32_1129
  let v1496 : BitVec 1 := Scalar.andi v1495 v1492
  let v1497 : BitVec 32 := Scalar.addi v1491 v1490
  let v1498 : BitVec 32 := Scalar.select v1496 v1497 v1491
  let v1499 : BitVec 32 := Scalar.muli c2_i32_1132 v1498
  let c0_i32_1133 : BitVec 32 := 0#32
  let v1500 : BitVec 32 := Scalar.addi v1499 c0_i32_1133
  let c2_i32_1134 : BitVec 32 := 2#32
  let v1501 : BitVec 1 := Scalar.cmpi .slt v1500 c2_i32_1134
  let c3_i32_1135 : BitVec 32 := 3#32
  let c0_i32_1136 : BitVec 32 := 0#32
  let v1502 : BitVec 1 := Scalar.cmpi .eq c3_i32_1135 c0_i32_1136
  let c1_i32_1137 : BitVec 32 := 1#32
  let v1503 : BitVec 32 := Scalar.select v1502 c1_i32_1137 c3_i32_1135
  let v1504 : BitVec 32 := Scalar.remsi v1500 v1503
  let c0_i32_1139 : BitVec 32 := 0#32
  let v1506 : BitVec 1 := Scalar.cmpi .slt v1504 c0_i32_1139
  let c0_i32_1140 : BitVec 32 := 0#32
  let v1507 : BitVec 1 := Scalar.cmpi .slt v1503 c0_i32_1140
  let v1508 : BitVec 1 := Scalar.xori v1506 v1507
  let c0_i32_1138 : BitVec 32 := 0#32
  let v1505 : BitVec 1 := Scalar.cmpi .ne v1504 c0_i32_1138
  let v1509 : BitVec 1 := Scalar.andi v1508 v1505
  let v1510 : BitVec 32 := Scalar.addi v1504 v1503
  let v1511 : BitVec 32 := Scalar.select v1509 v1510 v1504
  let c1_i32_1141 : BitVec 32 := 1#32
  let v1512 : BitVec 1 := Scalar.cmpi .ne v1511 c1_i32_1141
  let v1513 : BitVec 1 := Scalar.ori v1501 v1512
  let v1514 : BitVec 32 := Scalar.extui v1513
  let c0_i32_1146 : BitVec 32 := 0#32
  let v1515 : BitVec 1 := Scalar.cmpi .ne v1514 c0_i32_1146
  v1515

def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1118 : BitVec 32 := 4#32
  let v1477 : BitVec 32 := Scalar.addi v2 c4_i32_1118
  let c16_i32_1119 : BitVec 32 := 16#32
  let c0_i32_1120 : BitVec 32 := 0#32
  let v1478 : BitVec 1 := Scalar.cmpi .eq c16_i32_1119 c0_i32_1120
  let c1_i32_1121 : BitVec 32 := 1#32
  let v1479 : BitVec 32 := Scalar.select v1478 c1_i32_1121 c16_i32_1119
  let v1480 : BitVec 32 := Scalar.remsi v1477 v1479
  let c0_i32_1123 : BitVec 32 := 0#32
  let v1482 : BitVec 1 := Scalar.cmpi .slt v1480 c0_i32_1123
  let c0_i32_1124 : BitVec 32 := 0#32
  let v1483 : BitVec 1 := Scalar.cmpi .slt v1479 c0_i32_1124
  let v1484 : BitVec 1 := Scalar.xori v1482 v1483
  let c0_i32_1122 : BitVec 32 := 0#32
  let v1481 : BitVec 1 := Scalar.cmpi .ne v1480 c0_i32_1122
  let v1485 : BitVec 1 := Scalar.andi v1484 v1481
  let v1486 : BitVec 32 := Scalar.addi v1480 v1479
  let v1487 : BitVec 32 := Scalar.select v1485 v1486 v1480
  let c0_i32_3332 : BitVec 32 := 0#32
  let c0_i32_3333 : BitVec 32 := 0#32
  let c0_i32_3334 : BitVec 32 := 0#32
  ![v1487.toNat, 0, 0, 0]
def k0_cond38 (d0 : Dev nD) : BitVec 1 :=
  let c2_i32_1161 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1154 : BitVec 32 := 4#32
  let v1527 : BitVec 32 := Scalar.subi v2 c4_i32_1154
  let c16_i32_1155 : BitVec 32 := 16#32
  let c0_i32_1156 : BitVec 32 := 0#32
  let v1528 : BitVec 1 := Scalar.cmpi .eq c16_i32_1155 c0_i32_1156
  let c1_i32_1157 : BitVec 32 := 1#32
  let v1529 : BitVec 32 := Scalar.select v1528 c1_i32_1157 c16_i32_1155
  let v1530 : BitVec 32 := Scalar.remsi v1527 v1529
  let c0_i32_1159 : BitVec 32 := 0#32
  let v1532 : BitVec 1 := Scalar.cmpi .slt v1530 c0_i32_1159
  let c0_i32_1160 : BitVec 32 := 0#32
  let v1533 : BitVec 1 := Scalar.cmpi .slt v1529 c0_i32_1160
  let v1534 : BitVec 1 := Scalar.xori v1532 v1533
  let c0_i32_1158 : BitVec 32 := 0#32
  let v1531 : BitVec 1 := Scalar.cmpi .ne v1530 c0_i32_1158
  let v1535 : BitVec 1 := Scalar.andi v1534 v1531
  let v1536 : BitVec 32 := Scalar.addi v1530 v1529
  let v1537 : BitVec 32 := Scalar.select v1535 v1536 v1530
  let v1538 : BitVec 32 := Scalar.muli c2_i32_1161 v1537
  let c1_i32_1162 : BitVec 32 := 1#32
  let v1539 : BitVec 32 := Scalar.addi v1538 c1_i32_1162
  let c2_i32_1163 : BitVec 32 := 2#32
  let v1540 : BitVec 1 := Scalar.cmpi .slt v1539 c2_i32_1163
  let c3_i32_1164 : BitVec 32 := 3#32
  let c0_i32_1165 : BitVec 32 := 0#32
  let v1541 : BitVec 1 := Scalar.cmpi .eq c3_i32_1164 c0_i32_1165
  let c1_i32_1166 : BitVec 32 := 1#32
  let v1542 : BitVec 32 := Scalar.select v1541 c1_i32_1166 c3_i32_1164
  let v1543 : BitVec 32 := Scalar.remsi v1539 v1542
  let c0_i32_1168 : BitVec 32 := 0#32
  let v1545 : BitVec 1 := Scalar.cmpi .slt v1543 c0_i32_1168
  let c0_i32_1169 : BitVec 32 := 0#32
  let v1546 : BitVec 1 := Scalar.cmpi .slt v1542 c0_i32_1169
  let v1547 : BitVec 1 := Scalar.xori v1545 v1546
  let c0_i32_1167 : BitVec 32 := 0#32
  let v1544 : BitVec 1 := Scalar.cmpi .ne v1543 c0_i32_1167
  let v1548 : BitVec 1 := Scalar.andi v1547 v1544
  let v1549 : BitVec 32 := Scalar.addi v1543 v1542
  let v1550 : BitVec 32 := Scalar.select v1548 v1549 v1543
  let c1_i32_1170 : BitVec 32 := 1#32
  let v1551 : BitVec 1 := Scalar.cmpi .ne v1550 c1_i32_1170
  let v1552 : BitVec 1 := Scalar.ori v1540 v1551
  let v1553 : BitVec 32 := Scalar.extui v1552
  let c0_i32_1175 : BitVec 32 := 0#32
  let v1554 : BitVec 1 := Scalar.cmpi .ne v1553 c0_i32_1175
  v1554

def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1147 : BitVec 32 := 4#32
  let v1516 : BitVec 32 := Scalar.addi v2 c4_i32_1147
  let c16_i32_1148 : BitVec 32 := 16#32
  let c0_i32_1149 : BitVec 32 := 0#32
  let v1517 : BitVec 1 := Scalar.cmpi .eq c16_i32_1148 c0_i32_1149
  let c1_i32_1150 : BitVec 32 := 1#32
  let v1518 : BitVec 32 := Scalar.select v1517 c1_i32_1150 c16_i32_1148
  let v1519 : BitVec 32 := Scalar.remsi v1516 v1518
  let c0_i32_1152 : BitVec 32 := 0#32
  let v1521 : BitVec 1 := Scalar.cmpi .slt v1519 c0_i32_1152
  let c0_i32_1153 : BitVec 32 := 0#32
  let v1522 : BitVec 1 := Scalar.cmpi .slt v1518 c0_i32_1153
  let v1523 : BitVec 1 := Scalar.xori v1521 v1522
  let c0_i32_1151 : BitVec 32 := 0#32
  let v1520 : BitVec 1 := Scalar.cmpi .ne v1519 c0_i32_1151
  let v1524 : BitVec 1 := Scalar.andi v1523 v1520
  let v1525 : BitVec 32 := Scalar.addi v1519 v1518
  let v1526 : BitVec 32 := Scalar.select v1524 v1525 v1519
  let c0_i32_3332 : BitVec 32 := 0#32
  let c64_i32_3333 : BitVec 32 := 64#32
  let c0_i32_3334 : BitVec 32 := 0#32
  ![v1526.toNat, 0, 64, 0]
def k0_cond39 (d0 : Dev nD) : BitVec 1 :=
  let c2_i32_1190 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1183 : BitVec 32 := 5#32
  let v1566 : BitVec 32 := Scalar.subi v2 c5_i32_1183
  let c16_i32_1184 : BitVec 32 := 16#32
  let c0_i32_1185 : BitVec 32 := 0#32
  let v1567 : BitVec 1 := Scalar.cmpi .eq c16_i32_1184 c0_i32_1185
  let c1_i32_1186 : BitVec 32 := 1#32
  let v1568 : BitVec 32 := Scalar.select v1567 c1_i32_1186 c16_i32_1184
  let v1569 : BitVec 32 := Scalar.remsi v1566 v1568
  let c0_i32_1188 : BitVec 32 := 0#32
  let v1571 : BitVec 1 := Scalar.cmpi .slt v1569 c0_i32_1188
  let c0_i32_1189 : BitVec 32 := 0#32
  let v1572 : BitVec 1 := Scalar.cmpi .slt v1568 c0_i32_1189
  let v1573 : BitVec 1 := Scalar.xori v1571 v1572
  let c0_i32_1187 : BitVec 32 := 0#32
  let v1570 : BitVec 1 := Scalar.cmpi .ne v1569 c0_i32_1187
  let v1574 : BitVec 1 := Scalar.andi v1573 v1570
  let v1575 : BitVec 32 := Scalar.addi v1569 v1568
  let v1576 : BitVec 32 := Scalar.select v1574 v1575 v1569
  let v1577 : BitVec 32 := Scalar.muli c2_i32_1190 v1576
  let c0_i32_1191 : BitVec 32 := 0#32
  let v1578 : BitVec 32 := Scalar.addi v1577 c0_i32_1191
  let c2_i32_1192 : BitVec 32 := 2#32
  let v1579 : BitVec 1 := Scalar.cmpi .slt v1578 c2_i32_1192
  let c3_i32_1193 : BitVec 32 := 3#32
  let c0_i32_1194 : BitVec 32 := 0#32
  let v1580 : BitVec 1 := Scalar.cmpi .eq c3_i32_1193 c0_i32_1194
  let c1_i32_1195 : BitVec 32 := 1#32
  let v1581 : BitVec 32 := Scalar.select v1580 c1_i32_1195 c3_i32_1193
  let v1582 : BitVec 32 := Scalar.remsi v1578 v1581
  let c0_i32_1197 : BitVec 32 := 0#32
  let v1584 : BitVec 1 := Scalar.cmpi .slt v1582 c0_i32_1197
  let c0_i32_1198 : BitVec 32 := 0#32
  let v1585 : BitVec 1 := Scalar.cmpi .slt v1581 c0_i32_1198
  let v1586 : BitVec 1 := Scalar.xori v1584 v1585
  let c0_i32_1196 : BitVec 32 := 0#32
  let v1583 : BitVec 1 := Scalar.cmpi .ne v1582 c0_i32_1196
  let v1587 : BitVec 1 := Scalar.andi v1586 v1583
  let v1588 : BitVec 32 := Scalar.addi v1582 v1581
  let v1589 : BitVec 32 := Scalar.select v1587 v1588 v1582
  let c1_i32_1199 : BitVec 32 := 1#32
  let v1590 : BitVec 1 := Scalar.cmpi .ne v1589 c1_i32_1199
  let v1591 : BitVec 1 := Scalar.ori v1579 v1590
  let v1592 : BitVec 32 := Scalar.extui v1591
  let c0_i32_1204 : BitVec 32 := 0#32
  let v1593 : BitVec 1 := Scalar.cmpi .ne v1592 c0_i32_1204
  v1593

def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1176 : BitVec 32 := 5#32
  let v1555 : BitVec 32 := Scalar.addi v2 c5_i32_1176
  let c16_i32_1177 : BitVec 32 := 16#32
  let c0_i32_1178 : BitVec 32 := 0#32
  let v1556 : BitVec 1 := Scalar.cmpi .eq c16_i32_1177 c0_i32_1178
  let c1_i32_1179 : BitVec 32 := 1#32
  let v1557 : BitVec 32 := Scalar.select v1556 c1_i32_1179 c16_i32_1177
  let v1558 : BitVec 32 := Scalar.remsi v1555 v1557
  let c0_i32_1181 : BitVec 32 := 0#32
  let v1560 : BitVec 1 := Scalar.cmpi .slt v1558 c0_i32_1181
  let c0_i32_1182 : BitVec 32 := 0#32
  let v1561 : BitVec 1 := Scalar.cmpi .slt v1557 c0_i32_1182
  let v1562 : BitVec 1 := Scalar.xori v1560 v1561
  let c0_i32_1180 : BitVec 32 := 0#32
  let v1559 : BitVec 1 := Scalar.cmpi .ne v1558 c0_i32_1180
  let v1563 : BitVec 1 := Scalar.andi v1562 v1559
  let v1564 : BitVec 32 := Scalar.addi v1558 v1557
  let v1565 : BitVec 32 := Scalar.select v1563 v1564 v1558
  let c0_i32_3332 : BitVec 32 := 0#32
  let c0_i32_3333 : BitVec 32 := 0#32
  let c0_i32_3334 : BitVec 32 := 0#32
  ![v1565.toNat, 0, 0, 0]
def k0_cond40 (d0 : Dev nD) : BitVec 1 :=
  let c2_i32_1219 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1212 : BitVec 32 := 5#32
  let v1605 : BitVec 32 := Scalar.subi v2 c5_i32_1212
  let c16_i32_1213 : BitVec 32 := 16#32
  let c0_i32_1214 : BitVec 32 := 0#32
  let v1606 : BitVec 1 := Scalar.cmpi .eq c16_i32_1213 c0_i32_1214
  let c1_i32_1215 : BitVec 32 := 1#32
  let v1607 : BitVec 32 := Scalar.select v1606 c1_i32_1215 c16_i32_1213
  let v1608 : BitVec 32 := Scalar.remsi v1605 v1607
  let c0_i32_1217 : BitVec 32 := 0#32
  let v1610 : BitVec 1 := Scalar.cmpi .slt v1608 c0_i32_1217
  let c0_i32_1218 : BitVec 32 := 0#32
  let v1611 : BitVec 1 := Scalar.cmpi .slt v1607 c0_i32_1218
  let v1612 : BitVec 1 := Scalar.xori v1610 v1611
  let c0_i32_1216 : BitVec 32 := 0#32
  let v1609 : BitVec 1 := Scalar.cmpi .ne v1608 c0_i32_1216
  let v1613 : BitVec 1 := Scalar.andi v1612 v1609
  let v1614 : BitVec 32 := Scalar.addi v1608 v1607
  let v1615 : BitVec 32 := Scalar.select v1613 v1614 v1608
  let v1616 : BitVec 32 := Scalar.muli c2_i32_1219 v1615
  let c1_i32_1220 : BitVec 32 := 1#32
  let v1617 : BitVec 32 := Scalar.addi v1616 c1_i32_1220
  let c2_i32_1221 : BitVec 32 := 2#32
  let v1618 : BitVec 1 := Scalar.cmpi .slt v1617 c2_i32_1221
  let c3_i32_1222 : BitVec 32 := 3#32
  let c0_i32_1223 : BitVec 32 := 0#32
  let v1619 : BitVec 1 := Scalar.cmpi .eq c3_i32_1222 c0_i32_1223
  let c1_i32_1224 : BitVec 32 := 1#32
  let v1620 : BitVec 32 := Scalar.select v1619 c1_i32_1224 c3_i32_1222
  let v1621 : BitVec 32 := Scalar.remsi v1617 v1620
  let c0_i32_1226 : BitVec 32 := 0#32
  let v1623 : BitVec 1 := Scalar.cmpi .slt v1621 c0_i32_1226
  let c0_i32_1227 : BitVec 32 := 0#32
  let v1624 : BitVec 1 := Scalar.cmpi .slt v1620 c0_i32_1227
  let v1625 : BitVec 1 := Scalar.xori v1623 v1624
  let c0_i32_1225 : BitVec 32 := 0#32
  let v1622 : BitVec 1 := Scalar.cmpi .ne v1621 c0_i32_1225
  let v1626 : BitVec 1 := Scalar.andi v1625 v1622
  let v1627 : BitVec 32 := Scalar.addi v1621 v1620
  let v1628 : BitVec 32 := Scalar.select v1626 v1627 v1621
  let c1_i32_1228 : BitVec 32 := 1#32
  let v1629 : BitVec 1 := Scalar.cmpi .ne v1628 c1_i32_1228
  let v1630 : BitVec 1 := Scalar.ori v1618 v1629
  let v1631 : BitVec 32 := Scalar.extui v1630
  let c0_i32_1233 : BitVec 32 := 0#32
  let v1632 : BitVec 1 := Scalar.cmpi .ne v1631 c0_i32_1233
  v1632

def k0_off41 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1205 : BitVec 32 := 5#32
  let v1594 : BitVec 32 := Scalar.addi v2 c5_i32_1205
  let c16_i32_1206 : BitVec 32 := 16#32
  let c0_i32_1207 : BitVec 32 := 0#32
  let v1595 : BitVec 1 := Scalar.cmpi .eq c16_i32_1206 c0_i32_1207
  let c1_i32_1208 : BitVec 32 := 1#32
  let v1596 : BitVec 32 := Scalar.select v1595 c1_i32_1208 c16_i32_1206
  let v1597 : BitVec 32 := Scalar.remsi v1594 v1596
  let c0_i32_1210 : BitVec 32 := 0#32
  let v1599 : BitVec 1 := Scalar.cmpi .slt v1597 c0_i32_1210
  let c0_i32_1211 : BitVec 32 := 0#32
  let v1600 : BitVec 1 := Scalar.cmpi .slt v1596 c0_i32_1211
  let v1601 : BitVec 1 := Scalar.xori v1599 v1600
  let c0_i32_1209 : BitVec 32 := 0#32
  let v1598 : BitVec 1 := Scalar.cmpi .ne v1597 c0_i32_1209
  let v1602 : BitVec 1 := Scalar.andi v1601 v1598
  let v1603 : BitVec 32 := Scalar.addi v1597 v1596
  let v1604 : BitVec 32 := Scalar.select v1602 v1603 v1597
  let c0_i32_3332 : BitVec 32 := 0#32
  let c64_i32_3333 : BitVec 32 := 64#32
  let c0_i32_3334 : BitVec 32 := 0#32
  ![v1604.toNat, 0, 64, 0]
def k0_cond41 (d0 : Dev nD) : BitVec 1 :=
  let c2_i32_1248 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1241 : BitVec 32 := 6#32
  let v1644 : BitVec 32 := Scalar.subi v2 c6_i32_1241
  let c16_i32_1242 : BitVec 32 := 16#32
  let c0_i32_1243 : BitVec 32 := 0#32
  let v1645 : BitVec 1 := Scalar.cmpi .eq c16_i32_1242 c0_i32_1243
  let c1_i32_1244 : BitVec 32 := 1#32
  let v1646 : BitVec 32 := Scalar.select v1645 c1_i32_1244 c16_i32_1242
  let v1647 : BitVec 32 := Scalar.remsi v1644 v1646
  let c0_i32_1246 : BitVec 32 := 0#32
  let v1649 : BitVec 1 := Scalar.cmpi .slt v1647 c0_i32_1246
  let c0_i32_1247 : BitVec 32 := 0#32
  let v1650 : BitVec 1 := Scalar.cmpi .slt v1646 c0_i32_1247
  let v1651 : BitVec 1 := Scalar.xori v1649 v1650
  let c0_i32_1245 : BitVec 32 := 0#32
  let v1648 : BitVec 1 := Scalar.cmpi .ne v1647 c0_i32_1245
  let v1652 : BitVec 1 := Scalar.andi v1651 v1648
  let v1653 : BitVec 32 := Scalar.addi v1647 v1646
  let v1654 : BitVec 32 := Scalar.select v1652 v1653 v1647
  let v1655 : BitVec 32 := Scalar.muli c2_i32_1248 v1654
  let c0_i32_1249 : BitVec 32 := 0#32
  let v1656 : BitVec 32 := Scalar.addi v1655 c0_i32_1249
  let c2_i32_1250 : BitVec 32 := 2#32
  let v1657 : BitVec 1 := Scalar.cmpi .slt v1656 c2_i32_1250
  let c3_i32_1251 : BitVec 32 := 3#32
  let c0_i32_1252 : BitVec 32 := 0#32
  let v1658 : BitVec 1 := Scalar.cmpi .eq c3_i32_1251 c0_i32_1252
  let c1_i32_1253 : BitVec 32 := 1#32
  let v1659 : BitVec 32 := Scalar.select v1658 c1_i32_1253 c3_i32_1251
  let v1660 : BitVec 32 := Scalar.remsi v1656 v1659
  let c0_i32_1255 : BitVec 32 := 0#32
  let v1662 : BitVec 1 := Scalar.cmpi .slt v1660 c0_i32_1255
  let c0_i32_1256 : BitVec 32 := 0#32
  let v1663 : BitVec 1 := Scalar.cmpi .slt v1659 c0_i32_1256
  let v1664 : BitVec 1 := Scalar.xori v1662 v1663
  let c0_i32_1254 : BitVec 32 := 0#32
  let v1661 : BitVec 1 := Scalar.cmpi .ne v1660 c0_i32_1254
  let v1665 : BitVec 1 := Scalar.andi v1664 v1661
  let v1666 : BitVec 32 := Scalar.addi v1660 v1659
  let v1667 : BitVec 32 := Scalar.select v1665 v1666 v1660
  let c1_i32_1257 : BitVec 32 := 1#32
  let v1668 : BitVec 1 := Scalar.cmpi .ne v1667 c1_i32_1257
  let v1669 : BitVec 1 := Scalar.ori v1657 v1668
  let v1670 : BitVec 32 := Scalar.extui v1669
  let c0_i32_1262 : BitVec 32 := 0#32
  let v1671 : BitVec 1 := Scalar.cmpi .ne v1670 c0_i32_1262
  v1671

def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1234 : BitVec 32 := 6#32
  let v1633 : BitVec 32 := Scalar.addi v2 c6_i32_1234
  let c16_i32_1235 : BitVec 32 := 16#32
  let c0_i32_1236 : BitVec 32 := 0#32
  let v1634 : BitVec 1 := Scalar.cmpi .eq c16_i32_1235 c0_i32_1236
  let c1_i32_1237 : BitVec 32 := 1#32
  let v1635 : BitVec 32 := Scalar.select v1634 c1_i32_1237 c16_i32_1235
  let v1636 : BitVec 32 := Scalar.remsi v1633 v1635
  let c0_i32_1239 : BitVec 32 := 0#32
  let v1638 : BitVec 1 := Scalar.cmpi .slt v1636 c0_i32_1239
  let c0_i32_1240 : BitVec 32 := 0#32
  let v1639 : BitVec 1 := Scalar.cmpi .slt v1635 c0_i32_1240
  let v1640 : BitVec 1 := Scalar.xori v1638 v1639
  let c0_i32_1238 : BitVec 32 := 0#32
  let v1637 : BitVec 1 := Scalar.cmpi .ne v1636 c0_i32_1238
  let v1641 : BitVec 1 := Scalar.andi v1640 v1637
  let v1642 : BitVec 32 := Scalar.addi v1636 v1635
  let v1643 : BitVec 32 := Scalar.select v1641 v1642 v1636
  let c0_i32_3332 : BitVec 32 := 0#32
  let c0_i32_3333 : BitVec 32 := 0#32
  let c0_i32_3334 : BitVec 32 := 0#32
  ![v1643.toNat, 0, 0, 0]
def k0_cond42 (d0 : Dev nD) : BitVec 1 :=
  let c2_i32_1277 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1270 : BitVec 32 := 6#32
  let v1683 : BitVec 32 := Scalar.subi v2 c6_i32_1270
  let c16_i32_1271 : BitVec 32 := 16#32
  let c0_i32_1272 : BitVec 32 := 0#32
  let v1684 : BitVec 1 := Scalar.cmpi .eq c16_i32_1271 c0_i32_1272
  let c1_i32_1273 : BitVec 32 := 1#32
  let v1685 : BitVec 32 := Scalar.select v1684 c1_i32_1273 c16_i32_1271
  let v1686 : BitVec 32 := Scalar.remsi v1683 v1685
  let c0_i32_1275 : BitVec 32 := 0#32
  let v1688 : BitVec 1 := Scalar.cmpi .slt v1686 c0_i32_1275
  let c0_i32_1276 : BitVec 32 := 0#32
  let v1689 : BitVec 1 := Scalar.cmpi .slt v1685 c0_i32_1276
  let v1690 : BitVec 1 := Scalar.xori v1688 v1689
  let c0_i32_1274 : BitVec 32 := 0#32
  let v1687 : BitVec 1 := Scalar.cmpi .ne v1686 c0_i32_1274
  let v1691 : BitVec 1 := Scalar.andi v1690 v1687
  let v1692 : BitVec 32 := Scalar.addi v1686 v1685
  let v1693 : BitVec 32 := Scalar.select v1691 v1692 v1686
  let v1694 : BitVec 32 := Scalar.muli c2_i32_1277 v1693
  let c1_i32_1278 : BitVec 32 := 1#32
  let v1695 : BitVec 32 := Scalar.addi v1694 c1_i32_1278
  let c2_i32_1279 : BitVec 32 := 2#32
  let v1696 : BitVec 1 := Scalar.cmpi .slt v1695 c2_i32_1279
  let c3_i32_1280 : BitVec 32 := 3#32
  let c0_i32_1281 : BitVec 32 := 0#32
  let v1697 : BitVec 1 := Scalar.cmpi .eq c3_i32_1280 c0_i32_1281
  let c1_i32_1282 : BitVec 32 := 1#32
  let v1698 : BitVec 32 := Scalar.select v1697 c1_i32_1282 c3_i32_1280
  let v1699 : BitVec 32 := Scalar.remsi v1695 v1698
  let c0_i32_1284 : BitVec 32 := 0#32
  let v1701 : BitVec 1 := Scalar.cmpi .slt v1699 c0_i32_1284
  let c0_i32_1285 : BitVec 32 := 0#32
  let v1702 : BitVec 1 := Scalar.cmpi .slt v1698 c0_i32_1285
  let v1703 : BitVec 1 := Scalar.xori v1701 v1702
  let c0_i32_1283 : BitVec 32 := 0#32
  let v1700 : BitVec 1 := Scalar.cmpi .ne v1699 c0_i32_1283
  let v1704 : BitVec 1 := Scalar.andi v1703 v1700
  let v1705 : BitVec 32 := Scalar.addi v1699 v1698
  let v1706 : BitVec 32 := Scalar.select v1704 v1705 v1699
  let c1_i32_1286 : BitVec 32 := 1#32
  let v1707 : BitVec 1 := Scalar.cmpi .ne v1706 c1_i32_1286
  let v1708 : BitVec 1 := Scalar.ori v1696 v1707
  let v1709 : BitVec 32 := Scalar.extui v1708
  let c0_i32_1291 : BitVec 32 := 0#32
  let v1710 : BitVec 1 := Scalar.cmpi .ne v1709 c0_i32_1291
  v1710

def k0_off43 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1263 : BitVec 32 := 6#32
  let v1672 : BitVec 32 := Scalar.addi v2 c6_i32_1263
  let c16_i32_1264 : BitVec 32 := 16#32
  let c0_i32_1265 : BitVec 32 := 0#32
  let v1673 : BitVec 1 := Scalar.cmpi .eq c16_i32_1264 c0_i32_1265
  let c1_i32_1266 : BitVec 32 := 1#32
  let v1674 : BitVec 32 := Scalar.select v1673 c1_i32_1266 c16_i32_1264
  let v1675 : BitVec 32 := Scalar.remsi v1672 v1674
  let c0_i32_1268 : BitVec 32 := 0#32
  let v1677 : BitVec 1 := Scalar.cmpi .slt v1675 c0_i32_1268
  let c0_i32_1269 : BitVec 32 := 0#32
  let v1678 : BitVec 1 := Scalar.cmpi .slt v1674 c0_i32_1269
  let v1679 : BitVec 1 := Scalar.xori v1677 v1678
  let c0_i32_1267 : BitVec 32 := 0#32
  let v1676 : BitVec 1 := Scalar.cmpi .ne v1675 c0_i32_1267
  let v1680 : BitVec 1 := Scalar.andi v1679 v1676
  let v1681 : BitVec 32 := Scalar.addi v1675 v1674
  let v1682 : BitVec 32 := Scalar.select v1680 v1681 v1675
  let c0_i32_3332 : BitVec 32 := 0#32
  let c64_i32_3333 : BitVec 32 := 64#32
  let c0_i32_3334 : BitVec 32 := 0#32
  ![v1682.toNat, 0, 64, 0]
def k0_cond43 (d0 : Dev nD) : BitVec 1 :=
  let c2_i32_1306 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1299 : BitVec 32 := 7#32
  let v1722 : BitVec 32 := Scalar.subi v2 c7_i32_1299
  let c16_i32_1300 : BitVec 32 := 16#32
  let c0_i32_1301 : BitVec 32 := 0#32
  let v1723 : BitVec 1 := Scalar.cmpi .eq c16_i32_1300 c0_i32_1301
  let c1_i32_1302 : BitVec 32 := 1#32
  let v1724 : BitVec 32 := Scalar.select v1723 c1_i32_1302 c16_i32_1300
  let v1725 : BitVec 32 := Scalar.remsi v1722 v1724
  let c0_i32_1304 : BitVec 32 := 0#32
  let v1727 : BitVec 1 := Scalar.cmpi .slt v1725 c0_i32_1304
  let c0_i32_1305 : BitVec 32 := 0#32
  let v1728 : BitVec 1 := Scalar.cmpi .slt v1724 c0_i32_1305
  let v1729 : BitVec 1 := Scalar.xori v1727 v1728
  let c0_i32_1303 : BitVec 32 := 0#32
  let v1726 : BitVec 1 := Scalar.cmpi .ne v1725 c0_i32_1303
  let v1730 : BitVec 1 := Scalar.andi v1729 v1726
  let v1731 : BitVec 32 := Scalar.addi v1725 v1724
  let v1732 : BitVec 32 := Scalar.select v1730 v1731 v1725
  let v1733 : BitVec 32 := Scalar.muli c2_i32_1306 v1732
  let c0_i32_1307 : BitVec 32 := 0#32
  let v1734 : BitVec 32 := Scalar.addi v1733 c0_i32_1307
  let c2_i32_1308 : BitVec 32 := 2#32
  let v1735 : BitVec 1 := Scalar.cmpi .slt v1734 c2_i32_1308
  let c3_i32_1309 : BitVec 32 := 3#32
  let c0_i32_1310 : BitVec 32 := 0#32
  let v1736 : BitVec 1 := Scalar.cmpi .eq c3_i32_1309 c0_i32_1310
  let c1_i32_1311 : BitVec 32 := 1#32
  let v1737 : BitVec 32 := Scalar.select v1736 c1_i32_1311 c3_i32_1309
  let v1738 : BitVec 32 := Scalar.remsi v1734 v1737
  let c0_i32_1313 : BitVec 32 := 0#32
  let v1740 : BitVec 1 := Scalar.cmpi .slt v1738 c0_i32_1313
  let c0_i32_1314 : BitVec 32 := 0#32
  let v1741 : BitVec 1 := Scalar.cmpi .slt v1737 c0_i32_1314
  let v1742 : BitVec 1 := Scalar.xori v1740 v1741
  let c0_i32_1312 : BitVec 32 := 0#32
  let v1739 : BitVec 1 := Scalar.cmpi .ne v1738 c0_i32_1312
  let v1743 : BitVec 1 := Scalar.andi v1742 v1739
  let v1744 : BitVec 32 := Scalar.addi v1738 v1737
  let v1745 : BitVec 32 := Scalar.select v1743 v1744 v1738
  let c1_i32_1315 : BitVec 32 := 1#32
  let v1746 : BitVec 1 := Scalar.cmpi .ne v1745 c1_i32_1315
  let v1747 : BitVec 1 := Scalar.ori v1735 v1746
  let v1748 : BitVec 32 := Scalar.extui v1747
  let c0_i32_1320 : BitVec 32 := 0#32
  let v1749 : BitVec 1 := Scalar.cmpi .ne v1748 c0_i32_1320
  v1749

def k0_off44 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1292 : BitVec 32 := 7#32
  let v1711 : BitVec 32 := Scalar.addi v2 c7_i32_1292
  let c16_i32_1293 : BitVec 32 := 16#32
  let c0_i32_1294 : BitVec 32 := 0#32
  let v1712 : BitVec 1 := Scalar.cmpi .eq c16_i32_1293 c0_i32_1294
  let c1_i32_1295 : BitVec 32 := 1#32
  let v1713 : BitVec 32 := Scalar.select v1712 c1_i32_1295 c16_i32_1293
  let v1714 : BitVec 32 := Scalar.remsi v1711 v1713
  let c0_i32_1297 : BitVec 32 := 0#32
  let v1716 : BitVec 1 := Scalar.cmpi .slt v1714 c0_i32_1297
  let c0_i32_1298 : BitVec 32 := 0#32
  let v1717 : BitVec 1 := Scalar.cmpi .slt v1713 c0_i32_1298
  let v1718 : BitVec 1 := Scalar.xori v1716 v1717
  let c0_i32_1296 : BitVec 32 := 0#32
  let v1715 : BitVec 1 := Scalar.cmpi .ne v1714 c0_i32_1296
  let v1719 : BitVec 1 := Scalar.andi v1718 v1715
  let v1720 : BitVec 32 := Scalar.addi v1714 v1713
  let v1721 : BitVec 32 := Scalar.select v1719 v1720 v1714
  let c0_i32_3332 : BitVec 32 := 0#32
  let c0_i32_3333 : BitVec 32 := 0#32
  let c0_i32_3334 : BitVec 32 := 0#32
  ![v1721.toNat, 0, 0, 0]
def k0_cond44 (d0 : Dev nD) : BitVec 1 :=
  let c2_i32_1335 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1328 : BitVec 32 := 7#32
  let v1761 : BitVec 32 := Scalar.subi v2 c7_i32_1328
  let c16_i32_1329 : BitVec 32 := 16#32
  let c0_i32_1330 : BitVec 32 := 0#32
  let v1762 : BitVec 1 := Scalar.cmpi .eq c16_i32_1329 c0_i32_1330
  let c1_i32_1331 : BitVec 32 := 1#32
  let v1763 : BitVec 32 := Scalar.select v1762 c1_i32_1331 c16_i32_1329
  let v1764 : BitVec 32 := Scalar.remsi v1761 v1763
  let c0_i32_1333 : BitVec 32 := 0#32
  let v1766 : BitVec 1 := Scalar.cmpi .slt v1764 c0_i32_1333
  let c0_i32_1334 : BitVec 32 := 0#32
  let v1767 : BitVec 1 := Scalar.cmpi .slt v1763 c0_i32_1334
  let v1768 : BitVec 1 := Scalar.xori v1766 v1767
  let c0_i32_1332 : BitVec 32 := 0#32
  let v1765 : BitVec 1 := Scalar.cmpi .ne v1764 c0_i32_1332
  let v1769 : BitVec 1 := Scalar.andi v1768 v1765
  let v1770 : BitVec 32 := Scalar.addi v1764 v1763
  let v1771 : BitVec 32 := Scalar.select v1769 v1770 v1764
  let v1772 : BitVec 32 := Scalar.muli c2_i32_1335 v1771
  let c1_i32_1336 : BitVec 32 := 1#32
  let v1773 : BitVec 32 := Scalar.addi v1772 c1_i32_1336
  let c2_i32_1337 : BitVec 32 := 2#32
  let v1774 : BitVec 1 := Scalar.cmpi .slt v1773 c2_i32_1337
  let c3_i32_1338 : BitVec 32 := 3#32
  let c0_i32_1339 : BitVec 32 := 0#32
  let v1775 : BitVec 1 := Scalar.cmpi .eq c3_i32_1338 c0_i32_1339
  let c1_i32_1340 : BitVec 32 := 1#32
  let v1776 : BitVec 32 := Scalar.select v1775 c1_i32_1340 c3_i32_1338
  let v1777 : BitVec 32 := Scalar.remsi v1773 v1776
  let c0_i32_1342 : BitVec 32 := 0#32
  let v1779 : BitVec 1 := Scalar.cmpi .slt v1777 c0_i32_1342
  let c0_i32_1343 : BitVec 32 := 0#32
  let v1780 : BitVec 1 := Scalar.cmpi .slt v1776 c0_i32_1343
  let v1781 : BitVec 1 := Scalar.xori v1779 v1780
  let c0_i32_1341 : BitVec 32 := 0#32
  let v1778 : BitVec 1 := Scalar.cmpi .ne v1777 c0_i32_1341
  let v1782 : BitVec 1 := Scalar.andi v1781 v1778
  let v1783 : BitVec 32 := Scalar.addi v1777 v1776
  let v1784 : BitVec 32 := Scalar.select v1782 v1783 v1777
  let c1_i32_1344 : BitVec 32 := 1#32
  let v1785 : BitVec 1 := Scalar.cmpi .ne v1784 c1_i32_1344
  let v1786 : BitVec 1 := Scalar.ori v1774 v1785
  let v1787 : BitVec 32 := Scalar.extui v1786
  let c0_i32_1349 : BitVec 32 := 0#32
  let v1788 : BitVec 1 := Scalar.cmpi .ne v1787 c0_i32_1349
  v1788

def k0_off45 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1321 : BitVec 32 := 7#32
  let v1750 : BitVec 32 := Scalar.addi v2 c7_i32_1321
  let c16_i32_1322 : BitVec 32 := 16#32
  let c0_i32_1323 : BitVec 32 := 0#32
  let v1751 : BitVec 1 := Scalar.cmpi .eq c16_i32_1322 c0_i32_1323
  let c1_i32_1324 : BitVec 32 := 1#32
  let v1752 : BitVec 32 := Scalar.select v1751 c1_i32_1324 c16_i32_1322
  let v1753 : BitVec 32 := Scalar.remsi v1750 v1752
  let c0_i32_1326 : BitVec 32 := 0#32
  let v1755 : BitVec 1 := Scalar.cmpi .slt v1753 c0_i32_1326
  let c0_i32_1327 : BitVec 32 := 0#32
  let v1756 : BitVec 1 := Scalar.cmpi .slt v1752 c0_i32_1327
  let v1757 : BitVec 1 := Scalar.xori v1755 v1756
  let c0_i32_1325 : BitVec 32 := 0#32
  let v1754 : BitVec 1 := Scalar.cmpi .ne v1753 c0_i32_1325
  let v1758 : BitVec 1 := Scalar.andi v1757 v1754
  let v1759 : BitVec 32 := Scalar.addi v1753 v1752
  let v1760 : BitVec 32 := Scalar.select v1758 v1759 v1753
  let c0_i32_3332 : BitVec 32 := 0#32
  let c64_i32_3333 : BitVec 32 := 64#32
  let c0_i32_3334 : BitVec 32 := 0#32
  ![v1760.toNat, 0, 64, 0]
def k0_cond45 (d0 : Dev nD) : BitVec 1 :=
  let c2_i32_1457 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1450 : BitVec 32 := 8#32
  let v1992 : BitVec 32 := Scalar.subi v2 c8_i32_1450
  let c16_i32_1451 : BitVec 32 := 16#32
  let c0_i32_1452 : BitVec 32 := 0#32
  let v1993 : BitVec 1 := Scalar.cmpi .eq c16_i32_1451 c0_i32_1452
  let c1_i32_1453 : BitVec 32 := 1#32
  let v1994 : BitVec 32 := Scalar.select v1993 c1_i32_1453 c16_i32_1451
  let v1995 : BitVec 32 := Scalar.remsi v1992 v1994
  let c0_i32_1455 : BitVec 32 := 0#32
  let v1997 : BitVec 1 := Scalar.cmpi .slt v1995 c0_i32_1455
  let c0_i32_1456 : BitVec 32 := 0#32
  let v1998 : BitVec 1 := Scalar.cmpi .slt v1994 c0_i32_1456
  let v1999 : BitVec 1 := Scalar.xori v1997 v1998
  let c0_i32_1454 : BitVec 32 := 0#32
  let v1996 : BitVec 1 := Scalar.cmpi .ne v1995 c0_i32_1454
  let v2000 : BitVec 1 := Scalar.andi v1999 v1996
  let v2001 : BitVec 32 := Scalar.addi v1995 v1994
  let v2002 : BitVec 32 := Scalar.select v2000 v2001 v1995
  let v2003 : BitVec 32 := Scalar.muli c2_i32_1457 v2002
  let c0_i32_1458 : BitVec 32 := 0#32
  let v2004 : BitVec 32 := Scalar.addi v2003 c0_i32_1458
  let c2_i32_1459 : BitVec 32 := 2#32
  let v2005 : BitVec 1 := Scalar.cmpi .slt v2004 c2_i32_1459
  let c3_i32_1460 : BitVec 32 := 3#32
  let c0_i32_1461 : BitVec 32 := 0#32
  let v2006 : BitVec 1 := Scalar.cmpi .eq c3_i32_1460 c0_i32_1461
  let c1_i32_1462 : BitVec 32 := 1#32
  let v2007 : BitVec 32 := Scalar.select v2006 c1_i32_1462 c3_i32_1460
  let v2008 : BitVec 32 := Scalar.remsi v2004 v2007
  let c0_i32_1464 : BitVec 32 := 0#32
  let v2010 : BitVec 1 := Scalar.cmpi .slt v2008 c0_i32_1464
  let c0_i32_1465 : BitVec 32 := 0#32
  let v2011 : BitVec 1 := Scalar.cmpi .slt v2007 c0_i32_1465
  let v2012 : BitVec 1 := Scalar.xori v2010 v2011
  let c0_i32_1463 : BitVec 32 := 0#32
  let v2009 : BitVec 1 := Scalar.cmpi .ne v2008 c0_i32_1463
  let v2013 : BitVec 1 := Scalar.andi v2012 v2009
  let v2014 : BitVec 32 := Scalar.addi v2008 v2007
  let v2015 : BitVec 32 := Scalar.select v2013 v2014 v2008
  let c1_i32_1466 : BitVec 32 := 1#32
  let v2016 : BitVec 1 := Scalar.cmpi .ne v2015 c1_i32_1466
  let v2017 : BitVec 1 := Scalar.ori v2005 v2016
  let v2018 : BitVec 32 := Scalar.extui v2017
  let c0_i32_1471 : BitVec 32 := 0#32
  let v2019 : BitVec 1 := Scalar.cmpi .ne v2018 c0_i32_1471
  v2019

def k0_off46 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1443 : BitVec 32 := 8#32
  let v1981 : BitVec 32 := Scalar.addi v2 c8_i32_1443
  let c16_i32_1444 : BitVec 32 := 16#32
  let c0_i32_1445 : BitVec 32 := 0#32
  let v1982 : BitVec 1 := Scalar.cmpi .eq c16_i32_1444 c0_i32_1445
  let c1_i32_1446 : BitVec 32 := 1#32
  let v1983 : BitVec 32 := Scalar.select v1982 c1_i32_1446 c16_i32_1444
  let v1984 : BitVec 32 := Scalar.remsi v1981 v1983
  let c0_i32_1448 : BitVec 32 := 0#32
  let v1986 : BitVec 1 := Scalar.cmpi .slt v1984 c0_i32_1448
  let c0_i32_1449 : BitVec 32 := 0#32
  let v1987 : BitVec 1 := Scalar.cmpi .slt v1983 c0_i32_1449
  let v1988 : BitVec 1 := Scalar.xori v1986 v1987
  let c0_i32_1447 : BitVec 32 := 0#32
  let v1985 : BitVec 1 := Scalar.cmpi .ne v1984 c0_i32_1447
  let v1989 : BitVec 1 := Scalar.andi v1988 v1985
  let v1990 : BitVec 32 := Scalar.addi v1984 v1983
  let v1991 : BitVec 32 := Scalar.select v1989 v1990 v1984
  let c0_i32_3332 : BitVec 32 := 0#32
  let c0_i32_3333 : BitVec 32 := 0#32
  let c0_i32_3334 : BitVec 32 := 0#32
  ![v1991.toNat, 0, 0, 0]
def k0_cond46 (d0 : Dev nD) : BitVec 1 :=
  let c2_i32_1486 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1479 : BitVec 32 := 8#32
  let v2031 : BitVec 32 := Scalar.subi v2 c8_i32_1479
  let c16_i32_1480 : BitVec 32 := 16#32
  let c0_i32_1481 : BitVec 32 := 0#32
  let v2032 : BitVec 1 := Scalar.cmpi .eq c16_i32_1480 c0_i32_1481
  let c1_i32_1482 : BitVec 32 := 1#32
  let v2033 : BitVec 32 := Scalar.select v2032 c1_i32_1482 c16_i32_1480
  let v2034 : BitVec 32 := Scalar.remsi v2031 v2033
  let c0_i32_1484 : BitVec 32 := 0#32
  let v2036 : BitVec 1 := Scalar.cmpi .slt v2034 c0_i32_1484
  let c0_i32_1485 : BitVec 32 := 0#32
  let v2037 : BitVec 1 := Scalar.cmpi .slt v2033 c0_i32_1485
  let v2038 : BitVec 1 := Scalar.xori v2036 v2037
  let c0_i32_1483 : BitVec 32 := 0#32
  let v2035 : BitVec 1 := Scalar.cmpi .ne v2034 c0_i32_1483
  let v2039 : BitVec 1 := Scalar.andi v2038 v2035
  let v2040 : BitVec 32 := Scalar.addi v2034 v2033
  let v2041 : BitVec 32 := Scalar.select v2039 v2040 v2034
  let v2042 : BitVec 32 := Scalar.muli c2_i32_1486 v2041
  let c1_i32_1487 : BitVec 32 := 1#32
  let v2043 : BitVec 32 := Scalar.addi v2042 c1_i32_1487
  let c2_i32_1488 : BitVec 32 := 2#32
  let v2044 : BitVec 1 := Scalar.cmpi .slt v2043 c2_i32_1488
  let c3_i32_1489 : BitVec 32 := 3#32
  let c0_i32_1490 : BitVec 32 := 0#32
  let v2045 : BitVec 1 := Scalar.cmpi .eq c3_i32_1489 c0_i32_1490
  let c1_i32_1491 : BitVec 32 := 1#32
  let v2046 : BitVec 32 := Scalar.select v2045 c1_i32_1491 c3_i32_1489
  let v2047 : BitVec 32 := Scalar.remsi v2043 v2046
  let c0_i32_1493 : BitVec 32 := 0#32
  let v2049 : BitVec 1 := Scalar.cmpi .slt v2047 c0_i32_1493
  let c0_i32_1494 : BitVec 32 := 0#32
  let v2050 : BitVec 1 := Scalar.cmpi .slt v2046 c0_i32_1494
  let v2051 : BitVec 1 := Scalar.xori v2049 v2050
  let c0_i32_1492 : BitVec 32 := 0#32
  let v2048 : BitVec 1 := Scalar.cmpi .ne v2047 c0_i32_1492
  let v2052 : BitVec 1 := Scalar.andi v2051 v2048
  let v2053 : BitVec 32 := Scalar.addi v2047 v2046
  let v2054 : BitVec 32 := Scalar.select v2052 v2053 v2047
  let c1_i32_1495 : BitVec 32 := 1#32
  let v2055 : BitVec 1 := Scalar.cmpi .ne v2054 c1_i32_1495
  let v2056 : BitVec 1 := Scalar.ori v2044 v2055
  let v2057 : BitVec 32 := Scalar.extui v2056
  let c0_i32_1500 : BitVec 32 := 0#32
  let v2058 : BitVec 1 := Scalar.cmpi .ne v2057 c0_i32_1500
  v2058

def k0_off47 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1472 : BitVec 32 := 8#32
  let v2020 : BitVec 32 := Scalar.addi v2 c8_i32_1472
  let c16_i32_1473 : BitVec 32 := 16#32
  let c0_i32_1474 : BitVec 32 := 0#32
  let v2021 : BitVec 1 := Scalar.cmpi .eq c16_i32_1473 c0_i32_1474
  let c1_i32_1475 : BitVec 32 := 1#32
  let v2022 : BitVec 32 := Scalar.select v2021 c1_i32_1475 c16_i32_1473
  let v2023 : BitVec 32 := Scalar.remsi v2020 v2022
  let c0_i32_1477 : BitVec 32 := 0#32
  let v2025 : BitVec 1 := Scalar.cmpi .slt v2023 c0_i32_1477
  let c0_i32_1478 : BitVec 32 := 0#32
  let v2026 : BitVec 1 := Scalar.cmpi .slt v2022 c0_i32_1478
  let v2027 : BitVec 1 := Scalar.xori v2025 v2026
  let c0_i32_1476 : BitVec 32 := 0#32
  let v2024 : BitVec 1 := Scalar.cmpi .ne v2023 c0_i32_1476
  let v2028 : BitVec 1 := Scalar.andi v2027 v2024
  let v2029 : BitVec 32 := Scalar.addi v2023 v2022
  let v2030 : BitVec 32 := Scalar.select v2028 v2029 v2023
  let c0_i32_3332 : BitVec 32 := 0#32
  let c64_i32_3333 : BitVec 32 := 64#32
  let c0_i32_3334 : BitVec 32 := 0#32
  ![v2030.toNat, 0, 64, 0]
def k0_cond47 (d0 : Dev nD) : BitVec 1 :=
  let c2_i32_1515 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1508 : BitVec 32 := 9#32
  let v2070 : BitVec 32 := Scalar.subi v2 c9_i32_1508
  let c16_i32_1509 : BitVec 32 := 16#32
  let c0_i32_1510 : BitVec 32 := 0#32
  let v2071 : BitVec 1 := Scalar.cmpi .eq c16_i32_1509 c0_i32_1510
  let c1_i32_1511 : BitVec 32 := 1#32
  let v2072 : BitVec 32 := Scalar.select v2071 c1_i32_1511 c16_i32_1509
  let v2073 : BitVec 32 := Scalar.remsi v2070 v2072
  let c0_i32_1513 : BitVec 32 := 0#32
  let v2075 : BitVec 1 := Scalar.cmpi .slt v2073 c0_i32_1513
  let c0_i32_1514 : BitVec 32 := 0#32
  let v2076 : BitVec 1 := Scalar.cmpi .slt v2072 c0_i32_1514
  let v2077 : BitVec 1 := Scalar.xori v2075 v2076
  let c0_i32_1512 : BitVec 32 := 0#32
  let v2074 : BitVec 1 := Scalar.cmpi .ne v2073 c0_i32_1512
  let v2078 : BitVec 1 := Scalar.andi v2077 v2074
  let v2079 : BitVec 32 := Scalar.addi v2073 v2072
  let v2080 : BitVec 32 := Scalar.select v2078 v2079 v2073
  let v2081 : BitVec 32 := Scalar.muli c2_i32_1515 v2080
  let c0_i32_1516 : BitVec 32 := 0#32
  let v2082 : BitVec 32 := Scalar.addi v2081 c0_i32_1516
  let c2_i32_1517 : BitVec 32 := 2#32
  let v2083 : BitVec 1 := Scalar.cmpi .slt v2082 c2_i32_1517
  let c3_i32_1518 : BitVec 32 := 3#32
  let c0_i32_1519 : BitVec 32 := 0#32
  let v2084 : BitVec 1 := Scalar.cmpi .eq c3_i32_1518 c0_i32_1519
  let c1_i32_1520 : BitVec 32 := 1#32
  let v2085 : BitVec 32 := Scalar.select v2084 c1_i32_1520 c3_i32_1518
  let v2086 : BitVec 32 := Scalar.remsi v2082 v2085
  let c0_i32_1522 : BitVec 32 := 0#32
  let v2088 : BitVec 1 := Scalar.cmpi .slt v2086 c0_i32_1522
  let c0_i32_1523 : BitVec 32 := 0#32
  let v2089 : BitVec 1 := Scalar.cmpi .slt v2085 c0_i32_1523
  let v2090 : BitVec 1 := Scalar.xori v2088 v2089
  let c0_i32_1521 : BitVec 32 := 0#32
  let v2087 : BitVec 1 := Scalar.cmpi .ne v2086 c0_i32_1521
  let v2091 : BitVec 1 := Scalar.andi v2090 v2087
  let v2092 : BitVec 32 := Scalar.addi v2086 v2085
  let v2093 : BitVec 32 := Scalar.select v2091 v2092 v2086
  let c1_i32_1524 : BitVec 32 := 1#32
  let v2094 : BitVec 1 := Scalar.cmpi .ne v2093 c1_i32_1524
  let v2095 : BitVec 1 := Scalar.ori v2083 v2094
  let v2096 : BitVec 32 := Scalar.extui v2095
  let c0_i32_1529 : BitVec 32 := 0#32
  let v2097 : BitVec 1 := Scalar.cmpi .ne v2096 c0_i32_1529
  v2097

def k0_off48 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1501 : BitVec 32 := 9#32
  let v2059 : BitVec 32 := Scalar.addi v2 c9_i32_1501
  let c16_i32_1502 : BitVec 32 := 16#32
  let c0_i32_1503 : BitVec 32 := 0#32
  let v2060 : BitVec 1 := Scalar.cmpi .eq c16_i32_1502 c0_i32_1503
  let c1_i32_1504 : BitVec 32 := 1#32
  let v2061 : BitVec 32 := Scalar.select v2060 c1_i32_1504 c16_i32_1502
  let v2062 : BitVec 32 := Scalar.remsi v2059 v2061
  let c0_i32_1506 : BitVec 32 := 0#32
  let v2064 : BitVec 1 := Scalar.cmpi .slt v2062 c0_i32_1506
  let c0_i32_1507 : BitVec 32 := 0#32
  let v2065 : BitVec 1 := Scalar.cmpi .slt v2061 c0_i32_1507
  let v2066 : BitVec 1 := Scalar.xori v2064 v2065
  let c0_i32_1505 : BitVec 32 := 0#32
  let v2063 : BitVec 1 := Scalar.cmpi .ne v2062 c0_i32_1505
  let v2067 : BitVec 1 := Scalar.andi v2066 v2063
  let v2068 : BitVec 32 := Scalar.addi v2062 v2061
  let v2069 : BitVec 32 := Scalar.select v2067 v2068 v2062
  let c0_i32_3332 : BitVec 32 := 0#32
  let c0_i32_3333 : BitVec 32 := 0#32
  let c0_i32_3334 : BitVec 32 := 0#32
  ![v2069.toNat, 0, 0, 0]
def k0_cond48 (d0 : Dev nD) : BitVec 1 :=
  let c2_i32_1544 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1537 : BitVec 32 := 9#32
  let v2109 : BitVec 32 := Scalar.subi v2 c9_i32_1537
  let c16_i32_1538 : BitVec 32 := 16#32
  let c0_i32_1539 : BitVec 32 := 0#32
  let v2110 : BitVec 1 := Scalar.cmpi .eq c16_i32_1538 c0_i32_1539
  let c1_i32_1540 : BitVec 32 := 1#32
  let v2111 : BitVec 32 := Scalar.select v2110 c1_i32_1540 c16_i32_1538
  let v2112 : BitVec 32 := Scalar.remsi v2109 v2111
  let c0_i32_1542 : BitVec 32 := 0#32
  let v2114 : BitVec 1 := Scalar.cmpi .slt v2112 c0_i32_1542
  let c0_i32_1543 : BitVec 32 := 0#32
  let v2115 : BitVec 1 := Scalar.cmpi .slt v2111 c0_i32_1543
  let v2116 : BitVec 1 := Scalar.xori v2114 v2115
  let c0_i32_1541 : BitVec 32 := 0#32
  let v2113 : BitVec 1 := Scalar.cmpi .ne v2112 c0_i32_1541
  let v2117 : BitVec 1 := Scalar.andi v2116 v2113
  let v2118 : BitVec 32 := Scalar.addi v2112 v2111
  let v2119 : BitVec 32 := Scalar.select v2117 v2118 v2112
  let v2120 : BitVec 32 := Scalar.muli c2_i32_1544 v2119
  let c1_i32_1545 : BitVec 32 := 1#32
  let v2121 : BitVec 32 := Scalar.addi v2120 c1_i32_1545
  let c2_i32_1546 : BitVec 32 := 2#32
  let v2122 : BitVec 1 := Scalar.cmpi .slt v2121 c2_i32_1546
  let c3_i32_1547 : BitVec 32 := 3#32
  let c0_i32_1548 : BitVec 32 := 0#32
  let v2123 : BitVec 1 := Scalar.cmpi .eq c3_i32_1547 c0_i32_1548
  let c1_i32_1549 : BitVec 32 := 1#32
  let v2124 : BitVec 32 := Scalar.select v2123 c1_i32_1549 c3_i32_1547
  let v2125 : BitVec 32 := Scalar.remsi v2121 v2124
  let c0_i32_1551 : BitVec 32 := 0#32
  let v2127 : BitVec 1 := Scalar.cmpi .slt v2125 c0_i32_1551
  let c0_i32_1552 : BitVec 32 := 0#32
  let v2128 : BitVec 1 := Scalar.cmpi .slt v2124 c0_i32_1552
  let v2129 : BitVec 1 := Scalar.xori v2127 v2128
  let c0_i32_1550 : BitVec 32 := 0#32
  let v2126 : BitVec 1 := Scalar.cmpi .ne v2125 c0_i32_1550
  let v2130 : BitVec 1 := Scalar.andi v2129 v2126
  let v2131 : BitVec 32 := Scalar.addi v2125 v2124
  let v2132 : BitVec 32 := Scalar.select v2130 v2131 v2125
  let c1_i32_1553 : BitVec 32 := 1#32
  let v2133 : BitVec 1 := Scalar.cmpi .ne v2132 c1_i32_1553
  let v2134 : BitVec 1 := Scalar.ori v2122 v2133
  let v2135 : BitVec 32 := Scalar.extui v2134
  let c0_i32_1558 : BitVec 32 := 0#32
  let v2136 : BitVec 1 := Scalar.cmpi .ne v2135 c0_i32_1558
  v2136

def k0_off49 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1530 : BitVec 32 := 9#32
  let v2098 : BitVec 32 := Scalar.addi v2 c9_i32_1530
  let c16_i32_1531 : BitVec 32 := 16#32
  let c0_i32_1532 : BitVec 32 := 0#32
  let v2099 : BitVec 1 := Scalar.cmpi .eq c16_i32_1531 c0_i32_1532
  let c1_i32_1533 : BitVec 32 := 1#32
  let v2100 : BitVec 32 := Scalar.select v2099 c1_i32_1533 c16_i32_1531
  let v2101 : BitVec 32 := Scalar.remsi v2098 v2100
  let c0_i32_1535 : BitVec 32 := 0#32
  let v2103 : BitVec 1 := Scalar.cmpi .slt v2101 c0_i32_1535
  let c0_i32_1536 : BitVec 32 := 0#32
  let v2104 : BitVec 1 := Scalar.cmpi .slt v2100 c0_i32_1536
  let v2105 : BitVec 1 := Scalar.xori v2103 v2104
  let c0_i32_1534 : BitVec 32 := 0#32
  let v2102 : BitVec 1 := Scalar.cmpi .ne v2101 c0_i32_1534
  let v2106 : BitVec 1 := Scalar.andi v2105 v2102
  let v2107 : BitVec 32 := Scalar.addi v2101 v2100
  let v2108 : BitVec 32 := Scalar.select v2106 v2107 v2101
  let c0_i32_3332 : BitVec 32 := 0#32
  let c64_i32_3333 : BitVec 32 := 64#32
  let c0_i32_3334 : BitVec 32 := 0#32
  ![v2108.toNat, 0, 64, 0]
def k0_cond49 (d0 : Dev nD) : BitVec 1 :=
  let c2_i32_1573 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1566 : BitVec 32 := 10#32
  let v2148 : BitVec 32 := Scalar.subi v2 c10_i32_1566
  let c16_i32_1567 : BitVec 32 := 16#32
  let c0_i32_1568 : BitVec 32 := 0#32
  let v2149 : BitVec 1 := Scalar.cmpi .eq c16_i32_1567 c0_i32_1568
  let c1_i32_1569 : BitVec 32 := 1#32
  let v2150 : BitVec 32 := Scalar.select v2149 c1_i32_1569 c16_i32_1567
  let v2151 : BitVec 32 := Scalar.remsi v2148 v2150
  let c0_i32_1571 : BitVec 32 := 0#32
  let v2153 : BitVec 1 := Scalar.cmpi .slt v2151 c0_i32_1571
  let c0_i32_1572 : BitVec 32 := 0#32
  let v2154 : BitVec 1 := Scalar.cmpi .slt v2150 c0_i32_1572
  let v2155 : BitVec 1 := Scalar.xori v2153 v2154
  let c0_i32_1570 : BitVec 32 := 0#32
  let v2152 : BitVec 1 := Scalar.cmpi .ne v2151 c0_i32_1570
  let v2156 : BitVec 1 := Scalar.andi v2155 v2152
  let v2157 : BitVec 32 := Scalar.addi v2151 v2150
  let v2158 : BitVec 32 := Scalar.select v2156 v2157 v2151
  let v2159 : BitVec 32 := Scalar.muli c2_i32_1573 v2158
  let c0_i32_1574 : BitVec 32 := 0#32
  let v2160 : BitVec 32 := Scalar.addi v2159 c0_i32_1574
  let c2_i32_1575 : BitVec 32 := 2#32
  let v2161 : BitVec 1 := Scalar.cmpi .slt v2160 c2_i32_1575
  let c3_i32_1576 : BitVec 32 := 3#32
  let c0_i32_1577 : BitVec 32 := 0#32
  let v2162 : BitVec 1 := Scalar.cmpi .eq c3_i32_1576 c0_i32_1577
  let c1_i32_1578 : BitVec 32 := 1#32
  let v2163 : BitVec 32 := Scalar.select v2162 c1_i32_1578 c3_i32_1576
  let v2164 : BitVec 32 := Scalar.remsi v2160 v2163
  let c0_i32_1580 : BitVec 32 := 0#32
  let v2166 : BitVec 1 := Scalar.cmpi .slt v2164 c0_i32_1580
  let c0_i32_1581 : BitVec 32 := 0#32
  let v2167 : BitVec 1 := Scalar.cmpi .slt v2163 c0_i32_1581
  let v2168 : BitVec 1 := Scalar.xori v2166 v2167
  let c0_i32_1579 : BitVec 32 := 0#32
  let v2165 : BitVec 1 := Scalar.cmpi .ne v2164 c0_i32_1579
  let v2169 : BitVec 1 := Scalar.andi v2168 v2165
  let v2170 : BitVec 32 := Scalar.addi v2164 v2163
  let v2171 : BitVec 32 := Scalar.select v2169 v2170 v2164
  let c1_i32_1582 : BitVec 32 := 1#32
  let v2172 : BitVec 1 := Scalar.cmpi .ne v2171 c1_i32_1582
  let v2173 : BitVec 1 := Scalar.ori v2161 v2172
  let v2174 : BitVec 32 := Scalar.extui v2173
  let c0_i32_1587 : BitVec 32 := 0#32
  let v2175 : BitVec 1 := Scalar.cmpi .ne v2174 c0_i32_1587
  v2175

def k0_off50 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1559 : BitVec 32 := 10#32
  let v2137 : BitVec 32 := Scalar.addi v2 c10_i32_1559
  let c16_i32_1560 : BitVec 32 := 16#32
  let c0_i32_1561 : BitVec 32 := 0#32
  let v2138 : BitVec 1 := Scalar.cmpi .eq c16_i32_1560 c0_i32_1561
  let c1_i32_1562 : BitVec 32 := 1#32
  let v2139 : BitVec 32 := Scalar.select v2138 c1_i32_1562 c16_i32_1560
  let v2140 : BitVec 32 := Scalar.remsi v2137 v2139
  let c0_i32_1564 : BitVec 32 := 0#32
  let v2142 : BitVec 1 := Scalar.cmpi .slt v2140 c0_i32_1564
  let c0_i32_1565 : BitVec 32 := 0#32
  let v2143 : BitVec 1 := Scalar.cmpi .slt v2139 c0_i32_1565
  let v2144 : BitVec 1 := Scalar.xori v2142 v2143
  let c0_i32_1563 : BitVec 32 := 0#32
  let v2141 : BitVec 1 := Scalar.cmpi .ne v2140 c0_i32_1563
  let v2145 : BitVec 1 := Scalar.andi v2144 v2141
  let v2146 : BitVec 32 := Scalar.addi v2140 v2139
  let v2147 : BitVec 32 := Scalar.select v2145 v2146 v2140
  let c0_i32_3332 : BitVec 32 := 0#32
  let c0_i32_3333 : BitVec 32 := 0#32
  let c0_i32_3334 : BitVec 32 := 0#32
  ![v2147.toNat, 0, 0, 0]
def k0_cond50 (d0 : Dev nD) : BitVec 1 :=
  let c2_i32_1602 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1595 : BitVec 32 := 10#32
  let v2187 : BitVec 32 := Scalar.subi v2 c10_i32_1595
  let c16_i32_1596 : BitVec 32 := 16#32
  let c0_i32_1597 : BitVec 32 := 0#32
  let v2188 : BitVec 1 := Scalar.cmpi .eq c16_i32_1596 c0_i32_1597
  let c1_i32_1598 : BitVec 32 := 1#32
  let v2189 : BitVec 32 := Scalar.select v2188 c1_i32_1598 c16_i32_1596
  let v2190 : BitVec 32 := Scalar.remsi v2187 v2189
  let c0_i32_1600 : BitVec 32 := 0#32
  let v2192 : BitVec 1 := Scalar.cmpi .slt v2190 c0_i32_1600
  let c0_i32_1601 : BitVec 32 := 0#32
  let v2193 : BitVec 1 := Scalar.cmpi .slt v2189 c0_i32_1601
  let v2194 : BitVec 1 := Scalar.xori v2192 v2193
  let c0_i32_1599 : BitVec 32 := 0#32
  let v2191 : BitVec 1 := Scalar.cmpi .ne v2190 c0_i32_1599
  let v2195 : BitVec 1 := Scalar.andi v2194 v2191
  let v2196 : BitVec 32 := Scalar.addi v2190 v2189
  let v2197 : BitVec 32 := Scalar.select v2195 v2196 v2190
  let v2198 : BitVec 32 := Scalar.muli c2_i32_1602 v2197
  let c1_i32_1603 : BitVec 32 := 1#32
  let v2199 : BitVec 32 := Scalar.addi v2198 c1_i32_1603
  let c2_i32_1604 : BitVec 32 := 2#32
  let v2200 : BitVec 1 := Scalar.cmpi .slt v2199 c2_i32_1604
  let c3_i32_1605 : BitVec 32 := 3#32
  let c0_i32_1606 : BitVec 32 := 0#32
  let v2201 : BitVec 1 := Scalar.cmpi .eq c3_i32_1605 c0_i32_1606
  let c1_i32_1607 : BitVec 32 := 1#32
  let v2202 : BitVec 32 := Scalar.select v2201 c1_i32_1607 c3_i32_1605
  let v2203 : BitVec 32 := Scalar.remsi v2199 v2202
  let c0_i32_1609 : BitVec 32 := 0#32
  let v2205 : BitVec 1 := Scalar.cmpi .slt v2203 c0_i32_1609
  let c0_i32_1610 : BitVec 32 := 0#32
  let v2206 : BitVec 1 := Scalar.cmpi .slt v2202 c0_i32_1610
  let v2207 : BitVec 1 := Scalar.xori v2205 v2206
  let c0_i32_1608 : BitVec 32 := 0#32
  let v2204 : BitVec 1 := Scalar.cmpi .ne v2203 c0_i32_1608
  let v2208 : BitVec 1 := Scalar.andi v2207 v2204
  let v2209 : BitVec 32 := Scalar.addi v2203 v2202
  let v2210 : BitVec 32 := Scalar.select v2208 v2209 v2203
  let c1_i32_1611 : BitVec 32 := 1#32
  let v2211 : BitVec 1 := Scalar.cmpi .ne v2210 c1_i32_1611
  let v2212 : BitVec 1 := Scalar.ori v2200 v2211
  let v2213 : BitVec 32 := Scalar.extui v2212
  let c0_i32_1616 : BitVec 32 := 0#32
  let v2214 : BitVec 1 := Scalar.cmpi .ne v2213 c0_i32_1616
  v2214

def k0_off51 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1588 : BitVec 32 := 10#32
  let v2176 : BitVec 32 := Scalar.addi v2 c10_i32_1588
  let c16_i32_1589 : BitVec 32 := 16#32
  let c0_i32_1590 : BitVec 32 := 0#32
  let v2177 : BitVec 1 := Scalar.cmpi .eq c16_i32_1589 c0_i32_1590
  let c1_i32_1591 : BitVec 32 := 1#32
  let v2178 : BitVec 32 := Scalar.select v2177 c1_i32_1591 c16_i32_1589
  let v2179 : BitVec 32 := Scalar.remsi v2176 v2178
  let c0_i32_1593 : BitVec 32 := 0#32
  let v2181 : BitVec 1 := Scalar.cmpi .slt v2179 c0_i32_1593
  let c0_i32_1594 : BitVec 32 := 0#32
  let v2182 : BitVec 1 := Scalar.cmpi .slt v2178 c0_i32_1594
  let v2183 : BitVec 1 := Scalar.xori v2181 v2182
  let c0_i32_1592 : BitVec 32 := 0#32
  let v2180 : BitVec 1 := Scalar.cmpi .ne v2179 c0_i32_1592
  let v2184 : BitVec 1 := Scalar.andi v2183 v2180
  let v2185 : BitVec 32 := Scalar.addi v2179 v2178
  let v2186 : BitVec 32 := Scalar.select v2184 v2185 v2179
  let c0_i32_3332 : BitVec 32 := 0#32
  let c64_i32_3333 : BitVec 32 := 64#32
  let c0_i32_3334 : BitVec 32 := 0#32
  ![v2186.toNat, 0, 64, 0]
def k0_cond51 (d0 : Dev nD) : BitVec 1 :=
  let c2_i32_1631 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1624 : BitVec 32 := 11#32
  let v2226 : BitVec 32 := Scalar.subi v2 c11_i32_1624
  let c16_i32_1625 : BitVec 32 := 16#32
  let c0_i32_1626 : BitVec 32 := 0#32
  let v2227 : BitVec 1 := Scalar.cmpi .eq c16_i32_1625 c0_i32_1626
  let c1_i32_1627 : BitVec 32 := 1#32
  let v2228 : BitVec 32 := Scalar.select v2227 c1_i32_1627 c16_i32_1625
  let v2229 : BitVec 32 := Scalar.remsi v2226 v2228
  let c0_i32_1629 : BitVec 32 := 0#32
  let v2231 : BitVec 1 := Scalar.cmpi .slt v2229 c0_i32_1629
  let c0_i32_1630 : BitVec 32 := 0#32
  let v2232 : BitVec 1 := Scalar.cmpi .slt v2228 c0_i32_1630
  let v2233 : BitVec 1 := Scalar.xori v2231 v2232
  let c0_i32_1628 : BitVec 32 := 0#32
  let v2230 : BitVec 1 := Scalar.cmpi .ne v2229 c0_i32_1628
  let v2234 : BitVec 1 := Scalar.andi v2233 v2230
  let v2235 : BitVec 32 := Scalar.addi v2229 v2228
  let v2236 : BitVec 32 := Scalar.select v2234 v2235 v2229
  let v2237 : BitVec 32 := Scalar.muli c2_i32_1631 v2236
  let c0_i32_1632 : BitVec 32 := 0#32
  let v2238 : BitVec 32 := Scalar.addi v2237 c0_i32_1632
  let c2_i32_1633 : BitVec 32 := 2#32
  let v2239 : BitVec 1 := Scalar.cmpi .slt v2238 c2_i32_1633
  let c3_i32_1634 : BitVec 32 := 3#32
  let c0_i32_1635 : BitVec 32 := 0#32
  let v2240 : BitVec 1 := Scalar.cmpi .eq c3_i32_1634 c0_i32_1635
  let c1_i32_1636 : BitVec 32 := 1#32
  let v2241 : BitVec 32 := Scalar.select v2240 c1_i32_1636 c3_i32_1634
  let v2242 : BitVec 32 := Scalar.remsi v2238 v2241
  let c0_i32_1638 : BitVec 32 := 0#32
  let v2244 : BitVec 1 := Scalar.cmpi .slt v2242 c0_i32_1638
  let c0_i32_1639 : BitVec 32 := 0#32
  let v2245 : BitVec 1 := Scalar.cmpi .slt v2241 c0_i32_1639
  let v2246 : BitVec 1 := Scalar.xori v2244 v2245
  let c0_i32_1637 : BitVec 32 := 0#32
  let v2243 : BitVec 1 := Scalar.cmpi .ne v2242 c0_i32_1637
  let v2247 : BitVec 1 := Scalar.andi v2246 v2243
  let v2248 : BitVec 32 := Scalar.addi v2242 v2241
  let v2249 : BitVec 32 := Scalar.select v2247 v2248 v2242
  let c1_i32_1640 : BitVec 32 := 1#32
  let v2250 : BitVec 1 := Scalar.cmpi .ne v2249 c1_i32_1640
  let v2251 : BitVec 1 := Scalar.ori v2239 v2250
  let v2252 : BitVec 32 := Scalar.extui v2251
  let c0_i32_1645 : BitVec 32 := 0#32
  let v2253 : BitVec 1 := Scalar.cmpi .ne v2252 c0_i32_1645
  v2253

def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1617 : BitVec 32 := 11#32
  let v2215 : BitVec 32 := Scalar.addi v2 c11_i32_1617
  let c16_i32_1618 : BitVec 32 := 16#32
  let c0_i32_1619 : BitVec 32 := 0#32
  let v2216 : BitVec 1 := Scalar.cmpi .eq c16_i32_1618 c0_i32_1619
  let c1_i32_1620 : BitVec 32 := 1#32
  let v2217 : BitVec 32 := Scalar.select v2216 c1_i32_1620 c16_i32_1618
  let v2218 : BitVec 32 := Scalar.remsi v2215 v2217
  let c0_i32_1622 : BitVec 32 := 0#32
  let v2220 : BitVec 1 := Scalar.cmpi .slt v2218 c0_i32_1622
  let c0_i32_1623 : BitVec 32 := 0#32
  let v2221 : BitVec 1 := Scalar.cmpi .slt v2217 c0_i32_1623
  let v2222 : BitVec 1 := Scalar.xori v2220 v2221
  let c0_i32_1621 : BitVec 32 := 0#32
  let v2219 : BitVec 1 := Scalar.cmpi .ne v2218 c0_i32_1621
  let v2223 : BitVec 1 := Scalar.andi v2222 v2219
  let v2224 : BitVec 32 := Scalar.addi v2218 v2217
  let v2225 : BitVec 32 := Scalar.select v2223 v2224 v2218
  let c0_i32_3332 : BitVec 32 := 0#32
  let c0_i32_3333 : BitVec 32 := 0#32
  let c0_i32_3334 : BitVec 32 := 0#32
  ![v2225.toNat, 0, 0, 0]
def k0_cond52 (d0 : Dev nD) : BitVec 1 :=
  let c2_i32_1660 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1653 : BitVec 32 := 11#32
  let v2265 : BitVec 32 := Scalar.subi v2 c11_i32_1653
  let c16_i32_1654 : BitVec 32 := 16#32
  let c0_i32_1655 : BitVec 32 := 0#32
  let v2266 : BitVec 1 := Scalar.cmpi .eq c16_i32_1654 c0_i32_1655
  let c1_i32_1656 : BitVec 32 := 1#32
  let v2267 : BitVec 32 := Scalar.select v2266 c1_i32_1656 c16_i32_1654
  let v2268 : BitVec 32 := Scalar.remsi v2265 v2267
  let c0_i32_1658 : BitVec 32 := 0#32
  let v2270 : BitVec 1 := Scalar.cmpi .slt v2268 c0_i32_1658
  let c0_i32_1659 : BitVec 32 := 0#32
  let v2271 : BitVec 1 := Scalar.cmpi .slt v2267 c0_i32_1659
  let v2272 : BitVec 1 := Scalar.xori v2270 v2271
  let c0_i32_1657 : BitVec 32 := 0#32
  let v2269 : BitVec 1 := Scalar.cmpi .ne v2268 c0_i32_1657
  let v2273 : BitVec 1 := Scalar.andi v2272 v2269
  let v2274 : BitVec 32 := Scalar.addi v2268 v2267
  let v2275 : BitVec 32 := Scalar.select v2273 v2274 v2268
  let v2276 : BitVec 32 := Scalar.muli c2_i32_1660 v2275
  let c1_i32_1661 : BitVec 32 := 1#32
  let v2277 : BitVec 32 := Scalar.addi v2276 c1_i32_1661
  let c2_i32_1662 : BitVec 32 := 2#32
  let v2278 : BitVec 1 := Scalar.cmpi .slt v2277 c2_i32_1662
  let c3_i32_1663 : BitVec 32 := 3#32
  let c0_i32_1664 : BitVec 32 := 0#32
  let v2279 : BitVec 1 := Scalar.cmpi .eq c3_i32_1663 c0_i32_1664
  let c1_i32_1665 : BitVec 32 := 1#32
  let v2280 : BitVec 32 := Scalar.select v2279 c1_i32_1665 c3_i32_1663
  let v2281 : BitVec 32 := Scalar.remsi v2277 v2280
  let c0_i32_1667 : BitVec 32 := 0#32
  let v2283 : BitVec 1 := Scalar.cmpi .slt v2281 c0_i32_1667
  let c0_i32_1668 : BitVec 32 := 0#32
  let v2284 : BitVec 1 := Scalar.cmpi .slt v2280 c0_i32_1668
  let v2285 : BitVec 1 := Scalar.xori v2283 v2284
  let c0_i32_1666 : BitVec 32 := 0#32
  let v2282 : BitVec 1 := Scalar.cmpi .ne v2281 c0_i32_1666
  let v2286 : BitVec 1 := Scalar.andi v2285 v2282
  let v2287 : BitVec 32 := Scalar.addi v2281 v2280
  let v2288 : BitVec 32 := Scalar.select v2286 v2287 v2281
  let c1_i32_1669 : BitVec 32 := 1#32
  let v2289 : BitVec 1 := Scalar.cmpi .ne v2288 c1_i32_1669
  let v2290 : BitVec 1 := Scalar.ori v2278 v2289
  let v2291 : BitVec 32 := Scalar.extui v2290
  let c0_i32_1674 : BitVec 32 := 0#32
  let v2292 : BitVec 1 := Scalar.cmpi .ne v2291 c0_i32_1674
  v2292

def k0_off53 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1646 : BitVec 32 := 11#32
  let v2254 : BitVec 32 := Scalar.addi v2 c11_i32_1646
  let c16_i32_1647 : BitVec 32 := 16#32
  let c0_i32_1648 : BitVec 32 := 0#32
  let v2255 : BitVec 1 := Scalar.cmpi .eq c16_i32_1647 c0_i32_1648
  let c1_i32_1649 : BitVec 32 := 1#32
  let v2256 : BitVec 32 := Scalar.select v2255 c1_i32_1649 c16_i32_1647
  let v2257 : BitVec 32 := Scalar.remsi v2254 v2256
  let c0_i32_1651 : BitVec 32 := 0#32
  let v2259 : BitVec 1 := Scalar.cmpi .slt v2257 c0_i32_1651
  let c0_i32_1652 : BitVec 32 := 0#32
  let v2260 : BitVec 1 := Scalar.cmpi .slt v2256 c0_i32_1652
  let v2261 : BitVec 1 := Scalar.xori v2259 v2260
  let c0_i32_1650 : BitVec 32 := 0#32
  let v2258 : BitVec 1 := Scalar.cmpi .ne v2257 c0_i32_1650
  let v2262 : BitVec 1 := Scalar.andi v2261 v2258
  let v2263 : BitVec 32 := Scalar.addi v2257 v2256
  let v2264 : BitVec 32 := Scalar.select v2262 v2263 v2257
  let c0_i32_3332 : BitVec 32 := 0#32
  let c64_i32_3333 : BitVec 32 := 64#32
  let c0_i32_3334 : BitVec 32 := 0#32
  ![v2264.toNat, 0, 64, 0]
def k0_cond53 (d0 : Dev nD) : BitVec 1 :=
  let c2_i32_1689 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1682 : BitVec 32 := 12#32
  let v2304 : BitVec 32 := Scalar.subi v2 c12_i32_1682
  let c16_i32_1683 : BitVec 32 := 16#32
  let c0_i32_1684 : BitVec 32 := 0#32
  let v2305 : BitVec 1 := Scalar.cmpi .eq c16_i32_1683 c0_i32_1684
  let c1_i32_1685 : BitVec 32 := 1#32
  let v2306 : BitVec 32 := Scalar.select v2305 c1_i32_1685 c16_i32_1683
  let v2307 : BitVec 32 := Scalar.remsi v2304 v2306
  let c0_i32_1687 : BitVec 32 := 0#32
  let v2309 : BitVec 1 := Scalar.cmpi .slt v2307 c0_i32_1687
  let c0_i32_1688 : BitVec 32 := 0#32
  let v2310 : BitVec 1 := Scalar.cmpi .slt v2306 c0_i32_1688
  let v2311 : BitVec 1 := Scalar.xori v2309 v2310
  let c0_i32_1686 : BitVec 32 := 0#32
  let v2308 : BitVec 1 := Scalar.cmpi .ne v2307 c0_i32_1686
  let v2312 : BitVec 1 := Scalar.andi v2311 v2308
  let v2313 : BitVec 32 := Scalar.addi v2307 v2306
  let v2314 : BitVec 32 := Scalar.select v2312 v2313 v2307
  let v2315 : BitVec 32 := Scalar.muli c2_i32_1689 v2314
  let c0_i32_1690 : BitVec 32 := 0#32
  let v2316 : BitVec 32 := Scalar.addi v2315 c0_i32_1690
  let c2_i32_1691 : BitVec 32 := 2#32
  let v2317 : BitVec 1 := Scalar.cmpi .slt v2316 c2_i32_1691
  let c3_i32_1692 : BitVec 32 := 3#32
  let c0_i32_1693 : BitVec 32 := 0#32
  let v2318 : BitVec 1 := Scalar.cmpi .eq c3_i32_1692 c0_i32_1693
  let c1_i32_1694 : BitVec 32 := 1#32
  let v2319 : BitVec 32 := Scalar.select v2318 c1_i32_1694 c3_i32_1692
  let v2320 : BitVec 32 := Scalar.remsi v2316 v2319
  let c0_i32_1696 : BitVec 32 := 0#32
  let v2322 : BitVec 1 := Scalar.cmpi .slt v2320 c0_i32_1696
  let c0_i32_1697 : BitVec 32 := 0#32
  let v2323 : BitVec 1 := Scalar.cmpi .slt v2319 c0_i32_1697
  let v2324 : BitVec 1 := Scalar.xori v2322 v2323
  let c0_i32_1695 : BitVec 32 := 0#32
  let v2321 : BitVec 1 := Scalar.cmpi .ne v2320 c0_i32_1695
  let v2325 : BitVec 1 := Scalar.andi v2324 v2321
  let v2326 : BitVec 32 := Scalar.addi v2320 v2319
  let v2327 : BitVec 32 := Scalar.select v2325 v2326 v2320
  let c1_i32_1698 : BitVec 32 := 1#32
  let v2328 : BitVec 1 := Scalar.cmpi .ne v2327 c1_i32_1698
  let v2329 : BitVec 1 := Scalar.ori v2317 v2328
  let v2330 : BitVec 32 := Scalar.extui v2329
  let c0_i32_1703 : BitVec 32 := 0#32
  let v2331 : BitVec 1 := Scalar.cmpi .ne v2330 c0_i32_1703
  v2331

def k0_off54 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1675 : BitVec 32 := 12#32
  let v2293 : BitVec 32 := Scalar.addi v2 c12_i32_1675
  let c16_i32_1676 : BitVec 32 := 16#32
  let c0_i32_1677 : BitVec 32 := 0#32
  let v2294 : BitVec 1 := Scalar.cmpi .eq c16_i32_1676 c0_i32_1677
  let c1_i32_1678 : BitVec 32 := 1#32
  let v2295 : BitVec 32 := Scalar.select v2294 c1_i32_1678 c16_i32_1676
  let v2296 : BitVec 32 := Scalar.remsi v2293 v2295
  let c0_i32_1680 : BitVec 32 := 0#32
  let v2298 : BitVec 1 := Scalar.cmpi .slt v2296 c0_i32_1680
  let c0_i32_1681 : BitVec 32 := 0#32
  let v2299 : BitVec 1 := Scalar.cmpi .slt v2295 c0_i32_1681
  let v2300 : BitVec 1 := Scalar.xori v2298 v2299
  let c0_i32_1679 : BitVec 32 := 0#32
  let v2297 : BitVec 1 := Scalar.cmpi .ne v2296 c0_i32_1679
  let v2301 : BitVec 1 := Scalar.andi v2300 v2297
  let v2302 : BitVec 32 := Scalar.addi v2296 v2295
  let v2303 : BitVec 32 := Scalar.select v2301 v2302 v2296
  let c0_i32_3332 : BitVec 32 := 0#32
  let c0_i32_3333 : BitVec 32 := 0#32
  let c0_i32_3334 : BitVec 32 := 0#32
  ![v2303.toNat, 0, 0, 0]
def k0_cond54 (d0 : Dev nD) : BitVec 1 :=
  let c2_i32_1718 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1711 : BitVec 32 := 12#32
  let v2343 : BitVec 32 := Scalar.subi v2 c12_i32_1711
  let c16_i32_1712 : BitVec 32 := 16#32
  let c0_i32_1713 : BitVec 32 := 0#32
  let v2344 : BitVec 1 := Scalar.cmpi .eq c16_i32_1712 c0_i32_1713
  let c1_i32_1714 : BitVec 32 := 1#32
  let v2345 : BitVec 32 := Scalar.select v2344 c1_i32_1714 c16_i32_1712
  let v2346 : BitVec 32 := Scalar.remsi v2343 v2345
  let c0_i32_1716 : BitVec 32 := 0#32
  let v2348 : BitVec 1 := Scalar.cmpi .slt v2346 c0_i32_1716
  let c0_i32_1717 : BitVec 32 := 0#32
  let v2349 : BitVec 1 := Scalar.cmpi .slt v2345 c0_i32_1717
  let v2350 : BitVec 1 := Scalar.xori v2348 v2349
  let c0_i32_1715 : BitVec 32 := 0#32
  let v2347 : BitVec 1 := Scalar.cmpi .ne v2346 c0_i32_1715
  let v2351 : BitVec 1 := Scalar.andi v2350 v2347
  let v2352 : BitVec 32 := Scalar.addi v2346 v2345
  let v2353 : BitVec 32 := Scalar.select v2351 v2352 v2346
  let v2354 : BitVec 32 := Scalar.muli c2_i32_1718 v2353
  let c1_i32_1719 : BitVec 32 := 1#32
  let v2355 : BitVec 32 := Scalar.addi v2354 c1_i32_1719
  let c2_i32_1720 : BitVec 32 := 2#32
  let v2356 : BitVec 1 := Scalar.cmpi .slt v2355 c2_i32_1720
  let c3_i32_1721 : BitVec 32 := 3#32
  let c0_i32_1722 : BitVec 32 := 0#32
  let v2357 : BitVec 1 := Scalar.cmpi .eq c3_i32_1721 c0_i32_1722
  let c1_i32_1723 : BitVec 32 := 1#32
  let v2358 : BitVec 32 := Scalar.select v2357 c1_i32_1723 c3_i32_1721
  let v2359 : BitVec 32 := Scalar.remsi v2355 v2358
  let c0_i32_1725 : BitVec 32 := 0#32
  let v2361 : BitVec 1 := Scalar.cmpi .slt v2359 c0_i32_1725
  let c0_i32_1726 : BitVec 32 := 0#32
  let v2362 : BitVec 1 := Scalar.cmpi .slt v2358 c0_i32_1726
  let v2363 : BitVec 1 := Scalar.xori v2361 v2362
  let c0_i32_1724 : BitVec 32 := 0#32
  let v2360 : BitVec 1 := Scalar.cmpi .ne v2359 c0_i32_1724
  let v2364 : BitVec 1 := Scalar.andi v2363 v2360
  let v2365 : BitVec 32 := Scalar.addi v2359 v2358
  let v2366 : BitVec 32 := Scalar.select v2364 v2365 v2359
  let c1_i32_1727 : BitVec 32 := 1#32
  let v2367 : BitVec 1 := Scalar.cmpi .ne v2366 c1_i32_1727
  let v2368 : BitVec 1 := Scalar.ori v2356 v2367
  let v2369 : BitVec 32 := Scalar.extui v2368
  let c0_i32_1732 : BitVec 32 := 0#32
  let v2370 : BitVec 1 := Scalar.cmpi .ne v2369 c0_i32_1732
  v2370

def k0_off55 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1704 : BitVec 32 := 12#32
  let v2332 : BitVec 32 := Scalar.addi v2 c12_i32_1704
  let c16_i32_1705 : BitVec 32 := 16#32
  let c0_i32_1706 : BitVec 32 := 0#32
  let v2333 : BitVec 1 := Scalar.cmpi .eq c16_i32_1705 c0_i32_1706
  let c1_i32_1707 : BitVec 32 := 1#32
  let v2334 : BitVec 32 := Scalar.select v2333 c1_i32_1707 c16_i32_1705
  let v2335 : BitVec 32 := Scalar.remsi v2332 v2334
  let c0_i32_1709 : BitVec 32 := 0#32
  let v2337 : BitVec 1 := Scalar.cmpi .slt v2335 c0_i32_1709
  let c0_i32_1710 : BitVec 32 := 0#32
  let v2338 : BitVec 1 := Scalar.cmpi .slt v2334 c0_i32_1710
  let v2339 : BitVec 1 := Scalar.xori v2337 v2338
  let c0_i32_1708 : BitVec 32 := 0#32
  let v2336 : BitVec 1 := Scalar.cmpi .ne v2335 c0_i32_1708
  let v2340 : BitVec 1 := Scalar.andi v2339 v2336
  let v2341 : BitVec 32 := Scalar.addi v2335 v2334
  let v2342 : BitVec 32 := Scalar.select v2340 v2341 v2335
  let c0_i32_3332 : BitVec 32 := 0#32
  let c64_i32_3333 : BitVec 32 := 64#32
  let c0_i32_3334 : BitVec 32 := 0#32
  ![v2342.toNat, 0, 64, 0]
def k0_cond55 (d0 : Dev nD) : BitVec 1 :=
  let c2_i32_1747 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1740 : BitVec 32 := 13#32
  let v2382 : BitVec 32 := Scalar.subi v2 c13_i32_1740
  let c16_i32_1741 : BitVec 32 := 16#32
  let c0_i32_1742 : BitVec 32 := 0#32
  let v2383 : BitVec 1 := Scalar.cmpi .eq c16_i32_1741 c0_i32_1742
  let c1_i32_1743 : BitVec 32 := 1#32
  let v2384 : BitVec 32 := Scalar.select v2383 c1_i32_1743 c16_i32_1741
  let v2385 : BitVec 32 := Scalar.remsi v2382 v2384
  let c0_i32_1745 : BitVec 32 := 0#32
  let v2387 : BitVec 1 := Scalar.cmpi .slt v2385 c0_i32_1745
  let c0_i32_1746 : BitVec 32 := 0#32
  let v2388 : BitVec 1 := Scalar.cmpi .slt v2384 c0_i32_1746
  let v2389 : BitVec 1 := Scalar.xori v2387 v2388
  let c0_i32_1744 : BitVec 32 := 0#32
  let v2386 : BitVec 1 := Scalar.cmpi .ne v2385 c0_i32_1744
  let v2390 : BitVec 1 := Scalar.andi v2389 v2386
  let v2391 : BitVec 32 := Scalar.addi v2385 v2384
  let v2392 : BitVec 32 := Scalar.select v2390 v2391 v2385
  let v2393 : BitVec 32 := Scalar.muli c2_i32_1747 v2392
  let c0_i32_1748 : BitVec 32 := 0#32
  let v2394 : BitVec 32 := Scalar.addi v2393 c0_i32_1748
  let c2_i32_1749 : BitVec 32 := 2#32
  let v2395 : BitVec 1 := Scalar.cmpi .slt v2394 c2_i32_1749
  let c3_i32_1750 : BitVec 32 := 3#32
  let c0_i32_1751 : BitVec 32 := 0#32
  let v2396 : BitVec 1 := Scalar.cmpi .eq c3_i32_1750 c0_i32_1751
  let c1_i32_1752 : BitVec 32 := 1#32
  let v2397 : BitVec 32 := Scalar.select v2396 c1_i32_1752 c3_i32_1750
  let v2398 : BitVec 32 := Scalar.remsi v2394 v2397
  let c0_i32_1754 : BitVec 32 := 0#32
  let v2400 : BitVec 1 := Scalar.cmpi .slt v2398 c0_i32_1754
  let c0_i32_1755 : BitVec 32 := 0#32
  let v2401 : BitVec 1 := Scalar.cmpi .slt v2397 c0_i32_1755
  let v2402 : BitVec 1 := Scalar.xori v2400 v2401
  let c0_i32_1753 : BitVec 32 := 0#32
  let v2399 : BitVec 1 := Scalar.cmpi .ne v2398 c0_i32_1753
  let v2403 : BitVec 1 := Scalar.andi v2402 v2399
  let v2404 : BitVec 32 := Scalar.addi v2398 v2397
  let v2405 : BitVec 32 := Scalar.select v2403 v2404 v2398
  let c1_i32_1756 : BitVec 32 := 1#32
  let v2406 : BitVec 1 := Scalar.cmpi .ne v2405 c1_i32_1756
  let v2407 : BitVec 1 := Scalar.ori v2395 v2406
  let v2408 : BitVec 32 := Scalar.extui v2407
  let c0_i32_1761 : BitVec 32 := 0#32
  let v2409 : BitVec 1 := Scalar.cmpi .ne v2408 c0_i32_1761
  v2409

def k0_off56 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1733 : BitVec 32 := 13#32
  let v2371 : BitVec 32 := Scalar.addi v2 c13_i32_1733
  let c16_i32_1734 : BitVec 32 := 16#32
  let c0_i32_1735 : BitVec 32 := 0#32
  let v2372 : BitVec 1 := Scalar.cmpi .eq c16_i32_1734 c0_i32_1735
  let c1_i32_1736 : BitVec 32 := 1#32
  let v2373 : BitVec 32 := Scalar.select v2372 c1_i32_1736 c16_i32_1734
  let v2374 : BitVec 32 := Scalar.remsi v2371 v2373
  let c0_i32_1738 : BitVec 32 := 0#32
  let v2376 : BitVec 1 := Scalar.cmpi .slt v2374 c0_i32_1738
  let c0_i32_1739 : BitVec 32 := 0#32
  let v2377 : BitVec 1 := Scalar.cmpi .slt v2373 c0_i32_1739
  let v2378 : BitVec 1 := Scalar.xori v2376 v2377
  let c0_i32_1737 : BitVec 32 := 0#32
  let v2375 : BitVec 1 := Scalar.cmpi .ne v2374 c0_i32_1737
  let v2379 : BitVec 1 := Scalar.andi v2378 v2375
  let v2380 : BitVec 32 := Scalar.addi v2374 v2373
  let v2381 : BitVec 32 := Scalar.select v2379 v2380 v2374
  let c0_i32_3332 : BitVec 32 := 0#32
  let c0_i32_3333 : BitVec 32 := 0#32
  let c0_i32_3334 : BitVec 32 := 0#32
  ![v2381.toNat, 0, 0, 0]
def k0_cond56 (d0 : Dev nD) : BitVec 1 :=
  let c2_i32_1776 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1769 : BitVec 32 := 13#32
  let v2421 : BitVec 32 := Scalar.subi v2 c13_i32_1769
  let c16_i32_1770 : BitVec 32 := 16#32
  let c0_i32_1771 : BitVec 32 := 0#32
  let v2422 : BitVec 1 := Scalar.cmpi .eq c16_i32_1770 c0_i32_1771
  let c1_i32_1772 : BitVec 32 := 1#32
  let v2423 : BitVec 32 := Scalar.select v2422 c1_i32_1772 c16_i32_1770
  let v2424 : BitVec 32 := Scalar.remsi v2421 v2423
  let c0_i32_1774 : BitVec 32 := 0#32
  let v2426 : BitVec 1 := Scalar.cmpi .slt v2424 c0_i32_1774
  let c0_i32_1775 : BitVec 32 := 0#32
  let v2427 : BitVec 1 := Scalar.cmpi .slt v2423 c0_i32_1775
  let v2428 : BitVec 1 := Scalar.xori v2426 v2427
  let c0_i32_1773 : BitVec 32 := 0#32
  let v2425 : BitVec 1 := Scalar.cmpi .ne v2424 c0_i32_1773
  let v2429 : BitVec 1 := Scalar.andi v2428 v2425
  let v2430 : BitVec 32 := Scalar.addi v2424 v2423
  let v2431 : BitVec 32 := Scalar.select v2429 v2430 v2424
  let v2432 : BitVec 32 := Scalar.muli c2_i32_1776 v2431
  let c1_i32_1777 : BitVec 32 := 1#32
  let v2433 : BitVec 32 := Scalar.addi v2432 c1_i32_1777
  let c2_i32_1778 : BitVec 32 := 2#32
  let v2434 : BitVec 1 := Scalar.cmpi .slt v2433 c2_i32_1778
  let c3_i32_1779 : BitVec 32 := 3#32
  let c0_i32_1780 : BitVec 32 := 0#32
  let v2435 : BitVec 1 := Scalar.cmpi .eq c3_i32_1779 c0_i32_1780
  let c1_i32_1781 : BitVec 32 := 1#32
  let v2436 : BitVec 32 := Scalar.select v2435 c1_i32_1781 c3_i32_1779
  let v2437 : BitVec 32 := Scalar.remsi v2433 v2436
  let c0_i32_1783 : BitVec 32 := 0#32
  let v2439 : BitVec 1 := Scalar.cmpi .slt v2437 c0_i32_1783
  let c0_i32_1784 : BitVec 32 := 0#32
  let v2440 : BitVec 1 := Scalar.cmpi .slt v2436 c0_i32_1784
  let v2441 : BitVec 1 := Scalar.xori v2439 v2440
  let c0_i32_1782 : BitVec 32 := 0#32
  let v2438 : BitVec 1 := Scalar.cmpi .ne v2437 c0_i32_1782
  let v2442 : BitVec 1 := Scalar.andi v2441 v2438
  let v2443 : BitVec 32 := Scalar.addi v2437 v2436
  let v2444 : BitVec 32 := Scalar.select v2442 v2443 v2437
  let c1_i32_1785 : BitVec 32 := 1#32
  let v2445 : BitVec 1 := Scalar.cmpi .ne v2444 c1_i32_1785
  let v2446 : BitVec 1 := Scalar.ori v2434 v2445
  let v2447 : BitVec 32 := Scalar.extui v2446
  let c0_i32_1790 : BitVec 32 := 0#32
  let v2448 : BitVec 1 := Scalar.cmpi .ne v2447 c0_i32_1790
  v2448

def k0_off57 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1762 : BitVec 32 := 13#32
  let v2410 : BitVec 32 := Scalar.addi v2 c13_i32_1762
  let c16_i32_1763 : BitVec 32 := 16#32
  let c0_i32_1764 : BitVec 32 := 0#32
  let v2411 : BitVec 1 := Scalar.cmpi .eq c16_i32_1763 c0_i32_1764
  let c1_i32_1765 : BitVec 32 := 1#32
  let v2412 : BitVec 32 := Scalar.select v2411 c1_i32_1765 c16_i32_1763
  let v2413 : BitVec 32 := Scalar.remsi v2410 v2412
  let c0_i32_1767 : BitVec 32 := 0#32
  let v2415 : BitVec 1 := Scalar.cmpi .slt v2413 c0_i32_1767
  let c0_i32_1768 : BitVec 32 := 0#32
  let v2416 : BitVec 1 := Scalar.cmpi .slt v2412 c0_i32_1768
  let v2417 : BitVec 1 := Scalar.xori v2415 v2416
  let c0_i32_1766 : BitVec 32 := 0#32
  let v2414 : BitVec 1 := Scalar.cmpi .ne v2413 c0_i32_1766
  let v2418 : BitVec 1 := Scalar.andi v2417 v2414
  let v2419 : BitVec 32 := Scalar.addi v2413 v2412
  let v2420 : BitVec 32 := Scalar.select v2418 v2419 v2413
  let c0_i32_3332 : BitVec 32 := 0#32
  let c64_i32_3333 : BitVec 32 := 64#32
  let c0_i32_3334 : BitVec 32 := 0#32
  ![v2420.toNat, 0, 64, 0]
def k0_cond57 (d0 : Dev nD) : BitVec 1 :=
  let c2_i32_1805 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1798 : BitVec 32 := 14#32
  let v2460 : BitVec 32 := Scalar.subi v2 c14_i32_1798
  let c16_i32_1799 : BitVec 32 := 16#32
  let c0_i32_1800 : BitVec 32 := 0#32
  let v2461 : BitVec 1 := Scalar.cmpi .eq c16_i32_1799 c0_i32_1800
  let c1_i32_1801 : BitVec 32 := 1#32
  let v2462 : BitVec 32 := Scalar.select v2461 c1_i32_1801 c16_i32_1799
  let v2463 : BitVec 32 := Scalar.remsi v2460 v2462
  let c0_i32_1803 : BitVec 32 := 0#32
  let v2465 : BitVec 1 := Scalar.cmpi .slt v2463 c0_i32_1803
  let c0_i32_1804 : BitVec 32 := 0#32
  let v2466 : BitVec 1 := Scalar.cmpi .slt v2462 c0_i32_1804
  let v2467 : BitVec 1 := Scalar.xori v2465 v2466
  let c0_i32_1802 : BitVec 32 := 0#32
  let v2464 : BitVec 1 := Scalar.cmpi .ne v2463 c0_i32_1802
  let v2468 : BitVec 1 := Scalar.andi v2467 v2464
  let v2469 : BitVec 32 := Scalar.addi v2463 v2462
  let v2470 : BitVec 32 := Scalar.select v2468 v2469 v2463
  let v2471 : BitVec 32 := Scalar.muli c2_i32_1805 v2470
  let c0_i32_1806 : BitVec 32 := 0#32
  let v2472 : BitVec 32 := Scalar.addi v2471 c0_i32_1806
  let c2_i32_1807 : BitVec 32 := 2#32
  let v2473 : BitVec 1 := Scalar.cmpi .slt v2472 c2_i32_1807
  let c3_i32_1808 : BitVec 32 := 3#32
  let c0_i32_1809 : BitVec 32 := 0#32
  let v2474 : BitVec 1 := Scalar.cmpi .eq c3_i32_1808 c0_i32_1809
  let c1_i32_1810 : BitVec 32 := 1#32
  let v2475 : BitVec 32 := Scalar.select v2474 c1_i32_1810 c3_i32_1808
  let v2476 : BitVec 32 := Scalar.remsi v2472 v2475
  let c0_i32_1812 : BitVec 32 := 0#32
  let v2478 : BitVec 1 := Scalar.cmpi .slt v2476 c0_i32_1812
  let c0_i32_1813 : BitVec 32 := 0#32
  let v2479 : BitVec 1 := Scalar.cmpi .slt v2475 c0_i32_1813
  let v2480 : BitVec 1 := Scalar.xori v2478 v2479
  let c0_i32_1811 : BitVec 32 := 0#32
  let v2477 : BitVec 1 := Scalar.cmpi .ne v2476 c0_i32_1811
  let v2481 : BitVec 1 := Scalar.andi v2480 v2477
  let v2482 : BitVec 32 := Scalar.addi v2476 v2475
  let v2483 : BitVec 32 := Scalar.select v2481 v2482 v2476
  let c1_i32_1814 : BitVec 32 := 1#32
  let v2484 : BitVec 1 := Scalar.cmpi .ne v2483 c1_i32_1814
  let v2485 : BitVec 1 := Scalar.ori v2473 v2484
  let v2486 : BitVec 32 := Scalar.extui v2485
  let c0_i32_1819 : BitVec 32 := 0#32
  let v2487 : BitVec 1 := Scalar.cmpi .ne v2486 c0_i32_1819
  v2487

def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1791 : BitVec 32 := 14#32
  let v2449 : BitVec 32 := Scalar.addi v2 c14_i32_1791
  let c16_i32_1792 : BitVec 32 := 16#32
  let c0_i32_1793 : BitVec 32 := 0#32
  let v2450 : BitVec 1 := Scalar.cmpi .eq c16_i32_1792 c0_i32_1793
  let c1_i32_1794 : BitVec 32 := 1#32
  let v2451 : BitVec 32 := Scalar.select v2450 c1_i32_1794 c16_i32_1792
  let v2452 : BitVec 32 := Scalar.remsi v2449 v2451
  let c0_i32_1796 : BitVec 32 := 0#32
  let v2454 : BitVec 1 := Scalar.cmpi .slt v2452 c0_i32_1796
  let c0_i32_1797 : BitVec 32 := 0#32
  let v2455 : BitVec 1 := Scalar.cmpi .slt v2451 c0_i32_1797
  let v2456 : BitVec 1 := Scalar.xori v2454 v2455
  let c0_i32_1795 : BitVec 32 := 0#32
  let v2453 : BitVec 1 := Scalar.cmpi .ne v2452 c0_i32_1795
  let v2457 : BitVec 1 := Scalar.andi v2456 v2453
  let v2458 : BitVec 32 := Scalar.addi v2452 v2451
  let v2459 : BitVec 32 := Scalar.select v2457 v2458 v2452
  let c0_i32_3332 : BitVec 32 := 0#32
  let c0_i32_3333 : BitVec 32 := 0#32
  let c0_i32_3334 : BitVec 32 := 0#32
  ![v2459.toNat, 0, 0, 0]
def k0_cond58 (d0 : Dev nD) : BitVec 1 :=
  let c2_i32_1834 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1827 : BitVec 32 := 14#32
  let v2499 : BitVec 32 := Scalar.subi v2 c14_i32_1827
  let c16_i32_1828 : BitVec 32 := 16#32
  let c0_i32_1829 : BitVec 32 := 0#32
  let v2500 : BitVec 1 := Scalar.cmpi .eq c16_i32_1828 c0_i32_1829
  let c1_i32_1830 : BitVec 32 := 1#32
  let v2501 : BitVec 32 := Scalar.select v2500 c1_i32_1830 c16_i32_1828
  let v2502 : BitVec 32 := Scalar.remsi v2499 v2501
  let c0_i32_1832 : BitVec 32 := 0#32
  let v2504 : BitVec 1 := Scalar.cmpi .slt v2502 c0_i32_1832
  let c0_i32_1833 : BitVec 32 := 0#32
  let v2505 : BitVec 1 := Scalar.cmpi .slt v2501 c0_i32_1833
  let v2506 : BitVec 1 := Scalar.xori v2504 v2505
  let c0_i32_1831 : BitVec 32 := 0#32
  let v2503 : BitVec 1 := Scalar.cmpi .ne v2502 c0_i32_1831
  let v2507 : BitVec 1 := Scalar.andi v2506 v2503
  let v2508 : BitVec 32 := Scalar.addi v2502 v2501
  let v2509 : BitVec 32 := Scalar.select v2507 v2508 v2502
  let v2510 : BitVec 32 := Scalar.muli c2_i32_1834 v2509
  let c1_i32_1835 : BitVec 32 := 1#32
  let v2511 : BitVec 32 := Scalar.addi v2510 c1_i32_1835
  let c2_i32_1836 : BitVec 32 := 2#32
  let v2512 : BitVec 1 := Scalar.cmpi .slt v2511 c2_i32_1836
  let c3_i32_1837 : BitVec 32 := 3#32
  let c0_i32_1838 : BitVec 32 := 0#32
  let v2513 : BitVec 1 := Scalar.cmpi .eq c3_i32_1837 c0_i32_1838
  let c1_i32_1839 : BitVec 32 := 1#32
  let v2514 : BitVec 32 := Scalar.select v2513 c1_i32_1839 c3_i32_1837
  let v2515 : BitVec 32 := Scalar.remsi v2511 v2514
  let c0_i32_1841 : BitVec 32 := 0#32
  let v2517 : BitVec 1 := Scalar.cmpi .slt v2515 c0_i32_1841
  let c0_i32_1842 : BitVec 32 := 0#32
  let v2518 : BitVec 1 := Scalar.cmpi .slt v2514 c0_i32_1842
  let v2519 : BitVec 1 := Scalar.xori v2517 v2518
  let c0_i32_1840 : BitVec 32 := 0#32
  let v2516 : BitVec 1 := Scalar.cmpi .ne v2515 c0_i32_1840
  let v2520 : BitVec 1 := Scalar.andi v2519 v2516
  let v2521 : BitVec 32 := Scalar.addi v2515 v2514
  let v2522 : BitVec 32 := Scalar.select v2520 v2521 v2515
  let c1_i32_1843 : BitVec 32 := 1#32
  let v2523 : BitVec 1 := Scalar.cmpi .ne v2522 c1_i32_1843
  let v2524 : BitVec 1 := Scalar.ori v2512 v2523
  let v2525 : BitVec 32 := Scalar.extui v2524
  let c0_i32_1848 : BitVec 32 := 0#32
  let v2526 : BitVec 1 := Scalar.cmpi .ne v2525 c0_i32_1848
  v2526

def k0_off59 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1820 : BitVec 32 := 14#32
  let v2488 : BitVec 32 := Scalar.addi v2 c14_i32_1820
  let c16_i32_1821 : BitVec 32 := 16#32
  let c0_i32_1822 : BitVec 32 := 0#32
  let v2489 : BitVec 1 := Scalar.cmpi .eq c16_i32_1821 c0_i32_1822
  let c1_i32_1823 : BitVec 32 := 1#32
  let v2490 : BitVec 32 := Scalar.select v2489 c1_i32_1823 c16_i32_1821
  let v2491 : BitVec 32 := Scalar.remsi v2488 v2490
  let c0_i32_1825 : BitVec 32 := 0#32
  let v2493 : BitVec 1 := Scalar.cmpi .slt v2491 c0_i32_1825
  let c0_i32_1826 : BitVec 32 := 0#32
  let v2494 : BitVec 1 := Scalar.cmpi .slt v2490 c0_i32_1826
  let v2495 : BitVec 1 := Scalar.xori v2493 v2494
  let c0_i32_1824 : BitVec 32 := 0#32
  let v2492 : BitVec 1 := Scalar.cmpi .ne v2491 c0_i32_1824
  let v2496 : BitVec 1 := Scalar.andi v2495 v2492
  let v2497 : BitVec 32 := Scalar.addi v2491 v2490
  let v2498 : BitVec 32 := Scalar.select v2496 v2497 v2491
  let c0_i32_3332 : BitVec 32 := 0#32
  let c64_i32_3333 : BitVec 32 := 64#32
  let c0_i32_3334 : BitVec 32 := 0#32
  ![v2498.toNat, 0, 64, 0]
def k0_cond59 (d0 : Dev nD) : BitVec 1 :=
  let c2_i32_1863 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1856 : BitVec 32 := 15#32
  let v2538 : BitVec 32 := Scalar.subi v2 c15_i32_1856
  let c16_i32_1857 : BitVec 32 := 16#32
  let c0_i32_1858 : BitVec 32 := 0#32
  let v2539 : BitVec 1 := Scalar.cmpi .eq c16_i32_1857 c0_i32_1858
  let c1_i32_1859 : BitVec 32 := 1#32
  let v2540 : BitVec 32 := Scalar.select v2539 c1_i32_1859 c16_i32_1857
  let v2541 : BitVec 32 := Scalar.remsi v2538 v2540
  let c0_i32_1861 : BitVec 32 := 0#32
  let v2543 : BitVec 1 := Scalar.cmpi .slt v2541 c0_i32_1861
  let c0_i32_1862 : BitVec 32 := 0#32
  let v2544 : BitVec 1 := Scalar.cmpi .slt v2540 c0_i32_1862
  let v2545 : BitVec 1 := Scalar.xori v2543 v2544
  let c0_i32_1860 : BitVec 32 := 0#32
  let v2542 : BitVec 1 := Scalar.cmpi .ne v2541 c0_i32_1860
  let v2546 : BitVec 1 := Scalar.andi v2545 v2542
  let v2547 : BitVec 32 := Scalar.addi v2541 v2540
  let v2548 : BitVec 32 := Scalar.select v2546 v2547 v2541
  let v2549 : BitVec 32 := Scalar.muli c2_i32_1863 v2548
  let c0_i32_1864 : BitVec 32 := 0#32
  let v2550 : BitVec 32 := Scalar.addi v2549 c0_i32_1864
  let c2_i32_1865 : BitVec 32 := 2#32
  let v2551 : BitVec 1 := Scalar.cmpi .slt v2550 c2_i32_1865
  let c3_i32_1866 : BitVec 32 := 3#32
  let c0_i32_1867 : BitVec 32 := 0#32
  let v2552 : BitVec 1 := Scalar.cmpi .eq c3_i32_1866 c0_i32_1867
  let c1_i32_1868 : BitVec 32 := 1#32
  let v2553 : BitVec 32 := Scalar.select v2552 c1_i32_1868 c3_i32_1866
  let v2554 : BitVec 32 := Scalar.remsi v2550 v2553
  let c0_i32_1870 : BitVec 32 := 0#32
  let v2556 : BitVec 1 := Scalar.cmpi .slt v2554 c0_i32_1870
  let c0_i32_1871 : BitVec 32 := 0#32
  let v2557 : BitVec 1 := Scalar.cmpi .slt v2553 c0_i32_1871
  let v2558 : BitVec 1 := Scalar.xori v2556 v2557
  let c0_i32_1869 : BitVec 32 := 0#32
  let v2555 : BitVec 1 := Scalar.cmpi .ne v2554 c0_i32_1869
  let v2559 : BitVec 1 := Scalar.andi v2558 v2555
  let v2560 : BitVec 32 := Scalar.addi v2554 v2553
  let v2561 : BitVec 32 := Scalar.select v2559 v2560 v2554
  let c1_i32_1872 : BitVec 32 := 1#32
  let v2562 : BitVec 1 := Scalar.cmpi .ne v2561 c1_i32_1872
  let v2563 : BitVec 1 := Scalar.ori v2551 v2562
  let v2564 : BitVec 32 := Scalar.extui v2563
  let c0_i32_1877 : BitVec 32 := 0#32
  let v2565 : BitVec 1 := Scalar.cmpi .ne v2564 c0_i32_1877
  v2565

def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1849 : BitVec 32 := 15#32
  let v2527 : BitVec 32 := Scalar.addi v2 c15_i32_1849
  let c16_i32_1850 : BitVec 32 := 16#32
  let c0_i32_1851 : BitVec 32 := 0#32
  let v2528 : BitVec 1 := Scalar.cmpi .eq c16_i32_1850 c0_i32_1851
  let c1_i32_1852 : BitVec 32 := 1#32
  let v2529 : BitVec 32 := Scalar.select v2528 c1_i32_1852 c16_i32_1850
  let v2530 : BitVec 32 := Scalar.remsi v2527 v2529
  let c0_i32_1854 : BitVec 32 := 0#32
  let v2532 : BitVec 1 := Scalar.cmpi .slt v2530 c0_i32_1854
  let c0_i32_1855 : BitVec 32 := 0#32
  let v2533 : BitVec 1 := Scalar.cmpi .slt v2529 c0_i32_1855
  let v2534 : BitVec 1 := Scalar.xori v2532 v2533
  let c0_i32_1853 : BitVec 32 := 0#32
  let v2531 : BitVec 1 := Scalar.cmpi .ne v2530 c0_i32_1853
  let v2535 : BitVec 1 := Scalar.andi v2534 v2531
  let v2536 : BitVec 32 := Scalar.addi v2530 v2529
  let v2537 : BitVec 32 := Scalar.select v2535 v2536 v2530
  let c0_i32_3332 : BitVec 32 := 0#32
  let c0_i32_3333 : BitVec 32 := 0#32
  let c0_i32_3334 : BitVec 32 := 0#32
  ![v2537.toNat, 0, 0, 0]
def k0_cond60 (d0 : Dev nD) : BitVec 1 :=
  let c2_i32_1892 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1885 : BitVec 32 := 15#32
  let v2577 : BitVec 32 := Scalar.subi v2 c15_i32_1885
  let c16_i32_1886 : BitVec 32 := 16#32
  let c0_i32_1887 : BitVec 32 := 0#32
  let v2578 : BitVec 1 := Scalar.cmpi .eq c16_i32_1886 c0_i32_1887
  let c1_i32_1888 : BitVec 32 := 1#32
  let v2579 : BitVec 32 := Scalar.select v2578 c1_i32_1888 c16_i32_1886
  let v2580 : BitVec 32 := Scalar.remsi v2577 v2579
  let c0_i32_1890 : BitVec 32 := 0#32
  let v2582 : BitVec 1 := Scalar.cmpi .slt v2580 c0_i32_1890
  let c0_i32_1891 : BitVec 32 := 0#32
  let v2583 : BitVec 1 := Scalar.cmpi .slt v2579 c0_i32_1891
  let v2584 : BitVec 1 := Scalar.xori v2582 v2583
  let c0_i32_1889 : BitVec 32 := 0#32
  let v2581 : BitVec 1 := Scalar.cmpi .ne v2580 c0_i32_1889
  let v2585 : BitVec 1 := Scalar.andi v2584 v2581
  let v2586 : BitVec 32 := Scalar.addi v2580 v2579
  let v2587 : BitVec 32 := Scalar.select v2585 v2586 v2580
  let v2588 : BitVec 32 := Scalar.muli c2_i32_1892 v2587
  let c1_i32_1893 : BitVec 32 := 1#32
  let v2589 : BitVec 32 := Scalar.addi v2588 c1_i32_1893
  let c2_i32_1894 : BitVec 32 := 2#32
  let v2590 : BitVec 1 := Scalar.cmpi .slt v2589 c2_i32_1894
  let c3_i32_1895 : BitVec 32 := 3#32
  let c0_i32_1896 : BitVec 32 := 0#32
  let v2591 : BitVec 1 := Scalar.cmpi .eq c3_i32_1895 c0_i32_1896
  let c1_i32_1897 : BitVec 32 := 1#32
  let v2592 : BitVec 32 := Scalar.select v2591 c1_i32_1897 c3_i32_1895
  let v2593 : BitVec 32 := Scalar.remsi v2589 v2592
  let c0_i32_1899 : BitVec 32 := 0#32
  let v2595 : BitVec 1 := Scalar.cmpi .slt v2593 c0_i32_1899
  let c0_i32_1900 : BitVec 32 := 0#32
  let v2596 : BitVec 1 := Scalar.cmpi .slt v2592 c0_i32_1900
  let v2597 : BitVec 1 := Scalar.xori v2595 v2596
  let c0_i32_1898 : BitVec 32 := 0#32
  let v2594 : BitVec 1 := Scalar.cmpi .ne v2593 c0_i32_1898
  let v2598 : BitVec 1 := Scalar.andi v2597 v2594
  let v2599 : BitVec 32 := Scalar.addi v2593 v2592
  let v2600 : BitVec 32 := Scalar.select v2598 v2599 v2593
  let c1_i32_1901 : BitVec 32 := 1#32
  let v2601 : BitVec 1 := Scalar.cmpi .ne v2600 c1_i32_1901
  let v2602 : BitVec 1 := Scalar.ori v2590 v2601
  let v2603 : BitVec 32 := Scalar.extui v2602
  let c0_i32_1906 : BitVec 32 := 0#32
  let v2604 : BitVec 1 := Scalar.cmpi .ne v2603 c0_i32_1906
  v2604

def k0_off61 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1878 : BitVec 32 := 15#32
  let v2566 : BitVec 32 := Scalar.addi v2 c15_i32_1878
  let c16_i32_1879 : BitVec 32 := 16#32
  let c0_i32_1880 : BitVec 32 := 0#32
  let v2567 : BitVec 1 := Scalar.cmpi .eq c16_i32_1879 c0_i32_1880
  let c1_i32_1881 : BitVec 32 := 1#32
  let v2568 : BitVec 32 := Scalar.select v2567 c1_i32_1881 c16_i32_1879
  let v2569 : BitVec 32 := Scalar.remsi v2566 v2568
  let c0_i32_1883 : BitVec 32 := 0#32
  let v2571 : BitVec 1 := Scalar.cmpi .slt v2569 c0_i32_1883
  let c0_i32_1884 : BitVec 32 := 0#32
  let v2572 : BitVec 1 := Scalar.cmpi .slt v2568 c0_i32_1884
  let v2573 : BitVec 1 := Scalar.xori v2571 v2572
  let c0_i32_1882 : BitVec 32 := 0#32
  let v2570 : BitVec 1 := Scalar.cmpi .ne v2569 c0_i32_1882
  let v2574 : BitVec 1 := Scalar.andi v2573 v2570
  let v2575 : BitVec 32 := Scalar.addi v2569 v2568
  let v2576 : BitVec 32 := Scalar.select v2574 v2575 v2569
  let c0_i32_3332 : BitVec 32 := 0#32
  let c64_i32_3333 : BitVec 32 := 64#32
  let c0_i32_3334 : BitVec 32 := 0#32
  ![v2576.toNat, 0, 64, 0]
def k0_off62 (d0 : Dev nD) (c1_i32_2026 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2933 : BitVec 32 := Scalar.addi v2 c1_i32_2026
  let c16_i32_2027 : BitVec 32 := 16#32
  let c0_i32_2028 : BitVec 32 := 0#32
  let v2934 : BitVec 1 := Scalar.cmpi .eq c16_i32_2027 c0_i32_2028
  let c1_i32_2029 : BitVec 32 := 1#32
  let v2935 : BitVec 32 := Scalar.select v2934 c1_i32_2029 c16_i32_2027
  let v2936 : BitVec 32 := Scalar.remsi v2933 v2935
  let c0_i32_2031 : BitVec 32 := 0#32
  let v2938 : BitVec 1 := Scalar.cmpi .slt v2936 c0_i32_2031
  let c0_i32_2032 : BitVec 32 := 0#32
  let v2939 : BitVec 1 := Scalar.cmpi .slt v2935 c0_i32_2032
  let v2940 : BitVec 1 := Scalar.xori v2938 v2939
  let c0_i32_2030 : BitVec 32 := 0#32
  let v2937 : BitVec 1 := Scalar.cmpi .ne v2936 c0_i32_2030
  let v2941 : BitVec 1 := Scalar.andi v2940 v2937
  let v2942 : BitVec 32 := Scalar.addi v2936 v2935
  let v2943 : BitVec 32 := Scalar.select v2941 v2942 v2936
  let c16_i32_2033 : BitVec 32 := 16#32
  let v2944 : BitVec 32 := Scalar.muli v2943 c16_i32_2033
  let c0_i32_2041 : BitVec 32 := 0#32
  ![v2944.toNat, 0]
def k0_dev46 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2026 : BitVec 32 := 1#32
  let v2933 : BitVec 32 := Scalar.addi v2 c1_i32_2026
  let c16_i32_2027 : BitVec 32 := 16#32
  let c0_i32_2028 : BitVec 32 := 0#32
  let v2934 : BitVec 1 := Scalar.cmpi .eq c16_i32_2027 c0_i32_2028
  let c1_i32_2029 : BitVec 32 := 1#32
  let v2935 : BitVec 32 := Scalar.select v2934 c1_i32_2029 c16_i32_2027
  let v2936 : BitVec 32 := Scalar.remsi v2933 v2935
  let c0_i32_2031 : BitVec 32 := 0#32
  let v2938 : BitVec 1 := Scalar.cmpi .slt v2936 c0_i32_2031
  let c0_i32_2032 : BitVec 32 := 0#32
  let v2939 : BitVec 1 := Scalar.cmpi .slt v2935 c0_i32_2032
  let v2940 : BitVec 1 := Scalar.xori v2938 v2939
  let c0_i32_2030 : BitVec 32 := 0#32
  let v2937 : BitVec 1 := Scalar.cmpi .ne v2936 c0_i32_2030
  let v2941 : BitVec 1 := Scalar.andi v2940 v2937
  let v2942 : BitVec 32 := Scalar.addi v2936 v2935
  let v2943 : BitVec 32 := Scalar.select v2941 v2942 v2936
  let c1_i32_2037 : BitVec 32 := 1#32
  let v2945 : BitVec 32 := Scalar.muli v2943 c1_i32_2037
  let v2946 : BitVec 32 := Scalar.addi c0_i32_2038 v2945
  v2946.toNat
def k0_dev47 (d0 : Dev nD) : Nat :=
  let c0_i32_2054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2042 : BitVec 32 := 2#32
  let v2954 : BitVec 32 := Scalar.addi v2 c2_i32_2042
  let c16_i32_2043 : BitVec 32 := 16#32
  let c0_i32_2044 : BitVec 32 := 0#32
  let v2955 : BitVec 1 := Scalar.cmpi .eq c16_i32_2043 c0_i32_2044
  let c1_i32_2045 : BitVec 32 := 1#32
  let v2956 : BitVec 32 := Scalar.select v2955 c1_i32_2045 c16_i32_2043
  let v2957 : BitVec 32 := Scalar.remsi v2954 v2956
  let c0_i32_2047 : BitVec 32 := 0#32
  let v2959 : BitVec 1 := Scalar.cmpi .slt v2957 c0_i32_2047
  let c0_i32_2048 : BitVec 32 := 0#32
  let v2960 : BitVec 1 := Scalar.cmpi .slt v2956 c0_i32_2048
  let v2961 : BitVec 1 := Scalar.xori v2959 v2960
  let c0_i32_2046 : BitVec 32 := 0#32
  let v2958 : BitVec 1 := Scalar.cmpi .ne v2957 c0_i32_2046
  let v2962 : BitVec 1 := Scalar.andi v2961 v2958
  let v2963 : BitVec 32 := Scalar.addi v2957 v2956
  let v2964 : BitVec 32 := Scalar.select v2962 v2963 v2957
  let c1_i32_2053 : BitVec 32 := 1#32
  let v2966 : BitVec 32 := Scalar.muli v2964 c1_i32_2053
  let v2967 : BitVec 32 := Scalar.addi c0_i32_2054 v2966
  v2967.toNat
def k0_dev48 (d0 : Dev nD) : Nat :=
  let c0_i32_2070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2058 : BitVec 32 := 3#32
  let v2975 : BitVec 32 := Scalar.addi v2 c3_i32_2058
  let c16_i32_2059 : BitVec 32 := 16#32
  let c0_i32_2060 : BitVec 32 := 0#32
  let v2976 : BitVec 1 := Scalar.cmpi .eq c16_i32_2059 c0_i32_2060
  let c1_i32_2061 : BitVec 32 := 1#32
  let v2977 : BitVec 32 := Scalar.select v2976 c1_i32_2061 c16_i32_2059
  let v2978 : BitVec 32 := Scalar.remsi v2975 v2977
  let c0_i32_2063 : BitVec 32 := 0#32
  let v2980 : BitVec 1 := Scalar.cmpi .slt v2978 c0_i32_2063
  let c0_i32_2064 : BitVec 32 := 0#32
  let v2981 : BitVec 1 := Scalar.cmpi .slt v2977 c0_i32_2064
  let v2982 : BitVec 1 := Scalar.xori v2980 v2981
  let c0_i32_2062 : BitVec 32 := 0#32
  let v2979 : BitVec 1 := Scalar.cmpi .ne v2978 c0_i32_2062
  let v2983 : BitVec 1 := Scalar.andi v2982 v2979
  let v2984 : BitVec 32 := Scalar.addi v2978 v2977
  let v2985 : BitVec 32 := Scalar.select v2983 v2984 v2978
  let c1_i32_2069 : BitVec 32 := 1#32
  let v2987 : BitVec 32 := Scalar.muli v2985 c1_i32_2069
  let v2988 : BitVec 32 := Scalar.addi c0_i32_2070 v2987
  v2988.toNat
def k0_dev49 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2074 : BitVec 32 := 4#32
  let v2996 : BitVec 32 := Scalar.addi v2 c4_i32_2074
  let c16_i32_2075 : BitVec 32 := 16#32
  let c0_i32_2076 : BitVec 32 := 0#32
  let v2997 : BitVec 1 := Scalar.cmpi .eq c16_i32_2075 c0_i32_2076
  let c1_i32_2077 : BitVec 32 := 1#32
  let v2998 : BitVec 32 := Scalar.select v2997 c1_i32_2077 c16_i32_2075
  let v2999 : BitVec 32 := Scalar.remsi v2996 v2998
  let c0_i32_2079 : BitVec 32 := 0#32
  let v3001 : BitVec 1 := Scalar.cmpi .slt v2999 c0_i32_2079
  let c0_i32_2080 : BitVec 32 := 0#32
  let v3002 : BitVec 1 := Scalar.cmpi .slt v2998 c0_i32_2080
  let v3003 : BitVec 1 := Scalar.xori v3001 v3002
  let c0_i32_2078 : BitVec 32 := 0#32
  let v3000 : BitVec 1 := Scalar.cmpi .ne v2999 c0_i32_2078
  let v3004 : BitVec 1 := Scalar.andi v3003 v3000
  let v3005 : BitVec 32 := Scalar.addi v2999 v2998
  let v3006 : BitVec 32 := Scalar.select v3004 v3005 v2999
  let c1_i32_2085 : BitVec 32 := 1#32
  let v3008 : BitVec 32 := Scalar.muli v3006 c1_i32_2085
  let v3009 : BitVec 32 := Scalar.addi c0_i32_2086 v3008
  v3009.toNat
def k0_dev50 (d0 : Dev nD) : Nat :=
  let c0_i32_2102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2090 : BitVec 32 := 5#32
  let v3017 : BitVec 32 := Scalar.addi v2 c5_i32_2090
  let c16_i32_2091 : BitVec 32 := 16#32
  let c0_i32_2092 : BitVec 32 := 0#32
  let v3018 : BitVec 1 := Scalar.cmpi .eq c16_i32_2091 c0_i32_2092
  let c1_i32_2093 : BitVec 32 := 1#32
  let v3019 : BitVec 32 := Scalar.select v3018 c1_i32_2093 c16_i32_2091
  let v3020 : BitVec 32 := Scalar.remsi v3017 v3019
  let c0_i32_2095 : BitVec 32 := 0#32
  let v3022 : BitVec 1 := Scalar.cmpi .slt v3020 c0_i32_2095
  let c0_i32_2096 : BitVec 32 := 0#32
  let v3023 : BitVec 1 := Scalar.cmpi .slt v3019 c0_i32_2096
  let v3024 : BitVec 1 := Scalar.xori v3022 v3023
  let c0_i32_2094 : BitVec 32 := 0#32
  let v3021 : BitVec 1 := Scalar.cmpi .ne v3020 c0_i32_2094
  let v3025 : BitVec 1 := Scalar.andi v3024 v3021
  let v3026 : BitVec 32 := Scalar.addi v3020 v3019
  let v3027 : BitVec 32 := Scalar.select v3025 v3026 v3020
  let c1_i32_2101 : BitVec 32 := 1#32
  let v3029 : BitVec 32 := Scalar.muli v3027 c1_i32_2101
  let v3030 : BitVec 32 := Scalar.addi c0_i32_2102 v3029
  v3030.toNat
def k0_dev51 (d0 : Dev nD) : Nat :=
  let c0_i32_2118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2106 : BitVec 32 := 6#32
  let v3038 : BitVec 32 := Scalar.addi v2 c6_i32_2106
  let c16_i32_2107 : BitVec 32 := 16#32
  let c0_i32_2108 : BitVec 32 := 0#32
  let v3039 : BitVec 1 := Scalar.cmpi .eq c16_i32_2107 c0_i32_2108
  let c1_i32_2109 : BitVec 32 := 1#32
  let v3040 : BitVec 32 := Scalar.select v3039 c1_i32_2109 c16_i32_2107
  let v3041 : BitVec 32 := Scalar.remsi v3038 v3040
  let c0_i32_2111 : BitVec 32 := 0#32
  let v3043 : BitVec 1 := Scalar.cmpi .slt v3041 c0_i32_2111
  let c0_i32_2112 : BitVec 32 := 0#32
  let v3044 : BitVec 1 := Scalar.cmpi .slt v3040 c0_i32_2112
  let v3045 : BitVec 1 := Scalar.xori v3043 v3044
  let c0_i32_2110 : BitVec 32 := 0#32
  let v3042 : BitVec 1 := Scalar.cmpi .ne v3041 c0_i32_2110
  let v3046 : BitVec 1 := Scalar.andi v3045 v3042
  let v3047 : BitVec 32 := Scalar.addi v3041 v3040
  let v3048 : BitVec 32 := Scalar.select v3046 v3047 v3041
  let c1_i32_2117 : BitVec 32 := 1#32
  let v3050 : BitVec 32 := Scalar.muli v3048 c1_i32_2117
  let v3051 : BitVec 32 := Scalar.addi c0_i32_2118 v3050
  v3051.toNat
def k0_dev52 (d0 : Dev nD) : Nat :=
  let c0_i32_2134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2122 : BitVec 32 := 7#32
  let v3059 : BitVec 32 := Scalar.addi v2 c7_i32_2122
  let c16_i32_2123 : BitVec 32 := 16#32
  let c0_i32_2124 : BitVec 32 := 0#32
  let v3060 : BitVec 1 := Scalar.cmpi .eq c16_i32_2123 c0_i32_2124
  let c1_i32_2125 : BitVec 32 := 1#32
  let v3061 : BitVec 32 := Scalar.select v3060 c1_i32_2125 c16_i32_2123
  let v3062 : BitVec 32 := Scalar.remsi v3059 v3061
  let c0_i32_2127 : BitVec 32 := 0#32
  let v3064 : BitVec 1 := Scalar.cmpi .slt v3062 c0_i32_2127
  let c0_i32_2128 : BitVec 32 := 0#32
  let v3065 : BitVec 1 := Scalar.cmpi .slt v3061 c0_i32_2128
  let v3066 : BitVec 1 := Scalar.xori v3064 v3065
  let c0_i32_2126 : BitVec 32 := 0#32
  let v3063 : BitVec 1 := Scalar.cmpi .ne v3062 c0_i32_2126
  let v3067 : BitVec 1 := Scalar.andi v3066 v3063
  let v3068 : BitVec 32 := Scalar.addi v3062 v3061
  let v3069 : BitVec 32 := Scalar.select v3067 v3068 v3062
  let c1_i32_2133 : BitVec 32 := 1#32
  let v3071 : BitVec 32 := Scalar.muli v3069 c1_i32_2133
  let v3072 : BitVec 32 := Scalar.addi c0_i32_2134 v3071
  v3072.toNat
def k0_dev53 (d0 : Dev nD) : Nat :=
  let c0_i32_2150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2138 : BitVec 32 := 8#32
  let v3080 : BitVec 32 := Scalar.addi v2 c8_i32_2138
  let c16_i32_2139 : BitVec 32 := 16#32
  let c0_i32_2140 : BitVec 32 := 0#32
  let v3081 : BitVec 1 := Scalar.cmpi .eq c16_i32_2139 c0_i32_2140
  let c1_i32_2141 : BitVec 32 := 1#32
  let v3082 : BitVec 32 := Scalar.select v3081 c1_i32_2141 c16_i32_2139
  let v3083 : BitVec 32 := Scalar.remsi v3080 v3082
  let c0_i32_2143 : BitVec 32 := 0#32
  let v3085 : BitVec 1 := Scalar.cmpi .slt v3083 c0_i32_2143
  let c0_i32_2144 : BitVec 32 := 0#32
  let v3086 : BitVec 1 := Scalar.cmpi .slt v3082 c0_i32_2144
  let v3087 : BitVec 1 := Scalar.xori v3085 v3086
  let c0_i32_2142 : BitVec 32 := 0#32
  let v3084 : BitVec 1 := Scalar.cmpi .ne v3083 c0_i32_2142
  let v3088 : BitVec 1 := Scalar.andi v3087 v3084
  let v3089 : BitVec 32 := Scalar.addi v3083 v3082
  let v3090 : BitVec 32 := Scalar.select v3088 v3089 v3083
  let c1_i32_2149 : BitVec 32 := 1#32
  let v3092 : BitVec 32 := Scalar.muli v3090 c1_i32_2149
  let v3093 : BitVec 32 := Scalar.addi c0_i32_2150 v3092
  v3093.toNat
def k0_dev54 (d0 : Dev nD) : Nat :=
  let c0_i32_2166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2154 : BitVec 32 := 9#32
  let v3101 : BitVec 32 := Scalar.addi v2 c9_i32_2154
  let c16_i32_2155 : BitVec 32 := 16#32
  let c0_i32_2156 : BitVec 32 := 0#32
  let v3102 : BitVec 1 := Scalar.cmpi .eq c16_i32_2155 c0_i32_2156
  let c1_i32_2157 : BitVec 32 := 1#32
  let v3103 : BitVec 32 := Scalar.select v3102 c1_i32_2157 c16_i32_2155
  let v3104 : BitVec 32 := Scalar.remsi v3101 v3103
  let c0_i32_2159 : BitVec 32 := 0#32
  let v3106 : BitVec 1 := Scalar.cmpi .slt v3104 c0_i32_2159
  let c0_i32_2160 : BitVec 32 := 0#32
  let v3107 : BitVec 1 := Scalar.cmpi .slt v3103 c0_i32_2160
  let v3108 : BitVec 1 := Scalar.xori v3106 v3107
  let c0_i32_2158 : BitVec 32 := 0#32
  let v3105 : BitVec 1 := Scalar.cmpi .ne v3104 c0_i32_2158
  let v3109 : BitVec 1 := Scalar.andi v3108 v3105
  let v3110 : BitVec 32 := Scalar.addi v3104 v3103
  let v3111 : BitVec 32 := Scalar.select v3109 v3110 v3104
  let c1_i32_2165 : BitVec 32 := 1#32
  let v3113 : BitVec 32 := Scalar.muli v3111 c1_i32_2165
  let v3114 : BitVec 32 := Scalar.addi c0_i32_2166 v3113
  v3114.toNat
def k0_dev55 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2170 : BitVec 32 := 10#32
  let v3122 : BitVec 32 := Scalar.addi v2 c10_i32_2170
  let c16_i32_2171 : BitVec 32 := 16#32
  let c0_i32_2172 : BitVec 32 := 0#32
  let v3123 : BitVec 1 := Scalar.cmpi .eq c16_i32_2171 c0_i32_2172
  let c1_i32_2173 : BitVec 32 := 1#32
  let v3124 : BitVec 32 := Scalar.select v3123 c1_i32_2173 c16_i32_2171
  let v3125 : BitVec 32 := Scalar.remsi v3122 v3124
  let c0_i32_2175 : BitVec 32 := 0#32
  let v3127 : BitVec 1 := Scalar.cmpi .slt v3125 c0_i32_2175
  let c0_i32_2176 : BitVec 32 := 0#32
  let v3128 : BitVec 1 := Scalar.cmpi .slt v3124 c0_i32_2176
  let v3129 : BitVec 1 := Scalar.xori v3127 v3128
  let c0_i32_2174 : BitVec 32 := 0#32
  let v3126 : BitVec 1 := Scalar.cmpi .ne v3125 c0_i32_2174
  let v3130 : BitVec 1 := Scalar.andi v3129 v3126
  let v3131 : BitVec 32 := Scalar.addi v3125 v3124
  let v3132 : BitVec 32 := Scalar.select v3130 v3131 v3125
  let c1_i32_2181 : BitVec 32 := 1#32
  let v3134 : BitVec 32 := Scalar.muli v3132 c1_i32_2181
  let v3135 : BitVec 32 := Scalar.addi c0_i32_2182 v3134
  v3135.toNat
def k0_dev56 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2186 : BitVec 32 := 11#32
  let v3143 : BitVec 32 := Scalar.addi v2 c11_i32_2186
  let c16_i32_2187 : BitVec 32 := 16#32
  let c0_i32_2188 : BitVec 32 := 0#32
  let v3144 : BitVec 1 := Scalar.cmpi .eq c16_i32_2187 c0_i32_2188
  let c1_i32_2189 : BitVec 32 := 1#32
  let v3145 : BitVec 32 := Scalar.select v3144 c1_i32_2189 c16_i32_2187
  let v3146 : BitVec 32 := Scalar.remsi v3143 v3145
  let c0_i32_2191 : BitVec 32 := 0#32
  let v3148 : BitVec 1 := Scalar.cmpi .slt v3146 c0_i32_2191
  let c0_i32_2192 : BitVec 32 := 0#32
  let v3149 : BitVec 1 := Scalar.cmpi .slt v3145 c0_i32_2192
  let v3150 : BitVec 1 := Scalar.xori v3148 v3149
  let c0_i32_2190 : BitVec 32 := 0#32
  let v3147 : BitVec 1 := Scalar.cmpi .ne v3146 c0_i32_2190
  let v3151 : BitVec 1 := Scalar.andi v3150 v3147
  let v3152 : BitVec 32 := Scalar.addi v3146 v3145
  let v3153 : BitVec 32 := Scalar.select v3151 v3152 v3146
  let c1_i32_2197 : BitVec 32 := 1#32
  let v3155 : BitVec 32 := Scalar.muli v3153 c1_i32_2197
  let v3156 : BitVec 32 := Scalar.addi c0_i32_2198 v3155
  v3156.toNat
def k0_dev57 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2202 : BitVec 32 := 12#32
  let v3164 : BitVec 32 := Scalar.addi v2 c12_i32_2202
  let c16_i32_2203 : BitVec 32 := 16#32
  let c0_i32_2204 : BitVec 32 := 0#32
  let v3165 : BitVec 1 := Scalar.cmpi .eq c16_i32_2203 c0_i32_2204
  let c1_i32_2205 : BitVec 32 := 1#32
  let v3166 : BitVec 32 := Scalar.select v3165 c1_i32_2205 c16_i32_2203
  let v3167 : BitVec 32 := Scalar.remsi v3164 v3166
  let c0_i32_2207 : BitVec 32 := 0#32
  let v3169 : BitVec 1 := Scalar.cmpi .slt v3167 c0_i32_2207
  let c0_i32_2208 : BitVec 32 := 0#32
  let v3170 : BitVec 1 := Scalar.cmpi .slt v3166 c0_i32_2208
  let v3171 : BitVec 1 := Scalar.xori v3169 v3170
  let c0_i32_2206 : BitVec 32 := 0#32
  let v3168 : BitVec 1 := Scalar.cmpi .ne v3167 c0_i32_2206
  let v3172 : BitVec 1 := Scalar.andi v3171 v3168
  let v3173 : BitVec 32 := Scalar.addi v3167 v3166
  let v3174 : BitVec 32 := Scalar.select v3172 v3173 v3167
  let c1_i32_2213 : BitVec 32 := 1#32
  let v3176 : BitVec 32 := Scalar.muli v3174 c1_i32_2213
  let v3177 : BitVec 32 := Scalar.addi c0_i32_2214 v3176
  v3177.toNat
def k0_dev58 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2218 : BitVec 32 := 13#32
  let v3185 : BitVec 32 := Scalar.addi v2 c13_i32_2218
  let c16_i32_2219 : BitVec 32 := 16#32
  let c0_i32_2220 : BitVec 32 := 0#32
  let v3186 : BitVec 1 := Scalar.cmpi .eq c16_i32_2219 c0_i32_2220
  let c1_i32_2221 : BitVec 32 := 1#32
  let v3187 : BitVec 32 := Scalar.select v3186 c1_i32_2221 c16_i32_2219
  let v3188 : BitVec 32 := Scalar.remsi v3185 v3187
  let c0_i32_2223 : BitVec 32 := 0#32
  let v3190 : BitVec 1 := Scalar.cmpi .slt v3188 c0_i32_2223
  let c0_i32_2224 : BitVec 32 := 0#32
  let v3191 : BitVec 1 := Scalar.cmpi .slt v3187 c0_i32_2224
  let v3192 : BitVec 1 := Scalar.xori v3190 v3191
  let c0_i32_2222 : BitVec 32 := 0#32
  let v3189 : BitVec 1 := Scalar.cmpi .ne v3188 c0_i32_2222
  let v3193 : BitVec 1 := Scalar.andi v3192 v3189
  let v3194 : BitVec 32 := Scalar.addi v3188 v3187
  let v3195 : BitVec 32 := Scalar.select v3193 v3194 v3188
  let c1_i32_2229 : BitVec 32 := 1#32
  let v3197 : BitVec 32 := Scalar.muli v3195 c1_i32_2229
  let v3198 : BitVec 32 := Scalar.addi c0_i32_2230 v3197
  v3198.toNat
def k0_dev59 (d0 : Dev nD) : Nat :=
  let c0_i32_2246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2234 : BitVec 32 := 14#32
  let v3206 : BitVec 32 := Scalar.addi v2 c14_i32_2234
  let c16_i32_2235 : BitVec 32 := 16#32
  let c0_i32_2236 : BitVec 32 := 0#32
  let v3207 : BitVec 1 := Scalar.cmpi .eq c16_i32_2235 c0_i32_2236
  let c1_i32_2237 : BitVec 32 := 1#32
  let v3208 : BitVec 32 := Scalar.select v3207 c1_i32_2237 c16_i32_2235
  let v3209 : BitVec 32 := Scalar.remsi v3206 v3208
  let c0_i32_2239 : BitVec 32 := 0#32
  let v3211 : BitVec 1 := Scalar.cmpi .slt v3209 c0_i32_2239
  let c0_i32_2240 : BitVec 32 := 0#32
  let v3212 : BitVec 1 := Scalar.cmpi .slt v3208 c0_i32_2240
  let v3213 : BitVec 1 := Scalar.xori v3211 v3212
  let c0_i32_2238 : BitVec 32 := 0#32
  let v3210 : BitVec 1 := Scalar.cmpi .ne v3209 c0_i32_2238
  let v3214 : BitVec 1 := Scalar.andi v3213 v3210
  let v3215 : BitVec 32 := Scalar.addi v3209 v3208
  let v3216 : BitVec 32 := Scalar.select v3214 v3215 v3209
  let c1_i32_2245 : BitVec 32 := 1#32
  let v3218 : BitVec 32 := Scalar.muli v3216 c1_i32_2245
  let v3219 : BitVec 32 := Scalar.addi c0_i32_2246 v3218
  v3219.toNat
def k0_dev60 (d0 : Dev nD) : Nat :=
  let c0_i32_2262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2250 : BitVec 32 := 15#32
  let v3227 : BitVec 32 := Scalar.addi v2 c15_i32_2250
  let c16_i32_2251 : BitVec 32 := 16#32
  let c0_i32_2252 : BitVec 32 := 0#32
  let v3228 : BitVec 1 := Scalar.cmpi .eq c16_i32_2251 c0_i32_2252
  let c1_i32_2253 : BitVec 32 := 1#32
  let v3229 : BitVec 32 := Scalar.select v3228 c1_i32_2253 c16_i32_2251
  let v3230 : BitVec 32 := Scalar.remsi v3227 v3229
  let c0_i32_2255 : BitVec 32 := 0#32
  let v3232 : BitVec 1 := Scalar.cmpi .slt v3230 c0_i32_2255
  let c0_i32_2256 : BitVec 32 := 0#32
  let v3233 : BitVec 1 := Scalar.cmpi .slt v3229 c0_i32_2256
  let v3234 : BitVec 1 := Scalar.xori v3232 v3233
  let c0_i32_2254 : BitVec 32 := 0#32
  let v3231 : BitVec 1 := Scalar.cmpi .ne v3230 c0_i32_2254
  let v3235 : BitVec 1 := Scalar.andi v3234 v3231
  let v3236 : BitVec 32 := Scalar.addi v3230 v3229
  let v3237 : BitVec 32 := Scalar.select v3235 v3236 v3230
  let c1_i32_2261 : BitVec 32 := 1#32
  let v3239 : BitVec 32 := Scalar.muli v3237 c1_i32_2261
  let v3240 : BitVec 32 := Scalar.addi c0_i32_2262 v3239
  v3240.toNat
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2266 : BitVec 32 := 16#32
  let v3248 : BitVec 32 := Scalar.muli v2 c16_i32_2266
  let v3249 : Index := Scalar.indexCast v3248
  let c0_2267 : Index := 0#32
  ![v3249.toNat, 0]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2551 : BitVec 32 := 16#32
  let v3513 : BitVec 32 := Scalar.muli v2 c16_i32_2551
  let c0_i32_2556 : BitVec 32 := 0#32
  ![v3513.toNat, 0]
def k0_dev61 (d0 : Dev nD) : Nat :=
  let c0_i32_2555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2544 : BitVec 32 := 1#32
  let v3502 : BitVec 32 := Scalar.addi v2 c1_i32_2544
  let c16_i32_2545 : BitVec 32 := 16#32
  let c0_i32_2546 : BitVec 32 := 0#32
  let v3503 : BitVec 1 := Scalar.cmpi .eq c16_i32_2545 c0_i32_2546
  let c1_i32_2547 : BitVec 32 := 1#32
  let v3504 : BitVec 32 := Scalar.select v3503 c1_i32_2547 c16_i32_2545
  let v3505 : BitVec 32 := Scalar.remsi v3502 v3504
  let c0_i32_2549 : BitVec 32 := 0#32
  let v3507 : BitVec 1 := Scalar.cmpi .slt v3505 c0_i32_2549
  let c0_i32_2550 : BitVec 32 := 0#32
  let v3508 : BitVec 1 := Scalar.cmpi .slt v3504 c0_i32_2550
  let v3509 : BitVec 1 := Scalar.xori v3507 v3508
  let c0_i32_2548 : BitVec 32 := 0#32
  let v3506 : BitVec 1 := Scalar.cmpi .ne v3505 c0_i32_2548
  let v3510 : BitVec 1 := Scalar.andi v3509 v3506
  let v3511 : BitVec 32 := Scalar.addi v3505 v3504
  let v3512 : BitVec 32 := Scalar.select v3510 v3511 v3505
  let c1_i32_2554 : BitVec 32 := 1#32
  let v3514 : BitVec 32 := Scalar.muli v3512 c1_i32_2554
  let v3515 : BitVec 32 := Scalar.addi c0_i32_2555 v3514
  v3515.toNat
def k0_dev62 (d0 : Dev nD) : Nat :=
  let c0_i32_2568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2557 : BitVec 32 := 2#32
  let v3521 : BitVec 32 := Scalar.addi v2 c2_i32_2557
  let c16_i32_2558 : BitVec 32 := 16#32
  let c0_i32_2559 : BitVec 32 := 0#32
  let v3522 : BitVec 1 := Scalar.cmpi .eq c16_i32_2558 c0_i32_2559
  let c1_i32_2560 : BitVec 32 := 1#32
  let v3523 : BitVec 32 := Scalar.select v3522 c1_i32_2560 c16_i32_2558
  let v3524 : BitVec 32 := Scalar.remsi v3521 v3523
  let c0_i32_2562 : BitVec 32 := 0#32
  let v3526 : BitVec 1 := Scalar.cmpi .slt v3524 c0_i32_2562
  let c0_i32_2563 : BitVec 32 := 0#32
  let v3527 : BitVec 1 := Scalar.cmpi .slt v3523 c0_i32_2563
  let v3528 : BitVec 1 := Scalar.xori v3526 v3527
  let c0_i32_2561 : BitVec 32 := 0#32
  let v3525 : BitVec 1 := Scalar.cmpi .ne v3524 c0_i32_2561
  let v3529 : BitVec 1 := Scalar.andi v3528 v3525
  let v3530 : BitVec 32 := Scalar.addi v3524 v3523
  let v3531 : BitVec 32 := Scalar.select v3529 v3530 v3524
  let c1_i32_2567 : BitVec 32 := 1#32
  let v3533 : BitVec 32 := Scalar.muli v3531 c1_i32_2567
  let v3534 : BitVec 32 := Scalar.addi c0_i32_2568 v3533
  v3534.toNat
def k0_dev63 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2570 : BitVec 32 := 3#32
  let v3540 : BitVec 32 := Scalar.addi v2 c3_i32_2570
  let c16_i32_2571 : BitVec 32 := 16#32
  let c0_i32_2572 : BitVec 32 := 0#32
  let v3541 : BitVec 1 := Scalar.cmpi .eq c16_i32_2571 c0_i32_2572
  let c1_i32_2573 : BitVec 32 := 1#32
  let v3542 : BitVec 32 := Scalar.select v3541 c1_i32_2573 c16_i32_2571
  let v3543 : BitVec 32 := Scalar.remsi v3540 v3542
  let c0_i32_2575 : BitVec 32 := 0#32
  let v3545 : BitVec 1 := Scalar.cmpi .slt v3543 c0_i32_2575
  let c0_i32_2576 : BitVec 32 := 0#32
  let v3546 : BitVec 1 := Scalar.cmpi .slt v3542 c0_i32_2576
  let v3547 : BitVec 1 := Scalar.xori v3545 v3546
  let c0_i32_2574 : BitVec 32 := 0#32
  let v3544 : BitVec 1 := Scalar.cmpi .ne v3543 c0_i32_2574
  let v3548 : BitVec 1 := Scalar.andi v3547 v3544
  let v3549 : BitVec 32 := Scalar.addi v3543 v3542
  let v3550 : BitVec 32 := Scalar.select v3548 v3549 v3543
  let c1_i32_2580 : BitVec 32 := 1#32
  let v3552 : BitVec 32 := Scalar.muli v3550 c1_i32_2580
  let v3553 : BitVec 32 := Scalar.addi c0_i32_2581 v3552
  v3553.toNat
def k0_dev64 (d0 : Dev nD) : Nat :=
  let c0_i32_2594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2583 : BitVec 32 := 4#32
  let v3559 : BitVec 32 := Scalar.addi v2 c4_i32_2583
  let c16_i32_2584 : BitVec 32 := 16#32
  let c0_i32_2585 : BitVec 32 := 0#32
  let v3560 : BitVec 1 := Scalar.cmpi .eq c16_i32_2584 c0_i32_2585
  let c1_i32_2586 : BitVec 32 := 1#32
  let v3561 : BitVec 32 := Scalar.select v3560 c1_i32_2586 c16_i32_2584
  let v3562 : BitVec 32 := Scalar.remsi v3559 v3561
  let c0_i32_2588 : BitVec 32 := 0#32
  let v3564 : BitVec 1 := Scalar.cmpi .slt v3562 c0_i32_2588
  let c0_i32_2589 : BitVec 32 := 0#32
  let v3565 : BitVec 1 := Scalar.cmpi .slt v3561 c0_i32_2589
  let v3566 : BitVec 1 := Scalar.xori v3564 v3565
  let c0_i32_2587 : BitVec 32 := 0#32
  let v3563 : BitVec 1 := Scalar.cmpi .ne v3562 c0_i32_2587
  let v3567 : BitVec 1 := Scalar.andi v3566 v3563
  let v3568 : BitVec 32 := Scalar.addi v3562 v3561
  let v3569 : BitVec 32 := Scalar.select v3567 v3568 v3562
  let c1_i32_2593 : BitVec 32 := 1#32
  let v3571 : BitVec 32 := Scalar.muli v3569 c1_i32_2593
  let v3572 : BitVec 32 := Scalar.addi c0_i32_2594 v3571
  v3572.toNat
def k0_dev65 (d0 : Dev nD) : Nat :=
  let c0_i32_2607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2596 : BitVec 32 := 5#32
  let v3578 : BitVec 32 := Scalar.addi v2 c5_i32_2596
  let c16_i32_2597 : BitVec 32 := 16#32
  let c0_i32_2598 : BitVec 32 := 0#32
  let v3579 : BitVec 1 := Scalar.cmpi .eq c16_i32_2597 c0_i32_2598
  let c1_i32_2599 : BitVec 32 := 1#32
  let v3580 : BitVec 32 := Scalar.select v3579 c1_i32_2599 c16_i32_2597
  let v3581 : BitVec 32 := Scalar.remsi v3578 v3580
  let c0_i32_2601 : BitVec 32 := 0#32
  let v3583 : BitVec 1 := Scalar.cmpi .slt v3581 c0_i32_2601
  let c0_i32_2602 : BitVec 32 := 0#32
  let v3584 : BitVec 1 := Scalar.cmpi .slt v3580 c0_i32_2602
  let v3585 : BitVec 1 := Scalar.xori v3583 v3584
  let c0_i32_2600 : BitVec 32 := 0#32
  let v3582 : BitVec 1 := Scalar.cmpi .ne v3581 c0_i32_2600
  let v3586 : BitVec 1 := Scalar.andi v3585 v3582
  let v3587 : BitVec 32 := Scalar.addi v3581 v3580
  let v3588 : BitVec 32 := Scalar.select v3586 v3587 v3581
  let c1_i32_2606 : BitVec 32 := 1#32
  let v3590 : BitVec 32 := Scalar.muli v3588 c1_i32_2606
  let v3591 : BitVec 32 := Scalar.addi c0_i32_2607 v3590
  v3591.toNat
def k0_dev66 (d0 : Dev nD) : Nat :=
  let c0_i32_2620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2609 : BitVec 32 := 6#32
  let v3597 : BitVec 32 := Scalar.addi v2 c6_i32_2609
  let c16_i32_2610 : BitVec 32 := 16#32
  let c0_i32_2611 : BitVec 32 := 0#32
  let v3598 : BitVec 1 := Scalar.cmpi .eq c16_i32_2610 c0_i32_2611
  let c1_i32_2612 : BitVec 32 := 1#32
  let v3599 : BitVec 32 := Scalar.select v3598 c1_i32_2612 c16_i32_2610
  let v3600 : BitVec 32 := Scalar.remsi v3597 v3599
  let c0_i32_2614 : BitVec 32 := 0#32
  let v3602 : BitVec 1 := Scalar.cmpi .slt v3600 c0_i32_2614
  let c0_i32_2615 : BitVec 32 := 0#32
  let v3603 : BitVec 1 := Scalar.cmpi .slt v3599 c0_i32_2615
  let v3604 : BitVec 1 := Scalar.xori v3602 v3603
  let c0_i32_2613 : BitVec 32 := 0#32
  let v3601 : BitVec 1 := Scalar.cmpi .ne v3600 c0_i32_2613
  let v3605 : BitVec 1 := Scalar.andi v3604 v3601
  let v3606 : BitVec 32 := Scalar.addi v3600 v3599
  let v3607 : BitVec 32 := Scalar.select v3605 v3606 v3600
  let c1_i32_2619 : BitVec 32 := 1#32
  let v3609 : BitVec 32 := Scalar.muli v3607 c1_i32_2619
  let v3610 : BitVec 32 := Scalar.addi c0_i32_2620 v3609
  v3610.toNat
def k0_dev67 (d0 : Dev nD) : Nat :=
  let c0_i32_2633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2622 : BitVec 32 := 7#32
  let v3616 : BitVec 32 := Scalar.addi v2 c7_i32_2622
  let c16_i32_2623 : BitVec 32 := 16#32
  let c0_i32_2624 : BitVec 32 := 0#32
  let v3617 : BitVec 1 := Scalar.cmpi .eq c16_i32_2623 c0_i32_2624
  let c1_i32_2625 : BitVec 32 := 1#32
  let v3618 : BitVec 32 := Scalar.select v3617 c1_i32_2625 c16_i32_2623
  let v3619 : BitVec 32 := Scalar.remsi v3616 v3618
  let c0_i32_2627 : BitVec 32 := 0#32
  let v3621 : BitVec 1 := Scalar.cmpi .slt v3619 c0_i32_2627
  let c0_i32_2628 : BitVec 32 := 0#32
  let v3622 : BitVec 1 := Scalar.cmpi .slt v3618 c0_i32_2628
  let v3623 : BitVec 1 := Scalar.xori v3621 v3622
  let c0_i32_2626 : BitVec 32 := 0#32
  let v3620 : BitVec 1 := Scalar.cmpi .ne v3619 c0_i32_2626
  let v3624 : BitVec 1 := Scalar.andi v3623 v3620
  let v3625 : BitVec 32 := Scalar.addi v3619 v3618
  let v3626 : BitVec 32 := Scalar.select v3624 v3625 v3619
  let c1_i32_2632 : BitVec 32 := 1#32
  let v3628 : BitVec 32 := Scalar.muli v3626 c1_i32_2632
  let v3629 : BitVec 32 := Scalar.addi c0_i32_2633 v3628
  v3629.toNat
def k0_dev68 (d0 : Dev nD) : Nat :=
  let c0_i32_2646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2635 : BitVec 32 := 8#32
  let v3635 : BitVec 32 := Scalar.addi v2 c8_i32_2635
  let c16_i32_2636 : BitVec 32 := 16#32
  let c0_i32_2637 : BitVec 32 := 0#32
  let v3636 : BitVec 1 := Scalar.cmpi .eq c16_i32_2636 c0_i32_2637
  let c1_i32_2638 : BitVec 32 := 1#32
  let v3637 : BitVec 32 := Scalar.select v3636 c1_i32_2638 c16_i32_2636
  let v3638 : BitVec 32 := Scalar.remsi v3635 v3637
  let c0_i32_2640 : BitVec 32 := 0#32
  let v3640 : BitVec 1 := Scalar.cmpi .slt v3638 c0_i32_2640
  let c0_i32_2641 : BitVec 32 := 0#32
  let v3641 : BitVec 1 := Scalar.cmpi .slt v3637 c0_i32_2641
  let v3642 : BitVec 1 := Scalar.xori v3640 v3641
  let c0_i32_2639 : BitVec 32 := 0#32
  let v3639 : BitVec 1 := Scalar.cmpi .ne v3638 c0_i32_2639
  let v3643 : BitVec 1 := Scalar.andi v3642 v3639
  let v3644 : BitVec 32 := Scalar.addi v3638 v3637
  let v3645 : BitVec 32 := Scalar.select v3643 v3644 v3638
  let c1_i32_2645 : BitVec 32 := 1#32
  let v3647 : BitVec 32 := Scalar.muli v3645 c1_i32_2645
  let v3648 : BitVec 32 := Scalar.addi c0_i32_2646 v3647
  v3648.toNat
def k0_dev69 (d0 : Dev nD) : Nat :=
  let c0_i32_2659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2648 : BitVec 32 := 9#32
  let v3654 : BitVec 32 := Scalar.addi v2 c9_i32_2648
  let c16_i32_2649 : BitVec 32 := 16#32
  let c0_i32_2650 : BitVec 32 := 0#32
  let v3655 : BitVec 1 := Scalar.cmpi .eq c16_i32_2649 c0_i32_2650
  let c1_i32_2651 : BitVec 32 := 1#32
  let v3656 : BitVec 32 := Scalar.select v3655 c1_i32_2651 c16_i32_2649
  let v3657 : BitVec 32 := Scalar.remsi v3654 v3656
  let c0_i32_2653 : BitVec 32 := 0#32
  let v3659 : BitVec 1 := Scalar.cmpi .slt v3657 c0_i32_2653
  let c0_i32_2654 : BitVec 32 := 0#32
  let v3660 : BitVec 1 := Scalar.cmpi .slt v3656 c0_i32_2654
  let v3661 : BitVec 1 := Scalar.xori v3659 v3660
  let c0_i32_2652 : BitVec 32 := 0#32
  let v3658 : BitVec 1 := Scalar.cmpi .ne v3657 c0_i32_2652
  let v3662 : BitVec 1 := Scalar.andi v3661 v3658
  let v3663 : BitVec 32 := Scalar.addi v3657 v3656
  let v3664 : BitVec 32 := Scalar.select v3662 v3663 v3657
  let c1_i32_2658 : BitVec 32 := 1#32
  let v3666 : BitVec 32 := Scalar.muli v3664 c1_i32_2658
  let v3667 : BitVec 32 := Scalar.addi c0_i32_2659 v3666
  v3667.toNat
def k0_dev70 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2661 : BitVec 32 := 10#32
  let v3673 : BitVec 32 := Scalar.addi v2 c10_i32_2661
  let c16_i32_2662 : BitVec 32 := 16#32
  let c0_i32_2663 : BitVec 32 := 0#32
  let v3674 : BitVec 1 := Scalar.cmpi .eq c16_i32_2662 c0_i32_2663
  let c1_i32_2664 : BitVec 32 := 1#32
  let v3675 : BitVec 32 := Scalar.select v3674 c1_i32_2664 c16_i32_2662
  let v3676 : BitVec 32 := Scalar.remsi v3673 v3675
  let c0_i32_2666 : BitVec 32 := 0#32
  let v3678 : BitVec 1 := Scalar.cmpi .slt v3676 c0_i32_2666
  let c0_i32_2667 : BitVec 32 := 0#32
  let v3679 : BitVec 1 := Scalar.cmpi .slt v3675 c0_i32_2667
  let v3680 : BitVec 1 := Scalar.xori v3678 v3679
  let c0_i32_2665 : BitVec 32 := 0#32
  let v3677 : BitVec 1 := Scalar.cmpi .ne v3676 c0_i32_2665
  let v3681 : BitVec 1 := Scalar.andi v3680 v3677
  let v3682 : BitVec 32 := Scalar.addi v3676 v3675
  let v3683 : BitVec 32 := Scalar.select v3681 v3682 v3676
  let c1_i32_2671 : BitVec 32 := 1#32
  let v3685 : BitVec 32 := Scalar.muli v3683 c1_i32_2671
  let v3686 : BitVec 32 := Scalar.addi c0_i32_2672 v3685
  v3686.toNat
def k0_dev71 (d0 : Dev nD) : Nat :=
  let c0_i32_2685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2674 : BitVec 32 := 11#32
  let v3692 : BitVec 32 := Scalar.addi v2 c11_i32_2674
  let c16_i32_2675 : BitVec 32 := 16#32
  let c0_i32_2676 : BitVec 32 := 0#32
  let v3693 : BitVec 1 := Scalar.cmpi .eq c16_i32_2675 c0_i32_2676
  let c1_i32_2677 : BitVec 32 := 1#32
  let v3694 : BitVec 32 := Scalar.select v3693 c1_i32_2677 c16_i32_2675
  let v3695 : BitVec 32 := Scalar.remsi v3692 v3694
  let c0_i32_2679 : BitVec 32 := 0#32
  let v3697 : BitVec 1 := Scalar.cmpi .slt v3695 c0_i32_2679
  let c0_i32_2680 : BitVec 32 := 0#32
  let v3698 : BitVec 1 := Scalar.cmpi .slt v3694 c0_i32_2680
  let v3699 : BitVec 1 := Scalar.xori v3697 v3698
  let c0_i32_2678 : BitVec 32 := 0#32
  let v3696 : BitVec 1 := Scalar.cmpi .ne v3695 c0_i32_2678
  let v3700 : BitVec 1 := Scalar.andi v3699 v3696
  let v3701 : BitVec 32 := Scalar.addi v3695 v3694
  let v3702 : BitVec 32 := Scalar.select v3700 v3701 v3695
  let c1_i32_2684 : BitVec 32 := 1#32
  let v3704 : BitVec 32 := Scalar.muli v3702 c1_i32_2684
  let v3705 : BitVec 32 := Scalar.addi c0_i32_2685 v3704
  v3705.toNat
def k0_dev72 (d0 : Dev nD) : Nat :=
  let c0_i32_2698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2687 : BitVec 32 := 12#32
  let v3711 : BitVec 32 := Scalar.addi v2 c12_i32_2687
  let c16_i32_2688 : BitVec 32 := 16#32
  let c0_i32_2689 : BitVec 32 := 0#32
  let v3712 : BitVec 1 := Scalar.cmpi .eq c16_i32_2688 c0_i32_2689
  let c1_i32_2690 : BitVec 32 := 1#32
  let v3713 : BitVec 32 := Scalar.select v3712 c1_i32_2690 c16_i32_2688
  let v3714 : BitVec 32 := Scalar.remsi v3711 v3713
  let c0_i32_2692 : BitVec 32 := 0#32
  let v3716 : BitVec 1 := Scalar.cmpi .slt v3714 c0_i32_2692
  let c0_i32_2693 : BitVec 32 := 0#32
  let v3717 : BitVec 1 := Scalar.cmpi .slt v3713 c0_i32_2693
  let v3718 : BitVec 1 := Scalar.xori v3716 v3717
  let c0_i32_2691 : BitVec 32 := 0#32
  let v3715 : BitVec 1 := Scalar.cmpi .ne v3714 c0_i32_2691
  let v3719 : BitVec 1 := Scalar.andi v3718 v3715
  let v3720 : BitVec 32 := Scalar.addi v3714 v3713
  let v3721 : BitVec 32 := Scalar.select v3719 v3720 v3714
  let c1_i32_2697 : BitVec 32 := 1#32
  let v3723 : BitVec 32 := Scalar.muli v3721 c1_i32_2697
  let v3724 : BitVec 32 := Scalar.addi c0_i32_2698 v3723
  v3724.toNat
def k0_dev73 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2700 : BitVec 32 := 13#32
  let v3730 : BitVec 32 := Scalar.addi v2 c13_i32_2700
  let c16_i32_2701 : BitVec 32 := 16#32
  let c0_i32_2702 : BitVec 32 := 0#32
  let v3731 : BitVec 1 := Scalar.cmpi .eq c16_i32_2701 c0_i32_2702
  let c1_i32_2703 : BitVec 32 := 1#32
  let v3732 : BitVec 32 := Scalar.select v3731 c1_i32_2703 c16_i32_2701
  let v3733 : BitVec 32 := Scalar.remsi v3730 v3732
  let c0_i32_2705 : BitVec 32 := 0#32
  let v3735 : BitVec 1 := Scalar.cmpi .slt v3733 c0_i32_2705
  let c0_i32_2706 : BitVec 32 := 0#32
  let v3736 : BitVec 1 := Scalar.cmpi .slt v3732 c0_i32_2706
  let v3737 : BitVec 1 := Scalar.xori v3735 v3736
  let c0_i32_2704 : BitVec 32 := 0#32
  let v3734 : BitVec 1 := Scalar.cmpi .ne v3733 c0_i32_2704
  let v3738 : BitVec 1 := Scalar.andi v3737 v3734
  let v3739 : BitVec 32 := Scalar.addi v3733 v3732
  let v3740 : BitVec 32 := Scalar.select v3738 v3739 v3733
  let c1_i32_2710 : BitVec 32 := 1#32
  let v3742 : BitVec 32 := Scalar.muli v3740 c1_i32_2710
  let v3743 : BitVec 32 := Scalar.addi c0_i32_2711 v3742
  v3743.toNat
def k0_dev74 (d0 : Dev nD) : Nat :=
  let c0_i32_2724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2713 : BitVec 32 := 14#32
  let v3749 : BitVec 32 := Scalar.addi v2 c14_i32_2713
  let c16_i32_2714 : BitVec 32 := 16#32
  let c0_i32_2715 : BitVec 32 := 0#32
  let v3750 : BitVec 1 := Scalar.cmpi .eq c16_i32_2714 c0_i32_2715
  let c1_i32_2716 : BitVec 32 := 1#32
  let v3751 : BitVec 32 := Scalar.select v3750 c1_i32_2716 c16_i32_2714
  let v3752 : BitVec 32 := Scalar.remsi v3749 v3751
  let c0_i32_2718 : BitVec 32 := 0#32
  let v3754 : BitVec 1 := Scalar.cmpi .slt v3752 c0_i32_2718
  let c0_i32_2719 : BitVec 32 := 0#32
  let v3755 : BitVec 1 := Scalar.cmpi .slt v3751 c0_i32_2719
  let v3756 : BitVec 1 := Scalar.xori v3754 v3755
  let c0_i32_2717 : BitVec 32 := 0#32
  let v3753 : BitVec 1 := Scalar.cmpi .ne v3752 c0_i32_2717
  let v3757 : BitVec 1 := Scalar.andi v3756 v3753
  let v3758 : BitVec 32 := Scalar.addi v3752 v3751
  let v3759 : BitVec 32 := Scalar.select v3757 v3758 v3752
  let c1_i32_2723 : BitVec 32 := 1#32
  let v3761 : BitVec 32 := Scalar.muli v3759 c1_i32_2723
  let v3762 : BitVec 32 := Scalar.addi c0_i32_2724 v3761
  v3762.toNat
def k0_dev75 (d0 : Dev nD) : Nat :=
  let c0_i32_2737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2726 : BitVec 32 := 15#32
  let v3768 : BitVec 32 := Scalar.addi v2 c15_i32_2726
  let c16_i32_2727 : BitVec 32 := 16#32
  let c0_i32_2728 : BitVec 32 := 0#32
  let v3769 : BitVec 1 := Scalar.cmpi .eq c16_i32_2727 c0_i32_2728
  let c1_i32_2729 : BitVec 32 := 1#32
  let v3770 : BitVec 32 := Scalar.select v3769 c1_i32_2729 c16_i32_2727
  let v3771 : BitVec 32 := Scalar.remsi v3768 v3770
  let c0_i32_2731 : BitVec 32 := 0#32
  let v3773 : BitVec 1 := Scalar.cmpi .slt v3771 c0_i32_2731
  let c0_i32_2732 : BitVec 32 := 0#32
  let v3774 : BitVec 1 := Scalar.cmpi .slt v3770 c0_i32_2732
  let v3775 : BitVec 1 := Scalar.xori v3773 v3774
  let c0_i32_2730 : BitVec 32 := 0#32
  let v3772 : BitVec 1 := Scalar.cmpi .ne v3771 c0_i32_2730
  let v3776 : BitVec 1 := Scalar.andi v3775 v3772
  let v3777 : BitVec 32 := Scalar.addi v3771 v3770
  let v3778 : BitVec 32 := Scalar.select v3776 v3777 v3771
  let c1_i32_2736 : BitVec 32 := 1#32
  let v3780 : BitVec 32 := Scalar.muli v3778 c1_i32_2736
  let v3781 : BitVec 32 := Scalar.addi c0_i32_2737 v3780
  v3781.toNat
def k0_cond61 (d0 : Dev nD) : BitVec 1 :=
  let c2_i32_2878 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3910 : BitVec 32 := Scalar.muli c2_i32_2878 v2
  let c0_i32_2879 : BitVec 32 := 0#32
  let v3911 : BitVec 32 := Scalar.addi v3910 c0_i32_2879
  let c2_i32_2880 : BitVec 32 := 2#32
  let v3912 : BitVec 1 := Scalar.cmpi .slt v3911 c2_i32_2880
  let c3_i32_2881 : BitVec 32 := 3#32
  let c0_i32_2882 : BitVec 32 := 0#32
  let v3913 : BitVec 1 := Scalar.cmpi .eq c3_i32_2881 c0_i32_2882
  let c1_i32_2883 : BitVec 32 := 1#32
  let v3914 : BitVec 32 := Scalar.select v3913 c1_i32_2883 c3_i32_2881
  let v3915 : BitVec 32 := Scalar.remsi v3911 v3914
  let c0_i32_2885 : BitVec 32 := 0#32
  let v3917 : BitVec 1 := Scalar.cmpi .slt v3915 c0_i32_2885
  let c0_i32_2886 : BitVec 32 := 0#32
  let v3918 : BitVec 1 := Scalar.cmpi .slt v3914 c0_i32_2886
  let v3919 : BitVec 1 := Scalar.xori v3917 v3918
  let c0_i32_2884 : BitVec 32 := 0#32
  let v3916 : BitVec 1 := Scalar.cmpi .ne v3915 c0_i32_2884
  let v3920 : BitVec 1 := Scalar.andi v3919 v3916
  let v3921 : BitVec 32 := Scalar.addi v3915 v3914
  let v3922 : BitVec 32 := Scalar.select v3920 v3921 v3915
  let c1_i32_2887 : BitVec 32 := 1#32
  let v3923 : BitVec 1 := Scalar.cmpi .ne v3922 c1_i32_2887
  let v3924 : BitVec 1 := Scalar.ori v3912 v3923
  let v3925 : BitVec 32 := Scalar.extui v3924
  let c0_i32_2892 : BitVec 32 := 0#32
  let v3926 : BitVec 1 := Scalar.cmpi .ne v3925 c0_i32_2892
  v3926

def k0_off65 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v397 : BitVec 32 := Scalar.addi v2 c1_i32_335
  let c16_i32_336 : BitVec 32 := 16#32
  let c0_i32_337 : BitVec 32 := 0#32
  let v398 : BitVec 1 := Scalar.cmpi .eq c16_i32_336 c0_i32_337
  let c1_i32_338 : BitVec 32 := 1#32
  let v399 : BitVec 32 := Scalar.select v398 c1_i32_338 c16_i32_336
  let v400 : BitVec 32 := Scalar.remsi v397 v399
  let c0_i32_340 : BitVec 32 := 0#32
  let v402 : BitVec 1 := Scalar.cmpi .slt v400 c0_i32_340
  let c0_i32_341 : BitVec 32 := 0#32
  let v403 : BitVec 1 := Scalar.cmpi .slt v399 c0_i32_341
  let v404 : BitVec 1 := Scalar.xori v402 v403
  let c0_i32_339 : BitVec 32 := 0#32
  let v401 : BitVec 1 := Scalar.cmpi .ne v400 c0_i32_339
  let v405 : BitVec 1 := Scalar.andi v404 v401
  let v406 : BitVec 32 := Scalar.addi v400 v399
  let v407 : BitVec 32 := Scalar.select v405 v406 v400
  let c0_i32_3329 : BitVec 32 := 0#32
  let c0_i32_3330 : BitVec 32 := 0#32
  let c0_i32_3331 : BitVec 32 := 0#32
  ![v407.toNat, 0, 0, 0]
def k0_cond62 (d0 : Dev nD) : BitVec 1 :=
  let c2_i32_2893 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3927 : BitVec 32 := Scalar.muli c2_i32_2893 v2
  let c1_i32_2894 : BitVec 32 := 1#32
  let v3928 : BitVec 32 := Scalar.addi v3927 c1_i32_2894
  let c2_i32_2895 : BitVec 32 := 2#32
  let v3929 : BitVec 1 := Scalar.cmpi .slt v3928 c2_i32_2895
  let c3_i32_2896 : BitVec 32 := 3#32
  let c0_i32_2897 : BitVec 32 := 0#32
  let v3930 : BitVec 1 := Scalar.cmpi .eq c3_i32_2896 c0_i32_2897
  let c1_i32_2898 : BitVec 32 := 1#32
  let v3931 : BitVec 32 := Scalar.select v3930 c1_i32_2898 c3_i32_2896
  let v3932 : BitVec 32 := Scalar.remsi v3928 v3931
  let c0_i32_2900 : BitVec 32 := 0#32
  let v3934 : BitVec 1 := Scalar.cmpi .slt v3932 c0_i32_2900
  let c0_i32_2901 : BitVec 32 := 0#32
  let v3935 : BitVec 1 := Scalar.cmpi .slt v3931 c0_i32_2901
  let v3936 : BitVec 1 := Scalar.xori v3934 v3935
  let c0_i32_2899 : BitVec 32 := 0#32
  let v3933 : BitVec 1 := Scalar.cmpi .ne v3932 c0_i32_2899
  let v3937 : BitVec 1 := Scalar.andi v3936 v3933
  let v3938 : BitVec 32 := Scalar.addi v3932 v3931
  let v3939 : BitVec 32 := Scalar.select v3937 v3938 v3932
  let c1_i32_2902 : BitVec 32 := 1#32
  let v3940 : BitVec 1 := Scalar.cmpi .ne v3939 c1_i32_2902
  let v3941 : BitVec 1 := Scalar.ori v3929 v3940
  let v3942 : BitVec 32 := Scalar.extui v3941
  let c0_i32_2907 : BitVec 32 := 0#32
  let v3943 : BitVec 1 := Scalar.cmpi .ne v3942 c0_i32_2907
  v3943

def k0_off66 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v397 : BitVec 32 := Scalar.addi v2 c1_i32_335
  let c16_i32_336 : BitVec 32 := 16#32
  let c0_i32_337 : BitVec 32 := 0#32
  let v398 : BitVec 1 := Scalar.cmpi .eq c16_i32_336 c0_i32_337
  let c1_i32_338 : BitVec 32 := 1#32
  let v399 : BitVec 32 := Scalar.select v398 c1_i32_338 c16_i32_336
  let v400 : BitVec 32 := Scalar.remsi v397 v399
  let c0_i32_340 : BitVec 32 := 0#32
  let v402 : BitVec 1 := Scalar.cmpi .slt v400 c0_i32_340
  let c0_i32_341 : BitVec 32 := 0#32
  let v403 : BitVec 1 := Scalar.cmpi .slt v399 c0_i32_341
  let v404 : BitVec 1 := Scalar.xori v402 v403
  let c0_i32_339 : BitVec 32 := 0#32
  let v401 : BitVec 1 := Scalar.cmpi .ne v400 c0_i32_339
  let v405 : BitVec 1 := Scalar.andi v404 v401
  let v406 : BitVec 32 := Scalar.addi v400 v399
  let v407 : BitVec 32 := Scalar.select v405 v406 v400
  let c0_i32_3329 : BitVec 32 := 0#32
  let c64_i32_3330 : BitVec 32 := 64#32
  let c0_i32_3331 : BitVec 32 := 0#32
  ![v407.toNat, 0, 64, 0]
def k0_cond63 (d0 : Dev nD) : BitVec 1 :=
  let c2_i32_2908 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3944 : BitVec 32 := Scalar.muli c2_i32_2908 v2
  let c0_i32_2909 : BitVec 32 := 0#32
  let v3945 : BitVec 32 := Scalar.addi v3944 c0_i32_2909
  let c2_i32_2910 : BitVec 32 := 2#32
  let v3946 : BitVec 1 := Scalar.cmpi .slt v3945 c2_i32_2910
  let c3_i32_2911 : BitVec 32 := 3#32
  let c0_i32_2912 : BitVec 32 := 0#32
  let v3947 : BitVec 1 := Scalar.cmpi .eq c3_i32_2911 c0_i32_2912
  let c1_i32_2913 : BitVec 32 := 1#32
  let v3948 : BitVec 32 := Scalar.select v3947 c1_i32_2913 c3_i32_2911
  let v3949 : BitVec 32 := Scalar.remsi v3945 v3948
  let c0_i32_2915 : BitVec 32 := 0#32
  let v3951 : BitVec 1 := Scalar.cmpi .slt v3949 c0_i32_2915
  let c0_i32_2916 : BitVec 32 := 0#32
  let v3952 : BitVec 1 := Scalar.cmpi .slt v3948 c0_i32_2916
  let v3953 : BitVec 1 := Scalar.xori v3951 v3952
  let c0_i32_2914 : BitVec 32 := 0#32
  let v3950 : BitVec 1 := Scalar.cmpi .ne v3949 c0_i32_2914
  let v3954 : BitVec 1 := Scalar.andi v3953 v3950
  let v3955 : BitVec 32 := Scalar.addi v3949 v3948
  let v3956 : BitVec 32 := Scalar.select v3954 v3955 v3949
  let c1_i32_2917 : BitVec 32 := 1#32
  let v3957 : BitVec 1 := Scalar.cmpi .ne v3956 c1_i32_2917
  let v3958 : BitVec 1 := Scalar.ori v3946 v3957
  let v3959 : BitVec 32 := Scalar.extui v3958
  let c0_i32_2922 : BitVec 32 := 0#32
  let v3960 : BitVec 1 := Scalar.cmpi .ne v3959 c0_i32_2922
  v3960

def k0_off67 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_372 : BitVec 32 := 2#32
  let v442 : BitVec 32 := Scalar.addi v2 c2_i32_372
  let c16_i32_373 : BitVec 32 := 16#32
  let c0_i32_374 : BitVec 32 := 0#32
  let v443 : BitVec 1 := Scalar.cmpi .eq c16_i32_373 c0_i32_374
  let c1_i32_375 : BitVec 32 := 1#32
  let v444 : BitVec 32 := Scalar.select v443 c1_i32_375 c16_i32_373
  let v445 : BitVec 32 := Scalar.remsi v442 v444
  let c0_i32_377 : BitVec 32 := 0#32
  let v447 : BitVec 1 := Scalar.cmpi .slt v445 c0_i32_377
  let c0_i32_378 : BitVec 32 := 0#32
  let v448 : BitVec 1 := Scalar.cmpi .slt v444 c0_i32_378
  let v449 : BitVec 1 := Scalar.xori v447 v448
  let c0_i32_376 : BitVec 32 := 0#32
  let v446 : BitVec 1 := Scalar.cmpi .ne v445 c0_i32_376
  let v450 : BitVec 1 := Scalar.andi v449 v446
  let v451 : BitVec 32 := Scalar.addi v445 v444
  let v452 : BitVec 32 := Scalar.select v450 v451 v445
  let c0_i32_3329 : BitVec 32 := 0#32
  let c0_i32_3330 : BitVec 32 := 0#32
  let c0_i32_3331 : BitVec 32 := 0#32
  ![v452.toNat, 0, 0, 0]
def k0_cond64 (d0 : Dev nD) : BitVec 1 :=
  let c2_i32_2923 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3961 : BitVec 32 := Scalar.muli c2_i32_2923 v2
  let c1_i32_2924 : BitVec 32 := 1#32
  let v3962 : BitVec 32 := Scalar.addi v3961 c1_i32_2924
  let c2_i32_2925 : BitVec 32 := 2#32
  let v3963 : BitVec 1 := Scalar.cmpi .slt v3962 c2_i32_2925
  let c3_i32_2926 : BitVec 32 := 3#32
  let c0_i32_2927 : BitVec 32 := 0#32
  let v3964 : BitVec 1 := Scalar.cmpi .eq c3_i32_2926 c0_i32_2927
  let c1_i32_2928 : BitVec 32 := 1#32
  let v3965 : BitVec 32 := Scalar.select v3964 c1_i32_2928 c3_i32_2926
  let v3966 : BitVec 32 := Scalar.remsi v3962 v3965
  let c0_i32_2930 : BitVec 32 := 0#32
  let v3968 : BitVec 1 := Scalar.cmpi .slt v3966 c0_i32_2930
  let c0_i32_2931 : BitVec 32 := 0#32
  let v3969 : BitVec 1 := Scalar.cmpi .slt v3965 c0_i32_2931
  let v3970 : BitVec 1 := Scalar.xori v3968 v3969
  let c0_i32_2929 : BitVec 32 := 0#32
  let v3967 : BitVec 1 := Scalar.cmpi .ne v3966 c0_i32_2929
  let v3971 : BitVec 1 := Scalar.andi v3970 v3967
  let v3972 : BitVec 32 := Scalar.addi v3966 v3965
  let v3973 : BitVec 32 := Scalar.select v3971 v3972 v3966
  let c1_i32_2932 : BitVec 32 := 1#32
  let v3974 : BitVec 1 := Scalar.cmpi .ne v3973 c1_i32_2932
  let v3975 : BitVec 1 := Scalar.ori v3963 v3974
  let v3976 : BitVec 32 := Scalar.extui v3975
  let c0_i32_2937 : BitVec 32 := 0#32
  let v3977 : BitVec 1 := Scalar.cmpi .ne v3976 c0_i32_2937
  v3977

def k0_off68 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_372 : BitVec 32 := 2#32
  let v442 : BitVec 32 := Scalar.addi v2 c2_i32_372
  let c16_i32_373 : BitVec 32 := 16#32
  let c0_i32_374 : BitVec 32 := 0#32
  let v443 : BitVec 1 := Scalar.cmpi .eq c16_i32_373 c0_i32_374
  let c1_i32_375 : BitVec 32 := 1#32
  let v444 : BitVec 32 := Scalar.select v443 c1_i32_375 c16_i32_373
  let v445 : BitVec 32 := Scalar.remsi v442 v444
  let c0_i32_377 : BitVec 32 := 0#32
  let v447 : BitVec 1 := Scalar.cmpi .slt v445 c0_i32_377
  let c0_i32_378 : BitVec 32 := 0#32
  let v448 : BitVec 1 := Scalar.cmpi .slt v444 c0_i32_378
  let v449 : BitVec 1 := Scalar.xori v447 v448
  let c0_i32_376 : BitVec 32 := 0#32
  let v446 : BitVec 1 := Scalar.cmpi .ne v445 c0_i32_376
  let v450 : BitVec 1 := Scalar.andi v449 v446
  let v451 : BitVec 32 := Scalar.addi v445 v444
  let v452 : BitVec 32 := Scalar.select v450 v451 v445
  let c0_i32_3329 : BitVec 32 := 0#32
  let c64_i32_3330 : BitVec 32 := 64#32
  let c0_i32_3331 : BitVec 32 := 0#32
  ![v452.toNat, 0, 64, 0]
def k0_cond65 (d0 : Dev nD) : BitVec 1 :=
  let c2_i32_2938 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3978 : BitVec 32 := Scalar.muli c2_i32_2938 v2
  let c0_i32_2939 : BitVec 32 := 0#32
  let v3979 : BitVec 32 := Scalar.addi v3978 c0_i32_2939
  let c2_i32_2940 : BitVec 32 := 2#32
  let v3980 : BitVec 1 := Scalar.cmpi .slt v3979 c2_i32_2940
  let c3_i32_2941 : BitVec 32 := 3#32
  let c0_i32_2942 : BitVec 32 := 0#32
  let v3981 : BitVec 1 := Scalar.cmpi .eq c3_i32_2941 c0_i32_2942
  let c1_i32_2943 : BitVec 32 := 1#32
  let v3982 : BitVec 32 := Scalar.select v3981 c1_i32_2943 c3_i32_2941
  let v3983 : BitVec 32 := Scalar.remsi v3979 v3982
  let c0_i32_2945 : BitVec 32 := 0#32
  let v3985 : BitVec 1 := Scalar.cmpi .slt v3983 c0_i32_2945
  let c0_i32_2946 : BitVec 32 := 0#32
  let v3986 : BitVec 1 := Scalar.cmpi .slt v3982 c0_i32_2946
  let v3987 : BitVec 1 := Scalar.xori v3985 v3986
  let c0_i32_2944 : BitVec 32 := 0#32
  let v3984 : BitVec 1 := Scalar.cmpi .ne v3983 c0_i32_2944
  let v3988 : BitVec 1 := Scalar.andi v3987 v3984
  let v3989 : BitVec 32 := Scalar.addi v3983 v3982
  let v3990 : BitVec 32 := Scalar.select v3988 v3989 v3983
  let c1_i32_2947 : BitVec 32 := 1#32
  let v3991 : BitVec 1 := Scalar.cmpi .ne v3990 c1_i32_2947
  let v3992 : BitVec 1 := Scalar.ori v3980 v3991
  let v3993 : BitVec 32 := Scalar.extui v3992
  let c0_i32_2952 : BitVec 32 := 0#32
  let v3994 : BitVec 1 := Scalar.cmpi .ne v3993 c0_i32_2952
  v3994

def k0_off69 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v487 : BitVec 32 := Scalar.addi v2 c3_i32_409
  let c16_i32_410 : BitVec 32 := 16#32
  let c0_i32_411 : BitVec 32 := 0#32
  let v488 : BitVec 1 := Scalar.cmpi .eq c16_i32_410 c0_i32_411
  let c1_i32_412 : BitVec 32 := 1#32
  let v489 : BitVec 32 := Scalar.select v488 c1_i32_412 c16_i32_410
  let v490 : BitVec 32 := Scalar.remsi v487 v489
  let c0_i32_414 : BitVec 32 := 0#32
  let v492 : BitVec 1 := Scalar.cmpi .slt v490 c0_i32_414
  let c0_i32_415 : BitVec 32 := 0#32
  let v493 : BitVec 1 := Scalar.cmpi .slt v489 c0_i32_415
  let v494 : BitVec 1 := Scalar.xori v492 v493
  let c0_i32_413 : BitVec 32 := 0#32
  let v491 : BitVec 1 := Scalar.cmpi .ne v490 c0_i32_413
  let v495 : BitVec 1 := Scalar.andi v494 v491
  let v496 : BitVec 32 := Scalar.addi v490 v489
  let v497 : BitVec 32 := Scalar.select v495 v496 v490
  let c0_i32_3329 : BitVec 32 := 0#32
  let c0_i32_3330 : BitVec 32 := 0#32
  let c0_i32_3331 : BitVec 32 := 0#32
  ![v497.toNat, 0, 0, 0]
def k0_cond66 (d0 : Dev nD) : BitVec 1 :=
  let c2_i32_2953 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3995 : BitVec 32 := Scalar.muli c2_i32_2953 v2
  let c1_i32_2954 : BitVec 32 := 1#32
  let v3996 : BitVec 32 := Scalar.addi v3995 c1_i32_2954
  let c2_i32_2955 : BitVec 32 := 2#32
  let v3997 : BitVec 1 := Scalar.cmpi .slt v3996 c2_i32_2955
  let c3_i32_2956 : BitVec 32 := 3#32
  let c0_i32_2957 : BitVec 32 := 0#32
  let v3998 : BitVec 1 := Scalar.cmpi .eq c3_i32_2956 c0_i32_2957
  let c1_i32_2958 : BitVec 32 := 1#32
  let v3999 : BitVec 32 := Scalar.select v3998 c1_i32_2958 c3_i32_2956
  let v4000 : BitVec 32 := Scalar.remsi v3996 v3999
  let c0_i32_2960 : BitVec 32 := 0#32
  let v4002 : BitVec 1 := Scalar.cmpi .slt v4000 c0_i32_2960
  let c0_i32_2961 : BitVec 32 := 0#32
  let v4003 : BitVec 1 := Scalar.cmpi .slt v3999 c0_i32_2961
  let v4004 : BitVec 1 := Scalar.xori v4002 v4003
  let c0_i32_2959 : BitVec 32 := 0#32
  let v4001 : BitVec 1 := Scalar.cmpi .ne v4000 c0_i32_2959
  let v4005 : BitVec 1 := Scalar.andi v4004 v4001
  let v4006 : BitVec 32 := Scalar.addi v4000 v3999
  let v4007 : BitVec 32 := Scalar.select v4005 v4006 v4000
  let c1_i32_2962 : BitVec 32 := 1#32
  let v4008 : BitVec 1 := Scalar.cmpi .ne v4007 c1_i32_2962
  let v4009 : BitVec 1 := Scalar.ori v3997 v4008
  let v4010 : BitVec 32 := Scalar.extui v4009
  let c0_i32_2967 : BitVec 32 := 0#32
  let v4011 : BitVec 1 := Scalar.cmpi .ne v4010 c0_i32_2967
  v4011

def k0_off70 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_409 : BitVec 32 := 3#32
  let v487 : BitVec 32 := Scalar.addi v2 c3_i32_409
  let c16_i32_410 : BitVec 32 := 16#32
  let c0_i32_411 : BitVec 32 := 0#32
  let v488 : BitVec 1 := Scalar.cmpi .eq c16_i32_410 c0_i32_411
  let c1_i32_412 : BitVec 32 := 1#32
  let v489 : BitVec 32 := Scalar.select v488 c1_i32_412 c16_i32_410
  let v490 : BitVec 32 := Scalar.remsi v487 v489
  let c0_i32_414 : BitVec 32 := 0#32
  let v492 : BitVec 1 := Scalar.cmpi .slt v490 c0_i32_414
  let c0_i32_415 : BitVec 32 := 0#32
  let v493 : BitVec 1 := Scalar.cmpi .slt v489 c0_i32_415
  let v494 : BitVec 1 := Scalar.xori v492 v493
  let c0_i32_413 : BitVec 32 := 0#32
  let v491 : BitVec 1 := Scalar.cmpi .ne v490 c0_i32_413
  let v495 : BitVec 1 := Scalar.andi v494 v491
  let v496 : BitVec 32 := Scalar.addi v490 v489
  let v497 : BitVec 32 := Scalar.select v495 v496 v490
  let c0_i32_3329 : BitVec 32 := 0#32
  let c64_i32_3330 : BitVec 32 := 64#32
  let c0_i32_3331 : BitVec 32 := 0#32
  ![v497.toNat, 0, 64, 0]
def k0_cond67 (d0 : Dev nD) : BitVec 1 :=
  let c2_i32_2968 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4012 : BitVec 32 := Scalar.muli c2_i32_2968 v2
  let c0_i32_2969 : BitVec 32 := 0#32
  let v4013 : BitVec 32 := Scalar.addi v4012 c0_i32_2969
  let c2_i32_2970 : BitVec 32 := 2#32
  let v4014 : BitVec 1 := Scalar.cmpi .slt v4013 c2_i32_2970
  let c3_i32_2971 : BitVec 32 := 3#32
  let c0_i32_2972 : BitVec 32 := 0#32
  let v4015 : BitVec 1 := Scalar.cmpi .eq c3_i32_2971 c0_i32_2972
  let c1_i32_2973 : BitVec 32 := 1#32
  let v4016 : BitVec 32 := Scalar.select v4015 c1_i32_2973 c3_i32_2971
  let v4017 : BitVec 32 := Scalar.remsi v4013 v4016
  let c0_i32_2975 : BitVec 32 := 0#32
  let v4019 : BitVec 1 := Scalar.cmpi .slt v4017 c0_i32_2975
  let c0_i32_2976 : BitVec 32 := 0#32
  let v4020 : BitVec 1 := Scalar.cmpi .slt v4016 c0_i32_2976
  let v4021 : BitVec 1 := Scalar.xori v4019 v4020
  let c0_i32_2974 : BitVec 32 := 0#32
  let v4018 : BitVec 1 := Scalar.cmpi .ne v4017 c0_i32_2974
  let v4022 : BitVec 1 := Scalar.andi v4021 v4018
  let v4023 : BitVec 32 := Scalar.addi v4017 v4016
  let v4024 : BitVec 32 := Scalar.select v4022 v4023 v4017
  let c1_i32_2977 : BitVec 32 := 1#32
  let v4025 : BitVec 1 := Scalar.cmpi .ne v4024 c1_i32_2977
  let v4026 : BitVec 1 := Scalar.ori v4014 v4025
  let v4027 : BitVec 32 := Scalar.extui v4026
  let c0_i32_2982 : BitVec 32 := 0#32
  let v4028 : BitVec 1 := Scalar.cmpi .ne v4027 c0_i32_2982
  v4028

def k0_off71 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_446 : BitVec 32 := 4#32
  let v532 : BitVec 32 := Scalar.addi v2 c4_i32_446
  let c16_i32_447 : BitVec 32 := 16#32
  let c0_i32_448 : BitVec 32 := 0#32
  let v533 : BitVec 1 := Scalar.cmpi .eq c16_i32_447 c0_i32_448
  let c1_i32_449 : BitVec 32 := 1#32
  let v534 : BitVec 32 := Scalar.select v533 c1_i32_449 c16_i32_447
  let v535 : BitVec 32 := Scalar.remsi v532 v534
  let c0_i32_451 : BitVec 32 := 0#32
  let v537 : BitVec 1 := Scalar.cmpi .slt v535 c0_i32_451
  let c0_i32_452 : BitVec 32 := 0#32
  let v538 : BitVec 1 := Scalar.cmpi .slt v534 c0_i32_452
  let v539 : BitVec 1 := Scalar.xori v537 v538
  let c0_i32_450 : BitVec 32 := 0#32
  let v536 : BitVec 1 := Scalar.cmpi .ne v535 c0_i32_450
  let v540 : BitVec 1 := Scalar.andi v539 v536
  let v541 : BitVec 32 := Scalar.addi v535 v534
  let v542 : BitVec 32 := Scalar.select v540 v541 v535
  let c0_i32_3329 : BitVec 32 := 0#32
  let c0_i32_3330 : BitVec 32 := 0#32
  let c0_i32_3331 : BitVec 32 := 0#32
  ![v542.toNat, 0, 0, 0]
def k0_cond68 (d0 : Dev nD) : BitVec 1 :=
  let c2_i32_2983 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4029 : BitVec 32 := Scalar.muli c2_i32_2983 v2
  let c1_i32_2984 : BitVec 32 := 1#32
  let v4030 : BitVec 32 := Scalar.addi v4029 c1_i32_2984
  let c2_i32_2985 : BitVec 32 := 2#32
  let v4031 : BitVec 1 := Scalar.cmpi .slt v4030 c2_i32_2985
  let c3_i32_2986 : BitVec 32 := 3#32
  let c0_i32_2987 : BitVec 32 := 0#32
  let v4032 : BitVec 1 := Scalar.cmpi .eq c3_i32_2986 c0_i32_2987
  let c1_i32_2988 : BitVec 32 := 1#32
  let v4033 : BitVec 32 := Scalar.select v4032 c1_i32_2988 c3_i32_2986
  let v4034 : BitVec 32 := Scalar.remsi v4030 v4033
  let c0_i32_2990 : BitVec 32 := 0#32
  let v4036 : BitVec 1 := Scalar.cmpi .slt v4034 c0_i32_2990
  let c0_i32_2991 : BitVec 32 := 0#32
  let v4037 : BitVec 1 := Scalar.cmpi .slt v4033 c0_i32_2991
  let v4038 : BitVec 1 := Scalar.xori v4036 v4037
  let c0_i32_2989 : BitVec 32 := 0#32
  let v4035 : BitVec 1 := Scalar.cmpi .ne v4034 c0_i32_2989
  let v4039 : BitVec 1 := Scalar.andi v4038 v4035
  let v4040 : BitVec 32 := Scalar.addi v4034 v4033
  let v4041 : BitVec 32 := Scalar.select v4039 v4040 v4034
  let c1_i32_2992 : BitVec 32 := 1#32
  let v4042 : BitVec 1 := Scalar.cmpi .ne v4041 c1_i32_2992
  let v4043 : BitVec 1 := Scalar.ori v4031 v4042
  let v4044 : BitVec 32 := Scalar.extui v4043
  let c0_i32_2997 : BitVec 32 := 0#32
  let v4045 : BitVec 1 := Scalar.cmpi .ne v4044 c0_i32_2997
  v4045

def k0_off72 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_446 : BitVec 32 := 4#32
  let v532 : BitVec 32 := Scalar.addi v2 c4_i32_446
  let c16_i32_447 : BitVec 32 := 16#32
  let c0_i32_448 : BitVec 32 := 0#32
  let v533 : BitVec 1 := Scalar.cmpi .eq c16_i32_447 c0_i32_448
  let c1_i32_449 : BitVec 32 := 1#32
  let v534 : BitVec 32 := Scalar.select v533 c1_i32_449 c16_i32_447
  let v535 : BitVec 32 := Scalar.remsi v532 v534
  let c0_i32_451 : BitVec 32 := 0#32
  let v537 : BitVec 1 := Scalar.cmpi .slt v535 c0_i32_451
  let c0_i32_452 : BitVec 32 := 0#32
  let v538 : BitVec 1 := Scalar.cmpi .slt v534 c0_i32_452
  let v539 : BitVec 1 := Scalar.xori v537 v538
  let c0_i32_450 : BitVec 32 := 0#32
  let v536 : BitVec 1 := Scalar.cmpi .ne v535 c0_i32_450
  let v540 : BitVec 1 := Scalar.andi v539 v536
  let v541 : BitVec 32 := Scalar.addi v535 v534
  let v542 : BitVec 32 := Scalar.select v540 v541 v535
  let c0_i32_3329 : BitVec 32 := 0#32
  let c64_i32_3330 : BitVec 32 := 64#32
  let c0_i32_3331 : BitVec 32 := 0#32
  ![v542.toNat, 0, 64, 0]
def k0_cond69 (d0 : Dev nD) : BitVec 1 :=
  let c2_i32_2998 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4046 : BitVec 32 := Scalar.muli c2_i32_2998 v2
  let c0_i32_2999 : BitVec 32 := 0#32
  let v4047 : BitVec 32 := Scalar.addi v4046 c0_i32_2999
  let c2_i32_3000 : BitVec 32 := 2#32
  let v4048 : BitVec 1 := Scalar.cmpi .slt v4047 c2_i32_3000
  let c3_i32_3001 : BitVec 32 := 3#32
  let c0_i32_3002 : BitVec 32 := 0#32
  let v4049 : BitVec 1 := Scalar.cmpi .eq c3_i32_3001 c0_i32_3002
  let c1_i32_3003 : BitVec 32 := 1#32
  let v4050 : BitVec 32 := Scalar.select v4049 c1_i32_3003 c3_i32_3001
  let v4051 : BitVec 32 := Scalar.remsi v4047 v4050
  let c0_i32_3005 : BitVec 32 := 0#32
  let v4053 : BitVec 1 := Scalar.cmpi .slt v4051 c0_i32_3005
  let c0_i32_3006 : BitVec 32 := 0#32
  let v4054 : BitVec 1 := Scalar.cmpi .slt v4050 c0_i32_3006
  let v4055 : BitVec 1 := Scalar.xori v4053 v4054
  let c0_i32_3004 : BitVec 32 := 0#32
  let v4052 : BitVec 1 := Scalar.cmpi .ne v4051 c0_i32_3004
  let v4056 : BitVec 1 := Scalar.andi v4055 v4052
  let v4057 : BitVec 32 := Scalar.addi v4051 v4050
  let v4058 : BitVec 32 := Scalar.select v4056 v4057 v4051
  let c1_i32_3007 : BitVec 32 := 1#32
  let v4059 : BitVec 1 := Scalar.cmpi .ne v4058 c1_i32_3007
  let v4060 : BitVec 1 := Scalar.ori v4048 v4059
  let v4061 : BitVec 32 := Scalar.extui v4060
  let c0_i32_3012 : BitVec 32 := 0#32
  let v4062 : BitVec 1 := Scalar.cmpi .ne v4061 c0_i32_3012
  v4062

def k0_off73 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v577 : BitVec 32 := Scalar.addi v2 c5_i32_483
  let c16_i32_484 : BitVec 32 := 16#32
  let c0_i32_485 : BitVec 32 := 0#32
  let v578 : BitVec 1 := Scalar.cmpi .eq c16_i32_484 c0_i32_485
  let c1_i32_486 : BitVec 32 := 1#32
  let v579 : BitVec 32 := Scalar.select v578 c1_i32_486 c16_i32_484
  let v580 : BitVec 32 := Scalar.remsi v577 v579
  let c0_i32_488 : BitVec 32 := 0#32
  let v582 : BitVec 1 := Scalar.cmpi .slt v580 c0_i32_488
  let c0_i32_489 : BitVec 32 := 0#32
  let v583 : BitVec 1 := Scalar.cmpi .slt v579 c0_i32_489
  let v584 : BitVec 1 := Scalar.xori v582 v583
  let c0_i32_487 : BitVec 32 := 0#32
  let v581 : BitVec 1 := Scalar.cmpi .ne v580 c0_i32_487
  let v585 : BitVec 1 := Scalar.andi v584 v581
  let v586 : BitVec 32 := Scalar.addi v580 v579
  let v587 : BitVec 32 := Scalar.select v585 v586 v580
  let c0_i32_3329 : BitVec 32 := 0#32
  let c0_i32_3330 : BitVec 32 := 0#32
  let c0_i32_3331 : BitVec 32 := 0#32
  ![v587.toNat, 0, 0, 0]
def k0_cond70 (d0 : Dev nD) : BitVec 1 :=
  let c2_i32_3013 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4063 : BitVec 32 := Scalar.muli c2_i32_3013 v2
  let c1_i32_3014 : BitVec 32 := 1#32
  let v4064 : BitVec 32 := Scalar.addi v4063 c1_i32_3014
  let c2_i32_3015 : BitVec 32 := 2#32
  let v4065 : BitVec 1 := Scalar.cmpi .slt v4064 c2_i32_3015
  let c3_i32_3016 : BitVec 32 := 3#32
  let c0_i32_3017 : BitVec 32 := 0#32
  let v4066 : BitVec 1 := Scalar.cmpi .eq c3_i32_3016 c0_i32_3017
  let c1_i32_3018 : BitVec 32 := 1#32
  let v4067 : BitVec 32 := Scalar.select v4066 c1_i32_3018 c3_i32_3016
  let v4068 : BitVec 32 := Scalar.remsi v4064 v4067
  let c0_i32_3020 : BitVec 32 := 0#32
  let v4070 : BitVec 1 := Scalar.cmpi .slt v4068 c0_i32_3020
  let c0_i32_3021 : BitVec 32 := 0#32
  let v4071 : BitVec 1 := Scalar.cmpi .slt v4067 c0_i32_3021
  let v4072 : BitVec 1 := Scalar.xori v4070 v4071
  let c0_i32_3019 : BitVec 32 := 0#32
  let v4069 : BitVec 1 := Scalar.cmpi .ne v4068 c0_i32_3019
  let v4073 : BitVec 1 := Scalar.andi v4072 v4069
  let v4074 : BitVec 32 := Scalar.addi v4068 v4067
  let v4075 : BitVec 32 := Scalar.select v4073 v4074 v4068
  let c1_i32_3022 : BitVec 32 := 1#32
  let v4076 : BitVec 1 := Scalar.cmpi .ne v4075 c1_i32_3022
  let v4077 : BitVec 1 := Scalar.ori v4065 v4076
  let v4078 : BitVec 32 := Scalar.extui v4077
  let c0_i32_3027 : BitVec 32 := 0#32
  let v4079 : BitVec 1 := Scalar.cmpi .ne v4078 c0_i32_3027
  v4079

def k0_off74 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v577 : BitVec 32 := Scalar.addi v2 c5_i32_483
  let c16_i32_484 : BitVec 32 := 16#32
  let c0_i32_485 : BitVec 32 := 0#32
  let v578 : BitVec 1 := Scalar.cmpi .eq c16_i32_484 c0_i32_485
  let c1_i32_486 : BitVec 32 := 1#32
  let v579 : BitVec 32 := Scalar.select v578 c1_i32_486 c16_i32_484
  let v580 : BitVec 32 := Scalar.remsi v577 v579
  let c0_i32_488 : BitVec 32 := 0#32
  let v582 : BitVec 1 := Scalar.cmpi .slt v580 c0_i32_488
  let c0_i32_489 : BitVec 32 := 0#32
  let v583 : BitVec 1 := Scalar.cmpi .slt v579 c0_i32_489
  let v584 : BitVec 1 := Scalar.xori v582 v583
  let c0_i32_487 : BitVec 32 := 0#32
  let v581 : BitVec 1 := Scalar.cmpi .ne v580 c0_i32_487
  let v585 : BitVec 1 := Scalar.andi v584 v581
  let v586 : BitVec 32 := Scalar.addi v580 v579
  let v587 : BitVec 32 := Scalar.select v585 v586 v580
  let c0_i32_3329 : BitVec 32 := 0#32
  let c64_i32_3330 : BitVec 32 := 64#32
  let c0_i32_3331 : BitVec 32 := 0#32
  ![v587.toNat, 0, 64, 0]
def k0_cond71 (d0 : Dev nD) : BitVec 1 :=
  let c2_i32_3028 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4080 : BitVec 32 := Scalar.muli c2_i32_3028 v2
  let c0_i32_3029 : BitVec 32 := 0#32
  let v4081 : BitVec 32 := Scalar.addi v4080 c0_i32_3029
  let c2_i32_3030 : BitVec 32 := 2#32
  let v4082 : BitVec 1 := Scalar.cmpi .slt v4081 c2_i32_3030
  let c3_i32_3031 : BitVec 32 := 3#32
  let c0_i32_3032 : BitVec 32 := 0#32
  let v4083 : BitVec 1 := Scalar.cmpi .eq c3_i32_3031 c0_i32_3032
  let c1_i32_3033 : BitVec 32 := 1#32
  let v4084 : BitVec 32 := Scalar.select v4083 c1_i32_3033 c3_i32_3031
  let v4085 : BitVec 32 := Scalar.remsi v4081 v4084
  let c0_i32_3035 : BitVec 32 := 0#32
  let v4087 : BitVec 1 := Scalar.cmpi .slt v4085 c0_i32_3035
  let c0_i32_3036 : BitVec 32 := 0#32
  let v4088 : BitVec 1 := Scalar.cmpi .slt v4084 c0_i32_3036
  let v4089 : BitVec 1 := Scalar.xori v4087 v4088
  let c0_i32_3034 : BitVec 32 := 0#32
  let v4086 : BitVec 1 := Scalar.cmpi .ne v4085 c0_i32_3034
  let v4090 : BitVec 1 := Scalar.andi v4089 v4086
  let v4091 : BitVec 32 := Scalar.addi v4085 v4084
  let v4092 : BitVec 32 := Scalar.select v4090 v4091 v4085
  let c1_i32_3037 : BitVec 32 := 1#32
  let v4093 : BitVec 1 := Scalar.cmpi .ne v4092 c1_i32_3037
  let v4094 : BitVec 1 := Scalar.ori v4082 v4093
  let v4095 : BitVec 32 := Scalar.extui v4094
  let c0_i32_3042 : BitVec 32 := 0#32
  let v4096 : BitVec 1 := Scalar.cmpi .ne v4095 c0_i32_3042
  v4096

def k0_off75 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_520 : BitVec 32 := 6#32
  let v622 : BitVec 32 := Scalar.addi v2 c6_i32_520
  let c16_i32_521 : BitVec 32 := 16#32
  let c0_i32_522 : BitVec 32 := 0#32
  let v623 : BitVec 1 := Scalar.cmpi .eq c16_i32_521 c0_i32_522
  let c1_i32_523 : BitVec 32 := 1#32
  let v624 : BitVec 32 := Scalar.select v623 c1_i32_523 c16_i32_521
  let v625 : BitVec 32 := Scalar.remsi v622 v624
  let c0_i32_525 : BitVec 32 := 0#32
  let v627 : BitVec 1 := Scalar.cmpi .slt v625 c0_i32_525
  let c0_i32_526 : BitVec 32 := 0#32
  let v628 : BitVec 1 := Scalar.cmpi .slt v624 c0_i32_526
  let v629 : BitVec 1 := Scalar.xori v627 v628
  let c0_i32_524 : BitVec 32 := 0#32
  let v626 : BitVec 1 := Scalar.cmpi .ne v625 c0_i32_524
  let v630 : BitVec 1 := Scalar.andi v629 v626
  let v631 : BitVec 32 := Scalar.addi v625 v624
  let v632 : BitVec 32 := Scalar.select v630 v631 v625
  let c0_i32_3329 : BitVec 32 := 0#32
  let c0_i32_3330 : BitVec 32 := 0#32
  let c0_i32_3331 : BitVec 32 := 0#32
  ![v632.toNat, 0, 0, 0]
def k0_cond72 (d0 : Dev nD) : BitVec 1 :=
  let c2_i32_3043 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4097 : BitVec 32 := Scalar.muli c2_i32_3043 v2
  let c1_i32_3044 : BitVec 32 := 1#32
  let v4098 : BitVec 32 := Scalar.addi v4097 c1_i32_3044
  let c2_i32_3045 : BitVec 32 := 2#32
  let v4099 : BitVec 1 := Scalar.cmpi .slt v4098 c2_i32_3045
  let c3_i32_3046 : BitVec 32 := 3#32
  let c0_i32_3047 : BitVec 32 := 0#32
  let v4100 : BitVec 1 := Scalar.cmpi .eq c3_i32_3046 c0_i32_3047
  let c1_i32_3048 : BitVec 32 := 1#32
  let v4101 : BitVec 32 := Scalar.select v4100 c1_i32_3048 c3_i32_3046
  let v4102 : BitVec 32 := Scalar.remsi v4098 v4101
  let c0_i32_3050 : BitVec 32 := 0#32
  let v4104 : BitVec 1 := Scalar.cmpi .slt v4102 c0_i32_3050
  let c0_i32_3051 : BitVec 32 := 0#32
  let v4105 : BitVec 1 := Scalar.cmpi .slt v4101 c0_i32_3051
  let v4106 : BitVec 1 := Scalar.xori v4104 v4105
  let c0_i32_3049 : BitVec 32 := 0#32
  let v4103 : BitVec 1 := Scalar.cmpi .ne v4102 c0_i32_3049
  let v4107 : BitVec 1 := Scalar.andi v4106 v4103
  let v4108 : BitVec 32 := Scalar.addi v4102 v4101
  let v4109 : BitVec 32 := Scalar.select v4107 v4108 v4102
  let c1_i32_3052 : BitVec 32 := 1#32
  let v4110 : BitVec 1 := Scalar.cmpi .ne v4109 c1_i32_3052
  let v4111 : BitVec 1 := Scalar.ori v4099 v4110
  let v4112 : BitVec 32 := Scalar.extui v4111
  let c0_i32_3057 : BitVec 32 := 0#32
  let v4113 : BitVec 1 := Scalar.cmpi .ne v4112 c0_i32_3057
  v4113

def k0_off76 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_520 : BitVec 32 := 6#32
  let v622 : BitVec 32 := Scalar.addi v2 c6_i32_520
  let c16_i32_521 : BitVec 32 := 16#32
  let c0_i32_522 : BitVec 32 := 0#32
  let v623 : BitVec 1 := Scalar.cmpi .eq c16_i32_521 c0_i32_522
  let c1_i32_523 : BitVec 32 := 1#32
  let v624 : BitVec 32 := Scalar.select v623 c1_i32_523 c16_i32_521
  let v625 : BitVec 32 := Scalar.remsi v622 v624
  let c0_i32_525 : BitVec 32 := 0#32
  let v627 : BitVec 1 := Scalar.cmpi .slt v625 c0_i32_525
  let c0_i32_526 : BitVec 32 := 0#32
  let v628 : BitVec 1 := Scalar.cmpi .slt v624 c0_i32_526
  let v629 : BitVec 1 := Scalar.xori v627 v628
  let c0_i32_524 : BitVec 32 := 0#32
  let v626 : BitVec 1 := Scalar.cmpi .ne v625 c0_i32_524
  let v630 : BitVec 1 := Scalar.andi v629 v626
  let v631 : BitVec 32 := Scalar.addi v625 v624
  let v632 : BitVec 32 := Scalar.select v630 v631 v625
  let c0_i32_3329 : BitVec 32 := 0#32
  let c64_i32_3330 : BitVec 32 := 64#32
  let c0_i32_3331 : BitVec 32 := 0#32
  ![v632.toNat, 0, 64, 0]
def k0_cond73 (d0 : Dev nD) : BitVec 1 :=
  let c2_i32_3058 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4114 : BitVec 32 := Scalar.muli c2_i32_3058 v2
  let c0_i32_3059 : BitVec 32 := 0#32
  let v4115 : BitVec 32 := Scalar.addi v4114 c0_i32_3059
  let c2_i32_3060 : BitVec 32 := 2#32
  let v4116 : BitVec 1 := Scalar.cmpi .slt v4115 c2_i32_3060
  let c3_i32_3061 : BitVec 32 := 3#32
  let c0_i32_3062 : BitVec 32 := 0#32
  let v4117 : BitVec 1 := Scalar.cmpi .eq c3_i32_3061 c0_i32_3062
  let c1_i32_3063 : BitVec 32 := 1#32
  let v4118 : BitVec 32 := Scalar.select v4117 c1_i32_3063 c3_i32_3061
  let v4119 : BitVec 32 := Scalar.remsi v4115 v4118
  let c0_i32_3065 : BitVec 32 := 0#32
  let v4121 : BitVec 1 := Scalar.cmpi .slt v4119 c0_i32_3065
  let c0_i32_3066 : BitVec 32 := 0#32
  let v4122 : BitVec 1 := Scalar.cmpi .slt v4118 c0_i32_3066
  let v4123 : BitVec 1 := Scalar.xori v4121 v4122
  let c0_i32_3064 : BitVec 32 := 0#32
  let v4120 : BitVec 1 := Scalar.cmpi .ne v4119 c0_i32_3064
  let v4124 : BitVec 1 := Scalar.andi v4123 v4120
  let v4125 : BitVec 32 := Scalar.addi v4119 v4118
  let v4126 : BitVec 32 := Scalar.select v4124 v4125 v4119
  let c1_i32_3067 : BitVec 32 := 1#32
  let v4127 : BitVec 1 := Scalar.cmpi .ne v4126 c1_i32_3067
  let v4128 : BitVec 1 := Scalar.ori v4116 v4127
  let v4129 : BitVec 32 := Scalar.extui v4128
  let c0_i32_3072 : BitVec 32 := 0#32
  let v4130 : BitVec 1 := Scalar.cmpi .ne v4129 c0_i32_3072
  v4130

def k0_off77 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_557 : BitVec 32 := 7#32
  let v667 : BitVec 32 := Scalar.addi v2 c7_i32_557
  let c16_i32_558 : BitVec 32 := 16#32
  let c0_i32_559 : BitVec 32 := 0#32
  let v668 : BitVec 1 := Scalar.cmpi .eq c16_i32_558 c0_i32_559
  let c1_i32_560 : BitVec 32 := 1#32
  let v669 : BitVec 32 := Scalar.select v668 c1_i32_560 c16_i32_558
  let v670 : BitVec 32 := Scalar.remsi v667 v669
  let c0_i32_562 : BitVec 32 := 0#32
  let v672 : BitVec 1 := Scalar.cmpi .slt v670 c0_i32_562
  let c0_i32_563 : BitVec 32 := 0#32
  let v673 : BitVec 1 := Scalar.cmpi .slt v669 c0_i32_563
  let v674 : BitVec 1 := Scalar.xori v672 v673
  let c0_i32_561 : BitVec 32 := 0#32
  let v671 : BitVec 1 := Scalar.cmpi .ne v670 c0_i32_561
  let v675 : BitVec 1 := Scalar.andi v674 v671
  let v676 : BitVec 32 := Scalar.addi v670 v669
  let v677 : BitVec 32 := Scalar.select v675 v676 v670
  let c0_i32_3329 : BitVec 32 := 0#32
  let c0_i32_3330 : BitVec 32 := 0#32
  let c0_i32_3331 : BitVec 32 := 0#32
  ![v677.toNat, 0, 0, 0]
def k0_cond74 (d0 : Dev nD) : BitVec 1 :=
  let c2_i32_3073 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4131 : BitVec 32 := Scalar.muli c2_i32_3073 v2
  let c1_i32_3074 : BitVec 32 := 1#32
  let v4132 : BitVec 32 := Scalar.addi v4131 c1_i32_3074
  let c2_i32_3075 : BitVec 32 := 2#32
  let v4133 : BitVec 1 := Scalar.cmpi .slt v4132 c2_i32_3075
  let c3_i32_3076 : BitVec 32 := 3#32
  let c0_i32_3077 : BitVec 32 := 0#32
  let v4134 : BitVec 1 := Scalar.cmpi .eq c3_i32_3076 c0_i32_3077
  let c1_i32_3078 : BitVec 32 := 1#32
  let v4135 : BitVec 32 := Scalar.select v4134 c1_i32_3078 c3_i32_3076
  let v4136 : BitVec 32 := Scalar.remsi v4132 v4135
  let c0_i32_3080 : BitVec 32 := 0#32
  let v4138 : BitVec 1 := Scalar.cmpi .slt v4136 c0_i32_3080
  let c0_i32_3081 : BitVec 32 := 0#32
  let v4139 : BitVec 1 := Scalar.cmpi .slt v4135 c0_i32_3081
  let v4140 : BitVec 1 := Scalar.xori v4138 v4139
  let c0_i32_3079 : BitVec 32 := 0#32
  let v4137 : BitVec 1 := Scalar.cmpi .ne v4136 c0_i32_3079
  let v4141 : BitVec 1 := Scalar.andi v4140 v4137
  let v4142 : BitVec 32 := Scalar.addi v4136 v4135
  let v4143 : BitVec 32 := Scalar.select v4141 v4142 v4136
  let c1_i32_3082 : BitVec 32 := 1#32
  let v4144 : BitVec 1 := Scalar.cmpi .ne v4143 c1_i32_3082
  let v4145 : BitVec 1 := Scalar.ori v4133 v4144
  let v4146 : BitVec 32 := Scalar.extui v4145
  let c0_i32_3087 : BitVec 32 := 0#32
  let v4147 : BitVec 1 := Scalar.cmpi .ne v4146 c0_i32_3087
  v4147

def k0_off78 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_557 : BitVec 32 := 7#32
  let v667 : BitVec 32 := Scalar.addi v2 c7_i32_557
  let c16_i32_558 : BitVec 32 := 16#32
  let c0_i32_559 : BitVec 32 := 0#32
  let v668 : BitVec 1 := Scalar.cmpi .eq c16_i32_558 c0_i32_559
  let c1_i32_560 : BitVec 32 := 1#32
  let v669 : BitVec 32 := Scalar.select v668 c1_i32_560 c16_i32_558
  let v670 : BitVec 32 := Scalar.remsi v667 v669
  let c0_i32_562 : BitVec 32 := 0#32
  let v672 : BitVec 1 := Scalar.cmpi .slt v670 c0_i32_562
  let c0_i32_563 : BitVec 32 := 0#32
  let v673 : BitVec 1 := Scalar.cmpi .slt v669 c0_i32_563
  let v674 : BitVec 1 := Scalar.xori v672 v673
  let c0_i32_561 : BitVec 32 := 0#32
  let v671 : BitVec 1 := Scalar.cmpi .ne v670 c0_i32_561
  let v675 : BitVec 1 := Scalar.andi v674 v671
  let v676 : BitVec 32 := Scalar.addi v670 v669
  let v677 : BitVec 32 := Scalar.select v675 v676 v670
  let c0_i32_3329 : BitVec 32 := 0#32
  let c64_i32_3330 : BitVec 32 := 64#32
  let c0_i32_3331 : BitVec 32 := 0#32
  ![v677.toNat, 0, 64, 0]
def k0_cond75 (d0 : Dev nD) : BitVec 1 :=
  let c2_i32_3088 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4148 : BitVec 32 := Scalar.muli c2_i32_3088 v2
  let c0_i32_3089 : BitVec 32 := 0#32
  let v4149 : BitVec 32 := Scalar.addi v4148 c0_i32_3089
  let c2_i32_3090 : BitVec 32 := 2#32
  let v4150 : BitVec 1 := Scalar.cmpi .slt v4149 c2_i32_3090
  let c3_i32_3091 : BitVec 32 := 3#32
  let c0_i32_3092 : BitVec 32 := 0#32
  let v4151 : BitVec 1 := Scalar.cmpi .eq c3_i32_3091 c0_i32_3092
  let c1_i32_3093 : BitVec 32 := 1#32
  let v4152 : BitVec 32 := Scalar.select v4151 c1_i32_3093 c3_i32_3091
  let v4153 : BitVec 32 := Scalar.remsi v4149 v4152
  let c0_i32_3095 : BitVec 32 := 0#32
  let v4155 : BitVec 1 := Scalar.cmpi .slt v4153 c0_i32_3095
  let c0_i32_3096 : BitVec 32 := 0#32
  let v4156 : BitVec 1 := Scalar.cmpi .slt v4152 c0_i32_3096
  let v4157 : BitVec 1 := Scalar.xori v4155 v4156
  let c0_i32_3094 : BitVec 32 := 0#32
  let v4154 : BitVec 1 := Scalar.cmpi .ne v4153 c0_i32_3094
  let v4158 : BitVec 1 := Scalar.andi v4157 v4154
  let v4159 : BitVec 32 := Scalar.addi v4153 v4152
  let v4160 : BitVec 32 := Scalar.select v4158 v4159 v4153
  let c1_i32_3097 : BitVec 32 := 1#32
  let v4161 : BitVec 1 := Scalar.cmpi .ne v4160 c1_i32_3097
  let v4162 : BitVec 1 := Scalar.ori v4150 v4161
  let v4163 : BitVec 32 := Scalar.extui v4162
  let c0_i32_3102 : BitVec 32 := 0#32
  let v4164 : BitVec 1 := Scalar.cmpi .ne v4163 c0_i32_3102
  v4164

def k0_off79 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v712 : BitVec 32 := Scalar.addi v2 c8_i32_594
  let c16_i32_595 : BitVec 32 := 16#32
  let c0_i32_596 : BitVec 32 := 0#32
  let v713 : BitVec 1 := Scalar.cmpi .eq c16_i32_595 c0_i32_596
  let c1_i32_597 : BitVec 32 := 1#32
  let v714 : BitVec 32 := Scalar.select v713 c1_i32_597 c16_i32_595
  let v715 : BitVec 32 := Scalar.remsi v712 v714
  let c0_i32_599 : BitVec 32 := 0#32
  let v717 : BitVec 1 := Scalar.cmpi .slt v715 c0_i32_599
  let c0_i32_600 : BitVec 32 := 0#32
  let v718 : BitVec 1 := Scalar.cmpi .slt v714 c0_i32_600
  let v719 : BitVec 1 := Scalar.xori v717 v718
  let c0_i32_598 : BitVec 32 := 0#32
  let v716 : BitVec 1 := Scalar.cmpi .ne v715 c0_i32_598
  let v720 : BitVec 1 := Scalar.andi v719 v716
  let v721 : BitVec 32 := Scalar.addi v715 v714
  let v722 : BitVec 32 := Scalar.select v720 v721 v715
  let c0_i32_3329 : BitVec 32 := 0#32
  let c0_i32_3330 : BitVec 32 := 0#32
  let c0_i32_3331 : BitVec 32 := 0#32
  ![v722.toNat, 0, 0, 0]
def k0_cond76 (d0 : Dev nD) : BitVec 1 :=
  let c2_i32_3103 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4165 : BitVec 32 := Scalar.muli c2_i32_3103 v2
  let c1_i32_3104 : BitVec 32 := 1#32
  let v4166 : BitVec 32 := Scalar.addi v4165 c1_i32_3104
  let c2_i32_3105 : BitVec 32 := 2#32
  let v4167 : BitVec 1 := Scalar.cmpi .slt v4166 c2_i32_3105
  let c3_i32_3106 : BitVec 32 := 3#32
  let c0_i32_3107 : BitVec 32 := 0#32
  let v4168 : BitVec 1 := Scalar.cmpi .eq c3_i32_3106 c0_i32_3107
  let c1_i32_3108 : BitVec 32 := 1#32
  let v4169 : BitVec 32 := Scalar.select v4168 c1_i32_3108 c3_i32_3106
  let v4170 : BitVec 32 := Scalar.remsi v4166 v4169
  let c0_i32_3110 : BitVec 32 := 0#32
  let v4172 : BitVec 1 := Scalar.cmpi .slt v4170 c0_i32_3110
  let c0_i32_3111 : BitVec 32 := 0#32
  let v4173 : BitVec 1 := Scalar.cmpi .slt v4169 c0_i32_3111
  let v4174 : BitVec 1 := Scalar.xori v4172 v4173
  let c0_i32_3109 : BitVec 32 := 0#32
  let v4171 : BitVec 1 := Scalar.cmpi .ne v4170 c0_i32_3109
  let v4175 : BitVec 1 := Scalar.andi v4174 v4171
  let v4176 : BitVec 32 := Scalar.addi v4170 v4169
  let v4177 : BitVec 32 := Scalar.select v4175 v4176 v4170
  let c1_i32_3112 : BitVec 32 := 1#32
  let v4178 : BitVec 1 := Scalar.cmpi .ne v4177 c1_i32_3112
  let v4179 : BitVec 1 := Scalar.ori v4167 v4178
  let v4180 : BitVec 32 := Scalar.extui v4179
  let c0_i32_3117 : BitVec 32 := 0#32
  let v4181 : BitVec 1 := Scalar.cmpi .ne v4180 c0_i32_3117
  v4181

def k0_off80 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v712 : BitVec 32 := Scalar.addi v2 c8_i32_594
  let c16_i32_595 : BitVec 32 := 16#32
  let c0_i32_596 : BitVec 32 := 0#32
  let v713 : BitVec 1 := Scalar.cmpi .eq c16_i32_595 c0_i32_596
  let c1_i32_597 : BitVec 32 := 1#32
  let v714 : BitVec 32 := Scalar.select v713 c1_i32_597 c16_i32_595
  let v715 : BitVec 32 := Scalar.remsi v712 v714
  let c0_i32_599 : BitVec 32 := 0#32
  let v717 : BitVec 1 := Scalar.cmpi .slt v715 c0_i32_599
  let c0_i32_600 : BitVec 32 := 0#32
  let v718 : BitVec 1 := Scalar.cmpi .slt v714 c0_i32_600
  let v719 : BitVec 1 := Scalar.xori v717 v718
  let c0_i32_598 : BitVec 32 := 0#32
  let v716 : BitVec 1 := Scalar.cmpi .ne v715 c0_i32_598
  let v720 : BitVec 1 := Scalar.andi v719 v716
  let v721 : BitVec 32 := Scalar.addi v715 v714
  let v722 : BitVec 32 := Scalar.select v720 v721 v715
  let c0_i32_3329 : BitVec 32 := 0#32
  let c64_i32_3330 : BitVec 32 := 64#32
  let c0_i32_3331 : BitVec 32 := 0#32
  ![v722.toNat, 0, 64, 0]
def k0_cond77 (d0 : Dev nD) : BitVec 1 :=
  let c2_i32_3118 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4182 : BitVec 32 := Scalar.muli c2_i32_3118 v2
  let c0_i32_3119 : BitVec 32 := 0#32
  let v4183 : BitVec 32 := Scalar.addi v4182 c0_i32_3119
  let c2_i32_3120 : BitVec 32 := 2#32
  let v4184 : BitVec 1 := Scalar.cmpi .slt v4183 c2_i32_3120
  let c3_i32_3121 : BitVec 32 := 3#32
  let c0_i32_3122 : BitVec 32 := 0#32
  let v4185 : BitVec 1 := Scalar.cmpi .eq c3_i32_3121 c0_i32_3122
  let c1_i32_3123 : BitVec 32 := 1#32
  let v4186 : BitVec 32 := Scalar.select v4185 c1_i32_3123 c3_i32_3121
  let v4187 : BitVec 32 := Scalar.remsi v4183 v4186
  let c0_i32_3125 : BitVec 32 := 0#32
  let v4189 : BitVec 1 := Scalar.cmpi .slt v4187 c0_i32_3125
  let c0_i32_3126 : BitVec 32 := 0#32
  let v4190 : BitVec 1 := Scalar.cmpi .slt v4186 c0_i32_3126
  let v4191 : BitVec 1 := Scalar.xori v4189 v4190
  let c0_i32_3124 : BitVec 32 := 0#32
  let v4188 : BitVec 1 := Scalar.cmpi .ne v4187 c0_i32_3124
  let v4192 : BitVec 1 := Scalar.andi v4191 v4188
  let v4193 : BitVec 32 := Scalar.addi v4187 v4186
  let v4194 : BitVec 32 := Scalar.select v4192 v4193 v4187
  let c1_i32_3127 : BitVec 32 := 1#32
  let v4195 : BitVec 1 := Scalar.cmpi .ne v4194 c1_i32_3127
  let v4196 : BitVec 1 := Scalar.ori v4184 v4195
  let v4197 : BitVec 32 := Scalar.extui v4196
  let c0_i32_3132 : BitVec 32 := 0#32
  let v4198 : BitVec 1 := Scalar.cmpi .ne v4197 c0_i32_3132
  v4198

def k0_off81 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v757 : BitVec 32 := Scalar.addi v2 c9_i32_631
  let c16_i32_632 : BitVec 32 := 16#32
  let c0_i32_633 : BitVec 32 := 0#32
  let v758 : BitVec 1 := Scalar.cmpi .eq c16_i32_632 c0_i32_633
  let c1_i32_634 : BitVec 32 := 1#32
  let v759 : BitVec 32 := Scalar.select v758 c1_i32_634 c16_i32_632
  let v760 : BitVec 32 := Scalar.remsi v757 v759
  let c0_i32_636 : BitVec 32 := 0#32
  let v762 : BitVec 1 := Scalar.cmpi .slt v760 c0_i32_636
  let c0_i32_637 : BitVec 32 := 0#32
  let v763 : BitVec 1 := Scalar.cmpi .slt v759 c0_i32_637
  let v764 : BitVec 1 := Scalar.xori v762 v763
  let c0_i32_635 : BitVec 32 := 0#32
  let v761 : BitVec 1 := Scalar.cmpi .ne v760 c0_i32_635
  let v765 : BitVec 1 := Scalar.andi v764 v761
  let v766 : BitVec 32 := Scalar.addi v760 v759
  let v767 : BitVec 32 := Scalar.select v765 v766 v760
  let c0_i32_3329 : BitVec 32 := 0#32
  let c0_i32_3330 : BitVec 32 := 0#32
  let c0_i32_3331 : BitVec 32 := 0#32
  ![v767.toNat, 0, 0, 0]
def k0_cond78 (d0 : Dev nD) : BitVec 1 :=
  let c2_i32_3133 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4199 : BitVec 32 := Scalar.muli c2_i32_3133 v2
  let c1_i32_3134 : BitVec 32 := 1#32
  let v4200 : BitVec 32 := Scalar.addi v4199 c1_i32_3134
  let c2_i32_3135 : BitVec 32 := 2#32
  let v4201 : BitVec 1 := Scalar.cmpi .slt v4200 c2_i32_3135
  let c3_i32_3136 : BitVec 32 := 3#32
  let c0_i32_3137 : BitVec 32 := 0#32
  let v4202 : BitVec 1 := Scalar.cmpi .eq c3_i32_3136 c0_i32_3137
  let c1_i32_3138 : BitVec 32 := 1#32
  let v4203 : BitVec 32 := Scalar.select v4202 c1_i32_3138 c3_i32_3136
  let v4204 : BitVec 32 := Scalar.remsi v4200 v4203
  let c0_i32_3140 : BitVec 32 := 0#32
  let v4206 : BitVec 1 := Scalar.cmpi .slt v4204 c0_i32_3140
  let c0_i32_3141 : BitVec 32 := 0#32
  let v4207 : BitVec 1 := Scalar.cmpi .slt v4203 c0_i32_3141
  let v4208 : BitVec 1 := Scalar.xori v4206 v4207
  let c0_i32_3139 : BitVec 32 := 0#32
  let v4205 : BitVec 1 := Scalar.cmpi .ne v4204 c0_i32_3139
  let v4209 : BitVec 1 := Scalar.andi v4208 v4205
  let v4210 : BitVec 32 := Scalar.addi v4204 v4203
  let v4211 : BitVec 32 := Scalar.select v4209 v4210 v4204
  let c1_i32_3142 : BitVec 32 := 1#32
  let v4212 : BitVec 1 := Scalar.cmpi .ne v4211 c1_i32_3142
  let v4213 : BitVec 1 := Scalar.ori v4201 v4212
  let v4214 : BitVec 32 := Scalar.extui v4213
  let c0_i32_3147 : BitVec 32 := 0#32
  let v4215 : BitVec 1 := Scalar.cmpi .ne v4214 c0_i32_3147
  v4215

def k0_off82 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v757 : BitVec 32 := Scalar.addi v2 c9_i32_631
  let c16_i32_632 : BitVec 32 := 16#32
  let c0_i32_633 : BitVec 32 := 0#32
  let v758 : BitVec 1 := Scalar.cmpi .eq c16_i32_632 c0_i32_633
  let c1_i32_634 : BitVec 32 := 1#32
  let v759 : BitVec 32 := Scalar.select v758 c1_i32_634 c16_i32_632
  let v760 : BitVec 32 := Scalar.remsi v757 v759
  let c0_i32_636 : BitVec 32 := 0#32
  let v762 : BitVec 1 := Scalar.cmpi .slt v760 c0_i32_636
  let c0_i32_637 : BitVec 32 := 0#32
  let v763 : BitVec 1 := Scalar.cmpi .slt v759 c0_i32_637
  let v764 : BitVec 1 := Scalar.xori v762 v763
  let c0_i32_635 : BitVec 32 := 0#32
  let v761 : BitVec 1 := Scalar.cmpi .ne v760 c0_i32_635
  let v765 : BitVec 1 := Scalar.andi v764 v761
  let v766 : BitVec 32 := Scalar.addi v760 v759
  let v767 : BitVec 32 := Scalar.select v765 v766 v760
  let c0_i32_3329 : BitVec 32 := 0#32
  let c64_i32_3330 : BitVec 32 := 64#32
  let c0_i32_3331 : BitVec 32 := 0#32
  ![v767.toNat, 0, 64, 0]
def k0_cond79 (d0 : Dev nD) : BitVec 1 :=
  let c2_i32_3148 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4216 : BitVec 32 := Scalar.muli c2_i32_3148 v2
  let c0_i32_3149 : BitVec 32 := 0#32
  let v4217 : BitVec 32 := Scalar.addi v4216 c0_i32_3149
  let c2_i32_3150 : BitVec 32 := 2#32
  let v4218 : BitVec 1 := Scalar.cmpi .slt v4217 c2_i32_3150
  let c3_i32_3151 : BitVec 32 := 3#32
  let c0_i32_3152 : BitVec 32 := 0#32
  let v4219 : BitVec 1 := Scalar.cmpi .eq c3_i32_3151 c0_i32_3152
  let c1_i32_3153 : BitVec 32 := 1#32
  let v4220 : BitVec 32 := Scalar.select v4219 c1_i32_3153 c3_i32_3151
  let v4221 : BitVec 32 := Scalar.remsi v4217 v4220
  let c0_i32_3155 : BitVec 32 := 0#32
  let v4223 : BitVec 1 := Scalar.cmpi .slt v4221 c0_i32_3155
  let c0_i32_3156 : BitVec 32 := 0#32
  let v4224 : BitVec 1 := Scalar.cmpi .slt v4220 c0_i32_3156
  let v4225 : BitVec 1 := Scalar.xori v4223 v4224
  let c0_i32_3154 : BitVec 32 := 0#32
  let v4222 : BitVec 1 := Scalar.cmpi .ne v4221 c0_i32_3154
  let v4226 : BitVec 1 := Scalar.andi v4225 v4222
  let v4227 : BitVec 32 := Scalar.addi v4221 v4220
  let v4228 : BitVec 32 := Scalar.select v4226 v4227 v4221
  let c1_i32_3157 : BitVec 32 := 1#32
  let v4229 : BitVec 1 := Scalar.cmpi .ne v4228 c1_i32_3157
  let v4230 : BitVec 1 := Scalar.ori v4218 v4229
  let v4231 : BitVec 32 := Scalar.extui v4230
  let c0_i32_3162 : BitVec 32 := 0#32
  let v4232 : BitVec 1 := Scalar.cmpi .ne v4231 c0_i32_3162
  v4232

def k0_off83 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_668 : BitVec 32 := 10#32
  let v802 : BitVec 32 := Scalar.addi v2 c10_i32_668
  let c16_i32_669 : BitVec 32 := 16#32
  let c0_i32_670 : BitVec 32 := 0#32
  let v803 : BitVec 1 := Scalar.cmpi .eq c16_i32_669 c0_i32_670
  let c1_i32_671 : BitVec 32 := 1#32
  let v804 : BitVec 32 := Scalar.select v803 c1_i32_671 c16_i32_669
  let v805 : BitVec 32 := Scalar.remsi v802 v804
  let c0_i32_673 : BitVec 32 := 0#32
  let v807 : BitVec 1 := Scalar.cmpi .slt v805 c0_i32_673
  let c0_i32_674 : BitVec 32 := 0#32
  let v808 : BitVec 1 := Scalar.cmpi .slt v804 c0_i32_674
  let v809 : BitVec 1 := Scalar.xori v807 v808
  let c0_i32_672 : BitVec 32 := 0#32
  let v806 : BitVec 1 := Scalar.cmpi .ne v805 c0_i32_672
  let v810 : BitVec 1 := Scalar.andi v809 v806
  let v811 : BitVec 32 := Scalar.addi v805 v804
  let v812 : BitVec 32 := Scalar.select v810 v811 v805
  let c0_i32_3329 : BitVec 32 := 0#32
  let c0_i32_3330 : BitVec 32 := 0#32
  let c0_i32_3331 : BitVec 32 := 0#32
  ![v812.toNat, 0, 0, 0]
def k0_cond80 (d0 : Dev nD) : BitVec 1 :=
  let c2_i32_3163 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4233 : BitVec 32 := Scalar.muli c2_i32_3163 v2
  let c1_i32_3164 : BitVec 32 := 1#32
  let v4234 : BitVec 32 := Scalar.addi v4233 c1_i32_3164
  let c2_i32_3165 : BitVec 32 := 2#32
  let v4235 : BitVec 1 := Scalar.cmpi .slt v4234 c2_i32_3165
  let c3_i32_3166 : BitVec 32 := 3#32
  let c0_i32_3167 : BitVec 32 := 0#32
  let v4236 : BitVec 1 := Scalar.cmpi .eq c3_i32_3166 c0_i32_3167
  let c1_i32_3168 : BitVec 32 := 1#32
  let v4237 : BitVec 32 := Scalar.select v4236 c1_i32_3168 c3_i32_3166
  let v4238 : BitVec 32 := Scalar.remsi v4234 v4237
  let c0_i32_3170 : BitVec 32 := 0#32
  let v4240 : BitVec 1 := Scalar.cmpi .slt v4238 c0_i32_3170
  let c0_i32_3171 : BitVec 32 := 0#32
  let v4241 : BitVec 1 := Scalar.cmpi .slt v4237 c0_i32_3171
  let v4242 : BitVec 1 := Scalar.xori v4240 v4241
  let c0_i32_3169 : BitVec 32 := 0#32
  let v4239 : BitVec 1 := Scalar.cmpi .ne v4238 c0_i32_3169
  let v4243 : BitVec 1 := Scalar.andi v4242 v4239
  let v4244 : BitVec 32 := Scalar.addi v4238 v4237
  let v4245 : BitVec 32 := Scalar.select v4243 v4244 v4238
  let c1_i32_3172 : BitVec 32 := 1#32
  let v4246 : BitVec 1 := Scalar.cmpi .ne v4245 c1_i32_3172
  let v4247 : BitVec 1 := Scalar.ori v4235 v4246
  let v4248 : BitVec 32 := Scalar.extui v4247
  let c0_i32_3177 : BitVec 32 := 0#32
  let v4249 : BitVec 1 := Scalar.cmpi .ne v4248 c0_i32_3177
  v4249

def k0_off84 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_668 : BitVec 32 := 10#32
  let v802 : BitVec 32 := Scalar.addi v2 c10_i32_668
  let c16_i32_669 : BitVec 32 := 16#32
  let c0_i32_670 : BitVec 32 := 0#32
  let v803 : BitVec 1 := Scalar.cmpi .eq c16_i32_669 c0_i32_670
  let c1_i32_671 : BitVec 32 := 1#32
  let v804 : BitVec 32 := Scalar.select v803 c1_i32_671 c16_i32_669
  let v805 : BitVec 32 := Scalar.remsi v802 v804
  let c0_i32_673 : BitVec 32 := 0#32
  let v807 : BitVec 1 := Scalar.cmpi .slt v805 c0_i32_673
  let c0_i32_674 : BitVec 32 := 0#32
  let v808 : BitVec 1 := Scalar.cmpi .slt v804 c0_i32_674
  let v809 : BitVec 1 := Scalar.xori v807 v808
  let c0_i32_672 : BitVec 32 := 0#32
  let v806 : BitVec 1 := Scalar.cmpi .ne v805 c0_i32_672
  let v810 : BitVec 1 := Scalar.andi v809 v806
  let v811 : BitVec 32 := Scalar.addi v805 v804
  let v812 : BitVec 32 := Scalar.select v810 v811 v805
  let c0_i32_3329 : BitVec 32 := 0#32
  let c64_i32_3330 : BitVec 32 := 64#32
  let c0_i32_3331 : BitVec 32 := 0#32
  ![v812.toNat, 0, 64, 0]
def k0_cond81 (d0 : Dev nD) : BitVec 1 :=
  let c2_i32_3178 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4250 : BitVec 32 := Scalar.muli c2_i32_3178 v2
  let c0_i32_3179 : BitVec 32 := 0#32
  let v4251 : BitVec 32 := Scalar.addi v4250 c0_i32_3179
  let c2_i32_3180 : BitVec 32 := 2#32
  let v4252 : BitVec 1 := Scalar.cmpi .slt v4251 c2_i32_3180
  let c3_i32_3181 : BitVec 32 := 3#32
  let c0_i32_3182 : BitVec 32 := 0#32
  let v4253 : BitVec 1 := Scalar.cmpi .eq c3_i32_3181 c0_i32_3182
  let c1_i32_3183 : BitVec 32 := 1#32
  let v4254 : BitVec 32 := Scalar.select v4253 c1_i32_3183 c3_i32_3181
  let v4255 : BitVec 32 := Scalar.remsi v4251 v4254
  let c0_i32_3185 : BitVec 32 := 0#32
  let v4257 : BitVec 1 := Scalar.cmpi .slt v4255 c0_i32_3185
  let c0_i32_3186 : BitVec 32 := 0#32
  let v4258 : BitVec 1 := Scalar.cmpi .slt v4254 c0_i32_3186
  let v4259 : BitVec 1 := Scalar.xori v4257 v4258
  let c0_i32_3184 : BitVec 32 := 0#32
  let v4256 : BitVec 1 := Scalar.cmpi .ne v4255 c0_i32_3184
  let v4260 : BitVec 1 := Scalar.andi v4259 v4256
  let v4261 : BitVec 32 := Scalar.addi v4255 v4254
  let v4262 : BitVec 32 := Scalar.select v4260 v4261 v4255
  let c1_i32_3187 : BitVec 32 := 1#32
  let v4263 : BitVec 1 := Scalar.cmpi .ne v4262 c1_i32_3187
  let v4264 : BitVec 1 := Scalar.ori v4252 v4263
  let v4265 : BitVec 32 := Scalar.extui v4264
  let c0_i32_3192 : BitVec 32 := 0#32
  let v4266 : BitVec 1 := Scalar.cmpi .ne v4265 c0_i32_3192
  v4266

def k0_off85 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v847 : BitVec 32 := Scalar.addi v2 c11_i32_705
  let c16_i32_706 : BitVec 32 := 16#32
  let c0_i32_707 : BitVec 32 := 0#32
  let v848 : BitVec 1 := Scalar.cmpi .eq c16_i32_706 c0_i32_707
  let c1_i32_708 : BitVec 32 := 1#32
  let v849 : BitVec 32 := Scalar.select v848 c1_i32_708 c16_i32_706
  let v850 : BitVec 32 := Scalar.remsi v847 v849
  let c0_i32_710 : BitVec 32 := 0#32
  let v852 : BitVec 1 := Scalar.cmpi .slt v850 c0_i32_710
  let c0_i32_711 : BitVec 32 := 0#32
  let v853 : BitVec 1 := Scalar.cmpi .slt v849 c0_i32_711
  let v854 : BitVec 1 := Scalar.xori v852 v853
  let c0_i32_709 : BitVec 32 := 0#32
  let v851 : BitVec 1 := Scalar.cmpi .ne v850 c0_i32_709
  let v855 : BitVec 1 := Scalar.andi v854 v851
  let v856 : BitVec 32 := Scalar.addi v850 v849
  let v857 : BitVec 32 := Scalar.select v855 v856 v850
  let c0_i32_3329 : BitVec 32 := 0#32
  let c0_i32_3330 : BitVec 32 := 0#32
  let c0_i32_3331 : BitVec 32 := 0#32
  ![v857.toNat, 0, 0, 0]
def k0_cond82 (d0 : Dev nD) : BitVec 1 :=
  let c2_i32_3193 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4267 : BitVec 32 := Scalar.muli c2_i32_3193 v2
  let c1_i32_3194 : BitVec 32 := 1#32
  let v4268 : BitVec 32 := Scalar.addi v4267 c1_i32_3194
  let c2_i32_3195 : BitVec 32 := 2#32
  let v4269 : BitVec 1 := Scalar.cmpi .slt v4268 c2_i32_3195
  let c3_i32_3196 : BitVec 32 := 3#32
  let c0_i32_3197 : BitVec 32 := 0#32
  let v4270 : BitVec 1 := Scalar.cmpi .eq c3_i32_3196 c0_i32_3197
  let c1_i32_3198 : BitVec 32 := 1#32
  let v4271 : BitVec 32 := Scalar.select v4270 c1_i32_3198 c3_i32_3196
  let v4272 : BitVec 32 := Scalar.remsi v4268 v4271
  let c0_i32_3200 : BitVec 32 := 0#32
  let v4274 : BitVec 1 := Scalar.cmpi .slt v4272 c0_i32_3200
  let c0_i32_3201 : BitVec 32 := 0#32
  let v4275 : BitVec 1 := Scalar.cmpi .slt v4271 c0_i32_3201
  let v4276 : BitVec 1 := Scalar.xori v4274 v4275
  let c0_i32_3199 : BitVec 32 := 0#32
  let v4273 : BitVec 1 := Scalar.cmpi .ne v4272 c0_i32_3199
  let v4277 : BitVec 1 := Scalar.andi v4276 v4273
  let v4278 : BitVec 32 := Scalar.addi v4272 v4271
  let v4279 : BitVec 32 := Scalar.select v4277 v4278 v4272
  let c1_i32_3202 : BitVec 32 := 1#32
  let v4280 : BitVec 1 := Scalar.cmpi .ne v4279 c1_i32_3202
  let v4281 : BitVec 1 := Scalar.ori v4269 v4280
  let v4282 : BitVec 32 := Scalar.extui v4281
  let c0_i32_3207 : BitVec 32 := 0#32
  let v4283 : BitVec 1 := Scalar.cmpi .ne v4282 c0_i32_3207
  v4283

def k0_off86 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v847 : BitVec 32 := Scalar.addi v2 c11_i32_705
  let c16_i32_706 : BitVec 32 := 16#32
  let c0_i32_707 : BitVec 32 := 0#32
  let v848 : BitVec 1 := Scalar.cmpi .eq c16_i32_706 c0_i32_707
  let c1_i32_708 : BitVec 32 := 1#32
  let v849 : BitVec 32 := Scalar.select v848 c1_i32_708 c16_i32_706
  let v850 : BitVec 32 := Scalar.remsi v847 v849
  let c0_i32_710 : BitVec 32 := 0#32
  let v852 : BitVec 1 := Scalar.cmpi .slt v850 c0_i32_710
  let c0_i32_711 : BitVec 32 := 0#32
  let v853 : BitVec 1 := Scalar.cmpi .slt v849 c0_i32_711
  let v854 : BitVec 1 := Scalar.xori v852 v853
  let c0_i32_709 : BitVec 32 := 0#32
  let v851 : BitVec 1 := Scalar.cmpi .ne v850 c0_i32_709
  let v855 : BitVec 1 := Scalar.andi v854 v851
  let v856 : BitVec 32 := Scalar.addi v850 v849
  let v857 : BitVec 32 := Scalar.select v855 v856 v850
  let c0_i32_3329 : BitVec 32 := 0#32
  let c64_i32_3330 : BitVec 32 := 64#32
  let c0_i32_3331 : BitVec 32 := 0#32
  ![v857.toNat, 0, 64, 0]
def k0_cond83 (d0 : Dev nD) : BitVec 1 :=
  let c2_i32_3208 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4284 : BitVec 32 := Scalar.muli c2_i32_3208 v2
  let c0_i32_3209 : BitVec 32 := 0#32
  let v4285 : BitVec 32 := Scalar.addi v4284 c0_i32_3209
  let c2_i32_3210 : BitVec 32 := 2#32
  let v4286 : BitVec 1 := Scalar.cmpi .slt v4285 c2_i32_3210
  let c3_i32_3211 : BitVec 32 := 3#32
  let c0_i32_3212 : BitVec 32 := 0#32
  let v4287 : BitVec 1 := Scalar.cmpi .eq c3_i32_3211 c0_i32_3212
  let c1_i32_3213 : BitVec 32 := 1#32
  let v4288 : BitVec 32 := Scalar.select v4287 c1_i32_3213 c3_i32_3211
  let v4289 : BitVec 32 := Scalar.remsi v4285 v4288
  let c0_i32_3215 : BitVec 32 := 0#32
  let v4291 : BitVec 1 := Scalar.cmpi .slt v4289 c0_i32_3215
  let c0_i32_3216 : BitVec 32 := 0#32
  let v4292 : BitVec 1 := Scalar.cmpi .slt v4288 c0_i32_3216
  let v4293 : BitVec 1 := Scalar.xori v4291 v4292
  let c0_i32_3214 : BitVec 32 := 0#32
  let v4290 : BitVec 1 := Scalar.cmpi .ne v4289 c0_i32_3214
  let v4294 : BitVec 1 := Scalar.andi v4293 v4290
  let v4295 : BitVec 32 := Scalar.addi v4289 v4288
  let v4296 : BitVec 32 := Scalar.select v4294 v4295 v4289
  let c1_i32_3217 : BitVec 32 := 1#32
  let v4297 : BitVec 1 := Scalar.cmpi .ne v4296 c1_i32_3217
  let v4298 : BitVec 1 := Scalar.ori v4286 v4297
  let v4299 : BitVec 32 := Scalar.extui v4298
  let c0_i32_3222 : BitVec 32 := 0#32
  let v4300 : BitVec 1 := Scalar.cmpi .ne v4299 c0_i32_3222
  v4300

def k0_off87 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_742 : BitVec 32 := 12#32
  let v892 : BitVec 32 := Scalar.addi v2 c12_i32_742
  let c16_i32_743 : BitVec 32 := 16#32
  let c0_i32_744 : BitVec 32 := 0#32
  let v893 : BitVec 1 := Scalar.cmpi .eq c16_i32_743 c0_i32_744
  let c1_i32_745 : BitVec 32 := 1#32
  let v894 : BitVec 32 := Scalar.select v893 c1_i32_745 c16_i32_743
  let v895 : BitVec 32 := Scalar.remsi v892 v894
  let c0_i32_747 : BitVec 32 := 0#32
  let v897 : BitVec 1 := Scalar.cmpi .slt v895 c0_i32_747
  let c0_i32_748 : BitVec 32 := 0#32
  let v898 : BitVec 1 := Scalar.cmpi .slt v894 c0_i32_748
  let v899 : BitVec 1 := Scalar.xori v897 v898
  let c0_i32_746 : BitVec 32 := 0#32
  let v896 : BitVec 1 := Scalar.cmpi .ne v895 c0_i32_746
  let v900 : BitVec 1 := Scalar.andi v899 v896
  let v901 : BitVec 32 := Scalar.addi v895 v894
  let v902 : BitVec 32 := Scalar.select v900 v901 v895
  let c0_i32_3329 : BitVec 32 := 0#32
  let c0_i32_3330 : BitVec 32 := 0#32
  let c0_i32_3331 : BitVec 32 := 0#32
  ![v902.toNat, 0, 0, 0]
def k0_cond84 (d0 : Dev nD) : BitVec 1 :=
  let c2_i32_3223 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4301 : BitVec 32 := Scalar.muli c2_i32_3223 v2
  let c1_i32_3224 : BitVec 32 := 1#32
  let v4302 : BitVec 32 := Scalar.addi v4301 c1_i32_3224
  let c2_i32_3225 : BitVec 32 := 2#32
  let v4303 : BitVec 1 := Scalar.cmpi .slt v4302 c2_i32_3225
  let c3_i32_3226 : BitVec 32 := 3#32
  let c0_i32_3227 : BitVec 32 := 0#32
  let v4304 : BitVec 1 := Scalar.cmpi .eq c3_i32_3226 c0_i32_3227
  let c1_i32_3228 : BitVec 32 := 1#32
  let v4305 : BitVec 32 := Scalar.select v4304 c1_i32_3228 c3_i32_3226
  let v4306 : BitVec 32 := Scalar.remsi v4302 v4305
  let c0_i32_3230 : BitVec 32 := 0#32
  let v4308 : BitVec 1 := Scalar.cmpi .slt v4306 c0_i32_3230
  let c0_i32_3231 : BitVec 32 := 0#32
  let v4309 : BitVec 1 := Scalar.cmpi .slt v4305 c0_i32_3231
  let v4310 : BitVec 1 := Scalar.xori v4308 v4309
  let c0_i32_3229 : BitVec 32 := 0#32
  let v4307 : BitVec 1 := Scalar.cmpi .ne v4306 c0_i32_3229
  let v4311 : BitVec 1 := Scalar.andi v4310 v4307
  let v4312 : BitVec 32 := Scalar.addi v4306 v4305
  let v4313 : BitVec 32 := Scalar.select v4311 v4312 v4306
  let c1_i32_3232 : BitVec 32 := 1#32
  let v4314 : BitVec 1 := Scalar.cmpi .ne v4313 c1_i32_3232
  let v4315 : BitVec 1 := Scalar.ori v4303 v4314
  let v4316 : BitVec 32 := Scalar.extui v4315
  let c0_i32_3237 : BitVec 32 := 0#32
  let v4317 : BitVec 1 := Scalar.cmpi .ne v4316 c0_i32_3237
  v4317

def k0_off88 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_742 : BitVec 32 := 12#32
  let v892 : BitVec 32 := Scalar.addi v2 c12_i32_742
  let c16_i32_743 : BitVec 32 := 16#32
  let c0_i32_744 : BitVec 32 := 0#32
  let v893 : BitVec 1 := Scalar.cmpi .eq c16_i32_743 c0_i32_744
  let c1_i32_745 : BitVec 32 := 1#32
  let v894 : BitVec 32 := Scalar.select v893 c1_i32_745 c16_i32_743
  let v895 : BitVec 32 := Scalar.remsi v892 v894
  let c0_i32_747 : BitVec 32 := 0#32
  let v897 : BitVec 1 := Scalar.cmpi .slt v895 c0_i32_747
  let c0_i32_748 : BitVec 32 := 0#32
  let v898 : BitVec 1 := Scalar.cmpi .slt v894 c0_i32_748
  let v899 : BitVec 1 := Scalar.xori v897 v898
  let c0_i32_746 : BitVec 32 := 0#32
  let v896 : BitVec 1 := Scalar.cmpi .ne v895 c0_i32_746
  let v900 : BitVec 1 := Scalar.andi v899 v896
  let v901 : BitVec 32 := Scalar.addi v895 v894
  let v902 : BitVec 32 := Scalar.select v900 v901 v895
  let c0_i32_3329 : BitVec 32 := 0#32
  let c64_i32_3330 : BitVec 32 := 64#32
  let c0_i32_3331 : BitVec 32 := 0#32
  ![v902.toNat, 0, 64, 0]
def k0_cond85 (d0 : Dev nD) : BitVec 1 :=
  let c2_i32_3238 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4318 : BitVec 32 := Scalar.muli c2_i32_3238 v2
  let c0_i32_3239 : BitVec 32 := 0#32
  let v4319 : BitVec 32 := Scalar.addi v4318 c0_i32_3239
  let c2_i32_3240 : BitVec 32 := 2#32
  let v4320 : BitVec 1 := Scalar.cmpi .slt v4319 c2_i32_3240
  let c3_i32_3241 : BitVec 32 := 3#32
  let c0_i32_3242 : BitVec 32 := 0#32
  let v4321 : BitVec 1 := Scalar.cmpi .eq c3_i32_3241 c0_i32_3242
  let c1_i32_3243 : BitVec 32 := 1#32
  let v4322 : BitVec 32 := Scalar.select v4321 c1_i32_3243 c3_i32_3241
  let v4323 : BitVec 32 := Scalar.remsi v4319 v4322
  let c0_i32_3245 : BitVec 32 := 0#32
  let v4325 : BitVec 1 := Scalar.cmpi .slt v4323 c0_i32_3245
  let c0_i32_3246 : BitVec 32 := 0#32
  let v4326 : BitVec 1 := Scalar.cmpi .slt v4322 c0_i32_3246
  let v4327 : BitVec 1 := Scalar.xori v4325 v4326
  let c0_i32_3244 : BitVec 32 := 0#32
  let v4324 : BitVec 1 := Scalar.cmpi .ne v4323 c0_i32_3244
  let v4328 : BitVec 1 := Scalar.andi v4327 v4324
  let v4329 : BitVec 32 := Scalar.addi v4323 v4322
  let v4330 : BitVec 32 := Scalar.select v4328 v4329 v4323
  let c1_i32_3247 : BitVec 32 := 1#32
  let v4331 : BitVec 1 := Scalar.cmpi .ne v4330 c1_i32_3247
  let v4332 : BitVec 1 := Scalar.ori v4320 v4331
  let v4333 : BitVec 32 := Scalar.extui v4332
  let c0_i32_3252 : BitVec 32 := 0#32
  let v4334 : BitVec 1 := Scalar.cmpi .ne v4333 c0_i32_3252
  v4334

def k0_off89 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_779 : BitVec 32 := 13#32
  let v937 : BitVec 32 := Scalar.addi v2 c13_i32_779
  let c16_i32_780 : BitVec 32 := 16#32
  let c0_i32_781 : BitVec 32 := 0#32
  let v938 : BitVec 1 := Scalar.cmpi .eq c16_i32_780 c0_i32_781
  let c1_i32_782 : BitVec 32 := 1#32
  let v939 : BitVec 32 := Scalar.select v938 c1_i32_782 c16_i32_780
  let v940 : BitVec 32 := Scalar.remsi v937 v939
  let c0_i32_784 : BitVec 32 := 0#32
  let v942 : BitVec 1 := Scalar.cmpi .slt v940 c0_i32_784
  let c0_i32_785 : BitVec 32 := 0#32
  let v943 : BitVec 1 := Scalar.cmpi .slt v939 c0_i32_785
  let v944 : BitVec 1 := Scalar.xori v942 v943
  let c0_i32_783 : BitVec 32 := 0#32
  let v941 : BitVec 1 := Scalar.cmpi .ne v940 c0_i32_783
  let v945 : BitVec 1 := Scalar.andi v944 v941
  let v946 : BitVec 32 := Scalar.addi v940 v939
  let v947 : BitVec 32 := Scalar.select v945 v946 v940
  let c0_i32_3329 : BitVec 32 := 0#32
  let c0_i32_3330 : BitVec 32 := 0#32
  let c0_i32_3331 : BitVec 32 := 0#32
  ![v947.toNat, 0, 0, 0]
def k0_cond86 (d0 : Dev nD) : BitVec 1 :=
  let c2_i32_3253 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4335 : BitVec 32 := Scalar.muli c2_i32_3253 v2
  let c1_i32_3254 : BitVec 32 := 1#32
  let v4336 : BitVec 32 := Scalar.addi v4335 c1_i32_3254
  let c2_i32_3255 : BitVec 32 := 2#32
  let v4337 : BitVec 1 := Scalar.cmpi .slt v4336 c2_i32_3255
  let c3_i32_3256 : BitVec 32 := 3#32
  let c0_i32_3257 : BitVec 32 := 0#32
  let v4338 : BitVec 1 := Scalar.cmpi .eq c3_i32_3256 c0_i32_3257
  let c1_i32_3258 : BitVec 32 := 1#32
  let v4339 : BitVec 32 := Scalar.select v4338 c1_i32_3258 c3_i32_3256
  let v4340 : BitVec 32 := Scalar.remsi v4336 v4339
  let c0_i32_3260 : BitVec 32 := 0#32
  let v4342 : BitVec 1 := Scalar.cmpi .slt v4340 c0_i32_3260
  let c0_i32_3261 : BitVec 32 := 0#32
  let v4343 : BitVec 1 := Scalar.cmpi .slt v4339 c0_i32_3261
  let v4344 : BitVec 1 := Scalar.xori v4342 v4343
  let c0_i32_3259 : BitVec 32 := 0#32
  let v4341 : BitVec 1 := Scalar.cmpi .ne v4340 c0_i32_3259
  let v4345 : BitVec 1 := Scalar.andi v4344 v4341
  let v4346 : BitVec 32 := Scalar.addi v4340 v4339
  let v4347 : BitVec 32 := Scalar.select v4345 v4346 v4340
  let c1_i32_3262 : BitVec 32 := 1#32
  let v4348 : BitVec 1 := Scalar.cmpi .ne v4347 c1_i32_3262
  let v4349 : BitVec 1 := Scalar.ori v4337 v4348
  let v4350 : BitVec 32 := Scalar.extui v4349
  let c0_i32_3267 : BitVec 32 := 0#32
  let v4351 : BitVec 1 := Scalar.cmpi .ne v4350 c0_i32_3267
  v4351

def k0_off90 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_779 : BitVec 32 := 13#32
  let v937 : BitVec 32 := Scalar.addi v2 c13_i32_779
  let c16_i32_780 : BitVec 32 := 16#32
  let c0_i32_781 : BitVec 32 := 0#32
  let v938 : BitVec 1 := Scalar.cmpi .eq c16_i32_780 c0_i32_781
  let c1_i32_782 : BitVec 32 := 1#32
  let v939 : BitVec 32 := Scalar.select v938 c1_i32_782 c16_i32_780
  let v940 : BitVec 32 := Scalar.remsi v937 v939
  let c0_i32_784 : BitVec 32 := 0#32
  let v942 : BitVec 1 := Scalar.cmpi .slt v940 c0_i32_784
  let c0_i32_785 : BitVec 32 := 0#32
  let v943 : BitVec 1 := Scalar.cmpi .slt v939 c0_i32_785
  let v944 : BitVec 1 := Scalar.xori v942 v943
  let c0_i32_783 : BitVec 32 := 0#32
  let v941 : BitVec 1 := Scalar.cmpi .ne v940 c0_i32_783
  let v945 : BitVec 1 := Scalar.andi v944 v941
  let v946 : BitVec 32 := Scalar.addi v940 v939
  let v947 : BitVec 32 := Scalar.select v945 v946 v940
  let c0_i32_3329 : BitVec 32 := 0#32
  let c64_i32_3330 : BitVec 32 := 64#32
  let c0_i32_3331 : BitVec 32 := 0#32
  ![v947.toNat, 0, 64, 0]
def k0_cond87 (d0 : Dev nD) : BitVec 1 :=
  let c2_i32_3268 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4352 : BitVec 32 := Scalar.muli c2_i32_3268 v2
  let c0_i32_3269 : BitVec 32 := 0#32
  let v4353 : BitVec 32 := Scalar.addi v4352 c0_i32_3269
  let c2_i32_3270 : BitVec 32 := 2#32
  let v4354 : BitVec 1 := Scalar.cmpi .slt v4353 c2_i32_3270
  let c3_i32_3271 : BitVec 32 := 3#32
  let c0_i32_3272 : BitVec 32 := 0#32
  let v4355 : BitVec 1 := Scalar.cmpi .eq c3_i32_3271 c0_i32_3272
  let c1_i32_3273 : BitVec 32 := 1#32
  let v4356 : BitVec 32 := Scalar.select v4355 c1_i32_3273 c3_i32_3271
  let v4357 : BitVec 32 := Scalar.remsi v4353 v4356
  let c0_i32_3275 : BitVec 32 := 0#32
  let v4359 : BitVec 1 := Scalar.cmpi .slt v4357 c0_i32_3275
  let c0_i32_3276 : BitVec 32 := 0#32
  let v4360 : BitVec 1 := Scalar.cmpi .slt v4356 c0_i32_3276
  let v4361 : BitVec 1 := Scalar.xori v4359 v4360
  let c0_i32_3274 : BitVec 32 := 0#32
  let v4358 : BitVec 1 := Scalar.cmpi .ne v4357 c0_i32_3274
  let v4362 : BitVec 1 := Scalar.andi v4361 v4358
  let v4363 : BitVec 32 := Scalar.addi v4357 v4356
  let v4364 : BitVec 32 := Scalar.select v4362 v4363 v4357
  let c1_i32_3277 : BitVec 32 := 1#32
  let v4365 : BitVec 1 := Scalar.cmpi .ne v4364 c1_i32_3277
  let v4366 : BitVec 1 := Scalar.ori v4354 v4365
  let v4367 : BitVec 32 := Scalar.extui v4366
  let c0_i32_3282 : BitVec 32 := 0#32
  let v4368 : BitVec 1 := Scalar.cmpi .ne v4367 c0_i32_3282
  v4368

def k0_off91 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_816 : BitVec 32 := 14#32
  let v982 : BitVec 32 := Scalar.addi v2 c14_i32_816
  let c16_i32_817 : BitVec 32 := 16#32
  let c0_i32_818 : BitVec 32 := 0#32
  let v983 : BitVec 1 := Scalar.cmpi .eq c16_i32_817 c0_i32_818
  let c1_i32_819 : BitVec 32 := 1#32
  let v984 : BitVec 32 := Scalar.select v983 c1_i32_819 c16_i32_817
  let v985 : BitVec 32 := Scalar.remsi v982 v984
  let c0_i32_821 : BitVec 32 := 0#32
  let v987 : BitVec 1 := Scalar.cmpi .slt v985 c0_i32_821
  let c0_i32_822 : BitVec 32 := 0#32
  let v988 : BitVec 1 := Scalar.cmpi .slt v984 c0_i32_822
  let v989 : BitVec 1 := Scalar.xori v987 v988
  let c0_i32_820 : BitVec 32 := 0#32
  let v986 : BitVec 1 := Scalar.cmpi .ne v985 c0_i32_820
  let v990 : BitVec 1 := Scalar.andi v989 v986
  let v991 : BitVec 32 := Scalar.addi v985 v984
  let v992 : BitVec 32 := Scalar.select v990 v991 v985
  let c0_i32_3329 : BitVec 32 := 0#32
  let c0_i32_3330 : BitVec 32 := 0#32
  let c0_i32_3331 : BitVec 32 := 0#32
  ![v992.toNat, 0, 0, 0]
def k0_cond88 (d0 : Dev nD) : BitVec 1 :=
  let c2_i32_3283 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4369 : BitVec 32 := Scalar.muli c2_i32_3283 v2
  let c1_i32_3284 : BitVec 32 := 1#32
  let v4370 : BitVec 32 := Scalar.addi v4369 c1_i32_3284
  let c2_i32_3285 : BitVec 32 := 2#32
  let v4371 : BitVec 1 := Scalar.cmpi .slt v4370 c2_i32_3285
  let c3_i32_3286 : BitVec 32 := 3#32
  let c0_i32_3287 : BitVec 32 := 0#32
  let v4372 : BitVec 1 := Scalar.cmpi .eq c3_i32_3286 c0_i32_3287
  let c1_i32_3288 : BitVec 32 := 1#32
  let v4373 : BitVec 32 := Scalar.select v4372 c1_i32_3288 c3_i32_3286
  let v4374 : BitVec 32 := Scalar.remsi v4370 v4373
  let c0_i32_3290 : BitVec 32 := 0#32
  let v4376 : BitVec 1 := Scalar.cmpi .slt v4374 c0_i32_3290
  let c0_i32_3291 : BitVec 32 := 0#32
  let v4377 : BitVec 1 := Scalar.cmpi .slt v4373 c0_i32_3291
  let v4378 : BitVec 1 := Scalar.xori v4376 v4377
  let c0_i32_3289 : BitVec 32 := 0#32
  let v4375 : BitVec 1 := Scalar.cmpi .ne v4374 c0_i32_3289
  let v4379 : BitVec 1 := Scalar.andi v4378 v4375
  let v4380 : BitVec 32 := Scalar.addi v4374 v4373
  let v4381 : BitVec 32 := Scalar.select v4379 v4380 v4374
  let c1_i32_3292 : BitVec 32 := 1#32
  let v4382 : BitVec 1 := Scalar.cmpi .ne v4381 c1_i32_3292
  let v4383 : BitVec 1 := Scalar.ori v4371 v4382
  let v4384 : BitVec 32 := Scalar.extui v4383
  let c0_i32_3297 : BitVec 32 := 0#32
  let v4385 : BitVec 1 := Scalar.cmpi .ne v4384 c0_i32_3297
  v4385

def k0_off92 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_816 : BitVec 32 := 14#32
  let v982 : BitVec 32 := Scalar.addi v2 c14_i32_816
  let c16_i32_817 : BitVec 32 := 16#32
  let c0_i32_818 : BitVec 32 := 0#32
  let v983 : BitVec 1 := Scalar.cmpi .eq c16_i32_817 c0_i32_818
  let c1_i32_819 : BitVec 32 := 1#32
  let v984 : BitVec 32 := Scalar.select v983 c1_i32_819 c16_i32_817
  let v985 : BitVec 32 := Scalar.remsi v982 v984
  let c0_i32_821 : BitVec 32 := 0#32
  let v987 : BitVec 1 := Scalar.cmpi .slt v985 c0_i32_821
  let c0_i32_822 : BitVec 32 := 0#32
  let v988 : BitVec 1 := Scalar.cmpi .slt v984 c0_i32_822
  let v989 : BitVec 1 := Scalar.xori v987 v988
  let c0_i32_820 : BitVec 32 := 0#32
  let v986 : BitVec 1 := Scalar.cmpi .ne v985 c0_i32_820
  let v990 : BitVec 1 := Scalar.andi v989 v986
  let v991 : BitVec 32 := Scalar.addi v985 v984
  let v992 : BitVec 32 := Scalar.select v990 v991 v985
  let c0_i32_3329 : BitVec 32 := 0#32
  let c64_i32_3330 : BitVec 32 := 64#32
  let c0_i32_3331 : BitVec 32 := 0#32
  ![v992.toNat, 0, 64, 0]
def k0_cond89 (d0 : Dev nD) : BitVec 1 :=
  let c2_i32_3298 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4386 : BitVec 32 := Scalar.muli c2_i32_3298 v2
  let c0_i32_3299 : BitVec 32 := 0#32
  let v4387 : BitVec 32 := Scalar.addi v4386 c0_i32_3299
  let c2_i32_3300 : BitVec 32 := 2#32
  let v4388 : BitVec 1 := Scalar.cmpi .slt v4387 c2_i32_3300
  let c3_i32_3301 : BitVec 32 := 3#32
  let c0_i32_3302 : BitVec 32 := 0#32
  let v4389 : BitVec 1 := Scalar.cmpi .eq c3_i32_3301 c0_i32_3302
  let c1_i32_3303 : BitVec 32 := 1#32
  let v4390 : BitVec 32 := Scalar.select v4389 c1_i32_3303 c3_i32_3301
  let v4391 : BitVec 32 := Scalar.remsi v4387 v4390
  let c0_i32_3305 : BitVec 32 := 0#32
  let v4393 : BitVec 1 := Scalar.cmpi .slt v4391 c0_i32_3305
  let c0_i32_3306 : BitVec 32 := 0#32
  let v4394 : BitVec 1 := Scalar.cmpi .slt v4390 c0_i32_3306
  let v4395 : BitVec 1 := Scalar.xori v4393 v4394
  let c0_i32_3304 : BitVec 32 := 0#32
  let v4392 : BitVec 1 := Scalar.cmpi .ne v4391 c0_i32_3304
  let v4396 : BitVec 1 := Scalar.andi v4395 v4392
  let v4397 : BitVec 32 := Scalar.addi v4391 v4390
  let v4398 : BitVec 32 := Scalar.select v4396 v4397 v4391
  let c1_i32_3307 : BitVec 32 := 1#32
  let v4399 : BitVec 1 := Scalar.cmpi .ne v4398 c1_i32_3307
  let v4400 : BitVec 1 := Scalar.ori v4388 v4399
  let v4401 : BitVec 32 := Scalar.extui v4400
  let c0_i32_3312 : BitVec 32 := 0#32
  let v4402 : BitVec 1 := Scalar.cmpi .ne v4401 c0_i32_3312
  v4402

def k0_off93 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_853 : BitVec 32 := 15#32
  let v1027 : BitVec 32 := Scalar.addi v2 c15_i32_853
  let c16_i32_854 : BitVec 32 := 16#32
  let c0_i32_855 : BitVec 32 := 0#32
  let v1028 : BitVec 1 := Scalar.cmpi .eq c16_i32_854 c0_i32_855
  let c1_i32_856 : BitVec 32 := 1#32
  let v1029 : BitVec 32 := Scalar.select v1028 c1_i32_856 c16_i32_854
  let v1030 : BitVec 32 := Scalar.remsi v1027 v1029
  let c0_i32_858 : BitVec 32 := 0#32
  let v1032 : BitVec 1 := Scalar.cmpi .slt v1030 c0_i32_858
  let c0_i32_859 : BitVec 32 := 0#32
  let v1033 : BitVec 1 := Scalar.cmpi .slt v1029 c0_i32_859
  let v1034 : BitVec 1 := Scalar.xori v1032 v1033
  let c0_i32_857 : BitVec 32 := 0#32
  let v1031 : BitVec 1 := Scalar.cmpi .ne v1030 c0_i32_857
  let v1035 : BitVec 1 := Scalar.andi v1034 v1031
  let v1036 : BitVec 32 := Scalar.addi v1030 v1029
  let v1037 : BitVec 32 := Scalar.select v1035 v1036 v1030
  let c0_i32_3329 : BitVec 32 := 0#32
  let c0_i32_3330 : BitVec 32 := 0#32
  let c0_i32_3331 : BitVec 32 := 0#32
  ![v1037.toNat, 0, 0, 0]
def k0_cond90 (d0 : Dev nD) : BitVec 1 :=
  let c2_i32_3313 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4403 : BitVec 32 := Scalar.muli c2_i32_3313 v2
  let c1_i32_3314 : BitVec 32 := 1#32
  let v4404 : BitVec 32 := Scalar.addi v4403 c1_i32_3314
  let c2_i32_3315 : BitVec 32 := 2#32
  let v4405 : BitVec 1 := Scalar.cmpi .slt v4404 c2_i32_3315
  let c3_i32_3316 : BitVec 32 := 3#32
  let c0_i32_3317 : BitVec 32 := 0#32
  let v4406 : BitVec 1 := Scalar.cmpi .eq c3_i32_3316 c0_i32_3317
  let c1_i32_3318 : BitVec 32 := 1#32
  let v4407 : BitVec 32 := Scalar.select v4406 c1_i32_3318 c3_i32_3316
  let v4408 : BitVec 32 := Scalar.remsi v4404 v4407
  let c0_i32_3320 : BitVec 32 := 0#32
  let v4410 : BitVec 1 := Scalar.cmpi .slt v4408 c0_i32_3320
  let c0_i32_3321 : BitVec 32 := 0#32
  let v4411 : BitVec 1 := Scalar.cmpi .slt v4407 c0_i32_3321
  let v4412 : BitVec 1 := Scalar.xori v4410 v4411
  let c0_i32_3319 : BitVec 32 := 0#32
  let v4409 : BitVec 1 := Scalar.cmpi .ne v4408 c0_i32_3319
  let v4413 : BitVec 1 := Scalar.andi v4412 v4409
  let v4414 : BitVec 32 := Scalar.addi v4408 v4407
  let v4415 : BitVec 32 := Scalar.select v4413 v4414 v4408
  let c1_i32_3322 : BitVec 32 := 1#32
  let v4416 : BitVec 1 := Scalar.cmpi .ne v4415 c1_i32_3322
  let v4417 : BitVec 1 := Scalar.ori v4405 v4416
  let v4418 : BitVec 32 := Scalar.extui v4417
  let c0_i32_3327 : BitVec 32 := 0#32
  let v4419 : BitVec 1 := Scalar.cmpi .ne v4418 c0_i32_3327
  v4419

def k0_off94 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_853 : BitVec 32 := 15#32
  let v1027 : BitVec 32 := Scalar.addi v2 c15_i32_853
  let c16_i32_854 : BitVec 32 := 16#32
  let c0_i32_855 : BitVec 32 := 0#32
  let v1028 : BitVec 1 := Scalar.cmpi .eq c16_i32_854 c0_i32_855
  let c1_i32_856 : BitVec 32 := 1#32
  let v1029 : BitVec 32 := Scalar.select v1028 c1_i32_856 c16_i32_854
  let v1030 : BitVec 32 := Scalar.remsi v1027 v1029
  let c0_i32_858 : BitVec 32 := 0#32
  let v1032 : BitVec 1 := Scalar.cmpi .slt v1030 c0_i32_858
  let c0_i32_859 : BitVec 32 := 0#32
  let v1033 : BitVec 1 := Scalar.cmpi .slt v1029 c0_i32_859
  let v1034 : BitVec 1 := Scalar.xori v1032 v1033
  let c0_i32_857 : BitVec 32 := 0#32
  let v1031 : BitVec 1 := Scalar.cmpi .ne v1030 c0_i32_857
  let v1035 : BitVec 1 := Scalar.andi v1034 v1031
  let v1036 : BitVec 32 := Scalar.addi v1030 v1029
  let v1037 : BitVec 32 := Scalar.select v1035 v1036 v1030
  let c0_i32_3329 : BitVec 32 := 0#32
  let c64_i32_3330 : BitVec 32 := 64#32
  let c0_i32_3331 : BitVec 32 := 0#32
  ![v1037.toNat, 0, 64, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S256x512 : Shape := ⟨2, ![256, 512]⟩
abbrev S512x4096 : Shape := ⟨2, ![512, 4096]⟩
abbrev S2x2048x4096 : Shape := ⟨3, ![2, 2048, 4096]⟩
abbrev S4096x512 : Shape := ⟨2, ![4096, 512]⟩
abbrev S2x128x512 : Shape := ⟨3, ![2, 128, 512]⟩
abbrev S2x2048x64x64 : Shape := ⟨4, ![2, 2048, 64, 64]⟩
abbrev S2x128x4096 : Shape := ⟨3, ![2, 128, 4096]⟩
abbrev S2x128x64x64 : Shape := ⟨4, ![2, 128, 64, 64]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x64x128x2048 : Shape := ⟨4, ![2, 64, 128, 2048]⟩
abbrev S1x1x128x2048 : Shape := ⟨4, ![1, 1, 128, 2048]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 127
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S2x2048x4096, .f32⟩
  | .hbm, ⟨3, _⟩ => ⟨S2x2048x4096, .f32⟩
  | .hbm, ⟨4, _⟩ => ⟨S4096x512, .f32⟩
  | .hbm, ⟨5, _⟩ => ⟨S2x128x512, .f32⟩
  | .hbm, ⟨6, _⟩ => ⟨S2x2048x64x64, .f32⟩
  | .hbm, ⟨7, _⟩ => ⟨S2x2048x64x64, .f32⟩
  | .hbm, ⟨8, _⟩ => ⟨S2x128x4096, .f32⟩
  | .hbm, ⟨9, _⟩ => ⟨S2x128x64x64, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S1x2048, .i32⟩
  | .hbm, ⟨50, _⟩ => ⟨S128x2048, .i32⟩
  | .hbm, ⟨51, _⟩ => ⟨S128x2048, .i32⟩
  | .hbm, ⟨52, _⟩ => ⟨S128x2048, .i1⟩
  | .hbm, ⟨53, _⟩ => ⟨S_, .i32⟩
  | .hbm, ⟨54, _⟩ => ⟨S1x2048, .i32⟩
  | .hbm, ⟨55, _⟩ => ⟨S1x2048, .i1⟩
  | .hbm, ⟨56, _⟩ => ⟨S128x2048, .i1⟩
  | .hbm, ⟨57, _⟩ => ⟨S128x2048, .i1⟩
  | .hbm, ⟨58, _⟩ => ⟨S128x2048, .i32⟩
  | .hbm, ⟨59, _⟩ => ⟨S128x2048, .i32⟩
  | .hbm, ⟨60, _⟩ => ⟨S128x2048, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S128x2048, .i32⟩
  | .hbm, ⟨68, _⟩ => ⟨S128x2048, .i32⟩
  | .hbm, ⟨69, _⟩ => ⟨S_, .i32⟩
  | .hbm, ⟨70, _⟩ => ⟨S128x2048, .i32⟩
  | .hbm, ⟨71, _⟩ => ⟨S128x2048, .i1⟩
  | .hbm, ⟨72, _⟩ => ⟨S_, .i32⟩
  | .hbm, ⟨73, _⟩ => ⟨S128x2048, .i32⟩
  | .hbm, ⟨74, _⟩ => ⟨S128x2048, .i1⟩
  | .hbm, ⟨75, _⟩ => ⟨S_, .i32⟩
  | .hbm, ⟨76, _⟩ => ⟨S_, .i1⟩
  | .hbm, ⟨77, _⟩ => ⟨S128x2048, .i1⟩
  | .hbm, ⟨78, _⟩ => ⟨S128x2048, .i1⟩
  | .hbm, ⟨79, _⟩ => ⟨S128x2048, .i1⟩
  | .hbm, ⟨80, _⟩ => ⟨S128x2048, .i32⟩
  | .hbm, ⟨81, _⟩ => ⟨S128x2048, .i32⟩
  | .hbm, ⟨82, _⟩ => ⟨S128x2048, .i32⟩
  | .hbm, ⟨83, _⟩ => ⟨S_, .i32⟩
  | .hbm, ⟨84, _⟩ => ⟨S128x2048, .i32⟩
  | .hbm, ⟨85, _⟩ => ⟨S128x2048, .i1⟩
  | .hbm, ⟨86, _⟩ => ⟨S128x2048, .i1⟩
  | .hbm, ⟨87, _⟩ => ⟨S2x64x128x2048, .f32⟩
  | .hbm, ⟨88, _⟩ => ⟨S_, .f32⟩
  | .hbm, ⟨89, _⟩ => ⟨S2x64x128x2048, .f32⟩
  | .hbm, ⟨90, _⟩ => ⟨S2x64x128x2048, .f32⟩
  | .hbm, ⟨91, _⟩ => ⟨S1x1x128x2048, .i1⟩
  | .hbm, ⟨92, _⟩ => ⟨S_, .f32⟩
  | .hbm, ⟨93, _⟩ => ⟨S_, .f32⟩
  | .hbm, ⟨94, _⟩ => ⟨S2x64x128x2048, .i1⟩
  | .hbm, ⟨95, _⟩ => ⟨S2x64x128x2048, .f32⟩
  | .hbm, ⟨96, _⟩ => ⟨S2x64x128x2048, .f32⟩
  | .hbm, ⟨97, _⟩ => ⟨S_, .f32⟩
  | .hbm, ⟨98, _⟩ => ⟨S2x64x128, .f32⟩
  | .hbm, ⟨99, _⟩ => ⟨S2x64x128x1, .f32⟩
  | .hbm, ⟨100, _⟩ => ⟨S2x64x128x2048, .f32⟩
  | .hbm, ⟨101, _⟩ => ⟨S2x64x128x2048, .f32⟩
  | .hbm, ⟨102, _⟩ => ⟨S2x64x128x2048, .f32⟩
  | .hbm, ⟨103, _⟩ => ⟨S_, .i1⟩
  | .hbm, ⟨104, _⟩ => ⟨S128, .i1⟩
  | .hbm, ⟨105, _⟩ => ⟨S1x1x128x1, .i1⟩
  | .hbm, ⟨106, _⟩ => ⟨S_, .f32⟩
  | .hbm, ⟨107, _⟩ => ⟨S2x64x128, .f32⟩
  | .hbm, ⟨108, _⟩ => ⟨S2x64x128x1, .f32⟩
  | .hbm, ⟨109, _⟩ => ⟨S_, .f32⟩
  | .hbm, ⟨110, _⟩ => ⟨S_, .f32⟩
  | .hbm, ⟨111, _⟩ => ⟨S2x64x128x1, .i1⟩
  | .hbm, ⟨112, _⟩ => ⟨S2x64x128x1, .f32⟩
  | .hbm, ⟨113, _⟩ => ⟨S2x64x128x1, .f32⟩
  | .hbm, ⟨114, _⟩ => ⟨S2x64x128x2048, .f32⟩
  | .hbm, ⟨115, _⟩ => ⟨S2x64x128x2048, .f32⟩
  | .hbm, ⟨116, _⟩ => ⟨S1x1x128x1, .i1⟩
  | .hbm, ⟨117, _⟩ => ⟨S_, .f32⟩
  | .hbm, ⟨118, _⟩ => ⟨S_, .f32⟩
  | .hbm, ⟨119, _⟩ => ⟨S2x64x128x2048, .i1⟩
  | .hbm, ⟨120, _⟩ => ⟨S2x64x128x2048, .f32⟩
  | .hbm, ⟨121, _⟩ => ⟨S2x64x128x2048, .f32⟩
  | .hbm, ⟨122, _⟩ => ⟨S2x64x64x128, .f32⟩
  | .hbm, ⟨123, _⟩ => ⟨S2x128x64x64, .f32⟩
  | .hbm, ⟨124, _⟩ => ⟨S2x128x4096, .f32⟩
  | .hbm, ⟨125, _⟩ => ⟨S2x128x512, .f32⟩
  | .hbm, ⟨126, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩

abbrev nD : Nat := 1
abbrev τ : Topo := Topo.v7x

variable {F : FTy → Type} [FloatOps F]
-- ==== Proof.Proto.lean ====
/-
# The protocol of the kernel: its semaphores, the pieces of its buffers, what the pieces hold

Sixteen devices in a ring of distances: device `c` sends to `dst c t`, the device `t` places after it, and what it
receives at distance `t` comes from `src c t`. Every device first tells all others that it has entered (the barrier
cell, fifteen units), handing each of them the pieces of its own buffers that device will write. Then

* `kr (t, b)` is credited by the copy of block `b` of the keys and values of `src c t` into slot `(t, b)` of the
  gathered buffer, `ks (t, b)` by the departure of this device's own such copy — both only where the block is needed;
* `rr t` by the partial rows coming from `src c t`, `as t` (round 0) by the departure of the rows sent to `dst c t`;
* `ag t` by the reduced rows of `src c t`, `as t` (round 1) by the departure of this device's reduced rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of distances -/

/-- The device `t` places after `c`. -/
def dst (c : Dev nD) (t : Fin 16) : Dev nD := ⟨(c.val + t.val) % 16, Nat.mod_lt _ (by decide)⟩
/-- The device `t` places before `c`. -/
def src (c : Dev nD) (t : Fin 16) : Dev nD := ⟨(c.val + (16 - t.val)) % 16, Nat.mod_lt _ (by decide)⟩
/-- The opposite distance. -/
def neg (t : Fin 16) : Fin 16 := ⟨(16 - t.val) % 16, Nat.mod_lt _ (by decide)⟩

theorem src_dst (c : Dev nD) (t : Fin 16) : src (dst c t) t = c := by revert c t; decide +kernel
theorem dst_src (c : Dev nD) (t : Fin 16) : dst (src c t) t = c := by revert c t; decide +kernel
theorem dst_dst_neg (c : Dev nD) (t : Fin 16) : dst (dst c t) (neg t) = c := by revert c t; decide +kernel
theorem neg_neg' (t : Fin 16) : neg (neg t) = t := by revert t; decide
theorem neg_ne (t : Fin 16) : neg t ≠ 0 ↔ t ≠ 0 := by revert t; decide

/-- Whether block `b` of device `d`'s keys is needed by anyone: the printed condition of its copies. -/
def need (d : Dev nD) (b : Fin 2) : Prop := 2 * d.val + b.val < 2 ∨ (2 * d.val + b.val) % 3 ≠ 1
instance (d : Dev nD) (b : Fin 2) : Decidable (need d b) := by unfold need; infer_instance

/-! ## The buffers and their pieces -/

abbrev i0M : Memref sig .tc .vmem S256x512 .f32 := Memref.whole cc0_stg0_0
abbrev i1M : Memref sig .tc .vmem S512x256 .f32 := Memref.whole cc0_stg1_0
abbrev i2M : Memref sig .tc .vmem S2x128x4096 .f32 := Memref.whole cc0_stg2_0
abbrev i3M : Memref sig .tc .vmem S2x128x4096 .f32 := Memref.whole cc0_stg3_0
abbrev i4M : Memref sig .tc .vmem S256x512 .f32 := Memref.whole cc0_stg4_0
abbrev i5M : Memref sig .tc .vmem S256x512 .f32 := Memref.whole cc0_stg5_0
abbrev pM : Memref sig .tc .vmem S16x4x128x256 .bf16 := Memref.whole cc0_scratch0
abbrev gM : Memref sig .tc .vmem S4x2048x256 .bf16 := Memref.whole cc0_scratch1
abbrev xM : Memref sig .tc .vmem S256x256 .f32 := Memref.whole cc0_scratch2
abbrev aM : Memref sig .tc .vmem S256x512 .bf16 := Memref.whole cc0_scratch3
abbrev rM : Memref sig .tc .vmem S16x512 .bf16 := Memref.whole cc0_scratch4
abbrev oM : Memref sig .tc .vmem S256x512 .bf16 := Memref.whole cc0_scratch5
abbrev sM : Memref sig .tc .vmem S16x16x512 .bf16 := Memref.whole cc0_scratch6

/-- The contents of a buffer, whatever device it is on. -/
abbrev Con (F : FTy → Type) (b : Ref sig .tc) : Type := b.ty.Contents (Elt F)

theorem lt16 (t : Fin 16) : t.val < 16 := t.isLt

/-- The rectangle of slot `(t, b)` of the gathered buffer. -/
abbrev gRect (t : Fin 16) (b : Fin 2) : Rect S4x2048x256 :=
  Rect.unit (s := S4x2048x256) ![0, 128 * t.val + 64 * b.val, 0] S4x64x256.size (by revert t b; decide +kernel)
/-- Slot `(t, b)` of the gathered buffer. -/
abbrev gSl (t : Fin 16) (b : Fin 2) : Memref sig .tc .vmem S4x64x256 .bf16 := gM.slice (gRect t b) (fun _ => rfl)
/-- The rectangle of the packed block `b` for device `d`. -/
abbrev pRect (d : Dev nD) (b : Fin 2) : Rect S16x4x128x256 :=
  Rect.unit (s := S16x4x128x256) ![d.val, 0, 64 * b.val, 0] S1x4x64x256.size (by revert d b; decide +kernel)
/-- The packed block `b` for device `d`. -/
abbrev pSl (d : Dev nD) (b : Fin 2) : Memref sig .tc .vmem S4x64x256 .bf16 :=
  (pM.slice (pRect d b) (fun _ => rfl)).squeeze S4x64x256 squeezes_S1x4x64x256_S4x64x256
/-- Sixteen rows of a [256, 512] buffer. -/
abbrev rows (d : Dev nD) : Rect S256x512 :=
  Rect.unit (s := S256x512) ![16 * d.val, 0] S16x512.size (by revert d; decide +kernel)
/-- The partial rows device `d` reduces. -/
abbrev aSl (d : Dev nD) : Memref sig .tc .vmem S16x512 .bf16 := aM.slice (rows d) (fun _ => rfl)
/-- The result rows device `d` reduced. -/
abbrev oSl (d : Dev nD) : Memref sig .tc .vmem S16x512 .bf16 := oM.slice (rows d) (fun _ => rfl)
abbrev sRect (t : Fin 16) : Rect S16x16x512 :=
  Rect.unit (s := S16x16x512) ![t.val, 0, 0] S1x16x512.size (by revert t; decide +kernel)
/-- The landing slot of the partial rows from distance `t`. -/
abbrev sSl (t : Fin 16) : Memref sig .tc .vmem S16x512 .bf16 :=
  (sM.slice (sRect t) (fun _ => rfl)).squeeze S16x512 squeezes_S1x16x512_S16x512

/-! ## The semaphores -/

/-- The kinds of cell each device has. -/
inductive K where
  | bar
  | ks (t : Fin 16) (b : Fin 2)
  | kr (t : Fin 16) (b : Fin 2)
  | as (t : Fin 16)
  | rr (t : Fin 16)
  | ag (t : Fin 16)
  deriving DecidableEq, Fintype

abbrev barS : Sem sig := (SemArray.scalar (sig.barrier 0 rfl) : Sems sig S_).sem
abbrev ksS (t : Fin 16) (b : Fin 2) : DmaSem sig := ⟨6 + (2 * t.val + b.val), by revert t b; decide⟩
abbrev krS (t : Fin 16) (b : Fin 2) : DmaSem sig := ⟨38 + (2 * t.val + b.val), by revert t b; decide⟩
abbrev asS (t : Fin 16) : DmaSem sig := ⟨70 + t.val, by revert t; decide⟩
abbrev rrS (t : Fin 16) : DmaSem sig := ⟨86 + t.val, by revert t; decide⟩
abbrev agS (t : Fin 16) : DmaSem sig := ⟨102 + t.val, by revert t; decide⟩

/-- The semaphore of a cell kind. -/
abbrev ksem : K → SemLoc sig
  | .bar => .reg barS
  | .ks t b => .dma (ksS t b)
  | .kr t b => .dma (krS t b)
  | .as t => .dma (asS t)
  | .rr t => .dma (rrS t)
  | .ag t => .dma (agS t)

/-- The cell kind of a semaphore, if it is one of the protocol's. -/
def kdec : SemLoc sig → Option K
  | .reg s => if s = barS then some .bar else none
  | .dma q =>
    if q.val < 6 then none
    else if q.val < 38 then some (.ks ⟨(q.val - 6) / 2 % 16, Nat.mod_lt _ (by decide)⟩ ⟨(q.val - 6) % 2, Nat.mod_lt _ (by decide)⟩)
    else if q.val < 70 then some (.kr ⟨(q.val - 38) / 2 % 16, Nat.mod_lt _ (by decide)⟩ ⟨(q.val - 38) % 2, Nat.mod_lt _ (by decide)⟩)
    else if q.val < 86 then some (.as ⟨(q.val - 70) % 16, Nat.mod_lt _ (by decide)⟩)
    else if q.val < 102 then some (.rr ⟨(q.val - 86) % 16, Nat.mod_lt _ (by decide)⟩)
    else some (.ag ⟨(q.val - 102) % 16, Nat.mod_lt _ (by decide)⟩)

theorem kdec_ksem (k : K) : kdec (ksem k) = some k := by revert k; decide +kernel

abbrev kcell (ck : Dev nD × K) : GSem nD τ sig := ((ck.1 : Thread nD τ), ksem ck.2)

theorem kcell_injective : Function.Injective kcell := by
  rintro ⟨c, k⟩ ⟨c', k'⟩ h
  have h1 := congrArg (fun g : GSem nD τ sig => g.1.1) h
  have h2 : ksem k = ksem k' := congrArg (fun g : GSem nD τ sig => g.2) h
  have h3 := congrArg kdec h2
  rw [kdec_ksem, kdec_ksem] at h3
  exact Prod.ext h1 (Option.some.inj h3)

/-- The credit of a copy of a key/value block, and of sixteen rows. -/
abbrev Nkv : ℕ := (gSl 0 0).view.dmaCredit
abbrev Nrow : ℕ := rM.view.dmaCredit
theorem Nkv_pos : 0 < Nkv := View.dmaCredit_pos _ (by decide)
theorem Nrow_pos : 0 < Nrow := View.dmaCredit_pos _ (by decide)
theorem credit_gSl (t : Fin 16) (b : Fin 2) : (gSl t b).view.dmaCredit = Nkv := rfl
theorem credit_pSl (d : Dev nD) (b : Fin 2) : (pSl d b).view.dmaCredit = Nkv := rfl
theorem credit_aSl (d : Dev nD) : (aSl d).view.dmaCredit = Nrow := rfl
theorem credit_oSl (d : Dev nD) : (oSl d).view.dmaCredit = Nrow := rfl
theorem credit_sSl (t : Fin 16) : (sSl t).view.dmaCredit = Nrow := rfl

end Cert.KernelIdeal.Pf
end
end
-- ==== Proof.Rel.lean ====
/-
# What the pieces hold

Each buffer's contents are described by a relation, so that the parts of a buffer nothing was written to stay
unnamed: `PackOk` (the packed keys and values), `SlotOk` (a received slot), `CtxOk` (the attention output of this
device's four heads), `PartOk` (this device's partial result), `RedOk` (the sixteen rows a device reduced), `OutOk`.
-/
module

public import proofs.«01_k».proof.Proof.Proto

@[expose] public section

noncomputable section

namespace Cert.KernelIdeal.Pf

open Cert.KernelIdeal Cert.KernelIdeal.Gen

open Idealize.ShloMosaic
open Idealize.ShloMosaic.TcCoe

variable {F : FTy → Type} [FloatOps F] [Named F]

/-- One device's inputs, as staged. -/
structure Ins (F : FTy → Type) where
  x : Con F cc0_stg0_0
  wq : Con F cc0_stg1_0
  k : Con F cc0_stg2_0
  v : Con F cc0_stg3_0
  wo : Con F cc0_stg4_0

/-! ## Packing -/

/-- The keys or values of the four heads device `d` attends with. -/
abbrev kvRect (d : Dev nD) : Rect S2x128x4096 :=
  Rect.unit (s := S2x128x4096) ![0, 0, 256 * d.val] S2x128x256.size (by revert d; decide +kernel)
/-- Where they go: keys (`h = 0`) in the first two planes, values in the last two. -/
abbrev slab (d : Dev nD) (h : Fin 2) : Rect S16x4x128x256 :=
  Rect.unit (s := S16x4x128x256) ![d.val, 2 * h.val, 0, 0] S1x2x128x256.size (by revert d h; decide +kernel)
/-- All four planes for device `d`. -/
abbrev plane (d : Dev nD) : Rect S16x4x128x256 :=
  Rect.unit (s := S16x4x128x256) ![d.val, 0, 0, 0] S1x4x128x256.size (by revert d; decide +kernel)

/-- The keys (`h = 0`) or values (`h = 1`) of device `d`'s heads, rounded to bf16. -/
def packVal (I : Ins F) (d : Dev nD) (h : Fin 2) : FVec F S1x2x128x256 .bf16 :=
  if h = 0 then k0_pay1 (i2M.view.readAt (Elt F) (kvRect d).toLoadRect I.k) else k0_pay1 (i3M.view.readAt (Elt F) (kvRect d).toLoadRect I.v)

/-- The packed planes for device `d` are right. -/
def PackOk (I : Ins F) (d : Dev nD) (p : Con F cc0_scratch0) : Prop :=
  ∀ h, (pM.access (slab d h)).read (Elt F) p = packVal I d h

variable (X : Dev nD → Ins F)

/-- Slot `(t, b)` of device `c` holds block `b` packed for it by `src c t`. -/
def SlotOk (c : Dev nD) (t : Fin 16) (b : Fin 2) (g : Con F cc0_scratch1) : Prop :=
  ∃ p, PackOk (X (src c t)) c p ∧ (gSl t b).view.read (Elt F) g = (pSl c b).view.read (Elt F) p

abbrev ownRect : Rect S4x2048x256 :=
  Rect.unit (s := S4x2048x256) ![0, 0, 0] S4x128x256.size inb_S4x2048x256_S4x128x256_0_0_0

/-- The two slots of distance 0 hold the device's own packed planes. -/
def OwnOk (c : Dev nD) (g : Con F cc0_scratch1) : Prop :=
  ∃ p, PackOk (X c) c p ∧ (gM.access ownRect).read (Elt F) g = k0_pay37 (pM.view.readAt (Elt F) (plane c).toLoadRect p)

/-- The slots of the first eight distances (but 0), then of the last eight, in program order. -/
def slotsA : List (Fin 16 × Fin 2) := [(1,0),(1,1),(2,0),(2,1),(3,0),(3,1),(4,0),(4,1),(5,0),(5,1),(6,0),(6,1),(7,0),(7,1)]
def slotsB : List (Fin 16 × Fin 2) := [(8,0),(8,1),(9,0),(9,1),(10,0),(10,1),(11,0),(11,1),(12,0),(12,1),(13,0),(13,1),(14,0),(14,1),(15,0),(15,1)]
def tL : List (Fin 16) := [1,2,3,4,5,6,7,8,9,10,11,12,13,14,15]

/-- A slot's contents if the block was needed. -/
def SlotIf (c : Dev nD) (tb : Fin 16 × Fin 2) (g : Con F cc0_scratch1) : Prop :=
  need (src c tb.1) tb.2 → SlotOk X c tb.1 tb.2 g

def GAOk (c : Dev nD) (g : Con F cc0_scratch1) : Prop := OwnOk X c g ∧ ∀ tb ∈ slotsA, SlotIf X c tb g
def GBOk (c : Dev nD) (g : Con F cc0_scratch1) : Prop := ∀ tb ∈ slotsB, SlotIf X c tb g

/-! ## Attention -/

/-- The device's index as the kernel computes it. -/
abbrev meW (c : Dev nD) : BitVec 32 := Scalar.remsi (Scalar.divsi (Dev.word c) 1#32) 16#32

/-- The queries of this device's heads. -/
def qAll (I : Ins F) : FVec F S256x256 .f32 :=
  k0_pay40 (k0_pay38 (i0M.view.readAt (Elt F) (Rect.unit (s := S256x512) ![0, 0] S256x512.size inb_S256x512_S256x512_0_0).toLoadRect I.x))
    (k0_pay39 (i1M.view.readAt (Elt F) (Rect.unit (s := S512x256) ![0, 0] S512x256.size inb_S512x256_S512x256_0_0).toLoadRect I.wq))
    (constant S256x256 .f32 0x00000000#32)

/-- The column's block, and the masks: which pairs are kept, which columns' values count. -/
def colW (w : BitVec 32) : IVec S1x2048 32 := k0_pay42 (iota .tc S1x2048 32 [1] iota_S1x2048_d1_w32) (k0_pay41 w)
def keepW (w : BitVec 32) : IVec S128x2048 1 :=
  k0_pay48 (k0_pay46 (colW w) (iota .tc S128x1 32 [0] iota_S128x1_d0_w32) 64#32 k0_pay43 k0_pay44)
    (k0_pay47 (colW w) (iota .tc S128x1 32 [0] iota_S128x1_d0_w32) 64#32 k0_pay43 k0_pay44) 0#32
def vmW (w : BitVec 32) : FVec F S2048x1 .bf16 := k0_pay49 (F := F) (colW w)

theorem qSlice (b : Fin 2) (h : Fin 4) : S256x256.Slices ![128 * b.val, 64 * h.val] S128x64 := by
  revert b h; decide +kernel

/-- The queries of batch `b`, head `h`. -/
def qBlk (b : Fin 2) (h : Fin 4) (Q : FVec F S256x256 .f32) : FVec F S128x64 .bf16 :=
  truncf .bf16 (extractStridedSlice S128x64 ![128 * b.val, 64 * h.val] Q (qSlice b h)) bitsLt_bf16_f32

/-- The attention output of one batch and head, from its queries and the keys and values of the first and the last
    1024 columns: the softmax of each half, merged. -/
def ctxBlk (keep : IVec S128x2048 1) (vm : FVec F S2048x1 .bf16) (q : FVec F S128x64 .bf16)
    (kA vA kB vB : Vec F S1x1024x64 .bf16) : FVec F S128x64 .f32 :=
  k0_pay103 keep vm q (k0_pay54 keep q (k0_pay51 kA)) (k0_pay56 keep q (k0_pay51 kA))
    (k0_pay57 keep q (k0_pay51 kA) (k0_pay52 vm vA)) kB vB

abbrev kvHead (j : Fin 4) (half : Fin 2) (h : Fin 4) : Rect S4x2048x256 :=
  Rect.unit (s := S4x2048x256) ![j.val, 1024 * half.val, 64 * h.val] S1x1024x64.size (by revert j half h; decide +kernel)
abbrev ctxRect (b : Fin 2) (h : Fin 4) : Rect S256x256 :=
  Rect.unit (s := S256x256) ![128 * b.val, 64 * h.val] S128x64.size (by revert b h; decide +kernel)

def kPl (b : Fin 2) : Fin 4 := ⟨b.val, by omega⟩
def vPl (b : Fin 2) : Fin 4 := ⟨2 + b.val, by omega⟩

/-- The attention output of one batch and head on device `c`. -/
def ctxAt (c : Dev nD) (gA gB : Con F cc0_scratch1) (b : Fin 2) (h : Fin 4) : FVec F S128x64 .f32 :=
  ctxBlk (keepW (meW c)) (vmW (meW c)) (qBlk b h (qAll (X c)))
    (gM.view.readAt (Elt F) (kvHead (kPl b) 0 h).toLoadRect gA) (gM.view.readAt (Elt F) (kvHead (vPl b) 0 h).toLoadRect gA)
    (gM.view.readAt (Elt F) (kvHead (kPl b) 1 h).toLoadRect gB) (gM.view.readAt (Elt F) (kvHead (vPl b) 1 h).toLoadRect gB)

def CtxOk (c : Dev nD) (x : Con F cc0_scratch2) : Prop :=
  ∃ gA gB, GAOk X c gA ∧ GBOk X c gB ∧ ∀ b h, (xM.access (ctxRect b h)).read (Elt F) x = ctxAt X c gA gB b h

/-! ## The partial result, the reduction, the gathering -/

abbrev allCtx : Rect S256x256 := Rect.unit (s := S256x256) ![0, 0] S256x256.size inb_S256x256_S256x256_0_0
abbrev allRows : Rect S256x512 := Rect.unit (s := S256x512) ![0, 0] S256x512.size inb_S256x512_S256x512_0_0
abbrev allRed : Rect S16x512 := Rect.unit (s := S16x512) ![0, 0] S16x512.size inb_S16x512_S16x512_0_0

/-- Device `c`'s partial result holds its attention output times its rows of `Wo`, rounded. -/
def PartOk (c : Dev nD) (P : Con F cc0_scratch3) : Prop :=
  ∃ x, CtxOk X c x ∧ (aM.access allRows).read (Elt F) P
    = k0_pay138 (xM.view.readAt (Elt F) allCtx.toLoadRect x) (i4M.view.readAt (Elt F) allRows.toLoadRect (X c).wo)

/-- What landed in slot `t` of device `c`: the rows device `src c t` computed for it. -/
def LandOk (c : Dev nD) (t : Fin 16) (s : Con F cc0_scratch6) : Prop :=
  ∃ P, PartOk X (src c t) P ∧ (sSl t).view.read (Elt F) s = (aSl c).view.read (Elt F) P

/-- The landed rows, read with their leading axis. -/
def LoadOk (c : Dev nD) (t : Fin 16) (r : Vec F S1x16x512 .bf16) : Prop :=
  ∃ s, LandOk X c t s ∧ r = sM.view.readAt (Elt F) (sRect t).toLoadRect s

/-- The printed sum: the device's own rows, then the rows of distances 1 to 15. -/
def redSum (own : Vec F S16x512 .bf16) (r : Fin 16 → Vec F S1x16x512 .bf16) : FVec F S16x512 .bf16 :=
  k0_pay148 (k0_pay147 (k0_pay146 (k0_pay145 (k0_pay144 (k0_pay143 (k0_pay142 (k0_pay141 (k0_pay140 (k0_pay139 own (r 1))
    (r 2) (r 3)) (r 4)) (r 5) (r 6)) (r 7) (r 8)) (r 9)) (r 10) (r 11)) (r 12) (r 13)) (r 14)) (r 15)

def RedOk (c : Dev nD) (R : Con F cc0_scratch4) : Prop :=
  ∃ P r, PartOk X c P ∧ (∀ t ∈ tL, LoadOk X c t (r t)) ∧
    (rM.access allRed).read (Elt F) R = redSum (aM.view.readAt (Elt F) (rows c).toLoadRect P) r

/-- Rows `16 j ..` of device `c`'s gathered result are those device `j` reduced. -/
def RowsOk (j : Dev nD) (o : Con F cc0_scratch5) : Prop :=
  ∃ R, RedOk X j R ∧ (oSl j).view.read (Elt F) o = rM.view.read (Elt F) R

def OutOk (o : Con F cc0_stg5_0) : Prop :=
  ∃ f, (∀ j, RowsOk X j f) ∧ (i5M.access allRows).read (Elt F) o = k0_pay150 (oM.view.readAt (Elt F) allRows.toLoadRect f)

end Cert.KernelIdeal.Pf
end
end
-- ==== Proof.Sched.lean ====
/-
# The schedule of the cells: duties, amounts, what each credit hands over; what each device owes; the levels
-/
module

public import proofs.«01_k».proof.Proof.Rel

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

/-! ## Pieces held -/

/-- The elements under a memref on device `c`, owned at a share, at contents `f` of its buffer. -/
def pcq (c : Dev nD) {s : Shape} {e : EltTy} (m : Memref sig .tc .vmem s e) (q : PosShare TreeShare) (f : m.view.ty.Contents (Elt F)) : sProp 𝕄 :=
  m.view.loc (c : Thread nD τ) ↦[m.view.set]{q} f
/-- The same wholly owned. -/
abbrev pc (c : Dev nD) {s : Shape} {e : EltTy} (m : Memref sig .tc .vmem s e) (f : m.view.ty.Contents (Elt F)) : sProp 𝕄 :=
  pcq c m fullShare f

omit [FloatOps F] [Named F] in
instance pcq_storable (c : Dev nD) {s : Shape} {e : EltTy} (m : Memref sig .tc .vmem s e) (q f) :
    BI.Storable (upEmb : UEmb _ 𝕄) (pcq (F := F) c m q f) := by unfold pcq; infer_instance

/-! ## Payloads -/

variable (X : Dev nD → Ins F)

/-- What the device at distance `t` after `d` hands `d` when it enters: the pieces of its buffers `d` will write. -/
def barPay (d : Dev nD) (t : Fin 16) : sProp 𝕄 :=
  iprop((if need d 0 then iprop(∃ g, pc (F := F) (dst d t) (gSl t 0) g) else iprop(emp))
    ∗ (if need d 1 then iprop(∃ g, pc (F := F) (dst d t) (gSl t 1) g) else iprop(emp))
    ∗ (∃ s, pc (F := F) (dst d t) (sSl t) s) ∗ (∃ o, pc (F := F) (dst d t) (oSl d) o))
def ksPay (c : Dev nD) (t : Fin 16) (b : Fin 2) : sProp 𝕄 := iprop(∃ p, pc (F := F) c (pSl (dst c t) b) p)
def krPay (c : Dev nD) (t : Fin 16) (b : Fin 2) : sProp 𝕄 := iprop(∃ g, ⌜SlotOk X c t b g⌝ ∗ pc c (gSl t b) g)
def asPay (c : Dev nD) (t : Fin 16) (r : ℕ) : sProp 𝕄 :=
  if r = 0 then iprop(∃ P, pc (F := F) c (aSl (dst c t)) P)
  else iprop(∃ R, pcq (F := F) c rM (shareTok fullShare 16 t) R)
def rrPay (c : Dev nD) (t : Fin 16) : sProp 𝕄 := iprop(∃ s, ⌜LandOk X c t s⌝ ∗ pc c (sSl t) s)
def agPay (c : Dev nD) (t : Fin 16) : sProp 𝕄 := iprop(∃ o, ⌜RowsOk X (src c t) o⌝ ∗ pc c (oSl (src c t)) o)

def pay (c : Dev nD) : K → ℕ → Fin 16 → sProp 𝕄
  | .bar, _, t => barPay (F := F) c t
  | .ks t b, _, _ => ksPay (F := F) c t b
  | .kr t b, _, _ => krPay X c t b
  | .as t, r, _ => asPay (F := F) c t r
  | .rr t, _, _ => rrPay X c t
  | .ag t, _, _ => agPay X c t

instance pay_storable (c : Dev nD) (k : K) (r : ℕ) (d : Fin 16) : BI.Storable (upEmb : UEmb _ 𝕄) (pay X c k r d) := by
  cases k <;> simp only [pay, barPay, ksPay, krPay, asPay, rrPay, agPay] <;> (repeat' split) <;> infer_instance

/-- The duties of round `r`. -/
def dut (c : Dev nD) : K → ℕ → Finset (Fin 16)
  | .bar, r => if r = 0 then Finset.univ.erase 0 else ∅
  | .ks t b, r => if r = 0 ∧ t ≠ 0 ∧ need c b then {0} else ∅
  | .kr t b, r => if r = 0 ∧ t ≠ 0 ∧ need (src c t) b then {0} else ∅
  | .as t, r => if r < 2 ∧ t ≠ 0 then {0} else ∅
  | .rr t, r => if r = 0 ∧ t ≠ 0 then {0} else ∅
  | .ag t, r => if r = 0 ∧ t ≠ 0 then {0} else ∅

/-- The units of one duty. -/
def amt : K → ℕ
  | .bar => 1
  | .ks _ _ => Nkv
  | .kr _ _ => Nkv
  | .as _ => Nrow
  | .rr _ => Nrow
  | .ag _ => Nrow

theorem amt_pos (k : K) : 0 < amt k := by
  cases k
  · exact Nat.one_pos
  · exact Nkv_pos
  · exact Nkv_pos
  · exact Nrow_pos
  · exact Nrow_pos
  · exact Nrow_pos

def Rd : Rounds.Schedule (GSem nD τ sig) (Fin 16) 𝕄 where
  duties g r := if g.1.2 = .tc then (kdec g.2).elim ∅ (fun k => dut g.1.1 k r) else ∅
  unitless _ := False
  amount g _ _ := (kdec g.2).elim 1 amt
  payload g r d := (kdec g.2).elim iprop(emp) (fun k => pay X g.1.1 k r d)
  amount_pos g _ _ _ := by
    cases kdec g.2 with
    | none => exact Nat.one_pos
    | some k => exact amt_pos k

instance Rd_payload_storable (g : GSem nD τ sig) (r : ℕ) (d : Fin 16) :
    BI.Storable (upEmb : UEmb _ 𝕄) ((Rd X).payload g r d) := by
  show BI.Storable upEmb ((kdec g.2).elim iprop(emp) (fun k => pay X g.1.1 k r d))
  cases kdec g.2 with
  | none => show BI.Storable upEmb iprop(emp); exact inferInstance
  | some k => exact pay_storable X g.1.1 k r d

theorem duties_cell (c : Dev nD) (k : K) (r : ℕ) : (Rd X).duties (kcell (c, k)) r = dut c k r := by
  show (if (c : Thread nD τ).2 = .tc then (kdec (ksem k)).elim ∅ (fun k => dut c k r) else ∅) = _
  rw [if_pos rfl, kdec_ksem]; rfl
theorem amount_cell (c : Dev nD) (k : K) (r : ℕ) (d : Fin 16) : (Rd X).amount (kcell (c, k)) r d = amt k := by
  show (kdec (ksem k)).elim 1 amt = _
  rw [kdec_ksem]; rfl
theorem payload_cell (c : Dev nD) (k : K) (r : ℕ) (d : Fin 16) : (Rd X).payload (kcell (c, k)) r d = pay X c k r d := by
  show (kdec (ksem k)).elim iprop(emp) (fun k => pay X c k r d) = _
  rw [kdec_ksem]; rfl

/-- A round with the single duty 0 expects that duty's units, and its rest is that duty's payload. -/
theorem expect_one (c : Dev nD) (k : K) (r : ℕ) (h : dut c k r = {0}) : (Rd X).expect (kcell (c, k)) r = amt k := by
  unfold Schedule.expect Schedule.amountOf
  rw [duties_cell, h, Finset.sum_singleton, amount_cell]
theorem rest_one (c : Dev nD) (k : K) (r : ℕ) (h : dut c k r = {0}) :
    bigSep ((Rd X).duties (kcell (c, k)) r \ ∅) (fun d => (Rd X).payload (kcell (c, k)) r d) = pay X c k r 0 := by
  rw [Finset.sdiff_empty, duties_cell, h, bigSep_singleton, payload_cell]
theorem expect_bar (c : Dev nD) : (Rd X).expect (kcell (c, .bar)) 0 = 15 := by
  unfold Schedule.expect Schedule.amountOf
  rw [duties_cell, Finset.sum_congr rfl fun d _ => amount_cell X c .bar 0 d]
  show ∑ d ∈ Finset.univ.erase (0 : Fin 16), 1 = 15
  decide
theorem rest_bar (c : Dev nD) :
    bigSep ((Rd X).duties (kcell (c, .bar)) 0 \ ∅) (fun d => (Rd X).payload (kcell (c, .bar)) 0 d)
      = bigSep (Finset.univ.erase 0) (fun t => barPay (F := F) c t) := by
  rw [Finset.sdiff_empty, duties_cell]
  exact bigSep_congr fun d _ => payload_cell X c .bar 0 d

/-! ## What a device owes -/

/-- The payments a device makes: its barrier signals, its copies. -/
inductive Ob where
  | bar (t : Fin 16)
  | kr (t : Fin 16) (b : Fin 2)
  | rr (t : Fin 16)
  | ag (t : Fin 16)

/-- The cell kind a payment credits, on the device its distance after the payer. -/
def Ob.k : Ob → K
  | .bar t => .bar
  | .kr t b => .kr t b
  | .rr t => .rr t
  | .ag t => .ag t
def Ob.t : Ob → Fin 16
  | .bar t => t
  | .kr t _ => t
  | .rr t => t
  | .ag t => t
/-- Whether the payment is made at all. -/
def Ob.due (c : Dev nD) : Ob → Prop
  | .kr _ b => need c b
  | _ => True
instance (c : Dev nD) (o : Ob) : Decidable (o.due c) := by cases o <;> unfold Ob.due <;> infer_instance

def obT (c : Dev nD) (o : Ob) : CellTallies nD τ sig Unit :=
  if o.due c then tallyAt (kcell (dst c o.t, o.k)) () (amt o.k) else 0

/-- The payments of a list, the first one last. -/
def owed (c : Dev nD) (l : List Ob) : CellTallies nD τ sig Unit := l.foldr (fun o acc => acc + obT c o) 0

theorem owed_cons (c : Dev nD) (o : Ob) (l : List Ob) : owed c (o :: l) = owed c l + obT c o := rfl
theorem owed_nil (c : Dev nD) : owed c [] = 0 := rfl

def obAg : List Ob := [.ag 1,.ag 2,.ag 3,.ag 4,.ag 5,.ag 6,.ag 7,.ag 8,.ag 9,.ag 10,.ag 11,.ag 12,.ag 13,.ag 14,.ag 15]
def obRr : List Ob := .rr 1 :: .rr 2 :: .rr 3 :: .rr 4 :: .rr 5 :: .rr 6 :: .rr 7 :: .rr 8 :: .rr 9 :: .rr 10 :: .rr 11 :: .rr 12 :: .rr 13 :: .rr 14 :: .rr 15 :: obAg
def obKr : List Ob := .kr 1 0 :: .kr 1 1 :: .kr 2 0 :: .kr 2 1 :: .kr 3 0 :: .kr 3 1 :: .kr 4 0 :: .kr 4 1 :: .kr 5 0 :: .kr 5 1 :: .kr 6 0 :: .kr 6 1
  :: .kr 7 0 :: .kr 7 1 :: .kr 8 0 :: .kr 8 1 :: .kr 9 0 :: .kr 9 1 :: .kr 10 0 :: .kr 10 1 :: .kr 11 0 :: .kr 11 1 :: .kr 12 0 :: .kr 12 1
  :: .kr 13 0 :: .kr 13 1 :: .kr 14 0 :: .kr 14 1 :: .kr 15 0 :: .kr 15 1 :: obRr
def obBar : List Ob := .bar 1 :: .bar 2 :: .bar 3 :: .bar 4 :: .bar 5 :: .bar 6 :: .bar 7 :: .bar 8 :: .bar 9 :: .bar 10 :: .bar 11 :: .bar 12
  :: .bar 13 :: .bar 14 :: .bar 15 :: obKr

/-! ## Levels -/

def L (g : GSem nD τ sig) : Finset Unit := if g.1.2 = .tc then {()} else ∅
def klv : K → ℕ
  | .bar => 1
  | .kr _ _ => 2
  | .rr _ => 3
  | .ag _ => 4
  | _ => 0
def lv (g : GSem nD τ sig) (_ : Unit) : ℕ := (kdec g.2).elim 0 klv

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : K) (u : Unit) : lv (kcell (c, k)) u = klv k := by
  show (kdec (ksem k)).elim 0 klv = _
  rw [kdec_ksem]; rfl

theorem owed_pos {c : Dev nD} {l : List Ob} {g : GSem nD τ sig} {u : Unit} (h : 0 < owed c l g u) :
    ∃ o ∈ l, g = kcell (dst c o.t, o.k) := by
  induction l with
  | nil => exact absurd h (by rw [owed_nil]; exact Nat.lt_irrefl 0)
  | cons o l ih =>
    rw [owed_cons, Pi.add_apply, Finsupp.add_apply] at h
    by_cases h0 : 0 < owed c l g u
    · obtain ⟨o', h1, h2⟩ := ih h0
      exact ⟨o', List.mem_cons_of_mem _ h1, h2⟩
    · have h1 : 0 < obT c o g u := by omega
      refine ⟨o, List.mem_cons_self, ?_⟩
      unfold obT at h1
      by_cases hd : o.due c
      · rw [if_pos hd, tallyAt_apply] at h1
        by_contra hn
        rw [if_neg (fun h' => hn h'.1)] at h1
        exact Nat.lt_irrefl 0 h1
      · rw [if_neg hd] at h1
        exact absurd h1 (Nat.lt_irrefl 0)

omit [FloatOps F] [Named F] in
/-- A device may wait at a cell below the level of everything it still owes. -/
theorem mayWait (c : Dev nD) (sm : SemLoc sig) (n : ℕ) (l : List Ob) (hs : lv ((c : Thread nD τ), sm) () = n)
    (hl : ∀ o ∈ l, n < klv o.k) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨o, h1, rfl⟩ := owed_pos hg
      rw [L_tc]; exact Finset.mem_singleton_self _)
    (fun p hp => by rw [Finset.mem_singleton.mp hp]; exact hs.le)
    (fun g u hg => by
      obtain ⟨o, h1, rfl⟩ := owed_pos hg
      rw [lv_cell]; exact hl o h1)

end Cert.KernelIdeal.Pf
end
end
-- ==== Proof.Steps.lean ====
/-
# One lemma per kind of step: signals, waits, copies, loads and stores
-/
module

public import proofs.«01_k».proof.Proof.Sched

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

abbrev 𝒱₀ : Variants := Variants.none

/-- The weakest precondition of a piece of the body on device `c`. -/
abbrev wpb (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bind_step {c : Dev nD} {α β : Type} {p : Prog (TpuEff nD τ sig (Elt F) Λ₀ .tc) α} {k : α → Prog (TpuEff nD τ sig (Elt F) Λ₀ .tc) β}
    {P : sProp 𝕄} {Q : β → sProp 𝕄} (h : P ⊢ wpb c p (fun a => wpb c (k a) Q)) : P ⊢ wpb c (p >>= k) Q := by
  exact h.trans (Entails.of_eq (wp_bind frame (wpE (defs₀ (F := F)) 𝒱₀ (c : Thread nD τ) none) Set.univ p k Q).symm)

theorem wp_return {c : Dev nD} {α : Type} {a : α} {Q : α → sProp 𝕄} : Q a ⊢ wpb c (.ret a) Q :=
  fupd_intro (PROP := sProp 𝕄)

theorem pure_step {c : Dev nD} {α : Type} {a : α} {P : sProp 𝕄} {Q : α → sProp 𝕄} (h : P ⊢ Q a) :
    P ⊢ wpb c (pure a) Q := h.trans (wp_return (Q := Q))

theorem guard_step {c : Dev nD} {α : Type} {g : Prop} [Decidable g] {p : g → Prog (TpuEff nD τ sig (Elt F) Λ₀ .tc) α}
    {q : ¬ g → Prog (TpuEff nD τ sig (Elt F) Λ₀ .tc) α} {P : sProp 𝕄} {Q : α → sProp 𝕄}
    (h1 : ∀ h : g, P ⊢ wpb c (p h) Q) (h2 : ∀ h : ¬ g, P ⊢ wpb c (q h) Q) : P ⊢ wpb c (dite g p q) Q := by
  by_cases h : g
  · rw [dif_pos h]; exact h1 h
  · rw [dif_neg h]; exact h2 h

theorem device_step {c : Dev nD} {P : sProp 𝕄} {Q : Dev nD → sProp 𝕄} (h : P ⊢ Q c) :
    P ⊢ wpb c (Prog.lift (TpuEff.deviceId : TpuEff nD τ sig (Elt F) Λ₀ .tc (Dev nD))) Q :=
  (h.trans (wp_return (Q := Q))).trans (Entails.of_eq (wp_deviceId (defs := defs₀ (F := F)) 𝒱₀ (c : Thread nD τ) none Set.univ (k := .ret) (Q := Q)).symm)

variable (X : Dev nD → Ins F) (κ : Dev nD × K → ℕ)

/-- What every device knows throughout: the cells' invariants, that each is at round 0, and the levels. -/
def Ctx : sProp 𝕄 :=
  iprop(levAts L lv ∗ bigSep Finset.univ (fun ck => cellInv ER (Rd X) (κ ck) (kcell ck)) ∗ bigSep Finset.univ (fun ck => reached ER (kcell ck) 0))

instance Ctx_pers : Persistent (Ctx X κ) := by unfold Ctx; infer_instance

/-- What a device owes, whatever it has waited for. -/
def OW (c : Dev nD) (O : CellTallies nD τ sig Unit) : sProp 𝕄 := iprop(∃ W, owes (c : Thread nD τ) O W)

theorem inv_at (ck : Dev nD × K) :
    (bigSep Finset.univ (fun ck => (cellInv ER (Rd X) (κ ck) (kcell ck) : sProp 𝕄))) ⊢ cellInv ER (Rd X) (κ ck) (kcell ck) :=
  bigSep_elim (Finset.mem_univ ck)
omit [FloatOps F] [Named F] in
theorem reached_at (ck : Dev nD × K) :
    (bigSep Finset.univ (fun ck => (reached ER (kcell ck) 0 : sProp 𝕄))) ⊢ reached ER (kcell ck) 0 :=
  bigSep_elim (Finset.mem_univ ck)
theorem Ctx_inv (ck : Dev nD × K) : Ctx X κ ⊢ cellInv ER (Rd X) (κ ck) (kcell ck) := by
  unfold Ctx
  iintro ⟨-, #H, -⟩
  iapply (inv_at X κ ck); iexact H
theorem Ctx_reached (ck : Dev nD × K) : Ctx X κ ⊢ reached ER (kcell ck) 0 := by
  unfold Ctx
  iintro ⟨-, -, #H⟩
  iapply (reached_at ck); iexact H
theorem Ctx_lev : Ctx X κ ⊢ levAts L lv := by
  unfold Ctx
  iintro ⟨#H, -, -⟩; iexact H

set_option maxRecDepth 8000 in
theorem Ctx_may (c : Dev nD) (k : K) (l : List Ob) (hl : ∀ o ∈ l, klv k < klv o.k) :
    Ctx X κ ⊢ MayWait (c : Thread nD τ) (ksem k) () (owed c l) :=
  (Ctx_lev X κ).trans (mayWait c (ksem k) (klv k) l (lv_cell c k ()) hl)

/-- A list of resources. -/
def sepL {ι : Type} (l : List ι) (Φ : ι → sProp 𝕄) : sProp 𝕄 := l.foldr (fun i P => iprop(Φ i ∗ P)) iprop(emp)
omit [FloatOps F] [Named F] in
theorem sepL_cons {ι : Type} (i : ι) (l : List ι) (Φ : ι → sProp 𝕄) : sepL (i :: l) Φ = iprop(Φ i ∗ sepL l Φ) := rfl
omit [FloatOps F] [Named F] in
theorem sepL_nil {ι : Type} (Φ : ι → sProp 𝕄) : sepL [] Φ = iprop(emp) := rfl
omit [FloatOps F] [Named F] in
theorem sepL_eq_bigSep {ι : Type} [DecidableEq ι] (l : List ι) (hl : l.Nodup) (Φ : ι → sProp 𝕄) : sepL l Φ = bigSep l.toFinset Φ := by
  induction l with
  | nil => rw [sepL_nil, List.toFinset_nil, bigSep_empty]; rfl
  | cons i l ih =>
    rw [List.nodup_cons] at hl
    rw [sepL_cons, List.toFinset_cons, bigSep_insert (by rw [List.mem_toFinset]; exact hl.1), ih hl.2]
    rfl

/-! ## Cells -/

theorem wait_core (c : Dev nD) (k : K) (r : ℕ) (hd : dut c k r = {0}) {l : List Ob} (hl : ∀ o ∈ l, klv k < klv o.k)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (ksem k) (amt k) K')
    {R : sProp 𝕄} {Q : PUnit → sProp 𝕄}
    (h : iprop(Ctx X κ ∗ OW c (owed c l) ∗ (atPos ER (kcell (c, k)) (r + 1) ∅ 0 ∗ reached ER (kcell (c, k)) (r + 1) ∗ pay X c k r 0) ∗ R) ⊢ Q ⟨⟩) :
    iprop(Ctx X κ ∗ OW c (owed c l) ∗ (cred (tallyAt (kcell (c, k)) () (amt k)) ∗ atPos ER (kcell (c, k)) r ∅ 0) ∗ R) ⊢ wpb c (Prog.lift w) Q := by
  have H := fun W => Rounds.wp_wait_rest_token 𝒱₀ ER (Rd X) (c : Thread nD τ) none (κ := κ (c, k)) (sm := ksem k) (k' := amt k) (Q := Q)
      hw (Set.mem_univ _) (k := .ret) () (O := owed c l) (W := W) (R := r) (m := 0) (T := ∅)
      (by rw [Nat.zero_add]; exact (expect_one X c k r hd).symm)
  rw [rest_one X c k r hd] at H
  iintro ⟨#HC, HO, ⟨Hc, Ha⟩, HR⟩
  unfold OW
  icases HO with ⟨%W, HO⟩
  ihave #Hi := (Ctx_inv X κ (c, k)) $$ HC
  iapply (H W) $$ [Hc HO Ha]
  · isplitr; · iexact Hi
    isplitl [Hc]; · iexact Hc
    isplitl [HO]; · iexact HO
    isplitr; · iapply (Ctx_may X κ c k l hl); iexact HC
    iexact Ha
  iintro ⟨HO, Ha, Hr, Hp⟩
  iapply (wp_return (Q := Q))
  iapply h
  isplitr; · iexact HC
  isplitl [HO]; · unfold OW; iexists _; iexact HO
  isplitl [Ha Hr Hp]
  · isplitl [Ha]; · iexact Ha
    isplitl [Hr] <;> iassumption
  iexact HR

theorem close_core (c : Dev nD) (k : K) (r : ℕ) (hr : ∀ r', r ≤ r' → dut c k r' = ∅) :
    iprop(Ctx X κ ∗ atPos ER (kcell (c, k)) r ∅ 0) ⊢ iprop(|={Set.univ}=> semVal (kcell (c, k)) 0) := by
  iintro ⟨#HC, Ha⟩
  ihave #Hi := (Ctx_inv X κ (c, k)) $$ HC
  iapply (cell_close ER (Rd X) (g := kcell (c, k)) (κ := κ (c, k)) (Es := Set.univ) (Set.mem_univ _) (fun h => h) (R := r)
    (fun r' h => (duties_cell X c k r').trans (hr r' h)))
  isplitr <;> iassumption

theorem wait_close (c : Dev nD) (k : K) (r : ℕ) (hd : dut c k r = {0}) (hr : ∀ r', r + 1 ≤ r' → dut c k r' = ∅) {l : List Ob}
    (hl : ∀ o ∈ l, klv k < klv o.k) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (ksem k) (amt k) K')
    {R : sProp 𝕄} {Q : PUnit → sProp 𝕄}
    (h : iprop(Ctx X κ ∗ OW c (owed c l) ∗ (semVal (kcell (c, k)) 0 ∗ pay X c k r 0) ∗ R) ⊢ Q ⟨⟩) :
    iprop(Ctx X κ ∗ OW c (owed c l) ∗ (cred (tallyAt (kcell (c, k)) () (amt k)) ∗ atPos ER (kcell (c, k)) r ∅ 0) ∗ R) ⊢ wpb c (Prog.lift w) Q := by
  have h' : iprop(Ctx X κ ∗ OW c (owed c l) ∗ (atPos ER (kcell (c, k)) (r + 1) ∅ 0 ∗ reached ER (kcell (c, k)) (r + 1) ∗ pay X c k r 0) ∗ R)
      ⊢ iprop(|={Set.univ}=> Q ⟨⟩) := by
    iintro ⟨#HC, HO, ⟨Ha, -, Hp⟩, HR⟩
    imod (close_core X κ c k (r + 1) hr) $$ [Ha] with Hv
    · isplitr <;> iassumption
    imodintro
    iapply h
    isplitr; · iexact HC
    isplitl [HO]; · iexact HO
    isplitl [Hv Hp]
    · isplitl [Hv] <;> iassumption
    iexact HR
  refine (wait_core X κ c k r hd hl hw (Q := fun a => iprop(|={Set.univ}=> Q a)) h').trans ?_
  exact wp_fupd frame (wpE (defs₀ (F := F)) 𝒱₀ (c : Thread nD τ) none) Set.univ (Prog.lift w) Q

end Cert.KernelIdeal.Pf
end
end
-- ==== Proof.Comm.lean ====
/-
# The remote steps: signals, copies and waits, each over the list of those still to come
-/
module

public import proofs.«01_k».proof.Proof.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ)

/-! ## What each step takes and gives -/

def SigIn (c : Dev nD) (t : Fin 16) : sProp 𝕄 := iprop(dutyTok ER (kcell (dst c t, .bar)) 0 (neg t) ∗ barPay (F := F) (dst c t) (neg t))

def KvIn (c : Dev nD) (p : Con F cc0_scratch0) (i : Fin 16 × Fin 2) : sProp 𝕄 :=
  iprop((if need c i.2 then iprop(dutyTok ER (kcell (c, .ks i.1 i.2)) 0 0 ∗ dutyTok ER (kcell (dst c i.1, .kr i.1 i.2)) 0 0
      ∗ ∃ g, pc (F := F) (dst c i.1) (gSl i.1 i.2) g) else iprop(emp)) ∗ pc c (pSl (dst c i.1) i.2) p)
def KvOut (c : Dev nD) (i : Fin 16 × Fin 2) : sProp 𝕄 :=
  if need c i.2 then cred (tallyAt (kcell (c, .ks i.1 i.2)) () Nkv) else iprop(∃ p, pc (F := F) c (pSl (dst c i.1) i.2) p)
def WIn (c : Dev nD) (i : Fin 16 × Fin 2) : sProp 𝕄 :=
  iprop((if need (src c i.1) i.2 then cred (tallyAt (kcell (c, .kr i.1 i.2)) () Nkv) else iprop(∃ g, pc (F := F) c (gSl i.1 i.2) g))
    ∗ atPos ER (kcell (c, .kr i.1 i.2)) 0 ∅ 0)
def WOut (c : Dev nD) (i : Fin 16 × Fin 2) : sProp 𝕄 :=
  iprop(semVal (kcell (c, .kr i.1 i.2)) 0 ∗ ∃ g, ⌜SlotIf X c i g⌝ ∗ pc c (gSl i.1 i.2) g)
def RsIn (c : Dev nD) (P : Con F cc0_scratch3) (t : Fin 16) : sProp 𝕄 :=
  iprop(dutyTok ER (kcell (c, .as t)) 0 0 ∗ dutyTok ER (kcell (dst c t, .rr t)) 0 0 ∗ (∃ s, pc (F := F) (dst c t) (sSl t) s) ∗ pc c (aSl (dst c t)) P)
def RsOut (c : Dev nD) (t : Fin 16) : sProp 𝕄 := cred (tallyAt (kcell (c, .as t)) () Nrow)
def RaIn (c : Dev nD) (t : Fin 16) : sProp 𝕄 := iprop(cred (tallyAt (kcell (c, .as t)) () Nrow) ∗ atPos ER (kcell (c, .as t)) 0 ∅ 0)
def RaOut (c : Dev nD) (t : Fin 16) : sProp 𝕄 :=
  iprop(atPos ER (kcell (c, .as t)) 1 ∅ 0 ∗ reached ER (kcell (c, .as t)) 1 ∗ ∃ P, pc (F := F) c (aSl (dst c t)) P)
def RrIn (c : Dev nD) (t : Fin 16) : sProp 𝕄 := iprop(cred (tallyAt (kcell (c, .rr t)) () Nrow) ∗ atPos ER (kcell (c, .rr t)) 0 ∅ 0)
def RrOut (c : Dev nD) (t : Fin 16) : sProp 𝕄 := iprop(semVal (kcell (c, .rr t)) 0 ∗ ∃ s, ⌜LandOk X c t s⌝ ∗ pc c (sSl t) s)
def AgIn (c : Dev nD) (R : Con F cc0_scratch4) (t : Fin 16) : sProp 𝕄 :=
  iprop(dutyTok ER (kcell (c, .as t)) 1 0 ∗ reached ER (kcell (c, .as t)) 1 ∗ dutyTok ER (kcell (dst c t, .ag t)) 0 0
    ∗ (∃ o, pc (F := F) (dst c t) (oSl c) o) ∗ pcq c rM (shareTok fullShare 16 t) R)
def AaIn (c : Dev nD) (t : Fin 16) : sProp 𝕄 := iprop(cred (tallyAt (kcell (c, .as t)) () Nrow) ∗ atPos ER (kcell (c, .as t)) 1 ∅ 0)
def AaOut (c : Dev nD) (t : Fin 16) : sProp 𝕄 := iprop(semVal (kcell (c, .as t)) 0 ∗ ∃ R, pcq (F := F) c rM (shareTok fullShare 16 t) R)
def AwIn (c : Dev nD) (t : Fin 16) : sProp 𝕄 := iprop(cred (tallyAt (kcell (c, .ag t)) () Nrow) ∗ atPos ER (kcell (c, .ag t)) 0 ∅ 0)
def AwOut (c : Dev nD) (t : Fin 16) : sProp 𝕄 := iprop(semVal (kcell (c, .ag t)) 0 ∗ ∃ o, ⌜RowsOk X (src c t) o⌝ ∗ pc c (oSl (src c t)) o)
def KwIn (c : Dev nD) (i : Fin 16 × Fin 2) : sProp 𝕄 := iprop(KvOut (F := F) c i ∗ atPos ER (kcell (c, .ks i.1 i.2)) 0 ∅ 0)
def KwOut (c : Dev nD) (i : Fin 16 × Fin 2) : sProp 𝕄 := iprop(semVal (kcell (c, .ks i.1 i.2)) 0 ∗ ∃ p, pc (F := F) c (pSl (dst c i.1) i.2) p)

/-! ## The entry barrier -/

theorem sig_step (c : Dev nD) (t : Fin 16) (ht : t ≠ 0) {n : Dev nD} (hn : n = dst c t) {l : List Ob} {ts : List (Fin 16)}
    {R : sProp 𝕄} {Q : PUnit → sProp 𝕄}
    (h : iprop(Ctx X κ ∗ OW c (owed c l) ∗ sepL ts (SigIn (F := F) c) ∗ R) ⊢ Q ⟨⟩) :
    iprop(Ctx X κ ∗ OW c (owed c (.bar t :: l)) ∗ sepL (t :: ts) (SigIn (F := F) c) ∗ R)
      ⊢ wpb c (semSignalWord n barS 1#32) Q := by
  subst hn
  have H := fun W => Rounds.wp_signal (defs := defs₀ (F := F)) (Γ := .empty) 𝒱₀ ER (Rd X) (c : Thread nD τ) none (dst := (dst c t : Thread nD τ)) (sem := barS) (κ := κ (dst c t, .bar))
      (r := 0) (d := neg t) (k' := 1) (k := .ret) (Q := Q) (Es := Set.univ)
      (by rw [duties_cell X (dst c t) .bar 0]; exact Finset.mem_erase.mpr ⟨(neg_ne t).mpr ht, Finset.mem_univ _⟩)
      (amount_cell X (dst c t) .bar 0 (neg t)) () (O₀ := owed c (.bar t :: l)) (owed c l) rfl (W := W)
  have hp : pay X (dst c t) .bar 0 (neg t) = barPay (F := F) (dst c t) (neg t) := rfl
  rw [payload_cell X (dst c t) .bar 0, hp] at H
  rw [sepL_cons]
  unfold SigIn OW
  iintro ⟨#HC, ⟨%W, HO⟩, ⟨⟨Ht, Hp⟩, HS⟩, HR⟩
  iapply (H W) $$ [HO Ht Hp]
  · isplitr; · iapply (Ctx_inv X κ (dst c t, .bar)); iexact HC
    isplitl [HO]; · iexact HO
    isplitl [Ht]; · iexact Ht
    isplitl [Hp]; · iexact Hp
    iapply (Ctx_reached X κ (dst c t, .bar)); iexact HC
  iintro HO
  iapply (wp_return (Q := Q))
  iapply h
  isplitr; · iexact HC
  isplitl [HO]; · unfold OW; iexists _; iexact HO
  isplitl [HS]; · iexact HS
  iexact HR

theorem rest_bar_list (c : Dev nD) :
    bigSep ((Rd X).duties (kcell (c, .bar)) 0 \ ∅) (fun d => (Rd X).payload (kcell (c, .bar)) 0 d) = sepL tL (barPay (F := F) c) := by
  rw [rest_bar, sepL_eq_bigSep tL (by decide)]
  exact congrArg (fun s => bigSep s _) (by decide)

theorem bar_wait (c : Dev nD) {R : sProp 𝕄} {Q : PUnit → sProp 𝕄}
    (h : iprop(Ctx X κ ∗ OW c (owed c obKr) ∗ (semVal (kcell (c, .bar)) 0 ∗ sepL tL (barPay (F := F) c)) ∗ R) ⊢ Q ⟨⟩) :
    iprop(Ctx X κ ∗ OW c (owed c obKr) ∗ (cred (tallyAt (kcell (c, .bar)) () 15) ∗ atPos ER (kcell (c, .bar)) 0 ∅ 0) ∗ R)
      ⊢ wpb c (semWaitWord barS 15#32) Q := by
  have H := fun W => Rounds.wp_wait_rest_token (defs := defs₀ (F := F)) 𝒱₀ ER (Rd X) (c : Thread nD τ) none (κ := κ (c, .bar)) (sm := .reg barS) (k' := 15) (Q := Q)
      (wpE_semWait_eq 𝒱₀ (c : Thread nD τ) none Set.univ) (Set.mem_univ _) (k := .ret) () (O := owed c obKr) (W := W) (R := 0) (m := 0) (T := ∅)
      (by rw [Nat.zero_add]; exact (expect_bar X c).symm)
  rw [rest_bar_list X c] at H
  unfold OW
  iintro ⟨#HC, ⟨%W, HO⟩, ⟨Hc, Ha⟩, HR⟩
  iapply (H W) $$ [Hc HO Ha]
  · isplitr; · iapply (Ctx_inv X κ (c, .bar)); iexact HC
    isplitl [Hc]; · iexact Hc
    isplitl [HO]; · iexact HO
    isplitr; · iapply (Ctx_may X κ c .bar obKr (by decide)); iexact HC
    iexact Ha
  iintro ⟨HO, Ha, -, Hp⟩
  iapply (fupd_wp frame (wpE (defs₀ (F := F)) 𝒱₀ (c : Thread nD τ) none) Set.univ (.ret ⟨⟩) Q)
  imod (close_core X κ c .bar 1 (fun r' hr => if_neg (by omega))) $$ [Ha] with Hv
  · isplitr <;> iassumption
  imodintro
  iapply (wp_return (Q := Q))
  iapply h
  isplitr; · iexact HC
  isplitl [HO]; · unfold OW; iexists _; iexact HO
  isplitl [Hv Hp]
  · isplitl [Hv] <;> iassumption
  iexact HR

/-! ## Copies -/

theorem send_core (c : Dev nD) (kS kR : K) (rS : ℕ) (t : Fin 16) (o : Ob) (hk : o.k = kR) (ht : o.t = t) (ho : o.due c)
    (hd₁ : dut c kS rS = {0}) (hd₂ : dut (dst c t) kR 0 = {0}) (hN : amt kR = amt kS) {s : Shape} {e : EltTy}
    {srcm dstm : Memref sig .tc .vmem s e} {hsc : dstm.view.ref.isScScratch = false} {sS sR : DmaSem sig} (hsS : .dma sS = ksem kS) (hsR : .dma sR = ksem kR)
    {hsrc : srcm.view.WordExact} {hdst : dstm.view.WordExact}
    {hsem : DmaTarget.Typed .vmem (.dma sR) (.remote (Dev.tc (dst c t) : Thread nD τ) dstm (.dma sS) hsc)}
    (hamt : dstm.view.dmaCredit = amt kS) {q : PosShare TreeShare} {fs : srcm.view.ty.Contents (Elt F)} {fd : dstm.view.ty.Contents (Elt F)}
    (hpay₁ : pcq c srcm q fs ⊢ pay X c kS rS 0)
    (hpay₂ : pc (dst c t) dstm (dstm.view.write (Elt F) fd (srcm.view.read (Elt F) fs) Finset.univ) ⊢ pay X (dst c t) kR 0 0)
    {l : List Ob} {R : sProp 𝕄} {Q : PUnit → sProp 𝕄}
    (h : iprop(Ctx X κ ∗ OW c (owed c l) ∗ cred (tallyAt (kcell (c, kS)) () (amt kS)) ∗ R) ⊢ Q ⟨⟩) :
    iprop(Ctx X κ ∗ OW c (owed c (o :: l)) ∗ (pcq c srcm q fs ∗ pc (dst c t) dstm fd ∗ dutyTok ER (kcell (c, kS)) rS 0 ∗ reached ER (kcell (c, kS)) rS
        ∗ dutyTok ER (kcell (dst c t, kR)) 0 0) ∗ R)
      ⊢ wpb c (Prog.lift (.enqueueDma srcm (.remote (Dev.tc (dst c t) : Thread nD τ) dstm (.dma sS) hsc) (.dma sR) hsrc hdst hsem)) Q := by
  have hO : owed c (o :: l) = owed c l + tallyAt (kcell (dst c t, kR)) () (amt kS) := by
    rw [owed_cons]; unfold obT; rw [if_pos ho, hk, ht, hN]
  have e₁ : ((c : Thread nD τ), SemLoc.dma sS) = kcell (c, kS) := by rw [hsS]
  have e₂ : ((dst c t : Thread nD τ), SemLoc.dma sR) = kcell (dst c t, kR) := by rw [hsR]
  rw [hO]
  have H := fun W => Rounds.wp_send_pointsTo (Val := Elt F) (defs := defs₀ (F := F)) (Γ := .empty) 𝒱₀ ER (Rd X) (c : Thread nD τ) none (c' := (dst c t : Thread nD τ)) (κ₁ := κ (c, kS)) (κ₂ := κ (dst c t, kR))
    (sS := .dma sS) (sem := .dma sR) (src := srcm) (dst := dstm) (hsc := hsc) (hsrc := hsrc) (hdst := hdst) (hsem := hsem) (q := q) (fs := fs) (fd := fd)
    (r₁ := rS) (r₂ := 0) (d₁ := 0) (d₂ := 0) (k := .ret) (Q := Q) (Es := Set.univ)
    (by rw [e₁, duties_cell, hd₁]; exact Finset.mem_singleton_self _) (by rw [e₂, duties_cell, hd₂]; exact Finset.mem_singleton_self _)
    () () (amt kS) hamt (by rw [e₁, amount_cell]) (by rw [e₂, amount_cell, hN]) (O₀ := owed c l + tallyAt (kcell (dst c t, kR)) () (amt kS)) (owed c l)
    (by rw [e₂]) (W := W) (by rw [e₁, payload_cell]; exact hpay₁) (by rw [e₂, payload_cell]; exact hpay₂)
  rw [e₁, e₂] at H
  unfold OW
  iintro ⟨#HC, ⟨%W, HO⟩, ⟨Hs, Hd, Ht1, Hr1, Ht2⟩, HR⟩
  unfold pc pcq
  iapply (H W) $$ [HO Hs Hd Ht1 Hr1 Ht2]
  · isplitr; · iapply (Ctx_inv X κ (c, kS)); iexact HC
    isplitr; · iapply (Ctx_inv X κ (dst c t, kR)); iexact HC
    isplitl [Hs]; · iexact Hs
    isplitl [Hd]; · iexact Hd
    isplitl [HO]; · iexact HO
    isplitl [Ht1]; · iexact Ht1
    isplitl [Hr1]; · iexact Hr1
    isplitl [Ht2]; · iexact Ht2
    iapply (Ctx_reached X κ (dst c t, kR)); iexact HC
  iintro ⟨Hc, HO⟩
  iapply (wp_return (Q := Q))
  iapply h
  isplitr; · iexact HC
  isplitl [HO]; · unfold OW; iexists _; iexact HO
  isplitl [Hc]; · iexact Hc
  iexact HR

theorem guarded {c : Dev nD} {cnd : BitVec 1} {g : Prop} [Decidable g] (hc : cnd = 1#1 ↔ g) {α : Type} {a : α} {St St' : sProp 𝕄} {Q : α → sProp 𝕄}
    {p : cnd = 1#1 → Prog (TpuEff nD τ sig (Elt F) Λ₀ .tc) α}
    (h1 : g → ∀ h : cnd = 1#1, (St' ⊢ Q a) → (St ⊢ wpb c (p h) Q)) (h2 : ¬ g → (St ⊢ St')) (h : St' ⊢ Q a) :
    St ⊢ wpb c (dite (cnd = 1#1) p (fun _ => pure a)) Q :=
  guard_step (fun hh => h1 (hc.mp hh) hh h) (fun hh => pure_step ((h2 (fun hg => hh (hc.mpr hg))).trans h))

/-- Sends block `b` packed for the device at distance `t`. -/
theorem kv_send (c : Dev nD) (t : Fin 16) (b : Fin 2) (ht : t ≠ 0) (hn : need c b) (p : Con F cc0_scratch0) (hp : PackOk (X c) (dst c t) p)
    {n : Dev nD} (hdev : n = dst c t)
    {srcm dstm : Memref sig .tc .vmem S4x64x256 .bf16} (hs : srcm = pSl (dst c t) b) (hd : dstm = gSl t b)
    {hsc : dstm.view.ref.isScScratch = false} {sS sR : DmaSem sig} (hsS : sS = ksS t b) (hsR : sR = krS t b)
    {hsrc : srcm.view.WordExact} {hdst : dstm.view.WordExact}
    {hsem : DmaTarget.Typed .vmem (.dma sR) (.remote (Dev.tc n : Thread nD τ) dstm (.dma sS) hsc)}
    {l : List Ob} {ts ds : List (Fin 16 × Fin 2)} {R : sProp 𝕄} {Q : PUnit → sProp 𝕄}
    (h : iprop(Ctx X κ ∗ OW c (owed c l) ∗ sepL ts (KvIn c p) ∗ sepL ((t, b) :: ds) (KvOut (F := F) c) ∗ R) ⊢ Q ⟨⟩) :
    iprop(Ctx X κ ∗ OW c (owed c (.kr t b :: l)) ∗ sepL ((t, b) :: ts) (KvIn c p) ∗ sepL ds (KvOut (F := F) c) ∗ R)
      ⊢ wpb c (Prog.lift (.enqueueDma srcm (.remote (Dev.tc n : Thread nD τ) dstm (.dma sS) hsc) (.dma sR) hsrc hdst hsem)) Q := by
  subst hdev hs hd hsS hsR
  rw [sepL_cons]
  unfold KvIn
  simp only [if_pos hn]
  iintro ⟨#HC, HO, ⟨⟨⟨Ht1, Ht2, ⟨%g, Hg⟩⟩, Hp⟩, HS⟩, HD, HR⟩
  iapply (send_core X κ c (.ks t b) (.kr t b) 0 t (.kr t b) rfl rfl hn (if_pos ⟨rfl, ht, hn⟩)
    (if_pos ⟨rfl, ht, by rw [src_dst]; exact hn⟩) rfl (srcm := pSl (dst c t) b) (dstm := gSl t b) (sS := ksS t b) (sR := krS t b) rfl rfl
    (hsc := hsc) (hsrc := hsrc) (hdst := hdst) (hsem := hsem)
    (credit_gSl t b) (q := fullShare) (fs := p) (fd := g)
    (by show _ ⊢ ksPay (F := F) c t b; unfold ksPay; iintro H; iexists p; iexact H)
    (by
      show _ ⊢ krPay X (dst c t) t b
      unfold krPay
      iintro H; iexists _
      isplitr
      rotate_left
      · iexact H
      · ipureintro; exact ⟨p, by rw [src_dst]; exact hp, View.read_write_univ _ _⟩)
    (R := iprop(sepL ts (KvIn c p) ∗ sepL ds (KvOut (F := F) c) ∗ R)) (Q := Q)
    (by
      iintro ⟨#HC, HO, Hc, HS, HD, HR⟩
      iapply h
      isplitr; · iexact HC
      isplitl [HO]; · iexact HO
      isplitl [HS]; · iexact HS
      isplitl [Hc HD]
      · rw [sepL_cons]
        isplitl [Hc]; · unfold KvOut; simp only [if_pos hn]; iexact Hc
        iexact HD
      iexact HR))
  isplitr; · iexact HC
  isplitl [HO]; · iexact HO
  isplitl [Ht1 Ht2 Hg Hp]
  · isplitl [Hp]; · iexact Hp
    isplitl [Hg]; · iexact Hg
    isplitl [Ht1]; · iexact Ht1
    isplitr; · iapply (Ctx_reached X κ (c, .ks t b)); iexact HC
    iexact Ht2
  isplitl [HS]; · iexact HS
  isplitl [HD]; · iexact HD
  iexact HR

theorem kv_skip (c : Dev nD) (t : Fin 16) (b : Fin 2) (hn : ¬ need c b) (p : Con F cc0_scratch0)
    {l : List Ob} {ts ds : List (Fin 16 × Fin 2)} {R : sProp 𝕄} :
    iprop(Ctx X κ ∗ OW c (owed c (.kr t b :: l)) ∗ sepL ((t, b) :: ts) (KvIn c p) ∗ sepL ds (KvOut (F := F) c) ∗ R)
      ⊢ iprop(Ctx X κ ∗ OW c (owed c l) ∗ sepL ts (KvIn c p) ∗ sepL ((t, b) :: ds) (KvOut (F := F) c) ∗ R) := by
  have hO : owed c (.kr t b :: l) = owed c l := by
    rw [owed_cons]; unfold obT; rw [if_neg (show ¬ Ob.due c (.kr t b) from hn), add_zero]
  rw [hO, sepL_cons, sepL_cons]
  iintro ⟨#HC, HO, ⟨Hi, HS⟩, HD, HR⟩
  isplitr; · iexact HC
  isplitl [HO]; · iexact HO
  isplitl [HS]; · iexact HS
  isplitl [Hi HD]
  · isplitl [Hi]
    · unfold KvIn KvOut
      simp only [if_neg hn]
      icases Hi with ⟨-, Hp⟩
      iexists p; iexact Hp
    iexact HD
  iexact HR

/-- The waits: a token of the units awaited and the position, for the cell at 0 and the payload. -/
theorem lwait (c : Dev nD) (k : K) (r : ℕ) (hd : dut c k r = {0}) (hr : ∀ r', r + 1 ≤ r' → dut c k r' = ∅) {l : List Ob}
    (hl : ∀ o ∈ l, klv k < klv o.k) {s s' : Shape} {e e' : EltTy}
    {srcm : Memref sig .tc .vmem s' e'} {dstm : Memref sig .tc .vmem s e} {sR : DmaSem sig} (hsR : .dma sR = ksem k) (hcr : dstm.view.dmaCredit = amt k)
    {h1 : srcm.view.WordExact} {h2 : dstm.view.WordExact} {R : sProp 𝕄} {Q : PUnit → sProp 𝕄}
    (h : iprop(Ctx X κ ∗ OW c (owed c l) ∗ (semVal (kcell (c, k)) 0 ∗ pay X c k r 0) ∗ R) ⊢ Q ⟨⟩) :
    iprop(Ctx X κ ∗ OW c (owed c l) ∗ (cred (tallyAt (kcell (c, k)) () (amt k)) ∗ atPos ER (kcell (c, k)) r ∅ 0) ∗ R)
      ⊢ wpb c (Prog.lift (.waitDma2 sR srcm dstm h1 h2)) Q :=
  wait_close X κ c k r hd hr hl (fun K' => by
    rw [← hsR, ← hcr]; exact wpE_waitDma2_eq 𝒱₀ (c : Thread nD τ) none Set.univ K') h

/-- From one list to another: the head's resource is turned by the wait into what joins the second list. -/
theorem list_wait (c : Dev nD) (k : K) (r : ℕ) (hd : dut c k r = {0}) (hr : ∀ r', r + 1 ≤ r' → dut c k r' = ∅) {l : List Ob}
    (hl : ∀ o ∈ l, klv k < klv o.k) {s s' : Shape} {e e' : EltTy}
    {srcm : Memref sig .tc .vmem s' e'} {dstm : Memref sig .tc .vmem s e} {sR : DmaSem sig} (hsR : .dma sR = ksem k) (hcr : dstm.view.dmaCredit = amt k)
    {h1 : srcm.view.WordExact} {h2 : dstm.view.WordExact} {ι : Type} {i : ι} {ts ds : List ι} {In Out : ι → sProp 𝕄}
    (hin : In i ⊢ iprop(cred (tallyAt (kcell (c, k)) () (amt k)) ∗ atPos ER (kcell (c, k)) r ∅ 0))
    (hout : iprop(semVal (kcell (c, k)) 0 ∗ pay X c k r 0) ⊢ Out i)
    {R : sProp 𝕄} {Q : PUnit → sProp 𝕄}
    (h : iprop(Ctx X κ ∗ OW c (owed c l) ∗ sepL ts In ∗ sepL (i :: ds) Out ∗ R) ⊢ Q ⟨⟩) :
    iprop(Ctx X κ ∗ OW c (owed c l) ∗ sepL (i :: ts) In ∗ sepL ds Out ∗ R) ⊢ wpb c (Prog.lift (.waitDma2 sR srcm dstm h1 h2)) Q := by
  have H := lwait X κ c k r hd hr hl hsR hcr (srcm := srcm) (h1 := h1) (h2 := h2) (R := iprop(sepL ts In ∗ sepL ds Out ∗ R)) (Q := Q) (by
    iintro ⟨HC, HO, Hp, HS, HD, HR⟩
    iapply h
    isplitl [HC]; · iexact HC
    isplitl [HO]; · iexact HO
    isplitl [HS]; · iexact HS
    isplitl [Hp HD]
    · rw [sepL_cons]
      isplitl [Hp]; · iapply hout; iexact Hp
      iexact HD
    iexact HR)
  rw [sepL_cons]
  iintro ⟨HC, HO, ⟨Hi, HS⟩, HD, HR⟩
  iapply H
  isplitl [HC]; · iexact HC
  isplitl [HO]; · iexact HO
  isplitl [Hi]; · iapply hin; iexact Hi
  isplitl [HS]; · iexact HS
  isplitl [HD]; · iexact HD
  iexact HR

/-- Waits for block `b` from the device at distance `t` before, if it was needed. -/
theorem kv_wait (c : Dev nD) (t : Fin 16) (b : Fin 2) (ht : t ≠ 0) (hn : need (src c t) b) {l : List Ob} (hl : ∀ o ∈ l, 2 < klv o.k)
    {srcm dstm : Memref sig .tc .vmem S4x64x256 .bf16} {sR : DmaSem sig} (hsR : sR = krS t b) (hcr : dstm.view.dmaCredit = Nkv)
    {h1 : srcm.view.WordExact} {h2 : dstm.view.WordExact}
    {ts ds : List (Fin 16 × Fin 2)} {R : sProp 𝕄} {Q : PUnit → sProp 𝕄}
    (h : iprop(Ctx X κ ∗ OW c (owed c l) ∗ sepL ts (WIn (F := F) c) ∗ sepL ((t, b) :: ds) (WOut X c) ∗ R) ⊢ Q ⟨⟩) :
    iprop(Ctx X κ ∗ OW c (owed c l) ∗ sepL ((t, b) :: ts) (WIn (F := F) c) ∗ sepL ds (WOut X c) ∗ R)
      ⊢ wpb c (Prog.lift (.waitDma2 sR srcm dstm h1 h2)) Q :=
  list_wait X κ c (.kr t b) 0 (In := WIn (F := F) c) (Out := WOut X c) (i := (t, b)) (sR := sR) (if_pos ⟨rfl, ht, hn⟩) (fun r' hr => if_neg (fun h => by omega)) hl (by rw [hsR]) hcr
    (by unfold WIn; simp only [if_pos hn]; exact Entails.refl _)
    (by
      show iprop(_ ∗ krPay X c t b) ⊢ _
      unfold WOut krPay
      iintro ⟨Hv, ⟨%g, %hg, Hg⟩⟩
      isplitl [Hv]; · iexact Hv
      iexists g
      isplitr; · ipureintro; exact fun _ => hg
      iexact Hg) h

/-- A block not needed: nothing is waited for, the cell closes. -/
theorem kv_wskip (c : Dev nD) (t : Fin 16) (b : Fin 2) (hn : ¬ need (src c t) b) {l : List Ob}
    {ts ds : List (Fin 16 × Fin 2)} {R : sProp 𝕄} :
    iprop(Ctx X κ ∗ OW c (owed c l) ∗ sepL ((t, b) :: ts) (WIn (F := F) c) ∗ sepL ds (WOut X c) ∗ R)
      ⊢ iprop(|={Set.univ}=> (Ctx X κ ∗ OW c (owed c l) ∗ sepL ts (WIn (F := F) c) ∗ sepL ((t, b) :: ds) (WOut X c) ∗ R)) := by
  rw [sepL_cons, sepL_cons]
  iintro ⟨#HC, HO, ⟨Hi, HS⟩, HD, HR⟩
  unfold WIn
  simp only [if_neg hn]
  icases Hi with ⟨⟨%g, Hg⟩, Ha⟩
  imod (close_core X κ c (.kr t b) 0 (fun r' hr => if_neg (fun h => hn h.2.2))) $$ [Ha] with Hv
  · isplitr <;> iassumption
  imodintro
  isplitr; · iexact HC
  isplitl [HO]; · iexact HO
  isplitl [HS]; · iexact HS
  isplitl [Hv Hg HD]
  · isplitl [Hv Hg]
    · unfold WOut
      isplitl [Hv]; · iexact Hv
      iexists g
      isplitr; · ipureintro; exact fun h => absurd h hn
      iexact Hg
    iexact HD
  iexact HR

/-- `guarded`, the untaken branch making an update. -/
theorem guardedU {c : Dev nD} {cnd : BitVec 1} {g : Prop} [Decidable g] (hc : cnd = 1#1 ↔ g) {α : Type} {a : α} {St St' : sProp 𝕄} {Q : α → sProp 𝕄}
    {p : cnd = 1#1 → Prog (TpuEff nD τ sig (Elt F) Λ₀ .tc) α}
    (h1 : g → ∀ h : cnd = 1#1, (St' ⊢ Q a) → (St ⊢ wpb c (p h) Q)) (h2 : ¬ g → (St ⊢ iprop(|={Set.univ}=> St'))) (h : St' ⊢ Q a) :
    St ⊢ wpb c (dite (cnd = 1#1) p (fun _ => pure a)) Q :=
  guard_step (fun hh => h1 (hc.mp hh) hh h)
    (fun hh => (h2 (fun hg => hh (hc.mpr hg))).trans ((fupd_mono (h.trans (wp_return (Q := Q)))).trans
      (fupd_wp frame (wpE (defs₀ (F := F)) 𝒱₀ (c : Thread nD τ) none) Set.univ (.ret a) Q)))

/-- Waits that a copy of a block has left, if it was made. -/
theorem ks_wait (c : Dev nD) (t : Fin 16) (b : Fin 2) (ht : t ≠ 0) (hn : need c b)
    {srcm dstm : Memref sig .tc .vmem S4x64x256 .bf16} {sR : DmaSem sig} (hsR : sR = ksS t b) (hcr : dstm.view.dmaCredit = Nkv)
    {h1 : srcm.view.WordExact} {h2 : dstm.view.WordExact}
    {ts ds : List (Fin 16 × Fin 2)} {R : sProp 𝕄} {Q : PUnit → sProp 𝕄}
    (h : iprop(Ctx X κ ∗ OW c (owed c []) ∗ sepL ts (KwIn (F := F) c) ∗ sepL ((t, b) :: ds) (KwOut (F := F) c) ∗ R) ⊢ Q ⟨⟩) :
    iprop(Ctx X κ ∗ OW c (owed c []) ∗ sepL ((t, b) :: ts) (KwIn (F := F) c) ∗ sepL ds (KwOut (F := F) c) ∗ R)
      ⊢ wpb c (Prog.lift (.waitDma2 sR srcm dstm h1 h2)) Q :=
  list_wait X κ c (.ks t b) 0 (In := KwIn (F := F) c) (Out := KwOut (F := F) c) (i := (t, b)) (sR := sR) (if_pos ⟨rfl, ht, hn⟩) (fun r' hr => if_neg (fun h => by omega)) (fun _ h => absurd h List.not_mem_nil) (by rw [hsR]) hcr
    (by unfold KwIn KvOut; simp only [if_pos hn]; exact Entails.refl _)
    (by
      show iprop(_ ∗ ksPay c t b) ⊢ _
      unfold KwOut ksPay
      exact Entails.refl _) h

theorem ks_wskip (c : Dev nD) (t : Fin 16) (b : Fin 2) (hn : ¬ need c b) {l : List Ob}
    {ts ds : List (Fin 16 × Fin 2)} {R : sProp 𝕄} :
    iprop(Ctx X κ ∗ OW c (owed c l) ∗ sepL ((t, b) :: ts) (KwIn (F := F) c) ∗ sepL ds (KwOut (F := F) c) ∗ R)
      ⊢ iprop(|={Set.univ}=> (Ctx X κ ∗ OW c (owed c l) ∗ sepL ts (KwIn (F := F) c) ∗ sepL ((t, b) :: ds) (KwOut (F := F) c) ∗ R)) := by
  rw [sepL_cons, sepL_cons]
  iintro ⟨#HC, HO, ⟨Hi, HS⟩, HD, HR⟩
  unfold KwIn KvOut
  simp only [if_neg hn]
  icases Hi with ⟨⟨%g, Hg⟩, Ha⟩
  imod (close_core X κ c (.ks t b) 0 (fun r' hr => if_neg (fun h => hn h.2.2))) $$ [Ha] with Hv
  · isplitr <;> iassumption
  imodintro
  isplitr; · iexact HC
  isplitl [HO]; · iexact HO
  isplitl [HS]; · iexact HS
  isplitl [Hv Hg HD]
  · isplitl [Hv Hg]
    · unfold KwOut
      isplitl [Hv]; · iexact Hv
      iexists g
      iexact Hg
    iexact HD
  iexact HR

/-! ## The reduction and the gathering -/

/-- Sends the partial rows of the device at distance `t`. -/
theorem rs_send (c : Dev nD) (t : Fin 16) (ht : t ≠ 0) (P : Con F cc0_scratch3) (hP : PartOk X c P)
    {n : Dev nD} (hdev : n = dst c t)
    {srcm dstm : Memref sig .tc .vmem S16x512 .bf16} (hs : srcm = aSl (dst c t)) (hd : dstm = sSl t)
    {hsc : dstm.view.ref.isScScratch = false} {sS sR : DmaSem sig} (hsS : sS = asS t) (hsR : sR = rrS t)
    {hsrc : srcm.view.WordExact} {hdst : dstm.view.WordExact}
    {hsem : DmaTarget.Typed .vmem (.dma sR) (.remote (Dev.tc n : Thread nD τ) dstm (.dma sS) hsc)}
    {l : List Ob} {ts ds : List (Fin 16)} {R : sProp 𝕄} {Q : PUnit → sProp 𝕄}
    (h : iprop(Ctx X κ ∗ OW c (owed c l) ∗ sepL ts (RsIn c P) ∗ sepL (t :: ds) (RsOut (F := F) c) ∗ R) ⊢ Q ⟨⟩) :
    iprop(Ctx X κ ∗ OW c (owed c (.rr t :: l)) ∗ sepL (t :: ts) (RsIn c P) ∗ sepL ds (RsOut (F := F) c) ∗ R)
      ⊢ wpb c (Prog.lift (.enqueueDma srcm (.remote (Dev.tc n : Thread nD τ) dstm (.dma sS) hsc) (.dma sR) hsrc hdst hsem)) Q := by
  subst hdev hs hd hsS hsR
  rw [sepL_cons]
  unfold RsIn
  iintro ⟨#HC, HO, ⟨⟨Ht1, Ht2, ⟨%g, Hg⟩, Hp⟩, HS⟩, HD, HR⟩
  iapply (send_core X κ c (.as t) (.rr t) 0 t (.rr t) rfl rfl trivial (if_pos ⟨by omega, ht⟩)
    (if_pos ⟨rfl, ht⟩) rfl (srcm := aSl (dst c t)) (dstm := sSl t) (sS := asS t) (sR := rrS t) rfl rfl
    (hsc := hsc) (hsrc := hsrc) (hdst := hdst) (hsem := hsem)
    (credit_sSl t) (q := fullShare) (fs := P) (fd := g)
    (by show _ ⊢ asPay (F := F) c t 0; unfold asPay; rw [if_pos rfl]; iintro H; iexists P; iexact H)
    (by
      show _ ⊢ rrPay X (dst c t) t
      unfold rrPay
      iintro H; iexists _
      isplitr
      rotate_left
      · iexact H
      · ipureintro; exact ⟨P, by rw [src_dst]; exact hP, View.read_write_univ _ _⟩)
    (R := iprop(sepL ts (RsIn c P) ∗ sepL ds (RsOut (F := F) c) ∗ R)) (Q := Q)
    (by
      iintro ⟨#HC, HO, Hc, HS, HD, HR⟩
      iapply h
      isplitr; · iexact HC
      isplitl [HO]; · iexact HO
      isplitl [HS]; · iexact HS
      isplitl [Hc HD]
      · rw [sepL_cons]
        isplitl [Hc]; · unfold RsOut; iexact Hc
        iexact HD
      iexact HR))
  isplitr; · iexact HC
  isplitl [HO]; · iexact HO
  isplitl [Ht1 Ht2 Hg Hp]
  · isplitl [Hp]; · iexact Hp
    isplitl [Hg]; · iexact Hg
    isplitl [Ht1]; · iexact Ht1
    isplitr; · iapply (Ctx_reached X κ (c, .as t)); iexact HC
    iexact Ht2
  isplitl [HS]; · iexact HS
  isplitl [HD]; · iexact HD
  iexact HR

/-- Waits that the partial rows for distance `t` have left. -/
theorem ra_wait (c : Dev nD) (t : Fin 16) (ht : t ≠ 0) {l : List Ob} (hl : ∀ o ∈ l, 0 < klv o.k)
    {srcm dstm : Memref sig .tc .vmem S16x512 .bf16} {sR : DmaSem sig} (hsR : sR = asS t) (hcr : dstm.view.dmaCredit = Nrow)
    {h1 : srcm.view.WordExact} {h2 : dstm.view.WordExact} {ts ds : List (Fin 16)} {R : sProp 𝕄} {Q : PUnit → sProp 𝕄}
    (h : iprop(Ctx X κ ∗ OW c (owed c l) ∗ sepL ts (RaIn (F := F) c) ∗ sepL (t :: ds) (RaOut (F := F) c) ∗ R) ⊢ Q ⟨⟩) :
    iprop(Ctx X κ ∗ OW c (owed c l) ∗ sepL (t :: ts) (RaIn (F := F) c) ∗ sepL ds (RaOut (F := F) c) ∗ R)
      ⊢ wpb c (Prog.lift (.waitDma2 sR srcm dstm h1 h2)) Q := by
  have H := wait_core X κ c (.as t) 0 (if_pos ⟨by omega, ht⟩) hl (w := .waitDma2 sR srcm dstm h1 h2)
    (fun K' => by rw [show ksem (.as t) = .dma sR by rw [hsR], show amt (.as t) = dstm.view.dmaCredit from hcr.symm]
                  exact wpE_waitDma2_eq 𝒱₀ (c : Thread nD τ) none Set.univ K')
    (R := iprop(sepL ts (RaIn (F := F) c) ∗ sepL ds (RaOut (F := F) c) ∗ R)) (Q := Q) (by
    iintro ⟨HC, HO, ⟨Ha, Hr, Hp⟩, HS, HD, HR⟩
    iapply h
    isplitl [HC]; · iexact HC
    isplitl [HO]; · iexact HO
    isplitl [HS]; · iexact HS
    isplitl [Ha Hr Hp HD]
    · rw [sepL_cons]
      isplitl [Ha Hr Hp]
      · unfold RaOut
        isplitl [Ha]; · iexact Ha
        isplitl [Hr]; · iexact Hr
        iapply (Entails.of_eq (show pay X c (.as t) 0 0 = iprop(∃ P, pc (F := F) c (aSl (dst c t)) P) by
          show asPay (F := F) c t 0 = _; unfold asPay; rw [if_pos rfl])); iexact Hp
      iexact HD
    iexact HR)
  rw [sepL_cons]
  iintro ⟨HC, HO, ⟨Hi, HS⟩, HD, HR⟩
  iapply H
  isplitl [HC]; · iexact HC
  isplitl [HO]; · iexact HO
  isplitl [Hi]; · unfold RaIn; iexact Hi
  isplitl [HS]; · iexact HS
  isplitl [HD]; · iexact HD
  iexact HR

/-- Waits for the partial rows from distance `t`. -/
theorem rr_wait (c : Dev nD) (t : Fin 16) (ht : t ≠ 0) {l : List Ob} (hl : ∀ o ∈ l, 3 < klv o.k)
    {srcm dstm : Memref sig .tc .vmem S16x512 .bf16} {sR : DmaSem sig} (hsR : sR = rrS t) (hcr : dstm.view.dmaCredit = Nrow)
    {h1 : srcm.view.WordExact} {h2 : dstm.view.WordExact} {ts ds : List (Fin 16)} {R : sProp 𝕄} {Q : PUnit → sProp 𝕄}
    (h : iprop(Ctx X κ ∗ OW c (owed c l) ∗ sepL ts (RrIn (F := F) c) ∗ sepL (t :: ds) (RrOut X c) ∗ R) ⊢ Q ⟨⟩) :
    iprop(Ctx X κ ∗ OW c (owed c l) ∗ sepL (t :: ts) (RrIn (F := F) c) ∗ sepL ds (RrOut X c) ∗ R)
      ⊢ wpb c (Prog.lift (.waitDma2 sR srcm dstm h1 h2)) Q :=
  list_wait X κ c (.rr t) 0 (In := RrIn (F := F) c) (Out := RrOut X c) (i := t) (sR := sR) (if_pos ⟨rfl, ht⟩) (fun r' hr => if_neg (fun h => by omega)) hl (by rw [hsR]) hcr (Entails.refl _) (Entails.refl _) h

/-- Sends the reduced rows to the device at distance `t`. -/
theorem ag_send (c : Dev nD) (t : Fin 16) (ht : t ≠ 0) (Rc : Con F cc0_scratch4) (hR : RedOk X c Rc)
    {n : Dev nD} (hdev : n = dst c t)
    {dstm : Memref sig .tc .vmem S16x512 .bf16} (hd : dstm = oSl c)
    {hsc : dstm.view.ref.isScScratch = false} {sS sR : DmaSem sig} (hsS : sS = asS t) (hsR : sR = agS t)
    {hsrc : rM.view.WordExact} {hdst : dstm.view.WordExact}
    {hsem : DmaTarget.Typed .vmem (.dma sR) (.remote (Dev.tc n : Thread nD τ) dstm (.dma sS) hsc)}
    {l : List Ob} {ts ds : List (Fin 16)} {R : sProp 𝕄} {Q : PUnit → sProp 𝕄}
    (h : iprop(Ctx X κ ∗ OW c (owed c l) ∗ sepL ts (AgIn c Rc) ∗ sepL (t :: ds) (RsOut (F := F) c) ∗ R) ⊢ Q ⟨⟩) :
    iprop(Ctx X κ ∗ OW c (owed c (.ag t :: l)) ∗ sepL (t :: ts) (AgIn c Rc) ∗ sepL ds (RsOut (F := F) c) ∗ R)
      ⊢ wpb c (Prog.lift (.enqueueDma rM (.remote (Dev.tc n : Thread nD τ) dstm (.dma sS) hsc) (.dma sR) hsrc hdst hsem)) Q := by
  subst hdev hd hsS hsR
  rw [sepL_cons]
  unfold AgIn
  iintro ⟨#HC, HO, ⟨⟨Ht1, Hr1, Ht2, ⟨%g, Hg⟩, Hp⟩, HS⟩, HD, HR⟩
  iapply (send_core X κ c (.as t) (.ag t) 1 t (.ag t) rfl rfl trivial (if_pos ⟨by omega, ht⟩)
    (if_pos ⟨rfl, ht⟩) rfl (srcm := rM) (dstm := oSl c) (sS := asS t) (sR := agS t) rfl rfl
    (hsc := hsc) (hsrc := hsrc) (hdst := hdst) (hsem := hsem)
    (credit_oSl c) (q := shareTok fullShare 16 t) (fs := Rc) (fd := g)
    (by show _ ⊢ asPay (F := F) c t 1; unfold asPay; rw [if_neg (by omega)]; iintro H; iexists Rc; iexact H)
    (by
      show _ ⊢ agPay X (dst c t) t
      unfold agPay
      rw [src_dst]
      iintro H; iexists _
      isplitr
      rotate_left
      · iexact H
      · ipureintro; exact ⟨Rc, hR, View.read_write_univ _ _⟩)
    (R := iprop(sepL ts (AgIn c Rc) ∗ sepL ds (RsOut (F := F) c) ∗ R)) (Q := Q)
    (by
      iintro ⟨#HC, HO, Hc, HS, HD, HR⟩
      iapply h
      isplitr; · iexact HC
      isplitl [HO]; · iexact HO
      isplitl [HS]; · iexact HS
      isplitl [Hc HD]
      · rw [sepL_cons]
        isplitl [Hc]; · unfold RsOut; iexact Hc
        iexact HD
      iexact HR))
  isplitr; · iexact HC
  isplitl [HO]; · iexact HO
  isplitl [Ht1 Ht2 Hr1 Hg Hp]
  · isplitl [Hp]; · iexact Hp
    isplitl [Hg]; · iexact Hg
    isplitl [Ht1]; · iexact Ht1
    isplitl [Hr1]; · iexact Hr1
    iexact Ht2
  isplitl [HS]; · iexact HS
  isplitl [HD]; · iexact HD
  iexact HR

/-- Waits that the reduced rows for distance `t` have left. -/
theorem aa_wait (c : Dev nD) (t : Fin 16) (ht : t ≠ 0)
    {srcm dstm : Memref sig .tc .vmem S16x512 .bf16} {sR : DmaSem sig} (hsR : sR = asS t) (hcr : dstm.view.dmaCredit = Nrow)
    {h1 : srcm.view.WordExact} {h2 : dstm.view.WordExact} {ts ds : List (Fin 16)} {R : sProp 𝕄} {Q : PUnit → sProp 𝕄}
    (h : iprop(Ctx X κ ∗ OW c (owed c []) ∗ sepL ts (AaIn (F := F) c) ∗ sepL (t :: ds) (AaOut (F := F) c) ∗ R) ⊢ Q ⟨⟩) :
    iprop(Ctx X κ ∗ OW c (owed c []) ∗ sepL (t :: ts) (AaIn (F := F) c) ∗ sepL ds (AaOut (F := F) c) ∗ R)
      ⊢ wpb c (Prog.lift (.waitDma2 sR srcm dstm h1 h2)) Q :=
  list_wait X κ c (.as t) 1 (In := AaIn (F := F) c) (Out := AaOut (F := F) c) (i := t) (sR := sR) (if_pos ⟨by omega, ht⟩) (fun r' hr => if_neg (fun h => by omega)) (fun _ h => absurd h List.not_mem_nil) (by rw [hsR]) hcr
    (Entails.refl _) (by
      show iprop(_ ∗ asPay c t 1) ⊢ _
      unfold AaOut asPay
      rw [if_neg (by omega)]) h

/-- Waits for the rows the device at distance `t` before reduced. -/
theorem aw_wait (c : Dev nD) (t : Fin 16) (ht : t ≠ 0)
    {srcm dstm : Memref sig .tc .vmem S16x512 .bf16} {sR : DmaSem sig} (hsR : sR = agS t) (hcr : dstm.view.dmaCredit = Nrow)
    {h1 : srcm.view.WordExact} {h2 : dstm.view.WordExact} {ts ds : List (Fin 16)} {R : sProp 𝕄} {Q : PUnit → sProp 𝕄}
    (h : iprop(Ctx X κ ∗ OW c (owed c []) ∗ sepL ts (AwIn (F := F) c) ∗ sepL (t :: ds) (AwOut X c) ∗ R) ⊢ Q ⟨⟩) :
    iprop(Ctx X κ ∗ OW c (owed c []) ∗ sepL (t :: ts) (AwIn (F := F) c) ∗ sepL ds (AwOut X c) ∗ R)
      ⊢ wpb c (Prog.lift (.waitDma2 sR srcm dstm h1 h2)) Q :=
  list_wait X κ c (.ag t) 0 (In := AwIn (F := F) c) (Out := AwOut X c) (i := t) (sR := sR) (if_pos ⟨rfl, ht⟩) (fun r' hr => if_neg (fun h => by omega)) (fun _ h => absurd h List.not_mem_nil) (by rw [hsR]) hcr
    (Entails.refl _) (Entails.refl _) h

end Cert.KernelIdeal.Pf
end
end
-- ==== Proof.Pieces.lean ====
/-
# Buffers in pieces: splitting into the pieces of a list, joining them again
-/
module

public import proofs.«01_k».proof.Proof.Comm

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

/-! ## Lists of pieces -/

/-- The elements of `S0` and of the pieces of a list. -/
def cover {α ι : Type} [DecidableEq α] (S0 : Finset α) (S : ι → Finset α) (l : List ι) : Finset α := l.foldr (fun i T => T ∪ S i) S0

theorem mem_cover {α ι : Type} [DecidableEq α] {S0 : Finset α} {S : ι → Finset α} {l : List ι} {x : α} :
    x ∈ cover S0 S l ↔ x ∈ S0 ∨ ∃ i ∈ l, x ∈ S i := by
  induction l with
  | nil => simp [cover]
  | cons i l ih =>
    rw [show cover S0 S (i :: l) = cover S0 S l ∪ S i from rfl, Finset.mem_union, ih]
    constructor
    · rintro ((h | ⟨j, hj, h⟩) | h)
      · exact .inl h
      · exact .inr ⟨j, List.mem_cons_of_mem _ hj, h⟩
      · exact .inr ⟨i, List.mem_cons_self, h⟩
    · rintro (h | ⟨j, hj, h⟩)
      · exact .inl (.inl h)
      · rcases List.mem_cons.mp hj with rfl | hj
        · exact .inr h
        · exact .inl (.inr ⟨j, hj, h⟩)

theorem cover_disjoint {α ι : Type} [DecidableEq α] {S0 : Finset α} {S : ι → Finset α} {l : List ι} {T : Finset α}
    (h0 : Disjoint S0 T) (h : ∀ i ∈ l, Disjoint (S i) T) : Disjoint (cover S0 S l) T := by
  rw [Finset.disjoint_left]
  intro x hx
  rcases mem_cover.mp hx with hx | ⟨i, hi, hx⟩
  · exact Finset.disjoint_left.mp h0 hx
  · exact Finset.disjoint_left.mp (h i hi) hx

variable {ℓ : Loc nD τ sig}

/-- A region splits into a first part and the pieces of a list. -/
theorem split_list {ι : Type} (S0 : Finset (Idx ℓ)) (S : ι → Finset (Idx ℓ)) (l : List ι) (hl : l.Nodup)
    (h0 : ∀ i ∈ l, Disjoint S0 (S i)) (hS : ∀ i ∈ l, ∀ j ∈ l, i ≠ j → Disjoint (S i) (S j)) (f : Buf (Elt F) ℓ) :
    (ℓ ↦[cover S0 S l]{fullShare} f : sProp 𝕄) ⊢ iprop((ℓ ↦[S0]{fullShare} f) ∗ sepL l fun i => ℓ ↦[S i]{fullShare} f) := by
  induction l with
  | nil => exact Laws.sep_emp.2
  | cons i l ih =>
    rw [List.nodup_cons] at hl
    rw [show cover S0 S (i :: l) = cover S0 S l ∪ S i from rfl, sepL_cons]
    have hd : Disjoint (cover S0 S l) (S i) := cover_disjoint (h0 i List.mem_cons_self)
      fun j hj => hS j (List.mem_cons_of_mem _ hj) i List.mem_cons_self (fun e => hl.1 (e ▸ hj))
    have H := ih hl.2 (fun j hj => h0 j (List.mem_cons_of_mem _ hj))
      fun j hj k hk => hS j (List.mem_cons_of_mem _ hj) k (List.mem_cons_of_mem _ hk)
    iintro HP
    ihave HP := (pointsTo_union hd).1 $$ HP
    icases HP with ⟨H1, H2⟩
    ihave H1 := H $$ H1
    icases H1 with ⟨H0, HL⟩
    isplitl [H0]; · iexact H0
    isplitl [H2]; · iexact H2
    iexact HL

/-- The pieces of a list, each with what is known of its contents, join what is already held. -/
theorem join_list {ι : Type} (S0 : Finset (Idx ℓ)) (S : ι → Finset (Idx ℓ)) (l : List ι) (hl : l.Nodup)
    (h0 : ∀ i ∈ l, Disjoint S0 (S i)) (hS : ∀ i ∈ l, ∀ j ∈ l, i ≠ j → Disjoint (S i) (S j))
    (Q : Buf (Elt F) ℓ → Prop) (P : ι → Buf (Elt F) ℓ → Prop)
    (hQ : ∀ f g, (∀ x ∈ S0, f x = g x) → Q f → Q g) (hP : ∀ i f g, (∀ x ∈ S i, f x = g x) → P i f → P i g) :
    iprop((∃ f, ⌜Q f⌝ ∗ ℓ ↦[S0]{fullShare} f) ∗ sepL l fun i => iprop(∃ f, ⌜P i f⌝ ∗ ℓ ↦[S i]{fullShare} f))
      ⊢ (iprop(∃ f, ⌜Q f ∧ ∀ i ∈ l, P i f⌝ ∗ ℓ ↦[cover S0 S l]{fullShare} f) : sProp 𝕄) := by
  induction l with
  | nil =>
    iintro ⟨⟨%f, %hf, H⟩, -⟩
    iexists f
    isplitr; · ipureintro; exact ⟨hf, fun _ h => absurd h List.not_mem_nil⟩
    iexact H
  | cons i l ih =>
    rw [List.nodup_cons] at hl
    rw [show cover S0 S (i :: l) = cover S0 S l ∪ S i from rfl, sepL_cons]
    have hd : Disjoint (cover S0 S l) (S i) := cover_disjoint (h0 i List.mem_cons_self)
      fun j hj => hS j (List.mem_cons_of_mem _ hj) i List.mem_cons_self (fun e => hl.1 (e ▸ hj))
    have H := ih hl.2 (fun j hj => h0 j (List.mem_cons_of_mem _ hj))
      fun j hj k hk => hS j (List.mem_cons_of_mem _ hj) k (List.mem_cons_of_mem _ hk)
    iintro ⟨H0, ⟨%g, %hg, Hg⟩, HL⟩
    ihave H1 := H $$ [H0 HL]
    · isplitl [H0] <;> iassumption
    icases H1 with ⟨%f, %hf, Hf⟩
    ihave HJ := (pointsTo_join (f := f) (g := g) hd) $$ [Hf Hg]
    · isplitl [Hf] <;> iassumption
    iexists ((S i).piecewise g f)
    isplitr
    · ipureintro
      have hoff : ∀ x, x ∉ S i → (S i).piecewise g f x = f x := fun x hx => Finset.piecewise_eq_of_notMem _ _ _ hx
      refine ⟨hQ f _ (fun x hx => (hoff x (Finset.disjoint_left.mp (h0 i List.mem_cons_self) hx)).symm) hf.1, fun j hj => ?_⟩
      by_cases e : j = i
      · subst e; exact hP j g _ (fun x hx => (Finset.piecewise_eq_of_mem _ _ _ hx).symm) hg
      · have hj' : j ∈ l := (List.mem_cons.mp hj).resolve_left e
        exact hP j f _ (fun x hx => (hoff x (Finset.disjoint_left.mp (hS j (List.mem_cons_of_mem _ hj') i List.mem_cons_self e) hx)).symm) (hf.2 j hj')
    iexact HJ

theorem sepL_mono {ι : Type} (l : List ι) {Φ Ψ : ι → sProp 𝕄} (h : ∀ i ∈ l, Φ i ⊢ Ψ i) : sepL l Φ ⊢ sepL l Ψ := by
  induction l with
  | nil => exact Entails.refl _
  | cons i l ih =>
    rw [sepL_cons, sepL_cons]
    exact BIClass.sep_mono (h i List.mem_cons_self) (ih fun j hj => h j (List.mem_cons_of_mem _ hj))

theorem sepL_sep {ι : Type} (l : List ι) (Φ Ψ : ι → sProp 𝕄) : sepL l (fun i => iprop(Φ i ∗ Ψ i)) ⊢ iprop(sepL l Φ ∗ sepL l Ψ) := by
  induction l with
  | nil => exact Laws.sep_emp.2
  | cons i l ih =>
    rw [sepL_cons, sepL_cons, sepL_cons]
    iintro ⟨⟨H1, H2⟩, H3⟩
    ihave H3 := ih $$ H3
    icases H3 with ⟨H3, H4⟩
    isplitl [H1 H3]
    · isplitl [H1] <;> iassumption
    isplitl [H2] <;> iassumption

theorem sepL_sep' {ι : Type} (l : List ι) (Φ Ψ : ι → sProp 𝕄) : iprop(sepL l Φ ∗ sepL l Ψ) ⊢ sepL l (fun i => iprop(Φ i ∗ Ψ i)) := by
  induction l with
  | nil => exact Laws.sep_emp.1
  | cons i l ih =>
    rw [sepL_cons, sepL_cons, sepL_cons]
    iintro ⟨⟨H1, H3⟩, H2, H4⟩
    isplitl [H1 H2]
    · isplitl [H1] <;> iassumption
    iapply ih
    isplitl [H3] <;> iassumption

theorem sepL_perm {ι : Type} [DecidableEq ι] {l l' : List ι} (hl : l.Nodup) (hl' : l'.Nodup) (h : l.toFinset = l'.toFinset) (Φ : ι → sProp 𝕄) :
    sepL l Φ = sepL l' Φ := by rw [sepL_eq_bigSep l hl, sepL_eq_bigSep l' hl', h]

theorem sepL_append {ι : Type} (l l' : List ι) (Φ : ι → sProp 𝕄) : sepL (l ++ l') Φ ⊢ iprop(sepL l Φ ∗ sepL l' Φ) := by
  induction l with
  | nil => exact BIClass.emp_sep.2
  | cons i l ih =>
    rw [List.cons_append, sepL_cons, sepL_cons]
    iintro ⟨H1, H2⟩
    ihave H2 := ih $$ H2
    icases H2 with ⟨H2, H3⟩
    isplitl [H1 H2]
    · isplitl [H1] <;> iassumption
    iexact H3

theorem sepL_append' {ι : Type} (l l' : List ι) (Φ : ι → sProp 𝕄) : iprop(sepL l Φ ∗ sepL l' Φ) ⊢ sepL (l ++ l') Φ := by
  induction l with
  | nil => exact BIClass.emp_sep.1
  | cons i l ih =>
    rw [List.cons_append, sepL_cons, sepL_cons]
    iintro ⟨⟨H1, H2⟩, H3⟩
    isplitl [H1]; · iexact H1
    iapply ih
    isplitl [H2] <;> iassumption

/-! ## The pieces of each buffer -/

theorem g_set (t : Fin 16) (b : Fin 2) : (gSl t b).view.set = (gRect t b).set := View.set_slice_whole _ _
theorem p_set (d : Dev nD) (b : Fin 2) : (pSl d b).view.set = (pRect d b).set :=
  (Memref.set_view_squeeze _ _).trans (View.set_slice_whole _ _)
theorem a_set (d : Dev nD) : (aSl d).view.set = (rows d).set := View.set_slice_whole _ _
theorem o_set (d : Dev nD) : (oSl d).view.set = (rows d).set := View.set_slice_whole _ _
theorem s_set (t : Fin 16) : (sSl t).view.set = (sRect t).set :=
  (Memref.set_view_squeeze _ _).trans (View.set_slice_whole _ _)

theorem mem_g {t : Fin 16} {b : Fin 2} {i : S4x2048x256.Idx} : i ∈ (gRect t b).set ↔ (i 1).val / 64 = 2 * t.val + b.val := by
  rw [Rect.mem_set_unit]
  constructor
  · intro h
    have h1 : 128 * t.val + 64 * b.val ≤ (i 1).val ∧ (i 1).val < 128 * t.val + 64 * b.val + 64 := h 1
    omega
  · intro h a
    have h0 : (i 0).val < 4 := (i 0).isLt
    have h2 : (i 2).val < 256 := (i 2).isLt
    fin_cases a
    · exact ⟨Nat.zero_le _, (by omega : (i 0).val < 0 + 4)⟩
    · exact (by omega : 128 * t.val + 64 * b.val ≤ (i 1).val ∧ (i 1).val < 128 * t.val + 64 * b.val + 64)
    · exact ⟨Nat.zero_le _, (by omega : (i 2).val < 0 + 256)⟩

theorem mem_own {i : S4x2048x256.Idx} : i ∈ ownRect.set ↔ (i 1).val < 128 := by
  rw [Rect.mem_set_unit]
  constructor
  · intro h
    have h1 : 0 ≤ (i 1).val ∧ (i 1).val < 0 + 128 := h 1
    omega
  · intro h a
    have h0 : (i 0).val < 4 := (i 0).isLt
    have h2 : (i 2).val < 256 := (i 2).isLt
    fin_cases a
    · exact ⟨Nat.zero_le _, (by omega : (i 0).val < 0 + 4)⟩
    · exact (by omega : 0 ≤ (i 1).val ∧ (i 1).val < 0 + 128)
    · exact ⟨Nat.zero_le _, (by omega : (i 2).val < 0 + 256)⟩

theorem mem_p {d : Dev nD} {b : Fin 2} {i : S16x4x128x256.Idx} : i ∈ (pRect d b).set ↔ (i 0).val = d.val ∧ (i 2).val / 64 = b.val := by
  rw [Rect.mem_set_unit]
  constructor
  · intro h
    have h0 : d.val ≤ (i 0).val ∧ (i 0).val < d.val + 1 := h 0
    have h2 : 64 * b.val ≤ (i 2).val ∧ (i 2).val < 64 * b.val + 64 := h 2
    omega
  · intro h a
    have h1 : (i 1).val < 4 := (i 1).isLt
    have h3 : (i 3).val < 256 := (i 3).isLt
    fin_cases a
    · exact (by omega : d.val ≤ (i 0).val ∧ (i 0).val < d.val + 1)
    · exact ⟨Nat.zero_le _, (by omega : (i 1).val < 0 + 4)⟩
    · exact (by omega : 64 * b.val ≤ (i 2).val ∧ (i 2).val < 64 * b.val + 64)
    · exact ⟨Nat.zero_le _, (by omega : (i 3).val < 0 + 256)⟩

theorem mem_rows {d : Dev nD} {i : S256x512.Idx} : i ∈ (rows d).set ↔ (i 0).val / 16 = d.val := by
  rw [Rect.mem_set_unit]
  constructor
  · intro h
    have h0 : 16 * d.val ≤ (i 0).val ∧ (i 0).val < 16 * d.val + 16 := h 0
    omega
  · intro h a
    have h1 : (i 1).val < 512 := (i 1).isLt
    fin_cases a
    · exact (by omega : 16 * d.val ≤ (i 0).val ∧ (i 0).val < 16 * d.val + 16)
    · exact ⟨Nat.zero_le _, (by omega : (i 1).val < 0 + 512)⟩

theorem mem_s {t : Fin 16} {i : S16x16x512.Idx} : i ∈ (sRect t).set ↔ (i 0).val = t.val := by
  rw [Rect.mem_set_unit]
  constructor
  · intro h
    have h0 : t.val ≤ (i 0).val ∧ (i 0).val < t.val + 1 := h 0
    omega
  · intro h a
    have h1 : (i 1).val < 16 := (i 1).isLt
    have h2 : (i 2).val < 512 := (i 2).isLt
    fin_cases a
    · exact (by omega : t.val ≤ (i 0).val ∧ (i 0).val < t.val + 1)
    · exact ⟨Nat.zero_le _, (by omega : (i 1).val < 0 + 16)⟩
    · exact ⟨Nat.zero_le _, (by omega : (i 2).val < 0 + 512)⟩

theorem dst_inj (c : Dev nD) {t t' : Fin 16} (h : dst c t = dst c t') : t = t' := by revert c t t'; decide +kernel
theorem src_inj (c : Dev nD) {t t' : Fin 16} (h : src c t = src c t') : t = t' := by revert c t t'; decide +kernel
theorem dst_zero (c : Dev nD) : dst c 0 = c := by revert c; decide +kernel
theorem src_zero (c : Dev nD) : src c 0 = c := by revert c; decide +kernel

theorem g_disj {i j : Fin 16 × Fin 2} (h : i ≠ j) : Disjoint (gRect i.1 i.2).set (gRect j.1 j.2).set := by
  rw [Finset.disjoint_left]
  intro x h1 h2
  rw [mem_g] at h1 h2
  exact h (Prod.ext (Fin.ext (by omega)) (Fin.ext (by omega)))
theorem own_disj {i : Fin 16 × Fin 2} (h : i.1 ≠ 0) : Disjoint ownRect.set (gRect i.1 i.2).set := by
  rw [Finset.disjoint_left]
  intro x h1 h2
  rw [mem_own] at h1; rw [mem_g] at h2
  exact h (Fin.ext (by show i.1.val = 0; omega))
theorem p_disj {d d' : Dev nD} {b b' : Fin 2} (h : ¬ (d = d' ∧ b = b')) : Disjoint (pRect d b).set (pRect d' b').set := by
  rw [Finset.disjoint_left]
  intro x h1 h2
  rw [mem_p] at h1 h2
  exact h ⟨Fin.ext (by omega), Fin.ext (by omega)⟩
theorem rows_disj {d d' : Dev nD} (h : d ≠ d') : Disjoint (rows d).set (rows d').set := by
  rw [Finset.disjoint_left]
  intro x h1 h2
  rw [mem_rows] at h1 h2
  exact h (Fin.ext (by omega))
theorem s_disj {t t' : Fin 16} (h : t ≠ t') : Disjoint (sRect t).set (sRect t').set := by
  rw [Finset.disjoint_left]
  intro x h1 h2
  rw [mem_s] at h1 h2
  exact h (Fin.ext (by omega))

end Cert.KernelIdeal.Pf
end
end
-- ==== Proof.Local.lean ====
/-
# The local steps: loads and stores of each phase
-/
module

public import proofs.«01_k».proof.Proof.Pieces

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ)

/-- Elements `S` of a memref's buffer on device `c`, wholly owned. -/
abbrev pcs (c : Dev nD) {s : Shape} {e : EltTy} (m : Memref sig .tc .vmem s e) (S : Finset (Idx (m.view.loc (c : Thread nD τ))))
    (f : m.view.ty.Contents (Elt F)) : sProp 𝕄 := m.view.loc (c : Thread nD τ) ↦[S]{fullShare} f

/-- A load from what a resource gives access to. -/
theorem load_acc {c : Dev nD} {s : Shape} {e : EltTy} {m : Memref sig .tc .vmem s e} {r : LoadRect s} {hl : m.view.LoadsAt r}
    {T : Finset (Idx (m.view.loc (c : Thread nD τ)))} (hT : m.view.setOn r.set ⊆ T) (φ : m.view.ty.Contents (Elt F) → Prop) {A1 A2 S R : sProp 𝕄}
    {Q : (r.shape.Idx → Elt F e) → sProp 𝕄}
    (hP : S ⊢ iprop(∃ f, ⌜φ f⌝ ∗ pcs c m T f ∗ (pcs c m T f -∗ S)))
    (h : ∀ f, φ f → (iprop(A1 ∗ A2 ∗ S ∗ R) ⊢ Q (m.view.readAt (Elt F) r f))) :
    iprop(A1 ∗ A2 ∗ S ∗ R) ⊢ wpb c (Prog.lift (.load m r hl)) Q := by
  have H := fun f => wp_load (Val := Elt F) (defs := defs₀ (F := F)) (Γ := .empty) 𝒱₀ (c : Thread nD τ) none Set.univ (hl := hl) (k := .ret) (Q := Q) (q := fullShare) (f := f) hT
  iintro ⟨HA, HB, HS, HR⟩
  ihave HS := hP $$ HS
  icases HS with ⟨%f, %hf, Hp, Hw⟩
  iapply (H f) $$ Hp
  iintro Hp
  ihave HS := Hw $$ Hp
  iapply (wp_return (Q := Q))
  iapply (h f hf)
  isplitl [HA]; · iexact HA
  isplitl [HB]; · iexact HB
  isplitl [HS] <;> iassumption

/-- A store into what a resource gives access to, which becomes another. -/
theorem store_acc {c : Dev nD} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {T : Finset (Idx (m.view.loc (c : Thread nD τ)))} (hT : (m.access r).setOn Finset.univ ⊆ T) {A1 A2 S S' R : sProp 𝕄}
    {Q : PUnit → sProp 𝕄}
    (hP : S ⊢ iprop(∃ f, pcs c m T f ∗ (pcs c m T ((m.access r).write (Elt F) f w Finset.univ) -∗ S')))
    (h : iprop(A1 ∗ A2 ∗ S' ∗ R) ⊢ Q ⟨⟩) :
    iprop(A1 ∗ A2 ∗ S ∗ R) ⊢ wpb c (Prog.lift (.store m r w Finset.univ hx hm)) Q := by
  have H := fun f => wp_store (Val := Elt F) (defs := defs₀ (F := F)) (Γ := .empty) 𝒱₀ (c : Thread nD τ) none Set.univ (m := m) (r := r) (w := w) (Mk := Finset.univ) (hx := hx) (hm := hm) (k := .ret) (Q := Q) (f := f) hT
  iintro ⟨HA, HB, HS, HR⟩
  ihave HS := hP $$ HS
  icases HS with ⟨%f, Hp, Hw⟩
  iapply (H f) $$ Hp
  iintro Hp
  ihave HS := Hw $$ Hp
  iapply (wp_return (Q := Q))
  iapply h
  isplitl [HA]; · iexact HA
  isplitl [HB]; · iexact HB
  isplitl [HS] <;> iassumption

/-- A load from what a state gives access to, the contents known. -/
theorem load_any {c : Dev nD} {s : Shape} {e : EltTy} {m : Memref sig .tc .vmem s e} {r : LoadRect s} {hl : m.view.LoadsAt r}
    {T : Finset (Idx (m.view.loc (c : Thread nD τ)))} (hT : m.view.setOn r.set ⊆ T) {f : m.view.ty.Contents (Elt F)} {P : sProp 𝕄}
    {Q : (r.shape.Idx → Elt F e) → sProp 𝕄} (hP : P ⊢ iprop(pcs c m T f ∗ (pcs c m T f -∗ P))) (h : P ⊢ Q (m.view.readAt (Elt F) r f)) :
    P ⊢ wpb c (Prog.lift (.load m r hl)) Q := by
  have H := wp_load (Val := Elt F) (defs := defs₀ (F := F)) (Γ := .empty) 𝒱₀ (c : Thread nD τ) none Set.univ (hl := hl) (k := .ret) (Q := Q) (q := fullShare) (f := f) hT
  iintro HS
  ihave HS := hP $$ HS
  icases HS with ⟨Hp, Hw⟩
  iapply H $$ Hp
  iintro Hp
  iapply (wp_return (Q := Q))
  iapply h
  iapply Hw
  iexact Hp

/-- A load from what a state gives access to, the contents known by a property. -/
theorem load_ex {c : Dev nD} {s : Shape} {e : EltTy} {m : Memref sig .tc .vmem s e} {r : LoadRect s} {hl : m.view.LoadsAt r}
    {T : Finset (Idx (m.view.loc (c : Thread nD τ)))} (hT : m.view.setOn r.set ⊆ T) (φ : m.view.ty.Contents (Elt F) → Prop) {P : sProp 𝕄}
    {Q : (r.shape.Idx → Elt F e) → sProp 𝕄} (hP : P ⊢ iprop(∃ f, ⌜φ f⌝ ∗ pcs c m T f ∗ (pcs c m T f -∗ P)))
    (h : ∀ f, φ f → (P ⊢ Q (m.view.readAt (Elt F) r f))) :
    P ⊢ wpb c (Prog.lift (.load m r hl)) Q := by
  have H := fun f => wp_load (Val := Elt F) (defs := defs₀ (F := F)) (Γ := .empty) 𝒱₀ (c : Thread nD τ) none Set.univ (hl := hl) (k := .ret) (Q := Q) (q := fullShare) (f := f) hT
  iintro HS
  ihave HS := hP $$ HS
  icases HS with ⟨%f, %hf, Hp, Hw⟩
  iapply (H f) $$ Hp
  iintro Hp
  iapply (wp_return (Q := Q))
  iapply (h f hf)
  iapply Hw
  iexact Hp

/-- A store into what a state gives access to. -/
theorem store_any {c : Dev nD} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {T : Finset (Idx (m.view.loc (c : Thread nD τ)))} (hT : (m.access r).setOn Finset.univ ⊆ T) {P P' : sProp 𝕄} {Q : PUnit → sProp 𝕄}
    (hP : P ⊢ iprop(∃ f, pcs c m T f ∗ (pcs c m T ((m.access r).write (Elt F) f w Finset.univ) -∗ P'))) (h : P' ⊢ Q ⟨⟩) :
    P ⊢ wpb c (Prog.lift (.store m r w Finset.univ hx hm)) Q := by
  have H := fun f => wp_store (Val := Elt F) (defs := defs₀ (F := F)) (Γ := .empty) 𝒱₀ (c : Thread nD τ) none Set.univ (m := m) (r := r) (w := w) (Mk := Finset.univ) (hx := hx) (hm := hm) (k := .ret) (Q := Q) (f := f) hT
  iintro HS
  ihave HS := hP $$ HS
  icases HS with ⟨%f, Hp, Hw⟩
  iapply (H f) $$ Hp
  iintro Hp
  iapply (wp_return (Q := Q))
  iapply h
  iapply Hw
  iexact Hp

/-! ## Access to a member of a state -/

theorem acc3 {A B S R : sProp 𝕄} : iprop(A ∗ B ∗ S ∗ R) ⊢ iprop(S ∗ (S -∗ A ∗ B ∗ S ∗ R)) := by
  iintro ⟨HA, HB, HS, HR⟩
  isplitl [HS]; · iexact HS
  iintro HS
  isplitl [HA]; · iexact HA
  isplitl [HB]; · iexact HB
  isplitl [HS] <;> iassumption

theorem acc4 {A B C S R : sProp 𝕄} : iprop(A ∗ B ∗ C ∗ S ∗ R) ⊢ iprop(S ∗ (S -∗ A ∗ B ∗ C ∗ S ∗ R)) := by
  iintro ⟨HA, HB, HC, HS, HR⟩
  isplitl [HS]; · iexact HS
  iintro HS
  isplitl [HA]; · iexact HA
  isplitl [HB]; · iexact HB
  isplitl [HC]; · iexact HC
  isplitl [HS] <;> iassumption

theorem swap34 {A B C D R : sProp 𝕄} : iprop(A ∗ B ∗ C ∗ D ∗ R) ⊢ iprop(A ∗ B ∗ D ∗ C ∗ R) := by
  iintro ⟨HA, HB, HC, HS, HR⟩
  isplitl [HA]; · iexact HA
  isplitl [HB]; · iexact HB
  isplitl [HS]; · iexact HS
  isplitl [HC] <;> iassumption

theorem drop_nil {α : Type} {Φ : α → sProp 𝕄} {A B R : sProp 𝕄} : iprop(A ∗ B ∗ sepL [] Φ ∗ R) ⊢ iprop(A ∗ B ∗ R) := by
  rw [sepL_nil]
  iintro ⟨HA, HB, HC, HR⟩
  isplitl [HA]; · iexact HA
  isplitl [HB] <;> iassumption

theorem ex_elim {α : Type} {φ : α → Prop} {St : α → sProp 𝕄} {Q : sProp 𝕄} (h : ∀ a, φ a → (St a ⊢ Q)) : iprop(∃ a, ⌜φ a⌝ ∗ St a) ⊢ Q := by
  iintro ⟨%a, %ha, H⟩
  iapply (h a ha)
  iexact H

theorem whole_sub {s : Shape} {e : EltTy} (m : Memref sig .tc .vmem s e) (r : LoadRect s) : m.view.setOn r.set ⊆ m.view.set := View.setOn_subset_set _ _
theorem access_sub {s : Shape} {e : EltTy} (m : Memref sig .tc .vmem s e) (r : Rect s) : (m.access r).setOn Finset.univ ⊆ m.view.set := by
  rw [View.setOn_univ]; exact View.set_slice_subset _ _
theorem readAt_write_univ {s : Shape} {e : EltTy} (m : Memref sig .tc .vmem s e) (r : Rect s) (f : m.view.ty.Contents (Elt F)) (w : r.shape.Idx → Elt F e) :
    m.view.readAt (Elt F) r.toLoadRect ((m.access r).write (Elt F) f w Finset.univ) = w := View.read_write_univ (v := m.access r) f w

/-! ## Packing -/

/-- The staged keys and values, and the packed planes, those of a list being right. -/
def PK (c : Dev nD) (l : List (Dev nD × Fin 2)) : sProp 𝕄 :=
  iprop(pcs c i2M i2M.view.set (X c).k ∗ pcs c i3M i3M.view.set (X c).v
    ∗ ∃ p, ⌜∀ i ∈ l, (pM.access (slab i.1 i.2)).read (Elt F) p = packVal (X c) i.1 i.2⌝ ∗ pcs c pM pM.view.set p)

theorem pk_load2 (c : Dev nD) {r : LoadRect S2x128x4096} {hl : i2M.view.LoadsAt r} {l} {A1 A2 R : sProp 𝕄} {Q : (r.shape.Idx → Elt F .f32) → sProp 𝕄}
    (h : iprop(A1 ∗ A2 ∗ PK X c l ∗ R) ⊢ Q (i2M.view.readAt (Elt F) r (X c).k)) :
    iprop(A1 ∗ A2 ∗ PK X c l ∗ R) ⊢ wpb c (Prog.lift (.load i2M r hl)) Q :=
  load_acc (whole_sub i2M r) (fun f => f = (X c).k) (by
    unfold PK
    iintro ⟨Hk, HS⟩
    iexists (X c).k
    isplitr; · ipureintro; rfl
    isplitl [Hk]; · iexact Hk
    iintro Hk
    isplitl [Hk] <;> iassumption) (fun f hf => by subst hf; exact h)

theorem pk_load3 (c : Dev nD) {r : LoadRect S2x128x4096} {hl : i3M.view.LoadsAt r} {l} {A1 A2 R : sProp 𝕄} {Q : (r.shape.Idx → Elt F .f32) → sProp 𝕄}
    (h : iprop(A1 ∗ A2 ∗ PK X c l ∗ R) ⊢ Q (i3M.view.readAt (Elt F) r (X c).v)) :
    iprop(A1 ∗ A2 ∗ PK X c l ∗ R) ⊢ wpb c (Prog.lift (.load i3M r hl)) Q :=
  load_acc (whole_sub i3M r) (fun f => f = (X c).v) (by
    unfold PK
    iintro ⟨Hk, Hv, HS⟩
    iexists (X c).v
    isplitr; · ipureintro; rfl
    isplitl [Hv]; · iexact Hv
    iintro Hv
    isplitl [Hk]; · iexact Hk
    isplitl [Hv] <;> iassumption) (fun f hf => by subst hf; exact h)

/-- Reading packed planes: what is read is known as far as the list goes. -/
theorem pk_read (c : Dev nD) {r : LoadRect S16x4x128x256} {hl : pM.view.LoadsAt r} {l} {A1 A2 R : sProp 𝕄} {Q : (r.shape.Idx → Elt F .bf16) → sProp 𝕄}
    (h : ∀ p, (∀ i ∈ l, (pM.access (slab i.1 i.2)).read (Elt F) p = packVal (X c) i.1 i.2) →
      (iprop(A1 ∗ A2 ∗ PK X c l ∗ R) ⊢ Q (pM.view.readAt (Elt F) r p))) :
    iprop(A1 ∗ A2 ∗ PK X c l ∗ R) ⊢ wpb c (Prog.lift (.load pM r hl)) Q :=
  load_acc (whole_sub pM r) (fun p => ∀ i ∈ l, (pM.access (slab i.1 i.2)).read (Elt F) p = packVal (X c) i.1 i.2) (by
    unfold PK
    iintro ⟨Hk, Hv, ⟨%p, %hp, Hp⟩⟩
    iexists p
    isplitr; · ipureintro; exact hp
    isplitl [Hp]; · iexact Hp
    iintro Hp
    isplitl [Hk]; · iexact Hk
    isplitl [Hv]; · iexact Hv
    iexists p
    isplitr; · ipureintro; exact hp
    iexact Hp) h

theorem mem_slab {d : Dev nD} {h : Fin 2} {i : S16x4x128x256.Idx} : i ∈ (slab d h).set → (i 0).val = d.val ∧ (i 1).val / 2 = h.val := by
  rw [Rect.mem_set_unit]
  intro hh
  have h0 : d.val ≤ (i 0).val ∧ (i 0).val < d.val + 1 := hh 0
  have h2 : 2 * h.val ≤ (i 1).val ∧ (i 1).val < 2 * h.val + 2 := hh 1
  omega

theorem slab_disj {i j : Dev nD × Fin 2} (h : i ≠ j) : Disjoint (slab i.1 i.2).set (slab j.1 j.2).set := by
  rw [Finset.disjoint_left]
  intro x h1 h2
  have h1 := mem_slab h1
  have h2 := mem_slab h2
  exact h (Prod.ext (Fin.ext (by omega)) (Fin.ext (by omega)))

theorem pk_store (c : Dev nD) (i : Dev nD × Fin 2) {w : FVec F S1x2x128x256 .bf16}
    {hx : (pM.access (slab i.1 i.2)).Stores Finset.univ} {hm} {l} (hw : w = packVal (X c) i.1 i.2) {A1 A2 R : sProp 𝕄} {Q : PUnit → sProp 𝕄}
    (h : iprop(A1 ∗ A2 ∗ PK X c (i :: l) ∗ R) ⊢ Q ⟨⟩) :
    iprop(A1 ∗ A2 ∗ PK X c l ∗ R) ⊢ wpb c (Prog.lift (.store pM (slab i.1 i.2) w Finset.univ hx hm)) Q := by
  refine store_acc (access_sub pM _) (S' := PK X c (i :: l)) ?_ h
  unfold PK
  iintro ⟨Hk, Hv, ⟨%p, %hp, Hp⟩⟩
  iexists p
  isplitl [Hp]; · iexact Hp
  iintro Hp
  isplitl [Hk]; · iexact Hk
  isplitl [Hv]; · iexact Hv
  iexists (pM.access (slab i.1 i.2)).write (Elt F) p w Finset.univ
  isplitr
  rotate_left
  · iexact Hp
  ipureintro
  intro j hj
  by_cases e : j = i
  · subst e
    exact (View.read_write_univ _ _).trans hw
  · refine (View.read_slice_write_slice_of_disjoint (slab j.1 j.2) (slab i.1 i.2) _ _ _ ?_).trans (hp j ((List.mem_cons.mp hj).resolve_left e))
    rw [View.setOn_univ]
    exact (by rw [View.set_slice_whole, View.set_slice_whole]; exact slab_disj e :
      Disjoint ((View.whole cc0_scratch0).slice (slab j.1 j.2)).set ((View.whole cc0_scratch0).slice (slab i.1 i.2)).set)

/-! ## The device's own planes -/

/-- The region of distance 0 in the gathered planes. -/
abbrev ownSet (c : Dev nD) : Finset (Idx (gM.view.loc (c : Thread nD τ))) := (gM.access ownRect).set
def OE (c : Dev nD) : sProp 𝕄 := iprop(∃ g, pcs (F := F) c gM (ownSet c) g)
def OwnE (c : Dev nD) : sProp 𝕄 := iprop(∃ g, ⌜OwnOk X c g⌝ ∗ pcs (F := F) c gM (ownSet c) g)

theorem own_dead (c : Dev nD) {hl : gM.view.LoadsAt ownRect.toLoadRect} {A B C D R : sProp 𝕄} {Q : Vec F S4x128x256 .bf16 → sProp 𝕄}
    (h : ∀ w, iprop(A ∗ B ∗ C ∗ D ∗ OE c ∗ R) ⊢ Q w) :
    iprop(A ∗ B ∗ C ∗ D ∗ OE c ∗ R) ⊢ wpb (F := F) c (Prog.lift (.load gM ownRect.toLoadRect hl)) Q :=
  load_ex (T := ownSet c) (by rw [ownSet, View.set_slice]; exact Finset.Subset.refl _) (fun _ => True) (by
    unfold OE
    iintro ⟨HA, HB, HC, HD, ⟨%g, Hg⟩, HR⟩
    iexists g
    isplitr; · ipureintro; trivial
    isplitl [Hg]; · iexact Hg
    iintro Hg
    isplitl [HA]; · iexact HA
    isplitl [HB]; · iexact HB
    isplitl [HC]; · iexact HC
    isplitl [HD]; · iexact HD
    isplitr [HR]; · iexists g; iexact Hg
    iexact HR) (fun f _ => h _)

theorem own_store (c : Dev nD) {w : FVec F S4x128x256 .bf16} {hx : (gM.access ownRect).Stores Finset.univ} {hm}
    (hw : ∃ p, PackOk (X c) c p ∧ w = k0_pay37 (pM.view.readAt (Elt F) (plane c).toLoadRect p)) {A B C D R : sProp 𝕄} {Q : PUnit → sProp 𝕄}
    (h : iprop(A ∗ B ∗ C ∗ D ∗ OwnE X c ∗ R) ⊢ Q ⟨⟩) :
    iprop(A ∗ B ∗ C ∗ D ∗ OE c ∗ R) ⊢ wpb c (Prog.lift (.store gM ownRect w Finset.univ hx hm)) Q := by
  refine store_any (T := ownSet c) (P' := iprop(A ∗ B ∗ C ∗ D ∗ OwnE X c ∗ R)) (by rw [View.setOn_univ]) ?_ h
  unfold OE
  iintro ⟨HA, HB, HC, HD, ⟨%g, Hg⟩, HR⟩
  iexists g
  isplitl [Hg]; · iexact Hg
  iintro Hg
  isplitl [HA]; · iexact HA
  isplitl [HB]; · iexact HB
  isplitl [HC]; · iexact HC
  isplitl [HD]; · iexact HD
  isplitr [HR]
  · unfold OwnE
    iexists (gM.access ownRect).write (Elt F) g w Finset.univ
    isplitr
    · ipureintro
      obtain ⟨p, hp, e⟩ := hw
      exact ⟨p, hp, (View.read_write_univ _ _).trans e⟩
    iexact Hg
  iexact HR

/-! ## The attention outputs -/

def XS (c : Dev nD) (gA gB : Con F cc0_scratch1) (l : List (Fin 2 × Fin 4)) : sProp 𝕄 :=
  iprop(∃ x, ⌜∀ i ∈ l, (xM.access (ctxRect i.1 i.2)).read (Elt F) x = ctxAt X c gA gB i.1 i.2⌝ ∗ pcs c xM xM.view.set x)

theorem xs_read (c : Dev nD) {gA gB} {r : LoadRect S256x256} {hl : xM.view.LoadsAt r} {l} {A1 A2 R : sProp 𝕄} {Q : (r.shape.Idx → Elt F .f32) → sProp 𝕄}
    (h : ∀ x, (∀ i ∈ l, (xM.access (ctxRect i.1 i.2)).read (Elt F) x = ctxAt X c gA gB i.1 i.2) →
      (iprop(A1 ∗ A2 ∗ XS X c gA gB l ∗ R) ⊢ Q (xM.view.readAt (Elt F) r x))) :
    iprop(A1 ∗ A2 ∗ XS X c gA gB l ∗ R) ⊢ wpb c (Prog.lift (.load xM r hl)) Q :=
  load_acc (whole_sub xM r) (fun x => ∀ i ∈ l, (xM.access (ctxRect i.1 i.2)).read (Elt F) x = ctxAt X c gA gB i.1 i.2) (by
    unfold XS
    iintro ⟨%x, %hx, Hx⟩
    iexists x
    isplitr; · ipureintro; exact hx
    isplitl [Hx]; · iexact Hx
    iintro Hx
    iexists x
    isplitr; · ipureintro; exact hx
    iexact Hx) h

theorem mem_ctx {b : Fin 2} {h : Fin 4} {i : S256x256.Idx} : i ∈ (ctxRect b h).set → (i 0).val / 128 = b.val ∧ (i 1).val / 64 = h.val := by
  rw [Rect.mem_set_unit]
  intro hh
  have h0 : 128 * b.val ≤ (i 0).val ∧ (i 0).val < 128 * b.val + 128 := hh 0
  have h1 : 64 * h.val ≤ (i 1).val ∧ (i 1).val < 64 * h.val + 64 := hh 1
  omega

theorem ctx_disj {i j : Fin 2 × Fin 4} (h : i ≠ j) : Disjoint (ctxRect i.1 i.2).set (ctxRect j.1 j.2).set := by
  rw [Finset.disjoint_left]
  intro x h1 h2
  have h1 := mem_ctx h1
  have h2 := mem_ctx h2
  exact h (Prod.ext (Fin.ext (by omega)) (Fin.ext (by omega)))

theorem xs_store (c : Dev nD) {gA gB} (i : Fin 2 × Fin 4) {w : FVec F S128x64 .f32}
    {hx : (xM.access (ctxRect i.1 i.2)).Stores Finset.univ} {hm} {l} (hw : w = ctxAt X c gA gB i.1 i.2) {A1 A2 R : sProp 𝕄} {Q : PUnit → sProp 𝕄}
    (h : iprop(A1 ∗ A2 ∗ XS X c gA gB (i :: l) ∗ R) ⊢ Q ⟨⟩) :
    iprop(A1 ∗ A2 ∗ XS X c gA gB l ∗ R) ⊢ wpb c (Prog.lift (.store xM (ctxRect i.1 i.2) w Finset.univ hx hm)) Q := by
  refine store_acc (access_sub xM _) (S' := XS X c gA gB (i :: l)) ?_ h
  unfold XS
  iintro ⟨%p, %hp, Hp⟩
  iexists p
  isplitl [Hp]; · iexact Hp
  iintro Hp
  iexists (xM.access (ctxRect i.1 i.2)).write (Elt F) p w Finset.univ
  isplitr
  rotate_left
  · iexact Hp
  ipureintro
  intro j hj
  by_cases e : j = i
  · subst e
    exact (View.read_write_univ _ _).trans hw
  · refine (View.read_slice_write_slice_of_disjoint (ctxRect j.1 j.2) (ctxRect i.1 i.2) _ _ _ ?_).trans (hp j ((List.mem_cons.mp hj).resolve_left e))
    rw [View.setOn_univ]
    exact (by rw [View.set_slice_whole, View.set_slice_whole]; exact ctx_disj e :
      Disjoint ((View.whole cc0_scratch2).slice (ctxRect j.1 j.2)).set ((View.whole cc0_scratch2).slice (ctxRect i.1 i.2)).set)

end Cert.KernelIdeal.Pf
end
end
-- ==== Proof.Ops.lean ====
/-
# The printed steps, and the indices they use
-/
module

public import proofs.«01_k».proof.Proof.Local

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

/-- A part of the kernel at the call's buffers and semaphores. -/
abbrev app {α : Type 1} (f : ∀ (a0 : Memref sig .tc .vmem S256x512 .f32) (_ : a0.IsWhole) (a1 : Memref sig .tc .vmem S512x256 .f32) (_ : a1.IsWhole) (a2 : Memref sig .tc .vmem S2x128x4096 .f32) (_ : a2.IsWhole) (a3 : Memref sig .tc .vmem S2x128x4096 .f32) (_ : a3.IsWhole) (a4 : Memref sig .tc .vmem S256x512 .f32) (_ : a4.IsWhole) (a5 : Memref sig .tc .vmem S256x512 .f32) (_ : a5.IsWhole) (a6 : Memref sig .tc .vmem S16x4x128x256 .bf16) (_ : a6.IsWhole) (a7 : Memref sig .tc .vmem S4x2048x256 .bf16) (_ : a7.IsWhole) (a8 : Memref sig .tc .vmem S256x256 .f32) (_ : a8.IsWhole) (a9 : Memref sig .tc .vmem S256x512 .bf16) (_ : a9.IsWhole) (a10 : Memref sig .tc .vmem S16x512 .bf16) (_ : a10.IsWhole) (a11 : Memref sig .tc .vmem S256x512 .bf16) (_ : a11.IsWhole) (a12 : Memref sig .tc .vmem S16x16x512 .bf16) (_ : a12.IsWhole) (_ : DmaSems sig S16x2) (_ : DmaSems sig S16x2) (_ : DmaSems sig S16) (_ : DmaSems sig S16) (_ : DmaSems sig S16), α) : α :=
  f i0M (Memref.isWhole_whole _) i1M (Memref.isWhole_whole _) i2M (Memref.isWhole_whole _) i3M (Memref.isWhole_whole _) i4M (Memref.isWhole_whole _) i5M (Memref.isWhole_whole _) pM (Memref.isWhole_whole _) gM (Memref.isWhole_whole _) xM (Memref.isWhole_whole _) aM (Memref.isWhole_whole _) rM (Memref.isWhole_whole _) oM (Memref.isWhole_whole _) sM (Memref.isWhole_whole _) cc0_scratch7 cc0_scratch8 cc0_scratch9 cc0_scratch10 cc0_scratch11

variable (X : Dev nD → Ins F) (κ : Dev nD × K → ℕ)

/-! ## The indices the kernel computes -/

theorem dv1 : ∀ c : Dev nD, k0_dev1 c = (dst c 1).val := by decide +kernel
theorem dv2 : ∀ c : Dev nD, k0_dev2 c = (dst c 2).val := by decide +kernel
theorem dv3 : ∀ c : Dev nD, k0_dev3 c = (dst c 3).val := by decide +kernel
theorem dv4 : ∀ c : Dev nD, k0_dev4 c = (dst c 4).val := by decide +kernel
theorem dv5 : ∀ c : Dev nD, k0_dev5 c = (dst c 5).val := by decide +kernel
theorem dv6 : ∀ c : Dev nD, k0_dev6 c = (dst c 6).val := by decide +kernel
theorem dv7 : ∀ c : Dev nD, k0_dev7 c = (dst c 7).val := by decide +kernel
theorem dv8 : ∀ c : Dev nD, k0_dev8 c = (dst c 8).val := by decide +kernel
theorem dv9 : ∀ c : Dev nD, k0_dev9 c = (dst c 9).val := by decide +kernel
theorem dv10 : ∀ c : Dev nD, k0_dev10 c = (dst c 10).val := by decide +kernel
theorem dv11 : ∀ c : Dev nD, k0_dev11 c = (dst c 11).val := by decide +kernel
theorem dv12 : ∀ c : Dev nD, k0_dev12 c = (dst c 12).val := by decide +kernel
theorem dv13 : ∀ c : Dev nD, k0_dev13 c = (dst c 13).val := by decide +kernel
theorem dv14 : ∀ c : Dev nD, k0_dev14 c = (dst c 14).val := by decide +kernel
theorem dv15 : ∀ c : Dev nD, k0_dev15 c = (dst c 15).val := by decide +kernel
theorem dv16 : ∀ c : Dev nD, k0_dev16 c = (dst c 1).val := by decide +kernel
theorem of2 : ∀ c : Dev nD, k0_off2 c = ![(dst c 1).val, 0, 0, 0] := by decide +kernel
theorem cd1 : ∀ c : Dev nD, k0_cond1 c = 1#1 ↔ need c 0 := by decide +kernel
theorem cd31 : ∀ c : Dev nD, k0_cond31 c = 1#1 ↔ need (src c 1) 0 := by decide +kernel
theorem cd61 : ∀ c : Dev nD, k0_cond61 c = 1#1 ↔ need c 0 := by decide +kernel
theorem dv17 : ∀ c : Dev nD, k0_dev17 c = (dst c 1).val := by decide +kernel
theorem of3 : ∀ c : Dev nD, k0_off3 c = ![(dst c 1).val, 0, 64, 0] := by decide +kernel
theorem cd2 : ∀ c : Dev nD, k0_cond2 c = 1#1 ↔ need c 1 := by decide +kernel
theorem cd32 : ∀ c : Dev nD, k0_cond32 c = 1#1 ↔ need (src c 1) 1 := by decide +kernel
theorem cd62 : ∀ c : Dev nD, k0_cond62 c = 1#1 ↔ need c 1 := by decide +kernel
theorem dv18 : ∀ c : Dev nD, k0_dev18 c = (dst c 2).val := by decide +kernel
theorem of4 : ∀ c : Dev nD, k0_off4 c = ![(dst c 2).val, 0, 0, 0] := by decide +kernel
theorem cd3 : ∀ c : Dev nD, k0_cond3 c = 1#1 ↔ need c 0 := by decide +kernel
theorem cd33 : ∀ c : Dev nD, k0_cond33 c = 1#1 ↔ need (src c 2) 0 := by decide +kernel
theorem cd63 : ∀ c : Dev nD, k0_cond63 c = 1#1 ↔ need c 0 := by decide +kernel
theorem dv19 : ∀ c : Dev nD, k0_dev19 c = (dst c 2).val := by decide +kernel
theorem of5 : ∀ c : Dev nD, k0_off5 c = ![(dst c 2).val, 0, 64, 0] := by decide +kernel
theorem cd4 : ∀ c : Dev nD, k0_cond4 c = 1#1 ↔ need c 1 := by decide +kernel
theorem cd34 : ∀ c : Dev nD, k0_cond34 c = 1#1 ↔ need (src c 2) 1 := by decide +kernel
theorem cd64 : ∀ c : Dev nD, k0_cond64 c = 1#1 ↔ need c 1 := by decide +kernel
theorem dv20 : ∀ c : Dev nD, k0_dev20 c = (dst c 3).val := by decide +kernel
theorem of6 : ∀ c : Dev nD, k0_off6 c = ![(dst c 3).val, 0, 0, 0] := by decide +kernel
theorem cd5 : ∀ c : Dev nD, k0_cond5 c = 1#1 ↔ need c 0 := by decide +kernel
theorem cd35 : ∀ c : Dev nD, k0_cond35 c = 1#1 ↔ need (src c 3) 0 := by decide +kernel
theorem cd65 : ∀ c : Dev nD, k0_cond65 c = 1#1 ↔ need c 0 := by decide +kernel
theorem dv21 : ∀ c : Dev nD, k0_dev21 c = (dst c 3).val := by decide +kernel
theorem of7 : ∀ c : Dev nD, k0_off7 c = ![(dst c 3).val, 0, 64, 0] := by decide +kernel
theorem cd6 : ∀ c : Dev nD, k0_cond6 c = 1#1 ↔ need c 1 := by decide +kernel
theorem cd36 : ∀ c : Dev nD, k0_cond36 c = 1#1 ↔ need (src c 3) 1 := by decide +kernel
theorem cd66 : ∀ c : Dev nD, k0_cond66 c = 1#1 ↔ need c 1 := by decide +kernel
theorem dv22 : ∀ c : Dev nD, k0_dev22 c = (dst c 4).val := by decide +kernel
theorem of8 : ∀ c : Dev nD, k0_off8 c = ![(dst c 4).val, 0, 0, 0] := by decide +kernel
theorem cd7 : ∀ c : Dev nD, k0_cond7 c = 1#1 ↔ need c 0 := by decide +kernel
theorem cd37 : ∀ c : Dev nD, k0_cond37 c = 1#1 ↔ need (src c 4) 0 := by decide +kernel
theorem cd67 : ∀ c : Dev nD, k0_cond67 c = 1#1 ↔ need c 0 := by decide +kernel
theorem dv23 : ∀ c : Dev nD, k0_dev23 c = (dst c 4).val := by decide +kernel
theorem of9 : ∀ c : Dev nD, k0_off9 c = ![(dst c 4).val, 0, 64, 0] := by decide +kernel
theorem cd8 : ∀ c : Dev nD, k0_cond8 c = 1#1 ↔ need c 1 := by decide +kernel
theorem cd38 : ∀ c : Dev nD, k0_cond38 c = 1#1 ↔ need (src c 4) 1 := by decide +kernel
theorem cd68 : ∀ c : Dev nD, k0_cond68 c = 1#1 ↔ need c 1 := by decide +kernel
theorem dv24 : ∀ c : Dev nD, k0_dev24 c = (dst c 5).val := by decide +kernel
theorem of10 : ∀ c : Dev nD, k0_off10 c = ![(dst c 5).val, 0, 0, 0] := by decide +kernel
theorem cd9 : ∀ c : Dev nD, k0_cond9 c = 1#1 ↔ need c 0 := by decide +kernel
theorem cd39 : ∀ c : Dev nD, k0_cond39 c = 1#1 ↔ need (src c 5) 0 := by decide +kernel
theorem cd69 : ∀ c : Dev nD, k0_cond69 c = 1#1 ↔ need c 0 := by decide +kernel
theorem dv25 : ∀ c : Dev nD, k0_dev25 c = (dst c 5).val := by decide +kernel
theorem of11 : ∀ c : Dev nD, k0_off11 c = ![(dst c 5).val, 0, 64, 0] := by decide +kernel
theorem cd10 : ∀ c : Dev nD, k0_cond10 c = 1#1 ↔ need c 1 := by decide +kernel
theorem cd40 : ∀ c : Dev nD, k0_cond40 c = 1#1 ↔ need (src c 5) 1 := by decide +kernel
theorem cd70 : ∀ c : Dev nD, k0_cond70 c = 1#1 ↔ need c 1 := by decide +kernel
theorem dv26 : ∀ c : Dev nD, k0_dev26 c = (dst c 6).val := by decide +kernel
theorem of12 : ∀ c : Dev nD, k0_off12 c = ![(dst c 6).val, 0, 0, 0] := by decide +kernel
theorem cd11 : ∀ c : Dev nD, k0_cond11 c = 1#1 ↔ need c 0 := by decide +kernel
theorem cd41 : ∀ c : Dev nD, k0_cond41 c = 1#1 ↔ need (src c 6) 0 := by decide +kernel
theorem cd71 : ∀ c : Dev nD, k0_cond71 c = 1#1 ↔ need c 0 := by decide +kernel
theorem dv27 : ∀ c : Dev nD, k0_dev27 c = (dst c 6).val := by decide +kernel
theorem of13 : ∀ c : Dev nD, k0_off13 c = ![(dst c 6).val, 0, 64, 0] := by decide +kernel
theorem cd12 : ∀ c : Dev nD, k0_cond12 c = 1#1 ↔ need c 1 := by decide +kernel
theorem cd42 : ∀ c : Dev nD, k0_cond42 c = 1#1 ↔ need (src c 6) 1 := by decide +kernel
theorem cd72 : ∀ c : Dev nD, k0_cond72 c = 1#1 ↔ need c 1 := by decide +kernel
theorem dv28 : ∀ c : Dev nD, k0_dev28 c = (dst c 7).val := by decide +kernel
theorem of14 : ∀ c : Dev nD, k0_off14 c = ![(dst c 7).val, 0, 0, 0] := by decide +kernel
theorem cd13 : ∀ c : Dev nD, k0_cond13 c = 1#1 ↔ need c 0 := by decide +kernel
theorem cd43 : ∀ c : Dev nD, k0_cond43 c = 1#1 ↔ need (src c 7) 0 := by decide +kernel
theorem cd73 : ∀ c : Dev nD, k0_cond73 c = 1#1 ↔ need c 0 := by decide +kernel
theorem dv29 : ∀ c : Dev nD, k0_dev29 c = (dst c 7).val := by decide +kernel
theorem of15 : ∀ c : Dev nD, k0_off15 c = ![(dst c 7).val, 0, 64, 0] := by decide +kernel
theorem cd14 : ∀ c : Dev nD, k0_cond14 c = 1#1 ↔ need c 1 := by decide +kernel
theorem cd44 : ∀ c : Dev nD, k0_cond44 c = 1#1 ↔ need (src c 7) 1 := by decide +kernel
theorem cd74 : ∀ c : Dev nD, k0_cond74 c = 1#1 ↔ need c 1 := by decide +kernel
theorem dv30 : ∀ c : Dev nD, k0_dev30 c = (dst c 8).val := by decide +kernel
theorem of16 : ∀ c : Dev nD, k0_off16 c = ![(dst c 8).val, 0, 0, 0] := by decide +kernel
theorem cd15 : ∀ c : Dev nD, k0_cond15 c = 1#1 ↔ need c 0 := by decide +kernel
theorem cd45 : ∀ c : Dev nD, k0_cond45 c = 1#1 ↔ need (src c 8) 0 := by decide +kernel
theorem cd75 : ∀ c : Dev nD, k0_cond75 c = 1#1 ↔ need c 0 := by decide +kernel
theorem dv31 : ∀ c : Dev nD, k0_dev31 c = (dst c 8).val := by decide +kernel
theorem of17 : ∀ c : Dev nD, k0_off17 c = ![(dst c 8).val, 0, 64, 0] := by decide +kernel
theorem cd16 : ∀ c : Dev nD, k0_cond16 c = 1#1 ↔ need c 1 := by decide +kernel
theorem cd46 : ∀ c : Dev nD, k0_cond46 c = 1#1 ↔ need (src c 8) 1 := by decide +kernel
theorem cd76 : ∀ c : Dev nD, k0_cond76 c = 1#1 ↔ need c 1 := by decide +kernel
theorem dv32 : ∀ c : Dev nD, k0_dev32 c = (dst c 9).val := by decide +kernel
theorem of18 : ∀ c : Dev nD, k0_off18 c = ![(dst c 9).val, 0, 0, 0] := by decide +kernel
theorem cd17 : ∀ c : Dev nD, k0_cond17 c = 1#1 ↔ need c 0 := by decide +kernel
theorem cd47 : ∀ c : Dev nD, k0_cond47 c = 1#1 ↔ need (src c 9) 0 := by decide +kernel
theorem cd77 : ∀ c : Dev nD, k0_cond77 c = 1#1 ↔ need c 0 := by decide +kernel
theorem dv33 : ∀ c : Dev nD, k0_dev33 c = (dst c 9).val := by decide +kernel
theorem of19 : ∀ c : Dev nD, k0_off19 c = ![(dst c 9).val, 0, 64, 0] := by decide +kernel
theorem cd18 : ∀ c : Dev nD, k0_cond18 c = 1#1 ↔ need c 1 := by decide +kernel
theorem cd48 : ∀ c : Dev nD, k0_cond48 c = 1#1 ↔ need (src c 9) 1 := by decide +kernel
theorem cd78 : ∀ c : Dev nD, k0_cond78 c = 1#1 ↔ need c 1 := by decide +kernel
theorem dv34 : ∀ c : Dev nD, k0_dev34 c = (dst c 10).val := by decide +kernel
theorem of20 : ∀ c : Dev nD, k0_off20 c = ![(dst c 10).val, 0, 0, 0] := by decide +kernel
theorem cd19 : ∀ c : Dev nD, k0_cond19 c = 1#1 ↔ need c 0 := by decide +kernel
theorem cd49 : ∀ c : Dev nD, k0_cond49 c = 1#1 ↔ need (src c 10) 0 := by decide +kernel
theorem cd79 : ∀ c : Dev nD, k0_cond79 c = 1#1 ↔ need c 0 := by decide +kernel
theorem dv35 : ∀ c : Dev nD, k0_dev35 c = (dst c 10).val := by decide +kernel
theorem of21 : ∀ c : Dev nD, k0_off21 c = ![(dst c 10).val, 0, 64, 0] := by decide +kernel
theorem cd20 : ∀ c : Dev nD, k0_cond20 c = 1#1 ↔ need c 1 := by decide +kernel
theorem cd50 : ∀ c : Dev nD, k0_cond50 c = 1#1 ↔ need (src c 10) 1 := by decide +kernel
theorem cd80 : ∀ c : Dev nD, k0_cond80 c = 1#1 ↔ need c 1 := by decide +kernel
theorem dv36 : ∀ c : Dev nD, k0_dev36 c = (dst c 11).val := by decide +kernel
theorem of22 : ∀ c : Dev nD, k0_off22 c = ![(dst c 11).val, 0, 0, 0] := by decide +kernel
theorem cd21 : ∀ c : Dev nD, k0_cond21 c = 1#1 ↔ need c 0 := by decide +kernel
theorem cd51 : ∀ c : Dev nD, k0_cond51 c = 1#1 ↔ need (src c 11) 0 := by decide +kernel
theorem cd81 : ∀ c : Dev nD, k0_cond81 c = 1#1 ↔ need c 0 := by decide +kernel
theorem dv37 : ∀ c : Dev nD, k0_dev37 c = (dst c 11).val := by decide +kernel
theorem of23 : ∀ c : Dev nD, k0_off23 c = ![(dst c 11).val, 0, 64, 0] := by decide +kernel
theorem cd22 : ∀ c : Dev nD, k0_cond22 c = 1#1 ↔ need c 1 := by decide +kernel
theorem cd52 : ∀ c : Dev nD, k0_cond52 c = 1#1 ↔ need (src c 11) 1 := by decide +kernel
theorem cd82 : ∀ c : Dev nD, k0_cond82 c = 1#1 ↔ need c 1 := by decide +kernel
theorem dv38 : ∀ c : Dev nD, k0_dev38 c = (dst c 12).val := by decide +kernel
theorem of24 : ∀ c : Dev nD, k0_off24 c = ![(dst c 12).val, 0, 0, 0] := by decide +kernel
theorem cd23 : ∀ c : Dev nD, k0_cond23 c = 1#1 ↔ need c 0 := by decide +kernel
theorem cd53 : ∀ c : Dev nD, k0_cond53 c = 1#1 ↔ need (src c 12) 0 := by decide +kernel
theorem cd83 : ∀ c : Dev nD, k0_cond83 c = 1#1 ↔ need c 0 := by decide +kernel
theorem dv39 : ∀ c : Dev nD, k0_dev39 c = (dst c 12).val := by decide +kernel
theorem of25 : ∀ c : Dev nD, k0_off25 c = ![(dst c 12).val, 0, 64, 0] := by decide +kernel
theorem cd24 : ∀ c : Dev nD, k0_cond24 c = 1#1 ↔ need c 1 := by decide +kernel
theorem cd54 : ∀ c : Dev nD, k0_cond54 c = 1#1 ↔ need (src c 12) 1 := by decide +kernel
theorem cd84 : ∀ c : Dev nD, k0_cond84 c = 1#1 ↔ need c 1 := by decide +kernel
theorem dv40 : ∀ c : Dev nD, k0_dev40 c = (dst c 13).val := by decide +kernel
theorem of26 : ∀ c : Dev nD, k0_off26 c = ![(dst c 13).val, 0, 0, 0] := by decide +kernel
theorem cd25 : ∀ c : Dev nD, k0_cond25 c = 1#1 ↔ need c 0 := by decide +kernel
theorem cd55 : ∀ c : Dev nD, k0_cond55 c = 1#1 ↔ need (src c 13) 0 := by decide +kernel
theorem cd85 : ∀ c : Dev nD, k0_cond85 c = 1#1 ↔ need c 0 := by decide +kernel
theorem dv41 : ∀ c : Dev nD, k0_dev41 c = (dst c 13).val := by decide +kernel
theorem of27 : ∀ c : Dev nD, k0_off27 c = ![(dst c 13).val, 0, 64, 0] := by decide +kernel
theorem cd26 : ∀ c : Dev nD, k0_cond26 c = 1#1 ↔ need c 1 := by decide +kernel
theorem cd56 : ∀ c : Dev nD, k0_cond56 c = 1#1 ↔ need (src c 13) 1 := by decide +kernel
theorem cd86 : ∀ c : Dev nD, k0_cond86 c = 1#1 ↔ need c 1 := by decide +kernel
theorem dv42 : ∀ c : Dev nD, k0_dev42 c = (dst c 14).val := by decide +kernel
theorem of28 : ∀ c : Dev nD, k0_off28 c = ![(dst c 14).val, 0, 0, 0] := by decide +kernel
theorem cd27 : ∀ c : Dev nD, k0_cond27 c = 1#1 ↔ need c 0 := by decide +kernel
theorem cd57 : ∀ c : Dev nD, k0_cond57 c = 1#1 ↔ need (src c 14) 0 := by decide +kernel
theorem cd87 : ∀ c : Dev nD, k0_cond87 c = 1#1 ↔ need c 0 := by decide +kernel
theorem dv43 : ∀ c : Dev nD, k0_dev43 c = (dst c 14).val := by decide +kernel
theorem of29 : ∀ c : Dev nD, k0_off29 c = ![(dst c 14).val, 0, 64, 0] := by decide +kernel
theorem cd28 : ∀ c : Dev nD, k0_cond28 c = 1#1 ↔ need c 1 := by decide +kernel
theorem cd58 : ∀ c : Dev nD, k0_cond58 c = 1#1 ↔ need (src c 14) 1 := by decide +kernel
theorem cd88 : ∀ c : Dev nD, k0_cond88 c = 1#1 ↔ need c 1 := by decide +kernel
theorem dv44 : ∀ c : Dev nD, k0_dev44 c = (dst c 15).val := by decide +kernel
theorem of30 : ∀ c : Dev nD, k0_off30 c = ![(dst c 15).val, 0, 0, 0] := by decide +kernel
theorem cd29 : ∀ c : Dev nD, k0_cond29 c = 1#1 ↔ need c 0 := by decide +kernel
theorem cd59 : ∀ c : Dev nD, k0_cond59 c = 1#1 ↔ need (src c 15) 0 := by decide +kernel
theorem cd89 : ∀ c : Dev nD, k0_cond89 c = 1#1 ↔ need c 0 := by decide +kernel
theorem dv45 : ∀ c : Dev nD, k0_dev45 c = (dst c 15).val := by decide +kernel
theorem of31 : ∀ c : Dev nD, k0_off31 c = ![(dst c 15).val, 0, 64, 0] := by decide +kernel
theorem cd30 : ∀ c : Dev nD, k0_cond30 c = 1#1 ↔ need c 1 := by decide +kernel
theorem cd60 : ∀ c : Dev nD, k0_cond60 c = 1#1 ↔ need (src c 15) 1 := by decide +kernel
theorem cd90 : ∀ c : Dev nD, k0_cond90 c = 1#1 ↔ need c 1 := by decide +kernel
theorem dv46 : ∀ c : Dev nD, k0_dev46 c = (dst c 1).val := by decide +kernel
theorem dv61 : ∀ c : Dev nD, k0_dev61 c = (dst c 1).val := by decide +kernel
theorem ro1 : ∀ c : Dev nD, k0_off62 c 1#32 = ![16 * (dst c 1).val, 0] := by decide +kernel
theorem dv47 : ∀ c : Dev nD, k0_dev47 c = (dst c 2).val := by decide +kernel
theorem dv62 : ∀ c : Dev nD, k0_dev62 c = (dst c 2).val := by decide +kernel
theorem ro2 : ∀ c : Dev nD, k0_off62 c 2#32 = ![16 * (dst c 2).val, 0] := by decide +kernel
theorem dv48 : ∀ c : Dev nD, k0_dev48 c = (dst c 3).val := by decide +kernel
theorem dv63 : ∀ c : Dev nD, k0_dev63 c = (dst c 3).val := by decide +kernel
theorem ro3 : ∀ c : Dev nD, k0_off62 c 3#32 = ![16 * (dst c 3).val, 0] := by decide +kernel
theorem dv49 : ∀ c : Dev nD, k0_dev49 c = (dst c 4).val := by decide +kernel
theorem dv64 : ∀ c : Dev nD, k0_dev64 c = (dst c 4).val := by decide +kernel
theorem ro4 : ∀ c : Dev nD, k0_off62 c 4#32 = ![16 * (dst c 4).val, 0] := by decide +kernel
theorem dv50 : ∀ c : Dev nD, k0_dev50 c = (dst c 5).val := by decide +kernel
theorem dv65 : ∀ c : Dev nD, k0_dev65 c = (dst c 5).val := by decide +kernel
theorem ro5 : ∀ c : Dev nD, k0_off62 c 5#32 = ![16 * (dst c 5).val, 0] := by decide +kernel
theorem dv51 : ∀ c : Dev nD, k0_dev51 c = (dst c 6).val := by decide +kernel
theorem dv66 : ∀ c : Dev nD, k0_dev66 c = (dst c 6).val := by decide +kernel
theorem ro6 : ∀ c : Dev nD, k0_off62 c 6#32 = ![16 * (dst c 6).val, 0] := by decide +kernel
theorem dv52 : ∀ c : Dev nD, k0_dev52 c = (dst c 7).val := by decide +kernel
theorem dv67 : ∀ c : Dev nD, k0_dev67 c = (dst c 7).val := by decide +kernel
theorem ro7 : ∀ c : Dev nD, k0_off62 c 7#32 = ![16 * (dst c 7).val, 0] := by decide +kernel
theorem dv53 : ∀ c : Dev nD, k0_dev53 c = (dst c 8).val := by decide +kernel
theorem dv68 : ∀ c : Dev nD, k0_dev68 c = (dst c 8).val := by decide +kernel
theorem ro8 : ∀ c : Dev nD, k0_off62 c 8#32 = ![16 * (dst c 8).val, 0] := by decide +kernel
theorem dv54 : ∀ c : Dev nD, k0_dev54 c = (dst c 9).val := by decide +kernel
theorem dv69 : ∀ c : Dev nD, k0_dev69 c = (dst c 9).val := by decide +kernel
theorem ro9 : ∀ c : Dev nD, k0_off62 c 9#32 = ![16 * (dst c 9).val, 0] := by decide +kernel
theorem dv55 : ∀ c : Dev nD, k0_dev55 c = (dst c 10).val := by decide +kernel
theorem dv70 : ∀ c : Dev nD, k0_dev70 c = (dst c 10).val := by decide +kernel
theorem ro10 : ∀ c : Dev nD, k0_off62 c 10#32 = ![16 * (dst c 10).val, 0] := by decide +kernel
theorem dv56 : ∀ c : Dev nD, k0_dev56 c = (dst c 11).val := by decide +kernel
theorem dv71 : ∀ c : Dev nD, k0_dev71 c = (dst c 11).val := by decide +kernel
theorem ro11 : ∀ c : Dev nD, k0_off62 c 11#32 = ![16 * (dst c 11).val, 0] := by decide +kernel
theorem dv57 : ∀ c : Dev nD, k0_dev57 c = (dst c 12).val := by decide +kernel
theorem dv72 : ∀ c : Dev nD, k0_dev72 c = (dst c 12).val := by decide +kernel
theorem ro12 : ∀ c : Dev nD, k0_off62 c 12#32 = ![16 * (dst c 12).val, 0] := by decide +kernel
theorem dv58 : ∀ c : Dev nD, k0_dev58 c = (dst c 13).val := by decide +kernel
theorem dv73 : ∀ c : Dev nD, k0_dev73 c = (dst c 13).val := by decide +kernel
theorem ro13 : ∀ c : Dev nD, k0_off62 c 13#32 = ![16 * (dst c 13).val, 0] := by decide +kernel
theorem dv59 : ∀ c : Dev nD, k0_dev59 c = (dst c 14).val := by decide +kernel
theorem dv74 : ∀ c : Dev nD, k0_dev74 c = (dst c 14).val := by decide +kernel
theorem ro14 : ∀ c : Dev nD, k0_off62 c 14#32 = ![16 * (dst c 14).val, 0] := by decide +kernel
theorem dv60 : ∀ c : Dev nD, k0_dev60 c = (dst c 15).val := by decide +kernel
theorem dv75 : ∀ c : Dev nD, k0_dev75 c = (dst c 15).val := by decide +kernel
theorem ro15 : ∀ c : Dev nD, k0_off62 c 15#32 = ![16 * (dst c 15).val, 0] := by decide +kernel
theorem of1 : ∀ c : Dev nD, k0_off1 c = ![c.val, 0, 0, 0] := by decide +kernel
theorem of63 : ∀ c : Dev nD, k0_off63 c = ![16 * c.val, 0] := by decide +kernel
theorem of64 : ∀ c : Dev nD, k0_off64 c = ![16 * c.val, 0] := by decide +kernel

theorem pSl_eq {d : Dev nD} {b : Fin 2} {off : Fin 4 → ℕ} (e : off = ![d.val, 0, 64 * b.val, 0]) {inb} {pf} :
    (pM.slice (Rect.unit (s := S16x4x128x256) off S1x4x64x256.size inb) pf).squeeze S4x64x256 squeezes_S1x4x64x256_S4x64x256 = pSl d b := by
  subst e; rfl
theorem aSl_eq {d : Dev nD} {off : Fin 2 → ℕ} (e : off = ![16 * d.val, 0]) {inb} {pf} :
    aM.slice (Rect.unit (s := S256x512) off S16x512.size inb) pf = aSl d := by subst e; rfl
theorem oSl_eq {d : Dev nD} {off : Fin 2 → ℕ} (e : off = ![16 * d.val, 0]) {inb} {pf} :
    oM.slice (Rect.unit (s := S256x512) off S16x512.size inb) pf = oSl d := by subst e; rfl
theorem credit_p {off : Fin 4 → ℕ} {inb} {pf} :
    ((pM.slice (Rect.unit (s := S16x4x128x256) off S1x4x64x256.size inb) pf).squeeze S4x64x256 squeezes_S1x4x64x256_S4x64x256).view.dmaCredit = Nkv := rfl
theorem credit_a {off : Fin 2 → ℕ} {inb} {pf} : (aM.slice (Rect.unit (s := S256x512) off S16x512.size inb) pf).view.dmaCredit = Nrow := rfl
theorem credit_o {off : Fin 2 → ℕ} {inb} {pf} : (oM.slice (Rect.unit (s := S256x512) off S16x512.size inb) pf).view.dmaCredit = Nrow := rfl
theorem credit_r : rM.view.dmaCredit = Nrow := rfl

/-! ## States -/

/-- A state of a list of steps: obligations, steps to go, steps done, the rest. -/
abbrev St (c : Dev nD) (l : List Ob) {α : Type} (ts : List α) (In : α → sProp 𝕄) (ds : List α) (Out : α → sProp 𝕄) (R : sProp 𝕄) : sProp 𝕄 :=
  iprop(Ctx X κ ∗ OW c (owed c l) ∗ sepL ts In ∗ sepL ds Out ∗ R)

/-- The entry barrier's credit and position. -/
def BR (c : Dev nD) : sProp 𝕄 := iprop(cred (tallyAt (kcell (c, .bar)) () 15) ∗ atPos ER (kcell (c, .bar)) 0 ∅ 0)
/-- What the entry barrier brings. -/
def BO (c : Dev nD) : sProp 𝕄 := iprop(semVal (kcell (c, .bar)) 0 ∗ sepL tL (barPay (F := F) c))

/-! ## The guarded copies and waits as printed -/

theorem kvs (c : Dev nD) (t : Fin 16) (b : Fin 2) {p : Con F cc0_scratch0} (hp : ∀ d, PackOk (X c) d p)
    {cnd : BitVec 1} (hc : cnd = 1#1 ↔ need c b) {dv : ℕ} (hdv : dv = (dst c t).val) {off : Fin 4 → ℕ} (ho : off = ![(dst c t).val, 0, 64 * b.val, 0])
    {hlt : cnd = 1#1 → dv < nD} {inb : cnd = 1#1 → ∀ a, off a + S1x4x64x256.size a ≤ S16x4x128x256.size a}
    {dstm : Memref sig .tc .vmem S4x64x256 .bf16} {hsc : dstm.view.ref.isScScratch = false} {sS sR : DmaSem sig}
    {hsrc : ∀ h : cnd = 1#1, ((pM.slice (Rect.unit (s := S16x4x128x256) off S1x4x64x256.size (inb h)) (fun _ => rfl)).squeeze S4x64x256 squeezes_S1x4x64x256_S4x64x256).view.WordExact}
    {hdst : dstm.view.WordExact} {hsem : ∀ h : cnd = 1#1, DmaTarget.Typed .vmem (.dma sR) (.remote (Dev.tc (⟨dv, hlt h⟩ : Dev nD) : Thread nD τ) dstm (.dma sS) hsc)}
    {l : List Ob} {ts ds : List (Fin 16 × Fin 2)} {R : sProp 𝕄} {Q : PUnit → sProp 𝕄}
    (h : St X κ c l ts (KvIn c p) ((t, b) :: ds) (KvOut (F := F) c) R ⊢ Q ⟨⟩)
    (ht : t ≠ 0 := by decide) (hd : dstm = gSl t b := by rfl) (hsS : sS = ksS t b := by rfl) (hsR : sR = krS t b := by rfl) :
    St X κ c (.kr t b :: l) ((t, b) :: ts) (KvIn c p) ds (KvOut (F := F) c) R
      ⊢ wpb c (dite (cnd = 1#1) (fun h => Prog.lift (.enqueueDma ((pM.slice (Rect.unit (s := S16x4x128x256) off S1x4x64x256.size (inb h)) (fun _ => rfl)).squeeze S4x64x256 squeezes_S1x4x64x256_S4x64x256)
          (.remote (Dev.tc (⟨dv, hlt h⟩ : Dev nD) : Thread nD τ) dstm (.dma sS) hsc) (.dma sR) (hsrc h) hdst (hsem h)) >>= fun _ => pure ⟨⟩) (fun _ => pure ⟨⟩)) Q :=
  guarded hc (fun hn hh hQ => bind_step (kv_send X κ c t b ht hn p (hp _) (Fin.ext hdv) (pSl_eq ho) hd hsS hsR (pure_step hQ)))
    (fun hn => kv_skip X κ c t b hn p) h

theorem kww (c : Dev nD) (t : Fin 16) (b : Fin 2) {cnd : BitVec 1} (hc : cnd = 1#1 ↔ need (src c t) b)
    {srcm : cnd = 1#1 → Memref sig .tc .vmem S4x64x256 .bf16} {dstm : Memref sig .tc .vmem S4x64x256 .bf16} {sR : DmaSem sig}
    {h1 : ∀ h, (srcm h).view.WordExact} {h2 : dstm.view.WordExact}
    {ts ds : List (Fin 16 × Fin 2)} {R : sProp 𝕄} {Q : PUnit → sProp 𝕄}
    (h : St X κ c obRr ts (WIn (F := F) c) ((t, b) :: ds) (WOut X c) R ⊢ Q ⟨⟩)
    (ht : t ≠ 0 := by decide) (hsR : sR = krS t b := by rfl) (hd : dstm = gSl t b := by rfl) :
    St X κ c obRr ((t, b) :: ts) (WIn (F := F) c) ds (WOut X c) R
      ⊢ wpb c (dite (cnd = 1#1) (fun h => Prog.lift (.waitDma2 sR (srcm h) dstm (h1 h) h2) >>= fun _ => pure ⟨⟩) (fun _ => pure ⟨⟩)) Q :=
  guardedU hc (fun hn hh hQ => bind_step (kv_wait X κ c t b ht hn (by decide) hsR (hd ▸ credit_gSl t b) (pure_step hQ)))
    (fun hn => kv_wskip X κ c t b hn) h

theorem ksw (c : Dev nD) (t : Fin 16) (b : Fin 2) {cnd : BitVec 1} (hc : cnd = 1#1 ↔ need c b)
    {srcm : Memref sig .tc .vmem S4x64x256 .bf16} {off : Fin 4 → ℕ} {inb : cnd = 1#1 → ∀ a, off a + S1x4x64x256.size a ≤ S16x4x128x256.size a} {sR : DmaSem sig}
    {h1 : srcm.view.WordExact}
    {h2 : ∀ h : cnd = 1#1, ((pM.slice (Rect.unit (s := S16x4x128x256) off S1x4x64x256.size (inb h)) (fun _ => rfl)).squeeze S4x64x256 squeezes_S1x4x64x256_S4x64x256).view.WordExact}
    {ts ds : List (Fin 16 × Fin 2)} {R : sProp 𝕄} {Q : PUnit → sProp 𝕄}
    (h : St X κ c [] ts (KwIn (F := F) c) ((t, b) :: ds) (KwOut (F := F) c) R ⊢ Q ⟨⟩)
    (ht : t ≠ 0 := by decide) (hsR : sR = ksS t b := by rfl) :
    St X κ c [] ((t, b) :: ts) (KwIn (F := F) c) ds (KwOut (F := F) c) R
      ⊢ wpb c (dite (cnd = 1#1) (fun h => Prog.lift (.waitDma2 sR srcm ((pM.slice (Rect.unit (s := S16x4x128x256) off S1x4x64x256.size (inb h)) (fun _ => rfl)).squeeze S4x64x256 squeezes_S1x4x64x256_S4x64x256) h1 (h2 h)) >>= fun _ => pure ⟨⟩) (fun _ => pure ⟨⟩)) Q :=
  guardedU hc (fun hn hh hQ => bind_step (ks_wait X κ c t b ht hn hsR credit_p (pure_step hQ)))
    (fun hn => ks_wskip X κ c t b hn) h

/-! ## The reduction's steps as printed -/

/-- The state of the reduction's waits: sends to wait for and waited for, landings to wait for and waited for. -/
abbrev StR (c : Dev nD) (ta da tr dr : List (Fin 16)) (R : sProp 𝕄) : sProp 𝕄 :=
  iprop(Ctx X κ ∗ OW c (owed c obAg) ∗ sepL ta (RaIn (F := F) c) ∗ sepL da (RaOut (F := F) c) ∗ sepL tr (RrIn (F := F) c) ∗ sepL dr (RrOut X c) ∗ R)
/-- The state of the gathering's waits. -/
abbrev StA (c : Dev nD) (ta da tr dr : List (Fin 16)) (R : sProp 𝕄) : sProp 𝕄 :=
  iprop(Ctx X κ ∗ OW c (owed c []) ∗ sepL ta (AaIn (F := F) c) ∗ sepL da (AaOut (F := F) c) ∗ sepL tr (AwIn (F := F) c) ∗ sepL dr (AwOut X c) ∗ R)

theorem rot2 {A B C D E G R : sProp 𝕄} : iprop(A ∗ B ∗ C ∗ D ∗ E ∗ G ∗ R) ⊢ iprop(A ∗ B ∗ E ∗ G ∗ C ∗ D ∗ R) := by
  iintro ⟨HA, HB, HC, HD, HE, HG, HR⟩
  isplitl [HA]; · iexact HA
  isplitl [HB]; · iexact HB
  isplitl [HE]; · iexact HE
  isplitl [HG]; · iexact HG
  isplitl [HC]; · iexact HC
  isplitl [HD] <;> iassumption

theorem rss (c : Dev nD) (t : Fin 16) {P : Con F cc0_scratch3} (hP : PartOk X c P) {dv : ℕ} (hdv : dv = (dst c t).val) {off : Fin 2 → ℕ} (ho : off = ![16 * (dst c t).val, 0])
    {hlt : dv < nD} {inb} {pf} {dstm : Memref sig .tc .vmem S16x512 .bf16} {hsc : dstm.view.ref.isScScratch = false} {sS sR : DmaSem sig}
    {hsrc : (aM.slice (Rect.unit (s := S256x512) off S16x512.size inb) pf).view.WordExact} {hdst : dstm.view.WordExact}
    {hsem : DmaTarget.Typed .vmem (.dma sR) (.remote (Dev.tc (⟨dv, hlt⟩ : Dev nD) : Thread nD τ) dstm (.dma sS) hsc)}
    {l : List Ob} {ts ds : List (Fin 16)} {R : sProp 𝕄} {Q : PUnit → sProp 𝕄}
    (h : St X κ c l ts (RsIn c P) (t :: ds) (RsOut (F := F) c) R ⊢ Q ⟨⟩)
    (ht : t ≠ 0 := by decide) (hd : dstm = sSl t := by rfl) (hsS : sS = asS t := by rfl) (hsR : sR = rrS t := by rfl) :
    St X κ c (.rr t :: l) (t :: ts) (RsIn c P) ds (RsOut (F := F) c) R
      ⊢ wpb c (Prog.lift (.enqueueDma (aM.slice (Rect.unit (s := S256x512) off S16x512.size inb) pf) (.remote (Dev.tc (⟨dv, hlt⟩ : Dev nD) : Thread nD τ) dstm (.dma sS) hsc) (.dma sR) hsrc hdst hsem)) Q :=
  rs_send X κ c t ht P hP (Fin.ext hdv) (aSl_eq ho) hd hsS hsR h

theorem raw (c : Dev nD) (t : Fin 16) {srcm : Memref sig .tc .vmem S16x512 .bf16} {off : Fin 2 → ℕ} {inb} {pf} {sR : DmaSem sig}
    {h1 : srcm.view.WordExact} {h2 : (aM.slice (Rect.unit (s := S256x512) off S16x512.size inb) pf).view.WordExact}
    {ts ds : List (Fin 16)} {tr dr : List (Fin 16)} {R : sProp 𝕄} {Q : PUnit → sProp 𝕄} (h : StR X κ c ts (t :: ds) tr dr R ⊢ Q ⟨⟩)
    (ht : t ≠ 0 := by decide) (hsR : sR = asS t := by rfl) :
    StR X κ c (t :: ts) ds tr dr R ⊢ wpb c (Prog.lift (.waitDma2 sR srcm (aM.slice (Rect.unit (s := S256x512) off S16x512.size inb) pf) h1 h2)) Q :=
  ra_wait X κ c t ht (by decide) hsR credit_a h

theorem rrw (c : Dev nD) (t : Fin 16) {srcm dstm : Memref sig .tc .vmem S16x512 .bf16} {sR : DmaSem sig}
    {h1 : srcm.view.WordExact} {h2 : dstm.view.WordExact}
    {ts ds : List (Fin 16)} {tr dr : List (Fin 16)} {R : sProp 𝕄} {Q : PUnit → sProp 𝕄} (h : StR X κ c ts ds tr (t :: dr) R ⊢ Q ⟨⟩)
    (ht : t ≠ 0 := by decide) (hsR : sR = rrS t := by rfl) (hd : dstm = sSl t := by rfl) :
    StR X κ c ts ds (t :: tr) dr R ⊢ wpb c (Prog.lift (.waitDma2 sR srcm dstm h1 h2)) Q :=
  rot2.trans (rr_wait X κ c t ht (by decide) hsR (hd ▸ credit_sSl t) (rot2.trans h))

theorem ags (c : Dev nD) (t : Fin 16) {Rc : Con F cc0_scratch4} (hR : RedOk X c Rc) {dv : ℕ} (hdv : dv = (dst c t).val)
    {hlt : dv < nD} {inb} {pf} {sS sR : DmaSem sig} {hsc}
    {hsrc : rM.view.WordExact} {hdst : (oM.slice (Rect.unit (s := S256x512) (k0_off64 c) S16x512.size inb) pf).view.WordExact}
    {hsem : DmaTarget.Typed .vmem (.dma sR) (.remote (Dev.tc (⟨dv, hlt⟩ : Dev nD) : Thread nD τ) (oM.slice (Rect.unit (s := S256x512) (k0_off64 c) S16x512.size inb) pf) (.dma sS) hsc)}
    {l : List Ob} {ts ds : List (Fin 16)} {R : sProp 𝕄} {Q : PUnit → sProp 𝕄}
    (h : St X κ c l ts (AgIn c Rc) (t :: ds) (RsOut (F := F) c) R ⊢ Q ⟨⟩)
    (ht : t ≠ 0 := by decide) (hsS : sS = asS t := by rfl) (hsR : sR = agS t := by rfl) :
    St X κ c (.ag t :: l) (t :: ts) (AgIn c Rc) ds (RsOut (F := F) c) R
      ⊢ wpb c (Prog.lift (.enqueueDma rM (.remote (Dev.tc (⟨dv, hlt⟩ : Dev nD) : Thread nD τ) (oM.slice (Rect.unit (s := S256x512) (k0_off64 c) S16x512.size inb) pf) (.dma sS) hsc) (.dma sR) hsrc hdst hsem)) Q :=
  ag_send X κ c t ht Rc hR (Fin.ext hdv) (oSl_eq (of64 c)) hsS hsR h

theorem aaw (c : Dev nD) (t : Fin 16) {srcm : Memref sig .tc .vmem S16x512 .bf16} {sR : DmaSem sig}
    {h1 : srcm.view.WordExact} {h2 : rM.view.WordExact}
    {ts ds : List (Fin 16)} {tr dr : List (Fin 16)} {R : sProp 𝕄} {Q : PUnit → sProp 𝕄} (h : StA X κ c ts (t :: ds) tr dr R ⊢ Q ⟨⟩)
    (ht : t ≠ 0 := by decide) (hsR : sR = asS t := by rfl) :
    StA X κ c (t :: ts) ds tr dr R ⊢ wpb c (Prog.lift (.waitDma2 sR srcm rM h1 h2)) Q :=
  aa_wait X κ c t ht hsR credit_r h

theorem aww (c : Dev nD) (t : Fin 16) {srcm : Memref sig .tc .vmem S16x512 .bf16} {off : Fin 2 → ℕ} {inb} {pf} {sR : DmaSem sig}
    {h1 : srcm.view.WordExact} {h2 : (oM.slice (Rect.unit (s := S256x512) off S16x512.size inb) pf).view.WordExact}
    {ts ds : List (Fin 16)} {tr dr : List (Fin 16)} {R : sProp 𝕄} {Q : PUnit → sProp 𝕄} (h : StA X κ c ts ds tr (t :: dr) R ⊢ Q ⟨⟩)
    (ht : t ≠ 0 := by decide) (hsR : sR = agS t := by rfl) :
    StA X κ c ts ds (t :: tr) dr R ⊢ wpb c (Prog.lift (.waitDma2 sR srcm (oM.slice (Rect.unit (s := S256x512) off S16x512.size inb) pf) h1 h2)) Q :=
  rot2.trans (aw_wait X κ c t ht hsR credit_o (rot2.trans h))

/-- Loading the rows that landed last. -/
theorem rrl (c : Dev nD) (t : Fin 16) {hl : sM.view.LoadsAt (sRect t).toLoadRect} {ta da tr dr : List (Fin 16)} {R : sProp 𝕄} {Q : Vec F S1x16x512 .bf16 → sProp 𝕄}
    (h : ∀ r, LoadOk X c t r → (StR X κ c ta da tr (t :: dr) R ⊢ Q r)) :
    StR X κ c ta da tr (t :: dr) R ⊢ wpb c (Prog.lift (.load sM (sRect t).toLoadRect hl)) Q :=
  load_ex (c := c) (m := sM) (T := (sSl t).view.set) (by
      rw [show (sSl t).view.set = (sM.view.slice (sRect t)).set from Memref.set_view_squeeze .., View.set_slice]; exact Finset.Subset.refl _)
    (fun s => LandOk X c t s) (by
      rw [StR, sepL_cons]
      unfold RrOut pc pcq
      iintro ⟨HA, HB, HC, HD, HE, ⟨⟨HV, ⟨%s, %hs, Hs⟩⟩, HG⟩, HR⟩
      iexists s
      isplitr; · ipureintro; exact hs
      isplitl [Hs]; · iexact Hs
      iintro Hs
      isplitl [HA]; · iexact HA
      isplitl [HB]; · iexact HB
      isplitl [HC]; · iexact HC
      isplitl [HD]; · iexact HD
      isplitl [HE]; · iexact HE
      isplitr [HR]
      · isplitr [HG]
        · isplitl [HV]; · iexact HV
          iexists s
          isplitr; · ipureintro; exact hs
          iexact Hs
        · iexact HG
      · iexact HR)
    (fun s hs => h _ ⟨s, hs, rfl⟩)

end Cert.KernelIdeal.Pf
end
end
-- ==== Proof.Parts1.lean ====
/-
# The printed parts: barrier, packing, sends, masks
-/
module

public import proofs.«01_k».proof.Proof.Ops

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

/-- A conditional whose two branches both go on to the same continuation. -/
theorem jp_step {c : Dev nD} {P : sProp 𝕄} {cnd : BitVec 1} {α β : Type} {A : cnd = 1#1 → Prog (TpuEff nD τ sig (Elt F) Λ₀ .tc) β} {k : Prog (TpuEff nD τ sig (Elt F) Λ₀ .tc) α} {Q : α → sProp 𝕄}
    (h : P ⊢ wpb c (dite (cnd = 1#1) (fun h => A h >>= fun _ => (pure PUnit.unit : Prog (TpuEff nD τ sig (Elt F) Λ₀ .tc) PUnit)) (fun _ => pure PUnit.unit)) fun _ => wpb c (k) Q) :
    P ⊢ wpb c (dite (cnd = 1#1) (fun h => A h >>= fun _ => k) (fun _ => k)) Q := by
  by_cases hc : cnd = 1#1
  · rw [dif_pos hc] at h ⊢
    have e : (A hc >>= fun _ => k) = (A hc >>= fun _ => (pure PUnit.unit : Prog (TpuEff nD τ sig (Elt F) Λ₀ .tc) PUnit)) >>= fun _ => k := by
      rw [bind_assoc]; simp only [pure_bind]
    rw [e]; exact bind_step h
  · rw [dif_neg hc] at h ⊢
    have h2 := bind_step (k := fun _ => k) h
    simpa only [pure_bind] using h2

variable (X : Dev nD → Ins F) (κ : Dev nD × K → ℕ)
/-- A conditional send followed by the rest of the program. -/
theorem kvsJ {α : Type} {k : Prog (TpuEff nD τ sig (Elt F) Λ₀ .tc) α} (c : Dev nD) (t : Fin 16) (b : Fin 2) {p : Con F cc0_scratch0} (hp : ∀ d, PackOk (X c) d p)
    {cnd : BitVec 1} {A : cnd = 1#1 → Prog (TpuEff nD τ sig (Elt F) Λ₀ .tc) PUnit} (hc : cnd = 1#1 ↔ need c b) (dv : ℕ) (hdv : dv = (dst c t).val) (off : Fin 4 → ℕ) (ho : off = ![(dst c t).val, 0, 64 * b.val, 0])
    (hlt : cnd = 1#1 → dv < nD) (inb : cnd = 1#1 → ∀ a, off a + S1x4x64x256.size a ≤ S16x4x128x256.size a)
    (hA : ∀ h : cnd = 1#1, ∃ h1 h2 h3, A h = Prog.lift (.enqueueDma ((pM.slice (Rect.unit (s := S16x4x128x256) off S1x4x64x256.size (inb h)) (fun _ => rfl)).squeeze S4x64x256 squeezes_S1x4x64x256_S4x64x256)
          (.remote (Dev.tc (⟨dv, hlt h⟩ : Dev nD) : Thread nD τ) (gSl t b) (.dma (ksS t b)) rfl) (.dma (krS t b)) h1 h2 h3))
    {l : List Ob} {ts ds : List (Fin 16 × Fin 2)} {R : sProp 𝕄} {Q : α → sProp 𝕄}
    (h : St X κ c l ts (KvIn c p) ((t, b) :: ds) (KvOut (F := F) c) R ⊢ wpb c k Q)
    (ht : t ≠ 0 := by decide) :
    St X κ c (.kr t b :: l) ((t, b) :: ts) (KvIn c p) ds (KvOut (F := F) c) R
      ⊢ wpb c (dite (cnd = 1#1) (fun h => A h >>= fun _ => k) (fun _ => k)) Q := by
  refine jp_step ?_
  refine guarded hc (fun hn hh hQ => ?_) (fun hn => kv_skip X κ c t b hn p) h
  obtain ⟨h1, h2, h3, e⟩ := hA hh
  rw [e]
  exact bind_step (kv_send X κ c t b ht hn p (hp _) (Fin.ext hdv) (pSl_eq ho) rfl rfl rfl (pure_step hQ))

theorem plane_read {c : Dev nD} {off : Fin 4 → ℕ} (e : off = ![c.val, 0, 0, 0]) {inb} (p : Con F cc0_scratch0) :
    pM.view.readAt (Elt F) (Rect.unit (s := S16x4x128x256) off S1x4x128x256.size inb).toLoadRect p = pM.view.readAt (Elt F) (plane c).toLoadRect p := by
  subst e; rfl

/-- What is stored as the device's own planes. -/
theorem own_val (c : Dev nD) {p : Con F cc0_scratch0} {inb}
    (hp : ∀ i ∈ [(15, 1), (15, 0), (14, 1), (14, 0), (13, 1), (13, 0), (12, 1), (12, 0), (11, 1), (11, 0), (10, 1), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)], (pM.access (slab i.1 i.2)).read (Elt F) p = packVal (X c) i.1 i.2) :
    ∃ p', PackOk (X c) c p' ∧ k0_pay37 (pM.view.readAt (Elt F) (Rect.unit (s := S16x4x128x256) (k0_off1 c) S1x4x128x256.size inb).toLoadRect p)
      = k0_pay37 (pM.view.readAt (Elt F) (plane c).toLoadRect p') :=
  ⟨p, fun h => hp (c, h) (by clear hp; revert c h; decide), by rw [plane_read (of1 c)]⟩

theorem acc5a {A B C D S S' R : sProp 𝕄} : iprop(A ∗ B ∗ C ∗ D ∗ (S ∗ S') ∗ R) ⊢ iprop(S ∗ (S -∗ A ∗ B ∗ C ∗ D ∗ (S ∗ S') ∗ R)) := by
  iintro ⟨HA, HB, HC, HD, ⟨HS, HT⟩, HR⟩
  isplitl [HS]; · iexact HS
  iintro HS
  isplitl [HA]; · iexact HA
  isplitl [HB]; · iexact HB
  isplitl [HC]; · iexact HC
  isplitl [HD]; · iexact HD
  isplitr [HR]
  · isplitl [HS] <;> iassumption
  · iexact HR

theorem acc5b {A B C D S S' R : sProp 𝕄} : iprop(A ∗ B ∗ C ∗ D ∗ (S ∗ S') ∗ R) ⊢ iprop(S' ∗ (S' -∗ A ∗ B ∗ C ∗ D ∗ (S ∗ S') ∗ R)) := by
  iintro ⟨HA, HB, HC, HD, ⟨HS, HT⟩, HR⟩
  isplitl [HT]; · iexact HT
  iintro HT
  isplitl [HA]; · iexact HA
  isplitl [HB]; · iexact HB
  isplitl [HC]; · iexact HC
  isplitl [HD]; · iexact HD
  isplitr [HR]
  · isplitl [HS] <;> iassumption
  · iexact HR

theorem part1 {c : Dev nD} {l : List Ob} {ts : List (Fin 16)} {R : sProp 𝕄} {Q}
    (h : ∀ j0 j1, (iprop(Ctx X κ ∗ OW c (owed c l) ∗ sepL ts (SigIn (F := F) c) ∗ R) ⊢ Q ⟨c, meW c, SemArray.scalar (sig.barrier 0 rfl), j0, 16#32, j1⟩)) :
    iprop(Ctx X κ ∗ OW c (owed c (.bar 1 :: .bar 2 :: l)) ∗ sepL (1 :: 2 :: ts) (SigIn (F := F) c) ∗ R) ⊢ wpb c (app (k0_part1 (F := F))) Q := by
  rw [k0_part1_eq_skeleton]
  exact bind_step (device_step (bind_step (sig_step X κ c 1 (by decide) (Fin.ext (dv1 c)) (bind_step (sig_step X κ c 2 (by decide) (Fin.ext (dv2 c)) (pure_step (h _ _)))))))

theorem part2 {c : Dev nD} {l : List Ob} {ts : List (Fin 16)} {R : sProp 𝕄} {Q} {v2 v30 c16_i32_18 v31}
    (h : ∀ j0 j1 j2, (iprop(Ctx X κ ∗ OW c (owed c l) ∗ sepL ts (SigIn (F := F) c) ∗ R) ⊢ Q ⟨j0, j1, j2⟩)) :
    iprop(Ctx X κ ∗ OW c (owed c (.bar 3 :: .bar 4 :: l)) ∗ sepL (3 :: 4 :: ts) (SigIn (F := F) c) ∗ R) ⊢ wpb c (app (k0_part2 (F := F)) c v2 (SemArray.scalar (sig.barrier 0 rfl)) v30 c16_i32_18 v31) Q := by
  rw [k0_part2_eq_skeleton]
  exact bind_step (sig_step X κ c 3 (by decide) (Fin.ext (dv3 c)) (bind_step (sig_step X κ c 4 (by decide) (Fin.ext (dv4 c)) (pure_step (h _ _ _)))))

theorem part3 {c : Dev nD} {l : List Ob} {ts : List (Fin 16)} {R : sProp 𝕄} {Q} {v2 v59 v64 v65}
    (h : ∀ j0 j1, (iprop(Ctx X κ ∗ OW c (owed c l) ∗ sepL ts (SigIn (F := F) c) ∗ R) ⊢ Q ⟨j0, 16#32, j1⟩)) :
    iprop(Ctx X κ ∗ OW c (owed c (.bar 5 :: .bar 6 :: .bar 7 :: l)) ∗ sepL (5 :: 6 :: 7 :: ts) (SigIn (F := F) c) ∗ R) ⊢ wpb c (app (k0_part3 (F := F)) c v2 (SemArray.scalar (sig.barrier 0 rfl)) v59 v64 v65) Q := by
  rw [k0_part3_eq_skeleton]
  exact bind_step (sig_step X κ c 5 (by decide) (Fin.ext (dv5 c)) (bind_step (sig_step X κ c 6 (by decide) (Fin.ext (dv6 c)) (bind_step (sig_step X κ c 7 (by decide) (Fin.ext (dv7 c)) (pure_step (h _ _)))))))

theorem part4 {c : Dev nD} {l : List Ob} {ts : List (Fin 16)} {R : sProp 𝕄} {Q} {v2 v95 c16_i32_63 v96}
    (h : ∀ j0 j1 j2, (iprop(Ctx X κ ∗ OW c (owed c l) ∗ sepL ts (SigIn (F := F) c) ∗ R) ⊢ Q ⟨j0, j1, j2⟩)) :
    iprop(Ctx X κ ∗ OW c (owed c (.bar 8 :: .bar 9 :: l)) ∗ sepL (8 :: 9 :: ts) (SigIn (F := F) c) ∗ R) ⊢ wpb c (app (k0_part4 (F := F)) c v2 (SemArray.scalar (sig.barrier 0 rfl)) v95 c16_i32_63 v96) Q := by
  rw [k0_part4_eq_skeleton]
  exact bind_step (sig_step X κ c 8 (by decide) (Fin.ext (dv8 c)) (bind_step (sig_step X κ c 9 (by decide) (Fin.ext (dv9 c)) (pure_step (h _ _ _)))))

theorem part5 {c : Dev nD} {l : List Ob} {ts : List (Fin 16)} {R : sProp 𝕄} {Q} {v2 v124 v129 v130}
    (h : ∀ j0 j1, (iprop(Ctx X κ ∗ OW c (owed c l) ∗ sepL ts (SigIn (F := F) c) ∗ R) ⊢ Q ⟨j0, 16#32, j1⟩)) :
    iprop(Ctx X κ ∗ OW c (owed c (.bar 10 :: .bar 11 :: .bar 12 :: l)) ∗ sepL (10 :: 11 :: 12 :: ts) (SigIn (F := F) c) ∗ R) ⊢ wpb c (app (k0_part5 (F := F)) c v2 (SemArray.scalar (sig.barrier 0 rfl)) v124 v129 v130) Q := by
  rw [k0_part5_eq_skeleton]
  exact bind_step (sig_step X κ c 10 (by decide) (Fin.ext (dv10 c)) (bind_step (sig_step X κ c 11 (by decide) (Fin.ext (dv11 c)) (bind_step (sig_step X κ c 12 (by decide) (Fin.ext (dv12 c)) (pure_step (h _ _)))))))

theorem part6 {c : Dev nD} {l : List Ob} {ts : List (Fin 16)} {R : sProp 𝕄} {Q} {v2 v160 c16_i32_108 v161}
    (h : ∀ j0 j1 j2, (iprop(Ctx X κ ∗ OW c (owed c l) ∗ sepL ts (SigIn (F := F) c) ∗ R) ⊢ Q ⟨j0, j1, j2⟩)) :
    iprop(Ctx X κ ∗ OW c (owed c (.bar 13 :: .bar 14 :: l)) ∗ sepL (13 :: 14 :: ts) (SigIn (F := F) c) ∗ R) ⊢ wpb c (app (k0_part6 (F := F)) c v2 (SemArray.scalar (sig.barrier 0 rfl)) v160 c16_i32_108 v161) Q := by
  rw [k0_part6_eq_skeleton]
  exact bind_step (sig_step X κ c 13 (by decide) (Fin.ext (dv13 c)) (bind_step (sig_step X κ c 14 (by decide) (Fin.ext (dv14 c)) (pure_step (h _ _ _)))))

theorem part7 {c : Dev nD} {R : sProp 𝕄} {Q} {v189 v194 v195}
    (h : (iprop(Ctx X κ ∗ OW c (owed c obKr) ∗ PK X c [(1, 0), (0, 1), (0, 0)] ∗ BO (F := F) c ∗ R) ⊢ Q (k0_pay4 (i3M.view.readAt (Elt F) (kvRect 1).toLoadRect (X c).v)))) :
    iprop(Ctx X κ ∗ OW c (owed c (.bar 15 :: obKr)) ∗ sepL [15] (SigIn (F := F) c) ∗ BR (F := F) c ∗ PK X c [] ∗ R) ⊢ wpb c (app (k0_part7 (F := F)) c (SemArray.scalar (sig.barrier 0 rfl)) v189 v194 v195) Q := by
  rw [k0_part7_eq_skeleton]
  exact bind_step (sig_step X κ c 15 (by decide) (Fin.ext (dv15 c)) ((drop_nil.trans (bind_step (bar_wait X κ c (swap34.trans (bind_step (pk_load2 X c (bind_step (pk_read X c fun _ _ => bind_step (pk_store X c (0, 0) rfl (bind_step (pk_load3 X c (bind_step (pk_read X c fun _ _ => bind_step (pk_store X c (0, 1) rfl (bind_step (pk_load2 X c (bind_step (pk_read X c fun _ _ => bind_step (pk_store X c (1, 0) rfl (bind_step (pk_load3 X c (pure_step h))))))))))))))))))))))))

theorem part8 {c : Dev nD} {R : sProp 𝕄} {Q}
    (h : (iprop(Ctx X κ ∗ OW c (owed c obKr) ∗ PK X c [(3, 0), (2, 1), (2, 0), (1, 1), (1, 0), (0, 1), (0, 0)] ∗ R) ⊢ Q (k0_pay9 (i3M.view.readAt (Elt F) (kvRect 3).toLoadRect (X c).v)))) :
    iprop(Ctx X κ ∗ OW c (owed c obKr) ∗ PK X c [(1, 0), (0, 1), (0, 0)] ∗ R) ⊢ wpb c (app (k0_part8 (F := F)) ((k0_pay4 (i3M.view.readAt (Elt F) (kvRect 1).toLoadRect (X c).v)))) Q := by
  rw [k0_part8_eq_skeleton]
  exact bind_step (pk_read X c fun _ _ => bind_step (pk_store X c (1, 1) rfl (bind_step (pk_load2 X c (bind_step (pk_read X c fun _ _ => bind_step (pk_store X c (2, 0) rfl (bind_step (pk_load3 X c (bind_step (pk_read X c fun _ _ => bind_step (pk_store X c (2, 1) rfl (bind_step (pk_load2 X c (bind_step (pk_read X c fun _ _ => bind_step (pk_store X c (3, 0) rfl (bind_step (pk_load3 X c (bind_step (pk_read X c fun _ _ => pure_step h)))))))))))))))))))))

theorem part9 {c : Dev nD} {R : sProp 𝕄} {Q}
    (h : (iprop(Ctx X κ ∗ OW c (owed c obKr) ∗ PK X c [(5, 1), (5, 0), (4, 1), (4, 0), (3, 1), (3, 0), (2, 1), (2, 0), (1, 1), (1, 0), (0, 1), (0, 0)] ∗ R) ⊢ Q ⟨⟩)) :
    iprop(Ctx X κ ∗ OW c (owed c obKr) ∗ PK X c [(3, 0), (2, 1), (2, 0), (1, 1), (1, 0), (0, 1), (0, 0)] ∗ R) ⊢ wpb c (app (k0_part9 (F := F)) ((k0_pay9 (i3M.view.readAt (Elt F) (kvRect 3).toLoadRect (X c).v)))) Q := by
  rw [k0_part9_eq_skeleton]
  exact bind_step (pk_store X c (3, 1) rfl (bind_step (pk_load2 X c (bind_step (pk_read X c fun _ _ => bind_step (pk_store X c (4, 0) rfl (bind_step (pk_load3 X c (bind_step (pk_read X c fun _ _ => bind_step (pk_store X c (4, 1) rfl (bind_step (pk_load2 X c (bind_step (pk_read X c fun _ _ => bind_step (pk_store X c (5, 0) rfl (bind_step (pk_load3 X c (bind_step (pk_read X c fun _ _ => bind_step (pk_store X c (5, 1) rfl (pure_step h))))))))))))))))))))))

theorem part10 {c : Dev nD} {R : sProp 𝕄} {Q}
    (h : (iprop(Ctx X κ ∗ OW c (owed c obKr) ∗ PK X c [(7, 1), (7, 0), (6, 1), (6, 0), (5, 1), (5, 0), (4, 1), (4, 0), (3, 1), (3, 0), (2, 1), (2, 0), (1, 1), (1, 0), (0, 1), (0, 0)] ∗ R) ⊢ Q (k0_pay19 (i2M.view.readAt (Elt F) (kvRect 8).toLoadRect (X c).k)))) :
    iprop(Ctx X κ ∗ OW c (owed c obKr) ∗ PK X c [(5, 1), (5, 0), (4, 1), (4, 0), (3, 1), (3, 0), (2, 1), (2, 0), (1, 1), (1, 0), (0, 1), (0, 0)] ∗ R) ⊢ wpb c (app (k0_part10 (F := F))) Q := by
  rw [k0_part10_eq_skeleton]
  exact bind_step (pk_load2 X c (bind_step (pk_read X c fun _ _ => bind_step (pk_store X c (6, 0) rfl (bind_step (pk_load3 X c (bind_step (pk_read X c fun _ _ => bind_step (pk_store X c (6, 1) rfl (bind_step (pk_load2 X c (bind_step (pk_read X c fun _ _ => bind_step (pk_store X c (7, 0) rfl (bind_step (pk_load3 X c (bind_step (pk_read X c fun _ _ => bind_step (pk_store X c (7, 1) rfl (bind_step (pk_load2 X c (pure_step h))))))))))))))))))))))

theorem part11 {c : Dev nD} {R : sProp 𝕄} {Q}
    (h : (iprop(Ctx X κ ∗ OW c (owed c obKr) ∗ PK X c [(9, 1), (9, 0), (8, 1), (8, 0), (7, 1), (7, 0), (6, 1), (6, 0), (5, 1), (5, 0), (4, 1), (4, 0), (3, 1), (3, 0), (2, 1), (2, 0), (1, 1), (1, 0), (0, 1), (0, 0)] ∗ R) ⊢ Q (k0_pay24 (i2M.view.readAt (Elt F) (kvRect 10).toLoadRect (X c).k)))) :
    iprop(Ctx X κ ∗ OW c (owed c obKr) ∗ PK X c [(7, 1), (7, 0), (6, 1), (6, 0), (5, 1), (5, 0), (4, 1), (4, 0), (3, 1), (3, 0), (2, 1), (2, 0), (1, 1), (1, 0), (0, 1), (0, 0)] ∗ R) ⊢ wpb c (app (k0_part11 (F := F)) ((k0_pay19 (i2M.view.readAt (Elt F) (kvRect 8).toLoadRect (X c).k)))) Q := by
  rw [k0_part11_eq_skeleton]
  exact bind_step (pk_read X c fun _ _ => bind_step (pk_store X c (8, 0) rfl (bind_step (pk_load3 X c (bind_step (pk_read X c fun _ _ => bind_step (pk_store X c (8, 1) rfl (bind_step (pk_load2 X c (bind_step (pk_read X c fun _ _ => bind_step (pk_store X c (9, 0) rfl (bind_step (pk_load3 X c (bind_step (pk_read X c fun _ _ => bind_step (pk_store X c (9, 1) rfl (bind_step (pk_load2 X c (pure_step h))))))))))))))))))))

theorem part12 {c : Dev nD} {R : sProp 𝕄} {Q}
    (h : (iprop(Ctx X κ ∗ OW c (owed c obKr) ∗ PK X c [(12, 0), (11, 1), (11, 0), (10, 1), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)] ∗ R) ⊢ Q ⟨⟩)) :
    iprop(Ctx X κ ∗ OW c (owed c obKr) ∗ PK X c [(9, 1), (9, 0), (8, 1), (8, 0), (7, 1), (7, 0), (6, 1), (6, 0), (5, 1), (5, 0), (4, 1), (4, 0), (3, 1), (3, 0), (2, 1), (2, 0), (1, 1), (1, 0), (0, 1), (0, 0)] ∗ R) ⊢ wpb c (app (k0_part12 (F := F)) ((k0_pay24 (i2M.view.readAt (Elt F) (kvRect 10).toLoadRect (X c).k)))) Q := by
  rw [k0_part12_eq_skeleton]
  exact bind_step (pk_read X c fun _ _ => bind_step (pk_store X c (10, 0) rfl (bind_step (pk_load3 X c (bind_step (pk_read X c fun _ _ => bind_step (pk_store X c (10, 1) rfl (bind_step (pk_load2 X c (bind_step (pk_read X c fun _ _ => bind_step (pk_store X c (11, 0) rfl (bind_step (pk_load3 X c (bind_step (pk_read X c fun _ _ => bind_step (pk_store X c (11, 1) rfl (bind_step (pk_load2 X c (bind_step (pk_read X c fun _ _ => bind_step (pk_store X c (12, 0) rfl (pure_step h)))))))))))))))))))))))

theorem part13 {c : Dev nD} {R : sProp 𝕄} {Q}
    (h : (iprop(Ctx X κ ∗ OW c (owed c obKr) ∗ PK X c [(14, 0), (13, 1), (13, 0), (12, 1), (12, 0), (11, 1), (11, 0), (10, 1), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)] ∗ R) ⊢ Q (i3M.view.readAt (Elt F) (kvRect 14).toLoadRect (X c).v))) :
    iprop(Ctx X κ ∗ OW c (owed c obKr) ∗ PK X c [(12, 0), (11, 1), (11, 0), (10, 1), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)] ∗ R) ⊢ wpb c (app (k0_part13 (F := F))) Q := by
  rw [k0_part13_eq_skeleton]
  exact bind_step (pk_load3 X c (bind_step (pk_read X c fun _ _ => bind_step (pk_store X c (12, 1) rfl (bind_step (pk_load2 X c (bind_step (pk_read X c fun _ _ => bind_step (pk_store X c (13, 0) rfl (bind_step (pk_load3 X c (bind_step (pk_read X c fun _ _ => bind_step (pk_store X c (13, 1) rfl (bind_step (pk_load2 X c (bind_step (pk_read X c fun _ _ => bind_step (pk_store X c (14, 0) rfl (bind_step (pk_load3 X c (pure_step h))))))))))))))))))))))

theorem part14 {c : Dev nD} {R : sProp 𝕄} {Q} {v2}
    (h : ∀ j0 j1, (iprop(Ctx X κ ∗ OW c (owed c obKr) ∗ PK X c [(15, 1), (15, 0), (14, 1), (14, 0), (13, 1), (13, 0), (12, 1), (12, 0), (11, 1), (11, 0), (10, 1), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)] ∗ BO (F := F) c ∗ OwnE X c ∗ R) ⊢ Q ⟨j0, j1, 0#32⟩)) :
    iprop(Ctx X κ ∗ OW c (owed c obKr) ∗ PK X c [(14, 0), (13, 1), (13, 0), (12, 1), (12, 0), (11, 1), (11, 0), (10, 1), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)] ∗ BO (F := F) c ∗ OE (F := F) c ∗ R) ⊢ wpb c (app (k0_part14 (F := F)) c v2 ((i3M.view.readAt (Elt F) (kvRect 14).toLoadRect (X c).v))) Q := by
  rw [k0_part14_eq_skeleton]
  exact bind_step (pk_read X c fun _ _ => bind_step (pk_store X c (14, 1) rfl (bind_step (pk_load2 X c (bind_step (pk_read X c fun _ _ => bind_step (pk_store X c (15, 0) rfl (bind_step (pk_load3 X c (bind_step (pk_read X c fun _ _ => bind_step (pk_store X c (15, 1) rfl (bind_step (pk_read X c fun p hp => bind_step (own_dead c fun _ => bind_step (own_store X c (own_val X c hp) (pure_step (h _ _))))))))))))))))))

theorem part15 {c : Dev nD} {p : Con F cc0_scratch0} (hp : ∀ d, PackOk (X c) d p) {l : List Ob} {ts ds : List (Fin 16 × Fin 2)} {R : sProp 𝕄} {Q} {v2 v399 v400 c0_i32_339}
    (h : ∀ j0 j1 j2 j3 j4 j5 j6, (St X κ c l ts (KvIn c p) ((1, 0) :: ds) (KvOut (F := F) c) R ⊢ Q ⟨j0, j1, j2, j3, j4, j5, j6⟩)) :
    St X κ c (.kr 1 0 :: l) ((1, 0) :: ts) (KvIn c p) ds (KvOut (F := F) c) R ⊢ wpb c (app (k0_part15 (F := F)) c v2 v399 v400 c0_i32_339) Q := by
  rw [k0_part15_eq_skeleton]
  refine kvsJ X κ c 1 0 hp (cd1 c) _ (dv16 c) _ (of2 c) (k0_dev16_lt c) (k0_off2_inb c) (fun _ => ⟨_, _, _, rfl⟩) ?_
  exact pure_step (h _ _ _ _ _ _ _)

theorem part16 {c : Dev nD} {p : Con F cc0_scratch0} (hp : ∀ d, PackOk (X c) d p) {l : List Ob} {ts ds : List (Fin 16 × Fin 2)} {R : sProp 𝕄} {Q} {v2 v407 v427 v429 v430 v431 v432 v433}
    (h : ∀ j0 j1, (St X κ c l ts (KvIn c p) ((1, 1) :: ds) (KvOut (F := F) c) R ⊢ Q ⟨j0, j1⟩)) :
    St X κ c (.kr 1 1 :: l) ((1, 1) :: ts) (KvIn c p) ds (KvOut (F := F) c) R ⊢ wpb c (app (k0_part16 (F := F)) c v2 v407 v427 v429 v430 v431 v432 v433) Q := by
  rw [k0_part16_eq_skeleton]
  refine kvsJ X κ c 1 1 hp (cd2 c) _ (dv17 c) _ (of3 c) (k0_dev17_lt c) (k0_off3_inb c) (fun _ => ⟨_, _, _, rfl⟩) ?_
  exact pure_step (h _ _)

theorem part17 {c : Dev nD} {p : Con F cc0_scratch0} (hp : ∀ d, PackOk (X c) d p) {l : List Ob} {ts ds : List (Fin 16 × Fin 2)} {R : sProp 𝕄} {Q} {v2 v452 v468}
    (h : ∀ j0 j1, (St X κ c l ts (KvIn c p) ((2, 1) :: (2, 0) :: ds) (KvOut (F := F) c) R ⊢ Q ⟨j0, j1, 0#32⟩)) :
    St X κ c (.kr 2 0 :: .kr 2 1 :: l) ((2, 0) :: (2, 1) :: ts) (KvIn c p) ds (KvOut (F := F) c) R ⊢ wpb c (app (k0_part17 (F := F)) c v2 v452 v468) Q := by
  rw [k0_part17_eq_skeleton]
  refine kvsJ X κ c 2 0 hp (cd3 c) _ (dv18 c) _ (of4 c) (k0_dev18_lt c) (k0_off4_inb c) (fun _ => ⟨_, _, _, rfl⟩) ?_
  refine kvsJ X κ c 2 1 hp (cd4 c) _ (dv19 c) _ (of5 c) (k0_dev19_lt c) (k0_off5_inb c) (fun _ => ⟨_, _, _, rfl⟩) ?_
  exact pure_step (h _ _)

theorem part18 {c : Dev nD} {p : Con F cc0_scratch0} (hp : ∀ d, PackOk (X c) d p) {l : List Ob} {ts ds : List (Fin 16 × Fin 2)} {R : sProp 𝕄} {Q} {v2 v497 v498 c0_i32_417}
    (h : ∀ j0, (St X κ c l ts (KvIn c p) ((3, 0) :: ds) (KvOut (F := F) c) R ⊢ Q j0)) :
    St X κ c (.kr 3 0 :: l) ((3, 0) :: ts) (KvIn c p) ds (KvOut (F := F) c) R ⊢ wpb c (app (k0_part18 (F := F)) c v2 v497 v498 c0_i32_417) Q := by
  rw [k0_part18_eq_skeleton]
  refine kvsJ X κ c 3 0 hp (cd5 c) _ (dv20 c) _ (of6 c) (k0_dev20_lt c) (k0_off6_inb c) (fun _ => ⟨_, _, _, rfl⟩) ?_
  exact pure_step (h _)

theorem part19 {c : Dev nD} {p : Con F cc0_scratch0} (hp : ∀ d, PackOk (X c) d p) {l : List Ob} {ts ds : List (Fin 16 × Fin 2)} {R : sProp 𝕄} {Q} {v2 v497 v530}
    (h : ∀ j0 j1 j2, (St X κ c l ts (KvIn c p) ((4, 0) :: (3, 1) :: ds) (KvOut (F := F) c) R ⊢ Q ⟨j0, j1, j2⟩)) :
    St X κ c (.kr 3 1 :: .kr 4 0 :: l) ((3, 1) :: (4, 0) :: ts) (KvIn c p) ds (KvOut (F := F) c) R ⊢ wpb c (app (k0_part19 (F := F)) c v2 v497 v530) Q := by
  rw [k0_part19_eq_skeleton]
  refine kvsJ X κ c 3 1 hp (cd6 c) _ (dv21 c) _ (of7 c) (k0_dev21_lt c) (k0_off7_inb c) (fun _ => ⟨_, _, _, rfl⟩) ?_
  refine kvsJ X κ c 4 0 hp (cd7 c) _ (dv22 c) _ (of8 c) (k0_dev22_lt c) (k0_off8_inb c) (fun _ => ⟨_, _, _, rfl⟩) ?_
  exact pure_step (h _ _ _)

theorem part20 {c : Dev nD} {p : Con F cc0_scratch0} (hp : ∀ d, PackOk (X c) d p) {l : List Ob} {ts ds : List (Fin 16 × Fin 2)} {R : sProp 𝕄} {Q} {v2 v542 v561 v562}
    (h : ∀ j0 j1 j2 j3 j4, (St X κ c l ts (KvIn c p) ((4, 1) :: ds) (KvOut (F := F) c) R ⊢ Q ⟨j0, j1, j2, j3, j4, 0#32⟩)) :
    St X κ c (.kr 4 1 :: l) ((4, 1) :: ts) (KvIn c p) ds (KvOut (F := F) c) R ⊢ wpb c (app (k0_part20 (F := F)) c v2 v542 v561 v562) Q := by
  rw [k0_part20_eq_skeleton]
  refine kvsJ X κ c 4 1 hp (cd8 c) _ (dv23 c) _ (of9 c) (k0_dev23_lt c) (k0_off9_inb c) (fun _ => ⟨_, _, _, rfl⟩) ?_
  exact pure_step (h _ _ _ _ _)

theorem part21 {c : Dev nD} {p : Con F cc0_scratch0} (hp : ∀ d, PackOk (X c) d p) {l : List Ob} {ts ds : List (Fin 16 × Fin 2)} {R : sProp 𝕄} {Q} {v2 v587 v590 v592 v593 v594 c0_i32_497}
    (h : ∀ j0 j1, (St X κ c l ts (KvIn c p) ((5, 1) :: (5, 0) :: ds) (KvOut (F := F) c) R ⊢ Q ⟨j0, j1, 0#32⟩)) :
    St X κ c (.kr 5 0 :: .kr 5 1 :: l) ((5, 0) :: (5, 1) :: ts) (KvIn c p) ds (KvOut (F := F) c) R ⊢ wpb c (app (k0_part21 (F := F)) c v2 v587 v590 v592 v593 v594 c0_i32_497) Q := by
  rw [k0_part21_eq_skeleton]
  refine kvsJ X κ c 5 0 hp (cd9 c) _ (dv24 c) _ (of10 c) (k0_dev24_lt c) (k0_off10_inb c) (fun _ => ⟨_, _, _, rfl⟩) ?_
  refine kvsJ X κ c 5 1 hp (cd10 c) _ (dv25 c) _ (of11 c) (k0_dev25_lt c) (k0_off11_inb c) (fun _ => ⟨_, _, _, rfl⟩) ?_
  exact pure_step (h _ _)

theorem part22 {c : Dev nD} {p : Con F cc0_scratch0} (hp : ∀ d, PackOk (X c) d p) {l : List Ob} {ts ds : List (Fin 16 × Fin 2)} {R : sProp 𝕄} {Q} {v2 v624 v625 c0_i32_524}
    (h : ∀ j0 j1 j2 j3 j4 j5 j6, (St X κ c l ts (KvIn c p) ((6, 0) :: ds) (KvOut (F := F) c) R ⊢ Q ⟨j0, j1, j2, j3, j4, j5, j6⟩)) :
    St X κ c (.kr 6 0 :: l) ((6, 0) :: ts) (KvIn c p) ds (KvOut (F := F) c) R ⊢ wpb c (app (k0_part22 (F := F)) c v2 v624 v625 c0_i32_524) Q := by
  rw [k0_part22_eq_skeleton]
  refine kvsJ X κ c 6 0 hp (cd11 c) _ (dv26 c) _ (of12 c) (k0_dev26_lt c) (k0_off12_inb c) (fun _ => ⟨_, _, _, rfl⟩) ?_
  exact pure_step (h _ _ _ _ _ _ _)

theorem part23 {c : Dev nD} {p : Con F cc0_scratch0} (hp : ∀ d, PackOk (X c) d p) {l : List Ob} {ts ds : List (Fin 16 × Fin 2)} {R : sProp 𝕄} {Q} {v2 v632 v652 v654 v655 v656 v657 v658}
    (h : ∀ j0 j1, (St X κ c l ts (KvIn c p) ((6, 1) :: ds) (KvOut (F := F) c) R ⊢ Q ⟨j0, j1⟩)) :
    St X κ c (.kr 6 1 :: l) ((6, 1) :: ts) (KvIn c p) ds (KvOut (F := F) c) R ⊢ wpb c (app (k0_part23 (F := F)) c v2 v632 v652 v654 v655 v656 v657 v658) Q := by
  rw [k0_part23_eq_skeleton]
  refine kvsJ X κ c 6 1 hp (cd12 c) _ (dv27 c) _ (of13 c) (k0_dev27_lt c) (k0_off13_inb c) (fun _ => ⟨_, _, _, rfl⟩) ?_
  exact pure_step (h _ _)

theorem part24 {c : Dev nD} {p : Con F cc0_scratch0} (hp : ∀ d, PackOk (X c) d p) {l : List Ob} {ts ds : List (Fin 16 × Fin 2)} {R : sProp 𝕄} {Q} {v2 v677 v693}
    (h : ∀ j0 j1, (St X κ c l ts (KvIn c p) ((7, 1) :: (7, 0) :: ds) (KvOut (F := F) c) R ⊢ Q ⟨j0, j1, 0#32⟩)) :
    St X κ c (.kr 7 0 :: .kr 7 1 :: l) ((7, 0) :: (7, 1) :: ts) (KvIn c p) ds (KvOut (F := F) c) R ⊢ wpb c (app (k0_part24 (F := F)) c v2 v677 v693) Q := by
  rw [k0_part24_eq_skeleton]
  refine kvsJ X κ c 7 0 hp (cd13 c) _ (dv28 c) _ (of14 c) (k0_dev28_lt c) (k0_off14_inb c) (fun _ => ⟨_, _, _, rfl⟩) ?_
  refine kvsJ X κ c 7 1 hp (cd14 c) _ (dv29 c) _ (of15 c) (k0_dev29_lt c) (k0_off15_inb c) (fun _ => ⟨_, _, _, rfl⟩) ?_
  exact pure_step (h _ _)

theorem part25 {c : Dev nD} {p : Con F cc0_scratch0} (hp : ∀ d, PackOk (X c) d p) {l : List Ob} {ts ds : List (Fin 16 × Fin 2)} {R : sProp 𝕄} {Q} {v2 v722 v723 c0_i32_602}
    (h : ∀ j0, (St X κ c l ts (KvIn c p) ((8, 0) :: ds) (KvOut (F := F) c) R ⊢ Q j0)) :
    St X κ c (.kr 8 0 :: l) ((8, 0) :: ts) (KvIn c p) ds (KvOut (F := F) c) R ⊢ wpb c (app (k0_part25 (F := F)) c v2 v722 v723 c0_i32_602) Q := by
  rw [k0_part25_eq_skeleton]
  refine kvsJ X κ c 8 0 hp (cd15 c) _ (dv30 c) _ (of16 c) (k0_dev30_lt c) (k0_off16_inb c) (fun _ => ⟨_, _, _, rfl⟩) ?_
  exact pure_step (h _)

theorem part26 {c : Dev nD} {p : Con F cc0_scratch0} (hp : ∀ d, PackOk (X c) d p) {l : List Ob} {ts ds : List (Fin 16 × Fin 2)} {R : sProp 𝕄} {Q} {v2 v722 v755}
    (h : ∀ j0 j1 j2, (St X κ c l ts (KvIn c p) ((9, 0) :: (8, 1) :: ds) (KvOut (F := F) c) R ⊢ Q ⟨j0, j1, j2⟩)) :
    St X κ c (.kr 8 1 :: .kr 9 0 :: l) ((8, 1) :: (9, 0) :: ts) (KvIn c p) ds (KvOut (F := F) c) R ⊢ wpb c (app (k0_part26 (F := F)) c v2 v722 v755) Q := by
  rw [k0_part26_eq_skeleton]
  refine kvsJ X κ c 8 1 hp (cd16 c) _ (dv31 c) _ (of17 c) (k0_dev31_lt c) (k0_off17_inb c) (fun _ => ⟨_, _, _, rfl⟩) ?_
  refine kvsJ X κ c 9 0 hp (cd17 c) _ (dv32 c) _ (of18 c) (k0_dev32_lt c) (k0_off18_inb c) (fun _ => ⟨_, _, _, rfl⟩) ?_
  exact pure_step (h _ _ _)

theorem part27 {c : Dev nD} {p : Con F cc0_scratch0} (hp : ∀ d, PackOk (X c) d p) {l : List Ob} {ts ds : List (Fin 16 × Fin 2)} {R : sProp 𝕄} {Q} {v2 v767 v786 v787}
    (h : ∀ j0 j1 j2 j3 j4, (St X κ c l ts (KvIn c p) ((9, 1) :: ds) (KvOut (F := F) c) R ⊢ Q ⟨j0, j1, j2, j3, j4, 0#32⟩)) :
    St X κ c (.kr 9 1 :: l) ((9, 1) :: ts) (KvIn c p) ds (KvOut (F := F) c) R ⊢ wpb c (app (k0_part27 (F := F)) c v2 v767 v786 v787) Q := by
  rw [k0_part27_eq_skeleton]
  refine kvsJ X κ c 9 1 hp (cd18 c) _ (dv33 c) _ (of19 c) (k0_dev33_lt c) (k0_off19_inb c) (fun _ => ⟨_, _, _, rfl⟩) ?_
  exact pure_step (h _ _ _ _ _)

theorem part28 {c : Dev nD} {p : Con F cc0_scratch0} (hp : ∀ d, PackOk (X c) d p) {l : List Ob} {ts ds : List (Fin 16 × Fin 2)} {R : sProp 𝕄} {Q} {v2 v812 v815 v817 v818 v819 c0_i32_682}
    (h : ∀ j0 j1, (St X κ c l ts (KvIn c p) ((10, 1) :: (10, 0) :: ds) (KvOut (F := F) c) R ⊢ Q ⟨j0, j1, 0#32⟩)) :
    St X κ c (.kr 10 0 :: .kr 10 1 :: l) ((10, 0) :: (10, 1) :: ts) (KvIn c p) ds (KvOut (F := F) c) R ⊢ wpb c (app (k0_part28 (F := F)) c v2 v812 v815 v817 v818 v819 c0_i32_682) Q := by
  rw [k0_part28_eq_skeleton]
  refine kvsJ X κ c 10 0 hp (cd19 c) _ (dv34 c) _ (of20 c) (k0_dev34_lt c) (k0_off20_inb c) (fun _ => ⟨_, _, _, rfl⟩) ?_
  refine kvsJ X κ c 10 1 hp (cd20 c) _ (dv35 c) _ (of21 c) (k0_dev35_lt c) (k0_off21_inb c) (fun _ => ⟨_, _, _, rfl⟩) ?_
  exact pure_step (h _ _)

theorem part29 {c : Dev nD} {p : Con F cc0_scratch0} (hp : ∀ d, PackOk (X c) d p) {l : List Ob} {ts ds : List (Fin 16 × Fin 2)} {R : sProp 𝕄} {Q} {v2 v849 v850 c0_i32_709}
    (h : ∀ j0 j1 j2 j3 j4 j5 j6, (St X κ c l ts (KvIn c p) ((11, 0) :: ds) (KvOut (F := F) c) R ⊢ Q ⟨j0, j1, j2, j3, j4, j5, j6⟩)) :
    St X κ c (.kr 11 0 :: l) ((11, 0) :: ts) (KvIn c p) ds (KvOut (F := F) c) R ⊢ wpb c (app (k0_part29 (F := F)) c v2 v849 v850 c0_i32_709) Q := by
  rw [k0_part29_eq_skeleton]
  refine kvsJ X κ c 11 0 hp (cd21 c) _ (dv36 c) _ (of22 c) (k0_dev36_lt c) (k0_off22_inb c) (fun _ => ⟨_, _, _, rfl⟩) ?_
  exact pure_step (h _ _ _ _ _ _ _)

theorem part30 {c : Dev nD} {p : Con F cc0_scratch0} (hp : ∀ d, PackOk (X c) d p) {l : List Ob} {ts ds : List (Fin 16 × Fin 2)} {R : sProp 𝕄} {Q} {v2 v857 v877 v879 v880 v881 v882 v883}
    (h : ∀ j0 j1, (St X κ c l ts (KvIn c p) ((11, 1) :: ds) (KvOut (F := F) c) R ⊢ Q ⟨j0, j1⟩)) :
    St X κ c (.kr 11 1 :: l) ((11, 1) :: ts) (KvIn c p) ds (KvOut (F := F) c) R ⊢ wpb c (app (k0_part30 (F := F)) c v2 v857 v877 v879 v880 v881 v882 v883) Q := by
  rw [k0_part30_eq_skeleton]
  refine kvsJ X κ c 11 1 hp (cd22 c) _ (dv37 c) _ (of23 c) (k0_dev37_lt c) (k0_off23_inb c) (fun _ => ⟨_, _, _, rfl⟩) ?_
  exact pure_step (h _ _)

theorem part31 {c : Dev nD} {p : Con F cc0_scratch0} (hp : ∀ d, PackOk (X c) d p) {l : List Ob} {ts ds : List (Fin 16 × Fin 2)} {R : sProp 𝕄} {Q} {v2 v902 v918}
    (h : ∀ j0 j1, (St X κ c l ts (KvIn c p) ((12, 1) :: (12, 0) :: ds) (KvOut (F := F) c) R ⊢ Q ⟨j0, j1, 0#32⟩)) :
    St X κ c (.kr 12 0 :: .kr 12 1 :: l) ((12, 0) :: (12, 1) :: ts) (KvIn c p) ds (KvOut (F := F) c) R ⊢ wpb c (app (k0_part31 (F := F)) c v2 v902 v918) Q := by
  rw [k0_part31_eq_skeleton]
  refine kvsJ X κ c 12 0 hp (cd23 c) _ (dv38 c) _ (of24 c) (k0_dev38_lt c) (k0_off24_inb c) (fun _ => ⟨_, _, _, rfl⟩) ?_
  refine kvsJ X κ c 12 1 hp (cd24 c) _ (dv39 c) _ (of25 c) (k0_dev39_lt c) (k0_off25_inb c) (fun _ => ⟨_, _, _, rfl⟩) ?_
  exact pure_step (h _ _)

theorem part32 {c : Dev nD} {p : Con F cc0_scratch0} (hp : ∀ d, PackOk (X c) d p) {l : List Ob} {ts ds : List (Fin 16 × Fin 2)} {R : sProp 𝕄} {Q} {v2 v947 v948 c0_i32_787}
    (h : ∀ j0, (St X κ c l ts (KvIn c p) ((13, 0) :: ds) (KvOut (F := F) c) R ⊢ Q j0)) :
    St X κ c (.kr 13 0 :: l) ((13, 0) :: ts) (KvIn c p) ds (KvOut (F := F) c) R ⊢ wpb c (app (k0_part32 (F := F)) c v2 v947 v948 c0_i32_787) Q := by
  rw [k0_part32_eq_skeleton]
  refine kvsJ X κ c 13 0 hp (cd25 c) _ (dv40 c) _ (of26 c) (k0_dev40_lt c) (k0_off26_inb c) (fun _ => ⟨_, _, _, rfl⟩) ?_
  exact pure_step (h _)

theorem part33 {c : Dev nD} {p : Con F cc0_scratch0} (hp : ∀ d, PackOk (X c) d p) {l : List Ob} {ts ds : List (Fin 16 × Fin 2)} {R : sProp 𝕄} {Q} {v2 v947 v980}
    (h : ∀ j0 j1 j2, (St X κ c l ts (KvIn c p) ((14, 0) :: (13, 1) :: ds) (KvOut (F := F) c) R ⊢ Q ⟨j0, j1, j2⟩)) :
    St X κ c (.kr 13 1 :: .kr 14 0 :: l) ((13, 1) :: (14, 0) :: ts) (KvIn c p) ds (KvOut (F := F) c) R ⊢ wpb c (app (k0_part33 (F := F)) c v2 v947 v980) Q := by
  rw [k0_part33_eq_skeleton]
  refine kvsJ X κ c 13 1 hp (cd26 c) _ (dv41 c) _ (of27 c) (k0_dev41_lt c) (k0_off27_inb c) (fun _ => ⟨_, _, _, rfl⟩) ?_
  refine kvsJ X κ c 14 0 hp (cd27 c) _ (dv42 c) _ (of28 c) (k0_dev42_lt c) (k0_off28_inb c) (fun _ => ⟨_, _, _, rfl⟩) ?_
  exact pure_step (h _ _ _)

theorem part34 {c : Dev nD} {p : Con F cc0_scratch0} (hp : ∀ d, PackOk (X c) d p) {l : List Ob} {ts ds : List (Fin 16 × Fin 2)} {R : sProp 𝕄} {Q} {v2 v992 v1011 v1012}
    (h : ∀ j0 j1 j2 j3 j4, (St X κ c l ts (KvIn c p) ((14, 1) :: ds) (KvOut (F := F) c) R ⊢ Q ⟨j0, j1, j2, j3, j4, 0#32⟩)) :
    St X κ c (.kr 14 1 :: l) ((14, 1) :: ts) (KvIn c p) ds (KvOut (F := F) c) R ⊢ wpb c (app (k0_part34 (F := F)) c v2 v992 v1011 v1012) Q := by
  rw [k0_part34_eq_skeleton]
  refine kvsJ X κ c 14 1 hp (cd28 c) _ (dv43 c) _ (of29 c) (k0_dev43_lt c) (k0_off29_inb c) (fun _ => ⟨_, _, _, rfl⟩) ?_
  exact pure_step (h _ _ _ _ _)

theorem part35 {c : Dev nD} {p : Con F cc0_scratch0} (hp : ∀ d, PackOk (X c) d p) {l : List Ob} {ts ds : List (Fin 16 × Fin 2)} {R : sProp 𝕄} {Q} {v2 v1037 v1040 v1042 v1043 v1044 c0_i32_867}
    (h : (St X κ c l ts (KvIn c p) ((15, 1) :: (15, 0) :: ds) (KvOut (F := F) c) iprop((pcs c i0M i0M.view.set (X c).x ∗ pcs c i1M i1M.view.set (X c).wq) ∗ R) ⊢ Q ⟨k0_pay38 (i0M.view.readAt (Elt F) (Rect.unit (s := S256x512) ![0, 0] S256x512.size inb_S256x512_S256x512_0_0).toLoadRect (X c).x), k0_pay39 (i1M.view.readAt (Elt F) (Rect.unit (s := S512x256) ![0, 0] S512x256.size inb_S512x256_S512x256_0_0).toLoadRect (X c).wq), (constant S256x256 .f32 0x00000000#32)⟩)) :
    St X κ c (.kr 15 0 :: .kr 15 1 :: l) ((15, 0) :: (15, 1) :: ts) (KvIn c p) ds (KvOut (F := F) c) iprop((pcs c i0M i0M.view.set (X c).x ∗ pcs c i1M i1M.view.set (X c).wq) ∗ R) ⊢ wpb c (app (k0_part35 (F := F)) c v2 v1037 v1040 v1042 v1043 v1044 c0_i32_867) Q := by
  rw [k0_part35_eq_skeleton]
  refine kvsJ X κ c 15 0 hp (cd29 c) _ (dv44 c) _ (of30 c) (k0_dev44_lt c) (k0_off30_inb c) (fun _ => ⟨_, _, _, rfl⟩) ?_
  refine kvsJ X κ c 15 1 hp (cd30 c) _ (dv45 c) _ (of31 c) (k0_dev45_lt c) (k0_off31_inb c) (fun _ => ⟨_, _, _, rfl⟩) ?_
  refine bind_step (load_any (whole_sub i0M _) acc5a ?_)
  refine bind_step (load_any (whole_sub i1M _) acc5b ?_)
  exact pure_step h

theorem part36 {c : Dev nD} {P : sProp 𝕄} {Q} {v2 v1073 v1075 cst}
    (h : (P ⊢ Q ⟨k0_pay40 v1073 v1075 cst, (iota .tc S1x2048 32 [1] iota_S1x2048_d1_w32), k0_pay41 v2⟩)) :
    P ⊢ wpb c (app (k0_part36 (F := F)) v2 v1073 v1075 cst) Q := by
  rw [k0_part36_eq_skeleton]
  exact pure_step h

theorem part37 {c : Dev nD} {P : sProp 𝕄} {Q} {v1077 v1121}
    (h : (P ⊢ Q ⟨k0_pay42 v1077 v1121, (iota .tc S128x1 32 [0] iota_S128x1_d0_w32), 64#32, k0_pay43, k0_pay44⟩)) :
    P ⊢ wpb c (app (k0_part37 (F := F)) v1077 v1121) Q := by
  rw [k0_part37_eq_skeleton]
  exact pure_step h

theorem part38 {c : Dev nD} {P : sProp 𝕄} {Q} {v1162 v1163 c64_i32_919 v1165 v1166}
    (h : (P ⊢ Q ⟨k0_pay46 v1162 v1163 c64_i32_919 v1165 v1166, k0_pay47 v1162 v1163 c64_i32_919 v1165 v1166, 0#32⟩)) :
    P ⊢ wpb c (app (k0_part38 (F := F)) v1162 v1163 c64_i32_919 v1165 v1166) Q := by
  rw [k0_part38_eq_skeleton]
  exact pure_step h

theorem part39 {c : Dev nD} {P : sProp 𝕄} {Q} {v2 v1162 v1194 v1213 c0_i32_933}
    (h : ∀ j0 j1, (P ⊢ Q ⟨k0_pay48 v1194 v1213 c0_i32_933, k0_pay49 (F := F) v1162, j0, j1, 16#32⟩)) :
    P ⊢ wpb c (app (k0_part39 (F := F)) v2 v1162 v1194 v1213 c0_i32_933) Q := by
  rw [k0_part39_eq_skeleton]
  exact pure_step (h _ _)

end Cert.KernelIdeal.Pf
end
end
-- ==== Proof.Parts2.lean ====
/-
# The printed parts: landings and attention
-/
module

public import proofs.«01_k».proof.Proof.Parts1

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ)

/-- A conditional wait for a block to land, followed by the rest of the program. -/
theorem kwwJ {α : Type} {k : Prog (TpuEff nD τ sig (Elt F) Λ₀ .tc) α} (c : Dev nD) (t : Fin 16) (b : Fin 2) {cnd : BitVec 1}
    {A : cnd = 1#1 → Prog (TpuEff nD τ sig (Elt F) Λ₀ .tc) PUnit} (hc : cnd = 1#1 ↔ need (src c t) b)
    (hA : ∀ h : cnd = 1#1, ∃ (srcm : Memref sig .tc .vmem S4x64x256 .bf16) (h1 : srcm.view.WordExact) (h2 : (gSl t b).view.WordExact),
      A h = Prog.lift (.waitDma2 (krS t b) srcm (gSl t b) h1 h2))
    {ts ds : List (Fin 16 × Fin 2)} {R : sProp 𝕄} {Q : α → sProp 𝕄}
    (h : St X κ c obRr ts (WIn (F := F) c) ((t, b) :: ds) (WOut X c) R ⊢ wpb c k Q) (ht : t ≠ 0 := by decide) :
    St X κ c obRr ((t, b) :: ts) (WIn (F := F) c) ds (WOut X c) R
      ⊢ wpb c (dite (cnd = 1#1) (fun h => A h >>= fun _ => k) (fun _ => k)) Q := by
  refine jp_step (guardedU hc (fun hn hh hQ => ?_) (fun hn => kv_wskip X κ c t b hn) h)
  obtain ⟨s, h1, h2, e⟩ := hA hh
  rw [e]
  exact bind_step (kv_wait X κ c t b ht hn (by decide) rfl (credit_gSl t b) (pure_step hQ))

theorem acc5 {A B C D S R : sProp 𝕄} : iprop(A ∗ B ∗ C ∗ D ∗ S ∗ R) ⊢ iprop(S ∗ (S -∗ A ∗ B ∗ C ∗ D ∗ S ∗ R)) := by
  iintro ⟨HA, HB, HC, HD, HS, HR⟩
  isplitl [HS]; · iexact HS
  iintro HS
  isplitl [HA]; · iexact HA
  isplitl [HB]; · iexact HB
  isplitl [HC]; · iexact HC
  isplitl [HD]; · iexact HD
  isplitl [HS] <;> iassumption

/-- A head of the gathered keys or values. -/
abbrev gRd (j : Fin 4) (half : Fin 2) (h : Fin 4) (g : Con F cc0_scratch1) : Vec F S1x1024x64 .bf16 := gM.view.readAt (Elt F) (kvHead j half h).toLoadRect g

/-- The part's result, once its eight heads are there: the partial output is stored. -/
theorem part_store (c : Dev nD) {x : Con F cc0_scratch2} {w : FVec F S256x512 .bf16} (hx : CtxOk X c x)
    (hw : w = k0_pay138 (xM.view.readAt (Elt F) allCtx.toLoadRect x) (i4M.view.readAt (Elt F) allRows.toLoadRect (X c).wo))
    {hs : (aM.access allRows).Stores Finset.univ} {hm} {A B C D E R : sProp 𝕄} {Q : PUnit → sProp 𝕄}
    (h : iprop(A ∗ B ∗ C ∗ D ∗ E ∗ (∃ P, ⌜PartOk X c P⌝ ∗ pcs c aM aM.view.set P) ∗ R) ⊢ Q ⟨⟩) :
    iprop(A ∗ B ∗ C ∗ D ∗ E ∗ (∃ P, pcs c aM aM.view.set P) ∗ R) ⊢ wpb c (Prog.lift (.store aM allRows w Finset.univ hs hm)) Q := by
  refine store_any (access_sub aM _) (P' := iprop(A ∗ B ∗ C ∗ D ∗ E ∗ (∃ P, ⌜PartOk X c P⌝ ∗ pcs c aM aM.view.set P) ∗ R)) ?_ h
  iintro ⟨HA, HB, HC, HD, HE, ⟨%P, HP⟩, HR⟩
  iexists P
  isplitl [HP]; · iexact HP
  iintro HP
  isplitl [HA]; · iexact HA
  isplitl [HB]; · iexact HB
  isplitl [HC]; · iexact HC
  isplitl [HD]; · iexact HD
  isplitl [HE]; · iexact HE
  isplitr [HR]
  · iexists _
    isplitr
    swap
    · iexact HP
    · ipureintro
      exact ⟨x, hx, by rw [View.read_write_univ, hw]⟩
  · iexact HR

theorem part_dead (c : Dev nD) {r : LoadRect S256x512} {hl : aM.view.LoadsAt r} {A B C D E R : sProp 𝕄} {Q : (r.shape.Idx → Elt F .bf16) → sProp 𝕄}
    (h : ∀ v, (iprop(A ∗ B ∗ C ∗ D ∗ E ∗ (∃ P, pcs c aM aM.view.set P) ∗ R) ⊢ Q v)) :
    iprop(A ∗ B ∗ C ∗ D ∗ E ∗ (∃ P, pcs c aM aM.view.set P) ∗ R) ⊢ wpb c (Prog.lift (.load aM r hl)) Q := by
  refine load_ex (whole_sub aM r) (fun _ => True) ?_ (fun f _ => h _)
  iintro ⟨HA, HB, HC, HD, HE, ⟨%P, HP⟩, HR⟩
  iexists P
  isplitr; · ipureintro; trivial
  isplitl [HP]; · iexact HP
  iintro HP
  isplitl [HA]; · iexact HA
  isplitl [HB]; · iexact HB
  isplitl [HC]; · iexact HC
  isplitl [HD]; · iexact HD
  isplitl [HE]; · iexact HE
  isplitr [HR]
  · iexists P; iexact HP
  · iexact HR

/-- All eight heads being right, so is the whole. -/
theorem ctx_all (c : Dev nD) {gA gB : Con F cc0_scratch1} (hA : GAOk X c gA) (hB : GBOk X c gB) {x : Con F cc0_scratch2}
    (hx : ∀ i ∈ [(1, 3), (1, 2), (1, 1), (1, 0), (0, 3), (0, 2), (0, 1), (0, 0)], (xM.access (ctxRect i.1 i.2)).read (Elt F) x = ctxAt X c gA gB i.1 i.2) :
    CtxOk X c x :=
  ⟨gA, gB, hA, hB, fun b h => hx (b, h) (by clear hx; revert b h; decide)⟩

theorem part40 {c : Dev nD} {ts ds : List (Fin 16 × Fin 2)} {R : sProp 𝕄} {Q} {v2 v1253 v1254 c16_i32_952}
    (h : ∀ j0 j1 j2 j3, (St X κ c obRr ts (WIn (F := F) c) ((1, 0) :: ds) (WOut X c) R ⊢ Q ⟨j0, j1, j2, j3⟩)) :
    St X κ c obRr ((1, 0) :: ts) (WIn (F := F) c) ds (WOut X c) R ⊢ wpb c (app (k0_part40 (F := F)) c v2 v1253 v1254 c16_i32_952) Q := by
  rw [k0_part40_eq_skeleton]
  refine kwwJ X κ c 1 0 (cd31 c) (fun _ => ⟨_, _, _, rfl⟩) ?_
  exact pure_step (h _ _ _ _)

theorem part41 {c : Dev nD} {ts ds : List (Fin 16 × Fin 2)} {R : sProp 𝕄} {Q} {v2 v1284 v1285 v1286 v1287}
    (h : ∀ j0, (St X κ c obRr ts (WIn (F := F) c) ((1, 1) :: ds) (WOut X c) R ⊢ Q ⟨j0, 16#32⟩)) :
    St X κ c obRr ((1, 1) :: ts) (WIn (F := F) c) ds (WOut X c) R ⊢ wpb c (app (k0_part41 (F := F)) c v2 v1284 v1285 v1286 v1287) Q := by
  rw [k0_part41_eq_skeleton]
  refine kwwJ X κ c 1 1 (cd32 c) (fun _ => ⟨_, _, _, rfl⟩) ?_
  exact pure_step (h _)

theorem part42 {c : Dev nD} {P : sProp 𝕄} {Q} {v2 v1321 c16_i32_1003}
    (h : ∀ j0 j1, (P ⊢ Q ⟨j0, j1⟩)) :
    P ⊢ wpb c (app (k0_part42 (F := F)) v2 v1321 c16_i32_1003) Q := by
  rw [k0_part42_eq_skeleton]
  exact pure_step (h _ _)

theorem part43 {c : Dev nD} {ts ds : List (Fin 16 × Fin 2)} {R : sProp 𝕄} {Q} {v2 v1331 v1358}
    (h : ∀ j0 j1 j2 j3 j4 j5 j6, (St X κ c obRr ts (WIn (F := F) c) ((2, 0) :: ds) (WOut X c) R ⊢ Q ⟨j0, j1, j2, j3, j4, j5, j6⟩)) :
    St X κ c obRr ((2, 0) :: ts) (WIn (F := F) c) ds (WOut X c) R ⊢ wpb c (app (k0_part43 (F := F)) c v2 v1331 v1358) Q := by
  rw [k0_part43_eq_skeleton]
  refine kwwJ X κ c 2 0 (cd33 c) (fun _ => ⟨_, _, _, rfl⟩) ?_
  exact pure_step (h _ _ _ _ _ _ _)

theorem part44 {c : Dev nD} {ts ds : List (Fin 16 × Fin 2)} {R : sProp 𝕄} {Q} {v2 v1370 v1384 v1386 v1387 v1388 v1389 v1390}
    (h : ∀ j0 j1 j2 j3, (St X κ c obRr ts (WIn (F := F) c) ((2, 1) :: ds) (WOut X c) R ⊢ Q ⟨j0, j1, j2, 3#32, j3⟩)) :
    St X κ c obRr ((2, 1) :: ts) (WIn (F := F) c) ds (WOut X c) R ⊢ wpb c (app (k0_part44 (F := F)) c v2 v1370 v1384 v1386 v1387 v1388 v1389 v1390) Q := by
  rw [k0_part44_eq_skeleton]
  refine kwwJ X κ c 2 1 (cd34 c) (fun _ => ⟨_, _, _, rfl⟩) ?_
  exact pure_step (h _ _ _ _)

theorem part45 {c : Dev nD} {ts ds : List (Fin 16 × Fin 2)} {R : sProp 𝕄} {Q} {v2 v1409 v1422 v1423 c3_i32_1077 v1424}
    (h : ∀ j0 j1, (St X κ c obRr ts (WIn (F := F) c) ((3, 0) :: ds) (WOut X c) R ⊢ Q ⟨j0, j1⟩)) :
    St X κ c obRr ((3, 0) :: ts) (WIn (F := F) c) ds (WOut X c) R ⊢ wpb c (app (k0_part45 (F := F)) c v2 v1409 v1422 v1423 c3_i32_1077 v1424) Q := by
  rw [k0_part45_eq_skeleton]
  refine kwwJ X κ c 3 0 (cd35 c) (fun _ => ⟨_, _, _, rfl⟩) ?_
  exact pure_step (h _ _)

theorem part46 {c : Dev nD} {ts ds : List (Fin 16 × Fin 2)} {R : sProp 𝕄} {Q} {v2 v1448 v1459}
    (h : ∀ j0 j1 j2, (St X κ c obRr ts (WIn (F := F) c) ((3, 1) :: ds) (WOut X c) R ⊢ Q ⟨j0, j1, j2, 0#32⟩)) :
    St X κ c obRr ((3, 1) :: ts) (WIn (F := F) c) ds (WOut X c) R ⊢ wpb c (app (k0_part46 (F := F)) c v2 v1448 v1459) Q := by
  rw [k0_part46_eq_skeleton]
  refine kwwJ X κ c 3 1 (cd36 c) (fun _ => ⟨_, _, _, rfl⟩) ?_
  exact pure_step (h _ _ _)

theorem part47 {c : Dev nD} {ts ds : List (Fin 16 × Fin 2)} {R : sProp 𝕄} {Q} {v2 v1487 v1490 v1491 c0_i32_1129}
    (h : ∀ j0, (St X κ c obRr ts (WIn (F := F) c) ((4, 0) :: ds) (WOut X c) R ⊢ Q j0)) :
    St X κ c obRr ((4, 0) :: ts) (WIn (F := F) c) ds (WOut X c) R ⊢ wpb c (app (k0_part47 (F := F)) c v2 v1487 v1490 v1491 c0_i32_1129) Q := by
  rw [k0_part47_eq_skeleton]
  refine kwwJ X κ c 4 0 (cd37 c) (fun _ => ⟨_, _, _, rfl⟩) ?_
  exact pure_step (h _)

theorem part48 {c : Dev nD} {ts ds : List (Fin 16 × Fin 2)} {R : sProp 𝕄} {Q} {v2 v1526}
    (h : ∀ j0 j1, (St X κ c obRr ts (WIn (F := F) c) ((4, 1) :: ds) (WOut X c) R ⊢ Q ⟨j0, j1, 0#32⟩)) :
    St X κ c obRr ((4, 1) :: ts) (WIn (F := F) c) ds (WOut X c) R ⊢ wpb c (app (k0_part48 (F := F)) c v2 v1526) Q := by
  rw [k0_part48_eq_skeleton]
  refine kwwJ X κ c 4 1 (cd38 c) (fun _ => ⟨_, _, _, rfl⟩) ?_
  exact pure_step (h _ _)

theorem part49 {c : Dev nD} {ts ds : List (Fin 16 × Fin 2)} {R : sProp 𝕄} {Q} {v2 v1557 v1558 c0_i32_1180}
    (h : (St X κ c obRr ts (WIn (F := F) c) ((5, 0) :: ds) (WOut X c) R ⊢ Q ⟨⟩)) :
    St X κ c obRr ((5, 0) :: ts) (WIn (F := F) c) ds (WOut X c) R ⊢ wpb c (app (k0_part49 (F := F)) c v2 v1557 v1558 c0_i32_1180) Q := by
  rw [k0_part49_eq_skeleton]
  refine kwwJ X κ c 5 0 (cd39 c) (fun _ => ⟨_, _, _, rfl⟩) ?_
  exact pure_step h

theorem part50 {c : Dev nD} {P : sProp 𝕄} {Q} {v2}
    (h : ∀ j0 j1 j2, (P ⊢ Q ⟨j0, j1, j2⟩)) :
    P ⊢ wpb c (app (k0_part50 (F := F)) v2) Q := by
  rw [k0_part50_eq_skeleton]
  exact pure_step (h _ _ _)

theorem part51 {c : Dev nD} {ts ds : List (Fin 16 × Fin 2)} {R : sProp 𝕄} {Q} {v2 v1604 v1618 v1629}
    (h : ∀ j0 j1 j2 j3 j4, (St X κ c obRr ts (WIn (F := F) c) ((5, 1) :: ds) (WOut X c) R ⊢ Q ⟨j0, j1, j2, j3, j4, 0#32⟩)) :
    St X κ c obRr ((5, 1) :: ts) (WIn (F := F) c) ds (WOut X c) R ⊢ wpb c (app (k0_part51 (F := F)) c v2 v1604 v1618 v1629) Q := by
  rw [k0_part51_eq_skeleton]
  refine kwwJ X κ c 5 1 (cd40 c) (fun _ => ⟨_, _, _, rfl⟩) ?_
  exact pure_step (h _ _ _ _ _)

theorem part52 {c : Dev nD} {ts ds : List (Fin 16 × Fin 2)} {R : sProp 𝕄} {Q} {v2 v1643 v1657 v1659 v1660 v1661 c0_i32_1255}
    (h : ∀ j0 j1 j2, (St X κ c obRr ts (WIn (F := F) c) ((6, 0) :: ds) (WOut X c) R ⊢ Q ⟨j0, j1, j2⟩)) :
    St X κ c obRr ((6, 0) :: ts) (WIn (F := F) c) ds (WOut X c) R ⊢ wpb c (app (k0_part52 (F := F)) c v2 v1643 v1657 v1659 v1660 v1661 c0_i32_1255) Q := by
  rw [k0_part52_eq_skeleton]
  refine kwwJ X κ c 6 0 (cd41 c) (fun _ => ⟨_, _, _, rfl⟩) ?_
  exact pure_step (h _ _ _)

theorem part53 {c : Dev nD} {ts ds : List (Fin 16 × Fin 2)} {R : sProp 𝕄} {Q} {v2 v1682 v1695 v1696}
    (h : ∀ j0 j1 j2 j3 j4, (St X κ c obRr ts (WIn (F := F) c) ((6, 1) :: ds) (WOut X c) R ⊢ Q ⟨j0, j1, j2, j3, j4⟩)) :
    St X κ c obRr ((6, 1) :: ts) (WIn (F := F) c) ds (WOut X c) R ⊢ wpb c (app (k0_part53 (F := F)) c v2 v1682 v1695 v1696) Q := by
  rw [k0_part53_eq_skeleton]
  refine kwwJ X κ c 6 1 (cd42 c) (fun _ => ⟨_, _, _, rfl⟩) ?_
  exact pure_step (h _ _ _ _ _)

theorem part54 {c : Dev nD} {ts ds : List (Fin 16 × Fin 2)} {R : sProp 𝕄} {Q} {v2 v1721 v1724 v1725 v1726 v1729}
    (h : ∀ j0 j1 j2, (St X κ c obRr ts (WIn (F := F) c) ((7, 0) :: ds) (WOut X c) R ⊢ Q ⟨j0, j1, 16#32, j2, 1#32⟩)) :
    St X κ c obRr ((7, 0) :: ts) (WIn (F := F) c) ds (WOut X c) R ⊢ wpb c (app (k0_part54 (F := F)) c v2 v1721 v1724 v1725 v1726 v1729) Q := by
  rw [k0_part54_eq_skeleton]
  refine kwwJ X κ c 7 0 (cd43 c) (fun _ => ⟨_, _, _, rfl⟩) ?_
  exact pure_step (h _ _ _)

theorem part55 {c : Dev nD} {ds : List (Fin 16 × Fin 2)} {R R2 : sProp 𝕄} {T : Finset (Idx (gM.view.loc (c : Thread nD τ)))} (hT : ∀ j h, gM.view.setOn (kvHead j 0 h).toLoadRect.set ⊆ T)
    (hg : St X κ c obRr [] (WIn (F := F) c) ((7, 1) :: ds) (WOut X c) R ⊢ iprop(∃ gA, ⌜GAOk X c gA⌝ ∗ (Ctx X κ ∗ OW c (owed c obRr) ∗ pcs c gM T gA ∗ R2))) {Q} {v1076 v1242 v1760 v1761 c16_i32_1329 v1762 c1_i32_1331}
    (h : ∀ gA, GAOk X c gA →  (iprop(Ctx X κ ∗ OW c (owed c obRr) ∗ pcs c gM T gA ∗ R2) ⊢ Q ⟨k0_pay50 v1076, k0_pay51 (gRd 0 0 0 gA), k0_pay52 v1242 (gRd 2 0 0 gA)⟩)) :
    St X κ c obRr ((7, 1) :: []) (WIn (F := F) c) ds (WOut X c) R ⊢ wpb c (app (k0_part55 (F := F)) c v1076 v1242 v1760 v1761 c16_i32_1329 v1762 c1_i32_1331) Q := by
  rw [k0_part55_eq_skeleton]
  refine kwwJ X κ c 7 1 (cd44 c) (fun _ => ⟨_, _, _, rfl⟩) ?_
  refine (hg.trans (ex_elim fun gA hA => ?_))
  refine bind_step (load_any (m := gM) (hT 0 0) acc3 ?_)
  refine bind_step (load_any (m := gM) (hT 2 0) acc3 ?_)
  exact pure_step (h gA hA)

theorem part56 {c : Dev nD} {R : sProp 𝕄} {T : Finset (Idx (gM.view.loc (c : Thread nD τ)))} (hT : ∀ j h, gM.view.setOn (kvHead j 0 h).toLoadRect.set ⊆ T) {gA : Con F cc0_scratch1} {Q} {v1076 v1216 v1242 v1790 v1792 v1797}
    (h : (iprop(Ctx X κ ∗ OW c (owed c obRr) ∗ pcs c gM T gA ∗ R) ⊢ Q ⟨k0_pay54 v1216 v1790 v1792, k0_pay56 v1216 v1790 v1792, k0_pay57 v1216 v1790 v1792 v1797, k0_pay58 v1076, k0_pay60 v1076 v1216 (gRd 0 0 1 gA), k0_pay62 v1076 v1216 (gRd 0 0 1 gA), k0_pay63 v1076 v1216 v1242 (gRd 0 0 1 gA) (gRd 2 0 1 gA), k0_pay64 v1076⟩)) :
    iprop(Ctx X κ ∗ OW c (owed c obRr) ∗ pcs c gM T gA ∗ R) ⊢ wpb c (app (k0_part56 (F := F)) v1076 v1216 v1242 v1790 v1792 v1797) Q := by
  rw [k0_part56_eq_skeleton]
  refine bind_step (load_any (m := gM) (hT 0 1) acc3 ?_)
  refine bind_step (load_any (m := gM) (hT 2 1) acc3 ?_)
  exact pure_step h

theorem part57 {c : Dev nD} {R : sProp 𝕄} {T : Finset (Idx (gM.view.loc (c : Thread nD τ)))} (hT : ∀ j h, gM.view.setOn (kvHead j 0 h).toLoadRect.set ⊆ T) {gA : Con F cc0_scratch1} {Q} {v1076 v1216 v1242 v1838}
    (h : (iprop(Ctx X κ ∗ OW c (owed c obRr) ∗ pcs c gM T gA ∗ R) ⊢ Q ⟨k0_pay66 v1216 v1838 (gRd 0 0 2 gA), k0_pay68 v1216 v1838 (gRd 0 0 2 gA), k0_pay69 v1216 v1242 v1838 (gRd 0 0 2 gA) (gRd 2 0 2 gA), k0_pay70 v1076, k0_pay71 v1242 (gRd 2 0 3 gA), k0_pay72 v1076 v1216 (gRd 0 0 3 gA), k0_pay73 v1076 v1216 (gRd 0 0 3 gA)⟩)) :
    iprop(Ctx X κ ∗ OW c (owed c obRr) ∗ pcs c gM T gA ∗ R) ⊢ wpb c (app (k0_part57 (F := F)) v1076 v1216 v1242 v1838) Q := by
  rw [k0_part57_eq_skeleton]
  refine bind_step (load_any (m := gM) (hT 0 2) acc3 ?_)
  refine bind_step (load_any (m := gM) (hT 2 2) acc3 ?_)
  refine bind_step (load_any (m := gM) (hT 0 3) acc3 ?_)
  refine bind_step (load_any (m := gM) (hT 2 3) acc3 ?_)
  exact pure_step h

theorem part58 {c : Dev nD} {R : sProp 𝕄} {T : Finset (Idx (gM.view.loc (c : Thread nD τ)))} (hT : ∀ j h, gM.view.setOn (kvHead j 0 h).toLoadRect.set ⊆ T) {gA : Con F cc0_scratch1} {Q} {v1076 v1216 v1242 v1869 v1875 v1877}
    (h : (iprop(Ctx X κ ∗ OW c (owed c obRr) ∗ pcs c gM T gA ∗ R) ⊢ Q ⟨k0_pay75 v1875 v1877, k0_pay76 v1869 v1875 v1877, k0_pay77 v1076, k0_pay79 v1076 v1216 (gRd 1 0 0 gA), k0_pay81 v1076 v1216 (gRd 1 0 0 gA), k0_pay82 v1076 v1216 v1242 (gRd 1 0 0 gA) (gRd 3 0 0 gA), k0_pay83 v1076, k0_pay84 (gRd 1 0 1 gA), k0_pay85 v1242 (gRd 3 0 1 gA)⟩)) :
    iprop(Ctx X κ ∗ OW c (owed c obRr) ∗ pcs c gM T gA ∗ R) ⊢ wpb c (app (k0_part58 (F := F)) v1076 v1216 v1242 v1869 v1875 v1877) Q := by
  rw [k0_part58_eq_skeleton]
  refine bind_step (load_any (m := gM) (hT 1 0) acc3 ?_)
  refine bind_step (load_any (m := gM) (hT 3 0) acc3 ?_)
  refine bind_step (load_any (m := gM) (hT 1 1) acc3 ?_)
  refine bind_step (load_any (m := gM) (hT 3 1) acc3 ?_)
  exact pure_step h

theorem part59 {c : Dev nD} {R : sProp 𝕄} {T : Finset (Idx (gM.view.loc (c : Thread nD τ)))} (hT : ∀ j h, gM.view.setOn (kvHead j 0 h).toLoadRect.set ⊆ T) {gA : Con F cc0_scratch1} {Q} {v1076 v1216 v1242 v1910 v1912 v1917}
    (h : (iprop(Ctx X κ ∗ OW c (owed c obRr) ∗ pcs c gM T gA ∗ R) ⊢ Q ⟨k0_pay87 v1216 v1910 v1912, k0_pay89 v1216 v1910 v1912, k0_pay90 v1216 v1910 v1912 v1917, k0_pay91 v1076, k0_pay93 v1076 v1216 (gRd 1 0 2 gA), k0_pay95 v1076 v1216 (gRd 1 0 2 gA), k0_pay96 v1076 v1216 v1242 (gRd 1 0 2 gA) (gRd 3 0 2 gA), k0_pay97 v1076⟩)) :
    iprop(Ctx X κ ∗ OW c (owed c obRr) ∗ pcs c gM T gA ∗ R) ⊢ wpb c (app (k0_part59 (F := F)) v1076 v1216 v1242 v1910 v1912 v1917) Q := by
  rw [k0_part59_eq_skeleton]
  refine bind_step (load_any (m := gM) (hT 1 2) acc3 ?_)
  refine bind_step (load_any (m := gM) (hT 3 2) acc3 ?_)
  exact pure_step h

theorem part60 {c : Dev nD} {R : sProp 𝕄} {T : Finset (Idx (gM.view.loc (c : Thread nD τ)))} (hT : ∀ j h, gM.view.setOn (kvHead j 0 h).toLoadRect.set ⊆ T) {gA : Con F cc0_scratch1} {Q} {v2 v1216 v1242 v1958}
    (h : ∀ j0 j1 j2, (iprop(Ctx X κ ∗ OW c (owed c obRr) ∗ pcs c gM T gA ∗ R) ⊢ Q ⟨k0_pay99 v1216 v1958 (gRd 1 0 3 gA), k0_pay101 v1216 v1958 (gRd 1 0 3 gA), k0_pay102 v1216 v1242 v1958 (gRd 1 0 3 gA) (gRd 3 0 3 gA), j0, j1, j2, 0#32⟩)) :
    iprop(Ctx X κ ∗ OW c (owed c obRr) ∗ pcs c gM T gA ∗ R) ⊢ wpb c (app (k0_part60 (F := F)) v2 v1216 v1242 v1958) Q := by
  rw [k0_part60_eq_skeleton]
  refine bind_step (load_any (m := gM) (hT 1 3) acc3 ?_)
  refine bind_step (load_any (m := gM) (hT 3 3) acc3 ?_)
  exact pure_step (h _ _ _)

theorem part61 {c : Dev nD} {ts ds : List (Fin 16 × Fin 2)} {R : sProp 𝕄} {Q} {v2 v1991 v1994 v1995 c0_i32_1454}
    (h : ∀ j0, (St X κ c obRr ts (WIn (F := F) c) ((8, 0) :: ds) (WOut X c) R ⊢ Q j0)) :
    St X κ c obRr ((8, 0) :: ts) (WIn (F := F) c) ds (WOut X c) R ⊢ wpb c (app (k0_part61 (F := F)) c v2 v1991 v1994 v1995 c0_i32_1454) Q := by
  rw [k0_part61_eq_skeleton]
  refine kwwJ X κ c 8 0 (cd45 c) (fun _ => ⟨_, _, _, rfl⟩) ?_
  exact pure_step (h _)

theorem part62 {c : Dev nD} {ts ds : List (Fin 16 × Fin 2)} {R : sProp 𝕄} {Q} {v2 v2030}
    (h : ∀ j0 j1, (St X κ c obRr ts (WIn (F := F) c) ((8, 1) :: ds) (WOut X c) R ⊢ Q ⟨j0, j1, 0#32⟩)) :
    St X κ c obRr ((8, 1) :: ts) (WIn (F := F) c) ds (WOut X c) R ⊢ wpb c (app (k0_part62 (F := F)) c v2 v2030) Q := by
  rw [k0_part62_eq_skeleton]
  refine kwwJ X κ c 8 1 (cd46 c) (fun _ => ⟨_, _, _, rfl⟩) ?_
  exact pure_step (h _ _)

theorem part63 {c : Dev nD} {ts ds : List (Fin 16 × Fin 2)} {R : sProp 𝕄} {Q} {v2 v2061 v2062 c0_i32_1505}
    (h : (St X κ c obRr ts (WIn (F := F) c) ((9, 0) :: ds) (WOut X c) R ⊢ Q ⟨⟩)) :
    St X κ c obRr ((9, 0) :: ts) (WIn (F := F) c) ds (WOut X c) R ⊢ wpb c (app (k0_part63 (F := F)) c v2 v2061 v2062 c0_i32_1505) Q := by
  rw [k0_part63_eq_skeleton]
  refine kwwJ X κ c 9 0 (cd47 c) (fun _ => ⟨_, _, _, rfl⟩) ?_
  exact pure_step h

theorem part64 {c : Dev nD} {P : sProp 𝕄} {Q} {v2}
    (h : ∀ j0 j1 j2, (P ⊢ Q ⟨j0, j1, j2⟩)) :
    P ⊢ wpb c (app (k0_part64 (F := F)) v2) Q := by
  rw [k0_part64_eq_skeleton]
  exact pure_step (h _ _ _)

theorem part65 {c : Dev nD} {ts ds : List (Fin 16 × Fin 2)} {R : sProp 𝕄} {Q} {v2 v2108 v2122 v2133}
    (h : ∀ j0 j1 j2 j3 j4, (St X κ c obRr ts (WIn (F := F) c) ((9, 1) :: ds) (WOut X c) R ⊢ Q ⟨j0, j1, j2, j3, j4, 0#32⟩)) :
    St X κ c obRr ((9, 1) :: ts) (WIn (F := F) c) ds (WOut X c) R ⊢ wpb c (app (k0_part65 (F := F)) c v2 v2108 v2122 v2133) Q := by
  rw [k0_part65_eq_skeleton]
  refine kwwJ X κ c 9 1 (cd48 c) (fun _ => ⟨_, _, _, rfl⟩) ?_
  exact pure_step (h _ _ _ _ _)

theorem part66 {c : Dev nD} {ts ds : List (Fin 16 × Fin 2)} {R : sProp 𝕄} {Q} {v2 v2147 v2161 v2163 v2164 v2165 c0_i32_1580}
    (h : ∀ j0 j1 j2, (St X κ c obRr ts (WIn (F := F) c) ((10, 0) :: ds) (WOut X c) R ⊢ Q ⟨j0, j1, j2⟩)) :
    St X κ c obRr ((10, 0) :: ts) (WIn (F := F) c) ds (WOut X c) R ⊢ wpb c (app (k0_part66 (F := F)) c v2 v2147 v2161 v2163 v2164 v2165 c0_i32_1580) Q := by
  rw [k0_part66_eq_skeleton]
  refine kwwJ X κ c 10 0 (cd49 c) (fun _ => ⟨_, _, _, rfl⟩) ?_
  exact pure_step (h _ _ _)

theorem part67 {c : Dev nD} {ts ds : List (Fin 16 × Fin 2)} {R : sProp 𝕄} {Q} {v2 v2186 v2199 v2200}
    (h : ∀ j0 j1 j2 j3 j4, (St X κ c obRr ts (WIn (F := F) c) ((10, 1) :: ds) (WOut X c) R ⊢ Q ⟨j0, j1, j2, j3, j4⟩)) :
    St X κ c obRr ((10, 1) :: ts) (WIn (F := F) c) ds (WOut X c) R ⊢ wpb c (app (k0_part67 (F := F)) c v2 v2186 v2199 v2200) Q := by
  rw [k0_part67_eq_skeleton]
  refine kwwJ X κ c 10 1 (cd50 c) (fun _ => ⟨_, _, _, rfl⟩) ?_
  exact pure_step (h _ _ _ _ _)

theorem part68 {c : Dev nD} {ts ds : List (Fin 16 × Fin 2)} {R : sProp 𝕄} {Q} {v2 v2225 v2228 v2229 v2230 v2233}
    (h : ∀ j0 j1 j2, (St X κ c obRr ts (WIn (F := F) c) ((11, 0) :: ds) (WOut X c) R ⊢ Q ⟨j0, j1, 16#32, j2, 1#32⟩)) :
    St X κ c obRr ((11, 0) :: ts) (WIn (F := F) c) ds (WOut X c) R ⊢ wpb c (app (k0_part68 (F := F)) c v2 v2225 v2228 v2229 v2230 v2233) Q := by
  rw [k0_part68_eq_skeleton]
  refine kwwJ X κ c 11 0 (cd51 c) (fun _ => ⟨_, _, _, rfl⟩) ?_
  exact pure_step (h _ _ _)

theorem part69 {c : Dev nD} {ts ds : List (Fin 16 × Fin 2)} {R : sProp 𝕄} {Q} {v2 v2264 v2265 c16_i32_1654 v2266 c1_i32_1656}
    (h : ∀ j0 j1 j2 j3, (St X κ c obRr ts (WIn (F := F) c) ((11, 1) :: ds) (WOut X c) R ⊢ Q ⟨j0, j1, j2, j3⟩)) :
    St X κ c obRr ((11, 1) :: ts) (WIn (F := F) c) ds (WOut X c) R ⊢ wpb c (app (k0_part69 (F := F)) c v2 v2264 v2265 c16_i32_1654 v2266 c1_i32_1656) Q := by
  rw [k0_part69_eq_skeleton]
  refine kwwJ X κ c 11 1 (cd52 c) (fun _ => ⟨_, _, _, rfl⟩) ?_
  exact pure_step (h _ _ _ _)

theorem part70 {c : Dev nD} {ts ds : List (Fin 16 × Fin 2)} {R : sProp 𝕄} {Q} {v2 v2295 v2296 v2297 v2300}
    (h : ∀ j0 j1, (St X κ c obRr ts (WIn (F := F) c) ((12, 0) :: ds) (WOut X c) R ⊢ Q ⟨j0, 16#32, j1, 1#32⟩)) :
    St X κ c obRr ((12, 0) :: ts) (WIn (F := F) c) ds (WOut X c) R ⊢ wpb c (app (k0_part70 (F := F)) c v2 v2295 v2296 v2297 v2300) Q := by
  rw [k0_part70_eq_skeleton]
  refine kwwJ X κ c 12 0 (cd53 c) (fun _ => ⟨_, _, _, rfl⟩) ?_
  exact pure_step (h _ _)

theorem part71 {c : Dev nD} {P : sProp 𝕄} {Q} {v2 v2332 c16_i32_1705 v2333 c1_i32_1707}
    (h : ∀ j0 j1, (P ⊢ Q ⟨j0, j1⟩)) :
    P ⊢ wpb c (app (k0_part71 (F := F)) v2 v2332 c16_i32_1705 v2333 c1_i32_1707) Q := by
  rw [k0_part71_eq_skeleton]
  exact pure_step (h _ _)

theorem part72 {c : Dev nD} {ts ds : List (Fin 16 × Fin 2)} {R : sProp 𝕄} {Q} {v2 v2342 v2369}
    (h : ∀ j0 j1 j2 j3 j4, (St X κ c obRr ts (WIn (F := F) c) ((12, 1) :: ds) (WOut X c) R ⊢ Q ⟨j0, j1, j2, j3, j4⟩)) :
    St X κ c obRr ((12, 1) :: ts) (WIn (F := F) c) ds (WOut X c) R ⊢ wpb c (app (k0_part72 (F := F)) c v2 v2342 v2369) Q := by
  rw [k0_part72_eq_skeleton]
  refine kwwJ X κ c 12 1 (cd54 c) (fun _ => ⟨_, _, _, rfl⟩) ?_
  exact pure_step (h _ _ _ _ _)

theorem part73 {c : Dev nD} {ts ds : List (Fin 16 × Fin 2)} {R : sProp 𝕄} {Q} {v2 v2381 v2395 v2398 v2403 v2404}
    (h : ∀ j0 j1 j2 j3, (St X κ c obRr ts (WIn (F := F) c) ((13, 0) :: ds) (WOut X c) R ⊢ Q ⟨j0, j1, j2, j3⟩)) :
    St X κ c obRr ((13, 0) :: ts) (WIn (F := F) c) ds (WOut X c) R ⊢ wpb c (app (k0_part73 (F := F)) c v2 v2381 v2395 v2398 v2403 v2404) Q := by
  rw [k0_part73_eq_skeleton]
  refine kwwJ X κ c 13 0 (cd55 c) (fun _ => ⟨_, _, _, rfl⟩) ?_
  exact pure_step (h _ _ _ _)

theorem part74 {c : Dev nD} {ts ds : List (Fin 16 × Fin 2)} {R : sProp 𝕄} {Q} {v2 v2420 v2434 v2436 v2437}
    (h : ∀ j0 j1, (St X κ c obRr ts (WIn (F := F) c) ((13, 1) :: ds) (WOut X c) R ⊢ Q ⟨j0, j1, 0#32⟩)) :
    St X κ c obRr ((13, 1) :: ts) (WIn (F := F) c) ds (WOut X c) R ⊢ wpb c (app (k0_part74 (F := F)) c v2 v2420 v2434 v2436 v2437) Q := by
  rw [k0_part74_eq_skeleton]
  refine kwwJ X κ c 13 1 (cd56 c) (fun _ => ⟨_, _, _, rfl⟩) ?_
  exact pure_step (h _ _)

theorem part75 {c : Dev nD} {ts ds : List (Fin 16 × Fin 2)} {R : sProp 𝕄} {Q} {v2 v2459 v2471 c0_i32_1806}
    (h : ∀ j0 j1 j2 j3 j4, (St X κ c obRr ts (WIn (F := F) c) ((14, 0) :: ds) (WOut X c) R ⊢ Q ⟨j0, j1, j2, j3, j4⟩)) :
    St X κ c obRr ((14, 0) :: ts) (WIn (F := F) c) ds (WOut X c) R ⊢ wpb c (app (k0_part75 (F := F)) c v2 v2459 v2471 c0_i32_1806) Q := by
  rw [k0_part75_eq_skeleton]
  refine kwwJ X κ c 14 0 (cd57 c) (fun _ => ⟨_, _, _, rfl⟩) ?_
  exact pure_step (h _ _ _ _ _)

theorem part76 {c : Dev nD} {ts ds : List (Fin 16 × Fin 2)} {R : sProp 𝕄} {Q} {v2 v2498 v2501 v2502 v2503 v2504}
    (h : ∀ j0 j1, (St X κ c obRr ts (WIn (F := F) c) ((14, 1) :: ds) (WOut X c) R ⊢ Q ⟨j0, j1, 16#32⟩)) :
    St X κ c obRr ((14, 1) :: ts) (WIn (F := F) c) ds (WOut X c) R ⊢ wpb c (app (k0_part76 (F := F)) c v2 v2498 v2501 v2502 v2503 v2504) Q := by
  rw [k0_part76_eq_skeleton]
  refine kwwJ X κ c 14 1 (cd58 c) (fun _ => ⟨_, _, _, rfl⟩) ?_
  exact pure_step (h _ _)

theorem part77 {c : Dev nD} {ts ds : List (Fin 16 × Fin 2)} {R : sProp 𝕄} {Q} {v2 v2537 v2538 c16_i32_1857}
    (h : ∀ j0 j1 j2 j3, (St X κ c obRr ts (WIn (F := F) c) ((15, 0) :: ds) (WOut X c) R ⊢ Q ⟨j0, j1, j2, j3⟩)) :
    St X κ c obRr ((15, 0) :: ts) (WIn (F := F) c) ds (WOut X c) R ⊢ wpb c (app (k0_part77 (F := F)) c v2 v2537 v2538 c16_i32_1857) Q := by
  rw [k0_part77_eq_skeleton]
  refine kwwJ X κ c 15 0 (cd59 c) (fun _ => ⟨_, _, _, rfl⟩) ?_
  exact pure_step (h _ _ _ _)

theorem part78 {c : Dev nD} {ts ds : List (Fin 16 × Fin 2)} {R : sProp 𝕄} {Q} {v2 v2568 v2569 v2570 v2571}
    (h : (St X κ c obRr ts (WIn (F := F) c) ((15, 1) :: ds) (WOut X c) R ⊢ Q ⟨⟩)) :
    St X κ c obRr ((15, 1) :: ts) (WIn (F := F) c) ds (WOut X c) R ⊢ wpb c (app (k0_part78 (F := F)) c v2 v2568 v2569 v2570 v2571) Q := by
  rw [k0_part78_eq_skeleton]
  refine kwwJ X κ c 15 1 (cd60 c) (fun _ => ⟨_, _, _, rfl⟩) ?_
  exact pure_step h

theorem part79 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1790 v1805 v1810 v1812} (hw : k0_pay103 v1216 v1242 v1790 v1805 v1810 v1812 (gRd 0 1 0 gB) (gRd 2 1 0 gB) = ctxAt X c gA gB 0 0)
    (h : (iprop(Ctx X κ ∗ OW c (owed c obRr) ∗ XS X c gA gB [(0, 0)] ∗ pcs c gM T gB ∗ R) ⊢ Q (k0_pay104 (gRd 0 1 1 gB)))) :
    iprop(Ctx X κ ∗ OW c (owed c obRr) ∗ XS X c gA gB [] ∗ pcs c gM T gB ∗ R) ⊢ wpb c (app (k0_part79 (F := F)) v1216 v1242 v1790 v1805 v1810 v1812) Q := by
  rw [k0_part79_eq_skeleton]
  refine bind_step (load_any (m := gM) (hT 0 0) acc4 ?_)
  refine bind_step (load_any (m := gM) (hT 2 0) acc4 ?_)
  refine bind_step (xs_read X c (fun _ _ => ?_))
  refine bind_step (xs_store X c (0, 0) hw ?_)
  refine bind_step (load_any (m := gM) (hT 0 1) acc4 ?_)
  exact pure_step h

theorem part80 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1814 v1829 v1834 v1836 v2646} (hw : k0_pay105 v1216 v1242 v1814 v1829 v1834 v1836 v2646 (gRd 2 1 1 gB) = ctxAt X c gA gB 0 1)
    (h : (iprop(Ctx X κ ∗ OW c (owed c obRr) ∗ XS X c gA gB [(0, 1), (0, 0)] ∗ pcs c gM T gB ∗ R) ⊢ Q ⟨k0_pay106 (gRd 0 1 2 gB), k0_pay107 v1242 (gRd 2 1 2 gB)⟩)) :
    iprop(Ctx X κ ∗ OW c (owed c obRr) ∗ XS X c gA gB [(0, 0)] ∗ pcs c gM T gB ∗ R) ⊢ wpb c (app (k0_part80 (F := F)) v1216 v1242 v1814 v1829 v1834 v1836 v2646) Q := by
  rw [k0_part80_eq_skeleton]
  refine bind_step (load_any (m := gM) (hT 2 1) acc4 ?_)
  refine bind_step (xs_read X c (fun _ _ => ?_))
  refine bind_step (xs_store X c (0, 1) hw ?_)
  refine bind_step (load_any (m := gM) (hT 0 2) acc4 ?_)
  refine bind_step (load_any (m := gM) (hT 2 2) acc4 ?_)
  exact pure_step h

theorem part81 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1838 v1853 v1858 v1860 v1862 v2686 v2691} (hw : k0_pay108 v1216 v1838 v1853 v1858 v1860 v2686 v2691 = ctxAt X c gA gB 0 2)
    (h : (iprop(Ctx X κ ∗ OW c (owed c obRr) ∗ XS X c gA gB [(0, 2), (0, 1), (0, 0)] ∗ pcs c gM T gB ∗ R) ⊢ Q ⟨k0_pay109 v1242 (gRd 2 1 3 gB), k0_pay110 v1862 (gRd 0 1 3 gB), k0_pay111 v1216, k0_pay112 (F := F)⟩)) :
    iprop(Ctx X κ ∗ OW c (owed c obRr) ∗ XS X c gA gB [(0, 1), (0, 0)] ∗ pcs c gM T gB ∗ R) ⊢ wpb c (app (k0_part81 (F := F)) v1216 v1242 v1838 v1853 v1858 v1860 v1862 v2686 v2691) Q := by
  rw [k0_part81_eq_skeleton]
  refine bind_step (xs_read X c (fun _ _ => ?_))
  refine bind_step (xs_store X c (0, 2) hw ?_)
  refine bind_step (load_any (m := gM) (hT 0 3) acc4 ?_)
  refine bind_step (load_any (m := gM) (hT 2 3) acc4 ?_)
  exact pure_step h

theorem part82 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1877 v1882 v1884 v1886 v2731 v2732 v2733 v2734} (hw : k0_pay113 v1877 v1882 v1884 v2731 v2732 v2733 v2734 = ctxAt X c gA gB 0 3)
    (h : (iprop(Ctx X κ ∗ OW c (owed c obRr) ∗ XS X c gA gB [(0, 3), (0, 2), (0, 1), (0, 0)] ∗ pcs c gM T gB ∗ R) ⊢ Q ⟨k0_pay114 v1242 (gRd 3 1 0 gB), k0_pay115 v1216 v1886 (gRd 1 1 0 gB)⟩)) :
    iprop(Ctx X κ ∗ OW c (owed c obRr) ∗ XS X c gA gB [(0, 2), (0, 1), (0, 0)] ∗ pcs c gM T gB ∗ R) ⊢ wpb c (app (k0_part82 (F := F)) v1216 v1242 v1877 v1882 v1884 v1886 v2731 v2732 v2733 v2734) Q := by
  rw [k0_part82_eq_skeleton]
  refine bind_step (xs_read X c (fun _ _ => ?_))
  refine bind_step (xs_store X c (0, 3) hw ?_)
  refine bind_step (load_any (m := gM) (hT 1 0) acc4 ?_)
  refine bind_step (load_any (m := gM) (hT 3 0) acc4 ?_)
  exact pure_step h

theorem part83 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1901 v1906 v1908 v1910 v2771 v2777} (hw : k0_pay116 v1901 v1906 v1908 v2771 v2777 = ctxAt X c gA gB 1 0)
    (h : (iprop(Ctx X κ ∗ OW c (owed c obRr) ∗ XS X c gA gB [(1, 0), (0, 3), (0, 2), (0, 1), (0, 0)] ∗ pcs c gM T gB ∗ R) ⊢ Q ⟨k0_pay117 v1242 (gRd 3 1 1 gB), k0_pay119 v1216 v1910 (gRd 1 1 1 gB), k0_pay120 v1216 v1910 (gRd 1 1 1 gB)⟩)) :
    iprop(Ctx X κ ∗ OW c (owed c obRr) ∗ XS X c gA gB [(0, 3), (0, 2), (0, 1), (0, 0)] ∗ pcs c gM T gB ∗ R) ⊢ wpb c (app (k0_part83 (F := F)) v1216 v1242 v1901 v1906 v1908 v1910 v2771 v2777) Q := by
  rw [k0_part83_eq_skeleton]
  refine bind_step (xs_read X c (fun _ _ => ?_))
  refine bind_step (xs_store X c (1, 0) hw ?_)
  refine bind_step (load_any (m := gM) (hT 1 1) acc4 ?_)
  refine bind_step (load_any (m := gM) (hT 3 1) acc4 ?_)
  exact pure_step h

theorem part84 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1925 v1930 v1932 v1934 v2811 v2819 v2822} (hw : k0_pay121 v1925 v1930 v1932 v2811 v2819 v2822 = ctxAt X c gA gB 1 1)
    (h : (iprop(Ctx X κ ∗ OW c (owed c obRr) ∗ XS X c gA gB [(1, 1), (1, 0), (0, 3), (0, 2), (0, 1), (0, 0)] ∗ pcs c gM T gB ∗ R) ⊢ Q ⟨k0_pay122 v1242 (gRd 3 1 2 gB), k0_pay124 v1216 v1934 (gRd 1 1 2 gB), k0_pay126 v1216 v1934 (gRd 1 1 2 gB), k0_pay127 v1216 v1934 (gRd 1 1 2 gB), (constant S128x64 .f32 0x00000000#32)⟩)) :
    iprop(Ctx X κ ∗ OW c (owed c obRr) ∗ XS X c gA gB [(1, 0), (0, 3), (0, 2), (0, 1), (0, 0)] ∗ pcs c gM T gB ∗ R) ⊢ wpb c (app (k0_part84 (F := F)) v1216 v1242 v1925 v1930 v1932 v1934 v2811 v2819 v2822) Q := by
  rw [k0_part84_eq_skeleton]
  refine bind_step (xs_read X c (fun _ _ => ?_))
  refine bind_step (xs_store X c (1, 1) hw ?_)
  refine bind_step (load_any (m := gM) (hT 1 2) acc4 ?_)
  refine bind_step (load_any (m := gM) (hT 3 2) acc4 ?_)
  exact pure_step h

theorem part85 {c : Dev nD} {R : sProp 𝕄} {T : Finset (Idx (gM.view.loc (c : Thread nD τ)))} (hT : ∀ j h, gM.view.setOn (kvHead j 1 h).toLoadRect.set ⊆ T) {gA gB : Con F cc0_scratch1} {Q} {v1216 v1242 v1949 v1954 v1956 v1958 v1973 v2851 v2859 v2864 v2865 cst_2002} (hw : k0_pay128 v1949 v1954 v1956 v2851 v2859 v2864 v2865 cst_2002 = ctxAt X c gA gB 1 2)
    (h : (iprop(Ctx X κ ∗ OW c (owed c obRr) ∗ XS X c gA gB [(1, 2), (1, 1), (1, 0), (0, 3), (0, 2), (0, 1), (0, 0)] ∗ pcs c gM T gB ∗ R) ⊢ Q ⟨k0_pay132 v1216 v1958 (gRd 1 1 3 gB), k0_pay133 v1216 v1242 v1958 (gRd 1 1 3 gB) (gRd 3 1 3 gB), k0_pay135 v1216 v1958 v1973 (gRd 1 1 3 gB), k0_pay136 v1216 v1958 v1973 (gRd 1 1 3 gB)⟩)) :
    iprop(Ctx X κ ∗ OW c (owed c obRr) ∗ XS X c gA gB [(1, 1), (1, 0), (0, 3), (0, 2), (0, 1), (0, 0)] ∗ pcs c gM T gB ∗ R) ⊢ wpb c (app (k0_part85 (F := F)) v1216 v1242 v1949 v1954 v1956 v1958 v1973 v2851 v2859 v2864 v2865 cst_2002) Q := by
  rw [k0_part85_eq_skeleton]
  refine bind_step (xs_read X c (fun _ _ => ?_))
  refine bind_step (xs_store X c (1, 2) hw ?_)
  refine bind_step (load_any (m := gM) (hT 1 3) acc4 ?_)
  refine bind_step (load_any (m := gM) (hT 3 3) acc4 ?_)
  exact pure_step h

theorem part86 {c : Dev nD} {R : sProp 𝕄} {T : Finset (Idx (gM.view.loc (c : Thread nD τ)))} (hT : ∀ j h, gM.view.setOn (kvHead j 1 h).toLoadRect.set ⊆ T) {gA gB : Con F cc0_scratch1} (hA : GAOk X c gA) (hB : GBOk X c gB) {Q} {v2 v1978 v1980 v2904 v2906 v2909 v2910} (hw : k0_pay137 v1978 v1980 v2904 v2906 v2909 v2910 = ctxAt X c gA gB 1 3)
    (h : ∀ j0, (iprop(Ctx X κ ∗ OW c (owed c obRr) ∗ XS X c gA gB [(1, 3), (1, 2), (1, 1), (1, 0), (0, 3), (0, 2), (0, 1), (0, 0)] ∗ pcs c gM T gB ∗ pcs c i4M i4M.view.set (X c).wo ∗ (∃ P, ⌜PartOk X c P⌝ ∗ pcs c aM aM.view.set P) ∗ R) ⊢ Q j0)) :
    iprop(Ctx X κ ∗ OW c (owed c obRr) ∗ XS X c gA gB [(1, 2), (1, 1), (1, 0), (0, 3), (0, 2), (0, 1), (0, 0)] ∗ pcs c gM T gB ∗ pcs c i4M i4M.view.set (X c).wo ∗ (∃ P, pcs c aM aM.view.set P) ∗ R) ⊢ wpb c (app (k0_part86 (F := F)) v2 v1978 v1980 v2904 v2906 v2909 v2910) Q := by
  rw [k0_part86_eq_skeleton]
  refine bind_step (xs_read X c (fun _ _ => ?_))
  refine bind_step (xs_store X c (1, 3) hw ?_)
  refine bind_step (xs_read X c (fun x hx => ?_))
  refine bind_step (load_any (whole_sub i4M _) acc5 ?_)
  refine bind_step (part_dead c (fun _ => ?_))
  refine bind_step (part_store X c (ctx_all X c hA hB hx) rfl ?_)
  exact pure_step (h _)

end Cert.KernelIdeal.Pf
end
end
-- ==== Proof.Parts3.lean ====
/-
# The printed parts: reduction, gathering, the last waits
-/
module

public import proofs.«01_k».proof.Proof.Parts2

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ)

/-- A conditional wait for a copy to have left, followed by the rest of the program. -/
theorem kswJ {α : Type} {k : Prog (TpuEff nD τ sig (Elt F) Λ₀ .tc) α} (c : Dev nD) (t : Fin 16) (b : Fin 2) {cnd : BitVec 1}
    {A : cnd = 1#1 → Prog (TpuEff nD τ sig (Elt F) Λ₀ .tc) PUnit} (hc : cnd = 1#1 ↔ need c b)
    (hA : ∀ h : cnd = 1#1, ∃ (srcm dstm : Memref sig .tc .vmem S4x64x256 .bf16) (h1 : srcm.view.WordExact) (h2 : dstm.view.WordExact),
      A h = Prog.lift (.waitDma2 (ksS t b) srcm dstm h1 h2) ∧ dstm.view.dmaCredit = Nkv)
    {ts ds : List (Fin 16 × Fin 2)} {R : sProp 𝕄} {Q : α → sProp 𝕄}
    (h : St X κ c [] ts (KwIn (F := F) c) ((t, b) :: ds) (KwOut (F := F) c) R ⊢ wpb c k Q) (ht : t ≠ 0 := by decide) :
    St X κ c [] ((t, b) :: ts) (KwIn (F := F) c) ds (KwOut (F := F) c) R
      ⊢ wpb c (dite (cnd = 1#1) (fun h => A h >>= fun _ => k) (fun _ => k)) Q := by
  refine jp_step (guardedU hc (fun hn hh hQ => ?_) (fun hn => ks_wskip X κ c t b hn) h)
  obtain ⟨s, d, h1, h2, e, hcr⟩ := hA hh
  rw [e]
  exact bind_step (ks_wait X κ c t b ht hn rfl hcr (pure_step hQ))

theorem rows_read {c : Dev nD} {off : Fin 2 → ℕ} (e : off = ![16 * c.val, 0]) {inb} (P : Con F cc0_scratch3) :
    aM.view.readAt (Elt F) (Rect.unit (s := S256x512) off S16x512.size inb).toLoadRect P = aM.view.readAt (Elt F) (rows c).toLoadRect P := by
  subst e; rfl

theorem rows_sub {c : Dev nD} {off : Fin 2 → ℕ} (e : off = ![16 * c.val, 0]) {inb} :
    aM.view.setOn (Rect.unit (s := S256x512) off S16x512.size inb).toLoadRect.set ⊆ (aSl c).view.set := by
  subst e
  rw [show (aSl c).view.set = (aM.view.slice (rows c)).set from rfl, View.set_slice]; exact Finset.Subset.refl _

theorem orow_sub {c : Dev nD} {off : Fin 2 → ℕ} (e : off = ![16 * c.val, 0]) {inb} :
    oM.view.setOn (Rect.unit (s := S256x512) off S16x512.size inb).toLoadRect.set ⊆ (oSl c).view.set := by
  subst e
  rw [show (oSl c).view.set = (oM.view.slice (rows c)).set from rfl, View.set_slice]; exact Finset.Subset.refl _

/-- Something of each of the two buffers the reduced rows go to, before they are written. -/
def RO (c : Dev nD) : sProp 𝕄 := iprop((∃ r, pcs (F := F) c rM rM.view.set r) ∗ ∃ o, pcs (F := F) c oM (oSl c).view.set o)
/-- The reduced rows, in the first buffer. -/
def RO1 (c : Dev nD) (Rc : Con F cc0_scratch4) : sProp 𝕄 := iprop(pcs (F := F) c rM rM.view.set Rc ∗ ∃ o, pcs (F := F) c oM (oSl c).view.set o)
/-- The reduced rows, in both. -/
def RO2 (c : Dev nD) (Rc : Con F cc0_scratch4) : sProp 𝕄 := iprop(pcs (F := F) c rM rM.view.set Rc ∗ ∃ o, ⌜RowsOk X c o⌝ ∗ pcs (F := F) c oM (oSl c).view.set o)

theorem red_dead (c : Dev nD) {r : LoadRect S16x512} {hl : rM.view.LoadsAt r} {A B R : sProp 𝕄} {Q : (r.shape.Idx → Elt F .bf16) → sProp 𝕄}
    (h : ∀ v, (iprop(A ∗ B ∗ RO (F := F) c ∗ R) ⊢ Q v)) : iprop(A ∗ B ∗ RO (F := F) c ∗ R) ⊢ wpb c (Prog.lift (.load rM r hl)) Q := by
  refine load_ex (whole_sub rM r) (fun _ => True) ?_ (fun f _ => h _)
  unfold RO
  iintro ⟨HA, HB, ⟨⟨%P, HP⟩, HO⟩, HR⟩
  iexists P
  isplitr; · ipureintro; trivial
  isplitl [HP]; · iexact HP
  iintro HP
  isplitl [HA]; · iexact HA
  isplitl [HB]; · iexact HB
  isplitr [HR]
  · isplitr [HO]
    · iexists P; iexact HP
    · iexact HO
  · iexact HR

theorem red_store (c : Dev nD) {w : FVec F S16x512 .bf16} (hw : ∃ P r, PartOk X c P ∧ (∀ t ∈ tL, LoadOk X c t (r t)) ∧ w = redSum (aM.view.readAt (Elt F) (rows c).toLoadRect P) r)
    {hs : (rM.access allRed).Stores Finset.univ} {hm} {A B R : sProp 𝕄} {Q : PUnit → sProp 𝕄}
    (h : ∀ Rc, RedOk X c Rc → (iprop(A ∗ B ∗ RO1 (F := F) c Rc ∗ R) ⊢ Q ⟨⟩)) :
    iprop(A ∗ B ∗ RO (F := F) c ∗ R) ⊢ wpb c (Prog.lift (.store rM allRed w Finset.univ hs hm)) Q := by
  refine store_any (access_sub rM _) (P' := iprop(∃ Rc, ⌜RedOk X c Rc⌝ ∗ (A ∗ B ∗ RO1 (F := F) c Rc ∗ R))) ?_ (ex_elim h)
  unfold RO RO1
  iintro ⟨HA, HB, ⟨⟨%P, HP⟩, HO⟩, HR⟩
  iexists P
  isplitl [HP]; · iexact HP
  iintro HP
  iexists _
  isplitr
  swap
  · isplitl [HA]; · iexact HA
    isplitl [HB]; · iexact HB
    isplitr [HR]
    · isplitr [HO]
      · iexact HP
      · iexact HO
    · iexact HR
  · ipureintro
    obtain ⟨P, r, h1, h2, h3⟩ := hw
    exact ⟨P, r, h1, h2, by rw [View.read_write_univ, h3]⟩

theorem red_load (c : Dev nD) {hl : rM.view.LoadsAt allRed.toLoadRect} {Rc : Con F cc0_scratch4} {A B R : sProp 𝕄} {Q : (allRed.shape.Idx → Elt F .bf16) → sProp 𝕄}
    (h : iprop(A ∗ B ∗ RO1 (F := F) c Rc ∗ R) ⊢ Q (rM.view.read (Elt F) Rc)) :
    iprop(A ∗ B ∗ RO1 (F := F) c Rc ∗ R) ⊢ wpb c (Prog.lift (.load rM allRed.toLoadRect hl)) Q := by
  refine load_any (whole_sub rM _) (f := Rc) ?_ (by rw [show rM.view.readAt (Elt F) allRed.toLoadRect Rc = rM.view.read (Elt F) Rc from Memref.readAt_unit_zero (Elt F) cc0_scratch4 (by funext a; revert a; decide) _ Rc]; exact h)
  unfold RO1
  iintro ⟨HA, HB, ⟨HP, HO⟩, HR⟩
  isplitl [HP]; · iexact HP
  iintro HP
  isplitl [HA]; · iexact HA
  isplitl [HB]; · iexact HB
  isplitr [HR]
  · isplitl [HP] <;> iassumption
  · iexact HR

theorem orow_dead (c : Dev nD) {off : Fin 2 → ℕ} (e : off = ![16 * c.val, 0]) {inb} {hl : oM.view.LoadsAt (Rect.unit (s := S256x512) off S16x512.size inb).toLoadRect} {Rc : Con F cc0_scratch4}
    {A B R : sProp 𝕄} {Q : Vec F S16x512 .bf16 → sProp 𝕄}
    (h : ∀ v, (iprop(A ∗ B ∗ RO1 (F := F) c Rc ∗ R) ⊢ Q v)) :
    iprop(A ∗ B ∗ RO1 (F := F) c Rc ∗ R) ⊢ wpb c (Prog.lift (.load oM (Rect.unit (s := S256x512) off S16x512.size inb).toLoadRect hl)) Q := by
  refine load_ex (orow_sub e) (fun _ => True) ?_ (fun f _ => h _)
  unfold RO1
  iintro ⟨HA, HB, ⟨HP, ⟨%o, HO⟩⟩, HR⟩
  iexists o
  isplitr; · ipureintro; trivial
  isplitl [HO]; · iexact HO
  iintro HO
  isplitl [HA]; · iexact HA
  isplitl [HB]; · iexact HB
  isplitr [HR]
  · isplitl [HP]; · iexact HP
    iexists o; iexact HO
  · iexact HR

theorem pay149 (v : Vec F S16x512 .bf16) : k0_pay149 v = v := by
  unfold k0_pay149
  exact funext fun j => congrArg v (Shape.reshapeEquiv_self _ j)

theorem orow_store (c : Dev nD) {Rc : Con F cc0_scratch4} (hR : RedOk X c Rc) {off : Fin 2 → ℕ} (e : off = ![16 * c.val, 0]) {inb}
    {hs : (oM.access (Rect.unit (s := S256x512) off S16x512.size inb)).Stores Finset.univ} {hm} {A B R : sProp 𝕄} {Q : PUnit → sProp 𝕄}
    (h : iprop(A ∗ B ∗ RO2 X c Rc ∗ R) ⊢ Q ⟨⟩) :
    iprop(A ∗ B ∗ RO1 (F := F) c Rc ∗ R) ⊢ wpb c (Prog.lift (.store oM (Rect.unit (s := S256x512) off S16x512.size inb) (k0_pay149 (rM.view.read (Elt F) Rc)) Finset.univ hs hm)) Q := by
  subst e
  refine store_any (c := c) (m := oM) (T := (oSl c).view.set) (by rw [View.setOn_univ]) (P' := iprop(A ∗ B ∗ RO2 X c Rc ∗ R)) ?_ h
  unfold RO1 RO2
  iintro ⟨HA, HB, ⟨HP, ⟨%o, HO⟩⟩, HR⟩
  iexists o
  isplitl [HO]; · iexact HO
  iintro HO
  isplitl [HA]; · iexact HA
  isplitl [HB]; · iexact HB
  isplitr [HR]
  · isplitl [HP]; · iexact HP
    iexists _
    isplitr
    swap
    · iexact HO
    · ipureintro
      refine ⟨Rc, hR, ?_⟩
      exact (View.read_write_univ (v := oM.access (rows c)) o _).trans (pay149 _)
  · iexact HR

/-- The result's buffer before and after it is written. -/
def OU (c : Dev nD) : sProp 𝕄 := iprop(∃ o, pcs (F := F) c i5M i5M.view.set o)
def OU2 (c : Dev nD) : sProp 𝕄 := iprop(∃ o, ⌜OutOk X o⌝ ∗ pcs (F := F) c i5M i5M.view.set o)

theorem out_dead (c : Dev nD) {r : LoadRect S256x512} {hl : i5M.view.LoadsAt r} {A B C R : sProp 𝕄} {Q : (r.shape.Idx → Elt F .f32) → sProp 𝕄}
    (h : ∀ v, (iprop(A ∗ B ∗ C ∗ OU (F := F) c ∗ R) ⊢ Q v)) : iprop(A ∗ B ∗ C ∗ OU (F := F) c ∗ R) ⊢ wpb c (Prog.lift (.load i5M r hl)) Q := by
  refine load_ex (whole_sub i5M r) (fun _ => True) ?_ (fun f _ => h _)
  unfold OU
  iintro ⟨HA, HB, HC, ⟨%P, HP⟩, HR⟩
  iexists P
  isplitr; · ipureintro; trivial
  isplitl [HP]; · iexact HP
  iintro HP
  isplitl [HA]; · iexact HA
  isplitl [HB]; · iexact HB
  isplitl [HC]; · iexact HC
  isplitr [HR]
  · iexists P; iexact HP
  · iexact HR

theorem out_store (c : Dev nD) {f : Con F cc0_scratch5} (hf : ∀ j, RowsOk X j f)
    {hs : (i5M.access allRows).Stores Finset.univ} {hm} {A B C R : sProp 𝕄} {Q : PUnit → sProp 𝕄}
    (h : iprop(A ∗ B ∗ C ∗ OU2 X c ∗ R) ⊢ Q ⟨⟩) :
    iprop(A ∗ B ∗ C ∗ OU (F := F) c ∗ R) ⊢ wpb c (Prog.lift (.store i5M allRows (k0_pay150 (oM.view.readAt (Elt F) allRows.toLoadRect f)) Finset.univ hs hm)) Q := by
  refine store_any (access_sub i5M _) (P' := iprop(A ∗ B ∗ C ∗ OU2 X c ∗ R)) ?_ h
  unfold OU OU2
  iintro ⟨HA, HB, HC, ⟨%P, HP⟩, HR⟩
  iexists P
  isplitl [HP]; · iexact HP
  iintro HP
  isplitl [HA]; · iexact HA
  isplitl [HB]; · iexact HB
  isplitl [HC]; · iexact HC
  isplitr [HR]
  · iexists _
    isplitr
    swap
    · iexact HP
    · ipureintro
      exact ⟨f, hf, View.read_write_univ ..⟩
  · iexact HR

theorem part87 {c : Dev nD} {P : Con F cc0_scratch3} (hP : PartOk X c P) {l : List Ob} {ts ds : List (Fin 16)} {R : sProp 𝕄} {Q} {v2}
    (h : ∀ j0 j1 j2 j3, (St X κ c l ts (RsIn c P) (2 :: 1 :: ds) (RsOut (F := F) c) R ⊢ Q ⟨j0, j1, j2, j3, 0#32⟩)) :
    St X κ c (.rr 1 :: .rr 2 :: l) (1 :: 2 :: ts) (RsIn c P) ds (RsOut (F := F) c) R ⊢ wpb c (app (k0_part87 (F := F)) c v2) Q := by
  rw [k0_part87_eq_skeleton]
  refine bind_step (rss X κ c 1 hP (dv46 c) (ro1 c) ?_)
  refine bind_step (rss X κ c 2 hP (dv47 c) (ro2 c) ?_)
  exact pure_step (h _ _ _ _)

theorem part88 {c : Dev nD} {P : Con F cc0_scratch3} (hP : PartOk X c P) {l : List Ob} {ts ds : List (Fin 16)} {R : sProp 𝕄} {Q} {v2 v2977 v2978 v2979 c0_i32_2063}
    (h : ∀ j0 j1, (St X κ c l ts (RsIn c P) (3 :: ds) (RsOut (F := F) c) R ⊢ Q ⟨j0, j1⟩)) :
    St X κ c (.rr 3 :: l) (3 :: ts) (RsIn c P) ds (RsOut (F := F) c) R ⊢ wpb c (app (k0_part88 (F := F)) c v2 v2977 v2978 v2979 c0_i32_2063) Q := by
  rw [k0_part88_eq_skeleton]
  refine bind_step (rss X κ c 3 hP (dv48 c) (ro3 c) ?_)
  exact pure_step (h _ _)

theorem part89 {c : Dev nD} {P : Con F cc0_scratch3} (hP : PartOk X c P) {l : List Ob} {ts ds : List (Fin 16)} {R : sProp 𝕄} {Q} {v2}
    (h : ∀ j0 j1 j2 j3, (St X κ c l ts (RsIn c P) (5 :: 4 :: ds) (RsOut (F := F) c) R ⊢ Q ⟨j0, j1, j2, j3⟩)) :
    St X κ c (.rr 4 :: .rr 5 :: l) (4 :: 5 :: ts) (RsIn c P) ds (RsOut (F := F) c) R ⊢ wpb c (app (k0_part89 (F := F)) c v2) Q := by
  rw [k0_part89_eq_skeleton]
  refine bind_step (rss X κ c 4 hP (dv49 c) (ro4 c) ?_)
  refine bind_step (rss X κ c 5 hP (dv50 c) (ro5 c) ?_)
  exact pure_step (h _ _ _ _)

theorem part90 {c : Dev nD} {P : Con F cc0_scratch3} (hP : PartOk X c P) {l : List Ob} {ts ds : List (Fin 16)} {R : sProp 𝕄} {Q} {v2 v3041 v3046 v3047}
    (h : ∀ j0 j1, (St X κ c l ts (RsIn c P) (7 :: 6 :: ds) (RsOut (F := F) c) R ⊢ Q ⟨j0, j1, 8#32⟩)) :
    St X κ c (.rr 6 :: .rr 7 :: l) (6 :: 7 :: ts) (RsIn c P) ds (RsOut (F := F) c) R ⊢ wpb c (app (k0_part90 (F := F)) c v2 v3041 v3046 v3047) Q := by
  rw [k0_part90_eq_skeleton]
  refine bind_step (rss X κ c 6 hP (dv51 c) (ro6 c) ?_)
  refine bind_step (rss X κ c 7 hP (dv52 c) (ro7 c) ?_)
  exact pure_step (h _ _)

theorem part91 {c : Dev nD} {P : Con F cc0_scratch3} (hP : PartOk X c P) {l : List Ob} {ts ds : List (Fin 16)} {R : sProp 𝕄} {Q} {v2 c8_i32_2138}
    (h : ∀ j0 j1, (St X κ c l ts (RsIn c P) (8 :: ds) (RsOut (F := F) c) R ⊢ Q ⟨j0, j1⟩)) :
    St X κ c (.rr 8 :: l) (8 :: ts) (RsIn c P) ds (RsOut (F := F) c) R ⊢ wpb c (app (k0_part91 (F := F)) c v2 c8_i32_2138) Q := by
  rw [k0_part91_eq_skeleton]
  refine bind_step (rss X κ c 8 hP (dv53 c) (ro8 c) ?_)
  exact pure_step (h _ _)

theorem part92 {c : Dev nD} {P : Con F cc0_scratch3} (hP : PartOk X c P) {l : List Ob} {ts ds : List (Fin 16)} {R : sProp 𝕄} {Q} {v2 v3111}
    (h : ∀ j0 j1 j2, (St X κ c l ts (RsIn c P) (10 :: 9 :: ds) (RsOut (F := F) c) R ⊢ Q ⟨j0, j1, j2⟩)) :
    St X κ c (.rr 9 :: .rr 10 :: l) (9 :: 10 :: ts) (RsIn c P) ds (RsOut (F := F) c) R ⊢ wpb c (app (k0_part92 (F := F)) c v2 v3111) Q := by
  rw [k0_part92_eq_skeleton]
  refine bind_step (rss X κ c 9 hP (dv54 c) (ro9 c) ?_)
  refine bind_step (rss X κ c 10 hP (dv55 c) (ro10 c) ?_)
  exact pure_step (h _ _ _)

theorem part93 {c : Dev nD} {P : Con F cc0_scratch3} (hP : PartOk X c P) {l : List Ob} {ts ds : List (Fin 16)} {R : sProp 𝕄} {Q} {v2 v3143 v3145}
    (h : ∀ j0 j1, (St X κ c l ts (RsIn c P) (11 :: ds) (RsOut (F := F) c) R ⊢ Q ⟨j0, j1⟩)) :
    St X κ c (.rr 11 :: l) (11 :: ts) (RsIn c P) ds (RsOut (F := F) c) R ⊢ wpb c (app (k0_part93 (F := F)) c v2 v3143 v3145) Q := by
  rw [k0_part93_eq_skeleton]
  refine bind_step (rss X κ c 11 hP (dv56 c) (ro11 c) ?_)
  exact pure_step (h _ _)

theorem part94 {c : Dev nD} {P : Con F cc0_scratch3} (hP : PartOk X c P) {l : List Ob} {ts ds : List (Fin 16)} {R : sProp 𝕄} {Q} {v2}
    (h : ∀ j0 j1 j2 j3 j4, (St X κ c l ts (RsIn c P) (13 :: 12 :: ds) (RsOut (F := F) c) R ⊢ Q ⟨j0, j1, j2, j3, j4, 0#32⟩)) :
    St X κ c (.rr 12 :: .rr 13 :: l) (12 :: 13 :: ts) (RsIn c P) ds (RsOut (F := F) c) R ⊢ wpb c (app (k0_part94 (F := F)) c v2) Q := by
  rw [k0_part94_eq_skeleton]
  refine bind_step (rss X κ c 12 hP (dv57 c) (ro12 c) ?_)
  refine bind_step (rss X κ c 13 hP (dv58 c) (ro13 c) ?_)
  exact pure_step (h _ _ _ _ _)

theorem part95 {c : Dev nD} {P : Con F cc0_scratch3} (hP : PartOk X c P) {l : List Ob} {ts ds : List (Fin 16)} {R : sProp 𝕄} {Q} {v2 v3208 v3209 v3210 v3211 c0_i32_2240}
    (h : ∀ j0 j1, (St X κ c l ts (RsIn c P) (14 :: ds) (RsOut (F := F) c) R ⊢ Q ⟨j0, j1⟩)) :
    St X κ c (.rr 14 :: l) (14 :: ts) (RsIn c P) ds (RsOut (F := F) c) R ⊢ wpb c (app (k0_part95 (F := F)) c v2 v3208 v3209 v3210 v3211 c0_i32_2240) Q := by
  rw [k0_part95_eq_skeleton]
  refine bind_step (rss X κ c 14 hP (dv59 c) (ro14 c) ?_)
  exact pure_step (h _ _)

theorem part96 {c : Dev nD} {P : Con F cc0_scratch3} (hP : PartOk X c P) {ds ta tr : List (Fin 16)} {R R2 : sProp 𝕄}
    (hg : St X κ c obAg [] (RsIn c P) (15 :: ds) (RsOut (F := F) c) iprop(pcs c aM (aSl c).view.set P ∗ R2) ⊢ StR X κ c (1 :: 2 :: ta) [] (1 :: tr) [] R) {Q} {v2 v2943}
    (h : ∀ r1, LoadOk X c 1 r1 →  (StR X κ c ta [2, 1] tr [1] R ⊢ Q (k0_pay139 (aM.view.readAt (Elt F) (rows c).toLoadRect P) r1))) :
    St X κ c (.rr 15 :: obAg) [15] (RsIn c P) ds (RsOut (F := F) c) iprop(pcs c aM (aSl c).view.set P ∗ R2) ⊢ wpb c (app (k0_part96 (F := F)) c v2 v2943) Q := by
  rw [k0_part96_eq_skeleton]
  refine bind_step (rss X κ c 15 hP (dv60 c) (ro15 c) ?_)
  refine bind_step (load_any (m := aM) (rows_sub (of63 c)) acc5 ?_)
  refine (hg.trans ?_)
  refine bind_step (raw X κ c 1 ?_)
  refine bind_step (rrw X κ c 1 ?_)
  refine bind_step (rrl X κ c 1 (fun r1 h1 => ?_))
  refine bind_step (raw X κ c 2 ?_)
  refine pure_step ?_
  rw [rows_read (of63 c)]
  exact (h r1 h1)

theorem part97 {c : Dev nD} {ta da tr dr : List (Fin 16)} {R : sProp 𝕄} {Q} {v2964 v2985 v3267}
    (h : ∀ r2, LoadOk X c 2 r2 → ∀ r3, LoadOk X c 3 r3 →  (StR X κ c ta (3 :: da) tr (3 :: 2 :: dr) R ⊢ Q (k0_pay140 v3267 r2 r3))) :
    StR X κ c (3 :: ta) da (2 :: 3 :: tr) dr R ⊢ wpb c (app (k0_part97 (F := F)) c v2964 v2985 v3267) Q := by
  rw [k0_part97_eq_skeleton]
  refine bind_step (rrw X κ c 2 ?_)
  refine bind_step (rrl X κ c 2 (fun r2 h2 => ?_))
  refine bind_step (raw X κ c 3 ?_)
  refine bind_step (rrw X κ c 3 ?_)
  refine bind_step (rrl X κ c 3 (fun r3 h3 => ?_))
  exact pure_step (h r2 h2 r3 h3)

theorem part98 {c : Dev nD} {ta da tr dr : List (Fin 16)} {R : sProp 𝕄} {Q} {v3006 v3027 v3299}
    (h : ∀ r4, LoadOk X c 4 r4 →  (StR X κ c ta (5 :: 4 :: da) tr (4 :: dr) R ⊢ Q (k0_pay141 v3299 r4))) :
    StR X κ c (4 :: 5 :: ta) da (4 :: tr) dr R ⊢ wpb c (app (k0_part98 (F := F)) c v3006 v3027 v3299) Q := by
  rw [k0_part98_eq_skeleton]
  refine bind_step (raw X κ c 4 ?_)
  refine bind_step (rrw X κ c 4 ?_)
  refine bind_step (rrl X κ c 4 (fun r4 h4 => ?_))
  refine bind_step (raw X κ c 5 ?_)
  exact pure_step (h r4 h4)

theorem part99 {c : Dev nD} {ta da tr dr : List (Fin 16)} {R : sProp 𝕄} {Q} {v3048 v3315}
    (h : ∀ r5, LoadOk X c 5 r5 → ∀ r6, LoadOk X c 6 r6 →  (StR X κ c ta (7 :: 6 :: da) tr (6 :: 5 :: dr) R ⊢ Q (k0_pay142 v3315 r5 r6))) :
    StR X κ c (6 :: 7 :: ta) da (5 :: 6 :: tr) dr R ⊢ wpb c (app (k0_part99 (F := F)) c v3048 v3315) Q := by
  rw [k0_part99_eq_skeleton]
  refine bind_step (rrw X κ c 5 ?_)
  refine bind_step (rrl X κ c 5 (fun r5 h5 => ?_))
  refine bind_step (raw X κ c 6 ?_)
  refine bind_step (rrw X κ c 6 ?_)
  refine bind_step (rrl X κ c 6 (fun r6 h6 => ?_))
  refine bind_step (raw X κ c 7 ?_)
  exact pure_step (h r5 h5 r6 h6)

theorem part100 {c : Dev nD} {ta da tr dr : List (Fin 16)} {R : sProp 𝕄} {Q} {v3069 v3090 v3347}
    (h : ∀ r7, LoadOk X c 7 r7 → ∀ r8, LoadOk X c 8 r8 →  (StR X κ c ta (8 :: da) tr (8 :: 7 :: dr) R ⊢ Q (k0_pay143 v3347 r7 r8))) :
    StR X κ c (8 :: ta) da (7 :: 8 :: tr) dr R ⊢ wpb c (app (k0_part100 (F := F)) c v3069 v3090 v3347) Q := by
  rw [k0_part100_eq_skeleton]
  refine bind_step (rrw X κ c 7 ?_)
  refine bind_step (rrl X κ c 7 (fun r7 h7 => ?_))
  refine bind_step (raw X κ c 8 ?_)
  refine bind_step (rrw X κ c 8 ?_)
  refine bind_step (rrl X κ c 8 (fun r8 h8 => ?_))
  exact pure_step (h r7 h7 r8 h8)

theorem part101 {c : Dev nD} {ta da tr dr : List (Fin 16)} {R : sProp 𝕄} {Q} {v3111 v3132 v3379}
    (h : ∀ r9, LoadOk X c 9 r9 →  (StR X κ c ta (10 :: 9 :: da) tr (9 :: dr) R ⊢ Q (k0_pay144 v3379 r9))) :
    StR X κ c (9 :: 10 :: ta) da (9 :: tr) dr R ⊢ wpb c (app (k0_part101 (F := F)) c v3111 v3132 v3379) Q := by
  rw [k0_part101_eq_skeleton]
  refine bind_step (raw X κ c 9 ?_)
  refine bind_step (rrw X κ c 9 ?_)
  refine bind_step (rrl X κ c 9 (fun r9 h9 => ?_))
  refine bind_step (raw X κ c 10 ?_)
  exact pure_step (h r9 h9)

theorem part102 {c : Dev nD} {ta da tr dr : List (Fin 16)} {R : sProp 𝕄} {Q} {v3153 v3395}
    (h : ∀ r10, LoadOk X c 10 r10 → ∀ r11, LoadOk X c 11 r11 →  (StR X κ c ta (12 :: 11 :: da) tr (11 :: 10 :: dr) R ⊢ Q (k0_pay145 v3395 r10 r11))) :
    StR X κ c (11 :: 12 :: ta) da (10 :: 11 :: tr) dr R ⊢ wpb c (app (k0_part102 (F := F)) c v3153 v3395) Q := by
  rw [k0_part102_eq_skeleton]
  refine bind_step (rrw X κ c 10 ?_)
  refine bind_step (rrl X κ c 10 (fun r10 h10 => ?_))
  refine bind_step (raw X κ c 11 ?_)
  refine bind_step (rrw X κ c 11 ?_)
  refine bind_step (rrl X κ c 11 (fun r11 h11 => ?_))
  refine bind_step (raw X κ c 12 ?_)
  exact pure_step (h r10 h10 r11 h11)

theorem part103 {c : Dev nD} {ta da tr dr : List (Fin 16)} {R : sProp 𝕄} {Q} {v3174 v3195 v3427}
    (h : ∀ r12, LoadOk X c 12 r12 → ∀ r13, LoadOk X c 13 r13 →  (StR X κ c ta (13 :: da) tr (13 :: 12 :: dr) R ⊢ Q (k0_pay146 v3427 r12 r13))) :
    StR X κ c (13 :: ta) da (12 :: 13 :: tr) dr R ⊢ wpb c (app (k0_part103 (F := F)) c v3174 v3195 v3427) Q := by
  rw [k0_part103_eq_skeleton]
  refine bind_step (rrw X κ c 12 ?_)
  refine bind_step (rrl X κ c 12 (fun r12 h12 => ?_))
  refine bind_step (raw X κ c 13 ?_)
  refine bind_step (rrw X κ c 13 ?_)
  refine bind_step (rrl X κ c 13 (fun r13 h13 => ?_))
  exact pure_step (h r12 h12 r13 h13)

theorem part104 {c : Dev nD} {ta da tr dr : List (Fin 16)} {R : sProp 𝕄} {Q} {v3216 v3237 v3459}
    (h : ∀ r14, LoadOk X c 14 r14 →  (StR X κ c ta (15 :: 14 :: da) tr (14 :: dr) R ⊢ Q (k0_pay147 v3459 r14))) :
    StR X κ c (14 :: 15 :: ta) da (14 :: tr) dr R ⊢ wpb c (app (k0_part104 (F := F)) c v3216 v3237 v3459) Q := by
  rw [k0_part104_eq_skeleton]
  refine bind_step (raw X κ c 14 ?_)
  refine bind_step (rrw X κ c 14 ?_)
  refine bind_step (rrl X κ c 14 (fun r14 h14 => ?_))
  refine bind_step (raw X κ c 15 ?_)
  exact pure_step (h r14 h14)

theorem part105 {c : Dev nD} {da dr l2 : List (Fin 16)} {R R2 : sProp 𝕄} {R3 : Con F cc0_scratch4 → sProp 𝕄} {v3475 : FVec F S16x512 .f32}
    (hw : ∀ r15, LoadOk X c 15 r15 → ∃ P r, PartOk X c P ∧ (∀ t ∈ tL, LoadOk X c t (r t)) ∧ k0_pay148 v3475 r15 = redSum (aM.view.readAt (Elt F) (rows c).toLoadRect P) r)
    (hg1 : StR X κ c [] da [] (15 :: dr) R ⊢ iprop(Ctx X κ ∗ OW c (owed c obAg) ∗ RO (F := F) c ∗ R2))
    (hg2 : ∀ Rc, RedOk X c Rc → (iprop(Ctx X κ ∗ OW c (owed c obAg) ∗ RO2 X c Rc ∗ R2) ⊢ St X κ c (.ag 1 :: obAg.tail) (1 :: l2) (AgIn c Rc) [] (RsOut (F := F) c) (R3 Rc))) {Q} {v2}
    (h : ∀ Rc, RedOk X c Rc →  ∀ j0, (St X κ c obAg.tail l2 (AgIn c Rc) [1] (RsOut (F := F) c) (R3 Rc) ⊢ Q j0)) :
    StR X κ c [] da [15] dr R ⊢ wpb c (app (k0_part105 (F := F)) c v2 v3475) Q := by
  rw [k0_part105_eq_skeleton]
  refine bind_step (rrw X κ c 15 ?_)
  refine bind_step (rrl X κ c 15 (fun r15 h15 => ?_))
  refine (hg1.trans ?_)
  refine bind_step (red_dead c (fun _ => ?_))
  refine bind_step (red_store X c (hw r15 h15) (fun Rc hR => ?_))
  refine bind_step (red_load c ?_)
  refine bind_step (orow_dead c (of63 c) (fun _ => ?_))
  refine bind_step (orow_store X c hR (of63 c) ?_)
  refine ((hg2 Rc hR).trans ?_)
  refine bind_step (ags X κ c 1 hR (dv61 c) ?_)
  exact pure_step (h Rc hR _)

theorem part106 {c : Dev nD} {Rc : Con F cc0_scratch4} (hR : RedOk X c Rc) {l : List Ob} {ts ds : List (Fin 16)} {R : sProp 𝕄} {Q} {v2}
    (h : ∀ j0 j1, (St X κ c l ts (AgIn c Rc) (2 :: ds) (RsOut (F := F) c) R ⊢ Q ⟨j0, j1⟩)) :
    St X κ c (.ag 2 :: l) (2 :: ts) (AgIn c Rc) ds (RsOut (F := F) c) R ⊢ wpb c (app (k0_part106 (F := F)) c v2) Q := by
  rw [k0_part106_eq_skeleton]
  refine bind_step (ags X κ c 2 hR (dv62 c) ?_)
  exact pure_step (h _ _)

theorem part107 {c : Dev nD} {Rc : Con F cc0_scratch4} (hR : RedOk X c Rc) {l : List Ob} {ts ds : List (Fin 16)} {R : sProp 𝕄} {Q} {v2}
    (h : ∀ j0 j1, (St X κ c l ts (AgIn c Rc) (4 :: 3 :: ds) (RsOut (F := F) c) R ⊢ Q ⟨j0, j1⟩)) :
    St X κ c (.ag 3 :: .ag 4 :: l) (3 :: 4 :: ts) (AgIn c Rc) ds (RsOut (F := F) c) R ⊢ wpb c (app (k0_part107 (F := F)) c v2) Q := by
  rw [k0_part107_eq_skeleton]
  refine bind_step (ags X κ c 3 hR (dv63 c) ?_)
  refine bind_step (ags X κ c 4 hR (dv64 c) ?_)
  exact pure_step (h _ _)

theorem part108 {c : Dev nD} {Rc : Con F cc0_scratch4} (hR : RedOk X c Rc) {l : List Ob} {ts ds : List (Fin 16)} {R : sProp 𝕄} {Q} {v2 v3588}
    (h : ∀ j0 j1 j2 j3 j4, (St X κ c l ts (AgIn c Rc) (6 :: 5 :: ds) (RsOut (F := F) c) R ⊢ Q ⟨j0, j1, j2, j3, j4⟩)) :
    St X κ c (.ag 5 :: .ag 6 :: l) (5 :: 6 :: ts) (AgIn c Rc) ds (RsOut (F := F) c) R ⊢ wpb c (app (k0_part108 (F := F)) c v2 v3588) Q := by
  rw [k0_part108_eq_skeleton]
  refine bind_step (ags X κ c 5 hR (dv65 c) ?_)
  refine bind_step (ags X κ c 6 hR (dv66 c) ?_)
  exact pure_step (h _ _ _ _ _)

theorem part109 {c : Dev nD} {Rc : Con F cc0_scratch4} (hR : RedOk X c Rc) {l : List Ob} {ts ds : List (Fin 16)} {R : sProp 𝕄} {Q} {v2 v3618 v3619 v3620 v3623}
    (h : ∀ j0 j1 j2 j3, (St X κ c l ts (AgIn c Rc) (8 :: 7 :: ds) (RsOut (F := F) c) R ⊢ Q ⟨j0, j1, j2, j3, 0#32⟩)) :
    St X κ c (.ag 7 :: .ag 8 :: l) (7 :: 8 :: ts) (AgIn c Rc) ds (RsOut (F := F) c) R ⊢ wpb c (app (k0_part109 (F := F)) c v2 v3618 v3619 v3620 v3623) Q := by
  rw [k0_part109_eq_skeleton]
  refine bind_step (ags X κ c 7 hR (dv67 c) ?_)
  refine bind_step (ags X κ c 8 hR (dv68 c) ?_)
  exact pure_step (h _ _ _ _)

theorem part110 {c : Dev nD} {Rc : Con F cc0_scratch4} (hR : RedOk X c Rc) {l : List Ob} {ts ds : List (Fin 16)} {R : sProp 𝕄} {Q} {v2 v3656 v3657 c0_i32_2652}
    (h : ∀ j0 j1 j2, (St X κ c l ts (AgIn c Rc) (10 :: 9 :: ds) (RsOut (F := F) c) R ⊢ Q ⟨j0, j1, j2, 16#32⟩)) :
    St X κ c (.ag 9 :: .ag 10 :: l) (9 :: 10 :: ts) (AgIn c Rc) ds (RsOut (F := F) c) R ⊢ wpb c (app (k0_part110 (F := F)) c v2 v3656 v3657 c0_i32_2652) Q := by
  rw [k0_part110_eq_skeleton]
  refine bind_step (ags X κ c 9 hR (dv69 c) ?_)
  refine bind_step (ags X κ c 10 hR (dv70 c) ?_)
  exact pure_step (h _ _ _)

theorem part111 {c : Dev nD} {Rc : Con F cc0_scratch4} (hR : RedOk X c Rc) {l : List Ob} {ts ds : List (Fin 16)} {R : sProp 𝕄} {Q} {v2 v3692 c16_i32_2675}
    (h : ∀ j0 j1, (St X κ c l ts (AgIn c Rc) (11 :: ds) (RsOut (F := F) c) R ⊢ Q ⟨j0, j1⟩)) :
    St X κ c (.ag 11 :: l) (11 :: ts) (AgIn c Rc) ds (RsOut (F := F) c) R ⊢ wpb c (app (k0_part111 (F := F)) c v2 v3692 c16_i32_2675) Q := by
  rw [k0_part111_eq_skeleton]
  refine bind_step (ags X κ c 11 hR (dv71 c) ?_)
  exact pure_step (h _ _)

theorem part112 {c : Dev nD} {Rc : Con F cc0_scratch4} (hR : RedOk X c Rc) {l : List Ob} {ts ds : List (Fin 16)} {R : sProp 𝕄} {Q} {v2}
    (h : ∀ j0 j1 j2, (St X κ c l ts (AgIn c Rc) (13 :: 12 :: ds) (RsOut (F := F) c) R ⊢ Q ⟨j0, j1, j2⟩)) :
    St X κ c (.ag 12 :: .ag 13 :: l) (12 :: 13 :: ts) (AgIn c Rc) ds (RsOut (F := F) c) R ⊢ wpb c (app (k0_part112 (F := F)) c v2) Q := by
  rw [k0_part112_eq_skeleton]
  refine bind_step (ags X κ c 12 hR (dv72 c) ?_)
  refine bind_step (ags X κ c 13 hR (dv73 c) ?_)
  exact pure_step (h _ _ _)

theorem part113 {c : Dev nD} {Rc : Con F cc0_scratch4} (hR : RedOk X c Rc) {ds ta tr : List (Fin 16)} {R R2 : sProp 𝕄}
    (hg : St X κ c [] [] (AgIn c Rc) (15 :: 14 :: ds) (RsOut (F := F) c) R ⊢ StA X κ c (1 :: ta) [] tr [] R2) {Q} {v2 v3512 v3761}
    (h : ∀ j0, (StA X κ c ta [1] tr [] R2 ⊢ Q j0)) :
    St X κ c [.ag 14, .ag 15] [14, 15] (AgIn c Rc) ds (RsOut (F := F) c) R ⊢ wpb c (app (k0_part113 (F := F)) c v2 v3512 v3761) Q := by
  rw [k0_part113_eq_skeleton]
  refine bind_step (ags X κ c 14 hR (dv74 c) ?_)
  refine bind_step (ags X κ c 15 hR (dv75 c) ?_)
  refine (hg.trans ?_)
  refine bind_step (aaw X κ c 1 ?_)
  exact pure_step (h _)

theorem part114 {c : Dev nD} {ta da tr dr : List (Fin 16)} {R : sProp 𝕄} {Q} {v3531 v3550 v3569}
    (h : (StA X κ c ta (4 :: 3 :: 2 :: da) tr (4 :: 3 :: 2 :: 1 :: dr) R ⊢ Q ⟨⟩)) :
    StA X κ c (2 :: 3 :: 4 :: ta) da (1 :: 2 :: 3 :: 4 :: tr) dr R ⊢ wpb c (app (k0_part114 (F := F)) c v3531 v3550 v3569) Q := by
  rw [k0_part114_eq_skeleton]
  refine bind_step (aww X κ c 1 ?_)
  refine bind_step (aaw X κ c 2 ?_)
  refine bind_step (aww X κ c 2 ?_)
  refine bind_step (aaw X κ c 3 ?_)
  refine bind_step (aww X κ c 3 ?_)
  refine bind_step (aaw X κ c 4 ?_)
  refine bind_step (aww X κ c 4 ?_)
  exact pure_step h

theorem part115 {c : Dev nD} {ta da tr dr : List (Fin 16)} {R : sProp 𝕄} {Q} {v3588 v3607 v3626}
    (h : (StA X κ c ta (7 :: 6 :: 5 :: da) tr (7 :: 6 :: 5 :: dr) R ⊢ Q ⟨⟩)) :
    StA X κ c (5 :: 6 :: 7 :: ta) da (5 :: 6 :: 7 :: tr) dr R ⊢ wpb c (app (k0_part115 (F := F)) c v3588 v3607 v3626) Q := by
  rw [k0_part115_eq_skeleton]
  refine bind_step (aaw X κ c 5 ?_)
  refine bind_step (aww X κ c 5 ?_)
  refine bind_step (aaw X κ c 6 ?_)
  refine bind_step (aww X κ c 6 ?_)
  refine bind_step (aaw X κ c 7 ?_)
  refine bind_step (aww X κ c 7 ?_)
  exact pure_step h

theorem part116 {c : Dev nD} {ta da tr dr : List (Fin 16)} {R : sProp 𝕄} {Q} {v3645 v3664 v3683}
    (h : (StA X κ c ta (11 :: 10 :: 9 :: 8 :: da) tr (10 :: 9 :: 8 :: dr) R ⊢ Q ⟨⟩)) :
    StA X κ c (8 :: 9 :: 10 :: 11 :: ta) da (8 :: 9 :: 10 :: tr) dr R ⊢ wpb c (app (k0_part116 (F := F)) c v3645 v3664 v3683) Q := by
  rw [k0_part116_eq_skeleton]
  refine bind_step (aaw X κ c 8 ?_)
  refine bind_step (aww X κ c 8 ?_)
  refine bind_step (aaw X κ c 9 ?_)
  refine bind_step (aww X κ c 9 ?_)
  refine bind_step (aaw X κ c 10 ?_)
  refine bind_step (aww X κ c 10 ?_)
  refine bind_step (aaw X κ c 11 ?_)
  exact pure_step h

theorem part117 {c : Dev nD} {ta da tr dr : List (Fin 16)} {R : sProp 𝕄} {Q} {v3702 v3721 v3740}
    (h : (StA X κ c ta (14 :: 13 :: 12 :: da) tr (13 :: 12 :: 11 :: dr) R ⊢ Q 1#32)) :
    StA X κ c (12 :: 13 :: 14 :: ta) da (11 :: 12 :: 13 :: tr) dr R ⊢ wpb c (app (k0_part117 (F := F)) c v3702 v3721 v3740) Q := by
  rw [k0_part117_eq_skeleton]
  refine bind_step (aww X κ c 11 ?_)
  refine bind_step (aaw X κ c 12 ?_)
  refine bind_step (aww X κ c 12 ?_)
  refine bind_step (aaw X κ c 13 ?_)
  refine bind_step (aww X κ c 13 ?_)
  refine bind_step (aaw X κ c 14 ?_)
  exact pure_step h

theorem part118 {c : Dev nD} {da dr : List (Fin 16)} {R R2 : sProp 𝕄}
    (hg : StA X κ c [] (15 :: da) [] (15 :: 14 :: dr) R ⊢ iprop(∃ f, ⌜∀ j, RowsOk X j f⌝ ∗ (Ctx X κ ∗ OW c (owed c []) ∗ pcs c oM oM.view.set f ∗ OU (F := F) c ∗ R2))) {Q} {v2 v3759 v3778 c1_i32_2862}
    (h : ∀ f,  ∀ j0, (iprop(Ctx X κ ∗ OW c (owed c []) ∗ pcs c oM oM.view.set f ∗ OU2 X c ∗ R2) ⊢ Q j0)) :
    StA X κ c [15] da [14, 15] dr R ⊢ wpb c (app (k0_part118 (F := F)) c v2 v3759 v3778 c1_i32_2862) Q := by
  rw [k0_part118_eq_skeleton]
  refine bind_step (aww X κ c 14 ?_)
  refine bind_step (aaw X κ c 15 ?_)
  refine bind_step (aww X κ c 15 ?_)
  refine (hg.trans (ex_elim fun f hf => ?_))
  refine bind_step (load_any (m := oM) (whole_sub oM _) acc3 ?_)
  refine bind_step (out_dead c (fun _ => ?_))
  refine bind_step (out_store X c hf ?_)
  exact pure_step (h f _)

theorem part119 {c : Dev nD} {ts ds : List (Fin 16 × Fin 2)} {R : sProp 𝕄} {Q} {v2 v3924}
    (h : ∀ j0 j1 j2 j3 j4, (St X κ c [] ts (KwIn (F := F) c) ((1, 1) :: (1, 0) :: ds) (KwOut (F := F) c) R ⊢ Q ⟨j0, j1, j2, j3, j4⟩)) :
    St X κ c [] ((1, 0) :: (1, 1) :: ts) (KwIn (F := F) c) ds (KwOut (F := F) c) R ⊢ wpb c (app (k0_part119 (F := F)) c v2 v3924) Q := by
  rw [k0_part119_eq_skeleton]
  refine kswJ X κ c 1 0 (cd61 c) (fun _ => ⟨_, _, _, _, rfl, credit_p⟩) ?_
  refine kswJ X κ c 1 1 (cd62 c) (fun _ => ⟨_, _, _, _, rfl, credit_p⟩) ?_
  exact pure_step (h _ _ _ _ _)

theorem part120 {c : Dev nD} {ts ds : List (Fin 16 × Fin 2)} {R : sProp 𝕄} {Q} {v2 v3946 v3948 v3949 v3950 v3953}
    (h : ∀ j0 j1 j2, (St X κ c [] ts (KwIn (F := F) c) ((2, 1) :: (2, 0) :: ds) (KwOut (F := F) c) R ⊢ Q ⟨j0, j1, j2, 0#32⟩)) :
    St X κ c [] ((2, 0) :: (2, 1) :: ts) (KwIn (F := F) c) ds (KwOut (F := F) c) R ⊢ wpb c (app (k0_part120 (F := F)) c v2 v3946 v3948 v3949 v3950 v3953) Q := by
  rw [k0_part120_eq_skeleton]
  refine kswJ X κ c 2 0 (cd63 c) (fun _ => ⟨_, _, _, _, rfl, credit_p⟩) ?_
  refine kswJ X κ c 2 1 (cd64 c) (fun _ => ⟨_, _, _, _, rfl, credit_p⟩) ?_
  exact pure_step (h _ _ _)

theorem part121 {c : Dev nD} {ts ds : List (Fin 16 × Fin 2)} {R : sProp 𝕄} {Q} {v2 v3980 v3982 v3983 c0_i32_2944}
    (h : ∀ j0 j1, (St X κ c [] ts (KwIn (F := F) c) ((3, 1) :: (3, 0) :: ds) (KwOut (F := F) c) R ⊢ Q ⟨j0, j1, 3#32⟩)) :
    St X κ c [] ((3, 0) :: (3, 1) :: ts) (KwIn (F := F) c) ds (KwOut (F := F) c) R ⊢ wpb c (app (k0_part121 (F := F)) c v2 v3980 v3982 v3983 c0_i32_2944) Q := by
  rw [k0_part121_eq_skeleton]
  refine kswJ X κ c 3 0 (cd65 c) (fun _ => ⟨_, _, _, _, rfl, credit_p⟩) ?_
  refine kswJ X κ c 3 1 (cd66 c) (fun _ => ⟨_, _, _, _, rfl, credit_p⟩) ?_
  exact pure_step (h _ _)

theorem part122 {c : Dev nD} {ts ds : List (Fin 16 × Fin 2)} {R : sProp 𝕄} {Q} {v2 v4013 v4014 c3_i32_2971}
    (h : (St X κ c [] ts (KwIn (F := F) c) ((4, 1) :: (4, 0) :: ds) (KwOut (F := F) c) R ⊢ Q 2#32)) :
    St X κ c [] ((4, 0) :: (4, 1) :: ts) (KwIn (F := F) c) ds (KwOut (F := F) c) R ⊢ wpb c (app (k0_part122 (F := F)) c v2 v4013 v4014 c3_i32_2971) Q := by
  rw [k0_part122_eq_skeleton]
  refine kswJ X κ c 4 0 (cd67 c) (fun _ => ⟨_, _, _, _, rfl, credit_p⟩) ?_
  refine kswJ X κ c 4 1 (cd68 c) (fun _ => ⟨_, _, _, _, rfl, credit_p⟩) ?_
  exact pure_step h

theorem part123 {c : Dev nD} {ts ds : List (Fin 16 × Fin 2)} {R : sProp 𝕄} {Q} {v2 c2_i32_2998}
    (h : ∀ j0, (St X κ c [] ts (KwIn (F := F) c) ((5, 0) :: ds) (KwOut (F := F) c) R ⊢ Q j0)) :
    St X κ c [] ((5, 0) :: ts) (KwIn (F := F) c) ds (KwOut (F := F) c) R ⊢ wpb c (app (k0_part123 (F := F)) c v2 c2_i32_2998) Q := by
  rw [k0_part123_eq_skeleton]
  refine kswJ X κ c 5 0 (cd69 c) (fun _ => ⟨_, _, _, _, rfl, credit_p⟩) ?_
  exact pure_step (h _)

theorem part124 {c : Dev nD} {ts ds : List (Fin 16 × Fin 2)} {R : sProp 𝕄} {Q} {v2 v4078}
    (h : ∀ j0 j1, (St X κ c [] ts (KwIn (F := F) c) ((6, 0) :: (5, 1) :: ds) (KwOut (F := F) c) R ⊢ Q ⟨j0, j1⟩)) :
    St X κ c [] ((5, 1) :: (6, 0) :: ts) (KwIn (F := F) c) ds (KwOut (F := F) c) R ⊢ wpb c (app (k0_part124 (F := F)) c v2 v4078) Q := by
  rw [k0_part124_eq_skeleton]
  refine kswJ X κ c 5 1 (cd70 c) (fun _ => ⟨_, _, _, _, rfl, credit_p⟩) ?_
  refine kswJ X κ c 6 0 (cd71 c) (fun _ => ⟨_, _, _, _, rfl, credit_p⟩) ?_
  exact pure_step (h _ _)

theorem part125 {c : Dev nD} {ts ds : List (Fin 16 × Fin 2)} {R : sProp 𝕄} {Q} {v2 v4099 v4109}
    (h : ∀ j0 j1 j2 j3 j4, (St X κ c [] ts (KwIn (F := F) c) ((7, 0) :: (6, 1) :: ds) (KwOut (F := F) c) R ⊢ Q ⟨j0, j1, j2, j3, j4⟩)) :
    St X κ c [] ((6, 1) :: (7, 0) :: ts) (KwIn (F := F) c) ds (KwOut (F := F) c) R ⊢ wpb c (app (k0_part125 (F := F)) c v2 v4099 v4109) Q := by
  rw [k0_part125_eq_skeleton]
  refine kswJ X κ c 6 1 (cd72 c) (fun _ => ⟨_, _, _, _, rfl, credit_p⟩) ?_
  refine kswJ X κ c 7 0 (cd73 c) (fun _ => ⟨_, _, _, _, rfl, credit_p⟩) ?_
  exact pure_step (h _ _ _ _ _)

theorem part126 {c : Dev nD} {ts ds : List (Fin 16 × Fin 2)} {R : sProp 𝕄} {Q} {v2 v4133 v4135 v4136 v4137 v4138}
    (h : ∀ j0 j1 j2, (St X κ c [] ts (KwIn (F := F) c) ((8, 0) :: (7, 1) :: ds) (KwOut (F := F) c) R ⊢ Q ⟨j0, j1, 3#32, j2, 1#32⟩)) :
    St X κ c [] ((7, 1) :: (8, 0) :: ts) (KwIn (F := F) c) ds (KwOut (F := F) c) R ⊢ wpb c (app (k0_part126 (F := F)) c v2 v4133 v4135 v4136 v4137 v4138) Q := by
  rw [k0_part126_eq_skeleton]
  refine kswJ X κ c 7 1 (cd74 c) (fun _ => ⟨_, _, _, _, rfl, credit_p⟩) ?_
  refine kswJ X κ c 8 0 (cd75 c) (fun _ => ⟨_, _, _, _, rfl, credit_p⟩) ?_
  exact pure_step (h _ _ _)

theorem part127 {c : Dev nD} {ts ds : List (Fin 16 × Fin 2)} {R : sProp 𝕄} {Q} {v2 v4166 v4167 c3_i32_3106 v4168 c1_i32_3108}
    (h : ∀ j0, (St X κ c [] ts (KwIn (F := F) c) ((9, 0) :: (8, 1) :: ds) (KwOut (F := F) c) R ⊢ Q j0)) :
    St X κ c [] ((8, 1) :: (9, 0) :: ts) (KwIn (F := F) c) ds (KwOut (F := F) c) R ⊢ wpb c (app (k0_part127 (F := F)) c v2 v4166 v4167 c3_i32_3106 v4168 c1_i32_3108) Q := by
  rw [k0_part127_eq_skeleton]
  refine kswJ X κ c 8 1 (cd76 c) (fun _ => ⟨_, _, _, _, rfl, credit_p⟩) ?_
  refine kswJ X κ c 9 0 (cd77 c) (fun _ => ⟨_, _, _, _, rfl, credit_p⟩) ?_
  exact pure_step (h _)

theorem part128 {c : Dev nD} {ts ds : List (Fin 16 × Fin 2)} {R : sProp 𝕄} {Q} {v2 v4200}
    (h : ∀ j0, (St X κ c [] ts (KwIn (F := F) c) ((9, 1) :: ds) (KwOut (F := F) c) R ⊢ Q ⟨j0, 0#32⟩)) :
    St X κ c [] ((9, 1) :: ts) (KwIn (F := F) c) ds (KwOut (F := F) c) R ⊢ wpb c (app (k0_part128 (F := F)) c v2 v4200) Q := by
  rw [k0_part128_eq_skeleton]
  refine kswJ X κ c 9 1 (cd78 c) (fun _ => ⟨_, _, _, _, rfl, credit_p⟩) ?_
  exact pure_step (h _)

theorem part129 {c : Dev nD} {ts ds : List (Fin 16 × Fin 2)} {R : sProp 𝕄} {Q} {v2 v4231 c0_i32_3162}
    (h : ∀ j0, (St X κ c [] ts (KwIn (F := F) c) ((10, 1) :: (10, 0) :: ds) (KwOut (F := F) c) R ⊢ Q j0)) :
    St X κ c [] ((10, 0) :: (10, 1) :: ts) (KwIn (F := F) c) ds (KwOut (F := F) c) R ⊢ wpb c (app (k0_part129 (F := F)) c v2 v4231 c0_i32_3162) Q := by
  rw [k0_part129_eq_skeleton]
  refine kswJ X κ c 10 0 (cd79 c) (fun _ => ⟨_, _, _, _, rfl, credit_p⟩) ?_
  refine kswJ X κ c 10 1 (cd80 c) (fun _ => ⟨_, _, _, _, rfl, credit_p⟩) ?_
  exact pure_step (h _)

theorem part130 {c : Dev nD} {ts ds : List (Fin 16 × Fin 2)} {R : sProp 𝕄} {Q} {v2 v4264}
    (h : ∀ j0 j1 j2 j3 j4, (St X κ c [] ts (KwIn (F := F) c) ((11, 1) :: (11, 0) :: ds) (KwOut (F := F) c) R ⊢ Q ⟨j0, j1, j2, j3, j4⟩)) :
    St X κ c [] ((11, 0) :: (11, 1) :: ts) (KwIn (F := F) c) ds (KwOut (F := F) c) R ⊢ wpb c (app (k0_part130 (F := F)) c v2 v4264) Q := by
  rw [k0_part130_eq_skeleton]
  refine kswJ X κ c 11 0 (cd81 c) (fun _ => ⟨_, _, _, _, rfl, credit_p⟩) ?_
  refine kswJ X κ c 11 1 (cd82 c) (fun _ => ⟨_, _, _, _, rfl, credit_p⟩) ?_
  exact pure_step (h _ _ _ _ _)

theorem part131 {c : Dev nD} {ts ds : List (Fin 16 × Fin 2)} {R : sProp 𝕄} {Q} {v2 v4286 v4288 v4289 v4290 v4293}
    (h : ∀ j0 j1 j2, (St X κ c [] ts (KwIn (F := F) c) ((12, 1) :: (12, 0) :: ds) (KwOut (F := F) c) R ⊢ Q ⟨j0, j1, j2, 0#32⟩)) :
    St X κ c [] ((12, 0) :: (12, 1) :: ts) (KwIn (F := F) c) ds (KwOut (F := F) c) R ⊢ wpb c (app (k0_part131 (F := F)) c v2 v4286 v4288 v4289 v4290 v4293) Q := by
  rw [k0_part131_eq_skeleton]
  refine kswJ X κ c 12 0 (cd83 c) (fun _ => ⟨_, _, _, _, rfl, credit_p⟩) ?_
  refine kswJ X κ c 12 1 (cd84 c) (fun _ => ⟨_, _, _, _, rfl, credit_p⟩) ?_
  exact pure_step (h _ _ _)

theorem part132 {c : Dev nD} {ts ds : List (Fin 16 × Fin 2)} {R : sProp 𝕄} {Q} {v2 v4320 v4322 v4323 c0_i32_3244}
    (h : ∀ j0 j1, (St X κ c [] ts (KwIn (F := F) c) ((13, 1) :: (13, 0) :: ds) (KwOut (F := F) c) R ⊢ Q ⟨j0, j1, 3#32⟩)) :
    St X κ c [] ((13, 0) :: (13, 1) :: ts) (KwIn (F := F) c) ds (KwOut (F := F) c) R ⊢ wpb c (app (k0_part132 (F := F)) c v2 v4320 v4322 v4323 c0_i32_3244) Q := by
  rw [k0_part132_eq_skeleton]
  refine kswJ X κ c 13 0 (cd85 c) (fun _ => ⟨_, _, _, _, rfl, credit_p⟩) ?_
  refine kswJ X κ c 13 1 (cd86 c) (fun _ => ⟨_, _, _, _, rfl, credit_p⟩) ?_
  exact pure_step (h _ _)

theorem part133 {c : Dev nD} {ts ds : List (Fin 16 × Fin 2)} {R : sProp 𝕄} {Q} {v2 v4353 v4354 c3_i32_3271}
    (h : (St X κ c [] ts (KwIn (F := F) c) ((14, 1) :: (14, 0) :: ds) (KwOut (F := F) c) R ⊢ Q 2#32)) :
    St X κ c [] ((14, 0) :: (14, 1) :: ts) (KwIn (F := F) c) ds (KwOut (F := F) c) R ⊢ wpb c (app (k0_part133 (F := F)) c v2 v4353 v4354 c3_i32_3271) Q := by
  rw [k0_part133_eq_skeleton]
  refine kswJ X κ c 14 0 (cd87 c) (fun _ => ⟨_, _, _, _, rfl, credit_p⟩) ?_
  refine kswJ X κ c 14 1 (cd88 c) (fun _ => ⟨_, _, _, _, rfl, credit_p⟩) ?_
  exact pure_step h

theorem part134 {c : Dev nD} {ts ds : List (Fin 16 × Fin 2)} {R : sProp 𝕄} {Q} {v2 c2_i32_3298}
    (h : ∀ j0, (St X κ c [] ts (KwIn (F := F) c) ((15, 0) :: ds) (KwOut (F := F) c) R ⊢ Q j0)) :
    St X κ c [] ((15, 0) :: ts) (KwIn (F := F) c) ds (KwOut (F := F) c) R ⊢ wpb c (app (k0_part134 (F := F)) c v2 c2_i32_3298) Q := by
  rw [k0_part134_eq_skeleton]
  refine kswJ X κ c 15 0 (cd89 c) (fun _ => ⟨_, _, _, _, rfl, credit_p⟩) ?_
  exact pure_step (h _)

end Cert.KernelIdeal.Pf
end
end
-- ==== Proof.Regroup.lean ====
/-
# Regrouping: from whole buffers to pieces and back
-/
module

public import proofs.«01_k».proof.Proof.Parts3

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F)

/-! ## Existential splits and joins -/

/-- A region of unknown contents splits into parts of unknown contents. -/
theorem split_ex {ℓ : Loc nD τ sig} {ι : Type} (U S0 : Finset (Idx ℓ)) (S : ι → Finset (Idx ℓ)) (l : List ι) (hU : U = cover S0 S l) (hl : l.Nodup)
    (h0 : ∀ i ∈ l, Disjoint S0 (S i)) (hS : ∀ i ∈ l, ∀ j ∈ l, i ≠ j → Disjoint (S i) (S j)) :
    (iprop(∃ f : Buf (Elt F) ℓ, ℓ ↦[U]{fullShare} f) : sProp 𝕄)
      ⊢ iprop((∃ f : Buf (Elt F) ℓ, ℓ ↦[S0]{fullShare} f) ∗ sepL l fun i => iprop(∃ f : Buf (Elt F) ℓ, ℓ ↦[S i]{fullShare} f)) := by
  subst hU
  iintro ⟨%f, H⟩
  ihave H := (split_list S0 S l hl h0 hS f) $$ H
  icases H with ⟨H0, HL⟩
  isplitl [H0]; · iexists f; iexact H0
  iapply (sepL_mono (F := F) l fun i _ => (by iintro H; iexists f; iexact H :
    (iprop(ℓ ↦[S i]{fullShare} f) : sProp 𝕄) ⊢ iprop(∃ f : Buf (Elt F) ℓ, ℓ ↦[S i]{fullShare} f)))
  iexact HL

/-- Parts of unknown contents join. -/
theorem join_ex {ℓ : Loc nD τ sig} {ι : Type} (U S0 : Finset (Idx ℓ)) (S : ι → Finset (Idx ℓ)) (l : List ι) (hU : U = cover S0 S l) (hl : l.Nodup)
    (h0 : ∀ i ∈ l, Disjoint S0 (S i)) (hS : ∀ i ∈ l, ∀ j ∈ l, i ≠ j → Disjoint (S i) (S j)) :
    iprop((∃ f : Buf (Elt F) ℓ, ℓ ↦[S0]{fullShare} f) ∗ sepL l fun i => iprop(∃ f : Buf (Elt F) ℓ, ℓ ↦[S i]{fullShare} f))
      ⊢ (iprop(∃ f : Buf (Elt F) ℓ, ℓ ↦[U]{fullShare} f) : sProp 𝕄) := by
  subst hU
  iintro ⟨⟨%f, H0⟩, HL⟩
  ihave HL := (sepL_mono (F := F) l fun i _ => (by iintro ⟨%g, H⟩; iexists g; isplitr; · (ipureintro; trivial)
                                                   iexact H :
    (iprop(∃ f : Buf (Elt F) ℓ, ℓ ↦[S i]{fullShare} f) : sProp 𝕄) ⊢ iprop(∃ f : Buf (Elt F) ℓ, ⌜True⌝ ∗ ℓ ↦[S i]{fullShare} f))) $$ HL
  ihave H := (join_list S0 S l hl h0 hS (fun _ => True) (fun _ _ => True) (fun _ _ _ h => h) (fun _ _ _ _ h => h)) $$ [H0 HL]
  · isplitl [H0]
    · iexists f; isplitr; · (ipureintro; trivial)
      iexact H0
    iexact HL
  icases H with ⟨%g, -, H⟩
  iexists g; iexact H

theorem sepL_map {ι ι' : Type} (f : ι → ι') (l : List ι) (Φ : ι' → sProp 𝕄) : sepL (l.map f) Φ = sepL l (fun i => Φ (f i)) := by
  induction l with
  | nil => rfl
  | cons i l ih => rw [List.map_cons, sepL_cons, sepL_cons, ih]

/-- All pairs of a distance but 0 and a block. -/
def kvL : List (Fin 16 × Fin 2) := [(1,0),(1,1),(2,0),(2,1),(3,0),(3,1),(4,0),(4,1),(5,0),(5,1),(6,0),(6,1),(7,0),(7,1),
  (8,0),(8,1),(9,0),(9,1),(10,0),(10,1),(11,0),(11,1),(12,0),(12,1),(13,0),(13,1),(14,0),(14,1),(15,0),(15,1)]

theorem kvL_eq : kvL = slotsA ++ slotsB := rfl
theorem kvL_nodup : kvL.Nodup := by decide +kernel
theorem tL_nodup : tL.Nodup := by decide
theorem slotsA_nodup : slotsA.Nodup := by decide +kernel
theorem slotsBt_nodup : slotsB.tail.Nodup := by decide +kernel
theorem mem_kvL {i : Fin 16 × Fin 2} : i ∈ kvL ↔ i.1 ≠ 0 := by revert i; decide +kernel
theorem mem_tL {t : Fin 16} : t ∈ tL ↔ t ≠ 0 := by revert t; decide
theorem slotsA_sub {i : Fin 16 × Fin 2} (h : i ∈ slotsA) : i.1 ≠ 0 := by revert i; decide +kernel

/-- A family over the pairs, by distances. -/
theorem sepL_pairs (Φ : Fin 16 × Fin 2 → sProp 𝕄) : sepL kvL Φ = sepL tL (fun t => iprop(Φ (t, 0) ∗ Φ (t, 1))) := by
  have e : ∀ P Q R : sProp 𝕄, iprop((P ∗ Q) ∗ R) = iprop(P ∗ Q ∗ R) := fun P Q R => equiv_iff.mp ⟨Idealize.SL.BI.sep_assoc, Idealize.SL.BI.sep_assoc'⟩
  simp only [kvL, tL, sepL_cons, sepL_nil, e]

/-- A family over the distances, by the opposite distances. -/
theorem sepL_neg (Φ : Fin 16 → sProp 𝕄) : sepL tL Φ = sepL tL (fun t => Φ (neg t)) := by
  rw [← sepL_map neg tL Φ]
  exact sepL_perm tL_nodup (by decide) (by decide) Φ

/-! ## The gathered keys and values -/

variable (c : Dev nD)

theorem own_eq : ownSet c = ownRect.set := View.set_slice_whole _ _

/-- The elements held for the first half, and for the second. -/
def TA : Finset (Idx (gM.view.loc (c : Thread nD τ))) := cover (ownSet c) (fun i : Fin 16 × Fin 2 => (gSl i.1 i.2).view.set) slotsA
def TB : Finset (Idx (gM.view.loc (c : Thread nD τ))) := cover (gSl 8 0).view.set (fun i : Fin 16 × Fin 2 => (gSl i.1 i.2).view.set) slotsB.tail

theorem g_all : gM.view.set = cover (ownSet c) (fun i : Fin 16 × Fin 2 => (gSl i.1 i.2).view.set) kvL := by
  refine Finset.ext fun (x : S4x2048x256.Idx) => ⟨fun _ => ?_, fun _ => (Finset.ext_iff.mp (View.set_whole cc0_scratch1) x).mpr (Finset.mem_univ _)⟩
  rw [mem_cover]
  have hx : (x 1).val < 2048 := (x 1).isLt
  by_cases h : (x 1).val < 128
  · left; rw [own_eq]; exact mem_own.mpr h
  · right
    refine ⟨(⟨(x 1).val / 64 / 2, by omega⟩, ⟨(x 1).val / 64 % 2, by omega⟩), mem_kvL.mpr (fun e => ?_), ?_⟩
    · have : (x 1).val / 64 / 2 = 0 := congrArg Fin.val e
      omega
    · rw [g_set]; refine mem_g.mpr ?_
      show (x 1).val / 64 = 2 * ((x 1).val / 64 / 2) + (x 1).val / 64 % 2
      omega

theorem gs0 : ∀ i ∈ kvL, Disjoint (ownSet c) (gSl i.1 i.2).view.set := fun i hi => by
  rw [own_eq, g_set]; exact own_disj (mem_kvL.mp hi)
theorem gsS : ∀ i ∈ kvL, ∀ j ∈ kvL, i ≠ j → Disjoint (gSl i.1 i.2).view.set (gSl j.1 j.2).view.set := fun i _ j _ h => by
  rw [g_set, g_set]; exact g_disj h

theorem g_split : iprop(∃ g, pcs (F := F) c gM gM.view.set g) ⊢ iprop(OE (F := F) c ∗ sepL kvL fun i => iprop(∃ g, pc (F := F) c (gSl i.1 i.2) g)) := by
  unfold OE pc pcq
  exact split_ex (ℓ := gM.view.loc (c : Thread nD τ)) _ (ownSet c) (fun i : Fin 16 × Fin 2 => (gSl i.1 i.2).view.set) kvL (g_all c) kvL_nodup (gs0 c) gsS

theorem slotIf_congr {i : Fin 16 × Fin 2} {f g : Con F cc0_scratch1} (h : ∀ x ∈ (gSl i.1 i.2).view.set, f x = g x) (hf : SlotIf X c i f) : SlotIf X c i g := by
  intro hn
  obtain ⟨p, h1, h2⟩ := hf hn
  exact ⟨p, h1, (View.read_congr fun x hx => (h x hx).symm).trans h2⟩

theorem gA_join : iprop(OwnE X c ∗ sepL slotsA fun i => iprop(∃ g, ⌜SlotIf X c i g⌝ ∗ pc c (gSl i.1 i.2) g))
    ⊢ iprop(∃ gA, ⌜GAOk X c gA⌝ ∗ pcs c gM (TA c) gA) := by
  unfold OwnE pc pcq TA GAOk
  exact join_list (ℓ := gM.view.loc (c : Thread nD τ)) (ownSet c) (fun i : Fin 16 × Fin 2 => (gSl i.1 i.2).view.set) slotsA slotsA_nodup
    (fun i hi => gs0 c i (mem_kvL.mpr (slotsA_sub hi))) (fun i hi j hj => gsS i (mem_kvL.mpr (slotsA_sub hi)) j (mem_kvL.mpr (slotsA_sub hj)))
    (OwnOk X c) (SlotIf X c) (fun f g h ⟨p, h1, h2⟩ => ⟨p, h1, (View.read_congr fun x hx => (h x hx).symm).trans h2⟩)
    (fun i f g h hf => slotIf_congr X c h hf)

theorem gB_join : iprop(sepL slotsB fun i => iprop(∃ g, ⌜SlotIf X c i g⌝ ∗ pc c (gSl i.1 i.2) g))
    ⊢ iprop(∃ gB, ⌜GBOk X c gB⌝ ∗ pcs c gM (TB c) gB) := by
  rw [show slotsB = (8, 0) :: slotsB.tail from rfl, sepL_cons]
  unfold pc pcq TB
  refine (join_list (ℓ := gM.view.loc (c : Thread nD τ)) (gSl 8 0).view.set (fun i : Fin 16 × Fin 2 => (gSl i.1 i.2).view.set) slotsB.tail slotsBt_nodup
    (fun i hi => gsS (8, 0) (by decide +kernel) i (by revert i; decide +kernel) (by revert i; decide +kernel))
    (fun i hi j hj => gsS i (by revert i; decide +kernel) j (by revert j; decide +kernel))
    (SlotIf X c (8, 0)) (SlotIf X c) (fun f g h hf => slotIf_congr X c h hf)
    (fun i f g h hf => slotIf_congr X c h hf)).trans ?_
  iintro ⟨%g, %hg, H⟩
  iexists g
  isplitr
  · ipureintro
    intro i hi
    rcases List.mem_cons.mp (show i ∈ (8, 0) :: slotsB.tail from hi) with rfl | h
    · exact hg.1
    · exact hg.2 i h
  iexact H

theorem tab_disj : Disjoint (TA c) (TB c) := by
  refine cover_disjoint ?_ fun i hi => ?_
  · refine Disjoint.symm (cover_disjoint (gs0 c (8, 0) (by decide +kernel)).symm fun j hj => (gs0 c j (by revert j; decide +kernel)).symm)
  · refine Disjoint.symm (cover_disjoint (gsS (8, 0) (by decide +kernel) i (by revert i; decide +kernel) (by revert i; decide +kernel)) fun j hj =>
      gsS j (by revert j; decide +kernel) i (by revert i; decide +kernel) (by revert i j; decide +kernel))

theorem tab_all : TA c ∪ TB c = gM.view.set := by
  rw [g_all c]
  refine Finset.ext fun x => ?_
  rw [Finset.mem_union, TA, TB, mem_cover, mem_cover, mem_cover, kvL_eq]
  constructor
  · rintro ((h | ⟨i, hi, h⟩) | (h | ⟨i, hi, h⟩))
    · exact .inl h
    · exact .inr ⟨i, List.mem_append_left _ hi, h⟩
    · exact .inr ⟨(8, 0), List.mem_append_right _ List.mem_cons_self, h⟩
    · exact .inr ⟨i, List.mem_append_right _ (List.mem_cons_of_mem _ hi), h⟩
  · rintro (h | ⟨i, hi, h⟩)
    · exact .inl (.inl h)
    · rcases List.mem_append.mp hi with hi | hi
      · exact .inl (.inr ⟨i, hi, h⟩)
      · rcases List.mem_cons.mp (show i ∈ (8, 0) :: slotsB.tail from hi) with rfl | hi
        · exact .inr (.inl h)
        · exact .inr (.inr ⟨i, hi, h⟩)

theorem gAB_join (gA gB : Con F cc0_scratch1) : iprop(pcs c gM (TA c) gA ∗ pcs c gM (TB c) gB) ⊢ iprop(∃ g, pcs (F := F) c gM gM.view.set g) := by
  rw [← tab_all c]
  iintro H
  ihave H := (pointsTo_join (f := gA) (g := gB) (tab_disj c)) $$ H
  iexists _; iexact H

theorem head_mem {j h : Fin 4} {half : Fin 2} {x : S4x2048x256.Idx} (hx : x ∈ gM.view.setOn (kvHead j half h).toLoadRect.set) : (x 1).val / 1024 = half.val := by
  obtain ⟨y, hy, rfl⟩ := Finset.mem_map.mp hx
  have hy : y ∈ (kvHead j half h).set := hy
  rw [Rect.mem_set_unit] at hy
  have h1 : 1024 * half.val ≤ (y 1).val ∧ (y 1).val < 1024 * half.val + 1024 := hy 1
  show (y 1).val / 1024 = half.val
  omega

theorem headA (j h : Fin 4) : gM.view.setOn (kvHead j 0 h).toLoadRect.set ⊆ TA c := fun (x : S4x2048x256.Idx) hx => by
  have h1 : (x 1).val / 1024 = 0 := head_mem hx
  rw [TA, mem_cover]
  by_cases h : (x 1).val < 128
  · left; rw [own_eq]; exact mem_own.mpr h
  · right
    refine ⟨(⟨(x 1).val / 64 / 2, by omega⟩, ⟨(x 1).val / 64 % 2, by omega⟩), ?_, ?_⟩
    · have key : ∀ i : Fin 16 × Fin 2, i.1 ≠ 0 → i.1.val < 8 → i ∈ slotsA := by decide +kernel
      refine key _ (fun e => ?_) (by show (x 1).val / 64 / 2 < 8; omega)
      have : (x 1).val / 64 / 2 = 0 := congrArg Fin.val e
      omega
    · rw [g_set]; refine mem_g.mpr ?_
      show (x 1).val / 64 = 2 * ((x 1).val / 64 / 2) + (x 1).val / 64 % 2
      omega

theorem headB (j h : Fin 4) : gM.view.setOn (kvHead j 1 h).toLoadRect.set ⊆ TB c := fun (x : S4x2048x256.Idx) hx => by
  have h1 : (x 1).val / 1024 = 1 := head_mem hx
  have key : ∀ i : Fin 16 × Fin 2, 8 ≤ i.1.val → i = (8, 0) ∨ i ∈ slotsB.tail := by decide +kernel
  have hm : x ∈ (gRect (⟨(x 1).val / 64 / 2, by have : (x 1).val < 2048 := (x 1).isLt; omega⟩ : Fin 16) (⟨(x 1).val / 64 % 2, by omega⟩ : Fin 2)).set := by
    refine mem_g.mpr ?_
    show (x 1).val / 64 = 2 * ((x 1).val / 64 / 2) + (x 1).val / 64 % 2
    omega
  rw [TB, mem_cover]
  rcases key (⟨(x 1).val / 64 / 2, by have : (x 1).val < 2048 := (x 1).isLt; omega⟩, ⟨(x 1).val / 64 % 2, by omega⟩) (by show 8 ≤ (x 1).val / 64 / 2; omega) with e | e
  · left
    have e1 := congrArg Prod.fst e
    have e2 := congrArg Prod.snd e
    simp only at e1 e2
    rw [e1, e2] at hm; exact (Finset.ext_iff.mp (g_set 8 0) x).mpr hm
  · right; exact ⟨_, e, (Finset.ext_iff.mp (g_set _ _) x).mpr hm⟩

/-! ## The packed keys and values -/

/-- The device's own two packed blocks. -/
def TP : Finset (Idx (pM.view.loc (c : Thread nD τ))) := (pSl c 0).view.set ∪ (pSl c 1).view.set

theorem ps0 : ∀ i ∈ kvL, Disjoint (TP c) (pSl (dst c i.1) i.2).view.set := fun i hi => by
  have hd : c ≠ dst c i.1 := fun e => mem_kvL.mp hi (dst_inj c (e.symm.trans (dst_zero c).symm))
  rw [TP, p_set, p_set, p_set]
  exact Finset.disjoint_union_left.mpr ⟨p_disj fun h => hd h.1, p_disj fun h => hd h.1⟩
theorem psS : ∀ i ∈ kvL, ∀ j ∈ kvL, i ≠ j → Disjoint (pSl (dst c i.1) i.2).view.set (pSl (dst c j.1) j.2).view.set := fun i _ j _ h => by
  rw [p_set, p_set]; exact p_disj fun e => h (Prod.ext (dst_inj c e.1) e.2)

theorem p_all : pM.view.set = cover (TP c) (fun i : Fin 16 × Fin 2 => (pSl (dst c i.1) i.2).view.set) kvL := by
  refine Finset.ext fun (x : S16x4x128x256.Idx) => ⟨fun _ => ?_, fun _ => (Finset.ext_iff.mp (View.set_whole cc0_scratch0) x).mpr (Finset.mem_univ _)⟩
  rw [mem_cover]
  have hx : (x 0).val < 16 := (x 0).isLt
  have hx2 : (x 2).val < 128 := (x 2).isLt
  have key : ∀ c d : Dev nD, ∃ t : Fin 16, dst c t = d := by decide +kernel
  obtain ⟨t, ht⟩ := key c ⟨(x 0).val, hx⟩
  have hm : x ∈ (pRect (dst c t) (⟨(x 2).val / 64, by omega⟩ : Fin 2)).set := mem_p.mpr ⟨by rw [ht], rfl⟩
  by_cases h : t = 0
  · left
    rw [h, dst_zero] at hm
    have key2 : ∀ b : Fin 2, b = 0 ∨ b = 1 := by decide
    rcases key2 ⟨(x 2).val / 64, by omega⟩ with e | e
    · rw [e] at hm; exact Finset.mem_union_left _ ((Finset.ext_iff.mp (p_set c 0) x).mpr hm)
    · rw [e] at hm; exact Finset.mem_union_right _ ((Finset.ext_iff.mp (p_set c 1) x).mpr hm)
  · right; exact ⟨(t, (⟨(x 2).val / 64, by omega⟩ : Fin 2)), mem_kvL.mpr h, (Finset.ext_iff.mp (p_set (dst c t) (⟨(x 2).val / 64, by omega⟩ : Fin 2)) x).mpr hm⟩

theorem p_split (p : Con F cc0_scratch0) : pcs c pM pM.view.set p ⊢ iprop(pcs c pM (TP c) p ∗ sepL kvL fun i => pc c (pSl (dst c i.1) i.2) p) := by
  rw [p_all c]
  unfold pc pcq
  exact split_list (ℓ := pM.view.loc (c : Thread nD τ)) (TP c) (fun i : Fin 16 × Fin 2 => (pSl (dst c i.1) i.2).view.set) kvL kvL_nodup (ps0 c) (psS c) p
theorem p_join : iprop((∃ p, pcs (F := F) c pM (TP c) p) ∗ sepL kvL fun i => iprop(∃ p, pc (F := F) c (pSl (dst c i.1) i.2) p)) ⊢ iprop(∃ p, pcs (F := F) c pM pM.view.set p) := by
  unfold pc pcq
  exact join_ex (ℓ := pM.view.loc (c : Thread nD τ)) _ (TP c) (fun i : Fin 16 × Fin 2 => (pSl (dst c i.1) i.2).view.set) kvL (p_all c) kvL_nodup (ps0 c) (psS c)

/-! ## The partial rows, the result rows -/

theorem cover_congr {α ι : Type} [DecidableEq α] {S0 S0' : Finset α} {S S' : ι → Finset α} {l : List ι} (h0 : S0 = S0') (h : ∀ i, S i = S' i) :
    cover S0 S l = cover S0' S' l := by rw [h0, show S = S' from funext h]

theorem rows0 : ∀ t ∈ tL, Disjoint (rows c).set (rows (dst c t)).set := fun t ht =>
  rows_disj fun e => mem_tL.mp ht (dst_inj c (e.symm.trans (dst_zero c).symm))
theorem rowsS : ∀ t ∈ tL, ∀ u ∈ tL, t ≠ u → Disjoint (rows (dst c t)).set (rows (dst c u)).set := fun t _ u _ h =>
  rows_disj fun e => h (dst_inj c e)
theorem rows0' : ∀ t ∈ tL, Disjoint (rows c).set (rows (src c t)).set := fun t ht =>
  rows_disj fun e => mem_tL.mp ht (src_inj c (e.symm.trans (src_zero c).symm))
theorem rowsS' : ∀ t ∈ tL, ∀ u ∈ tL, t ≠ u → Disjoint (rows (src c t)).set (rows (src c u)).set := fun t _ u _ h =>
  rows_disj fun e => h (src_inj c e)

theorem rows_all : (Finset.univ : Finset S256x512.Idx) = cover (rows c).set (fun t : Fin 16 => (rows (dst c t)).set) tL := by
  refine Finset.ext fun (x : S256x512.Idx) => ⟨fun _ => ?_, fun _ => Finset.mem_univ _⟩
  rw [mem_cover]
  have hx : (x 0).val < 256 := (x 0).isLt
  have key : ∀ c d : Dev nD, ∃ t : Fin 16, dst c t = d := by decide +kernel
  obtain ⟨t, ht⟩ := key c ⟨(x 0).val / 16, by show _ < 16; omega⟩
  have hm : x ∈ (rows (dst c t)).set := mem_rows.mpr (by rw [ht])
  by_cases h : t = 0
  · left; rw [h, dst_zero] at hm; exact hm
  · right; exact ⟨t, mem_tL.mpr h, hm⟩
theorem rows_all' : (Finset.univ : Finset S256x512.Idx) = cover (rows c).set (fun t : Fin 16 => (rows (src c t)).set) tL := by
  refine Finset.ext fun (x : S256x512.Idx) => ⟨fun _ => ?_, fun _ => Finset.mem_univ _⟩
  rw [mem_cover]
  have hx : (x 0).val < 256 := (x 0).isLt
  have key : ∀ c d : Dev nD, ∃ t : Fin 16, src c t = d := by decide +kernel
  obtain ⟨t, ht⟩ := key c ⟨(x 0).val / 16, by show _ < 16; omega⟩
  have hm : x ∈ (rows (src c t)).set := mem_rows.mpr (by rw [ht])
  by_cases h : t = 0
  · left; rw [h, src_zero] at hm; exact hm
  · right; exact ⟨t, mem_tL.mpr h, hm⟩

theorem a_all : aM.view.set = cover (aSl c).view.set (fun t : Fin 16 => (aSl (dst c t)).view.set) tL := by
  exact (View.set_whole _).trans ((rows_all c).trans (cover_congr (a_set c).symm (fun t => (a_set _).symm)))
theorem as0 : ∀ t ∈ tL, Disjoint (aSl c).view.set (aSl (dst c t)).view.set := fun t ht => by rw [a_set, a_set]; exact rows0 c t ht
theorem asS' : ∀ t ∈ tL, ∀ u ∈ tL, t ≠ u → Disjoint (aSl (dst c t)).view.set (aSl (dst c u)).view.set := fun t ht u hu h => by
  rw [a_set, a_set]; exact rowsS c t ht u hu h
theorem a_split (P : Con F cc0_scratch3) : pcs c aM aM.view.set P ⊢ iprop(pcs c aM (aSl c).view.set P ∗ sepL tL fun t => pc c (aSl (dst c t)) P) := by
  rw [a_all c]
  unfold pc pcq
  exact split_list (ℓ := aM.view.loc (c : Thread nD τ)) (aSl c).view.set (fun t : Fin 16 => (aSl (dst c t)).view.set) tL tL_nodup (as0 c) (asS' c) P
theorem a_join : iprop((∃ P, pcs (F := F) c aM (aSl c).view.set P) ∗ sepL tL fun t => iprop(∃ P, pc (F := F) c (aSl (dst c t)) P)) ⊢ iprop(∃ P, pcs (F := F) c aM aM.view.set P) := by
  unfold pc pcq
  exact join_ex (ℓ := aM.view.loc (c : Thread nD τ)) _ (aSl c).view.set (fun t : Fin 16 => (aSl (dst c t)).view.set) tL (a_all c) tL_nodup (as0 c) (asS' c)

theorem o_all : oM.view.set = cover (oSl c).view.set (fun t : Fin 16 => (oSl (dst c t)).view.set) tL := by
  exact (View.set_whole _).trans ((rows_all c).trans (cover_congr (o_set c).symm (fun t => (o_set _).symm)))
theorem o_all' : oM.view.set = cover (oSl c).view.set (fun t : Fin 16 => (oSl (src c t)).view.set) tL := by
  exact (View.set_whole _).trans ((rows_all' c).trans (cover_congr (o_set c).symm (fun t => (o_set _).symm)))
theorem o_split : iprop(∃ o, pcs (F := F) c oM oM.view.set o) ⊢ iprop((∃ o, pcs (F := F) c oM (oSl c).view.set o) ∗ sepL tL fun t => iprop(∃ o, pc (F := F) c (oSl (dst c t)) o)) := by
  unfold pc pcq
  exact split_ex (ℓ := oM.view.loc (c : Thread nD τ)) _ (oSl c).view.set (fun t : Fin 16 => (oSl (dst c t)).view.set) tL (o_all c) tL_nodup
    (fun t ht => by rw [o_set, o_set]; exact rows0 c t ht) (fun t ht u hu h => by rw [o_set, o_set]; exact rowsS c t ht u hu h)
theorem rowsOk_congr {j : Dev nD} {f g : Con F cc0_scratch5} (h : ∀ x ∈ (oSl j).view.set, f x = g x) (hf : RowsOk X j f) : RowsOk X j g := by
  obtain ⟨R, h1, h2⟩ := hf
  exact ⟨R, h1, (View.read_congr (fun x hx => (h x hx).symm)).trans h2⟩
theorem o_join : iprop((∃ o, ⌜RowsOk X c o⌝ ∗ pcs (F := F) c oM (oSl c).view.set o) ∗ sepL tL fun t => iprop(∃ o, ⌜RowsOk X (src c t) o⌝ ∗ pc c (oSl (src c t)) o))
    ⊢ iprop(∃ f, ⌜∀ j, RowsOk X j f⌝ ∗ pcs (F := F) c oM oM.view.set f) := by
  rw [o_all' c]
  unfold pc pcq
  refine (join_list (ℓ := oM.view.loc (c : Thread nD τ)) (oSl c).view.set (fun t : Fin 16 => (oSl (src c t)).view.set) tL tL_nodup
    (fun t ht => by rw [o_set, o_set]; exact rows0' c t ht) (fun t ht u hu h => by rw [o_set, o_set]; exact rowsS' c t ht u hu h)
    (RowsOk X c) (fun t => RowsOk X (src c t)) (fun f g h hf => rowsOk_congr X h hf) (fun i f g h hf => rowsOk_congr X h hf)).trans ?_
  iintro ⟨%f, %hf, H⟩
  iexists f
  isplitr
  · ipureintro
    intro j
    have key : ∀ c d : Dev nD, ∃ t : Fin 16, src c t = d := by decide +kernel
    obtain ⟨t, ht⟩ := key c j
    by_cases h : t = 0
    · rw [h, src_zero] at ht; rw [← ht]; exact hf.1
    · rw [← ht]; exact hf.2 t (mem_tL.mpr h)
  iexact H

/-! ## The landing slots -/

theorem s_all : sM.view.set = cover (sSl 0).view.set (fun t : Fin 16 => (sSl t).view.set) tL := by
  refine Finset.ext fun (x : S16x16x512.Idx) => ⟨fun _ => ?_, fun _ => (Finset.ext_iff.mp (View.set_whole cc0_scratch6) x).mpr (Finset.mem_univ _)⟩
  rw [mem_cover]
  have hx : (x 0).val < 16 := (x 0).isLt
  have hm : x ∈ (sRect ⟨(x 0).val, hx⟩).set := mem_s.mpr rfl
  by_cases h : (⟨(x 0).val, hx⟩ : Fin 16) = 0
  · left; rw [h] at hm; exact (Finset.ext_iff.mp (s_set 0) x).mpr hm
  · right; exact ⟨_, mem_tL.mpr h, (Finset.ext_iff.mp (s_set _) x).mpr hm⟩
theorem ss0 : ∀ t ∈ tL, Disjoint (sSl 0).view.set (sSl t).view.set := fun t ht => by
  rw [s_set, s_set]; exact s_disj fun e => mem_tL.mp ht e.symm
theorem ssS : ∀ t ∈ tL, ∀ u ∈ tL, t ≠ u → Disjoint (sSl t).view.set (sSl u).view.set := fun t _ u _ h => by
  rw [s_set, s_set]; exact s_disj h
/-- The slot nothing lands in. -/
def S0 : sProp 𝕄 := iprop(∃ s, pcs (F := F) c sM (sSl 0).view.set s)
theorem s_split : iprop(∃ s, pcs (F := F) c sM sM.view.set s) ⊢ iprop(S0 (F := F) c ∗ sepL tL fun t => iprop(∃ s, pc (F := F) c (sSl t) s)) := by
  unfold S0 pc pcq
  exact split_ex (ℓ := sM.view.loc (c : Thread nD τ)) _ (sSl 0).view.set (fun t : Fin 16 => (sSl t).view.set) tL s_all tL_nodup ss0 ssS
theorem s_join : iprop(S0 (F := F) c ∗ sepL tL fun t => iprop(∃ s, pc (F := F) c (sSl t) s)) ⊢ iprop(∃ s, pcs (F := F) c sM sM.view.set s) := by
  unfold S0 pc pcq
  exact join_ex (ℓ := sM.view.loc (c : Thread nD τ)) _ (sSl 0).view.set (fun t : Fin 16 => (sSl t).view.set) tL s_all tL_nodup ss0 ssS

/-! ## The reduced rows, shared out to fifteen copies -/

/-- What is kept of the reduced rows while they are copied. -/
def RK (Rc : Con F cc0_scratch4) : sProp 𝕄 := iprop(pcq c rM (shareDrop fullShare 16) Rc ∗ pcq c rM (shareTok fullShare 16 0) Rc)

theorem univ16 : (Finset.univ : Finset (Fin 16)) = (0 :: tL).toFinset := by decide
theorem r_split (Rc : Con F cc0_scratch4) : pcs c rM rM.view.set Rc ⊢ iprop(RK c Rc ∗ sepL tL fun t => pcq c rM (shareTok fullShare 16 t) Rc) := by
  unfold RK pcq
  refine (pointsTo_toks_split fullShare 16).trans ?_
  rw [univ16, ← sepL_eq_bigSep _ (by decide), sepL_cons]
  iintro ⟨H1, H2, H3⟩
  isplitl [H1 H2]
  · isplitl [H1] <;> iassumption
  iexact H3

theorem r_same (Rc : Con F cc0_scratch4) (l : List (Fin 16)) :
    iprop(pcq c rM (shareDrop fullShare 16) Rc ∗ sepL l fun t => iprop(∃ R, pcq (F := F) c rM (shareTok fullShare 16 t) R))
      ⊢ iprop(pcq c rM (shareDrop fullShare 16) Rc ∗ sepL l fun t => pcq c rM (shareTok fullShare 16 t) Rc) := by
  induction l with
  | nil => exact Entails.refl _
  | cons t l ih =>
    rw [sepL_cons, sepL_cons]
    iintro ⟨H0, ⟨%R, H1⟩, H2⟩
    ihave H := ih $$ [H0 H2]
    · isplitl [H0] <;> iassumption
    icases H with ⟨H0, H2⟩
    ihave %h := (show iprop(pcq c rM (shareDrop fullShare 16) Rc ∗ pcq c rM (shareTok fullShare 16 t) R) ⊢ iprop(⌜∀ i ∈ rM.view.set, Rc i = R i⌝) from by
      unfold pcq
      iintro H
      ihave %h := (pointsTo_agree (f := Rc) (g := R)) $$ H
      ipureintro
      exact fun i hi => (h i (Finset.mem_inter.mpr ⟨hi, hi⟩)).1) $$ [H0 H1]
    · isplitl [H0] <;> iassumption
    isplitl [H0]; · iexact H0
    isplitl [H1]
    · iapply (show pcq c rM (shareTok fullShare 16 t) R ⊢ pcq c rM (shareTok fullShare 16 t) Rc from by
        unfold pcq; exact Entails.of_eq (pointsTo_congr fun i hi => (h i hi).symm))
      iexact H1
    iexact H2

theorem r_join (Rc : Con F cc0_scratch4) : iprop(RK c Rc ∗ sepL tL fun t => iprop(∃ R, pcq (F := F) c rM (shareTok fullShare 16 t) R)) ⊢ iprop(∃ r, pcs (F := F) c rM rM.view.set r) := by
  unfold RK
  iintro ⟨⟨H0, H1⟩, H2⟩
  ihave H := (r_same c Rc tL) $$ [H0 H2]
  · isplitl [H0] <;> iassumption
  icases H with ⟨H0, H2⟩
  iexists Rc
  iapply (show iprop(pcq c rM (shareDrop fullShare 16) Rc ∗ sepL (0 :: tL) fun t => pcq c rM (shareTok fullShare 16 t) Rc) ⊢ pcs c rM rM.view.set Rc from by
    rw [sepL_eq_bigSep _ (by decide), ← univ16]
    unfold pcq
    exact pointsTo_toks_join fullShare 16)
  rw [sepL_cons]
  isplitl [H0]; · iexact H0
  isplitl [H1] <;> iassumption

end Cert.KernelIdeal.Pf
end
end
-- ==== Proof.Deal.lean ====
/-
# Dealing the pieces out: the single regroupings
-/
module

public import proofs.«01_k».proof.Proof.Regroup

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ) (c : Dev nD)

/-! ## What a device starts with -/

/-- The tokens of its barrier signals. -/
def BT : sProp 𝕄 := sepL tL fun t => dutyTok ER (kcell (dst c t, .bar)) 0 (neg t)
/-- The tokens of its key and value copies. -/
def KTi (i : Fin 16 × Fin 2) : sProp 𝕄 :=
  if need c i.2 then iprop(dutyTok ER (kcell (c, .ks i.1 i.2)) 0 0 ∗ dutyTok ER (kcell (dst c i.1, .kr i.1 i.2)) 0 0) else iprop(emp)
def KT : sProp 𝕄 := sepL kvL (KTi (F := F) c)
/-- The tokens of its row copies. -/
def RT0 : sProp 𝕄 := sepL tL fun t => iprop(dutyTok ER (kcell (c, .as t)) 0 0 ∗ dutyTok ER (kcell (dst c t, .rr t)) 0 0)
def RT1 : sProp 𝕄 := sepL tL fun t => iprop(dutyTok ER (kcell (c, .as t)) 1 0 ∗ dutyTok ER (kcell (dst c t, .ag t)) 0 0)
/-- Credit and positions of the waits. -/
def KCi (i : Fin 16 × Fin 2) : sProp 𝕄 :=
  iprop((if need (src c i.1) i.2 then cred (tallyAt (kcell (c, .kr i.1 i.2)) () Nkv) else iprop(emp)) ∗ atPos ER (kcell (c, .kr i.1 i.2)) 0 ∅ 0)
def KC : sProp 𝕄 := sepL kvL (KCi (F := F) c)
def KP : sProp 𝕄 := sepL kvL fun i => atPos ER (kcell (c, .ks i.1 i.2)) 0 ∅ 0
def AP : sProp 𝕄 := sepL tL fun t => atPos ER (kcell (c, .as t)) 0 ∅ 0
def AP1 : sProp 𝕄 := sepL tL fun t => atPos ER (kcell (c, .as t)) 1 ∅ 0
def RRI : sProp 𝕄 := sepL tL (RrIn (F := F) c)
def AWI : sProp 𝕄 := sepL tL (AwIn (F := F) c)
/-- The cells of distance 0, which nothing uses. -/
def zL : List K := [.ks 0 0, .ks 0 1, .kr 0 0, .kr 0 1, .as 0, .rr 0, .ag 0]
def ZP : sProp 𝕄 := sepL zL fun k => atPos ER (kcell (c, k)) 0 ∅ 0

def I01 : sProp 𝕄 := iprop(pcs c i0M i0M.view.set (X c).x ∗ pcs c i1M i1M.view.set (X c).wq)
def I23 : sProp 𝕄 := iprop(pcs c i2M i2M.view.set (X c).k ∗ pcs c i3M i3M.view.set (X c).v)
abbrev I4 : sProp 𝕄 := pcs c i4M i4M.view.set (X c).wo
def P0 : sProp 𝕄 := iprop(∃ p, pcs (F := F) c pM pM.view.set p)
def G0 : sProp 𝕄 := iprop(∃ g, pcs (F := F) c gM gM.view.set g)
def X0 : sProp 𝕄 := iprop(∃ x, pcs (F := F) c xM xM.view.set x)
def A0 : sProp 𝕄 := iprop(∃ P, pcs (F := F) c aM aM.view.set P)
def R0 : sProp 𝕄 := iprop(∃ r, pcs (F := F) c rM rM.view.set r)
def O0 : sProp 𝕄 := iprop(∃ o, pcs (F := F) c oM oM.view.set o)
def SW : sProp 𝕄 := iprop(∃ s, pcs (F := F) c sM sM.view.set s)

/-- What is put aside along the way. -/
def W0 : sProp 𝕄 := sepL kvL (WIn (F := F) c)
def WA : sProp 𝕄 := sepL slotsA (WIn (F := F) c)
def WB : sProp 𝕄 := sepL slotsB (WIn (F := F) c)
def PT : sProp 𝕄 := iprop(∃ p, pcs (F := F) c pM (TP c) p)
def BS : sProp 𝕄 := sepL tL fun t => iprop(∃ s, pc (F := F) (dst c t) (sSl t) s)
def BQ : sProp 𝕄 := sepL tL fun t => iprop(∃ o, pc (F := F) (dst c t) (oSl c) o)
def KO : sProp 𝕄 := sepL kvL (KvOut (F := F) c)
def AO : sProp 𝕄 := iprop(∃ P, pcs (F := F) c aM (aSl c).view.set P)
def OO : sProp 𝕄 := iprop(∃ o, ⌜RowsOk X c o⌝ ∗ pcs (F := F) c oM (oSl c).view.set o)
abbrev VB : sProp 𝕄 := semVal (kcell (c, .bar)) 0
def VKr : sProp 𝕄 := sepL kvL fun i => semVal (kcell (c, .kr i.1 i.2)) 0
def VKrA : sProp 𝕄 := sepL slotsA fun i => semVal (kcell (c, .kr i.1 i.2)) 0
def VKrB : sProp 𝕄 := sepL slotsB fun i => semVal (kcell (c, .kr i.1 i.2)) 0
def VKs : sProp 𝕄 := sepL kvL fun i => semVal (kcell (c, .ks i.1 i.2)) 0
def VAs : sProp 𝕄 := sepL tL fun t => semVal (kcell (c, .as t)) 0
def VRr : sProp 𝕄 := sepL tL fun t => semVal (kcell (c, .rr t)) 0
def VAg : sProp 𝕄 := sepL tL fun t => semVal (kcell (c, .ag t)) 0
def VZ : sProp 𝕄 := sepL zL fun k => semVal (kcell (c, k)) 0
def Slots : sProp 𝕄 := sepL kvL fun i => iprop(∃ g, pc (F := F) c (gSl i.1 i.2) g)
def Lands : sProp 𝕄 := sepL tL fun t => iprop(∃ s, pc (F := F) c (sSl t) s)
def ORows : sProp 𝕄 := sepL tL fun t => iprop(∃ o, pc (F := F) c (oSl (dst c t)) o)

/-! ## The single regroupings -/

/-- A slot goes to the device that will write it, or stays. -/
theorem slot_deal (i : Fin 16 × Fin 2) : iprop((∃ g, pc (F := F) c (gSl i.1 i.2) g) ∗ KCi (F := F) c i)
    ⊢ iprop((if need (src c i.1) i.2 then iprop(∃ g, pc (F := F) c (gSl i.1 i.2) g) else iprop(emp)) ∗ WIn (F := F) c i) := by
  unfold KCi WIn
  by_cases h : need (src c i.1) i.2
  · rw [if_pos h, if_pos h, if_pos h]
  · rw [if_neg h, if_neg h, if_neg h]
    iintro ⟨H1, -, H2⟩
    isplitr; · iempintro
    isplitl [H1] <;> iassumption

theorem src_neg (t : Fin 16) : src c (neg t) = dst c t := by revert c t; decide +kernel
theorem dst_neg (t : Fin 16) : dst c (neg t) = src c t := by revert c t; decide +kernel

/-- The signals' payloads, from the slots and rows the others write. -/
theorem sig_make : iprop(BT (F := F) c ∗ Slots (F := F) c ∗ KC (F := F) c ∗ Lands (F := F) c ∗ ORows (F := F) c)
    ⊢ iprop(sepL tL (SigIn (F := F) c) ∗ W0 (F := F) c) := by
  unfold BT Slots KC Lands ORows W0
  iintro ⟨HB, HS, HK, HL, HO⟩
  ihave H := ((sepL_sep' kvL _ _).trans ((sepL_mono kvL fun i _ => slot_deal (F := F) c i).trans (sepL_sep kvL _ _))) $$ [HS HK]
  · isplitl [HS] <;> iassumption
  icases H with ⟨HS, HW⟩
  isplitr [HW]; swap; · iexact HW
  ihave HS := (Entails.of_eq ((sepL_pairs (F := F) (fun i => iprop(if need (src c i.1) i.2 then iprop(∃ g, pc (F := F) c (gSl i.1 i.2) g) else iprop(emp)))).trans (sepL_neg (F := F) _))) $$ HS
  ihave HL := (Entails.of_eq (sepL_neg (F := F) (fun t => iprop(∃ s, pc (F := F) c (sSl t) s)))) $$ HL
  iapply (show iprop(sepL tL (fun t => dutyTok ER (kcell (dst c t, .bar)) 0 (neg t))
      ∗ sepL tL (fun t => iprop((if need (src c (neg t)) 0 then iprop(∃ g, pc (F := F) c (gSl (neg t) 0) g) else iprop(emp))
          ∗ (if need (src c (neg t)) 1 then iprop(∃ g, pc (F := F) c (gSl (neg t) 1) g) else iprop(emp))))
      ∗ sepL tL (fun t => iprop(∃ s, pc (F := F) c (sSl (neg t)) s)) ∗ sepL tL fun t => iprop(∃ o, pc (F := F) c (oSl (dst c t)) o))
      ⊢ sepL tL (SigIn (F := F) c) from
    (sep_mono_right ((sep_mono_right (sepL_sep' tL _ _)).trans (sepL_sep' tL _ _))).trans ((sepL_sep' tL _ _).trans (sepL_mono tL fun t _ => by
      unfold SigIn barPay
      rw [src_neg, dst_dst_neg]
      iintro ⟨H1, ⟨H2, H3⟩, H4, H5⟩
      isplitl [H1]; · iexact H1
      isplitl [H2]; · iexact H2
      isplitl [H3]; · iexact H3
      isplitl [H4] <;> iassumption)))
  isplitl [HB]; · iexact HB
  isplitl [HS]; · iexact HS
  isplitl [HL] <;> iassumption

/-- What the barrier brings, with the tokens and packed blocks: the key and value copies, and the rows to write. -/
theorem bar_deal (p : Con F cc0_scratch0) : iprop(sepL tL (barPay (F := F) c) ∗ KT (F := F) c ∗ sepL kvL (fun i => pc c (pSl (dst c i.1) i.2) p))
    ⊢ iprop(sepL kvL (KvIn c p) ∗ BS (F := F) c ∗ BQ (F := F) c) := by
  unfold KT BS BQ
  iintro ⟨HB, HK, HP⟩
  ihave HB := ((sepL_mono tL fun t _ => (show barPay (F := F) c t ⊢ iprop(((if need c 0 then iprop(∃ g, pc (F := F) (dst c t) (gSl t 0) g) else iprop(emp))
      ∗ (if need c 1 then iprop(∃ g, pc (F := F) (dst c t) (gSl t 1) g) else iprop(emp)))
      ∗ (∃ s, pc (F := F) (dst c t) (sSl t) s) ∗ (∃ o, pc (F := F) (dst c t) (oSl c) o)) from by
        unfold barPay
        iintro ⟨H1, H2, H3⟩
        isplitl [H1 H2]
        · isplitl [H1] <;> iassumption
        iexact H3)).trans ((sepL_sep tL _ _).trans (sep_mono_right (sepL_sep tL _ _)))) $$ HB
  icases HB with ⟨HG, HS, HO⟩
  isplitr [HS HO]; swap
  · isplitl [HS] <;> iassumption
  ihave HG := (Entails.of_eq (sepL_pairs (F := F) (fun i => iprop(if need c i.2 then iprop(∃ g, pc (F := F) (dst c i.1) (gSl i.1 i.2) g) else iprop(emp)))).symm) $$ HG
  iapply (show iprop(sepL kvL (KTi (F := F) c) ∗ sepL kvL (fun i => if need c i.2 then iprop(∃ g, pc (F := F) (dst c i.1) (gSl i.1 i.2) g) else iprop(emp))
      ∗ sepL kvL (fun i => pc c (pSl (dst c i.1) i.2) p)) ⊢ sepL kvL (KvIn c p) from
    (sep_mono_right (sepL_sep' kvL _ _)).trans ((sepL_sep' kvL _ _).trans (sepL_mono kvL fun i _ => by
    unfold KvIn KTi
    by_cases h : need c i.2
    · rw [if_pos h, if_pos h, if_pos h]
      iintro ⟨⟨H1, H2⟩, H3, H4⟩
      isplitr [H4]; swap; · iexact H4
      isplitl [H1]; · iexact H1
      isplitl [H2] <;> iassumption
    · rw [if_neg h, if_neg h, if_neg h]
      iintro ⟨H1, H3, H4⟩
      isplitl [H1] <;> iassumption)))
  isplitl [HK]; · iexact HK
  isplitl [HG] <;> iassumption

theorem wab : W0 (F := F) c ⊢ iprop(WA (F := F) c ∗ WB (F := F) c) := by
  unfold W0 WA WB; rw [kvL_eq]; exact sepL_append _ _ _
theorem vab : iprop(VKrA (F := F) c ∗ VKrB (F := F) c) ⊢ VKr (F := F) c := by
  unfold VKr VKrA VKrB; rw [kvL_eq]; exact sepL_append' _ _ _

theorem pk_open {l} (hl : ∀ i : Dev nD × Fin 2, i ∈ l) : PK X c l ⊢ iprop(∃ p, ⌜∀ d, PackOk (X c) d p⌝ ∗ (I23 X c ∗ pcs c pM pM.view.set p)) := by
  unfold PK I23
  iintro ⟨H1, H2, %p, %hp, H3⟩
  iexists p
  isplitr; · ipureintro; exact fun d h => hp (d, h) (hl _)
  isplitr [H3]; swap; · iexact H3
  isplitl [H1] <;> iassumption

theorem wo_open (l : List (Fin 16 × Fin 2)) : sepL l (WOut X c)
    ⊢ iprop(sepL l (fun i => semVal (kcell (c, .kr i.1 i.2)) 0) ∗ sepL l fun i => iprop(∃ g, ⌜SlotIf X c i g⌝ ∗ pc c (gSl i.1 i.2) g)) :=
  sepL_sep l _ _

theorem rs_make (P : Con F cc0_scratch3) : iprop(RT0 (F := F) c ∗ BS (F := F) c ∗ sepL tL (fun t => pc c (aSl (dst c t)) P)) ⊢ sepL tL (RsIn c P) := by
  unfold RT0 BS
  refine (sep_mono_right (sepL_sep' tL _ _)).trans ((sepL_sep' tL _ _).trans (sepL_mono tL fun t _ => ?_))
  unfold RsIn
  iintro ⟨⟨H1, H2⟩, H3, H4⟩
  isplitl [H1]; · iexact H1
  isplitl [H2]; · iexact H2
  isplitl [H3] <;> iassumption

theorem ra_make : iprop(sepL tL (RsOut (F := F) c) ∗ AP (F := F) c) ⊢ sepL tL (RaIn (F := F) c) := by
  unfold AP; exact sepL_sep' tL _ _
theorem aa_make : iprop(sepL tL (RsOut (F := F) c) ∗ AP1 (F := F) c) ⊢ sepL tL (AaIn (F := F) c) := by
  unfold AP1; exact sepL_sep' tL _ _
theorem kw_make : iprop(KO (F := F) c ∗ KP (F := F) c) ⊢ sepL kvL (KwIn (F := F) c) := by
  unfold KO KP; exact sepL_sep' kvL _ _

/-- The positions at round 1 and that it is reached, and the partial rows. -/
theorem ra_open : sepL tL (RaOut (F := F) c) ⊢ iprop(AP1 (F := F) c ∗ sepL tL (fun t => reached ER (kcell (c, .as t)) 1) ∗ sepL tL fun t => iprop(∃ P, pc (F := F) c (aSl (dst c t)) P)) := by
  unfold AP1; exact (sepL_sep tL _ _).trans (sep_mono_right (sepL_sep tL _ _))
theorem rr_open : sepL tL (RrOut X c) ⊢ iprop(VRr (F := F) c ∗ sepL tL fun t => iprop(∃ s, pc (F := F) c (sSl t) s)) := by
  unfold VRr
  refine (sepL_sep tL _ _).trans (sep_mono_right (sepL_mono tL fun t _ => ?_))
  iintro ⟨%s, -, H⟩
  iexists s; iexact H
theorem ag_make (Rc : Con F cc0_scratch4) : iprop(RT1 (F := F) c ∗ sepL tL (fun t => reached ER (kcell (c, .as t)) 1) ∗ BQ (F := F) c ∗ sepL tL (fun t => pcq c rM (shareTok fullShare 16 t) Rc))
    ⊢ sepL tL (AgIn c Rc) := by
  unfold RT1 BQ
  refine (sep_mono_right ((sep_mono_right (sepL_sep' tL _ _)).trans (sepL_sep' tL _ _))).trans ((sepL_sep' tL _ _).trans (sepL_mono tL fun t _ => ?_))
  unfold AgIn
  iintro ⟨⟨H1, H2⟩, H3, H4, H5⟩
  isplitl [H1]; · iexact H1
  isplitl [H3]; · iexact H3
  isplitl [H2]; · iexact H2
  isplitl [H4] <;> iassumption
theorem aa_open : sepL tL (AaOut (F := F) c) ⊢ iprop(VAs (F := F) c ∗ sepL tL fun t => iprop(∃ R, pcq (F := F) c rM (shareTok fullShare 16 t) R)) := by
  unfold VAs; exact sepL_sep tL _ _
theorem aw_open : sepL tL (AwOut X c) ⊢ iprop(VAg (F := F) c ∗ sepL tL fun t => iprop(∃ o, ⌜RowsOk X (src c t) o⌝ ∗ pc c (oSl (src c t)) o)) := by
  unfold VAg; exact sepL_sep tL _ _
theorem kw_open : sepL kvL (KwOut (F := F) c) ⊢ iprop(VKs (F := F) c ∗ sepL kvL fun i => iprop(∃ p, pc (F := F) c (pSl (dst c i.1) i.2) p)) := by
  unfold VKs; exact sepL_sep kvL _ _

theorem z_close (l : List K) (hl : ∀ k ∈ l, k ∈ zL) : iprop(Ctx X κ ∗ sepL l fun k => atPos ER (kcell (c, k)) 0 ∅ 0)
    ⊢ iprop(|={Set.univ}=> sepL l fun k => semVal (kcell (c, k)) 0) := by
  induction l with
  | nil => iintro ⟨-, H⟩; imodintro; iexact H
  | cons k l ih =>
    rw [sepL_cons, sepL_cons]
    have hk := hl k List.mem_cons_self
    have key : ∀ k ∈ zL, ∀ c : Dev nD, dut c k 0 = ∅ := by decide +kernel
    iintro ⟨#HC, H1, H2⟩
    imod (close_core X κ c k 0 (fun r' _ => (by
      by_cases h : r' = 0
      · rw [h]; exact key k hk c
      · clear ih; fin_cases hk <;> simp [dut]))) $$ [H1] with H1
    · isplitr; · iexact HC
      iexact H1
    imod (ih fun k hk => hl k (List.mem_cons_of_mem _ hk)) $$ [H2] with H2
    · isplitr; · iexact HC
      iexact H2
    imodintro
    isplitl [H1] <;> iassumption

end Cert.KernelIdeal.Pf
end
end
-- ==== Proof.Phases.lean ====
/-
# The states between the phases
-/
module

public import proofs.«01_k».proof.Proof.Deal

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ) (c : Dev nD)

theorem ro_make : iprop(R0 (F := F) c ∗ ∃ o, pcs (F := F) c oM (oSl c).view.set o) ⊢ RO (F := F) c := Entails.refl _
theorem o_split' : O0 (F := F) c ⊢ iprop((∃ o, pcs (F := F) c oM (oSl c).view.set o) ∗ ORows (F := F) c) := o_split c
theorem pk_make : iprop(I23 X c ∗ P0 (F := F) c) ⊢ PK X c [] := by
  unfold I23 P0 PK
  iintro ⟨⟨H1, H2⟩, %p, H3⟩
  isplitl [H1]; · iexact H1
  isplitl [H2]; · iexact H2
  iexists p
  isplitr; · ipureintro; exact fun _ h => absurd h List.not_mem_nil
  iexact H3

theorem gAB' (gA gB : Con F cc0_scratch1) : iprop(pcs c gM (TA c) gA ∗ pcs c gM (TB c) gB) ⊢ G0 (F := F) c := gAB_join c gA gB
theorem g_split' : G0 (F := F) c ⊢ iprop(OE (F := F) c ∗ Slots (F := F) c) := g_split c
theorem s_split' : SW (F := F) c ⊢ iprop(S0 (F := F) c ∗ Lands (F := F) c) := s_split c
theorem a_join' : iprop(AO (F := F) c ∗ sepL tL fun t => iprop(∃ P, pc (F := F) c (aSl (dst c t)) P)) ⊢ A0 (F := F) c := a_join c
theorem s_join' : iprop(S0 (F := F) c ∗ sepL tL fun t => iprop(∃ s, pc (F := F) c (sSl t) s)) ⊢ SW (F := F) c := s_join c
theorem o_join' : iprop(OO X c ∗ sepL tL fun t => iprop(∃ o, ⌜RowsOk X (src c t) o⌝ ∗ pc c (oSl (src c t)) o))
    ⊢ iprop(∃ f, ⌜∀ j, RowsOk X j f⌝ ∗ pcs (F := F) c oM oM.view.set f) := o_join X c
theorem r_join' (Rc : Con F cc0_scratch4) : iprop(RK c Rc ∗ sepL tL fun t => iprop(∃ R, pcq (F := F) c rM (shareTok fullShare 16 t) R)) ⊢ R0 (F := F) c := r_join c Rc
theorem p_join' : iprop(PT (F := F) c ∗ sepL kvL fun i => iprop(∃ p, pc (F := F) c (pSl (dst c i.1) i.2) p)) ⊢ P0 (F := F) c := p_join c

/-- The launch's resources, ready for the entry barrier. -/
theorem t0 : iprop(Ctx X κ ∗ OW c (owed c (obBar)) ∗ BT (F := F) c ∗ BR (F := F) c ∗ KT (F := F) c ∗ RT0 (F := F) c ∗ RT1 (F := F) c ∗ KC (F := F) c ∗ KP (F := F) c ∗ AP (F := F) c ∗ RRI (F := F) c ∗ AWI (F := F) c ∗ ZP (F := F) c ∗ I01 X c ∗ I23 X c ∗ I4 X c ∗ OU (F := F) c ∗ P0 (F := F) c ∗ G0 (F := F) c ∗ X0 (F := F) c ∗ A0 (F := F) c ∗ R0 (F := F) c ∗ O0 (F := F) c ∗ SW (F := F) c)
    ⊢ iprop(Ctx X κ ∗ OW c (owed c (obBar)) ∗ sepL tL (SigIn (F := F) c) ∗ BR (F := F) c ∗ PK X c [] ∗ OE (F := F) c ∗ W0 (F := F) c ∗ KT (F := F) c ∗ I01 X c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c) := by
  iintro ⟨HC, HO_bar, HBT, HBR, HKT, HRT0, HRT1, HKC, HKP, HAP, HRRI, HAWI, HZP, HI01, HI23, HI4, HOU, HP0, HG0, HX0, HA0, HR0, HO0, HSW⟩
  ihave Htmp := (g_split' (F := F) c) $$ [HG0]
  · iexact HG0
  icases Htmp with ⟨HOE, HSLT⟩
  ihave Htmp := (s_split' (F := F) c) $$ [HSW]
  · iexact HSW
  icases Htmp with ⟨HS0, HLND⟩
  ihave Htmp := (o_split' (F := F) c) $$ [HO0]
  · iexact HO0
  icases Htmp with ⟨HOC, HORW⟩
  ihave HRO := (ro_make (F := F) c) $$ [HR0 HOC]
  · isplitl [HR0]
    · iexact HR0
    iexact HOC
  ihave HPK0 := (pk_make X c) $$ [HI23 HP0]
  · isplitl [HI23]
    · iexact HI23
    iexact HP0
  ihave Htmp := (sig_make (F := F) c) $$ [HBT HSLT HKC HLND HORW]
  · isplitl [HBT]
    · iexact HBT
    isplitl [HSLT]
    · iexact HSLT
    isplitl [HKC]
    · iexact HKC
    isplitl [HLND]
    · iexact HLND
    iexact HORW
  icases Htmp with ⟨HSIG, HW0⟩
  isplitl [HC]
  · iexact HC
  isplitl [HO_bar]
  · iexact HO_bar
  isplitl [HSIG]
  · iexact HSIG
  isplitl [HBR]
  · iexact HBR
  isplitl [HPK0]
  · iexact HPK0
  isplitl [HOE]
  · iexact HOE
  isplitl [HW0]
  · iexact HW0
  isplitl [HKT]
  · iexact HKT
  isplitl [HI01]
  · iexact HI01
  isplitl [HRT0]
  · iexact HRT0
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HI4]
  · iexact HI4
  isplitl [HOU]
  · iexact HOU
  isplitl [HX0]
  · iexact HX0
  isplitl [HA0]
  · iexact HA0
  isplitl [HRO]
  · iexact HRO
  iexact HS0

theorem bo_open : BO (F := F) c ⊢ iprop(VB (F := F) c ∗ sepL tL (barPay (F := F) c)) := Entails.refl _
theorem pt_make (p : Con F cc0_scratch0) : pcs c pM (TP c) p ⊢ PT (F := F) c := by
  unfold PT; iintro H; iexists p; iexact H
theorem nil_make {ι : Type} (Φ : ι → sProp 𝕄) (A : sProp 𝕄) : A ⊢ iprop(sepL [] Φ ∗ A) := BIClass.emp_sep.2

/-- After the barrier and the packing: ready for the key and value copies. -/
theorem t1 {l} (hl : ∀ i : Dev nD × Fin 2, i ∈ l) : iprop(Ctx X κ ∗ OW c (owed c (obKr)) ∗ PK X c l ∗ BO (F := F) c ∗ OwnE X c ∗ W0 (F := F) c ∗ KT (F := F) c ∗ I01 X c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)
    ⊢ iprop(∃ p, ⌜∀ d, PackOk (X c) d p⌝ ∗ (Ctx X κ ∗ OW c (owed c (obKr)) ∗ sepL kvL (KvIn c p) ∗ sepL [] (KvOut (F := F) c) ∗ I01 X c ∗ VB (F := F) c ∗ I23 X c ∗ PT (F := F) c ∗ BS (F := F) c ∗ BQ (F := F) c ∗ OwnE X c ∗ W0 (F := F) c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)) := by
  iintro ⟨HC, HO_kr, HPKl, HBO, HOwnE, HW0, HKT, HI01, HRT0, HRT1, HKP, HAP, HRRI, HAWI, HZP, HI4, HOU, HX0, HA0, HRO, HS0⟩
  ihave Htmp := (pk_open X c hl) $$ [HPKl]
  · iexact HPKl
  icases Htmp with ⟨%p, %hp, HI23, HPP⟩
  ihave Htmp := (bo_open (F := F) c) $$ [HBO]
  · iexact HBO
  icases Htmp with ⟨HVB, HBP⟩
  ihave Htmp := (p_split c p) $$ [HPP]
  · iexact HPP
  icases Htmp with ⟨HPTp, HPSl⟩
  ihave HPT := (pt_make c p) $$ [HPTp]
  · iexact HPTp
  ihave Htmp := (bar_deal c p) $$ [HBP HKT HPSl]
  · isplitl [HBP]
    · iexact HBP
    isplitl [HKT]
    · iexact HKT
    iexact HPSl
  icases Htmp with ⟨HKVI, HBS, HBQ⟩
  ihave Htmp := (nil_make (F := F) (KvOut (F := F) c) _) $$ [HI01]
  · iexact HI01
  icases Htmp with ⟨HKVO0, HI01⟩
  iexists p
  isplitr; · ipureintro; exact hp
  isplitl [HC]
  · iexact HC
  isplitl [HO_kr]
  · iexact HO_kr
  isplitl [HKVI]
  · iexact HKVI
  isplitl [HKVO0]
  · iexact HKVO0
  isplitl [HI01]
  · iexact HI01
  isplitl [HVB]
  · iexact HVB
  isplitl [HI23]
  · iexact HI23
  isplitl [HPT]
  · iexact HPT
  isplitl [HBS]
  · iexact HBS
  isplitl [HBQ]
  · iexact HBQ
  isplitl [HOwnE]
  · iexact HOwnE
  isplitl [HW0]
  · iexact HW0
  isplitl [HRT0]
  · iexact HRT0
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HI4]
  · iexact HI4
  isplitl [HOU]
  · iexact HOU
  isplitl [HX0]
  · iexact HX0
  isplitl [HA0]
  · iexact HA0
  isplitl [HRO]
  · iexact HRO
  iexact HS0

theorem perm_kv (Φ : Fin 16 × Fin 2 → sProp 𝕄) {l : List (Fin 16 × Fin 2)} (hl : l.Nodup) (h : l.toFinset = kvL.toFinset) : sepL l Φ ⊢ sepL kvL Φ :=
  Entails.of_eq (sepL_perm hl kvL_nodup h Φ)
theorem perm_ko {l : List (Fin 16 × Fin 2)} (hl : l.Nodup) (h : l.toFinset = kvL.toFinset) : sepL l (KvOut (F := F) c) ⊢ KO (F := F) c := perm_kv (F := F) _ hl h
theorem perm_t (Φ : Fin 16 → sProp 𝕄) {l : List (Fin 16)} (hl : l.Nodup) (h : l.toFinset = tL.toFinset) : sepL l Φ ⊢ sepL tL Φ :=
  Entails.of_eq (sepL_perm hl tL_nodup h Φ)

/-- The copies started: ready for the first waits. -/
theorem t2 {p : Con F cc0_scratch0} {kds} (hl : kds.Nodup) (h : kds.toFinset = kvL.toFinset) : iprop(Ctx X κ ∗ OW c (owed c (obRr)) ∗ sepL [] (KvIn c p) ∗ sepL kds (KvOut (F := F) c) ∗ I01 X c ∗ VB (F := F) c ∗ I23 X c ∗ PT (F := F) c ∗ BS (F := F) c ∗ BQ (F := F) c ∗ OwnE X c ∗ W0 (F := F) c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)
    ⊢ iprop(Ctx X κ ∗ OW c (owed c (obRr)) ∗ WA (F := F) c ∗ sepL [] (WOut X c) ∗ KO (F := F) c ∗ I01 X c ∗ WB (F := F) c ∗ VB (F := F) c ∗ I23 X c ∗ PT (F := F) c ∗ BS (F := F) c ∗ BQ (F := F) c ∗ OwnE X c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c) := by
  iintro ⟨HC, HO_rr, HKVId, HKVO, HI01, HVB, HI23, HPT, HBS, HBQ, HOwnE, HW0, HRT0, HRT1, HKP, HAP, HRRI, HAWI, HZP, HI4, HOU, HX0, HA0, HRO, HS0⟩
  ihave HKO := (perm_ko (F := F) c hl h) $$ [HKVO]
  · iexact HKVO
  ihave Htmp := (wab (F := F) c) $$ [HW0]
  · iexact HW0
  icases Htmp with ⟨HWA, HWB⟩
  ihave Htmp := (nil_make (F := F) (WOut X c) _) $$ [HI01]
  · iexact HI01
  icases Htmp with ⟨HWO0, HI01⟩
  isplitl [HC]
  · iexact HC
  isplitl [HO_rr]
  · iexact HO_rr
  isplitl [HWA]
  · iexact HWA
  isplitl [HWO0]
  · iexact HWO0
  isplitl [HKO]
  · iexact HKO
  isplitl [HI01]
  · iexact HI01
  isplitl [HWB]
  · iexact HWB
  isplitl [HVB]
  · iexact HVB
  isplitl [HI23]
  · iexact HI23
  isplitl [HPT]
  · iexact HPT
  isplitl [HBS]
  · iexact HBS
  isplitl [HBQ]
  · iexact HBQ
  isplitl [HOwnE]
  · iexact HOwnE
  isplitl [HRT0]
  · iexact HRT0
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HI4]
  · iexact HI4
  isplitl [HOU]
  · iexact HOU
  isplitl [HX0]
  · iexact HX0
  isplitl [HA0]
  · iexact HA0
  isplitl [HRO]
  · iexact HRO
  iexact HS0

theorem perm_a {l : List (Fin 16 × Fin 2)} (hl : l.Nodup) (h : l.toFinset = slotsA.toFinset) : sepL l (WOut X c) ⊢ sepL slotsA (WOut X c) :=
  Entails.of_eq (sepL_perm hl slotsA_nodup h _)
theorem perm_b {l : List (Fin 16 × Fin 2)} (hl : l.Nodup) (h : l.toFinset = slotsB.toFinset) : sepL l (WOut X c) ⊢ sepL slotsB (WOut X c) :=
  Entails.of_eq (sepL_perm hl (by decide +kernel) h _)
theorem woA_open : sepL slotsA (WOut X c) ⊢ iprop(VKrA (F := F) c ∗ sepL slotsA fun i => iprop(∃ g, ⌜SlotIf X c i g⌝ ∗ pc c (gSl i.1 i.2) g)) := wo_open X c _
theorem woB_open : sepL slotsB (WOut X c) ⊢ iprop(VKrB (F := F) c ∗ sepL slotsB fun i => iprop(∃ g, ⌜SlotIf X c i g⌝ ∗ pc c (gSl i.1 i.2) g)) := wo_open X c _

/-- The first half arrived. -/
theorem t3 {ds} (hl : ds.Nodup) (h : ds.toFinset = slotsA.toFinset) : iprop(Ctx X κ ∗ OW c (owed c (obRr)) ∗ sepL [] (WIn (F := F) c) ∗ sepL ds (WOut X c) ∗ KO (F := F) c ∗ I01 X c ∗ WB (F := F) c ∗ VB (F := F) c ∗ I23 X c ∗ PT (F := F) c ∗ BS (F := F) c ∗ BQ (F := F) c ∗ OwnE X c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)
    ⊢ iprop(∃ gA, ⌜GAOk X c gA⌝ ∗ (Ctx X κ ∗ OW c (owed c (obRr)) ∗ pcs c gM (TA c) gA ∗ VKrA (F := F) c ∗ KO (F := F) c ∗ I01 X c ∗ WB (F := F) c ∗ VB (F := F) c ∗ I23 X c ∗ PT (F := F) c ∗ BS (F := F) c ∗ BQ (F := F) c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)) := by
  iintro ⟨HC, HO_rr, HWI0, HWOA, HKO, HI01, HWB, HVB, HI23, HPT, HBS, HBQ, HOwnE, HRT0, HRT1, HKP, HAP, HRRI, HAWI, HZP, HI4, HOU, HX0, HA0, HRO, HS0⟩
  ihave HWOl := (perm_a X c hl h) $$ [HWOA]
  · iexact HWOA
  ihave Htmp := (woA_open X c) $$ [HWOl]
  · iexact HWOl
  icases Htmp with ⟨HVKrA, HSLA⟩
  ihave Htmp := (gA_join X c) $$ [HOwnE HSLA]
  · isplitl [HOwnE]
    · iexact HOwnE
    iexact HSLA
  icases Htmp with ⟨%gA, %hA, HGA⟩
  iexists gA
  isplitr; · ipureintro; exact hA
  isplitl [HC]
  · iexact HC
  isplitl [HO_rr]
  · iexact HO_rr
  isplitl [HGA]
  · iexact HGA
  isplitl [HVKrA]
  · iexact HVKrA
  isplitl [HKO]
  · iexact HKO
  isplitl [HI01]
  · iexact HI01
  isplitl [HWB]
  · iexact HWB
  isplitl [HVB]
  · iexact HVB
  isplitl [HI23]
  · iexact HI23
  isplitl [HPT]
  · iexact HPT
  isplitl [HBS]
  · iexact HBS
  isplitl [HBQ]
  · iexact HBQ
  isplitl [HRT0]
  · iexact HRT0
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HI4]
  · iexact HI4
  isplitl [HOU]
  · iexact HOU
  isplitl [HX0]
  · iexact HX0
  isplitl [HA0]
  · iexact HA0
  isplitl [HRO]
  · iexact HRO
  iexact HS0

/-- Ready for the second waits. -/
theorem t4 (gA : Con F cc0_scratch1) : iprop(Ctx X κ ∗ OW c (owed c (obRr)) ∗ pcs c gM (TA c) gA ∗ VKrA (F := F) c ∗ KO (F := F) c ∗ I01 X c ∗ WB (F := F) c ∗ VB (F := F) c ∗ I23 X c ∗ PT (F := F) c ∗ BS (F := F) c ∗ BQ (F := F) c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)
    ⊢ iprop(Ctx X κ ∗ OW c (owed c (obRr)) ∗ WB (F := F) c ∗ sepL [] (WOut X c) ∗ pcs c gM (TA c) gA ∗ VKrA (F := F) c ∗ KO (F := F) c ∗ I01 X c ∗ VB (F := F) c ∗ I23 X c ∗ PT (F := F) c ∗ BS (F := F) c ∗ BQ (F := F) c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c) := by
  iintro ⟨HC, HO_rr, HGA, HVKrA, HKO, HI01, HWB, HVB, HI23, HPT, HBS, HBQ, HRT0, HRT1, HKP, HAP, HRRI, HAWI, HZP, HI4, HOU, HX0, HA0, HRO, HS0⟩
  ihave Htmp := (nil_make (F := F) (WOut X c) _) $$ [HI01]
  · iexact HI01
  icases Htmp with ⟨HWO0, HI01⟩
  isplitl [HC]
  · iexact HC
  isplitl [HO_rr]
  · iexact HO_rr
  isplitl [HWB]
  · iexact HWB
  isplitl [HWO0]
  · iexact HWO0
  isplitl [HGA]
  · iexact HGA
  isplitl [HVKrA]
  · iexact HVKrA
  isplitl [HKO]
  · iexact HKO
  isplitl [HI01]
  · iexact HI01
  isplitl [HVB]
  · iexact HVB
  isplitl [HI23]
  · iexact HI23
  isplitl [HPT]
  · iexact HPT
  isplitl [HBS]
  · iexact HBS
  isplitl [HBQ]
  · iexact HBQ
  isplitl [HRT0]
  · iexact HRT0
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HI4]
  · iexact HI4
  isplitl [HOU]
  · iexact HOU
  isplitl [HX0]
  · iexact HX0
  isplitl [HA0]
  · iexact HA0
  isplitl [HRO]
  · iexact HRO
  iexact HS0
theorem xs_make (gA gB : Con F cc0_scratch1) : X0 (F := F) c ⊢ XS X c gA gB [] := by
  unfold X0 XS
  iintro ⟨%x, H⟩
  iexists x
  isplitr; · ipureintro; exact fun _ h => absurd h List.not_mem_nil
  iexact H
theorem xs_open (gA gB : Con F cc0_scratch1) {l} : XS X c gA gB l ⊢ X0 (F := F) c := by
  unfold X0 XS
  iintro ⟨%x, -, H⟩
  iexists x; iexact H

/-- The second half arrived. -/
theorem t5 (gA : Con F cc0_scratch1) {ds} (hl : ds.Nodup) (h : ds.toFinset = slotsB.toFinset) : iprop(Ctx X κ ∗ OW c (owed c (obRr)) ∗ sepL [] (WIn (F := F) c) ∗ sepL ds (WOut X c) ∗ pcs c gM (TA c) gA ∗ VKrA (F := F) c ∗ KO (F := F) c ∗ I01 X c ∗ VB (F := F) c ∗ I23 X c ∗ PT (F := F) c ∗ BS (F := F) c ∗ BQ (F := F) c ∗ RT0 (F := F) c ∗ RT1 (F := F) c ∗ KP (F := F) c ∗ AP (F := F) c ∗ RRI (F := F) c ∗ AWI (F := F) c ∗ ZP (F := F) c ∗ I4 X c ∗ OU (F := F) c ∗ X0 (F := F) c ∗ A0 (F := F) c ∗ RO (F := F) c ∗ S0 (F := F) c)
    ⊢ iprop(∃ gB, ⌜GBOk X c gB⌝ ∗ (Ctx X κ ∗ OW c (owed c (obRr)) ∗ XS X c gA gB [] ∗ pcs c gM (TB c) gB ∗ I4 X c ∗ A0 (F := F) c ∗ pcs c gM (TA c) gA ∗ VKrB (F := F) c ∗ VKrA (F := F) c ∗ KO (F := F) c ∗ I01 X c ∗ VB (F := F) c ∗ I23 X c ∗ PT (F := F) c ∗ BS (F := F) c ∗ BQ (F := F) c ∗ RT0 (F := F) c ∗ RT1 (F := F) c ∗ KP (F := F) c ∗ AP (F := F) c ∗ RRI (F := F) c ∗ AWI (F := F) c ∗ ZP (F := F) c ∗ OU (F := F) c ∗ RO (F := F) c ∗ S0 (F := F) c)) := by
  iintro ⟨HC, HO_rr, HWI0, HWOA, HGA, HVKrA, HKO, HI01, HVB, HI23, HPT, HBS, HBQ, HRT0, HRT1, HKP, HAP, HRRI, HAWI, HZP, HI4, HOU, HX0, HA0, HRO, HS0⟩
  ihave HWOm := (perm_b X c hl h) $$ [HWOA]
  · iexact HWOA
  ihave Htmp := (woB_open X c) $$ [HWOm]
  · iexact HWOm
  icases Htmp with ⟨HVKrB, HSLB⟩
  ihave Htmp := (gB_join X c) $$ [HSLB]
  · iexact HSLB
  icases Htmp with ⟨%gB, %hB, HGB⟩
  ihave HXS0 := (xs_make X c gA gB) $$ [HX0]
  · iexact HX0
  iexists gB
  isplitr; · ipureintro; exact hB
  isplitl [HC]
  · iexact HC
  isplitl [HO_rr]
  · iexact HO_rr
  isplitl [HXS0]
  · iexact HXS0
  isplitl [HGB]
  · iexact HGB
  isplitl [HI4]
  · iexact HI4
  isplitl [HA0]
  · iexact HA0
  isplitl [HGA]
  · iexact HGA
  isplitl [HVKrB]
  · iexact HVKrB
  isplitl [HVKrA]
  · iexact HVKrA
  isplitl [HKO]
  · iexact HKO
  isplitl [HI01]
  · iexact HI01
  isplitl [HVB]
  · iexact HVB
  isplitl [HI23]
  · iexact HI23
  isplitl [HPT]
  · iexact HPT
  isplitl [HBS]
  · iexact HBS
  isplitl [HBQ]
  · iexact HBQ
  isplitl [HRT0]
  · iexact HRT0
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HOU]
  · iexact HOU
  isplitl [HRO]
  · iexact HRO
  iexact HS0
theorem po_open : iprop(∃ P, ⌜PartOk X c P⌝ ∗ pcs c aM aM.view.set P) ⊢ iprop(∃ P, ⌜PartOk X c P⌝ ∗ pcs c aM aM.view.set P) := Entails.refl _

/-- The partial result is there: ready for the row copies. -/
theorem t6 (gA gB : Con F cc0_scratch1) {l} : iprop(Ctx X κ ∗ OW c (owed c (obRr)) ∗ XS X c gA gB l ∗ pcs c gM (TB c) gB ∗ I4 X c ∗ (∃ P, ⌜PartOk X c P⌝ ∗ pcs c aM aM.view.set P) ∗ pcs c gM (TA c) gA ∗ VKrB (F := F) c ∗ VKrA (F := F) c ∗ KO (F := F) c ∗ I01 X c ∗ VB (F := F) c ∗ I23 X c ∗ PT (F := F) c ∗ BS (F := F) c ∗ BQ (F := F) c ∗ RT0 (F := F) c ∗ RT1 (F := F) c ∗ KP (F := F) c ∗ AP (F := F) c ∗ RRI (F := F) c ∗ AWI (F := F) c ∗ ZP (F := F) c ∗ OU (F := F) c ∗ RO (F := F) c ∗ S0 (F := F) c)
    ⊢ iprop(∃ P, ⌜PartOk X c P⌝ ∗ (Ctx X κ ∗ OW c (owed c (obRr)) ∗ sepL tL (RsIn c P) ∗ sepL [] (RsOut (F := F) c) ∗ pcs c aM (aSl c).view.set P ∗ VKr (F := F) c ∗ G0 (F := F) c ∗ X0 (F := F) c ∗ I4 X c ∗ KO (F := F) c ∗ I01 X c ∗ VB (F := F) c ∗ I23 X c ∗ PT (F := F) c ∗ BQ (F := F) c ∗ RT1 (F := F) c ∗ KP (F := F) c ∗ AP (F := F) c ∗ RRI (F := F) c ∗ AWI (F := F) c ∗ ZP (F := F) c ∗ OU (F := F) c ∗ RO (F := F) c ∗ S0 (F := F) c)) := by
  iintro ⟨HC, HO_rr, HXSl, HGB, HI4, HPO, HGA, HVKrB, HVKrA, HKO, HI01, HVB, HI23, HPT, HBS, HBQ, HRT0, HRT1, HKP, HAP, HRRI, HAWI, HZP, HOU, HRO, HS0⟩
  ihave Htmp := (po_open X c) $$ [HPO]
  · iexact HPO
  icases Htmp with ⟨%P, %hP, HAP_⟩
  ihave HX0 := (xs_open X c gA gB) $$ [HXSl]
  · iexact HXSl
  ihave HG0 := (gAB' c gA gB) $$ [HGA HGB]
  · isplitl [HGA]
    · iexact HGA
    iexact HGB
  ihave HVKr := (vab (F := F) c) $$ [HVKrA HVKrB]
  · isplitl [HVKrA]
    · iexact HVKrA
    iexact HVKrB
  ihave Htmp := (a_split c P) $$ [HAP_]
  · iexact HAP_
  icases Htmp with ⟨HAOp, HASl⟩
  ihave HRSI := (rs_make c P) $$ [HRT0 HBS HASl]
  · isplitl [HRT0]
    · iexact HRT0
    isplitl [HBS]
    · iexact HBS
    iexact HASl
  ihave Htmp := (nil_make (F := F) (RsOut (F := F) c) _) $$ [HI01]
  · iexact HI01
  icases Htmp with ⟨HRSO0, HI01⟩
  iexists P
  isplitr; · ipureintro; exact hP
  isplitl [HC]
  · iexact HC
  isplitl [HO_rr]
  · iexact HO_rr
  isplitl [HRSI]
  · iexact HRSI
  isplitl [HRSO0]
  · iexact HRSO0
  isplitl [HAOp]
  · iexact HAOp
  isplitl [HVKr]
  · iexact HVKr
  isplitl [HG0]
  · iexact HG0
  isplitl [HX0]
  · iexact HX0
  isplitl [HI4]
  · iexact HI4
  isplitl [HKO]
  · iexact HKO
  isplitl [HI01]
  · iexact HI01
  isplitl [HVB]
  · iexact HVB
  isplitl [HI23]
  · iexact HI23
  isplitl [HPT]
  · iexact HPT
  isplitl [HBQ]
  · iexact HBQ
  isplitl [HRT1]
  · iexact HRT1
  isplitl [HKP]
  · iexact HKP
  isplitl [HAP]
  · iexact HAP
  isplitl [HRRI]
  · iexact HRRI
  isplitl [HAWI]
  · iexact HAWI
  isplitl [HZP]
  · iexact HZP
  isplitl [HOU]
  · iexact HOU
  isplitl [HRO]
  · iexact HRO
  iexact HS0
theorem ao_make (P : Con F cc0_scratch3) : pcs c aM (aSl c).view.set P ⊢ AO (F := F) c := by
  unfold AO; iintro H; iexists P; iexact H
theorem rri_open : RRI (F := F) c ⊢ sepL tL (RrIn (F := F) c) := Entails.refl _
theorem awi_open : AWI (F := F) c ⊢ sepL tL (AwIn (F := F) c) := Entails.refl _

/-- The rows are on their way: ready for the reduction's waits. -/
theorem t7 {P : Con F cc0_scratch3} {ds} (hl : ds.Nodup) (h : ds.toFinset = tL.toFinset) : iprop(Ctx X κ ∗ OW c (owed c (obAg)) ∗ sepL [] (RsIn c P) ∗ sepL ds (RsOut (F := F) c) ∗ pcs c aM (aSl c).view.set P ∗ VKr (F := F) c ∗ G0 (F := F) c ∗ X0 (F := F) c ∗ I4 X c ∗ KO (F := F) c ∗ I01 X c ∗ VB (F := F) c ∗ I23 X c ∗ PT (F := F) c ∗ BQ (F := F) c ∗ RT1 (F := F) c ∗ KP (F := F) c ∗ AP (F := F) c ∗ RRI (F := F) c ∗ AWI (F := F) c ∗ ZP (F := F) c ∗ OU (F := F) c ∗ RO (F := F) c ∗ S0 (F := F) c)
    ⊢ iprop(Ctx X κ ∗ OW c (owed c (obAg)) ∗ sepL tL (RaIn (F := F) c) ∗ sepL [] (RaOut (F := F) c) ∗ sepL tL (RrIn (F := F) c) ∗ sepL [] (RrOut X c) ∗ AO (F := F) c ∗ VKr (F := F) c ∗ G0 (F := F) c ∗ X0 (F := F) c ∗ I4 X c ∗ KO (F := F) c ∗ I01 X c ∗ VB (F := F) c ∗ I23 X c ∗ PT (F := F) c ∗ BQ (F := F) c ∗ RT1 (F := F) c ∗ KP (F := F) c ∗ AWI (F := F) c ∗ ZP (F := F) c ∗ OU (F := F) c ∗ RO (F := F) c ∗ S0 (F := F) c) := by
  iintro ⟨HC, HO_ag, HRSId, HRSO, HAOp, HVKr, HG0, HX0, HI4, HKO, HI01, HVB, HI23, HPT, HBQ, HRT1, HKP, HAP, HRRI, HAWI, HZP, HOU, HRO, HS0⟩
  ihave HRSOt := (perm_t (F := F) (RsOut (F := F) c) hl h) $$ [HRSO]
  · iexact HRSO
  ihave HRAI := (ra_make (F := F) c) $$ [HRSOt HAP]
  · isplitl [HRSOt]
    · iexact HRSOt
    iexact HAP
  ihave HRRIt := (rri_open (F := F) c) $$ [HRRI]
  · iexact HRRI
  ihave HAO := (ao_make c P) $$ [HAOp]
  · iexact HAOp
  ihave Htmp := (nil_make (F := F) (RaOut (F := F) c) _) $$ [HI01]
  · iexact HI01
  icases Htmp with ⟨HRAO0, HI01⟩
  ihave Htmp := (nil_make (F := F) (RrOut X c) _) $$ [HI01]
  · iexact HI01
  icases Htmp with ⟨HRRO0, HI01⟩
  isplitl [HC]
  · iexact HC
  isplitl [HO_ag]
  · iexact HO_ag
  isplitl [HRAI]
  · iexact HRAI
  isplitl [HRAO0]
  · iexact HRAO0
  isplitl [HRRIt]
  · iexact HRRIt
  isplitl [HRRO0]
  · iexact HRRO0
  isplitl [HAO]
  · iexact HAO
  isplitl [HVKr]
  · iexact HVKr
  isplitl [HG0]
  · iexact HG0
  isplitl [HX0]
  · iexact HX0
  isplitl [HI4]
  · iexact HI4
  isplitl [HKO]
  · iexact HKO
  isplitl [HI01]
  · iexact HI01
  isplitl [HVB]
  · iexact HVB
  isplitl [HI23]
  · iexact HI23
  isplitl [HPT]
  · iexact HPT
  isplitl [HBQ]
  · iexact HBQ
  isplitl [HRT1]
  · iexact HRT1
  isplitl [HKP]
  · iexact HKP
  isplitl [HAWI]
  · iexact HAWI
  isplitl [HZP]
  · iexact HZP
  isplitl [HOU]
  · iexact HOU
  isplitl [HRO]
  · iexact HRO
  iexact HS0

/-- All rows arrived. -/
theorem t8 {da dr} (hl : da.Nodup) (h : da.toFinset = tL.toFinset) (hl' : dr.Nodup) (h' : dr.toFinset = tL.toFinset) : iprop(Ctx X κ ∗ OW c (owed c (obAg)) ∗ sepL [] (RaIn (F := F) c) ∗ sepL da (RaOut (F := F) c) ∗ sepL [] (RrIn (F := F) c) ∗ sepL dr (RrOut X c) ∗ AO (F := F) c ∗ VKr (F := F) c ∗ G0 (F := F) c ∗ X0 (F := F) c ∗ I4 X c ∗ KO (F := F) c ∗ I01 X c ∗ VB (F := F) c ∗ I23 X c ∗ PT (F := F) c ∗ BQ (F := F) c ∗ RT1 (F := F) c ∗ KP (F := F) c ∗ AWI (F := F) c ∗ ZP (F := F) c ∗ OU (F := F) c ∗ RO (F := F) c ∗ S0 (F := F) c)
    ⊢ iprop(Ctx X κ ∗ OW c (owed c (obAg)) ∗ RO (F := F) c ∗ AP1 (F := F) c ∗ (sepL tL fun t => reached ER (kcell (c, .as t)) 1) ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ BQ (F := F) c ∗ RT1 (F := F) c ∗ KP (F := F) c ∗ AWI (F := F) c ∗ ZP (F := F) c ∗ OU (F := F) c) := by
  iintro ⟨HC, HO_ag, HRAI0, HRAO, HRRI0, HRRO, HAO, HVKr, HG0, HX0, HI4, HKO, HI01, HVB, HI23, HPT, HBQ, HRT1, HKP, HAWI, HZP, HOU, HRO, HS0⟩
  ihave HRAOt := (perm_t (F := F) (RaOut (F := F) c) hl h) $$ [HRAO]
  · iexact HRAO
  ihave HRROt := (perm_t (F := F) (RrOut X c) hl' h') $$ [HRRO]
  · iexact HRRO
  ihave Htmp := (ra_open (F := F) c) $$ [HRAOt]
  · iexact HRAOt
  icases Htmp with ⟨HAP1, HRCH, HPR⟩
  ihave Htmp := (rr_open X c) $$ [HRROt]
  · iexact HRROt
  icases Htmp with ⟨HVRr, HSL_⟩
  ihave HA0 := (a_join' (F := F) c) $$ [HAO HPR]
  · isplitl [HAO]
    · iexact HAO
    iexact HPR
  ihave HSW := (s_join' (F := F) c) $$ [HS0 HSL_]
  · isplitl [HS0]
    · iexact HS0
    iexact HSL_
  isplitl [HC]
  · iexact HC
  isplitl [HO_ag]
  · iexact HO_ag
  isplitl [HRO]
  · iexact HRO
  isplitl [HAP1]
  · iexact HAP1
  isplitl [HRCH]
  · iexact HRCH
  isplitl [HVRr]
  · iexact HVRr
  isplitl [HA0]
  · iexact HA0
  isplitl [HSW]
  · iexact HSW
  isplitl [HVKr]
  · iexact HVKr
  isplitl [HG0]
  · iexact HG0
  isplitl [HX0]
  · iexact HX0
  isplitl [HI4]
  · iexact HI4
  isplitl [HKO]
  · iexact HKO
  isplitl [HI01]
  · iexact HI01
  isplitl [HVB]
  · iexact HVB
  isplitl [HI23]
  · iexact HI23
  isplitl [HPT]
  · iexact HPT
  isplitl [HBQ]
  · iexact HBQ
  isplitl [HRT1]
  · iexact HRT1
  isplitl [HKP]
  · iexact HKP
  isplitl [HAWI]
  · iexact HAWI
  isplitl [HZP]
  · iexact HZP
  iexact HOU
theorem ro2_open (Rc : Con F cc0_scratch4) : RO2 X c Rc ⊢ iprop(pcs (F := F) c rM rM.view.set Rc ∗ OO X c) := Entails.refl _

/-- The rows are reduced: ready for the gathering's copies. -/
theorem t9 (Rc : Con F cc0_scratch4) : iprop(Ctx X κ ∗ OW c (owed c (obAg)) ∗ RO2 X c Rc ∗ AP1 (F := F) c ∗ (sepL tL fun t => reached ER (kcell (c, .as t)) 1) ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ BQ (F := F) c ∗ RT1 (F := F) c ∗ KP (F := F) c ∗ AWI (F := F) c ∗ ZP (F := F) c ∗ OU (F := F) c)
    ⊢ iprop(Ctx X κ ∗ OW c (owed c (obAg)) ∗ sepL tL (AgIn c Rc) ∗ sepL [] (RsOut (F := F) c) ∗ RK c Rc ∗ OO X c ∗ AP1 (F := F) c ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ KP (F := F) c ∗ AWI (F := F) c ∗ ZP (F := F) c ∗ OU (F := F) c) := by
  iintro ⟨HC, HO_ag, HRO2, HAP1, HRCH, HVRr, HA0, HSW, HVKr, HG0, HX0, HI4, HKO, HI01, HVB, HI23, HPT, HBQ, HRT1, HKP, HAWI, HZP, HOU⟩
  ihave Htmp := (ro2_open X c Rc) $$ [HRO2]
  · iexact HRO2
  icases Htmp with ⟨HRM, HOO⟩
  ihave Htmp := (r_split c Rc) $$ [HRM]
  · iexact HRM
  icases Htmp with ⟨HRK, HRSh⟩
  ihave HAGI := (ag_make c Rc) $$ [HRT1 HRCH HBQ HRSh]
  · isplitl [HRT1]
    · iexact HRT1
    isplitl [HRCH]
    · iexact HRCH
    isplitl [HBQ]
    · iexact HBQ
    iexact HRSh
  ihave Htmp := (nil_make (F := F) (RsOut (F := F) c) _) $$ [HI01]
  · iexact HI01
  icases Htmp with ⟨HRSO0, HI01⟩
  isplitl [HC]
  · iexact HC
  isplitl [HO_ag]
  · iexact HO_ag
  isplitl [HAGI]
  · iexact HAGI
  isplitl [HRSO0]
  · iexact HRSO0
  isplitl [HRK]
  · iexact HRK
  isplitl [HOO]
  · iexact HOO
  isplitl [HAP1]
  · iexact HAP1
  isplitl [HVRr]
  · iexact HVRr
  isplitl [HA0]
  · iexact HA0
  isplitl [HSW]
  · iexact HSW
  isplitl [HVKr]
  · iexact HVKr
  isplitl [HG0]
  · iexact HG0
  isplitl [HX0]
  · iexact HX0
  isplitl [HI4]
  · iexact HI4
  isplitl [HKO]
  · iexact HKO
  isplitl [HI01]
  · iexact HI01
  isplitl [HVB]
  · iexact HVB
  isplitl [HI23]
  · iexact HI23
  isplitl [HPT]
  · iexact HPT
  isplitl [HKP]
  · iexact HKP
  isplitl [HAWI]
  · iexact HAWI
  isplitl [HZP]
  · iexact HZP
  iexact HOU

/-- Ready for the gathering's waits. -/
theorem t10 (Rc : Con F cc0_scratch4) {ds} (hl : ds.Nodup) (h : ds.toFinset = tL.toFinset) : iprop(Ctx X κ ∗ OW c (owed c ([])) ∗ sepL [] (AgIn c Rc) ∗ sepL ds (RsOut (F := F) c) ∗ RK c Rc ∗ OO X c ∗ AP1 (F := F) c ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ KP (F := F) c ∗ AWI (F := F) c ∗ ZP (F := F) c ∗ OU (F := F) c)
    ⊢ iprop(Ctx X κ ∗ OW c (owed c ([])) ∗ sepL tL (AaIn (F := F) c) ∗ sepL [] (AaOut (F := F) c) ∗ sepL tL (AwIn (F := F) c) ∗ sepL [] (AwOut X c) ∗ RK c Rc ∗ OO X c ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ KP (F := F) c ∗ ZP (F := F) c ∗ OU (F := F) c) := by
  iintro ⟨HC, HO_0, HAGId, HRSO, HRK, HOO, HAP1, HVRr, HA0, HSW, HVKr, HG0, HX0, HI4, HKO, HI01, HVB, HI23, HPT, HKP, HAWI, HZP, HOU⟩
  ihave HRSOt := (perm_t (F := F) (RsOut (F := F) c) hl h) $$ [HRSO]
  · iexact HRSO
  ihave HAAI := (aa_make (F := F) c) $$ [HRSOt HAP1]
  · isplitl [HRSOt]
    · iexact HRSOt
    iexact HAP1
  ihave HAWIt := (awi_open (F := F) c) $$ [HAWI]
  · iexact HAWI
  ihave Htmp := (nil_make (F := F) (AaOut (F := F) c) _) $$ [HI01]
  · iexact HI01
  icases Htmp with ⟨HAAO0, HI01⟩
  ihave Htmp := (nil_make (F := F) (AwOut X c) _) $$ [HI01]
  · iexact HI01
  icases Htmp with ⟨HAWO0, HI01⟩
  isplitl [HC]
  · iexact HC
  isplitl [HO_0]
  · iexact HO_0
  isplitl [HAAI]
  · iexact HAAI
  isplitl [HAAO0]
  · iexact HAAO0
  isplitl [HAWIt]
  · iexact HAWIt
  isplitl [HAWO0]
  · iexact HAWO0
  isplitl [HRK]
  · iexact HRK
  isplitl [HOO]
  · iexact HOO
  isplitl [HVRr]
  · iexact HVRr
  isplitl [HA0]
  · iexact HA0
  isplitl [HSW]
  · iexact HSW
  isplitl [HVKr]
  · iexact HVKr
  isplitl [HG0]
  · iexact HG0
  isplitl [HX0]
  · iexact HX0
  isplitl [HI4]
  · iexact HI4
  isplitl [HKO]
  · iexact HKO
  isplitl [HI01]
  · iexact HI01
  isplitl [HVB]
  · iexact HVB
  isplitl [HI23]
  · iexact HI23
  isplitl [HPT]
  · iexact HPT
  isplitl [HKP]
  · iexact HKP
  isplitl [HZP]
  · iexact HZP
  iexact HOU

/-- Everything is gathered. -/
theorem t11 (Rc : Con F cc0_scratch4) {da dr} (hl : da.Nodup) (h : da.toFinset = tL.toFinset) (hl' : dr.Nodup) (h' : dr.toFinset = tL.toFinset) : iprop(Ctx X κ ∗ OW c (owed c ([])) ∗ sepL [] (AaIn (F := F) c) ∗ sepL da (AaOut (F := F) c) ∗ sepL [] (AwIn (F := F) c) ∗ sepL dr (AwOut X c) ∗ RK c Rc ∗ OO X c ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ KP (F := F) c ∗ ZP (F := F) c ∗ OU (F := F) c)
    ⊢ iprop(∃ f, ⌜∀ j, RowsOk X j f⌝ ∗ (Ctx X κ ∗ OW c (owed c ([])) ∗ pcs (F := F) c oM oM.view.set f ∗ OU (F := F) c ∗ R0 (F := F) c ∗ VAs (F := F) c ∗ VAg (F := F) c ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ KP (F := F) c ∗ ZP (F := F) c)) := by
  iintro ⟨HC, HO_0, HAAI0, HAAO, HAWI0, HAWO, HRK, HOO, HVRr, HA0, HSW, HVKr, HG0, HX0, HI4, HKO, HI01, HVB, HI23, HPT, HKP, HZP, HOU⟩
  ihave HAAOt := (perm_t (F := F) (AaOut (F := F) c) hl h) $$ [HAAO]
  · iexact HAAO
  ihave HAWOt := (perm_t (F := F) (AwOut X c) hl' h') $$ [HAWO]
  · iexact HAWO
  ihave Htmp := (aa_open (F := F) c) $$ [HAAOt]
  · iexact HAAOt
  icases Htmp with ⟨HVAs, HRX⟩
  ihave Htmp := (aw_open X c) $$ [HAWOt]
  · iexact HAWOt
  icases Htmp with ⟨HVAg, HOX⟩
  ihave HR0 := (r_join' c Rc) $$ [HRK HRX]
  · isplitl [HRK]
    · iexact HRK
    iexact HRX
  ihave Htmp := (o_join' X c) $$ [HOO HOX]
  · isplitl [HOO]
    · iexact HOO
    iexact HOX
  icases Htmp with ⟨%f, %hf, HOF⟩
  iexists f
  isplitr; · ipureintro; exact hf
  isplitl [HC]
  · iexact HC
  isplitl [HO_0]
  · iexact HO_0
  isplitl [HOF]
  · iexact HOF
  isplitl [HOU]
  · iexact HOU
  isplitl [HR0]
  · iexact HR0
  isplitl [HVAs]
  · iexact HVAs
  isplitl [HVAg]
  · iexact HVAg
  isplitl [HVRr]
  · iexact HVRr
  isplitl [HA0]
  · iexact HA0
  isplitl [HSW]
  · iexact HSW
  isplitl [HVKr]
  · iexact HVKr
  isplitl [HG0]
  · iexact HG0
  isplitl [HX0]
  · iexact HX0
  isplitl [HI4]
  · iexact HI4
  isplitl [HKO]
  · iexact HKO
  isplitl [HI01]
  · iexact HI01
  isplitl [HVB]
  · iexact HVB
  isplitl [HI23]
  · iexact HI23
  isplitl [HPT]
  · iexact HPT
  isplitl [HKP]
  · iexact HKP
  iexact HZP
theorem o0_make (f : Con F cc0_scratch5) : pcs c oM oM.view.set f ⊢ O0 (F := F) c := by
  unfold O0; iintro H; iexists f; iexact H

/-- Ready for the last waits. -/
theorem t12 (f : Con F cc0_scratch5) : iprop(Ctx X κ ∗ OW c (owed c ([])) ∗ pcs (F := F) c oM oM.view.set f ∗ OU2 X c ∗ R0 (F := F) c ∗ VAs (F := F) c ∗ VAg (F := F) c ∗ VRr (F := F) c ∗ A0 (F := F) c ∗ SW (F := F) c ∗ VKr (F := F) c ∗ G0 (F := F) c ∗ X0 (F := F) c ∗ I4 X c ∗ KO (F := F) c ∗ I01 X c ∗ VB (F := F) c ∗ I23 X c ∗ PT (F := F) c ∗ KP (F := F) c ∗ ZP (F := F) c)
    ⊢ iprop(Ctx X κ ∗ OW c (owed c ([])) ∗ sepL kvL (KwIn (F := F) c) ∗ sepL [] (KwOut (F := F) c) ∗ OU2 X c ∗ O0 (F := F) c ∗ R0 (F := F) c ∗ VAs (F := F) c ∗ VAg (F := F) c ∗ VRr (F := F) c ∗ A0 (F := F) c ∗ SW (F := F) c ∗ VKr (F := F) c ∗ G0 (F := F) c ∗ X0 (F := F) c ∗ I4 X c ∗ I01 X c ∗ VB (F := F) c ∗ I23 X c ∗ PT (F := F) c ∗ ZP (F := F) c) := by
  iintro ⟨HC, HO_0, HOF, HOU2, HR0, HVAs, HVAg, HVRr, HA0, HSW, HVKr, HG0, HX0, HI4, HKO, HI01, HVB, HI23, HPT, HKP, HZP⟩
  ihave HO0 := (o0_make c f) $$ [HOF]
  · iexact HOF
  ihave HKWI := (kw_make (F := F) c) $$ [HKO HKP]
  · isplitl [HKO]
    · iexact HKO
    iexact HKP
  ihave Htmp := (nil_make (F := F) (KwOut (F := F) c) _) $$ [HI01]
  · iexact HI01
  icases Htmp with ⟨HKWO0, HI01⟩
  isplitl [HC]
  · iexact HC
  isplitl [HO_0]
  · iexact HO_0
  isplitl [HKWI]
  · iexact HKWI
  isplitl [HKWO0]
  · iexact HKWO0
  isplitl [HOU2]
  · iexact HOU2
  isplitl [HO0]
  · iexact HO0
  isplitl [HR0]
  · iexact HR0
  isplitl [HVAs]
  · iexact HVAs
  isplitl [HVAg]
  · iexact HVAg
  isplitl [HVRr]
  · iexact HVRr
  isplitl [HA0]
  · iexact HA0
  isplitl [HSW]
  · iexact HSW
  isplitl [HVKr]
  · iexact HVKr
  isplitl [HG0]
  · iexact HG0
  isplitl [HX0]
  · iexact HX0
  isplitl [HI4]
  · iexact HI4
  isplitl [HI01]
  · iexact HI01
  isplitl [HVB]
  · iexact HVB
  isplitl [HI23]
  · iexact HI23
  isplitl [HPT]
  · iexact HPT
  iexact HZP
theorem z_close' : iprop(Ctx X κ ∗ ZP (F := F) c) ⊢ iprop(|={Set.univ}=> VZ (F := F) c) := z_close X κ c zL fun _ h => h

/-- Everything is back. -/
theorem t13  {ds} (hl : ds.Nodup) (h : ds.toFinset = kvL.toFinset) : iprop(Ctx X κ ∗ OW c (owed c ([])) ∗ sepL [] (KwIn (F := F) c) ∗ sepL ds (KwOut (F := F) c) ∗ OU2 X c ∗ O0 (F := F) c ∗ R0 (F := F) c ∗ VAs (F := F) c ∗ VAg (F := F) c ∗ VRr (F := F) c ∗ A0 (F := F) c ∗ SW (F := F) c ∗ VKr (F := F) c ∗ G0 (F := F) c ∗ X0 (F := F) c ∗ I4 X c ∗ I01 X c ∗ VB (F := F) c ∗ I23 X c ∗ PT (F := F) c ∗ ZP (F := F) c)
    ⊢ iprop(|={Set.univ}=> (OW c (owed c ([])) ∗ I01 X c ∗ I23 X c ∗ I4 X c ∗ OU2 X c ∗ P0 (F := F) c ∗ G0 (F := F) c ∗ X0 (F := F) c ∗ A0 (F := F) c ∗ R0 (F := F) c ∗ O0 (F := F) c ∗ SW (F := F) c ∗ VB (F := F) c ∗ VKr (F := F) c ∗ VKs (F := F) c ∗ VAs (F := F) c ∗ VRr (F := F) c ∗ VAg (F := F) c ∗ VZ (F := F) c)) := by
  iintro ⟨HC, HO_0, HKWI0, HKWO, HOU2, HO0, HR0, HVAs, HVAg, HVRr, HA0, HSW, HVKr, HG0, HX0, HI4, HI01, HVB, HI23, HPT, HZP⟩
  ihave HKWOt := (perm_kv (F := F) (KwOut (F := F) c) hl h) $$ [HKWO]
  · iexact HKWO
  ihave Htmp := (kw_open (F := F) c) $$ [HKWOt]
  · iexact HKWOt
  icases Htmp with ⟨HVKs, HPX⟩
  ihave HP0 := (p_join' (F := F) c) $$ [HPT HPX]
  · isplitl [HPT]
    · iexact HPT
    iexact HPX
  imod (z_close' X κ c) $$ [HC HZP] with HVZ
  · isplitl [HC]
    · iexact HC
    iexact HZP
  imodintro
  isplitl [HO_0]
  · iexact HO_0
  isplitl [HI01]
  · iexact HI01
  isplitl [HI23]
  · iexact HI23
  isplitl [HI4]
  · iexact HI4
  isplitl [HOU2]
  · iexact HOU2
  isplitl [HP0]
  · iexact HP0
  isplitl [HG0]
  · iexact HG0
  isplitl [HX0]
  · iexact HX0
  isplitl [HA0]
  · iexact HA0
  isplitl [HR0]
  · iexact HR0
  isplitl [HO0]
  · iexact HO0
  isplitl [HSW]
  · iexact HSW
  isplitl [HVB]
  · iexact HVB
  isplitl [HVKr]
  · iexact HVKr
  isplitl [HVKs]
  · iexact HVKs
  isplitl [HVAs]
  · iexact HVAs
  isplitl [HVRr]
  · iexact HVRr
  isplitl [HVAg]
  · iexact HVAg
  iexact HVZ

/-- What a device starts with. -/
def Start : sProp 𝕄 := iprop(Ctx X κ ∗ OW c (owed c (obBar)) ∗ BT (F := F) c ∗ BR (F := F) c ∗ KT (F := F) c ∗ RT0 (F := F) c ∗ RT1 (F := F) c ∗ KC (F := F) c ∗ KP (F := F) c ∗ AP (F := F) c ∗ RRI (F := F) c ∗ AWI (F := F) c ∗ ZP (F := F) c ∗ I01 X c ∗ I23 X c ∗ I4 X c ∗ OU (F := F) c ∗ P0 (F := F) c ∗ G0 (F := F) c ∗ X0 (F := F) c ∗ A0 (F := F) c ∗ R0 (F := F) c ∗ O0 (F := F) c ∗ SW (F := F) c)
/-- What it ends with. -/
def Fin' : sProp 𝕄 := iprop(OW c (owed c ([])) ∗ I01 X c ∗ I23 X c ∗ I4 X c ∗ OU2 X c ∗ P0 (F := F) c ∗ G0 (F := F) c ∗ X0 (F := F) c ∗ A0 (F := F) c ∗ R0 (F := F) c ∗ O0 (F := F) c ∗ SW (F := F) c ∗ VB (F := F) c ∗ VKr (F := F) c ∗ VKs (F := F) c ∗ VAs (F := F) c ∗ VRr (F := F) c ∗ VAg (F := F) c ∗ VZ (F := F) c)

end Cert.KernelIdeal.Pf
end
end
-- ==== Proof.Chain.lean ====
/-
# The whole kernel on one device

The parts, one after the other.
-/
module

public import proofs.«01_k».proof.Proof.Phases

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F) (κ : Dev nD × K → ℕ) (c : Dev nD)

/-- The state before the gathering's copies, its lists opened at their first element. -/
theorem t9v (Rc : Con F cc0_scratch4) {A R : sProp 𝕄} (h : A ⊢ iprop(Ctx X κ ∗ OW c (owed c obAg) ∗ sepL tL (AgIn c Rc) ∗ sepL [] (RsOut (F := F) c) ∗ R)) :
    A ⊢ St X κ c (.ag 1 :: obAg.tail) (1 :: [2, 3, 4, 5, 6, 7, 8, 9, 10, 11, 12, 13, 14, 15]) (AgIn c Rc) [] (RsOut (F := F) c) R := h

set_option maxHeartbeats 4000000 in
set_option maxRecDepth 65536 in
/-- The kernel's body on device `c`: from what the launch hands out to what it must give back. -/
theorem body_proof : Start X κ c ⊢ wpb c (app (cc0_body (F := F))) (fun _ => iprop(|={Set.univ}=> Fin' X c)) := by
  rw [cc0_body_eq_skeleton]
  unfold Start Fin'
  refine bind_step ?_
  rw [k0_part135_eq_skeleton]
  refine (t0 X κ c).trans ?_
  refine bind_step (part1 X κ ?_)
  intro _ _
  refine bind_step (part2 X κ ?_)
  intro _ _ _
  refine bind_step (part3 X κ ?_)
  intro _ _
  refine bind_step (part4 X κ ?_)
  intro _ _ _
  refine bind_step (part5 X κ ?_)
  intro _ _
  refine bind_step (part6 X κ ?_)
  intro _ _ _
  refine bind_step (part7 X κ ?_)
  refine bind_step (part8 X κ ?_)
  refine bind_step (part9 X κ ?_)
  refine bind_step (part10 X κ ?_)
  refine bind_step (part11 X κ ?_)
  refine bind_step (part12 X κ ?_)
  refine bind_step (part13 X κ ?_)
  refine bind_step (part14 X κ ?_)
  intro _ _
  refine (t1 X κ c (by decide +kernel)).trans (ex_elim fun p hp => ?_)
  refine bind_step (part15 X κ hp ?_)
  intro _ _ _ _ _ _ _
  refine bind_step (part16 X κ hp ?_)
  intro _ _
  refine bind_step (part17 X κ hp ?_)
  intro _ _
  refine bind_step (part18 X κ hp ?_)
  intro _
  refine bind_step (part19 X κ hp ?_)
  intro _ _ _
  refine bind_step (part20 X κ hp ?_)
  intro _ _ _ _ _
  refine bind_step (part21 X κ hp ?_)
  intro _ _
  refine bind_step (part22 X κ hp ?_)
  intro _ _ _ _ _ _ _
  refine bind_step (part23 X κ hp ?_)
  intro _ _
  refine bind_step (part24 X κ hp ?_)
  intro _ _
  refine bind_step (part25 X κ hp ?_)
  intro _
  refine bind_step (part26 X κ hp ?_)
  intro _ _ _
  refine bind_step (part27 X κ hp ?_)
  intro _ _ _ _ _
  refine bind_step (part28 X κ hp ?_)
  intro _ _
  refine bind_step (part29 X κ hp ?_)
  intro _ _ _ _ _ _ _
  refine bind_step (part30 X κ hp ?_)
  intro _ _
  refine bind_step (part31 X κ hp ?_)
  intro _ _
  refine bind_step (part32 X κ hp ?_)
  intro _
  refine bind_step (part33 X κ hp ?_)
  intro _ _ _
  refine bind_step (part34 X κ hp ?_)
  intro _ _ _ _ _
  refine bind_step (part35 X κ hp ?_)
  refine (t2 X κ c (by decide +kernel) (by decide +kernel)).trans ?_
  refine bind_step (part36 ?_)
  refine bind_step (part37 ?_)
  refine bind_step (part38 ?_)
  refine bind_step (part39 ?_)
  intro _ _
  refine bind_step (part40 X κ ?_)
  intro _ _ _ _
  refine bind_step (part41 X κ ?_)
  intro _
  refine bind_step (part42 ?_)
  intro _ _
  refine bind_step (part43 X κ ?_)
  intro _ _ _ _ _ _ _
  refine bind_step (part44 X κ ?_)
  intro _ _ _ _
  refine bind_step (part45 X κ ?_)
  intro _ _
  refine bind_step (part46 X κ ?_)
  intro _ _ _
  refine bind_step (part47 X κ ?_)
  intro _
  refine bind_step (part48 X κ ?_)
  intro _ _
  refine bind_step (part49 X κ ?_)
  refine bind_step (part50 ?_)
  intro _ _ _
  refine bind_step (part51 X κ ?_)
  intro _ _ _ _ _
  refine bind_step (part52 X κ ?_)
  intro _ _ _
  refine bind_step (part53 X κ ?_)
  intro _ _ _ _ _
  refine bind_step (part54 X κ ?_)
  intro _ _ _
  refine bind_step (part55 X κ (headA c) (t3 X κ c (by decide +kernel) (by decide +kernel)) ?_)
  intro gA hA
  refine bind_step (part56 X κ (headA c) ?_)
  refine bind_step (part57 X κ (headA c) ?_)
  refine bind_step (part58 X κ (headA c) ?_)
  refine bind_step (part59 X κ (headA c) ?_)
  refine bind_step (part60 X κ (headA c) ?_)
  intro _ _ _
  refine pure_step ?_
  refine bind_step ?_
  rw [k0_part136_eq_skeleton]
  refine (t4 X κ c gA).trans ?_
  refine bind_step (part61 X κ ?_)
  intro _
  refine bind_step (part62 X κ ?_)
  intro _ _
  refine bind_step (part63 X κ ?_)
  refine bind_step (part64 ?_)
  intro _ _ _
  refine bind_step (part65 X κ ?_)
  intro _ _ _ _ _
  refine bind_step (part66 X κ ?_)
  intro _ _ _
  refine bind_step (part67 X κ ?_)
  intro _ _ _ _ _
  refine bind_step (part68 X κ ?_)
  intro _ _ _
  refine bind_step (part69 X κ ?_)
  intro _ _ _ _
  refine bind_step (part70 X κ ?_)
  intro _ _
  refine bind_step (part71 ?_)
  intro _ _
  refine bind_step (part72 X κ ?_)
  intro _ _ _ _ _
  refine bind_step (part73 X κ ?_)
  intro _ _ _ _
  refine bind_step (part74 X κ ?_)
  intro _ _
  refine bind_step (part75 X κ ?_)
  intro _ _ _ _ _
  refine bind_step (part76 X κ ?_)
  intro _ _
  refine bind_step (part77 X κ ?_)
  intro _ _ _ _
  refine bind_step (part78 X κ ?_)
  refine (t5 X κ c gA (by decide +kernel) (by decide +kernel)).trans (ex_elim fun gB hB => ?_)
  refine bind_step (part79 X κ (headB c) rfl ?_)
  refine bind_step (part80 X κ (headB c) rfl ?_)
  refine bind_step (part81 X κ (headB c) rfl ?_)
  refine bind_step (part82 X κ (headB c) rfl ?_)
  refine bind_step (part83 X κ (headB c) rfl ?_)
  refine bind_step (part84 X κ (headB c) rfl ?_)
  refine bind_step (part85 X κ (headB c) rfl ?_)
  refine bind_step (part86 X κ (headB c) hA hB rfl ?_)
  intro _
  refine (t6 X κ c gA gB).trans (ex_elim fun P hP => ?_)
  refine bind_step (part87 X κ hP ?_)
  intro _ _ _ _
  refine bind_step (part88 X κ hP ?_)
  intro _ _
  refine bind_step (part89 X κ hP ?_)
  intro _ _ _ _
  refine bind_step (part90 X κ hP ?_)
  intro _ _
  refine bind_step (part91 X κ hP ?_)
  intro _ _
  refine bind_step (part92 X κ hP ?_)
  intro _ _ _
  refine bind_step (part93 X κ hP ?_)
  intro _ _
  refine bind_step (part94 X κ hP ?_)
  intro _ _ _ _ _
  refine bind_step (part95 X κ hP ?_)
  intro _ _
  refine bind_step (part96 X κ hP (t7 X κ c (by decide +kernel) (by decide +kernel)) ?_)
  intro r1 h1
  refine bind_step (part97 X κ ?_)
  intro r2 h2 r3 h3
  refine bind_step (part98 X κ ?_)
  intro r4 h4
  refine bind_step (part99 X κ ?_)
  intro r5 h5 r6 h6
  refine bind_step (part100 X κ ?_)
  intro r7 h7 r8 h8
  refine bind_step (part101 X κ ?_)
  intro r9 h9
  refine bind_step (part102 X κ ?_)
  intro r10 h10 r11 h11
  refine bind_step (part103 X κ ?_)
  intro r12 h12 r13 h13
  refine bind_step (part104 X κ ?_)
  intro r14 h14
  refine bind_step (part105 X κ (l2 := [2, 3, 4, 5, 6, 7, 8, 9, 10, 11, 12, 13, 14, 15]) ?hw (t8 X κ c (by decide +kernel) (by decide +kernel) (by decide +kernel) (by decide +kernel)) (fun Rc _ => t9v X κ c Rc (t9 X κ c Rc)) ?_)
  case hw =>
    intro r15 h15
    exact ⟨P, fun t => ![r1, r1, r2, r3, r4, r5, r6, r7, r8, r9, r10, r11, r12, r13, r14, r15] t, hP, by
      intro t ht
      fin_cases ht <;> assumption, rfl⟩
  intro Rc hR _
  refine bind_step (part106 X κ hR ?_)
  intro _ _
  refine bind_step (part107 X κ hR ?_)
  intro _ _
  refine bind_step (part108 X κ hR ?_)
  intro _ _ _ _ _
  refine bind_step (part109 X κ hR ?_)
  intro _ _ _ _
  refine bind_step (part110 X κ hR ?_)
  intro _ _ _
  refine bind_step (part111 X κ hR ?_)
  intro _ _
  refine bind_step (part112 X κ hR ?_)
  intro _ _ _
  refine bind_step (part113 X κ hR (t10 X κ c Rc (by decide +kernel) (by decide +kernel)) ?_)
  intro _
  refine bind_step (part114 X κ ?_)
  refine bind_step (part115 X κ ?_)
  refine bind_step (part116 X κ ?_)
  refine bind_step (part117 X κ ?_)
  refine bind_step (part118 X κ (t11 X κ c Rc (by decide +kernel) (by decide +kernel) (by decide +kernel) (by decide +kernel)) ?_)
  intro f
  intro _
  refine (t12 X κ c f).trans ?_
  refine bind_step (part119 X κ ?_)
  intro _ _ _ _ _
  refine bind_step (part120 X κ ?_)
  intro _ _ _
  refine pure_step ?_
  refine bind_step (part121 X κ ?_)
  intro _ _
  refine bind_step (part122 X κ ?_)
  refine bind_step (part123 X κ ?_)
  intro _
  refine bind_step (part124 X κ ?_)
  intro _ _
  refine bind_step (part125 X κ ?_)
  intro _ _ _ _ _
  refine bind_step (part126 X κ ?_)
  intro _ _ _
  refine bind_step (part127 X κ ?_)
  intro _
  refine bind_step (part128 X κ ?_)
  intro _
  refine bind_step (part129 X κ ?_)
  intro _
  refine bind_step (part130 X κ ?_)
  intro _ _ _ _ _
  refine bind_step (part131 X κ ?_)
  intro _ _ _
  refine bind_step (part132 X κ ?_)
  intro _ _
  refine bind_step (part133 X κ ?_)
  refine bind_step (part134 X κ ?_)
  intro _
  exact kswJ X κ c 15 1 (cd90 c) (fun _ => ⟨_, _, _, _, rfl, credit_p⟩) (pure_step (t13 X κ c (by decide +kernel) (by decide +kernel)))

end Cert.KernelIdeal.Pf
-- ==== Proof.Fund.lean ====
/-
# What the launch hands out

Every device's cells, positions, duty tokens and credit, and how the tokens travel to the devices that pay.
-/
module

public import proofs.«01_k».proof.Proof.Chain

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (X : Dev nD → Ins F)

/-! ## The cells, listed -/

def kL : List K := .bar :: ((kvL.map fun i => K.ks i.1 i.2) ++ ((kvL.map fun i => K.kr i.1 i.2) ++ (tL.map K.as ++ (tL.map K.rr ++ (tL.map K.ag ++ zL)))))
theorem kL_nodup : kL.Nodup := by decide +kernel
theorem kL_univ : kL.toFinset = Finset.univ := by decide +kernel

theorem sepL_app {ι : Type} (l l' : List ι) (Φ : ι → sProp 𝕄) : sepL (l ++ l') Φ = iprop(sepL l Φ ∗ sepL l' Φ) :=
  equiv_iff.mp ⟨sepL_append l l' Φ, sepL_append' l l' Φ⟩

/-- A conjunction over the cells of a device, kind by kind. -/
theorem big_K (Φ : K → sProp 𝕄) : bigSep Finset.univ Φ = iprop(Φ .bar ∗ sepL kvL (fun i => Φ (.ks i.1 i.2)) ∗ sepL kvL (fun i => Φ (.kr i.1 i.2))
    ∗ sepL tL (fun t => Φ (.as t)) ∗ sepL tL (fun t => Φ (.rr t)) ∗ sepL tL (fun t => Φ (.ag t)) ∗ sepL zL Φ) := by
  rw [← kL_univ, ← sepL_eq_bigSep kL kL_nodup]
  unfold kL
  rw [sepL_cons, sepL_app, sepL_app, sepL_app, sepL_app, sepL_app, sepL_map, sepL_map, sepL_map, sepL_map, sepL_map]

/-- A list without repetition out of everything. -/
theorem sepL_of_big {ι : Type} [Fintype ι] [DecidableEq ι] (l : List ι) (hl : l.Nodup) (Φ : ι → sProp 𝕄) : bigSep Finset.univ Φ ⊢ sepL l Φ := by
  rw [sepL_eq_bigSep l hl]
  exact bigSep_subset (Finset.subset_univ _)

/-! ## The duty tokens -/

abbrev T : Type := K × Fin 2 × Fin 16
def tokOf (ct : Dev nD × T) : GSem nD τ sig × ℕ × Fin 16 := (kcell (ct.1, ct.2.1), ct.2.2.1.val, ct.2.2.2)
theorem tokOf_injective : Function.Injective tokOf := by
  rintro ⟨c, k, r, d⟩ ⟨c', k', r', d'⟩ h
  have h1 := kcell_injective (congrArg Prod.fst h)
  have h2 : r = r' := Fin.ext (congrArg (fun x : GSem nD τ sig × ℕ × Fin 16 => x.2.1) h)
  have h3 : d = d' := congrArg (fun x : GSem nD τ sig × ℕ × Fin 16 => x.2.2) h
  obtain ⟨h4, h5⟩ := Prod.mk.inj h1
  subst h2; subst h3
  show ((c, k, r, d) : Dev nD × T) = (c', k', r, d)
  rw [show c = c' from h4, show k = k' from h5]

def allCells : Finset (GSem nD τ sig) := Finset.univ.map ⟨kcell, kcell_injective⟩
def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The tokens of one cell as minted. -/
def tokK (c : Dev nD) (k : K) : sProp 𝕄 := bigSep Finset.univ fun y : Fin 2 × Fin 16 => dutyTok ER (kcell (c, k)) y.1.val y.2
def toks (c : Dev nD) : sProp 𝕄 := bigSep Finset.univ (tokK (F := F) c)

/-- The tokens of a device's own cells that something pays. -/
def mine (c : Dev nD) : sProp 𝕄 :=
  iprop(sepL tL (fun d => dutyTok ER (kcell (c, .bar)) 0 d) ∗ sepL kvL (fun i => dutyTok ER (kcell (c, .ks i.1 i.2)) 0 0)
    ∗ sepL kvL (fun i => dutyTok ER (kcell (c, .kr i.1 i.2)) 0 0) ∗ sepL tL (fun t => iprop(dutyTok ER (kcell (c, .as t)) 0 0 ∗ dutyTok ER (kcell (c, .as t)) 1 0))
    ∗ sepL tL (fun t => dutyTok ER (kcell (c, .rr t)) 0 0) ∗ sepL tL (fun t => dutyTok ER (kcell (c, .ag t)) 0 0))

theorem tokK_bar (c : Dev nD) : tokK (F := F) c .bar ⊢ sepL tL (fun d => dutyTok ER (kcell (c, .bar)) 0 d) := by
  unfold tokK
  refine (sepL_of_big (tL.map fun d => ((0 : Fin 2), d)) (by decide) _).trans ?_
  rw [sepL_map]
  exact Entails.refl _
theorem tokK_one (c : Dev nD) (k : K) : tokK (F := F) c k ⊢ dutyTok ER (kcell (c, k)) 0 0 := by
  unfold tokK
  exact bigSep_elim (Finset.mem_univ ((0 : Fin 2), (0 : Fin 16)))
theorem tokK_two (c : Dev nD) (k : K) : tokK (F := F) c k ⊢ iprop(dutyTok ER (kcell (c, k)) 0 0 ∗ dutyTok ER (kcell (c, k)) 1 0) := by
  unfold tokK
  refine (sepL_of_big [((0 : Fin 2), (0 : Fin 16)), (1, 0)] (by decide) _).trans ?_
  rw [sepL_cons, sepL_cons, sepL_nil]
  iintro ⟨H1, H2, -⟩
  isplitl [H1]; · iexact H1
  iexact H2

theorem toks_mine (c : Dev nD) : toks (F := F) c ⊢ mine c := by
  unfold toks mine
  rw [big_K]
  iintro ⟨H1, H2, H3, H4, H5, H6, -⟩
  isplitl [H1]; · iapply (tokK_bar c); iexact H1
  isplitl [H2]; · iapply (show sepL kvL (fun i => tokK (F := F) c (.ks i.1 i.2)) ⊢ _ from sepL_mono kvL fun i _ => tokK_one c (.ks i.1 i.2)); iexact H2
  isplitl [H3]; · iapply (show sepL kvL (fun i => tokK (F := F) c (.kr i.1 i.2)) ⊢ _ from sepL_mono kvL fun i _ => tokK_one c (.kr i.1 i.2)); iexact H3
  isplitl [H4]; · iapply (show sepL tL (fun t => tokK (F := F) c (.as t)) ⊢ _ from sepL_mono tL fun t _ => tokK_two c (.as t)); iexact H4
  isplitl [H5]; · iapply (show sepL tL (fun t => tokK (F := F) c (.rr t)) ⊢ _ from sepL_mono tL fun t _ => tokK_one c (.rr t)); iexact H5
  iapply (show sepL tL (fun t => tokK (F := F) c (.ag t)) ⊢ _ from sepL_mono tL fun t _ => tokK_one c (.ag t)); iexact H6

/-- The device at a distance, as a permutation of the devices. -/
def dstE (t : Fin 16) : Dev nD ≃ Dev nD := ⟨fun c => dst c t, fun c => src c t, fun c => src_dst c t, fun c => dst_src c t⟩

theorem deal_around {ι : Type} (l : List ι) (f : ι → Fin 16) (Φ : ι → Dev nD → sProp 𝕄) :
    bigSep Finset.univ (fun c => sepL l fun i => Φ i c) = bigSep Finset.univ (fun c => sepL l fun i => Φ i (dst c (f i))) := by
  induction l with
  | nil => rfl
  | cons i l ih =>
    simp only [sepL_cons]
    rw [bigSep_sep', bigSep_sep', ih, bigSep_univ_equiv (dstE (f i)) (Φ i)]
    rfl

/-- The tokens of the duties a device pays. -/
def payToks (c : Dev nD) : sProp 𝕄 := iprop(BT (F := F) c ∗ KT (F := F) c ∗ RT0 (F := F) c ∗ RT1 (F := F) c)

/-- The same kind by kind, the tokens of other devices' cells having travelled. -/
def theirs (c : Dev nD) : sProp 𝕄 :=
  iprop(sepL tL (fun t => dutyTok ER (kcell (dst c t, .bar)) 0 (neg t)) ∗ sepL kvL (fun i => dutyTok ER (kcell (c, .ks i.1 i.2)) 0 0)
    ∗ sepL kvL (fun i => dutyTok ER (kcell (dst c i.1, .kr i.1 i.2)) 0 0) ∗ sepL tL (fun t => iprop(dutyTok ER (kcell (c, .as t)) 0 0 ∗ dutyTok ER (kcell (c, .as t)) 1 0))
    ∗ sepL tL (fun t => dutyTok ER (kcell (dst c t, .rr t)) 0 0) ∗ sepL tL (fun t => dutyTok ER (kcell (dst c t, .ag t)) 0 0))

theorem pay_make (c : Dev nD) : theirs (F := F) c ⊢ payToks (F := F) c := by
  unfold theirs
  unfold payToks BT KT RT0 RT1
  iintro ⟨H1, H2, H3, H4, H5, H6⟩
  ihave H4 := (show sepL tL (fun t => iprop(dutyTok ER (kcell (c, .as t)) 0 0 ∗ dutyTok ER (kcell (c, .as t)) 1 0)) ⊢ _ from sepL_sep (F := F) tL _ _) $$ H4
  icases H4 with ⟨H4, H4'⟩
  isplitl [H1]; · iexact H1
  isplitl [H2 H3]
  · iapply (show iprop(sepL kvL (fun i => dutyTok ER (kcell (c, .ks i.1 i.2)) 0 0) ∗ sepL kvL (fun i => dutyTok ER (kcell (dst c i.1, .kr i.1 i.2)) 0 0)) ⊢ sepL kvL (KTi (F := F) c) from
      (sepL_sep' kvL _ _).trans (sepL_mono kvL fun i _ => by
        unfold KTi
        by_cases h : need c i.2
        · rw [if_pos h]
        · rw [if_neg h]; iintro -; iempintro))
    isplitl [H2] <;> iassumption
  isplitl [H4 H5]
  · iapply (show iprop(sepL tL (fun t => dutyTok ER (kcell (c, .as t)) 0 0) ∗ sepL tL (fun t => dutyTok ER (kcell (dst c t, .rr t)) 0 0)) ⊢ _ from sepL_sep' (F := F) tL _ _)
    isplitl [H4] <;> iassumption
  iapply (show iprop(sepL tL (fun t => dutyTok ER (kcell (c, .as t)) 1 0) ∗ sepL tL (fun t => dutyTok ER (kcell (dst c t, .ag t)) 0 0)) ⊢ _ from sepL_sep' (F := F) tL _ _)
  isplitl [H4'] <;> iassumption

theorem mine_theirs : (bigSep Finset.univ fun c : Dev nD => mine (F := F) c) ⊢ bigSep Finset.univ fun c : Dev nD => theirs (F := F) c := by
  unfold mine theirs
  simp only [bigSep_sep']
  iintro ⟨H1, H2, H3, H4, H5, H6⟩
  ihave H1 := (Entails.of_eq ((bigSep_congr fun c _ => sepL_neg (F := F) (fun d => dutyTok ER (kcell (c, .bar)) 0 d)).trans
    (deal_around tL (fun t => t) (fun t c => dutyTok ER (kcell (c, .bar)) 0 (neg t))))) $$ H1
  ihave H3 := (Entails.of_eq (deal_around kvL (fun i => i.1) (fun i c => dutyTok ER (kcell (c, .kr i.1 i.2)) 0 0))) $$ H3
  ihave H5 := (Entails.of_eq (deal_around tL (fun t => t) (fun t c => dutyTok ER (kcell (c, .rr t)) 0 0))) $$ H5
  ihave H6 := (Entails.of_eq (deal_around tL (fun t => t) (fun t c => dutyTok ER (kcell (c, .ag t)) 0 0))) $$ H6
  isplitl [H1]; · iexact H1
  isplitl [H2]; · iexact H2
  isplitl [H3]; · iexact H3
  isplitl [H4]; · iexact H4
  isplitl [H5]; · iexact H5
  iexact H6

theorem toks_around : (bigSep Finset.univ fun c : Dev nD => toks (F := F) c) ⊢ bigSep Finset.univ fun c : Dev nD => payToks (F := F) c :=
  ((bigSep_mono fun c _ => toks_mine (F := F) c).trans (mine_theirs (F := F))).trans (bigSep_mono fun c _ => pay_make (F := F) c)

/-! ## The launch credit -/

/-- How many payments of a list credit the cell of kind `k` on device `c`, from device `d`. -/
theorem owed_count (d c : Dev nD) (k : K) (l : List Ob) :
    owed d l (kcell (c, k)) () = amt k * l.countP (fun o => decide (o.due d ∧ dst d o.t = c ∧ o.k = k)) := by
  induction l with
  | nil => rfl
  | cons o l ih =>
    rw [owed_cons, Pi.add_apply, Finsupp.add_apply, ih, List.countP_cons, Nat.mul_add]
    congr 1
    unfold obT
    by_cases h : o.due d
    · rw [if_pos h, tallyAt_apply]
      by_cases h2 : dst d o.t = c ∧ o.k = k
      · obtain ⟨h3, h4⟩ := h2
        subst h3; subst h4
        rw [if_pos ⟨rfl, rfl⟩, if_pos (by simp only [h, and_self, decide_true]), Nat.mul_one]
      · rw [if_neg (fun h' => h2 (by have := kcell_injective h'.1; exact ⟨(Prod.mk.inj this).1.symm, (Prod.mk.inj this).2.symm⟩)),
          if_neg (by simp only [h, h2, and_false, decide_false]; exact Bool.false_ne_true)]
        rfl
    · rw [if_neg h, if_neg (by simp only [h, false_and, decide_false]; exact Bool.false_ne_true)]
      rfl

theorem count_one (c : Dev nD) (t : Fin 16) (p : Dev nD → Bool) (P : Dev nD → Prop) [∀ d, Decidable (P d)]
    (h : ∀ d, p d = decide (dst d t = c ∧ P d)) : ∑ d : Dev nD, (if p d = true then 1 else 0) = if P (src c t) then 1 else 0 := by
  rw [Finset.sum_eq_single (src c t)]
  · simp only [h, dst_src, true_and, decide_eq_true_eq]
  · exact fun d _ hd => if_neg fun h' => hd (by rw [h] at h'; rw [← (of_decide_eq_true h').1, src_dst])
  · exact fun h => absurd (Finset.mem_univ _) h

theorem count_swap (c : Dev nD) (k : K) (l : List Ob) :
    ∑ d : Dev nD, l.countP (fun o => decide (o.due d ∧ dst d o.t = c ∧ o.k = k)) = l.countP (fun o => decide (o.due (src c o.t) ∧ o.k = k)) := by
  induction l with
  | nil => simp only [List.countP_nil, Finset.sum_const_zero]
  | cons o l ih =>
    simp only [List.countP_cons]
    rw [Finset.sum_add_distrib, ih]
    have h := count_one c o.t (fun d => decide (o.due d ∧ dst d o.t = c ∧ o.k = k)) (fun d => o.due d ∧ o.k = k)
      (fun d => decide_eq_decide.mpr ⟨fun ⟨a, b, e⟩ => ⟨b, a, e⟩, fun ⟨b, a, e⟩ => ⟨a, b, e⟩⟩)
    rw [h]
    simp only [decide_eq_true_eq]

/-- How many payments a cell gets in all. -/
def want (c : Dev nD) : K → ℕ
  | .bar => 15
  | .kr t b => if t ≠ 0 ∧ need (src c t) b then 1 else 0
  | .rr t => if t ≠ 0 then 1 else 0
  | .ag t => if t ≠ 0 then 1 else 0
  | _ => 0
theorem want_eq : ∀ (c : Dev nD) (k : K), obBar.countP (fun o => decide (o.due (src c o.t) ∧ o.k = k)) = want c k := by decide +kernel

def O₀ (d : Dev nD) : CellTallies nD τ sig Unit := owed d obBar

theorem launch_cell (c : Dev nD) (k : K) :
    tallyOn (kcell (c, k)) (launchCredit (Pipeline.owing O₀) 0 (kcell (c, k))) = (tallyAt (kcell (c, k)) () (amt k * want c k) : CellTallies nD τ sig Unit) := by
  unfold tallyAt; refine congrArg _ (Finsupp.ext fun u => ?_); cases u
  rw [Pipeline.launchCredit_owing, Finsupp.single_eq_same]
  unfold O₀
  rw [Finset.sum_congr rfl fun d _ => owed_count d c k obBar, ← Finset.mul_sum, count_swap, want_eq]

theorem ksem_injective : Function.Injective ksem := fun k k' h => by
  have := congrArg kdec h
  rw [kdec_ksem, kdec_ksem] at this
  exact Option.some.inj this

theorem tL_ne : ∀ t ∈ tL, t ≠ 0 := by decide
theorem kvL_ne : ∀ i ∈ kvL, i.1 ≠ 0 := by decide

/-- The credit a device's waits need. -/
def Crs (c : Dev nD) : sProp 𝕄 :=
  iprop(cred (tallyAt (kcell (c, .bar)) () 15)
    ∗ sepL kvL (fun i => if need (src c i.1) i.2 then cred (tallyAt (kcell (c, .kr i.1 i.2)) () Nkv) else iprop(emp))
    ∗ sepL tL (fun t => cred (tallyAt (kcell (c, .rr t)) () Nrow)) ∗ sepL tL (fun t => cred (tallyAt (kcell (c, .ag t)) () Nrow)))

theorem creds (c : Dev nD) : (Pipeline.launchCred O₀ c : sProp 𝕄) ⊢ Crs c := by
  unfold Pipeline.launchCred Crs
  refine (bigSep_subset (t := Finset.univ.map ⟨ksem, ksem_injective⟩) (Finset.subset_univ _)).trans ?_
  rw [bigSep_map]
  refine (Entails.of_eq (bigSep_congr (Ψ := fun k => cred (tallyAt (kcell (c, k)) () (amt k * want c k))) fun k _ => congrArg cred (launch_cell c k))).trans ?_
  rw [big_K]
  iintro ⟨H1, -, H3, -, H5, H6, -⟩
  isplitl [H1]; · iexact H1
  isplitl [H3]
  · iapply (show sepL kvL (fun i => (cred (tallyAt (kcell (c, .kr i.1 i.2)) () (amt (.kr i.1 i.2) * want c (.kr i.1 i.2))) : sProp 𝕄)) ⊢ _ from sepL_mono kvL fun i hi => by
      by_cases h : need (src c i.1) i.2
      · rw [if_pos h, show want c (.kr i.1 i.2) = 1 from if_pos ⟨kvL_ne i hi, h⟩, Nat.mul_one]
        exact Entails.refl _
      · rw [if_neg h]; iintro -; iempintro)
    iexact H3
  isplitl [H5]
  · iapply (show sepL tL (fun t => (cred (tallyAt (kcell (c, .rr t)) () (amt (.rr t) * want c (.rr t))) : sProp 𝕄)) ⊢ _ from sepL_mono tL fun t ht => by
      rw [show want c (.rr t) = 1 from if_pos (tL_ne t ht), Nat.mul_one]
      exact Entails.refl _)
    iexact H5
  iapply (show sepL tL (fun t => (cred (tallyAt (kcell (c, .ag t)) () (amt (.ag t) * want c (.ag t))) : sProp 𝕄)) ⊢ _ from sepL_mono tL fun t ht => by
      rw [show want c (.ag t) = 1 from if_pos (tL_ne t ht), Nat.mul_one]
      exact Entails.refl _)
  iexact H6

/-! ## The global step -/

/-- The kernel's own semaphores: every cell but the barrier's. -/
abbrev KS : Type := {k : K // k ≠ .bar}
abbrev osem (k : KS) : SemLoc sig := ksem k.1

/-- What the launch element deals device `c`. -/
def G (c : Dev nD) : sProp 𝕄 :=
  iprop((bigSep Finset.univ fun k : K => roundState ER (Rd X) (kcell (c, k)) 0)
    ∗ (bigSep Finset.univ fun k : K => iprop(atPos ER (kcell (c, k)) 0 ∅ 0 ∗ reached ER (kcell (c, k)) 0)) ∗ toks (F := F) c)

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : K => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks tokK; rw [bigSep_univ_prod]; rfl
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's semaphores and the barrier's are all the cells. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : K => semVal (kcell (c, k)) 0 : sProp 𝕄) := by
  have h1 : (unscopedSems0 c : sProp 𝕄) = semVal (kcell (c, .bar)) 0 := by
    unfold unscopedSems0; rw [bigSep_eq_bigSepL_of_eq [SemLoc.reg barS] (by decide +kernel) (by decide)]; rfl
  have h2 : (Pipeline.ownSems0 (Ix := Unit) (Name := ℕ) (U := UU) (Lvl := ℕ) (Val := Elt F) (τ := τ) osem c : sProp 𝕄)
      = bigSep (Finset.univ.erase K.bar) fun k => semVal (kcell (c, k)) 0 :=
    bigSep_subtype_ne K.bar fun k => (semVal (kcell (c, k)) 0 : sProp 𝕄)
  rw [h1, h2, bigSep_univ_at _ K.bar]
  exact equiv_iff.mp ⟨Idealize.SL.BI.sep_comm, Idealize.SL.BI.sep_comm⟩

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : K => semVal (kcell (c, k)) 0) ∗ bigSep Finset.univ fun k : K => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (κ : Dev nD × K → ℕ) : sProp 𝕄 :=
  iprop((bigSep Finset.univ fun ck : Dev nD × K => cellInv ER (Rd X) (κ ck) (kcell ck))
    ∗ bigSep Finset.univ fun ck : Dev nD × K => reached ER (kcell ck) 0)
instance records_persistent (κ : Dev nD × K → ℕ) : BI.Persistent (records X κ) := by unfold records; infer_instance

/-- What stays with device `c`: its positions and the tokens of the duties it pays. -/
def linear (c : Dev nD) : sProp 𝕄 := iprop((bigSep Finset.univ fun k : K => atPos ER (kcell (c, k)) 0 ∅ 0) ∗ payToks (F := F) c)
def G' (c : Dev nD) : sProp 𝕄 := iprop(∃ κ, records X κ ∗ linear (F := F) c)

theorem G'_intro (κ : Dev nD × K → ℕ) (c : Dev nD) : iprop(records X κ ∗ linear (F := F) c) ⊢ G' X c := by
  unfold G'; iintro H; iexists κ; iexact H

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' X) := by
  rw [bigSep_sep', bigSep_sep', ← bigSep_univ_prod (fun ck : Dev nD × K => iprop(∃ κ : ℕ, cellInv ER (Rd X) κ (kcell ck))),
    bigSep_congr (s := Finset.univ) (fun (c : Dev nD) _ => bigSep_sep' Finset.univ (fun k : K => (atPos ER (kcell (c, k)) 0 ∅ 0 : sProp 𝕄)) (fun k => reached ER (kcell (c, k)) 0)),
    bigSep_sep', ← bigSep_univ_prod (fun ck : Dev nD × K => (reached ER (kcell ck) 0 : sProp 𝕄))]
  iintro ⟨HI, ⟨Hat, #HR⟩, Htok⟩
  ihave HK := (BI.bigSep_exists_pi Finset.univ (fun (ck : Dev nD × K) (κ : ℕ) => (cellInv ER (Rd X) κ (kcell ck) : sProp 𝕄))) $$ HI
  icases HK with ⟨%κ, #HI⟩
  ihave Htk := (toks_around (F := F)) $$ Htok
  iapply (show iprop(records X κ ∗ bigSep Finset.univ fun c => linear (F := F) c) ⊢ bigSep Finset.univ (G' X) from
    (BIClass.sep_mono (BI.bigSep_of_persistent Finset.univ (records X κ)) (Entails.refl _)).trans (by
      rw [← bigSep_sep']
      exact bigSep_mono fun c _ => G'_intro X κ c))
  isplitr
  · unfold records; isplitl; · iexact HI
    iexact HR
  · unfold linear; rw [bigSep_sep']
    isplitl [Hat]; · iexact Hat
    iexact Htk

/-- The global step: every semaphore of every device at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Cert.KernelIdeal.Pf
end
end
-- ==== Proof.Launch.lean ====
/-
# The launch

The windows' data, the body's obligation, and the run of the whole program on sixteen devices.
-/
module

public import proofs.«01_k».proof.Proof.Fund
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

open Idealize.ShloMosaic.Pipeline (RDat)

variable (m : (ℓ : Loc nD τ sig) → Buf (Elt F) ℓ) (ρ : Dev nD → PrngReg)

/-- The five blocks device `c`'s kernel is handed. -/
def xin (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-! ## What a device starts from and ends with -/

/-- Invariants, levels, credit, positions and tokens. -/
def start (c : Dev nD) : sProp 𝕄 :=
  iprop(∃ κ, Ctx (xin m) κ ∗ Crs (F := F) c ∗ linear (F := F) c)
/-- The seven scratch buffers, at any contents. -/
def scr (c : Dev nD) : sProp 𝕄 :=
  iprop(P0 (F := F) c ∗ G0 (F := F) c ∗ X0 (F := F) c ∗ A0 (F := F) c ∗ R0 (F := F) c ∗ O0 (F := F) c ∗ SW (F := F) c)
/-- Every cell at zero again, closed. -/
def zer (c : Dev nD) : sProp 𝕄 := bigSep Finset.univ fun k : K => semVal (kcell (c, k)) 0
def Φ₀ (c : Dev nD) : sProp 𝕄 := iprop(start m c ∗ scr (F := F) c)
def Φ₁ (c : Dev nD) : sProp 𝕄 := iprop(scr (F := F) c ∗ zer (F := F) c)

/-- The inputs' staged blocks stay; the output's holds the attention's result. -/
def dats (_ : Fin 1) (c : Dev nD) : RDat τ (Elt F) Unit ℕ UU ℕ cfg0 c where
  A w := m ((cfg0.win w).arr.view.loc (c : Thread nD τ))
  after w _ := match w with
    | ⟨0, _⟩ => fun Y Z => Z = Y
    | ⟨1, _⟩ => fun Y Z => Z = Y
    | ⟨2, _⟩ => fun Y Z => Z = Y
    | ⟨3, _⟩ => fun Y Z => Z = Y
    | ⟨4, _⟩ => fun Y Z => Z = Y
    | ⟨5, _⟩ => fun _ Z => OutOk (xin m) Z
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A whole buffer, held. -/
theorem whole_pcs (c : Dev nD) (b : Ref sig .tc) (f : b.ty.Contents (Elt F)) :
    (((c : Thread nD τ).loc b) ↦[(View.whole b).set]{fullShare} f : sProp 𝕄) = (((c : Thread nD τ).loc b) ↦{fullShare} f) := by
  rw [View.set_whole]

theorem scr_eq (c : Dev nD) : (Pipeline.scopedRest (Ix := Unit) (Name := ℕ) (U := UU) (Lvl := ℕ) (Val := Elt F) spec0 c : sProp 𝕄) = scr (F := F) c := by
  rw [scopedRest0_eq]
  unfold scr P0 G0 X0 A0 R0 O0 SW
  simp only [← whole_pcs]

theorem zer_eq (c : Dev nD) : zer (F := F) c = iprop(VB (F := F) c ∗ VKs (F := F) c ∗ VKr (F := F) c ∗ VAs (F := F) c ∗ VRr (F := F) c ∗ VAg (F := F) c ∗ VZ (F := F) c) := by
  unfold zer VKs VKr VAs VRr VAg VZ
  exact big_K _

theorem kc_make (c : Dev nD) : iprop(sepL kvL (fun i => if need (src c i.1) i.2 then cred (tallyAt (kcell (c, .kr i.1 i.2)) () Nkv) else iprop(emp))
    ∗ sepL kvL (fun i => atPos ER (kcell (c, .kr i.1 i.2)) 0 ∅ 0)) ⊢ KC (F := F) c := by
  unfold KC; exact sepL_sep' kvL _ _
theorem rr_make (c : Dev nD) : iprop(sepL tL (fun t => cred (tallyAt (kcell (c, .rr t)) () Nrow)) ∗ sepL tL (fun t => atPos ER (kcell (c, .rr t)) 0 ∅ 0)) ⊢ RRI (F := F) c := by
  unfold RRI; exact sepL_sep' tL _ _
theorem aw_make (c : Dev nD) : iprop(sepL tL (fun t => cred (tallyAt (kcell (c, .ag t)) () Nrow)) ∗ sepL tL (fun t => atPos ER (kcell (c, .ag t)) 0 ∅ 0)) ⊢ AWI (F := F) c := by
  unfold AWI; exact sepL_sep' tL _ _

/-- What the launch hands out is what the body starts from. -/
theorem enter (X : Dev nD → Ins F) (κ : Dev nD × K → ℕ) (c : Dev nD) :
    iprop(Ctx X κ ∗ Crs (F := F) c ∗ linear (F := F) c ∗ scr (F := F) c ∗ OW c (owed c obBar) ∗ I01 X c ∗ I23 X c ∗ I4 X c ∗ OU (F := F) c) ⊢ Start X κ c := by
  unfold Crs linear payToks scr Start BR
  rw [big_K]
  iintro ⟨HC, ⟨C1, C2, C3, C4⟩, ⟨⟨A1, A2, A3, A4, A5, A6, A7⟩, T1, T2, T3, T4⟩, ⟨S0, S1, S2, S3, S4, S5, S6⟩, HO, HI, HJ, HW, HU⟩
  isplitl [HC]; · iexact HC
  isplitl [HO]; · iexact HO
  isplitl [T1]; · iexact T1
  isplitl [C1 A1]
  · isplitl [C1]; · iexact C1
    iexact A1
  isplitl [T2]; · iexact T2
  isplitl [T3]; · iexact T3
  isplitl [T4]; · iexact T4
  isplitl [C2 A3]
  · iapply (kc_make c); isplitl [C2]; · iexact C2
    iexact A3
  isplitl [A2]; · unfold KP; iexact A2
  isplitl [A4]; · unfold AP; iexact A4
  isplitl [C3 A5]
  · iapply (rr_make c); isplitl [C3]; · iexact C3
    iexact A5
  isplitl [C4 A6]
  · iapply (aw_make c); isplitl [C4]; · iexact C4
    iexact A6
  isplitl [A7]; · unfold ZP; iexact A7
  isplitl [HI]; · iexact HI
  isplitl [HJ]; · iexact HJ
  isplitl [HW]; · iexact HW
  isplitl [HU]; · iexact HU
  isplitl [S0]; · iexact S0
  isplitl [S1]; · iexact S1
  isplitl [S2]; · iexact S2
  isplitl [S3]; · iexact S3
  isplitl [S4]; · iexact S4
  isplitl [S5]; · iexact S5
  iexact S6

/-- What the body ends with is what the launch takes back. -/
theorem leave (X : Dev nD → Ins F) (c : Dev nD) :
    Fin' X c ⊢ iprop(Φ₁ (F := F) c ∗ OW c 0 ∗ I01 X c ∗ I23 X c ∗ I4 X c ∗ OU2 X c) := by
  unfold Fin' Φ₁ scr
  rw [zer_eq, owed_nil]
  iintro ⟨HO, HI, HJ, HW, HU, S0, S1, S2, S3, S4, S5, S6, V1, V2, V3, V4, V5, V6, V7⟩
  isplitr [HO HI HJ HW HU]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [V1]; · iexact V1
    isplitl [V3]; · iexact V3
    isplitl [V2]; · iexact V2
    isplitl [V4]; · iexact V4
    isplitl [V5]; · iexact V5
    isplitl [V6]; · iexact V6
    iexact V7
  isplitl [HO]; · iexact HO
  isplitl [HI]; · iexact HI
  isplitl [HJ]; · iexact HJ
  isplitl [HW]; · iexact HW
  iexact HU

theorem body_run0 (c : Dev nD) :
    iprop(Φ₀ m c ∗ OW c (O₀ c) ∗ I01 (xin m) c ∗ I23 (xin m) c ∗ I4 (xin m) c ∗ OU (F := F) c)
      ⊢ wpb c (app (cc0_body (F := F))) (fun _ => iprop(|={Set.univ}=> Fin' (xin m) c)) := by
  unfold Φ₀ start O₀
  iintro ⟨⟨⟨%κ, HC, HK, HL⟩, HS⟩, HR⟩
  iapply (body_proof (xin m) κ c)
  iapply (enter (xin m) κ c)
  isplitl [HC]; · iexact HC
  isplitl [HK]; · iexact HK
  isplitl [HL]; · iexact HL
  isplitl [HS]; · iexact HS
  iexact HR

theorem body_run (c : Dev nD) :
    iprop(Φ₀ m c ∗ OW c (O₀ c) ∗ I01 (xin m) c ∗ I23 (xin m) c ∗ I4 (xin m) c ∗ OU (F := F) c)
      ⊢ wpb c (app (cc0_body (F := F))) (fun _ => iprop(Φ₁ (F := F) c ∗ OW c 0 ∗ I01 (xin m) c ∗ I23 (xin m) c ∗ I4 (xin m) c ∗ OU2 (xin m) c)) :=
  ((body_run0 m c).trans ((wp frame (wpE (defs₀ (F := F)) 𝒱₀ (c : Thread nD τ) none) Set.univ (app (cc0_body (F := F)))).mono
    fun _ => BI.fupd_mono (leave (xin m) c))).trans
    (wp_fupd frame (wpE (defs₀ (F := F)) 𝒱₀ (c : Thread nD τ) none) Set.univ _ _)

/-! ## The body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_open (c : Dev nD) (b : Ref sig .tc) (Z : b.ty.Contents (Elt F)) :
    iprop(∃ f : Buf (Elt F) (((c : Dev nD) : Thread nD τ).loc b), ⌜f = Z⌝ ∗ (((c : Thread nD τ).loc b) ↦[(View.whole b).set]{fullShare} f))
      ⊢ (((c : Thread nD τ).loc b) ↦[(View.whole b).set]{fullShare} Z : sProp 𝕄) := by
  iintro ⟨%f, %h, H⟩; subst h; iexact H
theorem owns_close (c : Dev nD) (b : Ref sig .tc) (Z : b.ty.Contents (Elt F)) :
    (((c : Thread nD τ).loc b) ↦[(View.whole b).set]{fullShare} Z : sProp 𝕄)
      ⊢ iprop(∃ f : Buf (Elt F) (((c : Dev nD) : Thread nD τ).loc b), ⌜f = Z⌝ ∗ (((c : Thread nD τ).loc b) ↦[(View.whole b).set]{fullShare} f)) := by
  iintro H; iexists Z; isplitr; · (ipureintro; rfl)
  iexact H
theorem owns_whole_eq (c : Dev nD) (b : Ref sig .tc) (Z : b.ty.Contents (Elt F)) :
    (owns (Ix := Unit) (Name := ℕ) (U := UU) (Lvl := ℕ) (c : Thread nD τ) (Memref.whole b) fullShare Z : sProp 𝕄)
      = (((c : Thread nD τ).loc b) ↦[(View.whole b).set]{fullShare} Z) := by
  unfold owns
  simp only [Memref.view_whole, View.read_whole]
  exact equiv_iff.mp ⟨owns_open c b Z, owns_close c b Z⟩

theorem found0 (c : Dev nD) (Y) (h : (dats m 0 c).Finds (0 : Fin 6) t₀ Y) : Y = (xin m c).x := by
  obtain ⟨d, rfl⟩ := ((dats m 0 c).finds_of_fetch (w := (0 : Fin 6)) (t := t₀) rfl Y).mp h
  rfl
theorem found1 (c : Dev nD) (Y) (h : (dats m 0 c).Finds (1 : Fin 6) t₀ Y) : Y = (xin m c).wq := by
  obtain ⟨d, rfl⟩ := ((dats m 0 c).finds_of_fetch (w := (1 : Fin 6)) (t := t₀) rfl Y).mp h
  rfl
theorem found2 (c : Dev nD) (Y) (h : (dats m 0 c).Finds (2 : Fin 6) t₀ Y) : Y = (xin m c).k := by
  obtain ⟨d, rfl⟩ := ((dats m 0 c).finds_of_fetch (w := (2 : Fin 6)) (t := t₀) rfl Y).mp h
  rfl
theorem found3 (c : Dev nD) (Y) (h : (dats m 0 c).Finds (3 : Fin 6) t₀ Y) : Y = (xin m c).v := by
  obtain ⟨d, rfl⟩ := ((dats m 0 c).finds_of_fetch (w := (3 : Fin 6)) (t := t₀) rfl Y).mp h
  rfl
theorem found4 (c : Dev nD) (Y) (h : (dats m 0 c).Finds (4 : Fin 6) t₀ Y) : Y = (xin m c).wo := by
  obtain ⟨d, rfl⟩ := ((dats m 0 c).finds_of_fetch (w := (4 : Fin 6)) (t := t₀) rfl Y).mp h
  rfl

/-- A staging buffer of device `c`, held at contents `Z`. -/
abbrev stg (c : Dev nD) (b : Ref sig .tc) (Z : b.ty.Contents (Elt F)) : sProp 𝕄 :=
  ((c : Thread nD τ).loc b) ↦[(View.whole b).set]{fullShare} Z

def bodyPre (c : Dev nD) (Y : (w : Fin cfg0.W) → (cfg0.win w).block.Idx → Elt F (cfg0.win w).elt) : sProp 𝕄 :=
  iprop(Φ₀ m c ∗ (dats m 0 c).owesAt () t₀.castSucc
    ∗ stg c cc0_stg0_0 (Y (0 : Fin 6)) ∗ stg c cc0_stg1_0 (Y (1 : Fin 6)) ∗ stg c cc0_stg2_0 (Y (2 : Fin 6)) ∗ stg c cc0_stg3_0 (Y (3 : Fin 6)) ∗ stg c cc0_stg4_0 (Y (4 : Fin 6))
    ∗ stg c cc0_stg5_0 (Y (5 : Fin 6)))
def bodyPost (c : Dev nD) (Y : (w : Fin cfg0.W) → (cfg0.win w).block.Idx → Elt F (cfg0.win w).elt) : sProp 𝕄 :=
  iprop(Φ₁ (F := F) c ∗ (dats m 0 c).owesAt () t₀.succ
    ∗ (∃ Z : Con F cc0_stg0_0, ⌜Z = Y (0 : Fin 6)⌝ ∗ stg c cc0_stg0_0 Z) ∗ (∃ Z : Con F cc0_stg1_0, ⌜Z = Y (1 : Fin 6)⌝ ∗ stg c cc0_stg1_0 Z)
    ∗ (∃ Z : Con F cc0_stg2_0, ⌜Z = Y (2 : Fin 6)⌝ ∗ stg c cc0_stg2_0 Z) ∗ (∃ Z : Con F cc0_stg3_0, ⌜Z = Y (3 : Fin 6)⌝ ∗ stg c cc0_stg3_0 Z)
    ∗ (∃ Z : Con F cc0_stg4_0, ⌜Z = Y (4 : Fin 6)⌝ ∗ stg c cc0_stg4_0 Z) ∗ (∃ Z : Con F cc0_stg5_0, ⌜OutOk (xin m) Z⌝ ∗ stg c cc0_stg5_0 Z))

theorem pre_open (c : Dev nD) (Y : (w : Fin cfg0.W) → (cfg0.win w).block.Idx → Elt F (cfg0.win w).elt)
    (h0 : Y (0 : Fin 6) = (xin m c).x) (h1 : Y (1 : Fin 6) = (xin m c).wq) (h2 : Y (2 : Fin 6) = (xin m c).k) (h3 : Y (3 : Fin 6) = (xin m c).v)
    (h4 : Y (4 : Fin 6) = (xin m c).wo) :
    bodyPre m c Y
    ⊢ iprop(Φ₀ m c ∗ OW c (O₀ c) ∗ I01 (xin m) c ∗ I23 (xin m) c ∗ I4 (xin m) c ∗ OU (F := F) c) := by
  unfold bodyPre OW I01 I23 OU
  rw [h0, h1, h2, h3, h4]
  iintro ⟨HP, ⟨%W, %hW, HO⟩, H0, H1, H2, H3, H4, H5⟩
  isplitl [HP]; · iexact HP
  isplitl [HO]; · iexists W; iexact HO
  isplitl [H0 H1]
  · isplitl [H0]; · iexact H0
    iexact H1
  isplitl [H2 H3]
  · isplitl [H2]; · iexact H2
    iexact H3
  isplitl [H4]; · iexact H4
  iexists Y (5 : Fin 6); iexact H5

theorem post_close (c : Dev nD) (Y : (w : Fin cfg0.W) → (cfg0.win w).block.Idx → Elt F (cfg0.win w).elt)
    (h0 : Y (0 : Fin 6) = (xin m c).x) (h1 : Y (1 : Fin 6) = (xin m c).wq) (h2 : Y (2 : Fin 6) = (xin m c).k) (h3 : Y (3 : Fin 6) = (xin m c).v)
    (h4 : Y (4 : Fin 6) = (xin m c).wo) :
    iprop(Φ₁ (F := F) c ∗ OW c 0 ∗ I01 (xin m) c ∗ I23 (xin m) c ∗ I4 (xin m) c ∗ OU2 (xin m) c) ⊢ bodyPost m c Y := by
  unfold bodyPost OW I01 I23 OU2
  iintro ⟨HP, ⟨%W, HO⟩, ⟨H0, H1⟩, ⟨H2, H3⟩, H4, ⟨%o, %ho, H5⟩⟩
  isplitl [HP]; · iexact HP
  isplitl [HO]
  · iexists W; isplitr; · (ipureintro; exact fun _ _ => Or.inl trivial)
    iexact HO
  isplitl [H0]
  · iexists (xin m c).x; isplitr; · (ipureintro; exact h0.symm)
    iexact H0
  isplitl [H1]
  · iexists (xin m c).wq; isplitr; · (ipureintro; exact h1.symm)
    iexact H1
  isplitl [H2]
  · iexists (xin m c).k; isplitr; · (ipureintro; exact h2.symm)
    iexact H2
  isplitl [H3]
  · iexists (xin m c).v; isplitr; · (ipureintro; exact h3.symm)
    iexact H3
  isplitl [H4]
  · iexists (xin m c).wo; isplitr; · (ipureintro; exact h4.symm)
    iexact H4
  iexists o; isplitr; · (ipureintro; exact ho)
  iexact H5

theorem body_all (c : Dev nD) (Y : (w : Fin cfg0.W) → (cfg0.win w).block.Idx → Elt F (cfg0.win w).elt)
    (h0 : Y (0 : Fin 6) = (xin m c).x) (h1 : Y (1 : Fin 6) = (xin m c).wq) (h2 : Y (2 : Fin 6) = (xin m c).k) (h3 : Y (3 : Fin 6) = (xin m c).v)
    (h4 : Y (4 : Fin 6) = (xin m c).wo) : bodyPre m c Y ⊢ wpb c (app (cc0_body (F := F))) (fun _ => bodyPost m c Y) :=
  ((pre_open m c Y h0 h1 h2 h3 h4).trans (body_run m c)).trans
    ((wp frame (wpE (defs₀ (F := F)) 𝒱₀ (c : Thread nD τ) none) Set.univ (app (cc0_body (F := F)))).mono fun _ => post_close m c Y h0 h1 h2 h3 h4)

set_option maxRecDepth 8000 in
theorem body_obligation (c : Dev nD) : (dats (F := F) m 0 c).BodyObligation (defs₀ (F := F)) 𝒱₀ () Set.univ := fun t Y hY => by
  obtain rfl := fin_N t
  have h0 := found0 m c _ (hY (0 : Fin 6))
  have h1 := found1 m c _ (hY (1 : Fin 6))
  have h2 := found2 m c _ (hY (2 : Fin 6))
  have h3 := found3 m c _ (hY (3 : Fin 6))
  have h4 := found4 m c _ (hY (4 : Fin 6))
  rw [bigSep_W, bigSep_W]
  simp only [owns_whole_eq]
  rw [show defs₀ (F := F) .tc cfg0.body (cfg0.bodyArgs t₀ (cfg0.slots t₀)) = app (cc0_body (F := F)) from rfl]
  show bodyPre m c Y ⊢ wpb c (app (cc0_body (F := F))) (fun _ => bodyPost m c Y)
  exact body_all m c Y h0 h1 h2 h3 h4

/-! ## The launch theorem's side conditions -/

theorem ownSemFacts : Pipeline.OwnSemFacts cfg0.spec osem where
  isScoped := by decide +kernel
  inj := fun k k' h => Subtype.ext (ksem_injective h)
  disj := by decide +kernel

theorem share_eq (c : Dev nD) (w : Fin cfg0.W) : (dats m 0 c).share w = fullShare := by unfold RDat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xin m) c)
      ⊢ |={Set.univ}=> iprop(start m c ∗ emp) := by
  unfold start G' records Ctx
  iintro ⟨-, Hlev, Hcr, -, ⟨%κ, ⟨HI, HR⟩, HL⟩⟩
  ihave Hc := (creds (F := F) c) $$ Hcr
  imodintro
  isplitl
  · iexists κ
    isplitl [Hlev HI HR]
    · isplitl [Hlev]; · iexact Hlev
      isplitl [HI]; · iexact HI
      iexact HR
    isplitl [Hc]; · iexact Hc
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (Entails.of_eq (scr_eq (F := F) c)); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl]
  unfold Φ₁ zer
  iintro ⟨Hr, Hz⟩
  ihave H := (Entails.of_eq (sems0_eq (F := F) c).symm) $$ Hz
  icases H with ⟨H1, H2⟩
  isplitl [H2]; · iexact H2
  isplitl [H1]; · iexact H1
  iapply (Entails.of_eq (scr_eq (F := F) c).symm); iexact Hr

theorem obBar_pos : ∀ o ∈ obBar, 0 < klv o.k := by
  intro o _; cases o <;> exact Nat.succ_pos _

theorem lv_stage (c : Dev nD) : ∀ (w : Fin cfg0.W) (s : Fin (cfg0.win w).nbuf), (kdec (.dma ((cfg0.win w).sem s))) = none := by decide +kernel

theorem waits (c : Dev nD) : (levAts L lv : sProp 𝕄) ⊢ Pipeline.RDat.cellsWaits cfgs (dats m) () 0 c :=
  Pipeline.RDat.cellsWaits_intro cfgs (dats m) () 0 c fun w s t => by
    have hl : lv ((c : Thread nD τ), .dma ((cfg0.win w).sem s)) () = 0 := by
      show (kdec (.dma ((cfg0.win w).sem s))).elim 0 klv = 0
      rw [lv_stage c w s]; rfl
    rcases t with ⟨_ | _, ht⟩
    · exact mayWait c _ 0 obBar hl obBar_pos
    · exact mayWait c _ 0 [] hl (fun o ho => absurd ho List.not_mem_nil)

/-! ## The run -/

/-- What the program leaves: the arguments as they were, in every device's result array what the kernel's relation allows. -/
def QC : PUnit × MemSt nD τ sig (Elt F) → Prop := fun r =>
  ∀ c : Dev nD, ∀ w : Fin cfg0.W, (dats m 0 c).ArrAt w cfg0.N (r.2.mem ((cfg0.win w).arr.view.loc (c : Thread nD τ)))

set_option maxRecDepth 8000 in
/-- At sixteen devices, from any memory with zero counters: every fair execution ends, with the arrays as `QC` says and every
    semaphore counter at zero. -/
theorem run_main : θ_run defs (onTc (τ := τ) (main (F := F))) ⟨m, fun _ => 0, ρ⟩ (fun r => QC m r ∧ r.2.sem = fun _ => 0) :=
  Pipeline.RDat.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xin m)) (G' := G' (xin m)) (u₀ := u₀)
    (hu₀ := by
      unfold u₀
      iintro Hu
      ihave H := (ownU_pair _ _) $$ Hu
      icases H with ⟨HP, HX⟩
      imod (fund_all (xin m)) $$ HX with HG
      imodintro
      isplitl [HP] <;> iassumption)
    (hglob := glob (xin m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Pf
end
end
-- ==== Proof.Frames.lean ====
/-
# The frames

Every run ends with the arguments as they were and every counter at zero; the result array of each device meets the kernel's relation.
-/
module

public import proofs.«01_k».proof.Proof.Launch
public import Idealize.ShloMosaic.Lib.Pipeline.ValueKit

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

open Idealize.ShloMosaic.Pipeline (RDat)

variable (m : (ℓ : Loc nD τ sig) → Buf (Elt F) ℓ) (ρ : Dev nD → PrngReg)

/-- The five argument arrays of device `c` are as at the start. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept_of (r : PUnit × MemSt nD τ sig (Elt F)) (h : QC m r) (c : Dev nD) : Kept m r c := by
  have e : ∀ w : Fin 6, (cfg0.win w).isOut = false → r.2.mem ((cfg0.win w).arr.view.loc (c : Thread nD τ)) = m ((cfg0.win w).arr.view.loc (c : Thread nD τ)) :=
    fun w hw => by
      have := h c w
      rw [RDat.ArrAt_in (dats m 0 c) w hw] at this
      exact this
  exact ⟨e 0 rfl, e 1 rfl, e 2 rfl, e 3 rfl, e 4 rfl⟩

theorem run_frame : θ_run defs (onTc (τ := τ) (main (F := F))) ⟨m, fun _ => 0, ρ⟩ (fun r => (∀ c : Dev nD, Kept m r c) ∧ r.2.sem = fun _ => 0) :=
  (θ_run defs _ _).mono (fun r h => ⟨fun c => kept_of m r h.1 c, h.2⟩) (run_main m ρ)

/-- The result array's block is the whole array. -/
theorem out_read (f : (main_v1 : Ref sig .tc).ty.Contents (Elt F)) : (win0_5.blk (0 : Fin 1)).view.read (Elt F) f = f := by
  funext i
  show f ((win0_5.blk (0 : Fin 1)).view.emb i) = f i
  congr 1
  funext a
  apply Fin.ext
  fin_cases a
  · show (((win0_5.blk (0 : Fin 1)).view.emb i 0 : Fin _) : ℕ) = (i 0).val
    blk_simp
    simp only [show win0_5.index (0 : Fin 1) 0 = 0 from rfl, Nat.zero_mul, Nat.zero_add]
  · show (((win0_5.blk (0 : Fin 1)).view.emb i 1 : Fin _) : ℕ) = (i 1).val
    blk_simp
    simp only [show win0_5.index (0 : Fin 1) 1 = 0 from rfl, Nat.zero_mul, Nat.zero_add]

theorem out_of (r : PUnit × MemSt nD τ sig (Elt F)) (h : QC m r) (c : Dev nD) :
    OutOk (xin m) (r.2.mem ((c.tc : Thread nD τ).loc main_v1)) := by
  have h5 := h c (5 : Fin 6)
  rw [show cfg0.N = t₀.val + 1 from rfl, RDat.ArrAt_succ, if_pos (show (cfg0.win (5 : Fin 6)).flush t₀ = true from rfl)] at h5
  obtain ⟨G₀, Z, -, ⟨Y, -, hZ⟩, hG⟩ := h5
  have hO : OutOk (xin m) Z := hZ
  have e : r.2.mem ((c.tc : Thread nD τ).loc main_v1) = Z :=
    (out_read (F := F) _).symm.trans ((congrArg ((win0_5.blk (0 : Fin 1)).view.read (Elt F)) hG).trans (View.read_write_univ _ _))
  rw [e]
  exact hO

theorem run_value : θ_run defs (onTc (τ := τ) (main (F := F))) ⟨m, fun _ => 0, ρ⟩
    (fun r => ∀ c : Dev nD, OutOk (xin m) (r.2.mem ((c.tc : Thread nD τ).loc main_v1)) ∧ Kept m r c) :=
  (θ_run defs _ _).mono (fun r h c => ⟨out_of m r h.1 c, kept_of m r h.1 c⟩) (run_main m ρ)

end Cert.KernelIdeal.Pf
end
end
-- ==== Proof.Same.lean ====
/-
# The printed kernel and the idealized kernel are one program

They differ in the named constant alone. Where a named constant is read as the literal that it replaces they are the same,
so a run of the idealized kernel, proved for any floats, is a run of the kernel.
-/
module

public import proofs.«01_k».proof.Proof.Gen.Kernel
public import proofs.«01_k».proof.Proof.Frames

@[expose] public section

noncomputable section

namespace Cert.Same

open Idealize.ShloMosaic Idealize.SL.Sem

variable {F : FTy → Type} [FloatOps F]

/-- A named constant read as the literal that it replaces. -/
local instance litNamed : Named F := ⟨fun _ _ {φ} b => FloatOps.ofBits φ b⟩

/-- The two bodies are one program. -/
theorem body_eq : Cert.Kernel.cc0_body (F := F) = Cert.KernelIdeal.cc0_body (F := F) := rfl

/-- The body tables agree at the one label. -/
theorem defs₀_eq : Cert.Kernel.defs₀ (F := F) = Cert.KernelIdeal.defs₀ (F := F) := by
  refine congrArg Defs.onTc ?_
  funext l x
  match l, x with
  | 0, (t, s) => rfl
  | ⟨_ + 1, h⟩, _ => exact absurd h (Nat.not_lt.2 (Nat.le_add_left _ _))

/-- The tables with the call's pipeline agree. -/
theorem defs_eq : Cert.Kernel.defs (F := F) = Cert.KernelIdeal.defs (F := F) :=
  congrArg (Pipeline.defs Cert.KernelIdeal.pcfgs) defs₀_eq

variable (m : (ℓ : Loc Cert.Kernel.nD Cert.Kernel.τ Cert.Kernel.sig) → Buf (Elt F) ℓ) (ρ : Dev Cert.Kernel.nD → PrngReg)

/-- The kernel runs to the end, its arguments end unchanged, and every semaphore ends at zero. -/
theorem run_frame : θ_run (Cert.Kernel.defs (F := F)) (onTc (τ := Cert.Kernel.τ) (Cert.Kernel.main (F := F))) ⟨m, fun _ => 0, ρ⟩
    (fun r => (∀ c : Dev Cert.Kernel.nD, Cert.KernelIdeal.Pf.Kept m r c) ∧ r.2.sem = fun _ => 0) := by
  rw [defs_eq]
  exact Cert.KernelIdeal.Pf.run_frame (F := F) m ρ

end Cert.Same
end
end
-- ==== Proof.VSoft.lean ====
/-
# The softmax in two halves

The kernel takes the softmax of the first and of the last 1024 columns apart and merges them; the reference takes it at
once. Over the extended reals the two agree where every score is real or minus infinity and one is real.
-/
module

public import Idealize.ShloMosaic.PureOps.Ideal
public import Mathlib.Data.EReal.Operations

@[expose] public section

noncomputable section

namespace Cert.KernelIdeal.Pf

open Idealize.ShloMosaic

/-- A score: a real, or minus infinity where masked. -/
def Sc (x : EReal) : Prop := x = ⊥ ∨ ∃ r : ℝ, x = r

theorem sup_sc {A : Type*} [Fintype A] {s : A → EReal} (h : ∀ a, Sc (s a)) : Sc (Finset.univ.sup s) := by
  rcases (Finset.univ : Finset A).eq_empty_or_nonempty with e | e
  · left; rw [e, Finset.sup_empty]
  · obtain ⟨i, -, hi⟩ := Finset.exists_mem_eq_sup _ e s
    rw [hi]; exact h i

theorem exp_nonneg' (x : EReal) : 0 ≤ Ideal.exp x := by
  induction x with
  | bot => simp
  | top => simp
  | coe r => rw [Ideal.exp_coe]; exact_mod_cast (Real.exp_pos r).le

theorem exp_sub_real {x : EReal} (h : Sc x) (M : ℝ) : ∃ p : ℝ, 0 ≤ p ∧ Ideal.exp (x - M) = p ∧ (x ≠ ⊥ → 0 < p) := by
  rcases h with rfl | ⟨r, rfl⟩
  · exact ⟨0, le_rfl, by simp, fun h => absurd rfl h⟩
  · exact ⟨Real.exp (r - M), (Real.exp_pos _).le, by rw [← EReal.coe_sub, Ideal.exp_coe], fun _ => Real.exp_pos _⟩

theorem exp_chain {x mA : EReal} (hx : Sc x) (hm : Sc mA) (hle : x ≤ mA) (M : ℝ) :
    Ideal.exp (mA - M) * Ideal.exp (x - mA) = Ideal.exp (x - M) := by
  rcases hm with rfl | ⟨a, rfl⟩
  · rw [le_bot_iff.mp hle]; simp
  · rcases hx with rfl | ⟨r, rfl⟩
    · simp
    · rw [← EReal.coe_sub, ← EReal.coe_sub, ← EReal.coe_sub, Ideal.exp_coe, Ideal.exp_coe, Ideal.exp_coe, ← EReal.coe_mul, ← Real.exp_add]
      congr 2; ring

theorem mul_sum' {A : Type*} [Fintype A] {a : EReal} (h0 : 0 ≤ a) (ht : a ≠ ⊤) (f : A → EReal) : a * ∑ i, f i = ∑ i, a * f i := by
  classical
  induction (Finset.univ : Finset A) using Finset.induction_on with
  | empty => simp
  | insert i s hi ih => rw [Finset.sum_insert hi, Finset.sum_insert hi, EReal.left_distrib_of_nonneg_of_ne_top h0 ht, ih]

/-- The softmax of the scores `s`, applied to `v`. -/
def smx {G : Type*} [Fintype G] (s v : G → EReal) : EReal :=
  ∑ g, v g * Ideal.div (Ideal.exp (s g - Finset.univ.sup s)) (∑ g', Ideal.exp (s g' - Finset.univ.sup s))

/-- One half, scaled to the common maximum. -/
theorem half {A : Type*} [Fintype A] {s : A → EReal} (h : ∀ a, Sc (s a)) (M : ℝ) (v : A → EReal) :
    Ideal.exp (Finset.univ.sup s - M) * ∑ a, Ideal.exp (s a - Finset.univ.sup s) * v a = ∑ a, Ideal.exp (s a - M) * v a := by
  obtain ⟨p, hp, e, -⟩ := exp_sub_real (sup_sc h) M
  rw [mul_sum' (exp_nonneg' _) (by rw [e]; exact EReal.coe_ne_top p)]
  refine Finset.sum_congr rfl fun a _ => ?_
  rw [← mul_assoc, exp_chain (h a) (sup_sc h) (Finset.le_sup (Finset.mem_univ a))]

theorem half1 {A : Type*} [Fintype A] {s : A → EReal} (h : ∀ a, Sc (s a)) (M : ℝ) :
    Ideal.exp (Finset.univ.sup s - M) * ∑ a, Ideal.exp (s a - Finset.univ.sup s) = ∑ a, Ideal.exp (s a - M) := by
  have := half h M fun _ => 1
  simpa using this

/-- The merged halves are the whole softmax. -/
theorem merge {A B G : Type*} [Fintype A] [Fintype B] [Fintype G] (e : A ⊕ B ≃ G) (s v : G → EReal)
    (sA vA : A → EReal) (sB vB : B → EReal) (hs : ∀ g, Sc (s g))
    (hA : ∀ a, sA a = s (e (.inl a))) (hB : ∀ b, sB b = s (e (.inr b)))
    (wA : ∀ a, s (e (.inl a)) ≠ ⊥ → vA a = v (e (.inl a))) (wB : ∀ b, s (e (.inr b)) ≠ ⊥ → vB b = v (e (.inr b)))
    (hex : ∃ g, s g ≠ ⊥) (mA mB : EReal) (hmA : mA = Finset.univ.sup sA) (hmB : mB = Finset.univ.sup sB) :
    Ideal.div (Ideal.exp (mA - max mA mB) * (∑ a, Ideal.exp (sA a - mA) * vA a) + Ideal.exp (mB - max mA mB) * (∑ b, Ideal.exp (sB b - mB) * vB b))
      (Ideal.exp (mA - max mA mB) * (∑ a, Ideal.exp (sA a - mA)) + Ideal.exp (mB - max mA mB) * (∑ b, Ideal.exp (sB b - mB)))
      = smx s v := by
  have hsup : max mA mB = Finset.univ.sup s := by
    subst hmA hmB
    apply le_antisymm
    · refine max_le (Finset.sup_le fun a _ => ?_) (Finset.sup_le fun b _ => ?_)
      · rw [hA]; exact Finset.le_sup (Finset.mem_univ _)
      · rw [hB]; exact Finset.le_sup (Finset.mem_univ _)
    · refine Finset.sup_le fun g _ => ?_
      obtain ⟨x, rfl⟩ := e.surjective g
      rcases x with a | b
      · rw [← hA]; exact (Finset.le_sup (f := sA) (Finset.mem_univ a)).trans (le_max_left _ _)
      · rw [← hB]; exact (Finset.le_sup (f := sB) (Finset.mem_univ b)).trans (le_max_right _ _)
  obtain ⟨M, hM⟩ : ∃ M : ℝ, Finset.univ.sup s = M := by
    rcases sup_sc hs with h | h
    · obtain ⟨g, hg⟩ := hex
      exact absurd (le_bot_iff.mp (h ▸ Finset.le_sup (f := s) (Finset.mem_univ g))) hg
    · exact h
  have cA : ∀ a, Sc (sA a) := fun a => by rw [hA]; exact hs _
  have cB : ∀ b, Sc (sB b) := fun b => by rw [hB]; exact hs _
  have hL : Ideal.exp (mA - M) * (∑ a, Ideal.exp (sA a - mA)) + Ideal.exp (mB - M) * (∑ b, Ideal.exp (sB b - mB)) = ∑ g, Ideal.exp (s g - M) := by
    rw [hmA, hmB, half1 cA, half1 cB, ← e.sum_comp, Fintype.sum_sum_type]
    simp only [hA, hB]
  have hN : Ideal.exp (mA - M) * (∑ a, Ideal.exp (sA a - mA) * vA a) + Ideal.exp (mB - M) * (∑ b, Ideal.exp (sB b - mB) * vB b)
      = ∑ g, Ideal.exp (s g - M) * v g := by
    rw [hmA, hmB, half cA, half cB, ← e.sum_comp, Fintype.sum_sum_type]
    congr 1
    · refine Finset.sum_congr rfl fun a _ => ?_
      rw [hA]
      by_cases h : s (e (.inl a)) = ⊥
      · rw [h]; simp
      · rw [wA a h]
    · refine Finset.sum_congr rfl fun b _ => ?_
      rw [hB]
      by_cases h : s (e (.inr b)) = ⊥
      · rw [h]; simp
      · rw [wB b h]
  choose p hp hpe hpp using fun g => exp_sub_real (hs g) M
  have hsum : (∑ g, Ideal.exp (s g - M)) = ((∑ g, p g : ℝ) : EReal) := by
    simp only [hpe]
    exact (map_sum (⟨⟨Real.toEReal, EReal.coe_zero⟩, EReal.coe_add⟩ : ℝ →+ EReal) p _).symm
  have hpos : 0 < ∑ g, p g := by
    obtain ⟨g, hg⟩ := hex
    exact Finset.sum_pos' (fun g _ => hp g) ⟨g, Finset.mem_univ _, hpp g hg⟩
  have hne : ((∑ g, p g : ℝ) : EReal) ≠ 0 := by exact_mod_cast hpos.ne'
  have hdiv : ∀ x : EReal, Ideal.div x ((∑ g, p g : ℝ) : EReal) = (((∑ g, p g)⁻¹ : ℝ) : EReal) * x := fun x => by
    rw [Ideal.div, if_neg hne, mul_comm, EReal.coe_inv]
  unfold smx
  rw [hsup, hM, hL, hN, hsum, hdiv, mul_sum' (by exact_mod_cast (inv_pos.mpr hpos).le) (EReal.coe_ne_top _)]
  refine Finset.sum_congr rfl fun g _ => ?_
  rw [hdiv, ← mul_assoc, mul_comm]

end Cert.KernelIdeal.Pf
end
end
-- ==== Proof.VSpec.lean ====
/-
# The mathematics both programs compute

Attention over the kept pairs of blocks, head by head, then the product with the output weights, over the extended
reals and in plain indices.
-/
module

public import proofs.«01_k».proof.Proof.VSoft

@[expose] public section

noncomputable section

namespace Cert.KernelIdeal.Pf

open Idealize.ShloMosaic

/-- Which pairs of blocks are kept: the diagonal, the first column, and every third antidiagonal. -/
def kpB (a : Fin 2) (g : Fin 32) : Bool := a.val == g.val || g.val == 0 || (a.val + g.val) % 3 == 0

/-- Whether query `i` attends to key `G`. -/
def keepB (i : Fin 128) (G : Fin 2048) : Bool := kpB ⟨i.val / 64, by omega⟩ ⟨G.val / 64, by omega⟩

theorem keepB_of {i : Fin 128} {G : Fin 2048} {a : Fin 2} {g : Fin 32} (ha : a.val = i.val / 64) (hg : g.val = G.val / 64) :
    keepB i G = kpB a g := by
  rw [keepB, show (⟨i.val / 64, by omega⟩ : Fin 2) = a from Fin.ext ha.symm, show (⟨G.val / 64, by omega⟩ : Fin 32) = g from Fin.ext hg.symm]

/-- Row `i` of batch `b`. -/
def rowI (b : Fin 2) (i : Fin 128) : Fin 256 := ⟨b.val * 128 + i.val, by omega⟩
/-- Component `e` of head `H`. -/
def headI (H : Fin 64) (e : Fin 64) : Fin 4096 := ⟨H.val * 64 + e.val, by omega⟩

/-- The inputs, in plain indices. -/
structure Args where
  x : Fin 256 → Fin 512 → EReal
  wq : Fin 512 → Fin 4096 → EReal
  k : Fin 2 → Fin 2048 → Fin 4096 → EReal
  v : Fin 2 → Fin 2048 → Fin 4096 → EReal
  wo : Fin 4096 → Fin 512 → EReal

variable (A : Args)

def Args.q (r : Fin 256) (n : Fin 4096) : EReal := ∑ l : Fin 512, A.x r l * A.wq l n

/-- The score of query `i` and key `G`. -/
def Args.s (b : Fin 2) (H : Fin 64) (i : Fin 128) (G : Fin 2048) : EReal :=
  if keepB i G then (∑ k : Fin 64, A.q (rowI b i) (headI H k) * A.k b G (headI H k)) * Ideal.ofBits .f32 1040187392#32 else ⊥

/-- The attention output. -/
def Args.ctx (b : Fin 2) (H : Fin 64) (i : Fin 128) (e : Fin 64) : EReal := smx (A.s b H i) (fun G => A.v b G (headI H e))

/-- The result. -/
def Args.out (r : Fin 256) (n : Fin 512) : EReal :=
  ∑ j : Fin 4096, A.ctx ⟨r.val / 128, by omega⟩ ⟨j.val / 64, by omega⟩ ⟨r.val % 128, by omega⟩ ⟨j.val % 64, by omega⟩ * A.wo j n

/-- The inputs scores are computed from are real. -/
structure Args.Fin (A : Args) : Prop where
  x : ∀ r l, ∃ y : ℝ, A.x r l = y
  wq : ∀ l n, ∃ y : ℝ, A.wq l n = y
  k : ∀ b G n, ∃ y : ℝ, A.k b G n = y

theorem real_sum {ι : Type*} (s : Finset ι) (f : ι → EReal) (h : ∀ i, ∃ y : ℝ, f i = y) : ∃ y : ℝ, ∑ i ∈ s, f i = y := by
  classical
  induction s using Finset.induction_on with
  | empty => exact ⟨0, by simp⟩
  | insert i s hi ih =>
    obtain ⟨y, hy⟩ := ih
    obtain ⟨z, hz⟩ := h i
    exact ⟨z + y, by rw [Finset.sum_insert hi, hy, hz, EReal.coe_add]⟩

theorem real_mul {a b : EReal} (ha : ∃ y : ℝ, a = y) (hb : ∃ y : ℝ, b = y) : ∃ y : ℝ, a * b = y := by
  obtain ⟨y, rfl⟩ := ha; obtain ⟨z, rfl⟩ := hb; exact ⟨y * z, (EReal.coe_mul _ _).symm⟩

theorem real_eighth : ∃ y : ℝ, Ideal.ofBits .f32 1040187392#32 = y := by
  have h : Ideal.ofBits .f32 1040187392#32 = Ideal.ieee 8 23 1040187392#32 := rfl
  rw [h]
  simp only [Ideal.ieee]
  rw [if_neg (by decide), if_neg (by decide)]
  exact ⟨_, rfl⟩

variable {A}

theorem Args.Fin.s_real (hA : A.Fin) (b : _root_.Fin 2) (H : _root_.Fin 64) (i : _root_.Fin 128) (G : _root_.Fin 2048)
    (hk : keepB i G = true) : ∃ y : ℝ, A.s b H i G = y := by
  rw [Args.s, if_pos hk]
  exact real_mul (real_sum _ _ fun k => real_mul (real_sum _ _ fun l => real_mul (hA.x _ _) (hA.wq _ _)) (hA.k _ _ _)) real_eighth

theorem Args.Fin.s_sc (hA : A.Fin) (b : _root_.Fin 2) (H : _root_.Fin 64) (i : _root_.Fin 128) (G : _root_.Fin 2048) :
    Sc (A.s b H i G) := by
  by_cases hk : keepB i G = true
  · exact .inr (hA.s_real b H i G hk)
  · left; rw [Args.s, if_neg hk]

theorem keep_zero (i : Fin 128) : keepB i 0 = true := by revert i; decide +kernel

theorem Args.Fin.s_ex (hA : A.Fin) (b : _root_.Fin 2) (H : _root_.Fin 64) (i : _root_.Fin 128) : ∃ G, A.s b H i G ≠ ⊥ := by
  refine ⟨0, ?_⟩
  obtain ⟨y, hy⟩ := hA.s_real b H i 0 (keep_zero i)
  rw [hy]; exact EReal.coe_ne_bot y

end Cert.KernelIdeal.Pf
end
end
-- ==== Proof.VMask.lean ====
/-
# The kernel's masks, at an index
-/
module

public import proofs.«01_k».proof.Proof.Rel
public import proofs.«01_k».proof.Proof.VSpec
public import Idealize.ShloMosaic.Lib.Pointwise

@[expose] public section

set_option maxRecDepth 16384

noncomputable section

namespace Cert.KernelIdeal.Pf

open Cert.KernelIdeal Cert.KernelIdeal.Gen

open Idealize.ShloMosaic
open Idealize.ShloMosaic.TcCoe

/-- A column of the first half, and of the last. -/
abbrev colA (x : Fin 1024) : Fin 2048 := ⟨x.val, by omega⟩
abbrev colZ (x : Fin 1024) : Fin 2048 := ⟨1024 + x.val, by omega⟩

/-- The column of all the keys that a device's column `T` is. -/
def gcol (c : Dev nD) (T : Fin 2048) : Fin 2048 :=
  ⟨128 * ((c.val + (16 - T.val / 128)) % 16) + T.val % 128, by omega⟩

/-- The division rounding down, and its remainder, as the kernel spells them. -/
def fdivK (x n : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt n 0#32)) (Scalar.extui (Scalar.cmpi .slt n 0#32))))
    (IntOp.cmpi .ne (IntOp.remsi .vector x n) 0#32)) (IntOp.subi (IntOp.divsi .vector x n) 1#32) (IntOp.divsi .vector x n)
def remK (x n : BitVec 32) : BitVec 32 :=
  Scalar.select (IntOp.andi (IntOp.xori (IntOp.cmpi .slt (IntOp.remsi .vector x (Scalar.select (Scalar.cmpi .eq n 0#32) 1#32 n)) 0#32)
      (Scalar.cmpi .slt (Scalar.select (Scalar.cmpi .eq n 0#32) 1#32 n) 0#32))
    (IntOp.cmpi .ne (IntOp.remsi .vector x (Scalar.select (Scalar.cmpi .eq n 0#32) 1#32 n)) 0#32))
    (IntOp.addi (IntOp.remsi .vector x (Scalar.select (Scalar.cmpi .eq n 0#32) 1#32 n)) (Scalar.select (Scalar.cmpi .eq n 0#32) 1#32 n))
    (IntOp.remsi .vector x (Scalar.select (Scalar.cmpi .eq n 0#32) 1#32 n))

theorem p41_at (w : BitVec 32) (T : Fin 2048) :
    k0_pay41 w (ix2 0 T) = IntOp.muli 2#32 (remK (IntOp.subi w (fdivK (BitVec.ofNat 32 T.val) 128#32)) 16#32) := by
  pointwise [k0_pay41]
  rfl

theorem p42_at (x : IVec S1x2048 32) (T : Fin 2048) :
    k0_pay42 (iota .tc S1x2048 32 [1] iota_S1x2048_d1_w32) x (ix2 0 T)
      = IntOp.addi (x (ix2 0 T)) (fdivK (remK (BitVec.ofNat 32 T.val) 128#32) 64#32) := by
  pointwise [k0_pay42]
  rfl

theorem fdiv_T (t : Fin 16) (u : Fin 128) : fdivK (BitVec.ofNat 32 (128 * t.val + u.val)) 128#32 = BitVec.ofNat 32 t.val := by
  revert t u; decide +kernel
theorem rem_T (t : Fin 16) (u : Fin 128) : remK (BitVec.ofNat 32 (128 * t.val + u.val)) 128#32 = BitVec.ofNat 32 u.val := by
  revert t u; decide +kernel
theorem fdiv_u (u : Fin 128) : fdivK (BitVec.ofNat 32 u.val) 64#32 = BitVec.ofNat 32 (u.val / 64) := by
  revert u; decide +kernel
theorem rem_me (c t : Fin 16) : IntOp.muli 2#32 (remK (IntOp.subi (Scalar.remsi (Scalar.divsi (BitVec.ofNat 32 c.val) 1#32) 16#32) (BitVec.ofNat 32 t.val)) 16#32)
    = BitVec.ofNat 32 (2 * ((c.val + (16 - t.val)) % 16)) := by
  revert c t; decide +kernel
theorem me_word (c : Dev nD) : Dev.word c = BitVec.ofNat 32 c.val := by revert c; decide +kernel

theorem col_at (c t : Fin 16) (u : Fin 128) :
    colW (meW c) (ix2 0 ⟨128 * t.val + u.val, by omega⟩) = BitVec.ofNat 32 (2 * ((c.val + (16 - t.val)) % 16) + u.val / 64) := by
  rw [colW, p42_at, p41_at, fdiv_T, rem_T, fdiv_u, meW, me_word]
  refine (congrArg (fun z => IntOp.addi z _) (rem_me c t)).trans ?_
  exact (BitVec.ofNat_add _ _).symm

theorem colW_at (c : Dev nD) (T : Fin 2048) : colW (meW c) (ix2 0 T) = BitVec.ofNat 32 ((gcol c T).val / 64) := by
  have h := col_at c ⟨T.val / 128, by omega⟩ ⟨T.val % 128, by omega⟩
  have e : (⟨128 * (T.val / 128) + T.val % 128, by omega⟩ : Fin 2048) = T := by ext; simp; omega
  simp only [e] at h
  rw [h]
  congr 1
  simp only [gcol]
  omega

theorem row_at (i : Fin 128) : (k0_pay45 (iota .tc S128x1 32 [0] iota_S128x1_d0_w32) 64#32 k0_pay43 k0_pay44) (ix2 i 0) = BitVec.ofNat 32 (i.val / 64) := by
  pointwise [k0_pay45, k0_pay43, k0_pay44]
  revert i
  decide +kernel

theorem keepW_at (c : Dev nD) (i : Fin 128) (T : Fin 2048) : keepW (meW c) (ix2 i T) = BitVec.ofBool (keepB i (gcol c T)) := by
  pointwise [keepW, k0_pay46, k0_pay47, k0_pay48]
  obtain ⟨a, ha⟩ : ∃ a : Fin 2, a.val = i.val / 64 := ⟨⟨i.val / 64, by omega⟩, rfl⟩
  obtain ⟨g, hg⟩ : ∃ g : Fin 32, g.val = (gcol c T).val / 64 := ⟨⟨(gcol c T).val / 64, by omega⟩, rfl⟩
  rw [colW_at, row_at, keepB_of ha hg, ← ha, ← hg]
  clear ha hg
  revert a g
  decide +kernel

/-- A column some row keeps counts. -/
theorem vmW_at (c : Dev nD) (i : Fin 128) (T : Fin 2048) (hk : keepB i (gcol c T) = true) : vmW (F := Ideal) (meW c) (ix2 T 0) = 1 := by
  pointwise [vmW, k0_pay49]
  obtain ⟨a, ha⟩ : ∃ a : Fin 2, a.val = i.val / 64 := ⟨⟨i.val / 64, by omega⟩, rfl⟩
  obtain ⟨g, hg⟩ : ∃ g : Fin 32, g.val = (gcol c T).val / 64 := ⟨⟨(gcol c T).val / 64, by omega⟩, rfl⟩
  rw [keepB_of ha hg] at hk
  rw [colW_at, ← hg]
  clear ha hg
  have key : ∀ x : BitVec 1, x = 1#1 → Scalar.select x (1 : EReal) 0 = 1 := by rintro _ rfl; rfl
  apply key
  revert hk
  revert a g
  decide +kernel

/-- A column some row keeps was sent. -/
theorem need_of_keep (c : Dev nD) (i : Fin 128) (T : Fin 2048) (hk : keepB i (gcol c T) = true) :
    need (src c ⟨T.val / 128, by omega⟩) ⟨T.val % 128 / 64, by omega⟩ := by
  have hg : (gcol c T).val / 64 = 2 * ((c.val + (16 - T.val / 128)) % 16) + T.val % 128 / 64 := by
    simp only [gcol]; omega
  rw [keepB] at hk
  have key : ∀ (a : Fin 2) (g : Fin 32), kpB a g = true → g.val < 2 ∨ g.val % 3 ≠ 1 := by decide +kernel
  have h := key _ _ hk
  simp only [hg] at h
  exact h

theorem gcol_inj (c : Dev nD) : Function.Injective (gcol c) := by
  intro T T' h
  have h' := congrArg Fin.val h
  simp only [gcol] at h'
  have hc : c.val < 16 := c.isLt
  ext
  have := T.isLt
  have := T'.isLt
  omega

/-- The columns of device `c`, in halves, against all the keys. -/
def colE (c : Dev nD) : Fin 1024 ⊕ Fin 1024 ≃ Fin 2048 :=
  Equiv.ofBijective (Sum.elim (fun x => gcol c (colA x)) (fun x => gcol c (colZ x))) (by
    rw [Fintype.bijective_iff_injective_and_card]
    refine ⟨?_, by simp⟩
    rintro (a | a) (b | b) h <;> have h' := congrArg Fin.val (gcol_inj c h) <;> simp only [] at h'
    · congr 1; ext; exact h'
    · omega
    · omega
    · congr 1; ext; omega)

theorem colE_inl (c : Dev nD) (x : Fin 1024) : colE c (.inl x) = gcol c (colA x) := rfl
theorem colE_inr (c : Dev nD) (x : Fin 1024) : colE c (.inr x) = gcol c (colZ x) := rfl

end Cert.KernelIdeal.Pf
end
end
-- ==== Proof.VRead.lean ====
/-
# The buffers, at an index

What each relation says of a buffer's entries: the packed planes, the slots, the attention output, the partial
result, the reduced rows and the result.
-/
module

public import proofs.«01_k».proof.Proof.VMask
public import Idealize.ShloMosaic.Lib.Pointwise
public import Idealize.ShloMosaic.Lib.Pipeline.ValueKit

@[expose] public section

set_option maxRecDepth 16384

noncomputable section

namespace Cert.KernelIdeal.Pf

open Cert.KernelIdeal Cert.KernelIdeal.Gen

open Idealize.ShloMosaic
open Idealize.ShloMosaic.TcCoe

/-- Column `n` of the four heads of device `d`. -/
def colH (d : Dev nD) (n : Fin 256) : Fin 4096 := ⟨256 * d.val + n.val, by have : d.val < 16 := d.isLt; omega⟩

theorem kv_rd (d : Dev nD) (f : FVec Ideal S2x128x4096 .f32) (b : Fin 2) (u : Fin 128) (n : Fin 256) :
    i2M.view.readAt (Elt Ideal) (kvRect d).toLoadRect f (ix3 b u n) = f (ix3 b u (colH d n)) := by
  show f _ = f _
  congr 1
  funext a
  apply Fin.ext
  fin_cases a
  · show 0 + 1 * b.val = b.val
    omega
  · show 0 + 1 * u.val = u.val
    omega
  · show 256 * d.val + 1 * n.val = 256 * d.val + n.val
    omega

theorem slab_rd (d : Dev nD) (h : Fin 2) (p : FVec Ideal S16x4x128x256 .bf16) (b : Fin 2) (u : Fin 128) (n : Fin 256) :
    (pM.access (slab d h)).read (Elt Ideal) p (ix4 0 b u n) = p (ix4 d ⟨2 * h.val + b.val, by omega⟩ u n) := by
  show p _ = p _
  congr 1
  funext a
  apply Fin.ext
  fin_cases a
  · show d.val + 1 * 0 = d.val
    omega
  · show 2 * h.val + 1 * b.val = 2 * h.val + b.val
    omega
  · show 0 + 1 * u.val = u.val
    omega
  · show 0 + 1 * n.val = n.val
    omega

theorem pay1_at (x : Vec Ideal S2x128x256 .f32) (b : Fin 2) (u : Fin 128) (n : Fin 256) : k0_pay1 (F := Ideal) x (ix4 0 b u n) = x (ix3 b u n) := by
  pointwise [k0_pay1]

theorem pay37_at (x : Vec Ideal S1x4x128x256 .bf16) (b : Fin 4) (u : Fin 128) (n : Fin 256) : k0_pay37 (F := Ideal) x (ix3 b u n) = x (ix4 0 b u n) := by
  pointwise [k0_pay37]

/-- The keys (planes 0, 1) and values (planes 2, 3) of device `d`'s heads in a device's block. -/
def pk (I : Ins Ideal) (d : Dev nD) (j : Fin 4) (u : Fin 128) (n : Fin 256) : EReal :=
  if h : j.val < 2 then I.k (ix3 (⟨j.val, h⟩ : Fin 2) u (colH d n))
  else I.v (ix3 (⟨j.val - 2, by omega⟩ : Fin 2) u (colH d n))

theorem packVal0_at (I : Ins Ideal) (d : Dev nD) (b : Fin 2) (u : Fin 128) (n : Fin 256) :
    packVal I d 0 (ix4 0 b u n) = I.k (ix3 b u (colH d n)) :=
  (congrFun (show packVal I d 0 = k0_pay1 (i2M.view.readAt (Elt Ideal) (kvRect d).toLoadRect I.k) from if_pos rfl) (ix4 0 b u n)).trans
    ((pay1_at _ b u n).trans (kv_rd d I.k b u n))

theorem packVal1_at (I : Ins Ideal) (d : Dev nD) (b : Fin 2) (u : Fin 128) (n : Fin 256) :
    packVal I d 1 (ix4 0 b u n) = I.v (ix3 b u (colH d n)) :=
  (congrFun (show packVal I d 1 = k0_pay1 (i3M.view.readAt (Elt Ideal) (kvRect d).toLoadRect I.v) from if_neg (by decide)) (ix4 0 b u n)).trans
    ((pay1_at _ b u n).trans (kv_rd d I.v b u n))

theorem pack_at {I : Ins Ideal} {d : Dev nD} {p : Con Ideal cc0_scratch0} (h : PackOk I d p) (j : Fin 4) (u : Fin 128) (n : Fin 256) :
    p (ix4 d j u n) = pk I d j u n := by
  by_cases hj : j.val < 2
  · have e := (slab_rd d 0 p ⟨j.val, hj⟩ u n).symm.trans ((congrFun (h 0) (ix4 0 ⟨j.val, hj⟩ u n)).trans (packVal0_at I d _ u n))
    have ej : (⟨2 * (0 : Fin 2).val + j.val, by show 2 * 0 + j.val < 4; omega⟩ : Fin 4) = j := Fin.ext (by show 2 * 0 + j.val = j.val; omega)
    rw [pk, dif_pos hj, ← e]
    exact congrArg (fun z => p (ix4 d z u n)) ej.symm
  · have e := (slab_rd d 1 p ⟨j.val - 2, by omega⟩ u n).symm.trans ((congrFun (h 1) (ix4 0 ⟨j.val - 2, by omega⟩ u n)).trans (packVal1_at I d _ u n))
    have ej : (⟨2 * (1 : Fin 2).val + (j.val - 2), by show 2 * 1 + (j.val - 2) < 4; omega⟩ : Fin 4) = j := Fin.ext (by show 2 * 1 + (j.val - 2) = j.val; omega)
    rw [pk, dif_neg hj, ← e]
    exact congrArg (fun z => p (ix4 d z u n)) ej.symm

theorem g_rd (t : Fin 16) (b : Fin 2) (g : FVec Ideal S4x2048x256 .bf16) (j : Fin 4) (u : Fin 64) (n : Fin 256) :
    (gSl t b).view.read (Elt Ideal) g (ix3 j u n) = g (ix3 j ⟨128 * t.val + 64 * b.val + u.val, by omega⟩ n) := by
  show g _ = g _
  congr 1
  funext a
  apply Fin.ext
  fin_cases a
  · show 0 + 1 * j.val = j.val
    omega
  · show 128 * t.val + 64 * b.val + 1 * u.val = 128 * t.val + 64 * b.val + u.val
    omega
  · show 0 + 1 * n.val = n.val
    omega

theorem cast_p (x : FVec Ideal S1x4x64x256 .bf16) (j : Fin 4) (u : Fin 64) (n : Fin 256) :
    shapeCast S4x64x256 x squeezes_S1x4x64x256_S4x64x256.numel_eq (ix3 j u n) = x (ix4 0 j u n) := by
  pointwise []

theorem p_rd (d : Dev nD) (b : Fin 2) (p : FVec Ideal S16x4x128x256 .bf16) (j : Fin 4) (u : Fin 64) (n : Fin 256) :
    (pSl d b).view.read (Elt Ideal) p (ix3 j u n) = p (ix4 d j ⟨64 * b.val + u.val, by omega⟩ n) := by
  have e : (pSl d b).view.read (Elt Ideal) p
      = shapeCast S4x64x256 ((pM.access (pRect d b)).read (Elt Ideal) p : FVec Ideal S1x4x64x256 .bf16) squeezes_S1x4x64x256_S4x64x256.numel_eq := rfl
  rw [e]
  refine (cast_p _ j u n).trans ?_
  show p _ = p _
  congr 1
  funext a
  apply Fin.ext
  fin_cases a
  · show d.val + 1 * 0 = d.val
    omega
  · show 0 + 1 * j.val = j.val
    omega
  · show 64 * b.val + 1 * u.val = 64 * b.val + u.val
    omega
  · show 0 + 1 * n.val = n.val
    omega

variable {X : Dev nD → Ins Ideal}

theorem slot_at {c : Dev nD} {t : Fin 16} {b : Fin 2} {g : Con Ideal cc0_scratch1} (h : SlotOk X c t b g) (j : Fin 4) (u : Fin 64) (n : Fin 256) :
    g (ix3 j (⟨128 * t.val + 64 * b.val + u.val, by omega⟩ : Fin 2048) n) = pk (X (src c t)) c j ⟨64 * b.val + u.val, by omega⟩ n := by
  obtain ⟨p, hp, e⟩ := h
  exact (g_rd t b g j u n).symm.trans ((congrFun e (ix3 j u n)).trans ((p_rd c b p j u n).trans (pack_at hp j _ n)))

theorem plane_rd (d : Dev nD) (p : FVec Ideal S16x4x128x256 .bf16) (j : Fin 4) (u : Fin 128) (n : Fin 256) :
    pM.view.readAt (Elt Ideal) (plane d).toLoadRect p (ix4 0 j u n) = p (ix4 d j u n) := by
  show p _ = p _
  congr 1
  funext a
  apply Fin.ext
  fin_cases a
  · show d.val + 1 * 0 = d.val
    omega
  · show 0 + 1 * j.val = j.val
    omega
  · show 0 + 1 * u.val = u.val
    omega
  · show 0 + 1 * n.val = n.val
    omega

theorem own_rd (g : FVec Ideal S4x2048x256 .bf16) (j : Fin 4) (u : Fin 128) (n : Fin 256) :
    (gM.access ownRect).read (Elt Ideal) g (ix3 j u n) = g (ix3 j ⟨u.val, by omega⟩ n) := by
  show g _ = g _
  congr 1
  funext a
  apply Fin.ext
  fin_cases a
  · show 0 + 1 * j.val = j.val
    omega
  · show 0 + 1 * u.val = u.val
    omega
  · show 0 + 1 * n.val = n.val
    omega

theorem own_at {c : Dev nD} {g : Con Ideal cc0_scratch1} (h : OwnOk X c g) (j : Fin 4) (u : Fin 128) (n : Fin 256) :
    g (ix3 j (⟨u.val, by omega⟩ : Fin 2048) n) = pk (X c) c j u n := by
  obtain ⟨p, hp, e⟩ := h
  exact (own_rd g j u n).symm.trans ((congrFun e (ix3 j u n)).trans ((pay37_at _ j u n).trans ((plane_rd c p j u n).trans (pack_at hp j u n))))

theorem src_zero (c : Dev nD) : src c 0 = c := by revert c; decide +kernel

/-- An entry of the slots read as column `T`. -/
theorem slot_col {c : Dev nD} {t : Fin 16} {b : Fin 2} {g : Con Ideal cc0_scratch1} (h : SlotOk X c t b g) (j : Fin 4) (T : Fin 2048)
    (ht : t.val = T.val / 128) (hb : b.val = T.val % 128 / 64) (n : Fin 256) :
    g (ix3 j T n) = pk (X (src c t)) c j ⟨T.val % 128, by omega⟩ n := by
  have e := slot_at h j ⟨T.val % 64, by omega⟩ n
  have e1 : (⟨128 * t.val + 64 * b.val + T.val % 64, by omega⟩ : Fin 2048) = T := Fin.ext (by simp only []; omega)
  have e2 : (⟨64 * b.val + T.val % 64, by omega⟩ : Fin 128) = ⟨T.val % 128, by omega⟩ := Fin.ext (by simp only []; omega)
  exact (congrArg (fun z => g (ix3 j z n)) e1.symm).trans (e.trans (congrArg (fun z => pk (X (src c t)) c j z n) e2))

theorem ga_at {c : Dev nD} {g : Con Ideal cc0_scratch1} (h : GAOk X c g) (j : Fin 4) (x : Fin 1024) (n : Fin 256)
    (hn : need (src c ⟨(colA x).val / 128, by omega⟩) ⟨(colA x).val % 128 / 64, by omega⟩) :
    g (ix3 j (colA x) n) = pk (X (src c ⟨(colA x).val / 128, by omega⟩)) c j ⟨(colA x).val % 128, by omega⟩ n := by
  by_cases h0 : x.val < 128
  · have e := own_at h.1 j ⟨x.val, h0⟩ n
    have e0 : (⟨(colA x).val / 128, by omega⟩ : Fin 16) = 0 := Fin.ext (by show x.val / 128 = 0; omega)
    have e1 : (⟨(colA x).val % 128, by omega⟩ : Fin 128) = ⟨x.val, h0⟩ := Fin.ext (by show x.val % 128 = x.val; omega)
    rw [e0, e1, src_zero]
    exact e
  · have hm : ∀ (t : Fin 16) (b : Fin 2), 0 < t.val → t.val < 8 → (t, b) ∈ slotsA := by decide +kernel
    exact slot_col (h.2 _ (hm ⟨(colA x).val / 128, by omega⟩ ⟨(colA x).val % 128 / 64, by omega⟩ (by show 0 < x.val / 128; omega) (by show x.val / 128 < 8; omega)) hn) j _ rfl rfl n

theorem gb_at {c : Dev nD} {g : Con Ideal cc0_scratch1} (h : GBOk X c g) (j : Fin 4) (x : Fin 1024) (n : Fin 256)
    (hn : need (src c ⟨(colZ x).val / 128, by omega⟩) ⟨(colZ x).val % 128 / 64, by omega⟩) :
    g (ix3 j (colZ x) n) = pk (X (src c ⟨(colZ x).val / 128, by omega⟩)) c j ⟨(colZ x).val % 128, by omega⟩ n := by
  have hm : ∀ (t : Fin 16) (b : Fin 2), 8 ≤ t.val → (t, b) ∈ slotsB := by decide +kernel
  exact slot_col (h _ (hm ⟨(colZ x).val / 128, by omega⟩ ⟨(colZ x).val % 128 / 64, by omega⟩ (by show 8 ≤ (1024 + x.val) / 128; omega)) hn) j _ rfl rfl n

theorem headA_rd (j : Fin 4) (h : Fin 4) (g : FVec Ideal S4x2048x256 .bf16) (x : Fin 1024) (e : Fin 64) :
    gM.view.readAt (Elt Ideal) (kvHead j 0 h).toLoadRect g (ix3 0 x e) = g (ix3 j (colA x) ⟨64 * h.val + e.val, by omega⟩) := by
  show g _ = g _
  congr 1
  funext a
  apply Fin.ext
  fin_cases a
  · show j.val + 1 * 0 = j.val
    omega
  · show 1024 * 0 + 1 * x.val = x.val
    omega
  · show 64 * h.val + 1 * e.val = 64 * h.val + e.val
    omega

theorem headB_rd (j : Fin 4) (h : Fin 4) (g : FVec Ideal S4x2048x256 .bf16) (x : Fin 1024) (e : Fin 64) :
    gM.view.readAt (Elt Ideal) (kvHead j 1 h).toLoadRect g (ix3 0 x e) = g (ix3 j (colZ x) ⟨64 * h.val + e.val, by omega⟩) := by
  show g _ = g _
  congr 1
  funext a
  apply Fin.ext
  fin_cases a
  · show j.val + 1 * 0 = j.val
    omega
  · show 1024 * 1 + 1 * x.val = 1024 + x.val
    omega
  · show 64 * h.val + 1 * e.val = 64 * h.val + e.val
    omega

theorem x_rd (f : FVec Ideal S256x512 .f32) (inb) (r : Fin 256) (l : Fin 512) :
    i0M.view.readAt (Elt Ideal) (Rect.unit (s := S256x512) ![0, 0] S256x512.size inb).toLoadRect f (ix2 r l) = f (ix2 r l) := by
  show f _ = f _
  congr 1
  funext a
  apply Fin.ext
  fin_cases a
  · show 0 + 1 * r.val = r.val
    omega
  · show 0 + 1 * l.val = l.val
    omega

theorem wq_rd (f : FVec Ideal S512x256 .f32) (inb) (r : Fin 512) (l : Fin 256) :
    i1M.view.readAt (Elt Ideal) (Rect.unit (s := S512x256) ![0, 0] S512x256.size inb).toLoadRect f (ix2 r l) = f (ix2 r l) := by
  show f _ = f _
  congr 1
  funext a
  apply Fin.ext
  fin_cases a
  · show 0 + 1 * r.val = r.val
    omega
  · show 0 + 1 * l.val = l.val
    omega

theorem pay3x_at (u : Vec Ideal S256x512 .f32) (w : Vec Ideal S512x256 .f32) (r : Fin 256) (n : Fin 256) :
    k0_pay40 (k0_pay38 u) (k0_pay39 w) (constant S256x256 .f32 0x00000000#32) (ix2 r n) = ∑ l : Fin 512, u (ix2 r l) * w (ix2 l n) := by
  pointwise [k0_pay40, k0_pay38, k0_pay39]

/-- Entries of the inputs. -/
def inX (I : Ins Ideal) (r : Fin 256) (l : Fin 512) : EReal := I.x (ix2 r l)
def inWq (I : Ins Ideal) (l : Fin 512) (n : Fin 256) : EReal := I.wq (ix2 l n)
def inK (I : Ins Ideal) (b : Fin 2) (u : Fin 128) (n : Fin 4096) : EReal := I.k (ix3 b u n)
def inV (I : Ins Ideal) (b : Fin 2) (u : Fin 128) (n : Fin 4096) : EReal := I.v (ix3 b u n)
def inWo (I : Ins Ideal) (k : Fin 256) (n : Fin 512) : EReal := I.wo (ix2 k n)

theorem qAll_at (I : Ins Ideal) (r n : Fin 256) : qAll I (ix2 r n) = ∑ l : Fin 512, inX I r l * inWq I l n := by
  rw [qAll]
  refine (pay3x_at _ _ r n).trans (Finset.sum_congr rfl fun l _ => ?_)
  exact congrArg₂ (· * ·) (x_rd _ _ r l) (wq_rd _ _ l n)

theorem qBlk_at (b : Fin 2) (h : Fin 4) (Q : FVec Ideal S256x256 .f32) (i : Fin 128) (e : Fin 64) :
    qBlk b h Q (ix2 i e) = Q (ix2 (⟨128 * b.val + i.val, by omega⟩ : Fin 256) (⟨64 * h.val + e.val, by omega⟩ : Fin 256)) := by
  pointwise [qBlk]

end Cert.KernelIdeal.Pf
end
end
-- ==== Proof.VKer.lean ====
/-
# One batch and head of the kernel, at an index
-/
module

public import proofs.«01_k».proof.Proof.Rel
public import proofs.«01_k».proof.Proof.VMask
public import Idealize.ShloMosaic.Lib.Pointwise

@[expose] public section

set_option maxRecDepth 16384

noncomputable section

namespace Cert.KernelIdeal.Pf

open Cert.KernelIdeal Cert.KernelIdeal.Gen

open Idealize.ShloMosaic
open Idealize.ShloMosaic.TcCoe

/-- The kernel's output of one batch and head is the softmax over all columns, whatever order they are in. -/
theorem ctxBlk_smx (keep : IVec S128x2048 1) (vm : FVec Ideal S2048x1 .bf16) (q : FVec Ideal S128x64 .bf16)
    (kA vA kB vB : Vec Ideal S1x1024x64 .bf16) (i : Fin 128) (e : Fin 64)
    (E : Fin 1024 ⊕ Fin 1024 ≃ Fin 2048) (s v : Fin 2048 → EReal) (hs : ∀ g, Sc (s g)) (hex : ∃ g, s g ≠ ⊥)
    (hA : ∀ x : Fin 1024, Scalar.select (keep (ix2 i (colA x))) ((∑ k : Fin 64, q (ix2 i k) * kA (ix3 0 x k)) * Ideal.ofBits .f32 1040187392#32) (⊥ : EReal) = s (E (.inl x)))
    (hB : ∀ x : Fin 1024, Scalar.select (keep (ix2 i (colZ x))) ((∑ k : Fin 64, q (ix2 i k) * kB (ix3 0 x k)) * Ideal.ofBits .f32 1040187392#32) (⊥ : EReal) = s (E (.inr x)))
    (wA : ∀ x : Fin 1024, s (E (.inl x)) ≠ ⊥ → vA (ix3 0 x e) * vm (ix2 (colA x) 0) = v (E (.inl x)))
    (wB : ∀ x : Fin 1024, s (E (.inr x)) ≠ ⊥ → vB (ix3 0 x e) * vm (ix2 (colZ x) 0) = v (E (.inr x))) :
    ctxBlk keep vm q kA vA kB vB (ix2 i e) = smx s v := by
  pointwise [ctxBlk, k0_pay103, k0_pay54, k0_pay56, k0_pay57, k0_pay53, k0_pay55, k0_pay51, k0_pay52]
  have hm := IdealRules.named_const.ideal_named_scalar (φ := .f32) κ "mask" 3463342888#32 ⊥ rfl
  have hb : Ideal.ofBits FTy.f32 4286578688#32 = ⊥ := by simp [Ideal.ofBits, Ideal.ieee]
  simp only [hm, hb]
  exact merge E s v _ _ _ _ hs hA hB wA wB hex _ _ rfl rfl

end Cert.KernelIdeal.Pf
end
end
-- ==== Proof.VOut.lean ====
/-
# The partial result, its sum over the devices and the result, at an index
-/
module

public import proofs.«01_k».proof.Proof.VRead
public import Idealize.ShloMosaic.Lib.Pointwise
public import Idealize.ShloMosaic.Lib.Pipeline.ValueKit

@[expose] public section

set_option maxRecDepth 16384

noncomputable section

namespace Cert.KernelIdeal.Pf

open Cert.KernelIdeal Cert.KernelIdeal.Gen

open Idealize.ShloMosaic
open Idealize.ShloMosaic.TcCoe

theorem ctx_rd (b : Fin 2) (h : Fin 4) (x : FVec Ideal S256x256 .f32) (i : Fin 128) (e : Fin 64) :
    (xM.access (ctxRect b h)).read (Elt Ideal) x (ix2 i e) = x (ix2 ⟨128 * b.val + i.val, by omega⟩ ⟨64 * h.val + e.val, by omega⟩) := by
  show x _ = x _
  congr 1
  funext a
  apply Fin.ext
  fin_cases a
  · show 128 * b.val + 1 * i.val = 128 * b.val + i.val
    omega
  · show 64 * h.val + 1 * e.val = 64 * h.val + e.val
    omega

theorem ctxAll_rd (x : FVec Ideal S256x256 .f32) (r k : Fin 256) :
    xM.view.readAt (Elt Ideal) allCtx.toLoadRect x (ix2 r k) = x (ix2 r k) := by
  show x _ = x _
  congr 1
  funext a
  apply Fin.ext
  fin_cases a
  · show 0 + 1 * r.val = r.val
    omega
  · show 0 + 1 * k.val = k.val
    omega

theorem woAll_rd (x : FVec Ideal S256x512 .f32) (r : Fin 256) (k : Fin 512) :
    i4M.view.readAt (Elt Ideal) allRows.toLoadRect x (ix2 r k) = x (ix2 r k) := by
  show x _ = x _
  congr 1
  funext a
  apply Fin.ext
  fin_cases a
  · show 0 + 1 * r.val = r.val
    omega
  · show 0 + 1 * k.val = k.val
    omega

theorem partAll_rd (x : FVec Ideal S256x512 .bf16) (r : Fin 256) (k : Fin 512) :
    (aM.access allRows).read (Elt Ideal) x (ix2 r k) = x (ix2 r k) := by
  show x _ = x _
  congr 1
  funext a
  apply Fin.ext
  fin_cases a
  · show 0 + 1 * r.val = r.val
    omega
  · show 0 + 1 * k.val = k.val
    omega

/-- Row `i` of the sixteen rows of device `c`. -/
def rowD (c : Dev nD) (i : Fin 16) : Fin 256 := ⟨16 * c.val + i.val, by have : c.val < 16 := c.isLt; omega⟩

theorem partRows_rd (c : Dev nD) (x : FVec Ideal S256x512 .bf16) (i : Fin 16) (n : Fin 512) :
    (aSl c).view.read (Elt Ideal) x (ix2 i n) = x (ix2 (rowD c i) n) := by
  show x _ = x _
  congr 1
  funext a
  apply Fin.ext
  fin_cases a
  · show 16 * c.val + 1 * i.val = 16 * c.val + i.val
    omega
  · show 0 + 1 * n.val = n.val
    omega

theorem partOwn_rd (c : Dev nD) (x : FVec Ideal S256x512 .bf16) (i : Fin 16) (n : Fin 512) :
    aM.view.readAt (Elt Ideal) (rows c).toLoadRect x (ix2 i n) = x (ix2 (rowD c i) n) := by
  show x _ = x _
  congr 1
  funext a
  apply Fin.ext
  fin_cases a
  · show 16 * c.val + 1 * i.val = 16 * c.val + i.val
    omega
  · show 0 + 1 * n.val = n.val
    omega

theorem outRows_rd (c : Dev nD) (x : FVec Ideal S256x512 .bf16) (i : Fin 16) (n : Fin 512) :
    (oSl c).view.read (Elt Ideal) x (ix2 i n) = x (ix2 (rowD c i) n) := by
  show x _ = x _
  congr 1
  funext a
  apply Fin.ext
  fin_cases a
  · show 16 * c.val + 1 * i.val = 16 * c.val + i.val
    omega
  · show 0 + 1 * n.val = n.val
    omega

theorem redAll_rd (x : FVec Ideal S16x512 .bf16) (i : Fin 16) (n : Fin 512) :
    (rM.access allRed).read (Elt Ideal) x (ix2 i n) = x (ix2 i n) := by
  show x _ = x _
  congr 1
  funext a
  apply Fin.ext
  fin_cases a
  · show 0 + 1 * i.val = i.val
    omega
  · show 0 + 1 * n.val = n.val
    omega

theorem outAll_rd (x : FVec Ideal S256x512 .bf16) (r : Fin 256) (k : Fin 512) :
    oM.view.readAt (Elt Ideal) allRows.toLoadRect x (ix2 r k) = x (ix2 r k) := by
  show x _ = x _
  congr 1
  funext a
  apply Fin.ext
  fin_cases a
  · show 0 + 1 * r.val = r.val
    omega
  · show 0 + 1 * k.val = k.val
    omega

theorem resAll_rd (x : FVec Ideal S256x512 .f32) (r : Fin 256) (k : Fin 512) :
    (i5M.access allRows).read (Elt Ideal) x (ix2 r k) = x (ix2 r k) := by
  show x _ = x _
  congr 1
  funext a
  apply Fin.ext
  fin_cases a
  · show 0 + 1 * r.val = r.val
    omega
  · show 0 + 1 * k.val = k.val
    omega

theorem land_rd (t : Fin 16) (x : FVec Ideal S16x16x512 .bf16) (i : Fin 16) (n : Fin 512) :
    sM.view.readAt (Elt Ideal) (sRect t).toLoadRect x (ix3 0 i n) = x (ix3 t i n) := by
  show x _ = x _
  congr 1
  funext a
  apply Fin.ext
  fin_cases a
  · show t.val + 1 * 0 = t.val
    omega
  · show 0 + 1 * i.val = i.val
    omega
  · show 0 + 1 * n.val = n.val
    omega

theorem cast_s (x : FVec Ideal S1x16x512 .bf16) (i : Fin 16) (n : Fin 512) :
    shapeCast S16x512 x squeezes_S1x16x512_S16x512.numel_eq (ix2 i n) = x (ix3 0 i n) := by
  pointwise []

theorem slotS_rd (t : Fin 16) (x : FVec Ideal S16x16x512 .bf16) (i : Fin 16) (n : Fin 512) :
    (sSl t).view.read (Elt Ideal) x (ix2 i n) = x (ix3 t i n) := by
  have e : (sSl t).view.read (Elt Ideal) x
      = shapeCast S16x512 (sM.view.readAt (Elt Ideal) (sRect t).toLoadRect x : FVec Ideal S1x16x512 .bf16) squeezes_S1x16x512_S16x512.numel_eq := rfl
  rw [e]
  exact (cast_s _ i n).trans (land_rd t x i n)

theorem pay138_at (x : Vec Ideal S256x256 .f32) (w : Vec Ideal S256x512 .f32) (r : Fin 256) (n : Fin 512) :
    k0_pay138 x w (ix2 r n) = ∑ k : Fin 256, x (ix2 r k) * w (ix2 k n) := by
  pointwise [k0_pay138]

theorem pay150_at (x : Vec Ideal S256x512 .bf16) (r : Fin 256) (n : Fin 512) : k0_pay150 (F := Ideal) x (ix2 r n) = x (ix2 r n) := by
  pointwise [k0_pay150]

theorem redSum_at (own : Vec Ideal S16x512 .bf16) (r : Fin 16 → Vec Ideal S1x16x512 .bf16) (i : Fin 16) (n : Fin 512) :
    redSum (F := Ideal) own r (ix2 i n) = own (ix2 i n) + r 1 (ix3 0 i n) + r 2 (ix3 0 i n) + r 3 (ix3 0 i n) + r 4 (ix3 0 i n)
      + r 5 (ix3 0 i n) + r 6 (ix3 0 i n) + r 7 (ix3 0 i n) + r 8 (ix3 0 i n) + r 9 (ix3 0 i n) + r 10 (ix3 0 i n)
      + r 11 (ix3 0 i n) + r 12 (ix3 0 i n) + r 13 (ix3 0 i n) + r 14 (ix3 0 i n) + r 15 (ix3 0 i n) := by
  pointwise [redSum, k0_pay139, k0_pay140, k0_pay141, k0_pay142, k0_pay143, k0_pay144, k0_pay145, k0_pay146, k0_pay147, k0_pay148]

variable {X : Dev nD → Ins Ideal} {f : Dev nD → Fin 256 → Fin 512 → EReal}

/-- The devices at distances 0 to 15 are all the devices. -/
theorem sum_src (c : Dev nD) (g : Dev nD → EReal) :
    g c + g (src c 1) + g (src c 2) + g (src c 3) + g (src c 4) + g (src c 5) + g (src c 6) + g (src c 7) + g (src c 8)
      + g (src c 9) + g (src c 10) + g (src c 11) + g (src c 12) + g (src c 13) + g (src c 14) + g (src c 15) = ∑ d : Dev nD, g d := by
  have hb : Function.Bijective (src c) := by
    rw [Fintype.bijective_iff_injective_and_card]
    refine ⟨?_, by decide⟩
    intro a b h
    revert a b
    revert c
    decide +kernel
  rw [← hb.sum_comp g]
  have e : g c = g (src c 0) := by rw [src_zero]
  rw [e]
  simp only [Fin.sum_univ_succ, Fin.sum_univ_zero, add_zero, add_assoc]
  rfl

theorem load_at {c : Dev nD} {t : Fin 16} {r : Vec Ideal S1x16x512 .bf16} (hf : ∀ c P, PartOk X c P → ∀ r n, P (ix2 r n) = f c r n)
    (h : LoadOk X c t r) (i : Fin 16) (n : Fin 512) : r (ix3 0 i n) = f (src c t) (rowD c i) n := by
  obtain ⟨s, ⟨P, hP, e⟩, rfl⟩ := h
  exact (land_rd t s i n).trans ((slotS_rd t s i n).symm.trans ((congrFun e (ix2 i n)).trans ((partRows_rd c P i n).trans (hf _ P hP _ n))))

theorem red_at {c : Dev nD} {R : Con Ideal cc0_scratch4} (hf : ∀ c P, PartOk X c P → ∀ r n, P (ix2 r n) = f c r n)
    (h : RedOk X c R) (i : Fin 16) (n : Fin 512) : R (ix2 i n) = ∑ d : Dev nD, f d (rowD c i) n := by
  obtain ⟨P, r, hP, hr, e⟩ := h
  refine (redAll_rd R i n).symm.trans ((congrFun e (ix2 i n)).trans ((redSum_at _ r i n).trans ?_))
  rw [load_at hf (hr 1 (by decide)) i n, load_at hf (hr 2 (by decide)) i n, load_at hf (hr 3 (by decide)) i n, load_at hf (hr 4 (by decide)) i n,
    load_at hf (hr 5 (by decide)) i n, load_at hf (hr 6 (by decide)) i n, load_at hf (hr 7 (by decide)) i n, load_at hf (hr 8 (by decide)) i n,
    load_at hf (hr 9 (by decide)) i n, load_at hf (hr 10 (by decide)) i n, load_at hf (hr 11 (by decide)) i n, load_at hf (hr 12 (by decide)) i n,
    load_at hf (hr 13 (by decide)) i n, load_at hf (hr 14 (by decide)) i n, load_at hf (hr 15 (by decide)) i n, ← sum_src c]
  have e0 := (partOwn_rd c P i n).trans (hf c P hP (rowD c i) n)
  exact congrArg (fun z => z + f (src c 1) (rowD c i) n + f (src c 2) (rowD c i) n + f (src c 3) (rowD c i) n + f (src c 4) (rowD c i) n
    + f (src c 5) (rowD c i) n + f (src c 6) (rowD c i) n + f (src c 7) (rowD c i) n + f (src c 8) (rowD c i) n + f (src c 9) (rowD c i) n
    + f (src c 10) (rowD c i) n + f (src c 11) (rowD c i) n + f (src c 12) (rowD c i) n + f (src c 13) (rowD c i) n
    + f (src c 14) (rowD c i) n + f (src c 15) (rowD c i) n) e0

/-- The result is the sum of the devices' partial results. -/
theorem out_at {o : Con Ideal cc0_stg5_0} (hf : ∀ c P, PartOk X c P → ∀ r n, P (ix2 r n) = f c r n)
    (h : OutOk X o) (r : Fin 256) (n : Fin 512) : o (ix2 r n) = ∑ d : Dev nD, f d r n := by
  obtain ⟨q, hq, e⟩ := h
  refine (resAll_rd o r n).symm.trans ((congrFun e (ix2 r n)).trans ((pay150_at _ r n).trans ((outAll_rd q r n).trans ?_)))
  obtain ⟨R, hR, eR⟩ := hq ⟨r.val / 16, by show r.val / 16 < 16; omega⟩
  have er : rowD ⟨r.val / 16, by show r.val / 16 < 16; omega⟩ ⟨r.val % 16, by omega⟩ = r := Fin.ext (by show 16 * (r.val / 16) + r.val % 16 = r.val; omega)
  have h1 := (outRows_rd ⟨r.val / 16, by show r.val / 16 < 16; omega⟩ q ⟨r.val % 16, by omega⟩ n).symm.trans
    ((congrFun eR (ix2 ⟨r.val % 16, by omega⟩ n)).trans (red_at hf hR ⟨r.val % 16, by omega⟩ n))
  rw [er] at h1
  exact h1

theorem part_at {c : Dev nD} {P : Con Ideal cc0_scratch3} {g : Fin 256 → Fin 256 → EReal} (hg : ∀ x, CtxOk X c x → ∀ r k, x (ix2 r k) = g r k)
    (h : PartOk X c P) (r : Fin 256) (n : Fin 512) : P (ix2 r n) = ∑ k : Fin 256, g r k * inWo (X c) k n := by
  obtain ⟨x, hx, e⟩ := h
  refine (partAll_rd P r n).symm.trans ((congrFun e (ix2 r n)).trans ((pay138_at _ _ r n).trans (Finset.sum_congr rfl fun k _ => ?_)))
  exact congrArg₂ (· * ·) ((ctxAll_rd x r k).trans (hg x hx r k)) (woAll_rd _ k n)

end Cert.KernelIdeal.Pf
end
end
-- ==== Proof.VCtx.lean ====
/-
# The attention output of a device's heads

Each head's output on a device is the softmax over all the keys, in the order the slots hold them.
-/
module

public import proofs.«01_k».proof.Proof.VRead
public import proofs.«01_k».proof.Proof.VKer
public import proofs.«01_k».proof.Proof.VOut
public import Idealize.ShloMosaic.Lib.Pointwise
public import Idealize.ShloMosaic.Lib.Pipeline.ValueKit

@[expose] public section

set_option maxRecDepth 16384

noncomputable section

namespace Cert.KernelIdeal.Pf

open Cert.KernelIdeal Cert.KernelIdeal.Gen

open Idealize.ShloMosaic
open Idealize.ShloMosaic.TcCoe

/-- The devices' inputs are their blocks of the whole arrays. -/
structure Agree (X : Dev nD → Ins Ideal) (A : Args) : Prop where
  x : ∀ c r l, inX (X c) r l = A.x r l
  wq : ∀ c l n, inWq (X c) l n = A.wq l (colH c n)
  k : ∀ (c : Dev nD) b (u : Fin 128) n (G : Fin 2048), G.val = 128 * c.val + u.val → inK (X c) b u n = A.k b G n
  v : ∀ (c : Dev nD) b (u : Fin 128) n (G : Fin 2048), G.val = 128 * c.val + u.val → inV (X c) b u n = A.v b G n
  wo : ∀ c k n, inWo (X c) k n = A.wo (colH c k) n

variable {X : Dev nD → Ins Ideal} {A : Args}

theorem pk_k (I : Ins Ideal) (d : Dev nD) (b : Fin 2) (u : Fin 128) (n : Fin 256) : pk I d (kPl b) u n = inK I b u (colH d n) := by
  rw [pk, dif_pos (show (kPl b).val < 2 from b.isLt)]
  rfl

theorem pk_v (I : Ins Ideal) (d : Dev nD) (b : Fin 2) (u : Fin 128) (n : Fin 256) : pk I d (vPl b) u n = inV I b u (colH d n) := by
  rw [pk, dif_neg (show ¬ (vPl b).val < 2 by show ¬ (2 + b.val < 2); omega)]
  have e : (⟨(vPl b).val - 2, by show 2 + b.val - 2 < 2; omega⟩ : Fin 2) = b := Fin.ext (by show 2 + b.val - 2 = b.val; omega)
  exact congrArg (fun z => inV I z u (colH d n)) e

/-- Head `h` of device `c`. -/
def headD (c : Dev nD) (h : Fin 4) : Fin 64 := ⟨4 * c.val + h.val, by have : c.val < 16 := c.isLt; omega⟩

theorem colH_head (c : Dev nD) (h : Fin 4) (e : Fin 64) : colH c ⟨64 * h.val + e.val, by omega⟩ = headI (headD c h) e :=
  Fin.ext (by show 256 * c.val + (64 * h.val + e.val) = (4 * c.val + h.val) * 64 + e.val; omega)

theorem q_at (hA : Agree X A) (c : Dev nD) (b : Fin 2) (h : Fin 4) (i : Fin 128) (e : Fin 64) :
    qBlk b h (qAll (X c)) (ix2 i e) = A.q (rowI b i) (headI (headD c h) e) := by
  refine (qBlk_at b h _ i e).trans ((qAll_at _ _ _).trans (Finset.sum_congr rfl fun l _ => ?_))
  rw [hA.x, hA.wq, colH_head]
  congr 2
  exact Fin.ext (by show 128 * b.val + i.val = b.val * 128 + i.val; omega)

theorem sel_bool (p : Bool) (x y : EReal) : Scalar.select (BitVec.ofBool p) x y = if p then x else y := by cases p <;> rfl

theorem gcol_val (c : Dev nD) (T : Fin 2048) :
    (gcol c T).val = 128 * (src c ⟨T.val / 128, by omega⟩).val + (⟨T.val % 128, by omega⟩ : Fin 128).val := rfl

/-- A device's column of keys and values, where some row keeps it. -/
theorem keyA (hA : Agree X A) {c : Dev nD} {g : Con Ideal cc0_scratch1} (hg : GAOk X c g) (b : Fin 2) (h : Fin 4) (i : Fin 128) (x : Fin 1024)
    (hk : keepB i (gcol c (colA x)) = true) (e : Fin 64) :
    gM.view.readAt (Elt Ideal) (kvHead (kPl b) 0 h).toLoadRect g (ix3 0 x e) = A.k b (gcol c (colA x)) (headI (headD c h) e) := by
  refine (headA_rd (kPl b) h g x e).trans ((ga_at hg (kPl b) x _ (need_of_keep c i _ hk)).trans ((pk_k _ _ _ _ _).trans ?_))
  rw [colH_head]
  exact hA.k _ _ _ _ _ (gcol_val c _)

theorem keyB (hA : Agree X A) {c : Dev nD} {g : Con Ideal cc0_scratch1} (hg : GBOk X c g) (b : Fin 2) (h : Fin 4) (i : Fin 128) (x : Fin 1024)
    (hk : keepB i (gcol c (colZ x)) = true) (e : Fin 64) :
    gM.view.readAt (Elt Ideal) (kvHead (kPl b) 1 h).toLoadRect g (ix3 0 x e) = A.k b (gcol c (colZ x)) (headI (headD c h) e) := by
  refine (headB_rd (kPl b) h g x e).trans ((gb_at hg (kPl b) x _ (need_of_keep c i _ hk)).trans ((pk_k _ _ _ _ _).trans ?_))
  rw [colH_head]
  exact hA.k _ _ _ _ _ (gcol_val c _)

theorem valA (hA : Agree X A) {c : Dev nD} {g : Con Ideal cc0_scratch1} (hg : GAOk X c g) (b : Fin 2) (h : Fin 4) (i : Fin 128) (x : Fin 1024)
    (hk : keepB i (gcol c (colA x)) = true) (e : Fin 64) :
    gM.view.readAt (Elt Ideal) (kvHead (vPl b) 0 h).toLoadRect g (ix3 0 x e) = A.v b (gcol c (colA x)) (headI (headD c h) e) := by
  refine (headA_rd (vPl b) h g x e).trans ((ga_at hg (vPl b) x _ (need_of_keep c i _ hk)).trans ((pk_v _ _ _ _ _).trans ?_))
  rw [colH_head]
  exact hA.v _ _ _ _ _ (gcol_val c _)

theorem valB (hA : Agree X A) {c : Dev nD} {g : Con Ideal cc0_scratch1} (hg : GBOk X c g) (b : Fin 2) (h : Fin 4) (i : Fin 128) (x : Fin 1024)
    (hk : keepB i (gcol c (colZ x)) = true) (e : Fin 64) :
    gM.view.readAt (Elt Ideal) (kvHead (vPl b) 1 h).toLoadRect g (ix3 0 x e) = A.v b (gcol c (colZ x)) (headI (headD c h) e) := by
  refine (headB_rd (vPl b) h g x e).trans ((gb_at hg (vPl b) x _ (need_of_keep c i _ hk)).trans ((pk_v _ _ _ _ _).trans ?_))
  rw [colH_head]
  exact hA.v _ _ _ _ _ (gcol_val c _)

theorem keep_of_ne {b : Fin 2} {H : Fin 64} {i : Fin 128} {G : Fin 2048} (h : A.s b H i G ≠ ⊥) : keepB i G = true := by
  by_contra hk
  exact h (by rw [Args.s, if_neg hk])

theorem score (hA : Agree X A) (c : Dev nD) (b : Fin 2) (h : Fin 4) (i : Fin 128) (T : Fin 2048) (z : Fin 64 → EReal)
    (hz : keepB i (gcol c T) = true → ∀ k, z k = A.k b (gcol c T) (headI (headD c h) k)) :
    Scalar.select (keepW (meW c) (ix2 i T)) ((∑ k : Fin 64, qBlk b h (qAll (X c)) (ix2 i k) * z k) * Ideal.ofBits .f32 1040187392#32) (⊥ : EReal)
      = A.s b (headD c h) i (gcol c T) := by
  rw [keepW_at, sel_bool, Args.s]
  by_cases hk : keepB i (gcol c T) = true
  · rw [if_pos hk, if_pos hk]
    congr 1
    exact Finset.sum_congr rfl fun k _ => congrArg₂ (· * ·) (q_at hA c b h i k) (hz hk k)
  · rw [if_neg hk, if_neg hk]

theorem ctxAt_at (hA : Agree X A) (hF : A.Fin) {c : Dev nD} {gA gB : Con Ideal cc0_scratch1} (hgA : GAOk X c gA) (hgB : GBOk X c gB)
    (b : Fin 2) (h : Fin 4) (i : Fin 128) (e : Fin 64) : ctxAt X c gA gB b h (ix2 i e) = A.ctx b (headD c h) i e := by
  rw [ctxAt, Args.ctx]
  refine ctxBlk_smx _ _ _ _ _ _ _ i e (colE c) _ _ (hF.s_sc b (headD c h) i) (hF.s_ex b (headD c h) i) (fun x => ?_) (fun x => ?_)
    (fun x hx => ?_) (fun x hx => ?_)
  · exact score hA c b h i (colA x) _ (fun hk k => keyA hA hgA b h i x hk k)
  · exact score hA c b h i (colZ x) _ (fun hk k => keyB hA hgB b h i x hk k)
  · have hk := keep_of_ne hx
    exact (congrArg₂ (· * ·) (valA hA hgA b h i x hk e) (vmW_at c i _ hk)).trans (mul_one _)
  · have hk := keep_of_ne hx
    exact (congrArg₂ (· * ·) (valB hA hgB b h i x hk e) (vmW_at c i _ hk)).trans (mul_one _)

theorem ctx_at (hA : Agree X A) (hF : A.Fin) {c : Dev nD} {x : Con Ideal cc0_scratch2} (hx : CtxOk X c x) (r k : Fin 256) :
    x (ix2 r k) = A.ctx ⟨r.val / 128, by omega⟩ (headD c ⟨k.val / 64, by omega⟩) ⟨r.val % 128, by omega⟩ ⟨k.val % 64, by omega⟩ := by
  obtain ⟨gA, gB, hgA, hgB, e⟩ := hx
  have h := (ctx_rd ⟨r.val / 128, by omega⟩ ⟨k.val / 64, by omega⟩ x ⟨r.val % 128, by omega⟩ ⟨k.val % 64, by omega⟩).symm.trans
    ((congrFun (e ⟨r.val / 128, by omega⟩ ⟨k.val / 64, by omega⟩) (ix2 ⟨r.val % 128, by omega⟩ ⟨k.val % 64, by omega⟩)).trans
      (ctxAt_at hA hF hgA hgB ⟨r.val / 128, by omega⟩ ⟨k.val / 64, by omega⟩ ⟨r.val % 128, by omega⟩ ⟨k.val % 64, by omega⟩))
  have er : (⟨128 * (r.val / 128) + r.val % 128, by omega⟩ : Fin 256) = r := Fin.ext (by show 128 * (r.val / 128) + r.val % 128 = r.val; omega)
  have ek : (⟨64 * (k.val / 64) + k.val % 64, by omega⟩ : Fin 256) = k := Fin.ext (by show 64 * (k.val / 64) + k.val % 64 = k.val; omega)
  exact (congrArg₂ (fun a b => x (ix2 a b)) er.symm ek.symm).trans h

/-- The kernel's result. -/
theorem kernel_out (hA : Agree X A) (hF : A.Fin) {o : Con Ideal cc0_stg5_0} (h : OutOk X o) (r : Fin 256) (n : Fin 512) :
    o (ix2 r n) = A.out r n := by
  suffices key : (∑ c : Dev nD, ∑ k : Fin 256, A.ctx ⟨r.val / 128, by omega⟩ (headD c ⟨k.val / 64, by omega⟩) ⟨r.val % 128, by omega⟩ ⟨k.val % 64, by omega⟩
      * inWo (X c) k n : EReal) = A.out r n from
    (out_at (fun c P hP r n => part_at (fun x hx r k => ctx_at hA hF hx r k) hP r n) h r n).trans key
  rw [Args.out, ← Equiv.sum_comp (finProdFinEquiv : Fin 16 × Fin 256 ≃ Fin 4096), Fintype.sum_prod_type]
  refine Finset.sum_congr rfl fun c _ => Finset.sum_congr rfl fun k _ => ?_
  have hc : c.val < 16 := c.isLt
  have ej : (finProdFinEquiv ((c, k) : Fin 16 × Fin 256) : Fin 4096) = colH c k := Fin.ext (by show k.val + 256 * c.val = 256 * c.val + k.val; omega)
  rw [ej, hA.wo]
  have e1 : (⟨(colH c k).val / 64, by omega⟩ : Fin 64) = headD c ⟨k.val / 64, by omega⟩ :=
    Fin.ext (by show (256 * c.val + k.val) / 64 = 4 * c.val + k.val / 64; omega)
  have e2 : (⟨(colH c k).val % 64, by omega⟩ : Fin 64) = ⟨k.val % 64, by omega⟩ :=
    Fin.ext (by show (256 * c.val + k.val) % 64 = k.val % 64; omega)
  rw [e1, e2]

end Cert.KernelIdeal.Pf
end
end
-- ==== Proof.VRef.lean ====
/-
# The reference, at an index

The reference's composed term is cut into its scores, weights and products, each read at an index.
-/
module

public import proofs.«01_k».proof.Proof.Gen.ReferenceIdeal.Run
public import proofs.«01_k».proof.Proof.VSpec
public import Idealize.ShloMosaic.Lib.Pointwise

@[expose] public section

set_option maxRecDepth 16384

noncomputable section

namespace Cert.ReferenceIdeal.Val

open Cert.ReferenceIdeal Cert.ReferenceIdeal.Gen Idealize.ShloMosaic Idealize.ShloMosaic.TcCoe

/-- Each query's block. -/
def rowB : IVec S128x1 32 := (broadcastInDim S128x1 ![0] bcast_S128_S128x1_0 (select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))))
/-- Each key's block. -/
def colB : IVec S1x2048 32 := (broadcastInDim S1x2048 ![1] bcast_S2048_S1x2048_1 (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))))
/-- Which pairs are kept. -/
def keepR : IVec S128x2048 1 := (ori (ori (cmpi .eq (broadcastInDim S128x2048 ![0, 1] bcast_S128x1_S128x2048_0_1 rowB) (broadcastInDim S128x2048 ![0, 1] bcast_S1x2048_S128x2048_0_1 colB)) (broadcastInDim S128x2048 ![0, 1] bcast_S1x2048_S128x2048_0_1 (cmpi .eq colB (broadcastInDim S1x2048 ![] bcast_S_S1x2048 (constantI S_ 32 0#32))))) (cmpi .eq (select (andi (cmpi .ne (cmpi .slt (Host.remsi (addi (broadcastInDim S128x2048 ![0, 1] bcast_S128x1_S128x2048_0_1 rowB) (broadcastInDim S128x2048 ![0, 1] bcast_S1x2048_S128x2048_0_1 colB)) (broadcastInDim S128x2048 ![] bcast_S_S128x2048 (select (cmpi .eq (id (constantI S_ 32 3#32)) (constantI S_ 32 0#32)) (constantI S_ 32 1#32) (id (constantI S_ 32 3#32))))) (broadcastInDim S128x2048 ![] bcast_S_S128x2048 (constantI S_ 32 0#32))) (broadcastInDim S128x2048 ![] bcast_S_S128x2048 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S128x2048 ![0, 1] bcast_S128x1_S128x2048_0_1 rowB) (broadcastInDim S128x2048 ![0, 1] bcast_S1x2048_S128x2048_0_1 colB)) (broadcastInDim S128x2048 ![] bcast_S_S128x2048 (select (cmpi .eq (id (constantI S_ 32 3#32)) (constantI S_ 32 0#32)) (constantI S_ 32 1#32) (id (constantI S_ 32 3#32))))) (broadcastInDim S128x2048 ![] bcast_S_S128x2048 (constantI S_ 32 0#32)))) (addi (Host.remsi (addi (broadcastInDim S128x2048 ![0, 1] bcast_S128x1_S128x2048_0_1 rowB) (broadcastInDim S128x2048 ![0, 1] bcast_S1x2048_S128x2048_0_1 colB)) (broadcastInDim S128x2048 ![] bcast_S_S128x2048 (select (cmpi .eq (id (constantI S_ 32 3#32)) (constantI S_ 32 0#32)) (constantI S_ 32 1#32) (id (constantI S_ 32 3#32))))) (broadcastInDim S128x2048 ![] bcast_S_S128x2048 (select (cmpi .eq (id (constantI S_ 32 3#32)) (constantI S_ 32 0#32)) (constantI S_ 32 1#32) (id (constantI S_ 32 3#32))))) (Host.remsi (addi (broadcastInDim S128x2048 ![0, 1] bcast_S128x1_S128x2048_0_1 rowB) (broadcastInDim S128x2048 ![0, 1] bcast_S1x2048_S128x2048_0_1 colB)) (broadcastInDim S128x2048 ![] bcast_S_S128x2048 (select (cmpi .eq (id (constantI S_ 32 3#32)) (constantI S_ 32 0#32)) (constantI S_ 32 1#32) (id (constantI S_ 32 3#32)))))) (broadcastInDim S128x2048 ![] bcast_S_S128x2048 (constantI S_ 32 0#32))))
/-- Which rows keep a pair. -/
def anyR : IVec S128 1 := (Host.reduce IntOp.ori keepR (constantI S_ 1 0#1) reducesTo_S128x2048_S128_d1 h_S_)

variable {F : FTy → Type} [FloatOps F]

/-- The masked scores. -/
def scR (a0 : FVec F S256x512 .f32) (a1 : FVec F S512x4096 .f32) (a2 : FVec F S2x2048x4096 .f32) : FVec F S2x64x128x2048 .f32 := (select (broadcastInDim S2x64x128x2048 ![0, 1, 2, 3] bcast_S1x1x128x2048_S2x64x128x2048_0_1_2_3 (broadcastInDim S1x1x128x2048 ![2, 3] bcast_S128x2048_S1x1x128x2048_2_3 keepR)) (mulf (Host.dotGeneral dot_S2x128x64x64_S2x2048x64x64_S2x64x128x2048_3_3_1_1_02_02 none (shapeCast _ (Host.dotGeneral dot_S2x128x512_S512x4096_S2x128x4096_2_0_01_1_n_n none (shapeCast _ a0 shapeCasts_S256x512_S2x128x512) a1) shapeCasts_S2x128x4096_S2x128x64x64) (shapeCast _ a2 shapeCasts_S2x2048x4096_S2x2048x64x64)) (broadcastInDim S2x64x128x2048 ![] bcast_S_S2x64x128x2048 (constant S_ .f32 0x3E000000#32))) (broadcastInDim S2x64x128x2048 ![] bcast_S_S2x64x128x2048 (id (constant S_ .f32 0xFF800000#32))))
/-- The exponentials. -/
def pR (sc : FVec F S2x64x128x2048 .f32) : FVec F S2x64x128x2048 .f32 := (Host.exp (subf sc (broadcastInDim S2x64x128x2048 ![0, 1, 2, 3] bcast_S2x64x128x1_S2x64x128x2048_0_1_2_3 (broadcastInDim S2x64x128x1 ![0, 1, 2] bcast_S2x64x128_S2x64x128x1_0_1_2 (Host.reduce FloatOps.maximumf sc (constant S_ .f32 0xFF800000#32) reducesTo_S2x64x128x2048_S2x64x128_d3 h_S_)))))
/-- The weights. -/
def wR (p : FVec F S2x64x128x2048 .f32) : FVec F S2x64x128x2048 .f32 := (select (broadcastInDim S2x64x128x2048 ![0, 1, 2, 3] bcast_S1x1x128x1_S2x64x128x2048_0_1_2_3 (broadcastInDim S1x1x128x1 ![2] bcast_S128_S1x1x128x1_2 anyR)) (Host.divf p (broadcastInDim S2x64x128x2048 ![0, 1, 2, 3] bcast_S2x64x128x1_S2x64x128x2048_0_1_2_3 (select (broadcastInDim S2x64x128x1 ![0, 1, 2, 3] bcast_S1x1x128x1_S2x64x128x1_0_1_2_3 (broadcastInDim S1x1x128x1 ![2] bcast_S128_S1x1x128x1_2 anyR)) (broadcastInDim S2x64x128x1 ![0, 1, 2] bcast_S2x64x128_S2x64x128x1_0_1_2 (Host.reduceAdd p (constant S_ .f32 0x00000000#32) reducesTo_S2x64x128x2048_S2x64x128_d3 h_S_)) (broadcastInDim S2x64x128x1 ![] bcast_S_S2x64x128x1 (id (constant S_ .f32 0x3F800000#32)))))) (broadcastInDim S2x64x128x2048 ![] bcast_S_S2x64x128x2048 (id (constant S_ .f32 0x00000000#32))))
/-- The result from the weights. -/
def outR (a3 : FVec F S2x2048x4096 .f32) (a4 : FVec F S4096x512 .f32) (w : FVec F S2x64x128x2048 .f32) : FVec F S256x512 .f32 := shapeCast _ (Host.dotGeneral dot_S2x128x4096_S4096x512_S2x128x512_2_0_01_1_n_n none (shapeCast _ (transpose S2x128x64x64 [0, 3, 1, 2] (Host.dotGeneral dot_S2x2048x64x64_S2x64x128x2048_S2x64x64x128_1_3_3_2_02_01 none (shapeCast _ a3 shapeCasts_S2x2048x4096_S2x2048x64x64) w) transposes_S2x64x64x128_S2x128x64x64_0_3_1_2) shapeCasts_S2x128x64x64_S2x128x4096) a4) shapeCasts_S2x128x512_S256x512

theorem res_eq (m : (ℓ : Loc nD τ sig) → Buf (Elt F) ℓ) (c : Dev nD) :
    Cert.ReferenceIdeal.Value.res_main_v48 m c
      = outR (m ((c.tc : Thread nD τ).loc main_arg3)) (m ((c.tc : Thread nD τ).loc main_arg4))
        (wR (pR (scR (m ((c.tc : Thread nD τ).loc main_arg0)) (m ((c.tc : Thread nD τ).loc main_arg1)) (m ((c.tc : Thread nD τ).loc main_arg2))))) := rfl

open Cert.KernelIdeal.Pf (Args Sc smx keepB keepB_of kpB rowI headI)

theorem row_at (i : Fin 128) : rowB (ix2 i 0) = BitVec.ofNat 32 (i.val / 64) := by
  pointwise [rowB]
  revert i
  decide +kernel

theorem col_at (t : Fin 16) (u : Fin 128) : colB (ix2 0 ⟨128 * t.val + u.val, by omega⟩) = BitVec.ofNat 32 (2 * t.val + u.val / 64) := by
  pointwise [colB]
  revert t u
  decide +kernel

theorem colB_at (T : Fin 2048) : colB (ix2 0 T) = BitVec.ofNat 32 (T.val / 64) := by
  have h := col_at ⟨T.val / 128, by omega⟩ ⟨T.val % 128, by omega⟩
  have e : (⟨128 * (T.val / 128) + T.val % 128, by omega⟩ : Fin 2048) = T := by ext; simp; omega
  simp only [e] at h
  rw [h]
  congr 1
  omega

theorem keep_at (i : Fin 128) (G : Fin 2048) : keepR (ix2 i G) = BitVec.ofBool (keepB i G) := by
  pointwise [keepR]
  obtain ⟨a, ha⟩ : ∃ a : Fin 2, a.val = i.val / 64 := ⟨⟨i.val / 64, by omega⟩, rfl⟩
  obtain ⟨g, hg⟩ : ∃ g : Fin 32, g.val = G.val / 64 := ⟨⟨G.val / 64, by omega⟩, rfl⟩
  rw [row_at, colB_at, keepB_of ha hg, ← ha, ← hg]
  clear ha hg
  revert a g
  decide +kernel

theorem any_at (i : Fin 128) : anyR (ix1 i) = 1#1 := by
  pointwise [anyR]
  classical
  rw [← Finset.insert_erase (Finset.mem_univ (0 : Fin 2048)), Finset.fold_insert (Finset.notMem_erase _ _), keep_at,
    Cert.KernelIdeal.Pf.keep_zero]
  generalize (Finset.univ.erase (0 : Fin 2048)).fold IntOp.ori (0#1) (fun x => keepR (ix2 i x)) = z
  revert z
  decide +kernel

/-- The reference's inputs, in plain indices. -/
def args (a0 : FVec Ideal S256x512 .f32) (a1 : FVec Ideal S512x4096 .f32) (a2 a3 : FVec Ideal S2x2048x4096 .f32) (a4 : FVec Ideal S4096x512 .f32) : Args where
  x r l := a0 (ix2 r l)
  wq l n := a1 (ix2 l n)
  k b G n := a2 (ix3 b G n)
  v b G n := a3 (ix3 b G n)
  wo j n := a4 (ix2 j n)

theorem neg_inf : Ideal.ofBits FTy.f32 4286578688#32 = ⊥ := by simp [Ideal.ofBits, Ideal.ieee]

theorem sel_bool (p : Bool) (x y : EReal) : Scalar.select (BitVec.ofBool p) x y = if p then x else y := by cases p <;> rfl

variable (a0 : FVec Ideal S256x512 .f32) (a1 : FVec Ideal S512x4096 .f32) (a2 a3 : FVec Ideal S2x2048x4096 .f32) (a4 : FVec Ideal S4096x512 .f32)

theorem scR_at (b : Fin 2) (H : Fin 64) (i : Fin 128) (G : Fin 2048) :
    scR a0 a1 a2 (ix4 b H i G) = (args a0 a1 a2 a3 a4).s b H i G := by
  pointwise [scR]
  rw [keep_at, sel_bool, Args.s, ← neg_inf]
  rfl

theorem wR_at (sc : FVec Ideal S2x64x128x2048 .f32) (b : Fin 2) (H : Fin 64) (i : Fin 128) (G : Fin 2048) :
    wR (pR sc) (ix4 b H i G) = Ideal.div (Ideal.exp (sc (ix4 b H i G) - Finset.univ.sup (fun x => sc (ix4 b H i x))))
      (∑ g, Ideal.exp (sc (ix4 b H i g) - Finset.univ.sup (fun x => sc (ix4 b H i x)))) := by
  pointwise [wR]
  rw [any_at]
  have h : ∀ G, pR sc (ix4 b H i G) = Ideal.exp (sc (ix4 b H i G) - Finset.univ.sup (fun x => sc (ix4 b H i x))) := by
    intro G
    pointwise [pR]
    rw [neg_inf]
    rfl
  simp only [h]
  rfl

theorem outR_at (r : Fin 256) (n : Fin 512) : outR a3 a4 (wR (pR (scR a0 a1 a2))) (ix2 r n) = (args a0 a1 a2 a3 a4).out r n := by
  pointwise [outR]
  simp only [wR_at, scR_at a0 a1 a2 a3 a4]
  rw [Args.out]
  refine Finset.sum_congr rfl fun j _ => ?_
  rw [Args.ctx, smx]
  congr 1
  refine Finset.sum_congr rfl fun g _ => ?_
  congr 1
  show a3 _ = a3 _
  congr 2
  apply Fin.ext
  show j.val = j.val / 64 * 64 + j.val % 64
  omega

end Cert.ReferenceIdeal.Val
end
end
-- ==== Proof.VMain.lean ====
/-
# The value claim

The devices' blocks of the inputs, the precondition, and the two results compared.
-/
module

public import proofs.«01_k».proof.Defs
public import proofs.«01_k».proof.Proof.Frames
public import proofs.«01_k».proof.Proof.VCtx
public import proofs.«01_k».proof.Proof.VRef
public import Idealize.ShloMosaic.Lib.Pointwise
public import Idealize.ShloMosaic.Lib.Pipeline.ValueKit
public import Idealize.ShloMosaic.Lib.Layout

@[expose] public section

set_option maxRecDepth 16384

noncomputable section

namespace Cert.KernelIdeal.Pf

open Cert.KernelIdeal Cert.KernelIdeal.Gen

open Idealize.ShloMosaic Idealize.SL.Sem
open Idealize.ShloMosaic.TcCoe

theorem pre_factsK : Cert.Pre_finite_scores_KernelIdeal.Facts := ⟨by decide, by decide, by decide⟩
theorem pre_factsR : Cert.Pre_finite_scores_ReferenceIdeal.Facts := ⟨by decide, by decide, by decide⟩

/-! ## Blocks -/

theorem in0 (f : FVec Ideal S256x512 .f32) (i : Fin 256) (j : Fin 512) : (win0_0.blk (0 : Fin 1)).view.read (Elt Ideal) f (ix2 i j) = f (ix2 i j) := by
  show f ((win0_0.blk (0 : Fin 1)).view.emb (ix2 i j)) = f (ix2 i j)
  congr 1
  funext a
  apply Fin.ext
  fin_cases a
  · show (((win0_0.blk (0 : Fin 1)).view.emb (ix2 i j) 0 : Fin _) : ℕ) = i.val
    blk_simp
    simp only [show win0_0.index (0 : Fin 1) 0 = 0 from rfl, Nat.zero_mul, Nat.zero_add]
  · show (((win0_0.blk (0 : Fin 1)).view.emb (ix2 i j) 1 : Fin _) : ℕ) = j.val
    blk_simp
    simp only [show win0_0.index (0 : Fin 1) 1 = 0 from rfl, Nat.zero_mul, Nat.zero_add]

theorem in1 (f : FVec Ideal S512x256 .f32) (i : Fin 512) (j : Fin 256) : (win0_1.blk (0 : Fin 1)).view.read (Elt Ideal) f (ix2 i j) = f (ix2 i j) := by
  show f ((win0_1.blk (0 : Fin 1)).view.emb (ix2 i j)) = f (ix2 i j)
  congr 1
  funext a
  apply Fin.ext
  fin_cases a
  · show (((win0_1.blk (0 : Fin 1)).view.emb (ix2 i j) 0 : Fin _) : ℕ) = i.val
    blk_simp
    simp only [show win0_1.index (0 : Fin 1) 0 = 0 from rfl, Nat.zero_mul, Nat.zero_add]
  · show (((win0_1.blk (0 : Fin 1)).view.emb (ix2 i j) 1 : Fin _) : ℕ) = j.val
    blk_simp
    simp only [show win0_1.index (0 : Fin 1) 1 = 0 from rfl, Nat.zero_mul, Nat.zero_add]

theorem in2 (f : FVec Ideal S2x128x4096 .f32) (b : Fin 2) (i : Fin 128) (j : Fin 4096) : (win0_2.blk (0 : Fin 1)).view.read (Elt Ideal) f (ix3 b i j) = f (ix3 b i j) := by
  show f ((win0_2.blk (0 : Fin 1)).view.emb (ix3 b i j)) = f (ix3 b i j)
  congr 1
  funext a
  apply Fin.ext
  fin_cases a
  · show (((win0_2.blk (0 : Fin 1)).view.emb (ix3 b i j) 0 : Fin _) : ℕ) = b.val
    blk_simp
    simp only [show win0_2.index (0 : Fin 1) 0 = 0 from rfl, Nat.zero_mul, Nat.zero_add]
  · show (((win0_2.blk (0 : Fin 1)).view.emb (ix3 b i j) 1 : Fin _) : ℕ) = i.val
    blk_simp
    simp only [show win0_2.index (0 : Fin 1) 1 = 0 from rfl, Nat.zero_mul, Nat.zero_add]
  · show (((win0_2.blk (0 : Fin 1)).view.emb (ix3 b i j) 2 : Fin _) : ℕ) = j.val
    blk_simp
    simp only [show win0_2.index (0 : Fin 1) 2 = 0 from rfl, Nat.zero_mul, Nat.zero_add]

theorem in3 (f : FVec Ideal S2x128x4096 .f32) (b : Fin 2) (i : Fin 128) (j : Fin 4096) : (win0_3.blk (0 : Fin 1)).view.read (Elt Ideal) f (ix3 b i j) = f (ix3 b i j) := by
  show f ((win0_3.blk (0 : Fin 1)).view.emb (ix3 b i j)) = f (ix3 b i j)
  congr 1
  funext a
  apply Fin.ext
  fin_cases a
  · show (((win0_3.blk (0 : Fin 1)).view.emb (ix3 b i j) 0 : Fin _) : ℕ) = b.val
    blk_simp
    simp only [show win0_3.index (0 : Fin 1) 0 = 0 from rfl, Nat.zero_mul, Nat.zero_add]
  · show (((win0_3.blk (0 : Fin 1)).view.emb (ix3 b i j) 1 : Fin _) : ℕ) = i.val
    blk_simp
    simp only [show win0_3.index (0 : Fin 1) 1 = 0 from rfl, Nat.zero_mul, Nat.zero_add]
  · show (((win0_3.blk (0 : Fin 1)).view.emb (ix3 b i j) 2 : Fin _) : ℕ) = j.val
    blk_simp
    simp only [show win0_3.index (0 : Fin 1) 2 = 0 from rfl, Nat.zero_mul, Nat.zero_add]

theorem in4 (f : FVec Ideal S256x512 .f32) (i : Fin 256) (j : Fin 512) : (win0_4.blk (0 : Fin 1)).view.read (Elt Ideal) f (ix2 i j) = f (ix2 i j) := by
  show f ((win0_4.blk (0 : Fin 1)).view.emb (ix2 i j)) = f (ix2 i j)
  congr 1
  funext a
  apply Fin.ext
  fin_cases a
  · show (((win0_4.blk (0 : Fin 1)).view.emb (ix2 i j) 0 : Fin _) : ℕ) = i.val
    blk_simp
    simp only [show win0_4.index (0 : Fin 1) 0 = 0 from rfl, Nat.zero_mul, Nat.zero_add]
  · show (((win0_4.blk (0 : Fin 1)).view.emb (ix2 i j) 1 : Fin _) : ℕ) = j.val
    blk_simp
    simp only [show win0_4.index (0 : Fin 1) 1 = 0 from rfl, Nat.zero_mul, Nat.zero_add]

theorem real_of_abs (x : Ideal .f32) (h : FloatOps.absf x < Ideal.ofBits FTy.f32 2139095040#32) : ∃ y : ℝ, (x : EReal) = y := by
  have ht : Ideal.ofBits FTy.f32 2139095040#32 = ⊤ := by simp [Ideal.ofBits, Ideal.ieee]
  rw [ht] at h
  change EReal at x
  change max x (-x) < ⊤ at h
  induction x with
  | bot => exact absurd h (by simp)
  | top => exact absurd h (by simp)
  | coe y => exact ⟨y, rfl⟩

theorem bit_lt {p : Prop} [Decidable p] (h : BitVec.ofBool (decide p) = 1#1) : p := by
  by_contra hp
  rw [decide_eq_false hp] at h
  exact absurd h (by decide)

theorem pre0 [Cert.Pre_finite_scores_KernelIdeal.Facts] (a0 : FVec Ideal S256x512 .f32) (a1 : FVec Ideal S512x256 .f32) (a2 a3 : FVec Ideal S2x128x4096 .f32) (a4 : FVec Ideal S256x512 .f32)
    (i : Fin 256) (j : Fin 512) (h : (Cert.Pre_finite_scores_KernelIdeal.fn a0 a1 a2 a3 a4).1 (ix2 i j) = 1#1) : ∃ y : ℝ, a0 (ix2 i j) = y := by
  have H : (Cert.Pre_finite_scores_KernelIdeal.fn a0 a1 a2 a3 a4).1 (ix2 i j)
      = BitVec.ofBool (decide (FloatOps.absf (a0 (ix2 i j)) < Ideal.ofBits FTy.f32 2139095040#32)) := by
    pointwise [Cert.Pre_finite_scores_KernelIdeal.fn]
  exact real_of_abs _ (bit_lt (H.symm.trans h))

theorem pre1 [Cert.Pre_finite_scores_KernelIdeal.Facts] (a0 : FVec Ideal S256x512 .f32) (a1 : FVec Ideal S512x256 .f32) (a2 a3 : FVec Ideal S2x128x4096 .f32) (a4 : FVec Ideal S256x512 .f32)
    (i : Fin 512) (j : Fin 256) (h : (Cert.Pre_finite_scores_KernelIdeal.fn a0 a1 a2 a3 a4).2.1 (ix2 i j) = 1#1) : ∃ y : ℝ, a1 (ix2 i j) = y := by
  have H : (Cert.Pre_finite_scores_KernelIdeal.fn a0 a1 a2 a3 a4).2.1 (ix2 i j)
      = BitVec.ofBool (decide (FloatOps.absf (a1 (ix2 i j)) < Ideal.ofBits FTy.f32 2139095040#32)) := by
    pointwise [Cert.Pre_finite_scores_KernelIdeal.fn]
  exact real_of_abs _ (bit_lt (H.symm.trans h))

theorem pre2 [Cert.Pre_finite_scores_KernelIdeal.Facts] (a0 : FVec Ideal S256x512 .f32) (a1 : FVec Ideal S512x256 .f32) (a2 a3 : FVec Ideal S2x128x4096 .f32) (a4 : FVec Ideal S256x512 .f32)
    (b : Fin 2) (i : Fin 128) (j : Fin 4096) (h : (Cert.Pre_finite_scores_KernelIdeal.fn a0 a1 a2 a3 a4).2.2 (ix3 b i j) = 1#1) : ∃ y : ℝ, a2 (ix3 b i j) = y := by
  have H : (Cert.Pre_finite_scores_KernelIdeal.fn a0 a1 a2 a3 a4).2.2 (ix3 b i j)
      = BitVec.ofBool (decide (FloatOps.absf (a2 (ix3 b i j)) < Ideal.ofBits FTy.f32 2139095040#32)) := by
    pointwise [Cert.Pre_finite_scores_KernelIdeal.fn]
  exact real_of_abs _ (bit_lt (H.symm.trans h))

theorem blk1 (c : Fin 16) (v : (⟨2, ![512, 4096]⟩ : Shape).Idx → EReal) (l : Fin 512) (n : Fin 256) :
    Layout.block ⟨2, ![512, 256]⟩ ⟨2, ![512, 4096]⟩ 1 16 c v (by decide) (ix2 l n) = v (ix2 l (colH c n)) := by
  rw [Layout.block_apply]
  congr 1
  funext a
  apply Fin.ext
  fin_cases a
  · rfl
  · show c.val * 256 + n.val = 256 * c.val + n.val
    omega

theorem blk2 (c : Fin 16) (v : (⟨3, ![2, 2048, 4096]⟩ : Shape).Idx → EReal) (b : Fin 2) (u : Fin 128) (n : Fin 4096) (G : Fin 2048) (hG : G.val = 128 * c.val + u.val) :
    Layout.block ⟨3, ![2, 128, 4096]⟩ ⟨3, ![2, 2048, 4096]⟩ 1 16 c v (by decide) (ix3 b u n) = v (ix3 b G n) := by
  rw [Layout.block_apply]
  congr 1
  funext a
  apply Fin.ext
  fin_cases a
  · rfl
  · show c.val * 128 + u.val = G.val
    omega
  · rfl

theorem blk4 (c : Fin 16) (v : (⟨2, ![4096, 512]⟩ : Shape).Idx → EReal) (k : Fin 256) (n : Fin 512) :
    Layout.block ⟨2, ![256, 512]⟩ ⟨2, ![4096, 512]⟩ 0 16 c v (by decide) (ix2 k n) = v (ix2 (colH c k) n) := by
  rw [Layout.block_apply]
  congr 1
  funext a
  apply Fin.ext
  fin_cases a
  · show c.val * 256 + k.val = 256 * c.val + k.val
    omega
  · rfl

/-! ## The two results -/

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The reference's inputs. -/
def refArgs : Args :=
  Cert.ReferenceIdeal.Val.args
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))

/-- Each device starts with its blocks of the reference's inputs. -/
def Blocks : Prop :=
  ∀ c : Dev nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨3, ![2, 128, 4096]⟩ ⟨3, ![2, 2048, 4096]⟩ 1 16 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨3, ![2, 128, 4096]⟩ ⟨3, ![2, 2048, 4096]⟩ 1 16 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))

variable {m m'}

theorem agree (h : Blocks m m') : Agree (xin m) (refArgs m') where
  x c r l := (in0 _ r l).trans (congrFun (h c).1 (ix2 r l))
  wq c l n := (in1 _ l n).trans ((congrFun (h c).2.1 (ix2 l n)).trans (blk1 c _ l n))
  k c b u n G hG := (in2 _ b u n).trans ((congrFun (h c).2.2.1 (ix3 b u n)).trans (blk2 c _ b u n G hG))
  v c b u n G hG := (in3 _ b u n).trans ((congrFun (h c).2.2.2.1 (ix3 b u n)).trans (blk2 c _ b u n G hG))
  wo c k n := (in4 _ k n).trans ((congrFun (h c).2.2.2.2 (ix2 k n)).trans (blk4 c _ k n))

theorem args_fin (h : Blocks m m') (hp : Cert.Pre_KernelIdeal_finite_scores_KernelIdeal (hPre_finite_scores_KernelIdeal := pre_factsK) m) :
    (refArgs m').Fin := by
  haveI := pre_factsK
  have hA := agree h
  refine ⟨fun r l => ?_, fun l n => ?_, fun b G n => ?_⟩
  · obtain ⟨y, hy⟩ := pre0 _ _ _ _ _ r l (congrFun (hp 0).1 (ix2 r l))
    exact ⟨y, ((hA.x 0 r l).symm.trans (in0 _ r l)).trans hy⟩
  · have en : colH ⟨n.val / 256, by show n.val / 256 < 16; omega⟩ ⟨n.val % 256, by omega⟩ = n := Fin.ext (by show 256 * (n.val / 256) + n.val % 256 = n.val; omega)
    obtain ⟨y, hy⟩ := pre1 _ _ _ _ _ l ⟨n.val % 256, by omega⟩
      (congrFun (hp ⟨n.val / 256, by show n.val / 256 < 16; omega⟩).2.1 (ix2 l ⟨n.val % 256, by omega⟩))
    have e := hA.wq ⟨n.val / 256, by show n.val / 256 < 16; omega⟩ l ⟨n.val % 256, by omega⟩
    rw [en] at e
    exact ⟨y, (e.symm.trans (in1 _ l _)).trans hy⟩
  · obtain ⟨y, hy⟩ := pre2 _ _ _ _ _ b ⟨G.val % 128, by omega⟩ n
      (congrFun (hp ⟨G.val / 128, by show G.val / 128 < 16; omega⟩).2.2 (ix3 b ⟨G.val % 128, by omega⟩ n))
    have e := hA.k ⟨G.val / 128, by show G.val / 128 < 16; omega⟩ b ⟨G.val % 128, by omega⟩ n G (by show G.val = 128 * (G.val / 128) + G.val % 128; omega)
    exact ⟨y, (e.symm.trans (in2 _ b _ n)).trans hy⟩

/-- The value claim. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_factsK) := by
  intro m g m' g' hp hb
  have hB : Blocks m m' := hb
  refine ⟨Cert.ReferenceIdeal.Value.res_main_v48 m' 0, ?_, ?_⟩
  · refine (θ_run defs _ _).mono (fun r h c => ?_) (run_value (F := Ideal) m g)
    obtain ⟨ho, hk⟩ := h c
    refine ⟨?_, hk⟩
    funext i
    obtain ⟨a, b, rfl⟩ : ∃ (a : Fin 256) (b : Fin 512), i = ix2 a b := ⟨i 0, i 1, by funext z; fin_cases z <;> rfl⟩
    refine (kernel_out (agree hB) (args_fin hB hp) ho a b).trans ?_
    rw [Cert.ReferenceIdeal.Val.res_eq]
    exact (Cert.ReferenceIdeal.Val.outR_at _ _ _ _ _ a b).symm
  · exact (θ_run Cert.ReferenceIdeal.defs _ _).mono (fun r h => h 0) (Cert.ReferenceIdeal.Value.run (F := Ideal) m' g')

end Cert.KernelIdeal.Pf
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Frames
public import proofs.«01_k».proof.Proof.VMain
public import Idealize.ShloMosaic.Adequacy
public import Idealize.ShloMosaic.Init

@[expose] public section

noncomputable section

namespace Cert.Proof

open Idealize.ShloMosaic Idealize.SL.Sem Cert.Kernel

/-- The reference runs, its arguments end unchanged, and it declares no semaphore. -/
theorem frame_r : Cert.quiescent_ReferenceIdeal (hReferenceIdeal := Cert.ReferenceIdeal.Gen.facts) := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_p : Cert.quiescent_Kernel (hKernel := Cert.Kernel.Gen.facts) :=
  fun m ρ _ => Cert.Same.run_frame (F := Bits) m ρ

theorem frame_pi : Cert.quiescent_KernelIdeal (hKernelIdeal := Cert.KernelIdeal.Gen.facts) :=
  fun m ρ _ => Cert.KernelIdeal.Pf.run_frame (F := Ideal) m ρ

/-- The same two frames, under the precondition of the value claim. -/
theorem frame_r_pre : Cert.quiescent_ReferenceIdeal_pre_finite_scores_ReferenceIdeal (hReferenceIdeal := Cert.ReferenceIdeal.Gen.facts)
    (hPre_finite_scores_ReferenceIdeal := Cert.KernelIdeal.Pf.pre_factsR) := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_pi_pre : Cert.quiescent_KernelIdeal_pre_finite_scores_KernelIdeal (hKernelIdeal := Cert.KernelIdeal.Gen.facts)
    (hPre_finite_scores_KernelIdeal := Cert.KernelIdeal.Pf.pre_factsK) :=
  fun m ρ _ => Cert.KernelIdeal.Pf.run_frame (F := Ideal) m ρ

/-- The masking constant is read as minus infinity. -/
theorem preserves : Cert.preserves_Kernel_KernelIdeal :=
  IdealRules.named_const.statement Cert.KernelIdeal.κ "mask" .f32 0xCE6E6B28#32 ⊥ rfl

theorem claim : Cert.Claim :=
  ⟨Cert.Kernel.Gen.facts, Cert.KernelIdeal.Gen.facts, Cert.ReferenceIdeal.Gen.facts, Cert.KernelIdeal.Pf.pre_factsK, Cert.KernelIdeal.Pf.pre_factsR,
    frame_p, frame_pi, frame_pi_pre, frame_r, frame_r_pre, preserves, Cert.KernelIdeal.Pf.algebraic⟩

end Cert.Proof

end
